-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inputs3 [hPre_finite_inputs3 : Cert.Pre_finite_inputs3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inputs3 [hPre_finite_inputs3 : Cert.Pre_finite_inputs3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs4 [hPre_finite_inputs4 : Cert.Pre_finite_inputs4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs4 [hPre_finite_inputs4 : Cert.Pre_finite_inputs4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_inputs3 [hKernel3Ideal : Cert.Kernel3Ideal.Facts] [hPre_finite_inputs3 : Cert.Pre_finite_inputs3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inputs3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_inputs3 [hReference3Ideal : Cert.Reference3Ideal.Facts] [hPre_finite_inputs3 : Cert.Pre_finite_inputs3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inputs3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_inputs4 [hKernel4Ideal : Cert.Kernel4Ideal.Facts] [hPre_finite_inputs4 : Cert.Pre_finite_inputs4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_inputs4 [hReference4Ideal : Cert.Reference4Ideal.Facts] [hPre_finite_inputs4 : Cert.Pre_finite_inputs4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v75) = v3 c
          ∧ r.2.mem ((c.tc : Thread Cert.Reference2Ideal.nD Cert.Reference2Ideal.τ).loc Cert.Reference2Ideal.main_v76) = v4 c
          ∧ r.2.mem ((c.tc : Thread Cert.Reference2Ideal.nD Cert.Reference2Ideal.τ).loc Cert.Reference2Ideal.main_v69) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_inputs3 [hKernel3Ideal : Cert.Kernel3Ideal.Facts] [hReference3Ideal : Cert.Reference3Ideal.Facts] [hPre_finite_inputs3 : Cert.Pre_finite_inputs3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inputs3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v97_0)) (v1 : (c : Dev Cert.Kernel3Ideal.nD) → Buf (Elt Ideal) ((c.tc : Thread Cert.Kernel3Ideal.nD Cert.Kernel3Ideal.τ).loc Cert.Kernel3Ideal.main_v97_1)) (v2 : (c : Dev Cert.Kernel3Ideal.nD) → Buf (Elt Ideal) ((c.tc : Thread Cert.Kernel3Ideal.nD Cert.Kernel3Ideal.τ).loc Cert.Kernel3Ideal.main_v97_2)) (v3 : (c : Dev Cert.Kernel3Ideal.nD) → Buf (Elt Ideal) ((c.tc : Thread Cert.Kernel3Ideal.nD Cert.Kernel3Ideal.τ).loc Cert.Kernel3Ideal.main_v97_3)) (v4 : (c : Dev Cert.Kernel3Ideal.nD) → Buf (Elt Ideal) ((c.tc : Thread Cert.Kernel3Ideal.nD Cert.Kernel3Ideal.τ).loc Cert.Kernel3Ideal.main_v97_4)) (v5 : (c : Dev Cert.Kernel3Ideal.nD) → Buf (Elt Ideal) ((c.tc : Thread Cert.Kernel3Ideal.nD Cert.Kernel3Ideal.τ).loc Cert.Kernel3Ideal.main_v97_5)) (v6 : (c : Dev Cert.Kernel3Ideal.nD) → Buf (Elt Ideal) ((c.tc : Thread Cert.Kernel3Ideal.nD Cert.Kernel3Ideal.τ).loc Cert.Kernel3Ideal.main_v97_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v97_0) = v0 c
          ∧ r.2.mem ((c.tc : Thread Cert.Kernel3Ideal.nD Cert.Kernel3Ideal.τ).loc Cert.Kernel3Ideal.main_v97_1) = v1 c
          ∧ r.2.mem ((c.tc : Thread Cert.Kernel3Ideal.nD Cert.Kernel3Ideal.τ).loc Cert.Kernel3Ideal.main_v97_2) = v2 c
          ∧ r.2.mem ((c.tc : Thread Cert.Kernel3Ideal.nD Cert.Kernel3Ideal.τ).loc Cert.Kernel3Ideal.main_v97_3) = v3 c
          ∧ r.2.mem ((c.tc : Thread Cert.Kernel3Ideal.nD Cert.Kernel3Ideal.τ).loc Cert.Kernel3Ideal.main_v97_4) = v4 c
          ∧ r.2.mem ((c.tc : Thread Cert.Kernel3Ideal.nD Cert.Kernel3Ideal.τ).loc Cert.Kernel3Ideal.main_v97_5) = v5 c
          ∧ r.2.mem ((c.tc : Thread Cert.Kernel3Ideal.nD Cert.Kernel3Ideal.τ).loc Cert.Kernel3Ideal.main_v97_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v269) = v0 c
          ∧ r.2.mem ((c.tc : Thread Cert.Reference3Ideal.nD Cert.Reference3Ideal.τ).loc Cert.Reference3Ideal.main_v270) = v1 c
          ∧ r.2.mem ((c.tc : Thread Cert.Reference3Ideal.nD Cert.Reference3Ideal.τ).loc Cert.Reference3Ideal.main_v271) = v2 c
          ∧ r.2.mem ((c.tc : Thread Cert.Reference3Ideal.nD Cert.Reference3Ideal.τ).loc Cert.Reference3Ideal.main_v272) = v3 c
          ∧ r.2.mem ((c.tc : Thread Cert.Reference3Ideal.nD Cert.Reference3Ideal.τ).loc Cert.Reference3Ideal.main_v207) = v4 c
          ∧ r.2.mem ((c.tc : Thread Cert.Reference3Ideal.nD Cert.Reference3Ideal.τ).loc Cert.Reference3Ideal.main_v206) = v5 c
          ∧ r.2.mem ((c.tc : Thread Cert.Reference3Ideal.nD Cert.Reference3Ideal.τ).loc Cert.Reference3Ideal.main_v273) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_inputs4 [hKernel4Ideal : Cert.Kernel4Ideal.Facts] [hReference4Ideal : Cert.Reference4Ideal.Facts] [hPre_finite_inputs4 : Cert.Pre_finite_inputs4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v133) = v1 c
          ∧ r.2.mem ((c.tc : Thread Cert.Reference4Ideal.nD Cert.Reference4Ideal.τ).loc Cert.Reference4Ideal.main_v134) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_finite_inputs2 : Cert.Pre_finite_inputs2.Facts) (hPre_finite_inputs3 : Cert.Pre_finite_inputs3.Facts) (hPre_finite_inputs4 : Cert.Pre_finite_inputs4.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Kernel3Ideal_pre_finite_inputs3 (hKernel3Ideal := hKernel3Ideal) (hPre_finite_inputs3 := hPre_finite_inputs3)
    ∧ quiescent_Reference3Ideal (hReference3Ideal := hReference3Ideal)
    ∧ quiescent_Reference3Ideal_pre_finite_inputs3 (hReference3Ideal := hReference3Ideal) (hPre_finite_inputs3 := hPre_finite_inputs3)
    ∧ quiescent_Kernel4 (hKernel4 := hKernel4)
    ∧ quiescent_Kernel4Ideal (hKernel4Ideal := hKernel4Ideal)
    ∧ quiescent_Kernel4Ideal_pre_finite_inputs4 (hKernel4Ideal := hKernel4Ideal) (hPre_finite_inputs4 := hPre_finite_inputs4)
    ∧ quiescent_Reference4Ideal (hReference4Ideal := hReference4Ideal)
    ∧ quiescent_Reference4Ideal_pre_finite_inputs4 (hReference4Ideal := hReference4Ideal) (hPre_finite_inputs4 := hPre_finite_inputs4)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal_pre_finite_inputs3 (hKernel3Ideal := hKernel3Ideal) (hReference3Ideal := hReference3Ideal) (hPre_finite_inputs3 := hPre_finite_inputs3)
    ∧ preserves_Kernel4_Kernel4Ideal
    ∧ algebraic_Kernel4Ideal_Reference4Ideal_pre_finite_inputs4 (hKernel4Ideal := hKernel4Ideal) (hReference4Ideal := hReference4Ideal) (hPre_finite_inputs4 := hPre_finite_inputs4)
-- ==== Pre_finite_inputs.lean ====
abbrev S1x2048x2048 : Shape := ⟨3, ![1, 2048, 2048]⟩
abbrev S1x2048 : Shape := ⟨2, ![1, 2048]⟩
abbrev S1x6144 : Shape := ⟨2, ![1, 6144]⟩
abbrev S1x2048x5376 : Shape := ⟨3, ![1, 2048, 5376]⟩
abbrev S2048x5376 : Shape := ⟨2, ![2048, 5376]⟩
abbrev S2048x2048 : Shape := ⟨2, ![2048, 2048]⟩
abbrev S8x128 : Shape := ⟨2, ![8, 128]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x6144 : S_.BroadcastsInDim S1x6144 (![] : Fin 0 → Fin S1x6144.rank)
  bcast_S_S1x2048x5376 : S_.BroadcastsInDim S1x2048x5376 (![] : Fin 0 → Fin S1x2048x5376.rank)
  bcast_S_S2048x5376 : S_.BroadcastsInDim S2048x5376 (![] : Fin 0 → Fin S2048x5376.rank)

variable [Facts]

def fn {F : FTy → Type} [FloatOps F] (main_arg0 : FVec F S1x2048x2048 .f32) (main_arg1 : FVec F S1x2048 .f32) (main_arg2 : FVec F S1x6144 .f32) (main_arg3 : FVec F S1x2048x5376 .f32) (main_arg4 : FVec F S2048x5376 .bf16) (main_arg5 : FVec F S2048x2048 .f32) (main_arg6 : FVec F S8x128 .f32) : IVec S1x2048x2048 1 × IVec S1x2048 1 × IVec S1x6144 1 × IVec S1x2048x5376 1 × IVec S2048x5376 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x2048x5376 .f32 := Host.absf main_arg3
  let main_cst_2 : FVec F S_ .f32 := constant S_ .f32 0x7F800000#32
  let main_v10 : FVec F S1x2048x5376 .f32 := broadcastInDim S1x2048x5376 ![] bcast_S_S1x2048x5376 main_cst_2
  let main_v11 : IVec S1x2048x5376 1 := cmpf .olt main_v9 main_v10
  let main_v12 : FVec F S2048x5376 .bf16 := Host.absf main_arg4
  let main_cst_3 : FVec F S_ .bf16 := constant S_ .bf16 0x7F80#16
  let main_v13 : FVec F S2048x5376 .bf16 := broadcastInDim S2048x5376 ![] bcast_S_S2048x5376 main_cst_3
  let main_v14 : IVec S2048x5376 1 := cmpf .olt main_v12 main_v13
  (main_v2, main_v5, main_v8, main_v11, main_v14)
-- ==== Pre_finite_inputs2.lean ====
abbrev S2048x2048 : Shape := ⟨2, ![2048, 2048]⟩
abbrev S1x2048x2048 : Shape := ⟨3, ![1, 2048, 2048]⟩
abbrev S1x6144 : Shape := ⟨2, ![1, 6144]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S1x2048x2048 : S_.BroadcastsInDim S1x2048x2048 (![] : Fin 0 → Fin S1x2048x2048.rank)
  bcast_S_S1x6144 : S_.BroadcastsInDim S1x6144 (![] : Fin 0 → Fin S1x6144.rank)
  bcast_S_S2048 : S_.BroadcastsInDim S2048 (![] : Fin 0 → Fin S2048.rank)

variable [Facts]

def fn {F : FTy → Type} [FloatOps F] (main_arg0 : FVec F S2048x2048 .bf16) (main_arg1 : FVec F S1x2048x2048 .f32) (main_arg2 : FVec F S1x2048x2048 .f32) (main_arg3 : FVec F S1x2048x2048 .f32) (main_arg4 : FVec F S1x6144 .f32) (main_arg5 : FVec F S2048 .f32) : IVec S2048x2048 1 × IVec S1x2048x2048 1 × IVec S1x2048x2048 1 × IVec S1x2048x2048 1 × IVec S1x6144 1 × IVec S2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048x2048 .f32 := Host.absf main_arg2
  let main_cst_1 : FVec F S_ .f32 := constant S_ .f32 0x7F800000#32
  let main_v7 : FVec F S1x2048x2048 .f32 := broadcastInDim S1x2048x2048 ![] bcast_S_S1x2048x2048 main_cst_1
  let main_v8 : IVec S1x2048x2048 1 := cmpf .olt main_v6 main_v7
  let main_v9 : FVec F S1x2048x2048 .f32 := Host.absf main_arg3
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_v12 : FVec F S1x6144 .f32 := Host.absf main_arg4
  let main_cst_3 : FVec F S_ .f32 := constant S_ .f32 0x7F800000#32
  let main_v13 : FVec F S1x6144 .f32 := broadcastInDim S1x6144 ![] bcast_S_S1x6144 main_cst_3
  let main_v14 : IVec S1x6144 1 := cmpf .olt main_v12 main_v13
  let main_v15 : FVec F S2048 .f32 := Host.absf main_arg5
  let main_cst_4 : FVec F S_ .f32 := constant S_ .f32 0x7F800000#32
  let main_v16 : FVec F S2048 .f32 := broadcastInDim S2048 ![] bcast_S_S2048 main_cst_4
  let main_v17 : IVec S2048 1 := cmpf .olt main_v15 main_v16
  (main_v2, main_v5, main_v8, main_v11, main_v14, main_v17)
-- ==== Pre_finite_inputs3.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S2048x2048 : Shape := ⟨2, ![2048, 2048]⟩
abbrev S_ : Shape := ⟨0, ![]⟩

class Facts : Prop where
  bcast_S_S2048x5376 : S_.BroadcastsInDim S2048x5376 (![] : Fin 0 → Fin S2048x5376.rank)
  bcast_S_S1x16 : S_.BroadcastsInDim S1x16 (![] : Fin 0 → Fin S1x16.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S2048x2048 : S_.BroadcastsInDim S2048x2048 (![] : Fin 0 → Fin S2048x2048.rank)

variable [Facts]

def fn_part1 {F : FTy → Type} [FloatOps F] (main_arg6 : FVec F S2048x2048 .f32) (main_v2 : IVec S2048x5376 1) (main_v5 : IVec S1x16 1) (main_v8 : IVec S1x1024 1) (main_v11 : IVec S1x1024 1) (main_v14 : IVec S1x8x128x128 1) (main_v17 : IVec S1x8x128 1) : IVec S2048x5376 1 × IVec S1x16 1 × IVec S1x1024 1 × IVec S1x1024 1 × IVec S1x8x128x128 1 × IVec S1x8x128 1 × IVec S2048x2048 1 :=
  let main_v18 : FVec F S2048x2048 .f32 := Host.absf main_arg6
  let main_cst_5 : FVec F S_ .f32 := constant S_ .f32 0x7F800000#32
  let main_v19 : FVec F S2048x2048 .f32 := broadcastInDim S2048x2048 ![] bcast_S_S2048x2048 main_cst_5
  let main_v20 : IVec S2048x2048 1 := cmpf .olt main_v18 main_v19
  (main_v2, main_v5, main_v8, main_v11, main_v14, main_v17, main_v20)

def fn {F : FTy → Type} [FloatOps F] (main_arg0 : FVec F S2048x5376 .f32) (main_arg1 : FVec F S1x16 .f32) (main_arg2 : FVec F S1x1024 .f32) (main_arg3 : FVec F S1x1024 .f32) (main_arg4 : FVec F S1x8x128x128 .f32) (main_arg5 : FVec F S1x8x128 .f32) (main_arg6 : FVec F S2048x2048 .f32) (main_arg7 : FVec F S2048x2048 .bf16) : IVec S2048x5376 1 × IVec S1x16 1 × IVec S1x1024 1 × IVec S1x1024 1 × IVec S1x8x128x128 1 × IVec S1x8x128 1 × IVec S2048x2048 1 :=
  let main_v0 : FVec F S2048x5376 .f32 := Host.absf main_arg0
  let main_cst : FVec F S_ .f32 := constant S_ .f32 0x7F800000#32
  let main_v1 : FVec F S2048x5376 .f32 := broadcastInDim S2048x5376 ![] bcast_S_S2048x5376 main_cst
  let main_v2 : IVec S2048x5376 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  fn_part1 (F := F) main_arg6 main_v2 main_v5 main_v8 main_v11 main_v14 main_v17
-- ==== Pre_finite_inputs4.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x5376 : S_.BroadcastsInDim S2048x5376 (![] : Fin 0 → Fin S2048x5376.rank)
  bcast_S_S1x16 : S_.BroadcastsInDim S1x16 (![] : Fin 0 → Fin S1x16.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S2048x5376 .f32) (main_arg1 : FVec F S1x16 .f32) (main_arg2 : FVec F S1x1024 .f32) (main_arg3 : FVec F S1x1024 .f32) (main_arg4 : FVec F S1x8x128x128 .f32) (main_arg5 : FVec F S1x8x128 .f32) : IVec S2048x5376 1 × IVec S1x16 1 × IVec S1x1024 1 × IVec S1x1024 1 × IVec S1x8x128x128 1 × IVec S1x8x128 1 :=
  let main_v0 : FVec F S2048x5376 .f32 := Host.absf main_arg0
  let main_cst : FVec F S_ .f32 := constant S_ .f32 0x7F800000#32
  let main_v1 : FVec F S2048x5376 .f32 := broadcastInDim S2048x5376 ![] bcast_S_S2048x5376 main_cst
  let main_v2 : IVec S2048x5376 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Kernel.lean ====
abbrev S1x2048x2048 : Shape := ⟨3, ![1, 2048, 2048]⟩
abbrev S1x2048 : Shape := ⟨2, ![1, 2048]⟩
abbrev S1x6144 : Shape := ⟨2, ![1, 6144]⟩
abbrev S1x2048x5376 : Shape := ⟨3, ![1, 2048, 5376]⟩
abbrev S2048x5376 : Shape := ⟨2, ![2048, 5376]⟩
abbrev S2048x2048 : Shape := ⟨2, ![2048, 2048]⟩
abbrev S8x128 : Shape := ⟨2, ![8, 128]⟩
abbrev S5376x2048 : Shape := ⟨2, ![5376, 2048]⟩
abbrev S256x5376 : Shape := ⟨2, ![256, 5376]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x6144, .f32⟩
  | .hbm, ⟨3, _⟩ => ⟨S1x2048x5376, .f32⟩
  | .hbm, ⟨4, _⟩ => ⟨S2048x5376, .bf16⟩
  | .hbm, ⟨5, _⟩ => ⟨S2048x2048, .f32⟩
  | .hbm, ⟨6, _⟩ => ⟨S8x128, .f32⟩
  | .hbm, ⟨7, _⟩ => ⟨S2048x5376, .f32⟩
  | .hbm, ⟨8, _⟩ => ⟨S5376x2048, .f32⟩
  | .hbm, ⟨9, _⟩ => ⟨S5376x2048, .bf16⟩
  | .hbm, ⟨10, _⟩ => ⟨S2048x2048, .f32⟩
  | .hbm, ⟨11, _⟩ => ⟨S2048x2048, .f32⟩
  | .hbm, ⟨12, _⟩ => ⟨S1x2048, .f32⟩
  | .hbm, ⟨13, _⟩ => ⟨S1x2048, .f32⟩
  | .hbm, ⟨14, _⟩ => ⟨S1x2048, .f32⟩
  | .local _ .vmem, ⟨0, _⟩ => ⟨S256x5376, .bf16⟩
  | .local _ .vmem, ⟨1, _⟩ => ⟨S256x5376, .bf16⟩
  | .local _ .vmem, ⟨2, _⟩ => ⟨S5376x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S8x128, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5376x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x2048x2048 : Shape := ⟨3, ![1, 2048, 2048]⟩
abbrev S1x2048 : Shape := ⟨2, ![1, 2048]⟩
abbrev S1x6144 : Shape := ⟨2, ![1, 6144]⟩
abbrev S1x2048x5376 : Shape := ⟨3, ![1, 2048, 5376]⟩
abbrev S2048x5376 : Shape := ⟨2, ![2048, 5376]⟩
abbrev S2048x2048 : Shape := ⟨2, ![2048, 2048]⟩
abbrev S8x128 : Shape := ⟨2, ![8, 128]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x6144, .f32⟩
  | .hbm, ⟨3, _⟩ => ⟨S1x2048x5376, .f32⟩
  | .hbm, ⟨4, _⟩ => ⟨S2048x5376, .bf16⟩
  | .hbm, ⟨5, _⟩ => ⟨S2048x2048, .f32⟩
  | .hbm, ⟨6, _⟩ => ⟨S8x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S1x2048x2048, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S1x2048x2048, .f32⟩
  | .hbm, ⟨27, _⟩ => ⟨S1x2048x2048, .f32⟩
  | .hbm, ⟨28, _⟩ => ⟨S1x1x2048, .f32⟩
  | .hbm, ⟨29, _⟩ => ⟨S1x2048x2048, .f32⟩
  | .hbm, ⟨30, _⟩ => ⟨S1x2048x2048, .f32⟩
  | .hbm, ⟨31, _⟩ => ⟨S1x1x2048, .f32⟩
  | .hbm, ⟨32, _⟩ => ⟨S_, .f32⟩
  | .hbm, ⟨33, _⟩ => ⟨S1x1x2048, .f32⟩
  | .hbm, ⟨34, _⟩ => ⟨S1x1x2048, .f32⟩
  | .hbm, ⟨35, _⟩ => ⟨S1x2048x2048, .f32⟩
  | .hbm, ⟨36, _⟩ => ⟨S1x2048x2048, .f32⟩
  | .hbm, ⟨37, _⟩ => ⟨S1x1x2048, .f32⟩
  | .hbm, ⟨38, _⟩ => ⟨S1x2048x2048, .f32⟩
  | .hbm, ⟨39, _⟩ => ⟨S1x2048x2048, .f32⟩
  | .hbm, ⟨40, _⟩ => ⟨S2048x5376, .f32⟩
  | .hbm, ⟨41, _⟩ => ⟨S1x2048x5376, .f32⟩
  | .hbm, ⟨42, _⟩ => ⟨S1x2048x2048, .f32⟩
  | .hbm, ⟨43, _⟩ => ⟨S2048x5376, .f32⟩
  | .hbm, ⟨44, _⟩ => ⟨S1x2048x5376, .f32⟩
  | .hbm, ⟨45, _⟩ => ⟨S1x2048x2048, .f32⟩
  | .hbm, ⟨46, _⟩ => ⟨S_, .f32⟩
  | .hbm, ⟨47, _⟩ => ⟨S1x2048, .f32⟩
  | .hbm, ⟨48, _⟩ => ⟨S1x1x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S1x2048x2048, .f32⟩
  | .hbm, ⟨53, _⟩ => ⟨S_, .f32⟩
  | .hbm, ⟨54, _⟩ => ⟨S1x2048, .f32⟩
  | .hbm, ⟨55, _⟩ => ⟨S1x1x2048, .f32⟩
  | .hbm, ⟨56, _⟩ => ⟨S1x2048x2048, .f32⟩
  | .hbm, ⟨57, _⟩ => ⟨S1x2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S1x2048x2048, .f32⟩
  | .hbm, ⟨62, _⟩ => ⟨S_, .f32⟩
  | .hbm, ⟨63, _⟩ => ⟨S1x2048, .f32⟩
  | .hbm, ⟨64, _⟩ => ⟨S1x1x2048, .f32⟩
  | .hbm, ⟨65, _⟩ => ⟨S1x2048x2048, .f32⟩
  | .hbm, ⟨66, _⟩ => ⟨S1x2048x2048, .f32⟩
  | .hbm, ⟨67, _⟩ => ⟨S_, .f32⟩
  | .hbm, ⟨68, _⟩ => ⟨S2048, .f32⟩
  | .hbm, ⟨69, _⟩ => ⟨S1x2048x2048, .f32⟩
  | .hbm, ⟨70, _⟩ => ⟨S_, .f32⟩
  | .hbm, ⟨71, _⟩ => ⟨S1x2048, .f32⟩
  | .hbm, ⟨72, _⟩ => ⟨S1x2048x1, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S1x2048x1, .f32⟩
  | .hbm, ⟨77, _⟩ => ⟨S_, .f32⟩
  | .hbm, ⟨78, _⟩ => ⟨S1x2048x1, .f32⟩
  | .hbm, ⟨79, _⟩ => ⟨S1x2048x1, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S1x2048x2048, .f32⟩
  | .hbm, ⟨88, _⟩ => ⟨S1x2048, .f32⟩
  | .hbm, ⟨89, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Kernel2.lean ====
abbrev S2048x2048 : Shape := ⟨2, ![2048, 2048]⟩
abbrev S1x2048x2048 : Shape := ⟨3, ![1, 2048, 2048]⟩
abbrev S1x6144 : Shape := ⟨2, ![1, 6144]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x6144, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S1x128, .f32⟩
  | .hbm, ⟨15, _⟩ => ⟨S1x2048, .f32⟩
  | .hbm, ⟨16, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S1x128, .f32⟩
  | .local _ .vmem, ⟨16, _⟩ => ⟨S1x2048, .f32⟩
  | .local _ .vmem, ⟨17, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S2048x2048 : Shape := ⟨2, ![2048, 2048]⟩
abbrev S1x2048x2048 : Shape := ⟨3, ![1, 2048, 2048]⟩
abbrev S1x6144 : Shape := ⟨2, ![1, 6144]⟩
abbrev S2048 : Shape := ⟨1, ![2048]⟩
abbrev S1x2048 : Shape := ⟨2, ![1, 2048]⟩
abbrev S1x1x2048 : Shape := ⟨3, ![1, 1, 2048]⟩
abbrev S_ : Shape := ⟨0, ![]⟩
abbrev S1x2048x1 : Shape := ⟨3, ![1, 2048, 1]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x6144, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S1x1x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x1, .f32⟩
  | .hbm, ⟨28, _⟩ => ⟨S1x2048x1, .f32⟩
  | .hbm, ⟨29, _⟩ => ⟨S_, .f32⟩
  | .hbm, ⟨30, _⟩ => ⟨S1x2048x1, .f32⟩
  | .hbm, ⟨31, _⟩ => ⟨S1x2048x1, .f32⟩
  | .hbm, ⟨32, _⟩ => ⟨S1x2048x2048, .f32⟩
  | .hbm, ⟨33, _⟩ => ⟨S1x2048x2048, .f32⟩
  | .hbm, ⟨34, _⟩ => ⟨S1x1x2048, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | .hbm, ⟨42, _⟩ => ⟨S_, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S1x2048x2048, .f32⟩
  | .hbm, ⟨59, _⟩ => ⟨S1x2048x2048, .f32⟩
  | .hbm, ⟨60, _⟩ => ⟨S1x2048x2048, .f32⟩
  | .hbm, ⟨61, _⟩ => ⟨S_, .f32⟩
  | .hbm, ⟨62, _⟩ => ⟨S1x2048, .f32⟩
  | .hbm, ⟨63, _⟩ => ⟨S1x1x2048, .f32⟩
  | .hbm, ⟨64, _⟩ => ⟨S1x2048x2048, .f32⟩
  | .hbm, ⟨65, _⟩ => ⟨S1x2048x2048, .f32⟩
  | .hbm, ⟨66, _⟩ => ⟨S_, .f32⟩
  | .hbm, ⟨67, _⟩ => ⟨S2048, .f32⟩
  | .hbm, ⟨68, _⟩ => ⟨S1x2048x2048, .f32⟩
  | .hbm, ⟨69, _⟩ => ⟨S_, .f32⟩
  | .hbm, ⟨70, _⟩ => ⟨S1x2048, .f32⟩
  | .hbm, ⟨71, _⟩ => ⟨S1x2048x1, .f32⟩
  | .hbm, ⟨72, _⟩ => ⟨S1x2048x2048, .f32⟩
  | .hbm, ⟨73, _⟩ => ⟨S1x2048x2048, .f32⟩
  | .hbm, ⟨74, _⟩ => ⟨S1x2048x1, .f32⟩
  | .hbm, ⟨75, _⟩ => ⟨S_, .f32⟩
  | .hbm, ⟨76, _⟩ => ⟨S1x2048x1, .f32⟩
  | .hbm, ⟨77, _⟩ => ⟨S1x2048x1, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S1x2048x2048, .f32⟩
  | .hbm, ⟨82, _⟩ => ⟨S1x2048x2048, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S1x2048x2048, .f32⟩
  | .hbm, ⟨88, _⟩ => ⟨S1x2048x2048, .f32⟩
  | .hbm, ⟨89, _⟩ => ⟨S_, .f32⟩
  | .hbm, ⟨90, _⟩ => ⟨S1x2048, .f32⟩
  | .hbm, ⟨91, _⟩ => ⟨S1x1x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S1x2048x2048, .f32⟩
  | .hbm, ⟨96, _⟩ => ⟨S2048x2048, .f32⟩
  | .hbm, ⟨97, _⟩ => ⟨S2048x2048, .f32⟩
  | .hbm, ⟨98, _⟩ => ⟨S2048x2048, .bf16⟩
  | .hbm, ⟨99, _⟩ => ⟨S2048x2048, .f32⟩
  | .hbm, ⟨100, _⟩ => ⟨S1x128, .f32⟩
  | .hbm, ⟨101, _⟩ => ⟨S1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Kernel3.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S2048x2048 : Shape := ⟨2, ![2048, 2048]⟩
abbrev S8x128x128 : Shape := ⟨3, ![8, 128, 128]⟩
abbrev S8x128 : Shape := ⟨2, ![8, 128]⟩
abbrev S2048x1024 : Shape := ⟨2, ![2048, 1024]⟩
abbrev S16x128x2x8x64 : Shape := ⟨5, ![16, 128, 2, 8, 64]⟩
abbrev S2048x256 : Shape := ⟨2, ![2048, 256]⟩
abbrev S16x128x2x2x64 : Shape := ⟨5, ![16, 128, 2, 2, 64]⟩
abbrev S_ : Shape := ⟨0, ![]⟩
abbrev S1x128x2x2x64 : Shape := ⟨5, ![1, 128, 2, 2, 64]⟩
abbrev S15x128x2x2x64 : Shape := ⟨5, ![15, 128, 2, 2, 64]⟩
abbrev S16x256x2x2x64 : Shape := ⟨5, ![16, 256, 2, 2, 64]⟩
abbrev S16x256x1x2x64 : Shape := ⟨5, ![16, 256, 1, 2, 64]⟩
abbrev S16x256x2x64 : Shape := ⟨4, ![16, 256, 2, 64]⟩
abbrev S16x2x256x128x8 : Shape := ⟨5, ![16, 2, 256, 128, 8]⟩
abbrev S16x2x8x128x256 : Shape := ⟨5, ![16, 2, 8, 128, 256]⟩
abbrev S2x8 : Shape := ⟨2, ![2, 8]⟩
abbrev S16x2x8x128x1 : Shape := ⟨5, ![16, 2, 8, 128, 1]⟩
abbrev S16x2x8x128x257 : Shape := ⟨5, ![16, 2, 8, 128, 257]⟩
abbrev S16x2x8x128 : Shape := ⟨4, ![16, 2, 8, 128]⟩
abbrev S16x2x64x8x128 : Shape := ⟨5, ![16, 2, 64, 8, 128]⟩
abbrev S2048 : Shape := ⟨1, ![2048]⟩
abbrev S16x128x8x128 : Shape := ⟨4, ![16, 128, 8, 128]⟩
abbrev S8x16x128x128 : Shape := ⟨4, ![8, 16, 128, 128]⟩
abbrev S16x2x256x8x128 : Shape := ⟨5, ![16, 2, 256, 8, 128]⟩
abbrev S16x2x256x1024 : Shape := ⟨4, ![16, 2, 256, 1024]⟩
abbrev S16x2x1x1024 : Shape := ⟨4, ![16, 2, 1, 1024]⟩
abbrev S128x8 : Shape := ⟨2, ![128, 8]⟩
abbrev S1x128 : Shape := ⟨2, ![1, 128]⟩
abbrev S256x5376 : Shape := ⟨2, ![256, 5376]⟩
abbrev S128x256 : Shape := ⟨2, ![128, 256]⟩
abbrev S256x2048 : Shape := ⟨2, ![256, 2048]⟩
abbrev S2x2x256x1024 : Shape := ⟨4, ![2, 2, 256, 1024]⟩
abbrev S2x2x1x1024 : Shape := ⟨4, ![2, 2, 1, 1024]⟩
abbrev S2x1x1024 : Shape := ⟨3, ![2, 1, 1024]⟩
abbrev S128x128 : Shape := ⟨2, ![128, 128]⟩
abbrev S256x128 : Shape := ⟨2, ![256, 128]⟩
abbrev S64x128 : Shape := ⟨2, ![64, 128]⟩
abbrev S128x1024 : Shape := ⟨2, ![128, 1024]⟩
abbrev S1x2x256x1024 : Shape := ⟨4, ![1, 2, 256, 1024]⟩
abbrev S2x256x1024 : Shape := ⟨3, ![2, 256, 1024]⟩
abbrev S1x256x1024 : Shape := ⟨3, ![1, 256, 1024]⟩
abbrev S256x1024 : Shape := ⟨2, ![256, 1024]⟩
abbrev S1x2x1x1024 : Shape := ⟨4, ![1, 2, 1, 1024]⟩
abbrev S1x1x1024 : Shape := ⟨3, ![1, 1, 1024]⟩
abbrev S1024 : Shape := ⟨1, ![1024]⟩
abbrev S256x256 : Shape := ⟨2, ![256, 256]⟩
abbrev S128 : Shape := ⟨1, ![128]⟩
abbrev S128x1 : Shape := ⟨2, ![128, 1]⟩
abbrev S1x128x128 : Shape := ⟨3, ![1, 128, 128]⟩
abbrev S1 : Shape := ⟨1, ![1]⟩
abbrev S1x1 : Shape := ⟨2, ![1, 1]⟩

abbrev nBuf : Space → Nat
  | .hbm => 125
  | .vmem => 30
  | .smem => 0
  | _ => 0

abbrev bufTy : (tb : Table) → Fin (tcTables nBuf tb) → BufTy
  | .hbm, ⟨0, _⟩ => ⟨S2048x5376, .f32⟩
  | .hbm, ⟨1, _⟩ => ⟨S1x16, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S2048x2048, .f32⟩
  | .hbm, ⟨7, _⟩ => ⟨S2048x2048, .bf16⟩
  | .hbm, ⟨8, _⟩ => ⟨S8x128x128, .f32⟩
  | .hbm, ⟨9, _⟩ => ⟨S8x128, .f32⟩
  | .hbm, ⟨10, _⟩ => ⟨S2048x1024, .f32⟩
  | .hbm, ⟨11, _⟩ => ⟨S16x128x2x8x64, .f32⟩
  | .hbm, ⟨12, _⟩ => ⟨S2048x256, .f32⟩
  | .hbm, ⟨13, _⟩ => ⟨S16x128x2x2x64, .f32⟩
  | .hbm, ⟨14, _⟩ => ⟨S_, .f32⟩
  | .hbm, ⟨15, _⟩ => ⟨S1x128x2x2x64, .f32⟩
  | .hbm, ⟨16, _⟩ => ⟨S15x128x2x2x64, .f32⟩
  | .hbm, ⟨17, _⟩ => ⟨S16x128x2x2x64, .f32⟩
  | .hbm, ⟨18, _⟩ => ⟨S16x256x2x2x64, .f32⟩
  | .hbm, ⟨19, _⟩ => ⟨S16x256x1x2x64, .f32⟩
  | .hbm, ⟨20, _⟩ => ⟨S16x256x2x64, .f32⟩
  | .hbm, ⟨21, _⟩ => ⟨S16x256x1x2x64, .f32⟩
  | .hbm, ⟨22, _⟩ => ⟨S16x256x2x64, .f32⟩
  | .hbm, ⟨23, _⟩ => ⟨S16x2x256x128x8, .f32⟩
  | .hbm, ⟨24, _⟩ => ⟨S16x2x8x128x256, .f32⟩
  | .hbm, ⟨25, _⟩ => ⟨S_, .f32⟩
  | .hbm, ⟨26, _⟩ => ⟨S16x2x8x128x256, .f32⟩
  | .hbm, ⟨27, _⟩ => ⟨S16x2x8x128x256, .f32⟩
  | .hbm, ⟨28, _⟩ => ⟨S16x2x8x128x256, .i32⟩
  | .hbm, ⟨29, _⟩ => ⟨S16x2x8x128x256, .i32⟩
  | .hbm, ⟨30, _⟩ => ⟨S16x2x8x128x256, .i32⟩
  | .hbm, ⟨31, _⟩ => ⟨S_, .i32⟩
  | .hbm, ⟨32, _⟩ => ⟨S16x2x8x128x256, .i32⟩
  | .hbm, ⟨33, _⟩ => ⟨S16x2x8x128x256, .i1⟩
  | .hbm, ⟨34, _⟩ => ⟨S16x2x8x128x256, .i32⟩
  | .hbm, ⟨35, _⟩ => ⟨S16x2x8x128x256, .i1⟩
  | .hbm, ⟨36, _⟩ => ⟨S16x2x8x128x256, .i1⟩
  | .hbm, ⟨37, _⟩ => ⟨S_, .i32⟩
  | .hbm, ⟨38, _⟩ => ⟨S16x2x8x128x256, .i32⟩
  | .hbm, ⟨39, _⟩ => ⟨S16x2x8x128x256, .i1⟩
  | .hbm, ⟨40, _⟩ => ⟨S16x2x8x128x256, .i1⟩
  | .hbm, ⟨41, _⟩ => ⟨S16x2x8x128x256, .i1⟩
  | .hbm, ⟨42, _⟩ => ⟨S16x2x8x128x256, .i1⟩
  | .hbm, ⟨43, _⟩ => ⟨S_, .f32⟩
  | .hbm, ⟨44, _⟩ => ⟨S16x2x8x128x256, .f32⟩
  | .hbm, ⟨45, _⟩ => ⟨S16x2x8x128x256, .f32⟩
  | .hbm, ⟨46, _⟩ => ⟨S2x8, .f32⟩
  | .hbm, ⟨47, _⟩ => ⟨S16x2x8x128x1, .f32⟩
  | .hbm, ⟨48, _⟩ => ⟨S16x2x8x128x257, .f32⟩
  | .hbm, ⟨49, _⟩ => ⟨S_, .f32⟩
  | .hbm, ⟨50, _⟩ => ⟨S16x2x8x128, .f32⟩
  | .hbm, ⟨51, _⟩ => ⟨S16x2x8x128x257, .f32⟩
  | .hbm, ⟨52, _⟩ => ⟨S16x2x8x128x257, .f32⟩
  | .hbm, ⟨53, _⟩ => ⟨S16x2x8x128x257, .f32⟩
  | .hbm, ⟨54, _⟩ => ⟨S_, .f32⟩
  | .hbm, ⟨55, _⟩ => ⟨S16x2x8x128, .f32⟩
  | .hbm, ⟨56, _⟩ => ⟨S16x2x8x128x257, .f32⟩
  | .hbm, ⟨57, _⟩ => ⟨S16x2x8x128x257, .f32⟩
  | .hbm, ⟨58, _⟩ => ⟨S16x2x8x128x256, .f32⟩
  | .hbm, ⟨59, _⟩ => ⟨S16x2x8x128x1, .f32⟩
  | .hbm, ⟨60, _⟩ => ⟨S16x2x64x8x128, .f32⟩
  | .hbm, ⟨61, _⟩ => ⟨S16x128x2x8x64, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S8x128x128, .i32⟩
  | .hbm, ⟨86, _⟩ => ⟨S8x128x128, .i32⟩
  | .hbm, ⟨87, _⟩ => ⟨S8x128x128, .i1⟩
  | .hbm, ⟨88, _⟩ => ⟨S_, .f32⟩
  | .hbm, ⟨89, _⟩ => ⟨S8x128x128, .f32⟩
  | .hbm, ⟨90, _⟩ => ⟨S8x128x128, .f32⟩
  | .hbm, ⟨91, _⟩ => ⟨S16x128x8x128, .f32⟩
  | .hbm, ⟨92, _⟩ => ⟨S8x16x128x128, .f32⟩
  | .hbm, ⟨93, _⟩ => ⟨S16x128x8x128, .f32⟩
  | .hbm, ⟨94, _⟩ => ⟨S16x128x8x128, .f32⟩
  | .hbm, ⟨95, _⟩ => ⟨S16x128x8x128, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x2048, .f32⟩
  | .hbm, ⟨102, _⟩ => ⟨S_, .f32⟩
  | .hbm, ⟨103, _⟩ => ⟨S2048x2048, .f32⟩
  | .hbm, ⟨104, _⟩ => ⟨S2048x2048, .f32⟩
  | .hbm, ⟨105, _⟩ => ⟨S2048x2048, .f32⟩
  | .hbm, ⟨106, _⟩ => ⟨S2048x2048, .f32⟩
  | .hbm, ⟨107, _⟩ => ⟨S2048x2048, .f32⟩
  | .hbm, ⟨108, _⟩ => ⟨S2048x2048, .f32⟩
  | .hbm, ⟨109, _⟩ => ⟨S2048x2048, .f32⟩
  | .hbm, ⟨110, _⟩ => ⟨S2048x2048, .f32⟩
  | .hbm, ⟨111, _⟩ => ⟨S2048x2048, .bf16⟩
  | .hbm, ⟨112, _⟩ => ⟨S16x2x256x8x128, .f32⟩
  | .hbm, ⟨113, _⟩ => ⟨S16x2x256x1024, .f32⟩
  | .hbm, ⟨114, _⟩ => ⟨S16x2x256x1024, .bf16⟩
  | .hbm, ⟨115, _⟩ => ⟨S16x2x1x1024, .f32⟩
  | .hbm, ⟨116, _⟩ => ⟨S8x128x128, .f32⟩
  | .hbm, ⟨117, _⟩ => ⟨S128x8, .f32⟩
  | .hbm, ⟨118, _⟩ => ⟨S2048x5376, .bf16⟩
  | .hbm, ⟨119, _⟩ => ⟨S1x128, .f32⟩
  | .hbm, ⟨120, _⟩ => ⟨S8x128x128, .f32⟩
  | .hbm, ⟨121, _⟩ => ⟨S8x128, .f32⟩
  | .hbm, ⟨122, _⟩ => ⟨S1x1024, .f32⟩
  | .hbm, ⟨123, _⟩ => ⟨S1x1024, .f32⟩
  | .hbm, ⟨124, _⟩ => ⟨S2048x2048, .bf16⟩
  | .local _ .vmem, ⟨0, _⟩ => ⟨S256x5376, .f32⟩
  | .local _ .vmem, ⟨1, _⟩ => ⟨S256x5376, .f32⟩
  | .local _ .vmem, ⟨2, _⟩ => ⟨S128x256, .f32⟩
  | .local _ .vmem, ⟨3, _⟩ => ⟨S128x256, .f32⟩
  | .local _ .vmem, ⟨4, _⟩ => ⟨S256x2048, .f32⟩
  | .local _ .vmem, ⟨5, _⟩ => ⟨S256x2048, .f32⟩
  | .local _ .vmem, ⟨6, _⟩ => ⟨S2x2x256x1024, .bf16⟩
  | .local _ .vmem, ⟨7, _⟩ => ⟨S2x2x256x1024, .bf16⟩
  | .local _ .vmem, ⟨8, _⟩ => ⟨S2x2x1x1024, .f32⟩
  | .local _ .vmem, ⟨9, _⟩ => ⟨S2x2x1x1024, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S8x128x128, .f32⟩
  | .local _ .vmem, ⟨14, _⟩ => ⟨S128x8, .f32⟩
  | .local _ .vmem, ⟨15, _⟩ => ⟨S2048x256, .bf16⟩
  | .local _ .vmem, ⟨16, _⟩ => ⟨S2048x256, .bf16⟩
  | .local _ .vmem, ⟨17, _⟩ => ⟨S2048x2048, .bf16⟩
  | .local _ .vmem, ⟨18, _⟩ => ⟨S256x5376, .bf16⟩
  | .local _ .vmem, ⟨19, _⟩ => ⟨S256x5376, .bf16⟩
  | .local _ .vmem, ⟨20, _⟩ => ⟨S1x128, .f32⟩
  | .local _ .vmem, ⟨21, _⟩ => ⟨S8x128x128, .f32⟩
  | .local _ .vmem, ⟨22, _⟩ => ⟨S8x128, .f32⟩
  | .local _ .vmem, ⟨23, _⟩ => ⟨S1x1024, .f32⟩
  | .local _ .vmem, ⟨24, _⟩ => ⟨S1x1024, .f32⟩
  | .local _ .vmem, ⟨25, _⟩ => ⟨S256x2048, .bf16⟩
  | .local _ .vmem, ⟨26, _⟩ => ⟨S256x2048, .bf16⟩
  | .local _ .vmem, ⟨27, _⟩ => ⟨S128x256, .f32⟩
  | .local _ .vmem, ⟨28, _⟩ => ⟨S2x1x1024, .f32⟩
  | .local _ .vmem, ⟨29, _⟩ => ⟨S128x128, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97_0 : Ref sig .tc := ⟨.hbm, 118, rfl⟩
abbrev main_v97_1 : Ref sig .tc := ⟨.hbm, 119, rfl⟩
abbrev main_v97_2 : Ref sig .tc := ⟨.hbm, 120, rfl⟩
abbrev main_v97_3 : Ref sig .tc := ⟨.hbm, 121, rfl⟩
abbrev main_v97_4 : Ref sig .tc := ⟨.hbm, 122, rfl⟩
abbrev main_v97_5 : Ref sig .tc := ⟨.hbm, 123, rfl⟩
abbrev main_v97_6 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_1073 : BitVec 32 := 7#32
  let v2123 : BitVec 1 := Scalar.cmpi .eq arg0 c7_i32_1073
  let v2124 : BitVec 32 := Scalar.extui v2123
  let c0_i32_1074 : BitVec 32 := 0#32
  let v2125 : BitVec 1 := Scalar.cmpi .ne v2124 c0_i32_1074
  v2125

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5376 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S2048x2048 : Shape := ⟨2, ![2048, 2048]⟩
abbrev S1x2048x5376 : Shape := ⟨3, ![1, 2048, 5376]⟩
abbrev S1x2048x1024 : Shape := ⟨3, ![1, 2048, 1024]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S16 : Shape := ⟨1, ![16]⟩
abbrev S1x16x128x2x8x64 : Shape := ⟨6, ![1, 16, 128, 2, 8, 64]⟩
abbrev S1x16x128x2x64 : Shape := ⟨5, ![1, 16, 128, 2, 64]⟩
abbrev S1x1x128x2x64 : Shape := ⟨5, ![1, 1, 128, 2, 64]⟩
abbrev S_ : Shape := ⟨0, ![]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x2048x2048 : Shape := ⟨3, ![1, 2048, 2048]⟩
abbrev S1x128x8 : Shape := ⟨3, ![1, 128, 8]⟩
abbrev S2048 : Shape := ⟨1, ![2048]⟩
abbrev S1x16x2x64x256 : Shape := ⟨5, ![1, 16, 2, 64, 256]⟩
abbrev S16x2x8x128 : Shape := ⟨4, ![16, 2, 8, 128]⟩
abbrev S1x16x2x128x8x64 : Shape := ⟨6, ![1, 16, 2, 128, 8, 64]⟩
abbrev S1x16x2x256x64 : Shape := ⟨5, ![1, 16, 2, 256, 64]⟩
abbrev S1x128 : Shape := ⟨2, ![1, 128]⟩

abbrev nBuf : Space → Nat
  | .hbm => 379
  | .vmem => 0
  | .smem => 0
  | _ => 0

abbrev hbmTy0_0 (i : Nat) : BufTy := match i % 128 with
  | 0 => ⟨S2048x5376, .f32⟩
  | 1 => ⟨S1x16, .f32⟩
  | 2 => ⟨S1x1024, .f32⟩
  | 3 => ⟨S1x1024, .f32⟩
  | 4 => ⟨S1x8x128x128, .f32⟩
  | 5 => ⟨S1x8x128, .f32⟩
  | 6 => ⟨S2048x2048, .f32⟩
  | 7 => ⟨S2048x2048, .bf16⟩
  | 8 => ⟨S1x2048x5376, .f32⟩
  | 9 => ⟨S1x2048x1024, .f32⟩
  | 10 => ⟨S1x2048x128, .f32⟩
  | 11 => ⟨S1x2048x128, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x16x64, .f32⟩
  | 17 => ⟨S1x2048x2x64, .f32⟩
  | 18 => ⟨S1x2048x2x64, .f32⟩
  | 19 => ⟨S16, .f32⟩
  | 20 => ⟨S1x16x128x2x8x64, .f32⟩
  | 21 => ⟨S1x16x128x2x64, .f32⟩
  | 22 => ⟨S1x16x128x2x64, .f32⟩
  | 23 => ⟨S1x1x128x2x64, .f32⟩
  | 24 => ⟨S_, .f32⟩
  | 25 => ⟨S1x1x128x2x64, .f32⟩
  | 26 => ⟨S1x15x128x2x64, .f32⟩
  | 27 => ⟨S1x16x128x2x64, .f32⟩
  | 28 => ⟨S_, .f32⟩
  | 29 => ⟨S1x1x128x2x64, .f32⟩
  | 30 => ⟨S1x16x256x2x64, .f32⟩
  | 31 => ⟨S1x1x128x2x64, .f32⟩
  | 32 => ⟨S_, .f32⟩
  | 33 => ⟨S1x1x128x2x64, .f32⟩
  | 34 => ⟨S1x15x128x2x64, .f32⟩
  | 35 => ⟨S1x16x128x2x64, .f32⟩
  | 36 => ⟨S_, .f32⟩
  | 37 => ⟨S1x1x128x2x64, .f32⟩
  | 38 => ⟨S1x16x256x2x64, .f32⟩
  | 39 => ⟨S1x16x2x256x128x8, .f32⟩
  | 40 => ⟨S1x16x2x8x128x256, .f32⟩
  | 41 => ⟨S_, .f32⟩
  | 42 => ⟨S1x16x2x8x128x256, .f32⟩
  | 43 => ⟨S1x16x2x8x128x256, .f32⟩
  | 44 => ⟨S128, .i32⟩
  | 45 => ⟨S128x1, .i32⟩
  | 46 => ⟨S_, .i32⟩
  | 47 => ⟨S128x1, .i32⟩
  | 48 => ⟨S128x1, .i32⟩
  | 49 => ⟨S256, .i32⟩
  | 50 => ⟨S1x256, .i32⟩
  | 51 => ⟨S128x256, .i32⟩
  | 52 => ⟨S128x256, .i32⟩
  | 53 => ⟨S128x256, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S16, .i32⟩
  | 62 => ⟨S_, .i32⟩
  | 63 => ⟨S16, .i32⟩
  | 64 => ⟨S16, .i1⟩
  | 65 => ⟨S16x1x1, .i1⟩
  | 66 => ⟨S_, .i32⟩
  | 67 => ⟨S1x256, .i32⟩
  | 68 => ⟨S1x256, .i1⟩
  | 69 => ⟨S1x1x256, .i1⟩
  | 70 => ⟨S16x1x256, .i1⟩
  | 71 => ⟨S16x1x256, .i1⟩
  | 72 => ⟨S16x1x256, .i1⟩
  | 73 => ⟨S1x128x256, .i1⟩
  | 74 => ⟨S16x128x256, .i1⟩
  | 75 => ⟨S16x128x256, .i1⟩
  | 76 => ⟨S16x128x256, .i1⟩
  | 77 => ⟨S1x16x1x1x128x256, .i1⟩
  | 78 => ⟨S_, .f32⟩
  | 79 => ⟨S_, .f32⟩
  | 80 => ⟨S1x16x2x8x128x256, .i1⟩
  | 81 => ⟨S1x16x2x8x128x256, .f32⟩
  | 82 => ⟨S1x16x2x8x128x256, .f32⟩
  | 83 => ⟨S_, .f32⟩
  | 84 => ⟨S1x16x2x8x128x256, .f32⟩
  | 85 => ⟨S2x8, .f32⟩
  | 86 => ⟨S1x1x2x8x1x1, .f32⟩
  | 87 => ⟨S1x16x2x8x128x1, .f32⟩
  | 88 => ⟨S1x16x2x8x128x257, .f32⟩
  | 89 => ⟨S_, .f32⟩
  | 90 => ⟨S1x16x2x8x128, .f32⟩
  | 91 => ⟨S1x16x2x8x128x1, .f32⟩
  | 92 => ⟨S1x16x2x8x128x257, .f32⟩
  | 93 => ⟨S1x16x2x8x128x257, .i1⟩
  | 94 => ⟨S1x16x2x8x128x257, .f32⟩
  | 95 => ⟨S_, .f32⟩
  | 96 => ⟨S1x16x2x8x128, .f32⟩
  | 97 => ⟨S_, .f32⟩
  | 98 => ⟨S1x16x2x8x128, .f32⟩
  | 99 => ⟨S1x16x2x8x128, .f32⟩
  | 100 => ⟨S_, .f32⟩
  | 101 => ⟨S1x16x2x8x128, .f32⟩
  | 102 => ⟨S1x16x2x8x128, .i1⟩
  | 103 => ⟨S_, .f32⟩
  | 104 => ⟨S1x16x2x8x128, .f32⟩
  | 105 => ⟨S1x16x2x8x128, .i1⟩
  | 106 => ⟨S_, .f32⟩
  | 107 => ⟨S1x16x2x8x128, .f32⟩
  | 108 => ⟨S_, .f32⟩
  | 109 => ⟨S1x16x2x8x128, .f32⟩
  | 110 => ⟨S_, .f32⟩
  | 111 => ⟨S1x16x2x8x128, .f32⟩
  | 112 => ⟨S1x16x2x8x128, .f32⟩
  | 113 => ⟨S1x16x2x8x128, .f32⟩
  | 114 => ⟨S1x16x2x8x128x1, .f32⟩
  | 115 => ⟨S1x16x2x8x128x257, .f32⟩
  | 116 => ⟨S1x16x2x8x128x257, .f32⟩
  | 117 => ⟨S1x16x2x8x128x257, .f32⟩
  | 118 => ⟨S_, .f32⟩
  | 119 => ⟨S1x16x2x8x128, .f32⟩
  | 120 => ⟨S1x16x2x8x128x1, .f32⟩
  | 121 => ⟨S1x16x2x8x128x257, .f32⟩
  | 122 => ⟨S1x16x2x8x128x257, .f32⟩
  | 123 => ⟨S1x16x2x8x128x1, .f32⟩
  | 124 => ⟨S_, .f32⟩
  | 125 => ⟨S1x16x2x8x128x1, .f32⟩
  | 126 => ⟨S1x16x2x8x128x1, .f32⟩
  | 127 => ⟨S1x16x2x8x128x256, .f32⟩
  | _ => ⟨S2048x5376, .f32⟩

abbrev hbmTy0_1 (i : Nat) : BufTy := match i % 128 with
  | 0 => ⟨S1x16x2x64x8x128, .f32⟩
  | 1 => ⟨S1x16x128x2x8x64, .f32⟩
  | 2 => ⟨S1x2048x1024, .f32⟩
  | 3 => ⟨S1x2048x1024, .f32⟩
  | 4 => ⟨S1x2048x1024, .f32⟩
  | 5 => ⟨S_, .f32⟩
  | 6 => ⟨S1x2048x1024, .f32⟩
  | 7 => ⟨S1x2048x1024, .f32⟩
  | 8 => ⟨S_, .f32⟩
  | 9 => ⟨S1x2048x1024, .f32⟩
  | 10 => ⟨S1x2048x1024, .f32⟩
  | 11 => ⟨S_, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S1024, .f32⟩
  | 18 => ⟨S1024, .f32⟩
  | 19 => ⟨S8x128x128, .f32⟩
  | 20 => ⟨S8x128, .f32⟩
  | 21 => ⟨S_, .f32⟩
  | 22 => ⟨S1x2048, .f32⟩
  | 23 => ⟨S1x2048x1, .f32⟩
  | 24 => ⟨S_, .f32⟩
  | 25 => ⟨S1x2048x1, .f32⟩
  | 26 => ⟨S1x2048x1, .f32⟩
  | 27 => ⟨S1x2048x1024, .f32⟩
  | 28 => ⟨S1x2048x1024, .f32⟩
  | 29 => ⟨S1x2048x1024, .f32⟩
  | 30 => ⟨S_, .f32⟩
  | 31 => ⟨S1x2048x1024, .f32⟩
  | 32 => ⟨S1x2048x1024, .f32⟩
  | 33 => ⟨S_, .f32⟩
  | 34 => ⟨S1x2048, .f32⟩
  | 35 => ⟨S1x2048x1, .f32⟩
  | 36 => ⟨S_, .f32⟩
  | 37 => ⟨S1x2048x1, .f32⟩
  | 38 => ⟨S1x2048x1, .f32⟩
  | 39 => ⟨S1x2048x1024, .f32⟩
  | 40 => ⟨S1x2048x1024, .f32⟩
  | 41 => ⟨S_, .f32⟩
  | 42 => ⟨S1x2048x1, .f32⟩
  | 43 => ⟨S1x2048x1, .f32⟩
  | 44 => ⟨S1x2048x1, .f32⟩
  | 45 => ⟨S1x2048x1, .f32⟩
  | 46 => ⟨S_, .f32⟩
  | 47 => ⟨S1x2048x1, .f32⟩
  | 48 => ⟨S1x2048x1, .f32⟩
  | 49 => ⟨S1x2048x1024, .f32⟩
  | 50 => ⟨S1x2048x1024, .f32⟩
  | 51 => ⟨S1x1x1024, .f32⟩
  | 52 => ⟨S1x2048x1024, .f32⟩
  | 53 => ⟨S1x2048x1024, .f32⟩
  | 54 => ⟨S1x1x1024, .f32⟩
  | 55 => ⟨S1x2048x1024, .f32⟩
  | 56 => ⟨S1x2048x1024, .f32⟩
  | 57 => ⟨S1x16x128x8x128, .f32⟩
  | 58 => ⟨S_, .f32⟩
  | 59 => ⟨S128x128, .f32⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .f32⟩
  | 67 => ⟨S128x128, .f32⟩
  | 68 => ⟨S128x128, .f32⟩
  | 69 => ⟨S1x128x128, .f32⟩
  | 70 => ⟨S8x128x128, .f32⟩
  | 71 => ⟨S8x128x128, .f32⟩
  | 72 => ⟨S8x1x16x128x128, .f32⟩
  | 73 => ⟨S1x16x128x8x128, .f32⟩
  | 74 => ⟨S128x8, .f32⟩
  | 75 => ⟨S1x1x128x8x1, .f32⟩
  | 76 => ⟨S1x16x128x8x128, .f32⟩
  | 77 => ⟨S1x16x128x8x128, .f32⟩
  | 78 => ⟨S1x2048x1024, .f32⟩
  | 79 => ⟨S1x2048x1024, .f32⟩
  | 80 => ⟨S1x2048x1024, .f32⟩
  | 81 => ⟨S1x2048x1024, .f32⟩
  | 82 => ⟨S_, .f32⟩
  | 83 => ⟨S1x2048x1024, .f32⟩
  | 84 => ⟨S1x2048x1024, .f32⟩
  | 85 => ⟨S_, .f32⟩
  | 86 => ⟨S1x2048x1024, .f32⟩
  | 87 => ⟨S1x2048x1024, .f32⟩
  | 88 => ⟨S_, .f32⟩
  | 89 => ⟨S1x2048x1024, .f32⟩
  | 90 => ⟨S1x2048x1024, .f32⟩
  | 91 => ⟨S1x2048x1024, .f32⟩
  | 92 => ⟨S1x2048x1024, .f32⟩
  | 93 => ⟨S1x2048x1024, .f32⟩
  | 94 => ⟨S1x2048x2048, .f32⟩
  | 95 => ⟨S1x2048x2048, .f32⟩
  | 96 => ⟨S1x2048x1024, .f32⟩
  | 97 => ⟨S1x2048x1024, .f32⟩
  | 98 => ⟨S1x2048x1024, .f32⟩
  | 99 => ⟨S1x2048x1024, .f32⟩
  | 100 => ⟨S1x2048x1024, .f32⟩
  | 101 => ⟨S1x2048x1024, .f32⟩
  | 102 => ⟨S1x2048x1024, .f32⟩
  | 103 => ⟨S1x2048x1024, .f32⟩
  | 104 => ⟨S1x2048x1024, .f32⟩
  | 105 => ⟨S1x2048x1024, .f32⟩
  | 106 => ⟨S1x16x128x8x128, .f32⟩
  | 107 => ⟨S_, .f32⟩
  | 108 => ⟨S1x128x8, .f32⟩
  | 109 => ⟨S1x1x128x8x1, .f32⟩
  | 110 => ⟨S_, .f32⟩
  | 111 => ⟨S128x8, .f32⟩
  | 112 => ⟨S8x128, .f32⟩
  | 113 => ⟨S8x1x16x128x128, .f32⟩
  | 114 => ⟨S8x128x128, .f32⟩
  | 115 => ⟨S8x1x16x128x128, .f32⟩
  | 116 => ⟨S1x16x128x8x128, .f32⟩
  | 117 => ⟨S8x128x128, .f32⟩
  | 118 => ⟨S8x128x128, .f32⟩
  | 119 => ⟨S1x2048x1024, .f32⟩
  | 120 => ⟨S_, .f32⟩
  | 121 => ⟨S1x1024, .f32⟩
  | 122 => ⟨S1x1x1024, .f32⟩
  | 123 => ⟨S_, .f32⟩
  | 124 => ⟨S1024, .f32⟩
  | 125 => ⟨S1x2048x1024, .f32⟩
  | 126 => ⟨S_, .f32⟩
  | 127 => ⟨S1x1024, .f32⟩
  | _ => ⟨S2048x5376, .f32⟩

abbrev hbmTy0_2 (i : Nat) : BufTy := match i % 128 with
  | 0 => ⟨S1x1x1024, .f32⟩
  | 1 => ⟨S1x2048x1024, .f32⟩
  | 2 => ⟨S1x2048x1024, .f32⟩
  | 3 => ⟨S_, .f32⟩
  | 4 => ⟨S1024, .f32⟩
  | 5 => ⟨S1x2048x1024, .f32⟩
  | 6 => ⟨S_, .f32⟩
  | 7 => ⟨S1x2048, .f32⟩
  | 8 => ⟨S1x2048x1, .f32⟩
  | 9 => ⟨S1x2048x1024, .f32⟩
  | 10 => ⟨S1x2048x1024, .f32⟩
  | 11 => ⟨S1x2048x1, .f32⟩
  | 12 => ⟨S1x2048x1024, .f32⟩
  | 13 => ⟨S_, .f32⟩
  | 14 => ⟨S1x2048, .f32⟩
  | 15 => ⟨S1x2048x1, .f32⟩
  | 16 => ⟨S_, .f32⟩
  | 17 => ⟨S1x2048x1, .f32⟩
  | 18 => ⟨S1x2048x1, .f32⟩
  | 19 => ⟨S_, .f32⟩
  | 20 => ⟨S2048, .f32⟩
  | 21 => ⟨S1x2048, .f32⟩
  | 22 => ⟨S1x2048x1024, .f32⟩
  | 23 => ⟨S1x2048x1024, .f32⟩
  | 24 => ⟨S1x2048x1024, .f32⟩
  | 25 => ⟨S_, .f32⟩
  | 26 => ⟨S1x2048, .f32⟩
  | 27 => ⟨S1x2048x1, .f32⟩
  | 28 => ⟨S1x2048x1024, .f32⟩
  | 29 => ⟨S1x2048x1, .f32⟩
  | 30 => ⟨S_, .f32⟩
  | 31 => ⟨S1x2048x1, .f32⟩
  | 32 => ⟨S1x2048x1, .f32⟩
  | 33 => ⟨S_, .f32⟩
  | 34 => ⟨S2048, .f32⟩
  | 35 => ⟨S1x2048, .f32⟩
  | 36 => ⟨S1x2048x1024, .f32⟩
  | 37 => ⟨S1x2048x1024, .f32⟩
  | 38 => ⟨S1x8x128, .f32⟩
  | 39 => ⟨S1x8x128x128, .f32⟩
  | 40 => ⟨S1x1024, .f32⟩
  | 41 => ⟨S1x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S1x2048x1024, .f32⟩
  | 47 => ⟨S1x2048x1024, .f32⟩
  | 48 => ⟨S1x16x128x2x8x64, .f32⟩
  | 49 => ⟨S1x16x2x64x8x128, .f32⟩
  | 50 => ⟨S1x16x2x8x128x256, .f32⟩
  | 51 => ⟨S1x16x2x64x256, .f32⟩
  | 52 => ⟨S1x16x256x2x64, .f32⟩
  | 53 => ⟨S_, .f32⟩
  | 54 => ⟨S1x16x2x8x128x257, .f32⟩
  | 55 => ⟨S1x16x2x8x128x257, .f32⟩
  | 56 => ⟨S1x16x2x8x128x257, .f32⟩
  | 57 => ⟨S1x16x2x8x128x257, .f32⟩
  | 58 => ⟨S_, .f32⟩
  | 59 => ⟨S1x16x2x8x128, .f32⟩
  | 60 => ⟨S1x16x2x8x128x1, .f32⟩
  | 61 => ⟨S1x16x2x8x128x1, .f32⟩
  | 62 => ⟨S1x16x2x8x128x257, .f32⟩
  | 63 => ⟨S1x16x2x8x128x257, .f32⟩
  | 64 => ⟨S_, .f32⟩
  | 65 => ⟨S16x2x8x128, .f32⟩
  | 66 => ⟨S1x16x2x8x128, .f32⟩
  | 67 => ⟨S1x16x2x8x128x257, .f32⟩
  | 68 => ⟨S1x16x2x8x128x257, .f32⟩
  | 69 => ⟨S1x16x2x8x128x257, .f32⟩
  | 70 => ⟨S1x16x2x8x128x256, .f32⟩
  | 71 => ⟨S1x16x2x8x128x1, .f32⟩
  | 72 => ⟨S_, .f32⟩
  | 73 => ⟨S2x8, .f32⟩
  | 74 => ⟨S1x1x2x8x1x1, .f32⟩
  | 75 => ⟨S_, .f32⟩
  | 76 => ⟨S2x8, .f32⟩
  | 77 => ⟨S16, .f32⟩
  | 78 => ⟨S_, .f32⟩
  | 79 => ⟨S1x16x2x8x128x256, .f32⟩
  | 80 => ⟨S1x16x2x8x128x256, .f32⟩
  | 81 => ⟨S_, .f32⟩
  | 82 => ⟨S1x16x2x8x128x256, .f32⟩
  | 83 => ⟨S1x16x2x8x128x256, .f32⟩
  | 84 => ⟨S1x16x2x256x128x8, .f32⟩
  | 85 => ⟨S1x16x2x128x8x64, .f32⟩
  | 86 => ⟨S1x16x128x2x8x64, .f32⟩
  | 87 => ⟨S1x16x2x256x64, .f32⟩
  | 88 => ⟨S1x16x256x2x64, .f32⟩
  | 89 => ⟨S1x16x128x2x64, .f32⟩
  | 90 => ⟨S1x16x128x2x64, .f32⟩
  | 91 => ⟨S1x1x128x2x64, .f32⟩
  | 92 => ⟨S1x15x128x2x64, .f32⟩
  | 93 => ⟨S_, .f32⟩
  | 94 => ⟨S1x16x128x2x64, .f32⟩
  | 95 => ⟨S1x16x128x2x64, .f32⟩
  | 96 => ⟨S1x16x128x2x64, .f32⟩
  | 97 => ⟨S1x16x128x2x64, .f32⟩
  | 98 => ⟨S1x1x128x2x64, .f32⟩
  | 99 => ⟨S1x15x128x2x64, .f32⟩
  | 100 => ⟨S_, .f32⟩
  | 101 => ⟨S1x16x128x2x64, .f32⟩
  | 102 => ⟨S1x16x128x2x64, .f32⟩
  | 103 => ⟨S1x2048x2x64, .f32⟩
  | 104 => ⟨S1x2048x2x64, .f32⟩
  | 105 => ⟨S1x2048x16x64, .f32⟩
  | 106 => ⟨S1x16, .f32⟩
  | 107 => ⟨S1x2048x128, .f32⟩
  | 108 => ⟨S1x2048x128, .f32⟩
  | 109 => ⟨S1x2048x1024, .f32⟩
  | 110 => ⟨S1x2048x5376, .f32⟩
  | 111 => ⟨S2048x2048, .f32⟩
  | 112 => ⟨S2048x2048, .f32⟩
  | 113 => ⟨S2048x2048, .f32⟩
  | 114 => ⟨S2048x2048, .f32⟩
  | 115 => ⟨S2048x5376, .f32⟩
  | 116 => ⟨S2048x5376, .bf16⟩
  | 117 => ⟨S_, .i32⟩
  | 118 => ⟨S_, .f32⟩
  | 119 => ⟨S1x128, .f32⟩
  | 120 => ⟨S8x128x128, .f32⟩
  | 121 => ⟨S8x128, .f32⟩
  | 122 => ⟨S2048x2048, .bf16⟩
  | _ => ⟨S2048x5376, .f32⟩

abbrev hbmTy (i : Nat) : BufTy := match i / 128 with
  | 0 => hbmTy0_0 i
  | 1 => hbmTy0_1 i
  | 2 => hbmTy0_2 i
  | _ => ⟨S2048x5376, .f32⟩

abbrev bufTy : (tb : Table) → Fin (tcTables nBuf tb) → BufTy
  | .hbm, ⟨i, _⟩ => hbmTy i
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_call0_v0 : Ref sig .tc := ⟨.hbm, 79, rfl⟩
abbrev main_v60_1 : Ref sig .tc := ⟨.hbm, 80, rfl⟩
abbrev main_call0_v2 : Ref sig .tc := ⟨.hbm, 81, rfl⟩
abbrev main_v60_0 : Ref sig .tc := ⟨.hbm, 82, rfl⟩
abbrev main_call0_cst : Ref sig .tc := ⟨.hbm, 83, rfl⟩
abbrev main_v60_2 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call1_v0 : Ref sig .tc := ⟨.hbm, 131, rfl⟩
abbrev main_call1_v1 : Ref sig .tc := ⟨.hbm, 132, rfl⟩
abbrev main_call1_cst : Ref sig .tc := ⟨.hbm, 133, rfl⟩
abbrev main_call1_v2 : Ref sig .tc := ⟨.hbm, 134, rfl⟩
abbrev main_call1_v3 : Ref sig .tc := ⟨.hbm, 135, rfl⟩
abbrev main_call1_cst_0 : Ref sig .tc := ⟨.hbm, 136, rfl⟩
abbrev main_call1_v4 : Ref sig .tc := ⟨.hbm, 137, rfl⟩
abbrev main_v97_2 : Ref sig .tc := ⟨.hbm, 138, rfl⟩
abbrev main_call1_cst_1 : Ref sig .tc := ⟨.hbm, 139, rfl⟩
abbrev main_call1_v6 : Ref sig .tc := ⟨.hbm, 140, rfl⟩
abbrev main_call1_v7 : Ref sig .tc := ⟨.hbm, 141, rfl⟩
abbrev main_v97_1 : Ref sig .tc := ⟨.hbm, 142, rfl⟩
abbrev main_v97_0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_19 : Ref sig .tc := ⟨.hbm, 149, rfl⟩
abbrev main_v103 : Ref sig .tc := ⟨.hbm, 150, rfl⟩
abbrev main_v104 : Ref sig .tc := ⟨.hbm, 151, rfl⟩
abbrev main_cst_20 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_21 : Ref sig .tc := ⟨.hbm, 158, rfl⟩
abbrev main_v110 : Ref sig .tc := ⟨.hbm, 159, rfl⟩
abbrev main_v111 : Ref sig .tc := ⟨.hbm, 160, rfl⟩
abbrev main_cst_22 : Ref sig .tc := ⟨.hbm, 161, rfl⟩
abbrev main_v112 : Ref sig .tc := ⟨.hbm, 162, rfl⟩
abbrev main_v113 : Ref sig .tc := ⟨.hbm, 163, rfl⟩
abbrev main_cst_23 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_24 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_25 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_26 : Ref sig .tc := ⟨.hbm, 186, rfl⟩
abbrev main_v133 : Ref sig .tc := ⟨.hbm, 187, rfl⟩
abbrev main_call2_v0 : Ref sig .tc := ⟨.hbm, 188, rfl⟩
abbrev main_call2_c : Ref sig .tc := ⟨.hbm, 189, rfl⟩
abbrev main_call2_v1 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_cst : Ref sig .tc := ⟨.hbm, 194, rfl⟩
abbrev main_call2_v5 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call3_v0 : Ref sig .tc := ⟨.hbm, 208, rfl⟩
abbrev main_call3_v1 : Ref sig .tc := ⟨.hbm, 209, rfl⟩
abbrev main_call3_cst : Ref sig .tc := ⟨.hbm, 210, rfl⟩
abbrev main_call3_v2 : Ref sig .tc := ⟨.hbm, 211, rfl⟩
abbrev main_call3_v3 : Ref sig .tc := ⟨.hbm, 212, rfl⟩
abbrev main_call3_cst_0 : Ref sig .tc := ⟨.hbm, 213, rfl⟩
abbrev main_call3_v4 : Ref sig .tc := ⟨.hbm, 214, rfl⟩
abbrev main_v146_2 : Ref sig .tc := ⟨.hbm, 215, rfl⟩
abbrev main_call3_cst_1 : Ref sig .tc := ⟨.hbm, 216, rfl⟩
abbrev main_call3_v6 : Ref sig .tc := ⟨.hbm, 217, rfl⟩
abbrev main_call3_v7 : Ref sig .tc := ⟨.hbm, 218, rfl⟩
abbrev main_v146_1 : Ref sig .tc := ⟨.hbm, 219, rfl⟩
abbrev main_v146_0 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_call4_v0 : Ref sig .tc := ⟨.hbm, 228, rfl⟩
abbrev main_call4_v1 : Ref sig .tc := ⟨.hbm, 229, rfl⟩
abbrev main_call4_v2 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_27 : Ref sig .tc := ⟨.hbm, 235, rfl⟩
abbrev main_v158 : Ref sig .tc := ⟨.hbm, 236, rfl⟩
abbrev main_v159 : Ref sig .tc := ⟨.hbm, 237, rfl⟩
abbrev main_cst_28 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_cst_29 : Ref sig .tc := ⟨.hbm, 248, rfl⟩
abbrev main_v169 : Ref sig .tc := ⟨.hbm, 249, rfl⟩
abbrev main_v170 : Ref sig .tc := ⟨.hbm, 250, rfl⟩
abbrev main_cst_30 : Ref sig .tc := ⟨.hbm, 251, rfl⟩
abbrev main_v171 : Ref sig .tc := ⟨.hbm, 252, rfl⟩
abbrev main_v172 : Ref sig .tc := ⟨.hbm, 253, rfl⟩
abbrev main_cst_31 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_32 : Ref sig .tc := ⟨.hbm, 259, rfl⟩
abbrev main_v177 : Ref sig .tc := ⟨.hbm, 260, rfl⟩
abbrev main_v178 : Ref sig .tc := ⟨.hbm, 261, rfl⟩
abbrev main_cst_33 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_cst_34 : Ref sig .tc := ⟨.hbm, 269, rfl⟩
abbrev main_v185 : Ref sig .tc := ⟨.hbm, 270, rfl⟩
abbrev main_v186 : Ref sig .tc := ⟨.hbm, 271, rfl⟩
abbrev main_cst_35 : Ref sig .tc := ⟨.hbm, 272, rfl⟩
abbrev main_v187 : Ref sig .tc := ⟨.hbm, 273, rfl⟩
abbrev main_v188 : Ref sig .tc := ⟨.hbm, 274, rfl⟩
abbrev main_cst_36 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_cst_37 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_cst_38 : Ref sig .tc := ⟨.hbm, 286, rfl⟩
abbrev main_v198 : Ref sig .tc := ⟨.hbm, 287, rfl⟩
abbrev main_v199 : Ref sig .tc := ⟨.hbm, 288, rfl⟩
abbrev main_cst_39 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_call5_v0 : Ref sig .tc := ⟨.hbm, 300, rfl⟩
abbrev main_call5_v1 : Ref sig .tc := ⟨.hbm, 301, rfl⟩
abbrev main_call5_v2 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_cst_40 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_cst_41 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_cst_42 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_cst_43 : Ref sig .tc := ⟨.hbm, 328, rfl⟩
abbrev main_v232 : Ref sig .tc := ⟨.hbm, 329, rfl⟩
abbrev main_v233 : Ref sig .tc := ⟨.hbm, 330, rfl⟩
abbrev main_cst_44 : Ref sig .tc := ⟨.hbm, 331, rfl⟩
abbrev main_v234 : Ref sig .tc := ⟨.hbm, 332, rfl⟩
abbrev main_v235 : Ref sig .tc := ⟨.hbm, 333, rfl⟩
abbrev main_call6_cst : Ref sig .tc := ⟨.hbm, 334, rfl⟩
abbrev main_call6_v0 : Ref sig .tc := ⟨.hbm, 335, rfl⟩
abbrev main_v236 : Ref sig .tc := ⟨.hbm, 336, rfl⟩
abbrev main_cst_45 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_cst_46 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_cst_47 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_c_48 : Ref sig .tc := ⟨.hbm, 373, rfl⟩
abbrev main_call7_v0 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩

abbrev nD : Nat := 1
abbrev τ : Topo := Topo.v7x

variable {F : FTy → Type} [FloatOps F]
-- ==== Kernel4.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S16 : Shape := ⟨1, ![16]⟩
abbrev S16x128 : Shape := ⟨2, ![16, 128]⟩
abbrev S2048 : Shape := ⟨1, ![2048]⟩
abbrev S2x1x1024 : Shape := ⟨3, ![2, 1, 1024]⟩
abbrev S8x128x128 : Shape := ⟨3, ![8, 128, 128]⟩
abbrev S1x1x1x1024 : Shape := ⟨4, ![1, 1, 1, 1024]⟩
abbrev S8x128 : Shape := ⟨2, ![8, 128]⟩
abbrev S128x8 : Shape := ⟨2, ![128, 8]⟩
abbrev S2048x2048 : Shape := ⟨2, ![2048, 2048]⟩
abbrev S16x2x256x1024 : Shape := ⟨4, ![16, 2, 256, 1024]⟩
abbrev S16x2x1x1024 : Shape := ⟨4, ![16, 2, 1, 1024]⟩
abbrev S256x5376 : Shape := ⟨2, ![256, 5376]⟩
abbrev S128x256 : Shape := ⟨2, ![128, 256]⟩
abbrev S256x2048 : Shape := ⟨2, ![256, 2048]⟩
abbrev S2x2x256x1024 : Shape := ⟨4, ![2, 2, 256, 1024]⟩
abbrev S2x2x1x1024 : Shape := ⟨4, ![2, 2, 1, 1024]⟩
abbrev S256x128 : Shape := ⟨2, ![256, 128]⟩
abbrev S256x1024 : Shape := ⟨2, ![256, 1024]⟩
abbrev S128x128 : Shape := ⟨2, ![128, 128]⟩
abbrev S64x128 : Shape := ⟨2, ![64, 128]⟩
abbrev S128x1024 : Shape := ⟨2, ![128, 1024]⟩
abbrev S1x1x1024 : Shape := ⟨3, ![1, 1, 1024]⟩
abbrev S1024 : Shape := ⟨1, ![1024]⟩
abbrev S1x2x256x1024 : Shape := ⟨4, ![1, 2, 256, 1024]⟩
abbrev S2x256x1024 : Shape := ⟨3, ![2, 256, 1024]⟩
abbrev S1x256x1024 : Shape := ⟨3, ![1, 256, 1024]⟩
abbrev S1x1x256x1024 : Shape := ⟨4, ![1, 1, 256, 1024]⟩
abbrev S1x2x1x1024 : Shape := ⟨4, ![1, 2, 1, 1024]⟩
abbrev S128 : Shape := ⟨1, ![128]⟩
abbrev S128x1 : Shape := ⟨2, ![128, 1]⟩
abbrev S1x128x128 : Shape := ⟨3, ![1, 128, 128]⟩

abbrev nBuf : Space → Nat
  | .hbm => 17
  | .vmem => 15
  | .smem => 0
  | _ => 0

abbrev bufTy : (tb : Table) → Fin (tcTables nBuf tb) → BufTy
  | .hbm, ⟨0, _⟩ => ⟨S2048x5376, .f32⟩
  | .hbm, ⟨1, _⟩ => ⟨S1x16, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S16, .f32⟩
  | .hbm, ⟨7, _⟩ => ⟨S16x128, .f32⟩
  | .hbm, ⟨8, _⟩ => ⟨S2048, .f32⟩
  | .hbm, ⟨9, _⟩ => ⟨S2x1x1024, .f32⟩
  | .hbm, ⟨10, _⟩ => ⟨S8x128x128, .f32⟩
  | .hbm, ⟨11, _⟩ => ⟨S1x1x1x1024, .f32⟩
  | .hbm, ⟨12, _⟩ => ⟨S8x128, .f32⟩
  | .hbm, ⟨13, _⟩ => ⟨S128x8, .f32⟩
  | .hbm, ⟨14, _⟩ => ⟨S2048x2048, .bf16⟩
  | .hbm, ⟨15, _⟩ => ⟨S16x2x256x1024, .bf16⟩
  | .hbm, ⟨16, _⟩ => ⟨S16x2x1x1024, .f32⟩
  | .local _ .vmem, ⟨0, _⟩ => ⟨S256x5376, .f32⟩
  | .local _ .vmem, ⟨1, _⟩ => ⟨S256x5376, .f32⟩
  | .local _ .vmem, ⟨2, _⟩ => ⟨S128x256, .f32⟩
  | .local _ .vmem, ⟨3, _⟩ => ⟨S128x256, .f32⟩
  | .local _ .vmem, ⟨4, _⟩ => ⟨S2x1x1024, .f32⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S128x8, .f32⟩
  | .local _ .vmem, ⟨9, _⟩ => ⟨S256x2048, .bf16⟩
  | .local _ .vmem, ⟨10, _⟩ => ⟨S256x2048, .bf16⟩
  | .local _ .vmem, ⟨11, _⟩ => ⟨S2x2x256x1024, .bf16⟩
  | .local _ .vmem, ⟨12, _⟩ => ⟨S2x2x256x1024, .bf16⟩
  | .local _ .vmem, ⟨13, _⟩ => ⟨S2x2x1x1024, .f32⟩
  | .local _ .vmem, ⟨14, _⟩ => ⟨S2x2x1x1024, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x2x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x5376 : Shape := ⟨3, ![1, 2048, 5376]⟩
abbrev S1x2048x1024 : Shape := ⟨3, ![1, 2048, 1024]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S16 : Shape := ⟨1, ![16]⟩
abbrev S1x16x128x2x8x64 : Shape := ⟨6, ![1, 16, 128, 2, 8, 64]⟩
abbrev S1x16x128x2x64 : Shape := ⟨5, ![1, 16, 128, 2, 64]⟩
abbrev S1x1x128x2x64 : Shape := ⟨5, ![1, 1, 128, 2, 64]⟩
abbrev S_ : Shape := ⟨0, ![]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x2048x2048 : Shape := ⟨3, ![1, 2048, 2048]⟩
abbrev S16x2x8x128x256 : Shape := ⟨5, ![16, 2, 8, 128, 256]⟩
abbrev S16x2x256x8x128 : Shape := ⟨5, ![16, 2, 256, 8, 128]⟩
abbrev S16x2x8x128 : Shape := ⟨4, ![16, 2, 8, 128]⟩
abbrev S2048x2048 : Shape := ⟨2, ![2048, 2048]⟩
abbrev S16x2x256x1024 : Shape := ⟨4, ![16, 2, 256, 1024]⟩
abbrev S16x2x1x1024 : Shape := ⟨4, ![16, 2, 1, 1024]⟩

abbrev nBuf : Space → Nat
  | .hbm => 186
  | .vmem => 0
  | .smem => 0
  | _ => 0

abbrev hbmTy0_0 (i : Nat) : BufTy := match i % 128 with
  | 0 => ⟨S2048x5376, .f32⟩
  | 1 => ⟨S1x16, .f32⟩
  | 2 => ⟨S1x1024, .f32⟩
  | 3 => ⟨S1x1024, .f32⟩
  | 4 => ⟨S1x8x128x128, .f32⟩
  | 5 => ⟨S1x8x128, .f32⟩
  | 6 => ⟨S1x2048x5376, .f32⟩
  | 7 => ⟨S1x2048x1024, .f32⟩
  | 8 => ⟨S1x2048x128, .f32⟩
  | 9 => ⟨S1x2048x128, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x16x64, .f32⟩
  | 15 => ⟨S1x2048x2x64, .f32⟩
  | 16 => ⟨S1x2048x2x64, .f32⟩
  | 17 => ⟨S16, .f32⟩
  | 18 => ⟨S1x16x128x2x8x64, .f32⟩
  | 19 => ⟨S1x16x128x2x64, .f32⟩
  | 20 => ⟨S1x16x128x2x64, .f32⟩
  | 21 => ⟨S1x1x128x2x64, .f32⟩
  | 22 => ⟨S_, .f32⟩
  | 23 => ⟨S1x1x128x2x64, .f32⟩
  | 24 => ⟨S1x15x128x2x64, .f32⟩
  | 25 => ⟨S1x16x128x2x64, .f32⟩
  | 26 => ⟨S1x16x256x2x64, .f32⟩
  | 27 => ⟨S1x1x128x2x64, .f32⟩
  | 28 => ⟨S_, .f32⟩
  | 29 => ⟨S1x1x128x2x64, .f32⟩
  | 30 => ⟨S1x15x128x2x64, .f32⟩
  | 31 => ⟨S1x16x128x2x64, .f32⟩
  | 32 => ⟨S1x16x256x2x64, .f32⟩
  | 33 => ⟨S1x16x2x256x128x8, .f32⟩
  | 34 => ⟨S1x16x2x8x128x256, .f32⟩
  | 35 => ⟨S_, .f32⟩
  | 36 => ⟨S1x16x2x8x128x256, .f32⟩
  | 37 => ⟨S1x16x2x8x128x256, .f32⟩
  | 38 => ⟨S128, .i32⟩
  | 39 => ⟨S128x1, .i32⟩
  | 40 => ⟨S_, .i32⟩
  | 41 => ⟨S128x1, .i32⟩
  | 42 => ⟨S128x1, .i32⟩
  | 43 => ⟨S256, .i32⟩
  | 44 => ⟨S1x256, .i32⟩
  | 45 => ⟨S128x256, .i32⟩
  | 46 => ⟨S128x256, .i32⟩
  | 47 => ⟨S128x256, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S16, .i32⟩
  | 56 => ⟨S_, .i32⟩
  | 57 => ⟨S16, .i32⟩
  | 58 => ⟨S16, .i1⟩
  | 59 => ⟨S16x1x1, .i1⟩
  | 60 => ⟨S_, .i32⟩
  | 61 => ⟨S1x256, .i32⟩
  | 62 => ⟨S1x256, .i1⟩
  | 63 => ⟨S1x1x256, .i1⟩
  | 64 => ⟨S16x1x256, .i1⟩
  | 65 => ⟨S16x1x256, .i1⟩
  | 66 => ⟨S16x1x256, .i1⟩
  | 67 => ⟨S1x128x256, .i1⟩
  | 68 => ⟨S16x128x256, .i1⟩
  | 69 => ⟨S16x128x256, .i1⟩
  | 70 => ⟨S16x128x256, .i1⟩
  | 71 => ⟨S1x16x1x1x128x256, .i1⟩
  | 72 => ⟨S_, .f32⟩
  | 73 => ⟨S_, .f32⟩
  | 74 => ⟨S1x16x2x8x128x256, .i1⟩
  | 75 => ⟨S1x16x2x8x128x256, .f32⟩
  | 76 => ⟨S1x16x2x8x128x256, .f32⟩
  | 77 => ⟨S2x8, .f32⟩
  | 78 => ⟨S1x1x2x8x1x1, .f32⟩
  | 79 => ⟨S1x16x2x8x128x1, .f32⟩
  | 80 => ⟨S1x16x2x8x128x257, .f32⟩
  | 81 => ⟨S_, .f32⟩
  | 82 => ⟨S1x16x2x8x128, .f32⟩
  | 83 => ⟨S_, .f32⟩
  | 84 => ⟨S1x16x2x8x128, .f32⟩
  | 85 => ⟨S1x16x2x8x128, .f32⟩
  | 86 => ⟨S1x16x2x8x128x1, .f32⟩
  | 87 => ⟨S1x16x2x8x128x257, .f32⟩
  | 88 => ⟨S1x16x2x8x128x257, .f32⟩
  | 89 => ⟨S1x16x2x8x128x257, .f32⟩
  | 90 => ⟨S_, .f32⟩
  | 91 => ⟨S1x16x2x8x128, .f32⟩
  | 92 => ⟨S1x16x2x8x128x1, .f32⟩
  | 93 => ⟨S1x16x2x8x128x257, .f32⟩
  | 94 => ⟨S1x16x2x8x128x257, .f32⟩
  | 95 => ⟨S1x16x2x8x128x256, .f32⟩
  | 96 => ⟨S1x16x2x64x8x128, .f32⟩
  | 97 => ⟨S1x16x128x2x8x64, .f32⟩
  | 98 => ⟨S1x2048x1024, .f32⟩
  | 99 => ⟨S1x2048x1024, .f32⟩
  | 100 => ⟨S1x2048x1024, .f32⟩
  | 101 => ⟨S_, .f32⟩
  | 102 => ⟨S1x2048x1024, .f32⟩
  | 103 => ⟨S1x2048x1024, .f32⟩
  | 104 => ⟨S_, .f32⟩
  | 105 => ⟨S1x2048x1024, .f32⟩
  | 106 => ⟨S1x2048x1024, .f32⟩
  | 107 => ⟨S1x2048x1024, .f32⟩
  | 108 => ⟨S1x2048x1024, .f32⟩
  | 109 => ⟨S1024, .f32⟩
  | 110 => ⟨S1024, .f32⟩
  | 111 => ⟨S8x128x128, .f32⟩
  | 112 => ⟨S8x128, .f32⟩
  | 113 => ⟨S_, .f32⟩
  | 114 => ⟨S1x2048, .f32⟩
  | 115 => ⟨S1x2048x1, .f32⟩
  | 116 => ⟨S_, .f32⟩
  | 117 => ⟨S1x2048x1, .f32⟩
  | 118 => ⟨S1x2048x1, .f32⟩
  | 119 => ⟨S1x2048x1024, .f32⟩
  | 120 => ⟨S1x2048x1024, .f32⟩
  | 121 => ⟨S1x2048x1024, .f32⟩
  | 122 => ⟨S_, .f32⟩
  | 123 => ⟨S1x2048, .f32⟩
  | 124 => ⟨S1x2048x1, .f32⟩
  | 125 => ⟨S_, .f32⟩
  | 126 => ⟨S1x2048x1, .f32⟩
  | 127 => ⟨S1x2048x1, .f32⟩
  | _ => ⟨S2048x5376, .f32⟩

abbrev hbmTy0_1 (i : Nat) : BufTy := match i % 128 with
  | 0 => ⟨S1x2048x1024, .f32⟩
  | 1 => ⟨S1x2048x1024, .f32⟩
  | 2 => ⟨S_, .f32⟩
  | 3 => ⟨S1x2048x1, .f32⟩
  | 4 => ⟨S1x2048x1, .f32⟩
  | 5 => ⟨S1x2048x1, .f32⟩
  | 6 => ⟨S1x2048x1024, .f32⟩
  | 7 => ⟨S1x2048x1024, .f32⟩
  | 8 => ⟨S1x1x1024, .f32⟩
  | 9 => ⟨S1x2048x1024, .f32⟩
  | 10 => ⟨S1x2048x1024, .f32⟩
  | 11 => ⟨S1x1x1024, .f32⟩
  | 12 => ⟨S1x2048x1024, .f32⟩
  | 13 => ⟨S1x2048x1024, .f32⟩
  | 14 => ⟨S1x16x128x8x128, .f32⟩
  | 15 => ⟨S_, .f32⟩
  | 16 => ⟨S128x128, .f32⟩
  | 17 => ⟨S128x128, .i32⟩
  | 18 => ⟨S_, .i32⟩
  | 19 => ⟨S128x128, .i32⟩
  | 20 => ⟨S128x128, .i32⟩
  | 21 => ⟨S128x128, .i32⟩
  | 22 => ⟨S128x128, .i1⟩
  | 23 => ⟨S_, .f32⟩
  | 24 => ⟨S128x128, .f32⟩
  | 25 => ⟨S128x128, .f32⟩
  | 26 => ⟨S1x128x128, .f32⟩
  | 27 => ⟨S8x128x128, .f32⟩
  | 28 => ⟨S8x128x128, .f32⟩
  | 29 => ⟨S8x1x16x128x128, .f32⟩
  | 30 => ⟨S1x16x128x8x128, .f32⟩
  | 31 => ⟨S128x8, .f32⟩
  | 32 => ⟨S1x1x128x8x1, .f32⟩
  | 33 => ⟨S1x16x128x8x128, .f32⟩
  | 34 => ⟨S1x16x128x8x128, .f32⟩
  | 35 => ⟨S1x2048x1024, .f32⟩
  | 36 => ⟨S1x2048x1024, .f32⟩
  | 37 => ⟨S1x2048x1024, .f32⟩
  | 38 => ⟨S1x2048x1024, .f32⟩
  | 39 => ⟨S_, .f32⟩
  | 40 => ⟨S1x2048x1024, .f32⟩
  | 41 => ⟨S1x2048x1024, .f32⟩
  | 42 => ⟨S_, .f32⟩
  | 43 => ⟨S1x2048x1024, .f32⟩
  | 44 => ⟨S1x2048x1024, .f32⟩
  | 45 => ⟨S1x2048x1024, .f32⟩
  | 46 => ⟨S1x2048x1024, .f32⟩
  | 47 => ⟨S1x2048x2048, .f32⟩
  | 48 => ⟨S1x16x2x8x128x256, .f32⟩
  | 49 => ⟨S16x2x8x128x256, .f32⟩
  | 50 => ⟨S16x2x256x8x128, .f32⟩
  | 51 => ⟨S1x16x2x8x128x1, .f32⟩
  | 52 => ⟨S16x2x8x128, .f32⟩
  | 53 => ⟨S2048x2048, .f32⟩
  | 54 => ⟨S2048x2048, .bf16⟩
  | 55 => ⟨S16x2x256x1024, .f32⟩
  | 56 => ⟨S16x2x256x1024, .bf16⟩
  | 57 => ⟨S16x2x1x1024, .f32⟩
  | _ => ⟨S2048x5376, .f32⟩

abbrev hbmTy (i : Nat) : BufTy := match i / 128 with
  | 0 => hbmTy0_0 i
  | 1 => hbmTy0_1 i
  | _ => ⟨S2048x5376, .f32⟩

abbrev bufTy : (tb : Table) → Fin (tcTables nBuf tb) → BufTy
  | .hbm, ⟨i, _⟩ => hbmTy i
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_2 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_10 : Ref sig .tc := ⟨.hbm, 113, rfl⟩
abbrev main_v84 : Ref sig .tc := ⟨.hbm, 114, rfl⟩
abbrev main_v85 : Ref sig .tc := ⟨.hbm, 115, rfl⟩
abbrev main_cst_11 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_12 : Ref sig .tc := ⟨.hbm, 122, rfl⟩
abbrev main_v91 : Ref sig .tc := ⟨.hbm, 123, rfl⟩
abbrev main_v92 : Ref sig .tc := ⟨.hbm, 124, rfl⟩
abbrev main_cst_13 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_14 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_15 : Ref sig .tc := ⟨.hbm, 143, rfl⟩
abbrev main_v109 : Ref sig .tc := ⟨.hbm, 144, rfl⟩
abbrev main_call2_v0 : Ref sig .tc := ⟨.hbm, 145, rfl⟩
abbrev main_call2_c : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_cst : Ref sig .tc := ⟨.hbm, 151, rfl⟩
abbrev main_call2_v5 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call3_v0 : Ref sig .tc := ⟨.hbm, 165, rfl⟩
abbrev main_call3_v1 : Ref sig .tc := ⟨.hbm, 166, rfl⟩
abbrev main_call3_cst : Ref sig .tc := ⟨.hbm, 167, rfl⟩
abbrev main_call3_v2 : Ref sig .tc := ⟨.hbm, 168, rfl⟩
abbrev main_call3_v3 : Ref sig .tc := ⟨.hbm, 169, rfl⟩
abbrev main_call3_cst_0 : Ref sig .tc := ⟨.hbm, 170, rfl⟩
abbrev main_call3_v4 : Ref sig .tc := ⟨.hbm, 171, rfl⟩
abbrev main_call3_v5 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]
-- ==== Proof.Reals.lean ====
/-
  Finite extended reals as real numbers: the operations of the two programs on the copies of real numbers in the
  extended reals, the constants the programs use, and what a finiteness precondition says of an array.
-/
module

public import Idealize.ShloMosaic.Lib.Pointwise
public import Idealize.ShloMosaic.Lib.IdealHost

@[expose] public section

noncomputable section

namespace Cert.Reals

open Idealize.ShloMosaic

/-- A finite sum of real numbers, taken in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem one_add_coe (a : ℝ) : (1 : EReal) + (a : EReal) = ((1 + a : ℝ) : EReal) := by
  rw [EReal.coe_add, EReal.coe_one]

/-- The quotient of two real numbers, the divisor not zero. -/
theorem coe_div (a : ℝ) {b : ℝ} (hb : b ≠ 0) : Ideal.div (a : EReal) (b : EReal) = ((a / b : ℝ) : EReal) := by
  have h : (b : EReal) ≠ 0 := fun h => hb (EReal.coe_eq_zero.mp h)
  rw [Ideal.div, if_neg h, div_eq_mul_inv, EReal.coe_mul, EReal.coe_inv]

/-- The reciprocal square root of a positive real number. -/
theorem coe_rsqrt {v : ℝ} (hv : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg hv.le.not_gt, if_neg hv.ne']

/-- The small constant under the root of the normalisation: the single-precision number nearest to 1e-6. -/
def eps : ℝ := 8796093 * (2 : ℝ) ^ (-43 : ℤ)

theorem eps_pos : 0 < eps := by unfold eps; positivity

theorem lit_eps : Ideal.ofBits .f32 0x358637BD#32 = ((eps : ℝ) : EReal) := by
  simp [Ideal.ofBits, Ideal.ieee, eps]

theorem lit_2048 : Ideal.ofBits .f32 0x45000000#32 = ((2048 : ℝ) : EReal) := by
  simp [Ideal.ofBits, Ideal.ieee]
  rw [← EReal.coe_mul]
  norm_num

theorem lit_inv_2048 : Ideal.ofBits .f32 0x3A000000#32 = ((1 / 2048 : ℝ) : EReal) := by
  simp [Ideal.ofBits, Ideal.ieee]
  rw [← EReal.coe_mul]
  norm_num

theorem lit_one : Ideal.ofBits .f32 0x3F800000#32 = ((1 : ℝ) : EReal) := by
  simp [Ideal.ofBits, Ideal.ieee]
  rw [← EReal.coe_mul]
  norm_num

theorem lit_half : Ideal.ofBits .f32 0x3F000000#32 = ((1 / 2 : ℝ) : EReal) := by
  simp [Ideal.ofBits, Ideal.ieee]
  rw [← EReal.coe_mul]
  norm_num

theorem lit_neg_half : Ideal.ofBits .f32 0xBF000000#32 = ((-(1 / 2) : ℝ) : EReal) := by
  simp [Ideal.ofBits, Ideal.ieee]
  rw [← EReal.coe_mul]
  norm_num

theorem lit_two : Ideal.ofBits .f32 0x40000000#32 = ((2 : ℝ) : EReal) := by
  simp [Ideal.ofBits, Ideal.ieee]
  rw [← EReal.coe_mul]
  norm_num

theorem lit_zero : Ideal.ofBits .f32 0x00000000#32 = ((0 : ℝ) : EReal) := by
  rw [Ideal.ofBits_zero_f32, EReal.coe_zero]

theorem lit_inf : Ideal.ofBits .f32 0x7F800000#32 = ⊤ := by
  simp [Ideal.ofBits, Ideal.ieee]

theorem lit_ninf : Ideal.ofBits .f32 0xFF800000#32 = ⊥ := by
  simp [Ideal.ofBits, Ideal.ieee]

theorem lit_inf_bf16 : Ideal.ofBits .bf16 0x7F80#16 = ⊤ := by
  simp [Ideal.ofBits, Ideal.ieee]

/-- An extended real whose absolute value is below infinity is a real number. -/
theorem coe_toReal {a : EReal} (h : max a (-a) < ⊤) : ((a.toReal : ℝ) : EReal) = a := by
  rw [max_lt_iff] at h
  refine EReal.coe_toReal h.1.ne fun hb => ?_
  rw [hb] at h
  exact absurd h.2 (by simp)

/-- An array whose elements compare below infinity in absolute value is the copy of an array of real numbers. -/
theorem lift_of_olt {s : Shape} (hb : (⟨0, ![]⟩ : Shape).BroadcastsInDim s (![] : Fin 0 → Fin s.rank)) (x : s.Idx → EReal) {φ : FTy}
    {w : BitVec φ.bits} (hw : Ideal.ofBits φ w = ⊤)
    (h : cmpf (F := Ideal) (φ := φ) .olt (Host.absf (F := Ideal) (φ := φ) x)
      (broadcastInDim s ![] hb (constant (F := Ideal) ⟨0, ![]⟩ φ w)) = fun _ => 1#1) :
    ∃ r : s.Idx → ℝ, x = fun i => ((r i : ℝ) : EReal) := by
  refine ⟨fun i => (x i).toReal, funext fun i => (coe_toReal ?_).symm⟩
  have hi := congrFun h i
  have hi' : Ideal.cmp .olt (max (x i) (-x i)) (Ideal.ofBits φ w) = 1#1 := hi
  rw [hw] at hi'
  by_contra hc
  revert hi'
  simp [Ideal.cmp, hc]

/-- A sum reduction at an index, along a listing of the elements that reduce to the index. -/
theorem hostReduceAdd_fibre {s t : Shape} {axes : List (Fin s.rank)} (h : s.ReducesTo axes t) (v : s.Idx → EReal)
    (c : EReal) (j : t.Idx) {κ : Type} [Fintype κ] (g : κ → s.Idx) (hg : Function.Injective g)
    (hp : ∀ i, h.drop i = j ↔ ∃ k, g k = i) : Ideal.hostReduceAdd h v c j = c + ∑ k, v (g k) :=
  congrArg (c + ·) (Finset.sum_filter_eq_sum_of_fiber _ g hg hp v)

open Pointwise in
/-- A sum over the first two axes, the first of one element: the initial value plus the sum along the second axis. -/
theorem hostReduceAdd_unit_front {n l : ℕ} (h : (⟨3, ![1, n, l]⟩ : Shape).ReducesTo [0, 1] ⟨1, ![l]⟩)
    (v : (⟨3, ![1, n, l]⟩ : Shape).Idx → EReal) (c : EReal) (j : (⟨1, ![l]⟩ : Shape).Idx) :
    Ideal.hostReduceAdd h v c j = c + ∑ k : Fin n, v (ix3 0 k (j 0)) := by
  have hp : ∀ i, h.drop i = j ↔ ∃ k : Fin n, ix3 (0 : Fin 1) k (j 0) = i := by
    refine fun i => ⟨fun e => ⟨i 1, ?_⟩, ?_⟩
    · funext a
      apply Fin.ext
      match a with
      | ⟨0, _⟩ => exact (congrArg Fin.val (Fin.fin_one_eq_zero (i 0))).symm
      | ⟨1, _⟩ => rfl
      | ⟨2, _⟩ => exact (congrArg Fin.val (congrFun e 0)).symm
    · rintro ⟨k, rfl⟩
      funext b
      match b with
      | ⟨0, _⟩ => rfl
  exact hostReduceAdd_fibre h v c j (fun k : Fin n => ix3 (0 : Fin 1) k (j 0)) (fun _ _ e => congrFun e 1) hp

open Pointwise in
/-- A sum over the first and the last axis, the first of one element: the initial value plus the sum along the last. -/
theorem hostReduceAdd_unit_ends {n l : ℕ} (h : (⟨3, ![1, n, l]⟩ : Shape).ReducesTo [0, 2] ⟨1, ![n]⟩)
    (v : (⟨3, ![1, n, l]⟩ : Shape).Idx → EReal) (c : EReal) (j : (⟨1, ![n]⟩ : Shape).Idx) :
    Ideal.hostReduceAdd h v c j = c + ∑ k : Fin l, v (ix3 0 (j 0) k) := by
  have hp : ∀ i, h.drop i = j ↔ ∃ k : Fin l, ix3 (0 : Fin 1) (j 0) k = i := by
    refine fun i => ⟨fun e => ⟨i 2, ?_⟩, ?_⟩
    · funext a
      apply Fin.ext
      match a with
      | ⟨0, _⟩ => exact (congrArg Fin.val (Fin.fin_one_eq_zero (i 0))).symm
      | ⟨1, _⟩ => exact (congrArg Fin.val (congrFun e 0)).symm
      | ⟨2, _⟩ => rfl
    · rintro ⟨k, rfl⟩
      funext b
      match b with
      | ⟨0, _⟩ => rfl
  exact hostReduceAdd_fibre h v c j (fun k : Fin l => ix3 (0 : Fin 1) (j 0) k) (fun _ _ e => congrFun e 2) hp

end Cert.Reals

end
-- ==== Proof.Norm.lean ====
/-
  The gradient of the root-mean-square normalisation over real numbers, one row at a time.
-/
module

public import proofs.«01_k».proof.Proof.Reals

@[expose] public section

noncomputable section

namespace Cert.Norm

open Cert.Reals

/-- The mean square of a row, with the small constant added. -/
def msq {n : ℕ} (x : Fin n → ℝ) : ℝ := (∑ c, x c * x c) / 2048 + eps

theorem msq_pos {n : ℕ} (x : Fin n → ℝ) : 0 < msq x :=
  add_pos_of_nonneg_of_pos (div_nonneg (Finset.sum_nonneg fun c _ => mul_self_nonneg (x c)) (by norm_num)) eps_pos

/-- The factor a row is scaled by. -/
def rinv {n : ℕ} (x : Fin n → ℝ) : ℝ := (Real.sqrt (msq x))⁻¹

theorem rinv_sq {n : ℕ} (x : Fin n → ℝ) : rinv x * rinv x * msq x = 1 := by
  have h := Real.mul_self_sqrt (msq_pos x).le
  have h0 : Real.sqrt (msq x) ≠ 0 := (Real.sqrt_pos.mpr (msq_pos x)).ne'
  unfold rinv
  field_simp
  nlinarith [h]

/-- The gradient of the normalised row `x * rinv x` along the cotangent `d`, as one pass over the row computes it. -/
def grad {n : ℕ} (x d : Fin n → ℝ) (c : Fin n) : ℝ :=
  rinv x * (d c - x c * rinv x * ((∑ k, d k * (x k * rinv x)) / 2048))

/-- The same gradient by the chain rule through the reciprocal root of the mean square. -/
theorem grad_eq {n : ℕ} (x d : Fin n → ℝ) (c : Fin n) :
    grad x d c = d c * rinv x + (x c * ((∑ k, x k * d k) * (-(1 / 2) * (rinv x / msq x)) / 2048)
      + (∑ k, x k * d k) * (-(1 / 2) * (rinv x / msq x)) / 2048 * x c) := by
  have hm : msq x ≠ 0 := (msq_pos x).ne'
  have hd : rinv x / msq x = rinv x * rinv x * rinv x := by
    rw [div_eq_iff hm]
    linear_combination (-rinv x) * rinv_sq x
  have hs : ∑ k, d k * (x k * rinv x) = (∑ k, x k * d k) * rinv x := by
    rw [Finset.sum_mul]
    exact Finset.sum_congr rfl fun k _ => by ring
  rw [hd, grad, hs]
  ring

end Cert.Norm

end
-- ==== Proof.ZProjKernel.lean ====
module

public import proofs.«01_k».proof.Proof.Gen.KernelIdeal.Value
public import Idealize.ShloMosaic.Lib.Pointwise
public import Idealize.ShloMosaic.Lib.Pipeline.ValueKit
public import proofs.«01_k».proof.Proof.Norm

@[expose] public section

set_option maxRecDepth 16384
set_option backward.proofsInPublic true
noncomputable section
namespace Cert.KernelIdeal.Closed
open Idealize.ShloMosaic Idealize.ShloMosaic.TcCoe Idealize.SL.Sem Idealize.ShloMosaic.Pointwise Cert.Reals Cert.Norm
open Cert.KernelIdeal Cert.KernelIdeal.Gen

variable (m : (ℓ : Loc nD τ sig) → Buf (Elt Ideal) ℓ)

theorem idx (t : Fin cfg0.N) : win0_0.index t = ![t.val, 0] ∧ win0_1.index t = ![0, 0] ∧ win0_2.index t = ![t.val, 0]
    ∧ win0_3.index t = ![t.val, 0] ∧ win0_4.index t = ![0, 0] ∧ win0_5.index t = ![0, 1] ∧ win0_7.index t = ![t.val, 0] := by
  revert t; decide +kernel

theorem blk0 (c : Dev nD) (t : Fin cfg0.N) (r : Fin 256) (k : Fin 5376) (h : t.val * 256 + r.val < 2048) :
    iblk m c 0 t (ix2 r k) = m ((c : Thread nD τ).loc main_arg4) (ix2 ⟨t.val * 256 + r.val, h⟩ k) := by
  blk_ext [Gen.iblk, Gen.V, idx t]

theorem blk1 (c : Dev nD) (t : Fin cfg0.N) (r : Fin 2048) (k : Fin 5376)  :
    iblk m c 1 t (ix2 k r) = m ((c : Thread nD τ).loc main_arg3) (ix3 0 r k) := by
  blk_ext! [Gen.iblk, Gen.V, idx t]

theorem blk2 (c : Dev nD) (t : Fin cfg0.N) (r : Fin 256) (k : Fin 2048) (h : t.val * 256 + r.val < 2048) :
    iblk m c 2 t (ix2 r k) = m ((c : Thread nD τ).loc main_arg0) (ix3 0 ⟨t.val * 256 + r.val, h⟩ k) := by
  blk_ext! [Gen.iblk, Gen.V, idx t]

theorem blk3 (c : Dev nD) (t : Fin cfg0.N) (r : Fin 256) (k : Fin 2048) (h : t.val * 256 + r.val < 2048) :
    iblk m c 3 t (ix2 r k) = m ((c : Thread nD τ).loc main_arg5) (ix2 ⟨t.val * 256 + r.val, h⟩ k) := by
  blk_ext! [Gen.iblk, Gen.V, idx t]

theorem blk4 (c : Dev nD) (t : Fin cfg0.N) (k : Fin 2048) :
    iblk m c 4 t (ix2 0 k) = m ((c : Thread nD τ).loc main_arg1) (ix2 0 k) := by
  blk_ext! [Gen.iblk, Gen.V, idx t]

theorem blk5 (c : Dev nD) (t : Fin cfg0.N) (k : Fin 2048) (h : 2048 + k.val < 6144) :
    iblk m c 5 t (ix2 0 k) = m ((c : Thread nD τ).loc main_arg2) (ix2 0 ⟨2048 + k.val, h⟩) := by
  blk_ext! [Gen.iblk, Gen.V, idx t]

section Block
variable (b0 : Vec Ideal S256x5376 .bf16) (b1 : Vec Ideal S5376x2048 .bf16) (b2 : Vec Ideal S256x2048 .f32)
  (b4 b5 : Vec Ideal S1x2048 .f32)
  (dz : Fin 256 → Fin 5376 → ℝ) (w : Fin 2048 → Fin 5376 → ℝ) (x : Fin 256 → Fin 2048 → ℝ) (g s : Fin 2048 → ℝ)
  (h0 : ∀ r k, b0 (ix2 r k) = ((dz r k : ℝ) : EReal)) (h1 : ∀ k l, b1 (ix2 k l) = ((w l k : ℝ) : EReal))
  (h2 : ∀ r l, b2 (ix2 r l) = ((x r l : ℝ) : EReal)) (h4 : ∀ l, b4 (ix2 0 l) = ((g l : ℝ) : EReal))
  (h5 : ∀ l, b5 (ix2 0 l) = ((s l : ℝ) : EReal))

include h0 h1 in
theorem pay7_apply (r : Fin 256) (l : Fin 2048) : k0_pay7 b0 b1 (ix2 r l) = ((∑ k, dz r k * w l k : ℝ) : EReal) := by
  pointwise [k0_pay7]
  simp only [h0, h1, ← EReal.coe_mul, coe_sum]

include h2 in
theorem pay10_apply (r : Fin 256) : k0_pay10 b2 (ix2 r 0) = ((rinv (x r) : ℝ) : EReal) := by
  pointwise [k0_pay10, k0_pay8]
  simp only [h2, lit_2048, lit_eps, ← EReal.coe_mul, coe_sum]
  rw [coe_div _ (by norm_num), ← EReal.coe_add]
  exact coe_rsqrt (msq_pos (x r))

include h2 in
theorem pay11_apply (r : Fin 256) (l : Fin 2048) : k0_pay11 b2 (ix2 r l) = ((x r l * rinv (x r) : ℝ) : EReal) := by
  pointwise [k0_pay11, k0_pay8]
  rw [pay10_apply b2 x h2, h2, EReal.coe_mul]

include h0 h1 h2 in
theorem pay13_apply (r : Fin 256) (l : Fin 2048) :
    k0_pay13 b0 b1 b2 (ix2 r l) = (((∑ k, dz r k * w l k) * (x r l * rinv (x r)) : ℝ) : EReal) := by
  pointwise [k0_pay13]
  rw [pay7_apply b0 b1 dz w h0 h1, pay11_apply b2 x h2, ← EReal.coe_mul]

include h4 h5 in
theorem pay12_apply (l : Fin 2048) : k0_pay12 b4 b5 (ix2 0 l) = (((1 + s l) * g l : ℝ) : EReal) := by
  pointwise [k0_pay12, k0_pay9]
  rw [h4, h5, one_add_coe, ← EReal.coe_mul]

include h0 h1 h2 h4 h5 in
theorem pay3_apply (b3 : Vec Ideal S256x2048 .f32) (r : Fin 256) (l : Fin 2048) :
    k0_pay3 (k0_pay7 b0 b1) (k0_pay10 b2) (k0_pay11 b2) (k0_pay12 b4 b5) (k0_pay13 b0 b1 b2) b3 (ix2 r l)
      = b3 (ix2 r l) + ((grad (x r) (fun l => (∑ k, dz r k * w l k) * ((1 + s l) * g l)) l : ℝ) : EReal) := by
  pointwise [k0_pay3]
  simp only [pay7_apply b0 b1 dz w h0 h1, pay10_apply b2 x h2, pay11_apply b2 x h2, pay12_apply b4 b5 g s h4 h5,
    pay13_apply b0 b1 b2 dz w x h0 h1 h2, lit_2048, ← EReal.coe_mul, coe_sum]
  rw [coe_div _ (by norm_num), ← EReal.coe_mul, ← EReal.coe_sub, ← EReal.coe_mul]
  refine congrArg (fun v : ℝ => b3 (ix2 r l) + (v : EReal)) ?_
  unfold grad
  refine congrArg (fun v : ℝ => rinv (x r) * ((∑ k, dz r k * w l k) * ((1 + s l) * g l) - x r l * rinv (x r) * (v / 2048))) ?_
  exact Finset.sum_congr rfl fun k _ => by ring

include h0 h1 in
theorem pay15_apply (a : Vec Ideal S1x2048 .f32) (l : Fin 2048) :
    k0_pay15 b0 b1 a (ix2 0 l) = a (ix2 0 l) + ((∑ r, ∑ k, dz r k * w l k : ℝ) : EReal) := by
  pointwise [k0_pay15]
  simp only [pay7_apply b0 b1 dz w h0 h1, coe_sum]

include h0 h1 h2 in
theorem pay14_apply (l : Fin 2048) :
    k0_pay14 b0 b1 b2 (ix2 0 l) = ((∑ r, (∑ k, dz r k * w l k) * (x r l * rinv (x r)) : ℝ) : EReal) := by
  pointwise [k0_pay14]
  simp only [pay13_apply b0 b1 b2 dz w x h0 h1 h2, coe_sum]

include h0 h1 h2 h4 in
theorem pay1_apply (a : Vec Ideal S1x2048 .f32) (l : Fin 2048) :
    k0_pay1 b4 (k0_pay14 b0 b1 b2) a (ix2 0 l)
      = a (ix2 0 l) + ((∑ r, (∑ k, dz r k * w l k) * (x r l * rinv (x r)) * g l : ℝ) : EReal) := by
  pointwise [k0_pay1]
  rw [pay14_apply b0 b1 b2 dz w x h0 h1 h2, h4, ← EReal.coe_mul, Finset.sum_mul]

include h0 h1 h2 h5 in
theorem pay2_apply (a : Vec Ideal S1x2048 .f32) (l : Fin 2048) :
    k0_pay2 (k0_pay9 b5) (k0_pay14 b0 b1 b2) a (ix2 0 l)
      = a (ix2 0 l) + ((∑ r, (∑ k, dz r k * w l k) * (x r l * rinv (x r)) * (1 + s l) : ℝ) : EReal) := by
  pointwise [k0_pay2, k0_pay9]
  rw [pay14_apply b0 b1 b2 dz w x h0 h1 h2, h5, one_add_coe, ← EReal.coe_mul, Finset.sum_mul]

end Block

variable (c : Dev nD) (dz : Fin 2048 → Fin 5376 → ℝ) (w : Fin 2048 → Fin 5376 → ℝ) (x : Fin 2048 → Fin 2048 → ℝ)
  (g s : Fin 2048 → ℝ)
  (h0 : ∀ r k, m ((c : Thread nD τ).loc main_arg4) (ix2 r k) = ((dz r k : ℝ) : EReal))
  (h1 : ∀ l k, m ((c : Thread nD τ).loc main_arg3) (ix3 0 l k) = ((w l k : ℝ) : EReal))
  (h2 : ∀ r l, m ((c : Thread nD τ).loc main_arg0) (ix3 0 r l) = ((x r l : ℝ) : EReal))
  (h4 : ∀ l, m ((c : Thread nD τ).loc main_arg1) (ix2 0 l) = ((g l : ℝ) : EReal))
  (h5 : ∀ l : Fin 2048, m ((c : Thread nD τ).loc main_arg2) (ix2 0 ⟨2048 + l.val, by omega⟩) = ((s l : ℝ) : EReal))

/-- Row `r` of the block of point `t`, as a row of the array. -/
def row (t : Fin cfg0.N) (r : Fin 256) : Fin 2048 := ⟨t.val * 256 + r.val, by have := t.isLt; have h : cfg0.N = 8 := N_0; omega⟩

theorem row_eq (t : Fin cfg0.N) (r : Fin 256) (h : t.val * 256 + r.val < 2048) : (⟨t.val * 256 + r.val, h⟩ : Fin 2048) = row t r := rfl

include h0 in
theorem blk0_coe (t : Fin cfg0.N) (r : Fin 256) (k : Fin 5376) : iblk m c 0 t (ix2 r k) = ((dz (row t r) k : ℝ) : EReal) :=
  (blk0 m c t r k (row t r).isLt).trans (h0 (row t r) k)

include h1 in
theorem blk1_coe (t : Fin cfg0.N) (k : Fin 5376) (l : Fin 2048) : iblk m c 1 t (ix2 k l) = ((w l k : ℝ) : EReal) :=
  (blk1 m c t l k).trans (h1 l k)

include h2 in
theorem blk2_coe (t : Fin cfg0.N) (r : Fin 256) (l : Fin 2048) : iblk m c 2 t (ix2 r l) = ((x (row t r) l : ℝ) : EReal) :=
  (blk2 m c t r l (row t r).isLt).trans (h2 (row t r) l)

include h4 in
theorem blk4_coe (t : Fin cfg0.N) (l : Fin 2048) : iblk m c 4 t (ix2 0 l) = ((g l : ℝ) : EReal) :=
  (blk4 m c t l).trans (h4 l)

include h5 in
theorem blk5_coe (t : Fin cfg0.N) (l : Fin 2048) : iblk m c 5 t (ix2 0 l) = ((s l : ℝ) : EReal) :=
  (blk5 m c t l _).trans (h5 l)

include h0 h1 h2 h4 h5 in
theorem gx_array (dx2 : S2048x2048.Idx → EReal) (h3 : m ((c : Thread nD τ).loc main_arg5) = dx2) :
    (dats m 0 c).arrAt 7 cfg0.N = fun i : S2048x2048.Idx => dx2 i
    + ((grad (x (i 0)) (fun l => (∑ k, dz (i 0) k * w l k) * ((1 + s l) * g l)) (i 1) : ℝ) : EReal) := by
  refine (dats m 0 c).arrAt_eq_of_covers 7 _ (by decide +kernel) fun t hf y => ?_
  blk_simp
  rw [after0_7]
  have hpay : ∀ y : S256x2048.Idx, k0_pay3 (k0_pay7 (iblk m c 0 t) (iblk m c 1 t)) (k0_pay10 (iblk m c 2 t)) (k0_pay11 (iblk m c 2 t))
      (k0_pay12 (iblk m c 4 t) (iblk m c 5 t)) (k0_pay13 (iblk m c 0 t) (iblk m c 1 t) (iblk m c 2 t)) (iblk m c 3 t) y
      = dx2 (ix2 (row t (y 0)) (y 1)) + ((grad (x (row t (y 0))) (fun l => (∑ k, dz (row t (y 0)) k * w l k) * ((1 + s l) * g l)) (y 1) : ℝ) : EReal) := by
    intro y
    idx_vars y
    rw [pay3_apply _ _ _ _ _ (fun r k => dz (row t r) k) w (fun r => x (row t r)) g s (blk0_coe m c dz h0 t) (blk1_coe m c w h1 t)
      (blk2_coe m c x h2 t) (blk4_coe m c g h4 t) (blk5_coe m c s h5 t), blk3 m c t _ _ (row t _).isLt, h3]
    rfl
  have he : ((View.whole main_v4_0).slice (win0_7.rect t)).emb y = ix2 (row t (y 0)) (y 1) := by
    funext a
    apply Fin.ext
    fin_cases a
    · blk_simp [idx t]
      rfl
    · blk_simp [idx t]
      rfl
  rw [he]
  by_cases h : t.val % 8 = 0
  · rw [outsAt0_A m c t h]
    frame_out
    exact hpay y
  · rw [outsAt0_B m c t h]
    frame_out
    exact hpay y

/-- The rows of the blocks, block after block, are all the rows. -/
theorem sum_rows (f : Fin 2048 → ℝ) : (∑ t : Fin cfg0.N, ∑ r : Fin 256, f (row t r)) = ∑ r, f r :=
  Fin.sum_mul_add_fin 8 256 f

theorem pay4_apply (i : S1x2048.Idx) : k0_pay4 (F := Ideal) i = 0 := by pointwise [k0_pay4]

theorem pay5_apply (i : S1x2048.Idx) : k0_pay5 (F := Ideal) i = 0 := by pointwise [k0_pay5]

theorem pay6_apply (i : S1x2048.Idx) : k0_pay6 (F := Ideal) i = 0 := by pointwise [k0_pay6]

include h0 h1 in
theorem dshift_array : (dats m 0 c).arrAt 8 cfg0.N = fun i : S1x2048.Idx => ((∑ r, ∑ k, dz r k * w (i 1) k : ℝ) : EReal) := by
  refine (dats m 0 c).arrAt_eq_of_after_last 8 t0_7 (by decide +kernel) _ fun j => ?_
  idx_vars j
  rw [Gen.after0_8, Pipeline.eq_sum_fin_of_reset_step_apply_last (fun n h => (Gen.outsAt0 m c n h).2.1) 8 (fun _ => 0)
    (fun t j => ((∑ r : Fin 256, ∑ k, dz (row t r) k * w (j 1) k : ℝ) : EReal)) ?_ ?_ (le_of_eq Gen.N_0) Gen.t0_7 rfl _, zero_add]
  · exact (coe_sum _ _).trans (congrArg _ (sum_rows fun r => ∑ k, dz r k * w j1 k))
  · intro t ht i
    rw [outsAt0_A m c t ht]
    frame_out
    idx_vars i
    obtain rfl : i0 = 0 := Subsingleton.elim _ _
    refine (pay15_apply _ _ (fun r k => dz (row t r) k) w (blk0_coe m c dz h0 t) (blk1_coe m c w h1 t) _ i1).trans ?_
    rw [pay4_apply]
  · intro t ht i
    rw [outsAt0_B m c t ht]
    frame_out
    idx_vars i
    obtain rfl : i0 = 0 := Subsingleton.elim _ _
    exact pay15_apply _ _ (fun r k => dz (row t r) k) w (blk0_coe m c dz h0 t) (blk1_coe m c w h1 t) _ i1

include h0 h1 h2 h4 in
theorem dscale_array : (dats m 0 c).arrAt 9 cfg0.N = fun i : S1x2048.Idx => ((∑ r, (∑ k, dz r k * w (i 1) k) * (x r (i 1) * rinv (x r)) * g (i 1) : ℝ) : EReal) := by
  refine (dats m 0 c).arrAt_eq_of_after_last 9 t0_7 (by decide +kernel) _ fun j => ?_
  idx_vars j
  rw [Gen.after0_9, Pipeline.eq_sum_fin_of_reset_step_apply_last (fun n h => (Gen.outsAt0 m c n h).2.2.1) 8 (fun _ => 0)
    (fun t j => ((∑ r : Fin 256, (∑ k, dz (row t r) k * w (j 1) k) * (x (row t r) (j 1) * rinv (x (row t r))) * g (j 1) : ℝ) : EReal)) ?_ ?_ (le_of_eq Gen.N_0) Gen.t0_7 rfl _, zero_add]
  · exact (coe_sum _ _).trans (congrArg _ (sum_rows fun r => (∑ k, dz r k * w j1 k) * (x r j1 * rinv (x r)) * g j1))
  · intro t ht i
    rw [outsAt0_A m c t ht]
    frame_out
    idx_vars i
    obtain rfl : i0 = 0 := Subsingleton.elim _ _
    refine (pay1_apply _ _ _ _ (fun r k => dz (row t r) k) w (fun r => x (row t r)) g (blk0_coe m c dz h0 t) (blk1_coe m c w h1 t) (blk2_coe m c x h2 t) (blk4_coe m c g h4 t) _ i1).trans ?_
    rw [pay5_apply]
  · intro t ht i
    rw [outsAt0_B m c t ht]
    frame_out
    idx_vars i
    obtain rfl : i0 = 0 := Subsingleton.elim _ _
    exact pay1_apply _ _ _ _ (fun r k => dz (row t r) k) w (fun r => x (row t r)) g (blk0_coe m c dz h0 t) (blk1_coe m c w h1 t) (blk2_coe m c x h2 t) (blk4_coe m c g h4 t) _ i1

include h0 h1 h2 h5 in
theorem dg_array : (dats m 0 c).arrAt 10 cfg0.N = fun i : S1x2048.Idx => ((∑ r, (∑ k, dz r k * w (i 1) k) * (x r (i 1) * rinv (x r)) * (1 + s (i 1)) : ℝ) : EReal) := by
  refine (dats m 0 c).arrAt_eq_of_after_last 10 t0_7 (by decide +kernel) _ fun j => ?_
  idx_vars j
  rw [Gen.after0_10, Pipeline.eq_sum_fin_of_reset_step_apply_last (fun n h => (Gen.outsAt0 m c n h).2.2.2) 8 (fun _ => 0)
    (fun t j => ((∑ r : Fin 256, (∑ k, dz (row t r) k * w (j 1) k) * (x (row t r) (j 1) * rinv (x (row t r))) * (1 + s (j 1)) : ℝ) : EReal)) ?_ ?_ (le_of_eq Gen.N_0) Gen.t0_7 rfl _, zero_add]
  · exact (coe_sum _ _).trans (congrArg _ (sum_rows fun r => (∑ k, dz r k * w j1 k) * (x r j1 * rinv (x r)) * (1 + s j1)))
  · intro t ht i
    rw [outsAt0_A m c t ht]
    frame_out
    idx_vars i
    obtain rfl : i0 = 0 := Subsingleton.elim _ _
    refine (pay2_apply _ _ _ _ (fun r k => dz (row t r) k) w (fun r => x (row t r)) s (blk0_coe m c dz h0 t) (blk1_coe m c w h1 t) (blk2_coe m c x h2 t) (blk5_coe m c s h5 t) _ i1).trans ?_
    rw [pay6_apply]
  · intro t ht i
    rw [outsAt0_B m c t ht]
    frame_out
    idx_vars i
    obtain rfl : i0 = 0 := Subsingleton.elim _ _
    exact pay2_apply _ _ _ _ (fun r k => dz (row t r) k) w (fun r => x (row t r)) s (blk0_coe m c dz h0 t) (blk1_coe m c w h1 t) (blk2_coe m c x h2 t) (blk5_coe m c s h5 t) _ i1

end Cert.KernelIdeal.Closed

end
-- ==== Proof.ZProjReference.lean ====
module

public import proofs.«01_k».proof.Proof.Gen.ReferenceIdeal.Read
public import proofs.«01_k».proof.Proof.Norm

@[expose] public section

set_option maxRecDepth 16384
set_option backward.proofsInPublic true
noncomputable section
namespace Cert.ReferenceIdeal.Closed
open Idealize.ShloMosaic Idealize.ShloMosaic.Pointwise Cert.Reals Cert.Norm Cert.ReferenceIdeal.Read

variable (x0 : FVec Ideal S1x2048x2048 .f32) (x1 : FVec Ideal S1x2048 .f32) (x2 : FVec Ideal S1x6144 .f32)
  (x3 : FVec Ideal S1x2048x5376 .f32) (x4 : FVec Ideal S2048x5376 .bf16) (x5 : FVec Ideal S2048x2048 .f32)
  (dz : Fin 2048 → Fin 5376 → ℝ) (w : Fin 2048 → Fin 5376 → ℝ) (x : Fin 2048 → Fin 2048 → ℝ) (g s : Fin 2048 → ℝ)
  (h0 : ∀ r k, x4 (ix2 r k) = ((dz r k : ℝ) : EReal)) (h1 : ∀ l k, x3 (ix3 0 l k) = ((w l k : ℝ) : EReal))
  (h2 : ∀ r l, x0 (ix3 0 r l) = ((x r l : ℝ) : EReal)) (h4 : ∀ l, x1 (ix2 0 l) = ((g l : ℝ) : EReal))
  (h5 : ∀ l : Fin 2048, x2 (ix2 0 ⟨2048 + l.val, by omega⟩) = ((s l : ℝ) : EReal))

include h0 h1 in
theorem v33 (r l : Fin 2048) : val_main_v33 (F := Ideal) x3 x4 (ix3 0 r l) = ((∑ k, dz r k * w l k : ℝ) : EReal) := by
  pointwise [val_main_v33, val_main_v32, val_main_v31, val_main_v28]
  simp only [h0, h1, ← EReal.coe_mul, coe_sum]

include h2 in
theorem v10 (r : Fin 2048) : val_main_v10 (F := Ideal) x0 (ix3 0 r 0) = ((msq (x r) : ℝ) : EReal) := by
  pointwise [val_main_v10, val_main_v9, val_main_v8, val_main_v7, val_main_v6, val_main_v5, val_main_v4, val_main_cst,
    val_main_cst_0, val_main_cst_1]
  simp only [h2, lit_2048, lit_eps, ← EReal.coe_mul, coe_sum]
  rw [coe_div _ (by norm_num), ← EReal.coe_add]
  rfl

include h2 in
theorem v11 (r : Fin 2048) : val_main_v11 (F := Ideal) x0 (ix3 0 r 0) = ((rinv (x r) : ℝ) : EReal) := by
  pointwise [val_main_v11]
  rw [v10 x0 x h2]
  exact coe_rsqrt (msq_pos (x r))

include h2 in
theorem v14 (r : Fin 2048) :
    val_main_v14 (F := Ideal) x0 (ix3 0 r 0) = ((-(1 / 2) * (rinv (x r) / msq (x r)) : ℝ) : EReal) := by
  pointwise [val_main_v14, val_main_v13, val_main_v12, val_main_cst_2]
  rw [v10 x0 x h2, v11 x0 x h2, lit_neg_half, coe_div _ (msq_pos (x r)).ne', ← EReal.coe_mul]

include h2 in
theorem v16 (r l : Fin 2048) : val_main_v16 (F := Ideal) x0 (ix3 0 r l) = ((x r l * rinv (x r) : ℝ) : EReal) := by
  pointwise [val_main_v16, val_main_v15]
  rw [v11 x0 x h2, h2, ← EReal.coe_mul]

include h0 h1 h5 in
theorem v42 (r l : Fin 2048) :
    val_main_v42 (F := Ideal) x2 x3 x4 (ix3 0 r l) = (((∑ k, dz r k * w l k) * (1 + s l) : ℝ) : EReal) := by
  pointwise [val_main_v42, val_main_v41, val_main_v22, val_main_v21, val_main_v20, val_main_v1, val_main_cst_3]
  rw [v33 x3 x4 dz w h0 h1, h5, one_add_coe, ← EReal.coe_mul]

include h0 h1 h4 h5 in
theorem v49 (r l : Fin 2048) :
    val_main_v49 (F := Ideal) x1 x2 x3 x4 (ix3 0 r l) = (((∑ k, dz r k * w l k) * ((1 + s l) * g l) : ℝ) : EReal) := by
  pointwise [val_main_v49, val_main_v48, val_main_v17, val_main_v3]
  rw [v42 x2 x3 x4 dz w s h0 h1 h5, h4, ← EReal.coe_mul, mul_assoc]

include h0 h1 h2 h4 h5 in
theorem v57 (r : Fin 2048) : val_main_v59 (F := Ideal) x0 x1 x2 x3 x4 (ix3 0 r 0)
    = (((∑ l, x r l * ((∑ k, dz r k * w l k) * ((1 + s l) * g l))) * (-(1 / 2) * (rinv (x r) / msq (x r))) / 2048 : ℝ) : EReal) := by
  pointwise [val_main_v59, val_main_v58, val_main_cst_11, val_main_v57, val_main_v53, val_main_v52, val_main_v51, val_main_cst_10]
  simp only [v49 x1 x2 x3 x4 dz w g s h0 h1 h4 h5, h2, v14 x0 x h2, lit_2048, ← EReal.coe_mul, coe_sum]
  rw [coe_div _ (by norm_num)]

include h0 h1 h2 h4 h5 in
/-- The first result: the incoming gradient plus the gradient through the norm. -/
theorem v68 (r l : Fin 2048) : val_main_v68 (F := Ideal) x0 x1 x2 x3 x4 x5 (ix2 r l)
    = x5 (ix2 r l) + ((grad (x r) (fun l => (∑ k, dz r k * w l k) * ((1 + s l) * g l)) l : ℝ) : EReal) := by
  pointwise [val_main_v68, val_main_v66, val_main_v65, val_main_v64, val_main_v63, val_main_v62, val_main_v61, val_main_v60,
    val_main_cst_12, val_main_v56, val_main_v55, val_main_v54, val_main_v30]
  simp only [hostReduceAdd_unit_ends]
  pointwise
  simp only [Fin.sum_univ_one, v57 x0 x1 x2 x3 x4 dz w x g s h0 h1 h2 h4 h5, v49 x1 x2 x3 x4 dz w g s h0 h1 h4 h5, h2, v11 x0 x h2, ← EReal.coe_mul]
  rw [grad_eq]
  simp only [add_assoc, ← EReal.coe_add]

include h0 h1 in
theorem v37 (l : Fin 2048) : val_main_v37 (F := Ideal) x3 x4 (ix2 0 l) = ((∑ r, ∑ k, dz r k * w l k : ℝ) : EReal) := by
  pointwise [val_main_v37, val_main_v36, val_main_cst_5, val_main_v35, val_main_v34, val_main_cst_4]
  simp only [hostReduceAdd_unit_front]
  pointwise
  simp only [Finset.univ_unique, Finset.sum_singleton, Fin.isValue, v33 x3 x4 dz w h0 h1, coe_sum]

include h0 h1 h2 h4 in
theorem v44 (l : Fin 2048) : val_main_v44 (F := Ideal) x0 x1 x3 x4 (ix2 0 l)
    = ((∑ r, (∑ k, dz r k * w l k) * (x r l * rinv (x r)) * g l : ℝ) : EReal) := by
  pointwise [val_main_v44, val_main_v43, val_main_cst_7, val_main_v40, val_main_v39, val_main_cst_6, val_main_v38, val_main_v19,
    val_main_v18, val_main_v17, val_main_v3]
  simp only [hostReduceAdd_unit_front]
  pointwise
  simp only [Finset.univ_unique, Finset.sum_singleton, v33 x3 x4 dz w h0 h1, v16 x0 x h2, h4, ← EReal.coe_mul, coe_sum]
  exact congrArg _ (Finset.sum_congr rfl fun r _ => by ring)

include h0 h1 h2 h5 in
theorem v67 (l : Fin 2048) : val_main_v67 (F := Ideal) x0 x2 x3 x4 (ix2 0 l)
    = ((∑ r, (∑ k, dz r k * w l k) * (x r l * rinv (x r)) * (1 + s l) : ℝ) : EReal) := by
  pointwise [val_main_v67, val_main_v50, val_main_cst_9, val_main_v47, val_main_v46, val_main_cst_8, val_main_v45]
  simp only [hostReduceAdd_unit_front]
  pointwise
  simp only [Finset.univ_unique, Finset.sum_singleton, v42 x2 x3 x4 dz w s h0 h1 h5, v16 x0 x h2, ← EReal.coe_mul, coe_sum]
  exact congrArg _ (Finset.sum_congr rfl fun r _ => by ring)

end Cert.ReferenceIdeal.Closed

end
-- ==== Proof.ZProj.lean ====
module

public import proofs.«01_k».proof.Defs
public import proofs.«01_k».proof.Proof.ZProjKernel
public import proofs.«01_k».proof.Proof.ZProjReference
public import proofs.«01_k».proof.Proof.Gen.ReferenceIdeal.Run
public import proofs.«01_k».proof.Proof.Gen.Pre_finite_inputs
public import Idealize.ShloMosaic.Lib.Claim

@[expose] public section

set_option maxRecDepth 16384
set_option backward.proofsInPublic true
noncomputable section
namespace Cert.ZProj
open Idealize.ShloMosaic Idealize.ShloMosaic.TcCoe Idealize.SL.Sem Idealize.ShloMosaic.Pointwise Cert.Reals Cert.Norm

/-- The kernel's four arrays are the reference's four results, on the arguments the two share. -/
theorem results (m : (ℓ : Loc KernelIdeal.nD KernelIdeal.τ KernelIdeal.sig) → Buf (Elt Ideal) ℓ)
    (hpre : Pre_KernelIdeal_finite_inputs m) (c : Dev KernelIdeal.nD)
    (x0 : FVec Ideal ReferenceIdeal.S1x2048x2048 .f32) (x1 : FVec Ideal ReferenceIdeal.S1x2048 .f32)
    (x2 : FVec Ideal ReferenceIdeal.S1x6144 .f32) (x3 : FVec Ideal ReferenceIdeal.S1x2048x5376 .f32)
    (x4 : FVec Ideal ReferenceIdeal.S2048x5376 .bf16) (x5 : FVec Ideal ReferenceIdeal.S2048x2048 .f32)
    (e0 : m ((c : Thread KernelIdeal.nD KernelIdeal.τ).loc KernelIdeal.main_arg0) = x0)
    (e1 : m ((c : Thread KernelIdeal.nD KernelIdeal.τ).loc KernelIdeal.main_arg1) = x1)
    (e2 : m ((c : Thread KernelIdeal.nD KernelIdeal.τ).loc KernelIdeal.main_arg2) = x2)
    (e3 : m ((c : Thread KernelIdeal.nD KernelIdeal.τ).loc KernelIdeal.main_arg3) = x3)
    (e4 : m ((c : Thread KernelIdeal.nD KernelIdeal.τ).loc KernelIdeal.main_arg4) = x4)
    (e5 : m ((c : Thread KernelIdeal.nD KernelIdeal.τ).loc KernelIdeal.main_arg5) = x5) :
    ReferenceIdeal.Read.val_main_v68 (F := Ideal) x0 x1 x2 x3 x4 x5 = (KernelIdeal.Gen.dats m 0 c).arrAt 7 KernelIdeal.cfg0.N
    ∧ ReferenceIdeal.Read.val_main_v37 (F := Ideal) x3 x4 = (KernelIdeal.Gen.dats m 0 c).arrAt 8 KernelIdeal.cfg0.N
    ∧ ReferenceIdeal.Read.val_main_v44 (F := Ideal) x0 x1 x3 x4 = (KernelIdeal.Gen.dats m 0 c).arrAt 9 KernelIdeal.cfg0.N
    ∧ ReferenceIdeal.Read.val_main_v67 (F := Ideal) x0 x2 x3 x4 = (KernelIdeal.Gen.dats m 0 c).arrAt 10 KernelIdeal.cfg0.N := by
  obtain ⟨p0, p1, p2, p3, p4⟩ := hpre c
  obtain ⟨r0, q0⟩ := lift_of_olt _ _ lit_inf p0
  obtain ⟨r1, q1⟩ := lift_of_olt _ _ lit_inf p1
  obtain ⟨r2, q2⟩ := lift_of_olt _ _ lit_inf p2
  obtain ⟨r3, q3⟩ := lift_of_olt _ _ lit_inf p3
  obtain ⟨r4, q4⟩ := lift_of_olt _ _ lit_inf_bf16 p4
  have a0 := e0.symm.trans q0
  have a1 := e1.symm.trans q1
  have a2 := e2.symm.trans q2
  have a3 := e3.symm.trans q3
  have a4 := e4.symm.trans q4
  set dz : Fin 2048 → Fin 5376 → ℝ := fun r k => r4 (ix2 r k)
  set w : Fin 2048 → Fin 5376 → ℝ := fun l k => r3 (ix3 0 l k)
  set x : Fin 2048 → Fin 2048 → ℝ := fun r l => r0 (ix3 0 r l)
  set g : Fin 2048 → ℝ := fun l => r1 (ix2 0 l)
  set s : Fin 2048 → ℝ := fun l => r2 (ix2 0 ⟨2048 + l.val, by omega⟩)
  have h0 : ∀ r k, x4 (ix2 r k) = ((dz r k : ℝ) : EReal) := fun r k => congrFun a4 _
  have h1 : ∀ l k, x3 (ix3 0 l k) = ((w l k : ℝ) : EReal) := fun l k => congrFun a3 _
  have h2 : ∀ r l, x0 (ix3 0 r l) = ((x r l : ℝ) : EReal) := fun r l => congrFun a0 _
  have h4 : ∀ l, x1 (ix2 0 l) = ((g l : ℝ) : EReal) := fun l => congrFun a1 _
  have h5 : ∀ l : Fin 2048, x2 (ix2 0 ⟨2048 + l.val, by omega⟩) = ((s l : ℝ) : EReal) := fun l => congrFun a2 _
  have k0 := fun r k => (congrFun e4 (ix2 r k)).trans (h0 r k)
  have k1 := fun l k => (congrFun e3 (ix3 0 l k)).trans (h1 l k)
  have k2 := fun r l => (congrFun e0 (ix3 0 r l)).trans (h2 r l)
  have k4 := fun l => (congrFun e1 (ix2 0 l)).trans (h4 l)
  have k5 := fun l : Fin 2048 => (congrFun e2 (ix2 0 ⟨2048 + l.val, by omega⟩)).trans (h5 l)
  refine ⟨?_, ?_, ?_, ?_⟩
  · rw [KernelIdeal.Closed.gx_array m c dz w x g s k0 k1 k2 k4 k5 x5 e5]
    funext i
    idx_vars i
    exact ReferenceIdeal.Closed.v68 x0 x1 x2 x3 x4 x5 dz w x g s h0 h1 h2 h4 h5 _ _
  · rw [KernelIdeal.Closed.dshift_array m c dz w k0 k1]
    funext i
    idx_vars i
    obtain rfl : i0 = 0 := Subsingleton.elim _ _
    exact ReferenceIdeal.Closed.v37 x3 x4 dz w h0 h1 _
  · rw [KernelIdeal.Closed.dscale_array m c dz w x g k0 k1 k2 k4]
    funext i
    idx_vars i
    obtain rfl : i0 = 0 := Subsingleton.elim _ _
    exact ReferenceIdeal.Closed.v44 x0 x1 x3 x4 dz w x g h0 h1 h2 h4 _
  · rw [KernelIdeal.Closed.dg_array m c dz w x s k0 k1 k2 k5]
    funext i
    idx_vars i
    obtain rfl : i0 = 0 := Subsingleton.elim _ _
    exact ReferenceIdeal.Closed.v67 x0 x2 x3 x4 dz w x s h0 h1 h2 h5 _

theorem algebraic : Cert.algebraic_KernelIdeal_ReferenceIdeal_pre_finite_inputs := by
  pair_intro
  · run_from Cert.KernelIdeal.Value.run_blocks m g
  · run_from Cert.ReferenceIdeal.Value.run m' g'
    · rw [ReferenceIdeal.Read.val_main_v68_eq, (hagree c).1, (hagree c).2.1, (hagree c).2.2.1, (hagree c).2.2.2.1,
        (hagree c).2.2.2.2.1, (hagree c).2.2.2.2.2.1]
      exact (results m hpre c _ _ _ _ _ _ rfl rfl rfl rfl rfl rfl).1
    · exact (results m hpre c _ _ _ _ _ _ rfl rfl rfl rfl rfl rfl).2.1
    · exact (results m hpre c _ _ _ _ _ _ rfl rfl rfl rfl rfl rfl).2.2.1
    · exact (results m hpre c _ _ _ _ _ _ rfl rfl rfl rfl rfl rfl).2.2.2

end Cert.ZProj

end
-- ==== Proof.HeadMath.lean ====
module

public import proofs.«01_k».proof.Proof.Norm

@[expose] public section

noncomputable section
namespace Cert.HeadMath
open Cert.Norm

/-- One row of the output projection. -/
def proj (a : Fin 2048 → ℝ) (w : Fin 2048 → Fin 2048 → ℝ) (l : Fin 2048) : ℝ := ∑ k, a k * w k l

/-- One row of the residual stream after the gated projection. -/
def res (a : Fin 2048 → ℝ) (w : Fin 2048 → Fin 2048 → ℝ) (x gate : Fin 2048 → ℝ) (l : Fin 2048) : ℝ :=
  x l + gate l * proj a w l

/-- One row of the normed stream minus its target. -/
def err (v fg tg : Fin 2048 → ℝ) (l : Fin 2048) : ℝ := v l * rinv v * fg l - tg l

/-- The loss's gradient in one row of the residual stream. -/
def dres (v fg tg : Fin 2048 → ℝ) : Fin 2048 → ℝ := grad v fun l => err v fg tg l * (fg l * (1 / 2048))

/-- One row's part of the loss. -/
def rowLoss (v fg tg : Fin 2048 → ℝ) : ℝ := (∑ l, err v fg tg l * err v fg tg l) / 2048

end Cert.HeadMath

end
-- ==== Proof.HeadKernel.lean ====
module

public import proofs.«01_k».proof.Proof.Gen.Kernel2Ideal.Value
public import Idealize.ShloMosaic.Lib.Pointwise
public import Idealize.ShloMosaic.Lib.Pipeline.ValueKit
public import proofs.«01_k».proof.Proof.HeadMath

@[expose] public section

set_option maxRecDepth 16384
set_option backward.proofsInPublic true
noncomputable section
namespace Cert.Kernel2Ideal.Closed
open Idealize.ShloMosaic Idealize.ShloMosaic.TcCoe Idealize.SL.Sem Idealize.ShloMosaic.Pointwise Cert.Reals Cert.Norm Cert.HeadMath
open Cert.Kernel2Ideal Cert.Kernel2Ideal.Gen

variable (m : (ℓ : Loc nD τ sig) → Buf (Elt Ideal) ℓ)

theorem idx (t : Fin cfg0.N) : win0_0.index t = ![t.val, 0] ∧ win0_1.index t = ![0, 0] ∧ win0_2.index t = ![t.val, 0]
    ∧ win0_3.index t = ![t.val, 0] ∧ win0_4.index t = ![0, 2] ∧ win0_5.index t = ![0, 0] ∧ win0_6.index t = ![t.val, 0]
    ∧ win0_7.index t = ![t.val, 0] ∧ win0_8.index t = ![t.val, 0] := by
  revert t; decide +kernel

theorem blk0 (c : Dev nD) (t : Fin cfg0.N) (r : Fin 256) (k : Fin 2048) (h : t.val * 256 + r.val < 2048) :
    iblk m c 0 t (ix2 r k) = m ((c : Thread nD τ).loc main_arg0) (ix2 ⟨t.val * 256 + r.val, h⟩ k) := by
  blk_ext! [Gen.iblk, Gen.V, idx t]

theorem blk1 (c : Dev nD) (t : Fin cfg0.N) (k l : Fin 2048) :
    iblk m c 1 t (ix2 k l) = m ((c : Thread nD τ).loc main_arg1) (ix3 0 k l) := by
  blk_ext! [Gen.iblk, Gen.V, idx t]

theorem blk2 (c : Dev nD) (t : Fin cfg0.N) (r : Fin 256) (k : Fin 2048) (h : t.val * 256 + r.val < 2048) :
    iblk m c 2 t (ix2 r k) = m ((c : Thread nD τ).loc main_arg2) (ix3 0 ⟨t.val * 256 + r.val, h⟩ k) := by
  blk_ext! [Gen.iblk, Gen.V, idx t]

theorem blk3 (c : Dev nD) (t : Fin cfg0.N) (r : Fin 256) (k : Fin 2048) (h : t.val * 256 + r.val < 2048) :
    iblk m c 3 t (ix2 r k) = m ((c : Thread nD τ).loc main_arg3) (ix3 0 ⟨t.val * 256 + r.val, h⟩ k) := by
  blk_ext! [Gen.iblk, Gen.V, idx t]

theorem blk4 (c : Dev nD) (t : Fin cfg0.N) (k : Fin 2048) (h : 4096 + k.val < 6144) :
    iblk m c 4 t (ix2 0 k) = m ((c : Thread nD τ).loc main_arg4) (ix2 0 ⟨4096 + k.val, h⟩) := by
  blk_ext! [Gen.iblk, Gen.V, idx t]

theorem blk5 (c : Dev nD) (t : Fin cfg0.N) (k : Fin 2048) :
    iblk m c 5 t (ix2 0 k) = m ((c : Thread nD τ).loc main_arg5) (ix1 k) := by
  blk_ext! [Gen.iblk, Gen.V, idx t]

section Block
variable (b0 : Vec Ideal S256x2048 .bf16) (b1 : Vec Ideal S2048x2048 .bf16) (b4 b5 : Vec Ideal S1x2048 .f32)
  (b2 b3 : Vec Ideal S256x2048 .f32)
  (a : Fin 256 → Fin 2048 → ℝ) (w : Fin 2048 → Fin 2048 → ℝ) (x tg : Fin 256 → Fin 2048 → ℝ) (gate fg : Fin 2048 → ℝ)
  (h0 : ∀ r k, b0 (ix2 r k) = ((a r k : ℝ) : EReal)) (h1 : ∀ k l, b1 (ix2 k l) = ((w k l : ℝ) : EReal))
  (h2 : ∀ r l, b2 (ix2 r l) = ((x r l : ℝ) : EReal)) (h3 : ∀ r l, b3 (ix2 r l) = ((tg r l : ℝ) : EReal))
  (h4 : ∀ l, b4 (ix2 0 l) = ((gate l : ℝ) : EReal)) (h5 : ∀ l, b5 (ix2 0 l) = ((fg l : ℝ) : EReal))

include h0 h1 in
theorem pay6_apply (r : Fin 256) (l : Fin 2048) : k0_pay6 b0 b1 (ix2 r l) = ((proj (a r) w l : ℝ) : EReal) := by
  pointwise [k0_pay6]
  simp only [h0, h1, ← EReal.coe_mul, coe_sum]
  rfl

include h0 h1 h2 h4 in
theorem pay8_apply (r : Fin 256) (l : Fin 2048) :
    k0_pay8 b0 b1 b4 b2 (ix2 r l) = ((res (a r) w (x r) gate l : ℝ) : EReal) := by
  pointwise [k0_pay8]
  rw [pay6_apply b0 b1 a w h0 h1, h2, h4, ← EReal.coe_mul, ← EReal.coe_add]
  rfl

include h0 h1 h2 h4 in
theorem pay9_apply (r : Fin 256) : k0_pay9 b0 b1 b4 b2 (ix2 r 0) = ((rinv (res (a r) w (x r) gate) : ℝ) : EReal) := by
  pointwise [k0_pay9]
  simp only [pay8_apply b0 b1 b4 b2 a w x gate h0 h1 h2 h4, lit_2048, lit_eps, ← EReal.coe_mul, coe_sum]
  rw [coe_div _ (by norm_num), ← EReal.coe_add]
  exact coe_rsqrt (msq_pos _)

include h0 h1 h2 h4 in
theorem pay10_apply (r : Fin 256) (l : Fin 2048) : k0_pay10 b0 b1 b4 b2 (ix2 r l)
    = ((res (a r) w (x r) gate l * rinv (res (a r) w (x r) gate) : ℝ) : EReal) := by
  pointwise [k0_pay10]
  rw [pay8_apply b0 b1 b4 b2 a w x gate h0 h1 h2 h4, pay9_apply b0 b1 b4 b2 a w x gate h0 h1 h2 h4, ← EReal.coe_mul]

include h0 h1 h2 h3 h4 h5 in
theorem pay11_apply (r : Fin 256) (l : Fin 2048) : k0_pay11 b0 b1 b4 b5 b2 b3 (ix2 r l)
    = ((err (res (a r) w (x r) gate) fg (tg r) l : ℝ) : EReal) := by
  pointwise [k0_pay11, k0_pay7]
  rw [pay10_apply b0 b1 b4 b2 a w x gate h0 h1 h2 h4, h3, h5, ← EReal.coe_mul, ← EReal.coe_sub]
  rfl

include h0 h1 h2 h3 h4 h5 in
theorem pay18_apply (r : Fin 256) (l : Fin 2048) :
    k0_pay18 (k0_pay7 b5) (k0_pay9 b0 b1 b4 b2) (k0_pay10 b0 b1 b4 b2) (k0_pay11 b0 b1 b4 b5 b2 b3) (ix2 r l)
      = ((dres (res (a r) w (x r) gate) fg (tg r) l : ℝ) : EReal) := by
  pointwise [k0_pay18, k0_pay16, k0_pay7]
  simp only [pay9_apply b0 b1 b4 b2 a w x gate h0 h1 h2 h4, pay10_apply b0 b1 b4 b2 a w x gate h0 h1 h2 h4,
    pay11_apply b0 b1 b4 b5 b2 b3 a w x tg gate fg h0 h1 h2 h3 h4 h5, h5, lit_2048, lit_inv_2048, ← EReal.coe_mul, coe_sum]
  rw [coe_div _ (by norm_num), ← EReal.coe_mul, ← EReal.coe_sub, ← EReal.coe_mul]
  refine congrArg _ ?_
  unfold dres grad
  refine congrArg (fun v : ℝ => rinv (res (a r) w (x r) gate) * (err (res (a r) w (x r) gate) fg (tg r) l * (fg l * (1 / 2048))
    - res (a r) w (x r) gate l * rinv (res (a r) w (x r) gate) * (v / 2048))) ?_
  exact Finset.sum_congr rfl fun k _ => by ring

include h0 h1 h2 h3 h4 h5 in
theorem pay1_apply (r : Fin 256) (l : Fin 2048) :
    k0_pay1 b4 (k0_pay18 (k0_pay7 b5) (k0_pay9 b0 b1 b4 b2) (k0_pay10 b0 b1 b4 b2) (k0_pay11 b0 b1 b4 b5 b2 b3)) (ix2 r l)
      = ((dres (res (a r) w (x r) gate) fg (tg r) l * gate l : ℝ) : EReal) := by
  pointwise [k0_pay1]
  rw [pay18_apply b0 b1 b4 b5 b2 b3 a w x tg gate fg h0 h1 h2 h3 h4 h5, h4, ← EReal.coe_mul]

include h0 h1 h2 h3 h4 h5 in
theorem pay2_apply (r : Fin 256) (k : Fin 2048) :
    k0_pay2 b4 (k0_pay18 (k0_pay7 b5) (k0_pay9 b0 b1 b4 b2) (k0_pay10 b0 b1 b4 b2) (k0_pay11 b0 b1 b4 b5 b2 b3)) b1 (ix2 r k)
      = ((∑ l, dres (res (a r) w (x r) gate) fg (tg r) l * gate l * w k l : ℝ) : EReal) := by
  pointwise [k0_pay2]
  simp only [pay1_apply b0 b1 b4 b5 b2 b3 a w x tg gate fg h0 h1 h2 h3 h4 h5, h1, ← EReal.coe_mul, coe_sum]

include h0 h1 h2 h3 h4 h5 in
theorem pay15_apply (v : Vec Ideal S1x128 .f32) (l : Fin 128) :
    k0_pay15 (k0_pay12 v) (k0_pay13 b0 b1 b4 b5 b2 b3) k0_pay14 (ix2 0 l)
      = v (ix2 0 l) + ((1 / 2 * ∑ r, rowLoss (res (a r) w (x r) gate) fg (tg r) : ℝ) : EReal) := by
  pointwise [k0_pay15, k0_pay12, k0_pay13, k0_pay14]
  simp only [pay11_apply b0 b1 b4 b5 b2 b3 a w x tg gate fg h0 h1 h2 h3 h4 h5, lit_2048, lit_half, ← EReal.coe_mul, coe_sum]
  simp only [coe_div _ (show (2048 : ℝ) ≠ 0 by norm_num), ← EReal.coe_mul, coe_sum]
  rfl

include h0 h1 h2 h3 h4 h5 in
theorem pay17_apply (v : Vec Ideal S1x2048 .f32) (l : Fin 2048) :
    k0_pay17 (k0_pay10 b0 b1 b4 b2) (k0_pay11 b0 b1 b4 b5 b2 b3) v (ix2 0 l)
      = v (ix2 0 l) + ((∑ r, err (res (a r) w (x r) gate) fg (tg r) l
        * (res (a r) w (x r) gate l * rinv (res (a r) w (x r) gate)) * (1 / 2048) : ℝ) : EReal) := by
  pointwise [k0_pay17, k0_pay16]
  simp only [pay10_apply b0 b1 b4 b2 a w x gate h0 h1 h2 h4,
    pay11_apply b0 b1 b4 b5 b2 b3 a w x tg gate fg h0 h1 h2 h3 h4 h5, lit_inv_2048, ← EReal.coe_mul, coe_sum, Finset.sum_mul]

include h0 h1 h2 h3 h4 h5 in
theorem pay19_apply (v : Vec Ideal S1x2048 .f32) (l : Fin 2048) :
    k0_pay19 (k0_pay6 b0 b1) (k0_pay7 b5) (k0_pay9 b0 b1 b4 b2) (k0_pay10 b0 b1 b4 b2) (k0_pay11 b0 b1 b4 b5 b2 b3) v (ix2 0 l)
      = v (ix2 0 l) + ((∑ r, dres (res (a r) w (x r) gate) fg (tg r) l * proj (a r) w l : ℝ) : EReal) := by
  pointwise [k0_pay19]
  simp only [pay18_apply b0 b1 b4 b5 b2 b3 a w x tg gate fg h0 h1 h2 h3 h4 h5, pay6_apply b0 b1 a w h0 h1, ← EReal.coe_mul, coe_sum]

end Block

variable (c : Dev nD) (a : Fin 2048 → Fin 2048 → ℝ) (w : Fin 2048 → Fin 2048 → ℝ) (x tg : Fin 2048 → Fin 2048 → ℝ)
  (gate fg : Fin 2048 → ℝ)
  (h0 : ∀ r k, m ((c : Thread nD τ).loc main_arg0) (ix2 r k) = ((a r k : ℝ) : EReal))
  (h1 : ∀ k l, m ((c : Thread nD τ).loc main_arg1) (ix3 0 k l) = ((w k l : ℝ) : EReal))
  (h2 : ∀ r l, m ((c : Thread nD τ).loc main_arg2) (ix3 0 r l) = ((x r l : ℝ) : EReal))
  (h3 : ∀ r l, m ((c : Thread nD τ).loc main_arg3) (ix3 0 r l) = ((tg r l : ℝ) : EReal))
  (h4 : ∀ l : Fin 2048, m ((c : Thread nD τ).loc main_arg4) (ix2 0 ⟨4096 + l.val, by omega⟩) = ((gate l : ℝ) : EReal))
  (h5 : ∀ l, m ((c : Thread nD τ).loc main_arg5) (ix1 l) = ((fg l : ℝ) : EReal))

/-- Row `r` of the block of point `t`, as a row of the array. -/
def row (t : Fin cfg0.N) (r : Fin 256) : Fin 2048 := ⟨t.val * 256 + r.val, by have := t.isLt; have h : cfg0.N = 8 := N_0; omega⟩

/-- The rows of the blocks, block after block, are all the rows. -/
theorem sum_rows (f : Fin 2048 → ℝ) : (∑ t : Fin cfg0.N, ∑ r : Fin 256, f (row t r)) = ∑ r, f r :=
  Fin.sum_mul_add_fin 8 256 f

include h0 in
theorem blk0_coe (t : Fin cfg0.N) (r : Fin 256) (k : Fin 2048) : iblk m c 0 t (ix2 r k) = ((a (row t r) k : ℝ) : EReal) :=
  (blk0 m c t r k (row t r).isLt).trans (h0 (row t r) k)

include h1 in
theorem blk1_coe (t : Fin cfg0.N) (k l : Fin 2048) : iblk m c 1 t (ix2 k l) = ((w k l : ℝ) : EReal) :=
  (blk1 m c t k l).trans (h1 k l)

include h2 in
theorem blk2_coe (t : Fin cfg0.N) (r : Fin 256) (l : Fin 2048) : iblk m c 2 t (ix2 r l) = ((x (row t r) l : ℝ) : EReal) :=
  (blk2 m c t r l (row t r).isLt).trans (h2 (row t r) l)

include h3 in
theorem blk3_coe (t : Fin cfg0.N) (r : Fin 256) (l : Fin 2048) : iblk m c 3 t (ix2 r l) = ((tg (row t r) l : ℝ) : EReal) :=
  (blk3 m c t r l (row t r).isLt).trans (h3 (row t r) l)

include h4 in
theorem blk4_coe (t : Fin cfg0.N) (l : Fin 2048) : iblk m c 4 t (ix2 0 l) = ((gate l : ℝ) : EReal) :=
  (blk4 m c t l _).trans (h4 l)

include h5 in
theorem blk5_coe (t : Fin cfg0.N) (l : Fin 2048) : iblk m c 5 t (ix2 0 l) = ((fg l : ℝ) : EReal) :=
  (blk5 m c t l).trans (h5 l)

include h0 h1 h2 h3 h4 h5 in
/-- The first result: the loss's gradient in the residual stream. -/
theorem dx_array : (dats m 0 c).arrAt 6 cfg0.N = fun i : S2048x2048.Idx => ((dres (res (a (i 0)) w (x (i 0)) gate) fg (tg (i 0)) (i 1) : ℝ) : EReal) := by
  refine (dats m 0 c).arrAt_eq_of_covers 6 _ (by decide +kernel) fun t hf y => ?_
  blk_simp
  rw [after0_6]
  have he : ((View.whole main_v5_0).slice (win0_6.rect t)).emb y = ix2 (row t (y 0)) (y 1) := by
    funext a
    apply Fin.ext
    fin_cases a
    · blk_simp [idx t]
      rfl
    · blk_simp [idx t]
      rfl
  rw [he]
  change S256x2048.Idx at y
  by_cases h : t.val % 8 = 0
  · rw [outsAt0_A m c t h]
    frame_out
    idx_vars y
    exact pay18_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ _
  · rw [outsAt0_B m c t h]
    frame_out
    idx_vars y
    exact pay18_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ _

include h0 h1 h2 h3 h4 h5 in
/-- The second result: the gradient in the projection's output. -/
theorem dy_array : (dats m 0 c).arrAt 7 cfg0.N = fun i : S2048x2048.Idx => ((dres (res (a (i 0)) w (x (i 0)) gate) fg (tg (i 0)) (i 1) * gate (i 1) : ℝ) : EReal) := by
  refine (dats m 0 c).arrAt_eq_of_covers 7 _ (by decide +kernel) fun t hf y => ?_
  blk_simp
  rw [after0_7]
  have he : ((View.whole main_v5_1).slice (win0_7.rect t)).emb y = ix2 (row t (y 0)) (y 1) := by
    funext a
    apply Fin.ext
    fin_cases a
    · blk_simp [idx t]
      rfl
    · blk_simp [idx t]
      rfl
  rw [he]
  change S256x2048.Idx at y
  by_cases h : t.val % 8 = 0
  · rw [outsAt0_A m c t h]
    frame_out
    idx_vars y
    exact pay1_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ _
  · rw [outsAt0_B m c t h]
    frame_out
    idx_vars y
    exact pay1_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ _

include h0 h1 h2 h3 h4 h5 in
/-- The third result: the gradient in the projection's input. -/
theorem da_array : (dats m 0 c).arrAt 8 cfg0.N = fun i : S2048x2048.Idx => ((∑ l, dres (res (a (i 0)) w (x (i 0)) gate) fg (tg (i 0)) l * gate l * w (i 1) l : ℝ) : EReal) := by
  refine (dats m 0 c).arrAt_eq_of_covers 8 _ (by decide +kernel) fun t hf y => ?_
  blk_simp
  rw [after0_8]
  have he : ((View.whole main_v5_2).slice (win0_8.rect t)).emb y = ix2 (row t (y 0)) (y 1) := by
    funext a
    apply Fin.ext
    fin_cases a
    · blk_simp [idx t]
      rfl
    · blk_simp [idx t]
      rfl
  rw [he]
  change S256x2048.Idx at y
  by_cases h : t.val % 8 = 0
  · rw [outsAt0_A m c t h]
    frame_out
    idx_vars y
    exact pay2_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ _
  · rw [outsAt0_B m c t h]
    frame_out
    idx_vars y
    exact pay2_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ _

theorem pay3_apply (i : S1x128.Idx) : k0_pay3 (F := Ideal) i = 0 := by pointwise [k0_pay3]

theorem pay4_apply (i : S1x2048.Idx) : k0_pay4 (F := Ideal) i = 0 := by pointwise [k0_pay4]

theorem pay5_apply (i : S1x2048.Idx) : k0_pay5 (F := Ideal) i = 0 := by pointwise [k0_pay5]

include h0 h1 h2 h3 h4 h5 in
/-- The fourth result: the loss, in every lane. -/
theorem loss_array : (dats m 0 c).arrAt 9 cfg0.N = fun i : S1x128.Idx => ((1 / 2 * ∑ r, rowLoss (res (a r) w (x r) gate) fg (tg r) : ℝ) : EReal) := by
  refine (dats m 0 c).arrAt_eq_of_after_last 9 t0_7 (by decide +kernel) _ fun j => ?_
  idx_vars j
  rw [Gen.after0_9, Pipeline.eq_sum_fin_of_reset_step_apply_last (fun n h => (Gen.outsAt0 m c n h).2.2.2.1) 8 (fun _ => 0)
    (fun t j => ((1 / 2 * ∑ r : Fin 256, rowLoss (res (a (row t r)) w (x (row t r)) gate) fg (tg (row t r)) : ℝ) : EReal)) ?_ ?_ (le_of_eq Gen.N_0) Gen.t0_7 rfl _, zero_add]
  · exact (coe_sum _ _).trans (congrArg _ ((Finset.mul_sum _ _ _).symm.trans (congrArg (1 / 2 * ·) (sum_rows fun r => rowLoss (res (a r) w (x r) gate) fg (tg r)))))
  · intro t ht i
    rw [outsAt0_A m c t ht]
    frame_out
    idx_vars i
    obtain rfl : i0 = 0 := Subsingleton.elim _ _
    refine (pay15_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ i1).trans ?_
    rw [pay3_apply]
  · intro t ht i
    rw [outsAt0_B m c t ht]
    frame_out
    idx_vars i
    obtain rfl : i0 = 0 := Subsingleton.elim _ _
    exact pay15_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ i1

include h0 h1 h2 h3 h4 h5 in
/-- The fifth result: the gradient in the final norm's gain. -/
theorem dfg_array : (dats m 0 c).arrAt 10 cfg0.N = fun i : S1x2048.Idx => ((∑ r, err (res (a r) w (x r) gate) fg (tg r) (i 1) * ((res (a r) w (x r) gate) (i 1) * rinv (res (a r) w (x r) gate)) * (1 / 2048) : ℝ) : EReal) := by
  refine (dats m 0 c).arrAt_eq_of_after_last 10 t0_7 (by decide +kernel) _ fun j => ?_
  idx_vars j
  rw [Gen.after0_10, Pipeline.eq_sum_fin_of_reset_step_apply_last (fun n h => (Gen.outsAt0 m c n h).2.2.2.2.1) 8 (fun _ => 0)
    (fun t j => ((∑ r : Fin 256, err (res (a (row t r)) w (x (row t r)) gate) fg (tg (row t r)) (j 1) * ((res (a (row t r)) w (x (row t r)) gate) (j 1) * rinv (res (a (row t r)) w (x (row t r)) gate)) * (1 / 2048) : ℝ) : EReal)) ?_ ?_ (le_of_eq Gen.N_0) Gen.t0_7 rfl _, zero_add]
  · exact (coe_sum _ _).trans (congrArg _ (sum_rows fun r => err (res (a r) w (x r) gate) fg (tg r) j1 * ((res (a r) w (x r) gate) j1 * rinv (res (a r) w (x r) gate)) * (1 / 2048)))
  · intro t ht i
    rw [outsAt0_A m c t ht]
    frame_out
    idx_vars i
    obtain rfl : i0 = 0 := Subsingleton.elim _ _
    refine (pay17_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ i1).trans ?_
    rw [pay4_apply]
  · intro t ht i
    rw [outsAt0_B m c t ht]
    frame_out
    idx_vars i
    obtain rfl : i0 = 0 := Subsingleton.elim _ _
    exact pay17_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ i1

include h0 h1 h2 h3 h4 h5 in
/-- The sixth result: the gradient in the gate. -/
theorem dgate_array : (dats m 0 c).arrAt 11 cfg0.N = fun i : S1x2048.Idx => ((∑ r, dres (res (a r) w (x r) gate) fg (tg r) (i 1) * proj (a r) w (i 1) : ℝ) : EReal) := by
  refine (dats m 0 c).arrAt_eq_of_after_last 11 t0_7 (by decide +kernel) _ fun j => ?_
  idx_vars j
  rw [Gen.after0_11, Pipeline.eq_sum_fin_of_reset_step_apply_last (fun n h => (Gen.outsAt0 m c n h).2.2.2.2.2) 8 (fun _ => 0)
    (fun t j => ((∑ r : Fin 256, dres (res (a (row t r)) w (x (row t r)) gate) fg (tg (row t r)) (j 1) * proj (a (row t r)) w (j 1) : ℝ) : EReal)) ?_ ?_ (le_of_eq Gen.N_0) Gen.t0_7 rfl _, zero_add]
  · exact (coe_sum _ _).trans (congrArg _ (sum_rows fun r => dres (res (a r) w (x r) gate) fg (tg r) j1 * proj (a r) w j1))
  · intro t ht i
    rw [outsAt0_A m c t ht]
    frame_out
    idx_vars i
    obtain rfl : i0 = 0 := Subsingleton.elim _ _
    refine (pay19_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ i1).trans ?_
    rw [pay5_apply]
  · intro t ht i
    rw [outsAt0_B m c t ht]
    frame_out
    idx_vars i
    obtain rfl : i0 = 0 := Subsingleton.elim _ _
    exact pay19_apply _ _ _ _ _ _ (fun r k => a (row t r) k) w (fun r => x (row t r)) (fun r => tg (row t r)) gate fg (blk0_coe m c a h0 t) (blk1_coe m c w h1 t)
      (blk2_coe m c x h2 t) (blk3_coe m c tg h3 t) (blk4_coe m c gate h4 t) (blk5_coe m c fg h5 t) _ i1

end Cert.Kernel2Ideal.Closed

end
-- ==== Proof.HeadReference.lean ====
module

public import proofs.«01_k».proof.Proof.Gen.Reference2Ideal.Read
public import proofs.«01_k».proof.Proof.HeadMath

@[expose] public section

set_option maxRecDepth 16384
set_option backward.proofsInPublic true
noncomputable section
namespace Cert.Reference2Ideal.Closed
open Idealize.ShloMosaic Idealize.ShloMosaic.Pointwise Cert.Reals Cert.Norm Cert.HeadMath Cert.Reference2Ideal.Read

variable (x0 : FVec Ideal S2048x2048 .bf16) (x1 x2 x3 : FVec Ideal S1x2048x2048 .f32) (x4 : FVec Ideal S1x6144 .f32)
  (x5 : FVec Ideal S2048 .f32)
  (a w x tg : Fin 2048 → Fin 2048 → ℝ) (gate fg : Fin 2048 → ℝ)
  (h0 : ∀ r k, x0 (ix2 r k) = ((a r k : ℝ) : EReal)) (h1 : ∀ k l, x1 (ix3 0 k l) = ((w k l : ℝ) : EReal))
  (h2 : ∀ r l, x2 (ix3 0 r l) = ((x r l : ℝ) : EReal)) (h3 : ∀ r l, x3 (ix3 0 r l) = ((tg r l : ℝ) : EReal))
  (h4 : ∀ l : Fin 2048, x4 (ix2 0 ⟨4096 + l.val, by omega⟩) = ((gate l : ℝ) : EReal))
  (h5 : ∀ l, x5 (ix1 l) = ((fg l : ℝ) : EReal))

include h0 h1 in
theorem v6 (r l : Fin 2048) : val_main_v6 (F := Ideal) x0 x1 (ix3 0 r l)
    = ((proj (a r) w l : ℝ) : EReal) := by
  pointwise [val_main_v6, val_main_v5, val_main_v4, val_main_v3]
  simp only [h0, h1, ← EReal.coe_mul, coe_sum]
  rfl

include h0 h1 h2 h4 in
theorem v10 (r l : Fin 2048) : val_main_v10 (F := Ideal) x0 x1 x2 x4 (ix3 0 r l)
    = ((res (a r) w (x r) gate l : ℝ) : EReal) := by
  pointwise [val_main_v10, val_main_v9, val_main_v8, val_main_v7, val_main_v2]
  rw [v6 x0 x1 a w h0 h1, h2, h4, ← EReal.coe_mul, ← EReal.coe_add]
  rfl

include h0 h1 h2 h4 in
theorem v17 (r : Fin 2048) : val_main_v17 (F := Ideal) x0 x1 x2 x4 (ix3 0 r 0)
    = ((msq (res (a r) w (x r) gate) : ℝ) : EReal) := by
  pointwise [val_main_v17, val_main_v16, val_main_v15, val_main_v14, val_main_v13, val_main_v12, val_main_v11, val_main_cst, val_main_cst_0, val_main_cst_1]
  simp only [v10 x0 x1 x2 x4 a w x gate h0 h1 h2 h4, lit_2048, lit_eps, ← EReal.coe_mul, coe_sum]
  rw [coe_div _ (by norm_num), ← EReal.coe_add]
  rfl

include h0 h1 h2 h4 in
theorem v18 (r : Fin 2048) : val_main_v18 (F := Ideal) x0 x1 x2 x4 (ix3 0 r 0)
    = ((rinv (res (a r) w (x r) gate) : ℝ) : EReal) := by
  pointwise [val_main_v18]
  rw [v17 x0 x1 x2 x4 a w x gate h0 h1 h2 h4]
  exact coe_rsqrt (msq_pos _)

include h0 h1 h2 h4 in
theorem v21 (r : Fin 2048) : val_main_v21 (F := Ideal) x0 x1 x2 x4 (ix3 0 r 0)
    = ((-(1 / 2) * (rinv (res (a r) w (x r) gate) / msq (res (a r) w (x r) gate)) : ℝ) : EReal) := by
  pointwise [val_main_v21, val_main_v20, val_main_v19, val_main_cst_2]
  rw [v17 x0 x1 x2 x4 a w x gate h0 h1 h2 h4, v18 x0 x1 x2 x4 a w x gate h0 h1 h2 h4, lit_neg_half, coe_div _ (msq_pos _).ne', ← EReal.coe_mul]

include h0 h1 h2 h4 in
theorem v23 (r l : Fin 2048) : val_main_v23 (F := Ideal) x0 x1 x2 x4 (ix3 0 r l)
    = ((res (a r) w (x r) gate l * rinv (res (a r) w (x r) gate) : ℝ) : EReal) := by
  pointwise [val_main_v23, val_main_v22]
  rw [v10 x0 x1 x2 x4 a w x gate h0 h1 h2 h4, v18 x0 x1 x2 x4 a w x gate h0 h1 h2 h4, ← EReal.coe_mul]

include h0 h1 h2 h3 h4 h5 in
theorem v27 (r l : Fin 2048) : val_main_v27 (F := Ideal) x0 x1 x2 x3 x4 x5 (ix3 0 r l)
    = ((err (res (a r) w (x r) gate) fg (tg r) l : ℝ) : EReal) := by
  pointwise [val_main_v27, val_main_v26, val_main_v25, val_main_v24]
  rw [v23 x0 x1 x2 x4 a w x gate h0 h1 h2 h4, h3, h5, ← EReal.coe_mul, ← EReal.coe_sub]
  rfl

include h0 h1 h2 h3 h4 h5 in
theorem v35  : val_main_v35 (F := Ideal) x0 x1 x2 x3 x4 x5 (ix0)
    = ((1 / 2 * ∑ r, rowLoss (res (a r) w (x r) gate) fg (tg r) : ℝ) : EReal) := by
  pointwise [val_main_v35, val_main_cst_7, val_main_v34, val_main_cst_6]
  pointwise [val_main_v33, val_main_v32, val_main_cst_5, val_main_v31, val_main_cst_4, val_main_v28]
  simp only [v27 x0 x1 x2 x3 x4 x5 a w x tg gate fg h0 h1 h2 h3 h4 h5, lit_2048, lit_half, Fin.sum_univ_one, ← EReal.coe_mul, coe_sum, coe_div _ (show (2048 : ℝ) ≠ 0 by norm_num)]
  rfl

include h0 h1 h2 h3 h4 h5 in
theorem v41 (r l : Fin 2048) : val_main_v41 (F := Ideal) x0 x1 x2 x3 x4 x5 (ix3 0 r l)
    = ((err (res (a r) w (x r) gate) fg (tg r) l * (1 / 2048) : ℝ) : EReal) := by
  pointwise [val_main_v41, val_main_v40, val_main_v39, val_main_v38, val_main_cst_10, val_main_v37, val_main_v36, val_main_cst_8, val_main_cst_9, val_main_v30, val_main_v29, val_main_cst_3]
  rw [v27 x0 x1 x2 x3 x4 x5 a w x tg gate fg h0 h1 h2 h3 h4 h5]
  simp only [mul_one, lit_half, lit_two, lit_2048, ← EReal.coe_mul, coe_div _ (show (2048 : ℝ) ≠ 0 by norm_num)]
  exact congrArg _ (by ring)

include h0 h1 h2 h3 h4 h5 in
theorem v46 (r l : Fin 2048) : val_main_v46 (F := Ideal) x0 x1 x2 x3 x4 x5 (ix3 0 r l)
    = ((err (res (a r) w (x r) gate) fg (tg r) l * (fg l * (1 / 2048)) : ℝ) : EReal) := by
  pointwise [val_main_v46, val_main_v45, val_main_v24]
  rw [v41 x0 x1 x2 x3 x4 x5 a w x tg gate fg h0 h1 h2 h3 h4 h5, h5, ← EReal.coe_mul]
  exact congrArg _ (by ring)

include h0 h1 h2 h3 h4 h5 in
theorem v55 (r : Fin 2048) : val_main_v55 (F := Ideal) x0 x1 x2 x3 x4 x5 (ix3 0 r 0)
    = (((∑ l, res (a r) w (x r) gate l * (err (res (a r) w (x r) gate) fg (tg r) l * (fg l * (1 / 2048)))) * (-(1 / 2) * (rinv (res (a r) w (x r) gate) / msq (res (a r) w (x r) gate))) / 2048 : ℝ) : EReal) := by
  pointwise [val_main_v55, val_main_v54, val_main_cst_14, val_main_v53, val_main_v50, val_main_v49, val_main_cst_13, val_main_v48]
  simp only [v46 x0 x1 x2 x3 x4 x5 a w x tg gate fg h0 h1 h2 h3 h4 h5, v10 x0 x1 x2 x4 a w x gate h0 h1 h2 h4, v21 x0 x1 x2 x4 a w x gate h0 h1 h2 h4, lit_2048, ← EReal.coe_mul, coe_sum]
  rw [coe_div _ (by norm_num)]

include h0 h1 h2 h3 h4 h5 in
theorem v62 (r l : Fin 2048) : val_main_v62 (F := Ideal) x0 x1 x2 x3 x4 x5 (ix3 0 r l)
    = ((dres (res (a r) w (x r) gate) fg (tg r) l : ℝ) : EReal) := by
  pointwise [val_main_v62, val_main_v61, val_main_v60, val_main_v59, val_main_v58, val_main_v57, val_main_v56, val_main_cst_15, val_main_v52, val_main_v51]
  simp only [hostReduceAdd_unit_ends]
  pointwise
  simp only [Fin.sum_univ_one, v55 x0 x1 x2 x3 x4 x5 a w x tg gate fg h0 h1 h2 h3 h4 h5, v46 x0 x1 x2 x3 x4 x5 a w x tg gate fg h0 h1 h2 h3 h4 h5, v10 x0 x1 x2 x4 a w x gate h0 h1 h2 h4, v18 x0 x1 x2 x4 a w x gate h0 h1 h2 h4, ← EReal.coe_mul, ← EReal.coe_add]
  unfold dres
  rw [grad_eq]
  exact congrArg _ (add_assoc _ _ _)

include h0 h1 h2 h3 h4 h5 in
theorem v64 (r l : Fin 2048) : val_main_v64 (F := Ideal) x0 x1 x2 x3 x4 x5 (ix3 0 r l)
    = ((dres (res (a r) w (x r) gate) fg (tg r) l * gate l : ℝ) : EReal) := by
  pointwise [val_main_v64, val_main_v63, val_main_v7, val_main_v2]
  rw [v62 x0 x1 x2 x3 x4 x5 a w x tg gate fg h0 h1 h2 h3 h4 h5, h4, ← EReal.coe_mul, mul_comm]

include h0 h1 h2 h3 h4 h5 in
/-- The first result: the loss's gradient in the residual stream. -/
theorem v71 (r l : Fin 2048) : val_main_v71 (F := Ideal) x0 x1 x2 x3 x4 x5 (ix2 r l)
    = ((dres (res (a r) w (x r) gate) fg (tg r) l : ℝ) : EReal) := by
  pointwise [val_main_v71]
  exact v62 x0 x1 x2 x3 x4 x5 a w x tg gate fg h0 h1 h2 h3 h4 h5 r l

include h0 h1 h2 h3 h4 h5 in
/-- The second result: the gradient in the projection's output. -/
theorem v73 (r l : Fin 2048) : val_main_v73 (F := Ideal) x0 x1 x2 x3 x4 x5 (ix2 r l)
    = ((dres (res (a r) w (x r) gate) fg (tg r) l * gate l : ℝ) : EReal) := by
  pointwise [val_main_v73, val_main_v72]
  exact v64 x0 x1 x2 x3 x4 x5 a w x tg gate fg h0 h1 h2 h3 h4 h5 r l

include h0 h1 h2 h3 h4 h5 in
/-- The third result: the gradient in the projection's input. -/
theorem v74 (r k : Fin 2048) : val_main_v74 (F := Ideal) x0 x1 x2 x3 x4 x5 (ix2 r k)
    = ((∑ l, dres (res (a r) w (x r) gate) fg (tg r) l * gate l * w k l : ℝ) : EReal) := by
  pointwise [val_main_v74, val_main_v70, val_main_v5]
  simp only [v64 x0 x1 x2 x3 x4 x5 a w x tg gate fg h0 h1 h2 h3 h4 h5, h1, ← EReal.coe_mul, coe_sum]

include h0 h1 h2 h3 h4 h5 in
/-- The fourth result: the loss, in every lane. -/
theorem v75 (l : Fin 128) : val_main_v75 (F := Ideal) x0 x1 x2 x3 x4 x5 (ix2 0 l)
    = ((1 / 2 * ∑ r, rowLoss (res (a r) w (x r) gate) fg (tg r) : ℝ) : EReal) := by
  pointwise [val_main_v75]
  exact v35 x0 x1 x2 x3 x4 x5 a w x tg gate fg h0 h1 h2 h3 h4 h5

include h0 h1 h2 h3 h4 h5 in
/-- The fifth result: the gradient in the final norm's gain. -/
theorem v76 (l : Fin 2048) : val_main_v76 (F := Ideal) x0 x1 x2 x3 x4 x5 (ix2 0 l)
    = ((∑ r, err (res (a r) w (x r) gate) fg (tg r) l * (res (a r) w (x r) gate l * rinv (res (a r) w (x r) gate)) * (1 / 2048) : ℝ) : EReal) := by
  pointwise [val_main_v76, val_main_v47, val_main_cst_12]
  simp only [hostReduceAdd_unit_front]
  pointwise [val_main_v44, val_main_v43, val_main_cst_11, val_main_v42]
  simp only [Finset.univ_unique, Finset.sum_singleton, v23 x0 x1 x2 x4 a w x gate h0 h1 h2 h4, v41 x0 x1 x2 x3 x4 x5 a w x tg gate fg h0 h1 h2 h3 h4 h5, ← EReal.coe_mul, coe_sum]
  exact congrArg _ (Finset.sum_congr rfl fun r _ => by ring)

include h0 h1 h2 h3 h4 h5 in
/-- The sixth result: the gradient in the gate. -/
theorem v69 (l : Fin 2048) : val_main_v69 (F := Ideal) x0 x1 x2 x3 x4 x5 (ix2 0 l)
    = ((∑ r, dres (res (a r) w (x r) gate) fg (tg r) l * proj (a r) w l : ℝ) : EReal) := by
  pointwise [val_main_v69, val_main_v68, val_main_cst_17]
  simp only [hostReduceAdd_unit_front]
  pointwise [val_main_v67, val_main_v66, val_main_cst_16, val_main_v65]
  simp only [Finset.univ_unique, Finset.sum_singleton, v62 x0 x1 x2 x3 x4 x5 a w x tg gate fg h0 h1 h2 h3 h4 h5, v6 x0 x1 a w h0 h1, ← EReal.coe_mul, coe_sum]

end Cert.Reference2Ideal.Closed

end
-- ==== Proof.Head.lean ====
module

public import proofs.«01_k».proof.Defs
public import proofs.«01_k».proof.Proof.HeadKernel
public import proofs.«01_k».proof.Proof.HeadReference
public import proofs.«01_k».proof.Proof.Gen.Reference2Ideal.Run
public import proofs.«01_k».proof.Proof.Gen.Pre_finite_inputs2
public import Idealize.ShloMosaic.Lib.Claim

@[expose] public section

set_option maxRecDepth 16384
set_option backward.proofsInPublic true
noncomputable section
namespace Cert.Head
open Idealize.ShloMosaic Idealize.ShloMosaic.TcCoe Idealize.SL.Sem Idealize.ShloMosaic.Pointwise Cert.Reals Cert.Norm

/-- The kernel's six arrays are the reference's six results, on the arguments the two share. -/
theorem results (m : (ℓ : Loc Kernel2Ideal.nD Kernel2Ideal.τ Kernel2Ideal.sig) → Buf (Elt Ideal) ℓ)
    (hpre : Pre_Kernel2Ideal_finite_inputs2 m) (c : Dev Kernel2Ideal.nD)
    (x0 : FVec Ideal Reference2Ideal.S2048x2048 .bf16)
    (x1 : FVec Ideal Reference2Ideal.S1x2048x2048 .f32)
    (x2 : FVec Ideal Reference2Ideal.S1x2048x2048 .f32)
    (x3 : FVec Ideal Reference2Ideal.S1x2048x2048 .f32)
    (x4 : FVec Ideal Reference2Ideal.S1x6144 .f32)
    (x5 : FVec Ideal Reference2Ideal.S2048 .f32)
    (e0 : m ((c : Thread Kernel2Ideal.nD Kernel2Ideal.τ).loc Kernel2Ideal.main_arg0) = x0)
    (e1 : m ((c : Thread Kernel2Ideal.nD Kernel2Ideal.τ).loc Kernel2Ideal.main_arg1) = x1)
    (e2 : m ((c : Thread Kernel2Ideal.nD Kernel2Ideal.τ).loc Kernel2Ideal.main_arg2) = x2)
    (e3 : m ((c : Thread Kernel2Ideal.nD Kernel2Ideal.τ).loc Kernel2Ideal.main_arg3) = x3)
    (e4 : m ((c : Thread Kernel2Ideal.nD Kernel2Ideal.τ).loc Kernel2Ideal.main_arg4) = x4)
    (e5 : m ((c : Thread Kernel2Ideal.nD Kernel2Ideal.τ).loc Kernel2Ideal.main_arg5) = x5) :
    Reference2Ideal.Read.val_main_v71 (F := Ideal) x0 x1 x2 x3 x4 x5 = (Kernel2Ideal.Gen.dats m 0 c).arrAt 6 Kernel2Ideal.cfg0.N
    ∧ Reference2Ideal.Read.val_main_v73 (F := Ideal) x0 x1 x2 x3 x4 x5 = (Kernel2Ideal.Gen.dats m 0 c).arrAt 7 Kernel2Ideal.cfg0.N
    ∧ Reference2Ideal.Read.val_main_v74 (F := Ideal) x0 x1 x2 x3 x4 x5 = (Kernel2Ideal.Gen.dats m 0 c).arrAt 8 Kernel2Ideal.cfg0.N
    ∧ Reference2Ideal.Read.val_main_v75 (F := Ideal) x0 x1 x2 x3 x4 x5 = (Kernel2Ideal.Gen.dats m 0 c).arrAt 9 Kernel2Ideal.cfg0.N
    ∧ Reference2Ideal.Read.val_main_v76 (F := Ideal) x0 x1 x2 x3 x4 x5 = (Kernel2Ideal.Gen.dats m 0 c).arrAt 10 Kernel2Ideal.cfg0.N
    ∧ Reference2Ideal.Read.val_main_v69 (F := Ideal) x0 x1 x2 x3 x4 x5 = (Kernel2Ideal.Gen.dats m 0 c).arrAt 11 Kernel2Ideal.cfg0.N := by
  obtain ⟨p0, p1, p2, p3, p4, p5⟩ := hpre c
  obtain ⟨r0, q0⟩ := lift_of_olt _ _ lit_inf_bf16 p0
  obtain ⟨r1, q1⟩ := lift_of_olt _ _ lit_inf p1
  obtain ⟨r2, q2⟩ := lift_of_olt _ _ lit_inf p2
  obtain ⟨r3, q3⟩ := lift_of_olt _ _ lit_inf p3
  obtain ⟨r4, q4⟩ := lift_of_olt _ _ lit_inf p4
  obtain ⟨r5, q5⟩ := lift_of_olt _ _ lit_inf p5
  have a0 := e0.symm.trans q0
  have a1 := e1.symm.trans q1
  have a2 := e2.symm.trans q2
  have a3 := e3.symm.trans q3
  have a4 := e4.symm.trans q4
  have a5 := e5.symm.trans q5
  set a : Fin 2048 → Fin 2048 → ℝ := fun r k => r0 (ix2 r k)
  set w : Fin 2048 → Fin 2048 → ℝ := fun k l => r1 (ix3 0 k l)
  set x : Fin 2048 → Fin 2048 → ℝ := fun r l => r2 (ix3 0 r l)
  set tg : Fin 2048 → Fin 2048 → ℝ := fun r l => r3 (ix3 0 r l)
  set gate : Fin 2048 → ℝ := fun l => r4 (ix2 0 ⟨4096 + l.val, by omega⟩)
  set fg : Fin 2048 → ℝ := fun l => r5 (ix1 l)
  have h0 : ∀ r k, x0 (ix2 r k) = ((a r k : ℝ) : EReal) := fun r k => congrFun a0 _
  have h1 : ∀ k l, x1 (ix3 0 k l) = ((w k l : ℝ) : EReal) := fun k l => congrFun a1 _
  have h2 : ∀ r l, x2 (ix3 0 r l) = ((x r l : ℝ) : EReal) := fun r l => congrFun a2 _
  have h3 : ∀ r l, x3 (ix3 0 r l) = ((tg r l : ℝ) : EReal) := fun r l => congrFun a3 _
  have h4 : ∀ l : Fin 2048, x4 (ix2 0 ⟨4096 + l.val, by omega⟩) = ((gate l : ℝ) : EReal) := fun l => congrFun a4 _
  have h5 : ∀ l, x5 (ix1 l) = ((fg l : ℝ) : EReal) := fun l => congrFun a5 _
  have k0 := fun r k => (congrFun e0 (ix2 r k)).trans (h0 r k)
  have k1 := fun k l => (congrFun e1 (ix3 0 k l)).trans (h1 k l)
  have k2 := fun r l => (congrFun e2 (ix3 0 r l)).trans (h2 r l)
  have k3 := fun r l => (congrFun e3 (ix3 0 r l)).trans (h3 r l)
  have k4 := fun l : Fin 2048 => (congrFun e4 (ix2 0 ⟨4096 + l.val, by omega⟩)).trans (h4 l)
  have k5 := fun l => (congrFun e5 (ix1 l)).trans (h5 l)
  refine ⟨?_, ?_, ?_, ?_, ?_, ?_⟩
  · rw [Kernel2Ideal.Closed.dx_array m c a w x tg gate fg k0 k1 k2 k3 k4 k5]
    funext i
    idx_vars i
    exact Reference2Ideal.Closed.v71 x0 x1 x2 x3 x4 x5 a w x tg gate fg h0 h1 h2 h3 h4 h5 _ _
  · rw [Kernel2Ideal.Closed.dy_array m c a w x tg gate fg k0 k1 k2 k3 k4 k5]
    funext i
    idx_vars i
    exact Reference2Ideal.Closed.v73 x0 x1 x2 x3 x4 x5 a w x tg gate fg h0 h1 h2 h3 h4 h5 _ _
  · rw [Kernel2Ideal.Closed.da_array m c a w x tg gate fg k0 k1 k2 k3 k4 k5]
    funext i
    idx_vars i
    exact Reference2Ideal.Closed.v74 x0 x1 x2 x3 x4 x5 a w x tg gate fg h0 h1 h2 h3 h4 h5 _ _
  · rw [Kernel2Ideal.Closed.loss_array m c a w x tg gate fg k0 k1 k2 k3 k4 k5]
    funext i
    idx_vars i
    obtain rfl : i0 = 0 := Subsingleton.elim _ _
    exact Reference2Ideal.Closed.v75 x0 x1 x2 x3 x4 x5 a w x tg gate fg h0 h1 h2 h3 h4 h5 _
  · rw [Kernel2Ideal.Closed.dfg_array m c a w x tg gate fg k0 k1 k2 k3 k4 k5]
    funext i
    idx_vars i
    obtain rfl : i0 = 0 := Subsingleton.elim _ _
    exact Reference2Ideal.Closed.v76 x0 x1 x2 x3 x4 x5 a w x tg gate fg h0 h1 h2 h3 h4 h5 _
  · rw [Kernel2Ideal.Closed.dgate_array m c a w x tg gate fg k0 k1 k2 k3 k4 k5]
    funext i
    idx_vars i
    obtain rfl : i0 = 0 := Subsingleton.elim _ _
    exact Reference2Ideal.Closed.v69 x0 x1 x2 x3 x4 x5 a w x tg gate fg h0 h1 h2 h3 h4 h5 _

theorem algebraic : Cert.algebraic_Kernel2Ideal_Reference2Ideal_pre_finite_inputs2 := by
  pair_intro
  · run_from Cert.Kernel2Ideal.Value.run_blocks m g
  · run_from Cert.Reference2Ideal.Value.run m' g'
    · rw [Reference2Ideal.Read.val_main_v71_eq, (hagree c).1, (hagree c).2.1, (hagree c).2.2.1, (hagree c).2.2.2.1, (hagree c).2.2.2.2.1, (hagree c).2.2.2.2.2]
      exact (results m hpre c _ _ _ _ _ _ rfl rfl rfl rfl rfl rfl).1
    · rw [Reference2Ideal.Read.val_main_v73_eq, (hagree c).1, (hagree c).2.1, (hagree c).2.2.1, (hagree c).2.2.2.1, (hagree c).2.2.2.2.1, (hagree c).2.2.2.2.2]
      exact (results m hpre c _ _ _ _ _ _ rfl rfl rfl rfl rfl rfl).2.1
    · rw [Reference2Ideal.Read.val_main_v74_eq, (hagree c).1, (hagree c).2.1, (hagree c).2.2.1, (hagree c).2.2.2.1, (hagree c).2.2.2.2.1, (hagree c).2.2.2.2.2]
      exact (results m hpre c _ _ _ _ _ _ rfl rfl rfl rfl rfl rfl).2.2.1
    · rw [Reference2Ideal.Read.val_main_v75_eq, (hagree c).1, (hagree c).2.1, (hagree c).2.2.1, (hagree c).2.2.2.1, (hagree c).2.2.2.2.1, (hagree c).2.2.2.2.2]
      exact (results m hpre c _ _ _ _ _ _ rfl rfl rfl rfl rfl rfl).2.2.2.1
    · rw [Reference2Ideal.Read.val_main_v76_eq, (hagree c).1, (hagree c).2.1, (hagree c).2.2.1, (hagree c).2.2.2.1, (hagree c).2.2.2.2.1, (hagree c).2.2.2.2.2]
      exact (results m hpre c _ _ _ _ _ _ rfl rfl rfl rfl rfl rfl).2.2.2.2.1
    · rw [Reference2Ideal.Read.val_main_v69_eq, (hagree c).1, (hagree c).2.1, (hagree c).2.2.1, (hagree c).2.2.2.1, (hagree c).2.2.2.2.1, (hagree c).2.2.2.2.2]
      exact (results m hpre c _ _ _ _ _ _ rfl rfl rfl rfl rfl rfl).2.2.2.2.2

end Cert.Head

end
-- ==== Proof.MixerMath.lean ====
/-
  The mixer's backward pass on real numbers: the logistic function, the derivative of its product with its argument,
  and the gradients of one block of the attention.
-/
module

public import proofs.«01_k».proof.Proof.Reals
public import Idealize.ShloMosaic.Lib.Pipeline.ValueKit
public import Idealize.ShloMosaic.Lib.WordCmp

@[expose] public section

noncomputable section

namespace Cert.MixerMath

open Idealize.ShloMosaic Cert.Reals

/-- The logistic function. -/
def sgm (x : ℝ) : ℝ := 1 / (1 + Real.exp (-x))

/-- The derivative of `x * sgm x`. -/
def dsilu (x : ℝ) : ℝ := sgm x * (1 + x * (1 - sgm x))

theorem one_add_exp_pos (x : ℝ) : 0 < 1 + Real.exp (-x) := by positivity

/-- The logistic function through the hyperbolic tangent of half its argument. -/
theorem half_tanh (x : ℝ) : 1 / 2 * (Real.tanh (1 / 2 * x) + 1) = sgm x := by
  unfold sgm
  rw [show 1 / 2 * x = x / 2 by ring, Real.tanh_eq_sinh_div_cosh, Real.sinh_eq, Real.cosh_eq]
  have h1 : Real.exp (-x) = Real.exp (-(x / 2)) * Real.exp (-(x / 2)) := by rw [← Real.exp_add]; ring_nf
  have h2 : Real.exp (x / 2) * Real.exp (-(x / 2)) = 1 := by rw [← Real.exp_add]; simp
  rw [h1]
  have p1 := Real.exp_pos (x / 2)
  have p2 := Real.exp_pos (-(x / 2))
  field_simp
  linear_combination 2 * Real.exp (-(x / 2)) * h2

theorem lit_eighth : Ideal.ofBits .f32 0x3E000000#32 = ((1 / 8 : ℝ) : EReal) := by
  simp [Ideal.ofBits, Ideal.ieee]
  rw [← EReal.coe_mul]
  norm_num

theorem lit_1024 : Ideal.ofBits .f32 0x44800000#32 = ((1024 : ℝ) : EReal) := by
  simp [Ideal.ofBits, Ideal.ieee]
  rw [← EReal.coe_mul]
  norm_num

theorem coe_tanh (x : ℝ) : Ideal.tanh (x : EReal) = ((Real.tanh x : ℝ) : EReal) := rfl

theorem coe_exp (x : ℝ) : Ideal.exp (x : EReal) = ((Real.exp x : ℝ) : EReal) := rfl

/-- A choice by a truth value of a decidable statement. -/
theorem select_decide {α : Type} (p : Prop) [Decidable p] (u v : α) :
    Scalar.select (BitVec.ofBool (decide p)) u v = if p then u else v := by
  by_cases h : p <;> simp [h, Scalar.select]

/-- A sum over the columns of eight tiles of 128, tile by tile. -/
theorem sum_cols {α : Type} [AddCommMonoid α] (f : Fin 1024 → α) :
    ∑ c, f c = ∑ j : Fin 8, ∑ t : Fin 128, f ⟨j.val * 128 + t.val, by omega⟩ :=
  (Fin.sum_mul_add_fin 8 128 f (by decide)).symm

/-- A sum over 128 features, half by half. -/
theorem sum_feat {α : Type} [AddCommMonoid α] (f : Fin 128 → α) :
    ∑ e, f e = ∑ h : Fin 2, ∑ d : Fin 64, f ⟨h.val * 64 + d.val, by omega⟩ :=
  (Fin.sum_mul_add_fin 2 64 f (by decide)).symm

/-- The mean of a row of 1024. -/
def mean (x : Fin 1024 → ℝ) : ℝ := (∑ k, x k) / 1024

def cen (x : Fin 1024 → ℝ) (k : Fin 1024) : ℝ := x k - mean x

/-- The variance of a row, with the small constant added. -/
def vari (x : Fin 1024 → ℝ) : ℝ := (∑ k, cen x k * cen x k) / 1024 + eps

theorem vari_pos (x : Fin 1024 → ℝ) : 0 < vari x :=
  add_pos_of_nonneg_of_pos (div_nonneg (Finset.sum_nonneg fun c _ => mul_self_nonneg _) (by norm_num)) eps_pos

def rs (x : Fin 1024 → ℝ) : ℝ := (Real.sqrt (vari x))⁻¹

/-- The normalised row. -/
def hat (x : Fin 1024 → ℝ) (k : Fin 1024) : ℝ := cen x k * rs x

/-- The gradient of the normalised row along the cotangent `d`. -/
def dhat (x d : Fin 1024 → ℝ) (k : Fin 1024) : ℝ :=
  rs x * (d k - (∑ l, d l) / 1024 - hat x k * ((∑ l, d l * hat x l) / 1024))

end Cert.MixerMath
end
-- ==== Proof.MixerTiles.lean ====
/-
  The tiles of one block of the mixer's backward pass: the arrays the body forms from the parts of a block it loads,
  written once for both key/value heads and both blocks of a step.
-/
module

public import proofs.«01_k».proof.Proof.Gen.Kernel3Ideal.Skeleton
public import Idealize.ShloMosaic.Lib.Pointwise
public import proofs.«01_k».proof.Proof.MixerMath

@[expose] public section

set_option maxRecDepth 16384
set_option backward.proofsInPublic true
noncomputable section
namespace Cert.Kernel3Ideal.Tiles
open Idealize.ShloMosaic Idealize.ShloMosaic.TcCoe Idealize.SL.Sem Idealize.ShloMosaic.Pointwise
open Cert.Kernel3Ideal Cert.Kernel3Ideal.Gen

/-- A number in every place. -/
def fill (s : Shape) (b : BitVec 32) : FVec Ideal s .f32 := broadcast s (Scalar.ofBits (F := Ideal) .f32 b)

/-- The rows of the block before over those of the block: the columns of the keys. -/
def keys (a b : FVec Ideal S128x256 .f32) : FVec Ideal S256x128 .f32 :=
  concatenate S256x128 0 [⟨S128x128, extractStridedSlice S128x128 ![0, 0] a slices_S128x256_o0_0_S128x128⟩,
    ⟨S128x128, extractStridedSlice S128x128 ![0, 0] b slices_S128x256_o0_0_S128x128⟩] concatenates_S128x128_S128x128_S256x128_d0

/-- The rows of the block before over those of the block: the columns of the values. -/
def vals (a b : FVec Ideal S128x256 .f32) : FVec Ideal S256x128 .f32 :=
  concatenate S256x128 0 [⟨S128x128, extractStridedSlice S128x128 ![0, 128] a slices_S128x256_o0_128_S128x128⟩,
    ⟨S128x128, extractStridedSlice S128x128 ![0, 128] b slices_S128x256_o0_128_S128x128⟩] concatenates_S128x128_S128x128_S256x128_d0

/-- The transpose of the keys or values, narrowed. -/
def turned (v : FVec Ideal S256x128 .f32) : FVec Ideal S128x256 .bf16 :=
  truncf .bf16 (transpose S128x256 [1, 0] v transposes_S256x128_p1_0_S128x256) bitsLt_bf16_f32

def turn (x : FVec Ideal S128x128 .f32) : FVec Ideal S128x128 .f32 :=
  transpose S128x128 [1, 0] x transposes_S128x128_p1_0_S128x128

/-- The first 64 rows of a tile. -/
def isTop : IVec S128x128 1 :=
  cmpi .slt (iota .tc S128x128 32 [0] iota_S128x128_d0_w32) (broadcast S128x128 64#32)

def halves (a b : FVec Ideal S64x128 .f32) : FVec Ideal S128x128 .f32 :=
  concatenate S128x128 0 [⟨S64x128, a⟩, ⟨S64x128, b⟩] concatenates_S64x128_S64x128_S128x128_d0

def eight (a b c d e f g h : FVec Ideal S128x128 .f32) : FVec Ideal S128x1024 .f32 :=
  concatenate S128x1024 1 [⟨S128x128, a⟩, ⟨S128x128, b⟩, ⟨S128x128, c⟩, ⟨S128x128, d⟩, ⟨S128x128, e⟩, ⟨S128x128, f⟩,
    ⟨S128x128, g⟩, ⟨S128x128, h⟩]
    concatenates_S128x128_S128x128_S128x128_S128x128_S128x128_S128x128_S128x128_S128x128_S128x1024_d1

/-- The first of two heads, left in the first 64 rows. -/
def low0 (x : FVec Ideal S128x128 .f32) : FVec Ideal S128x128 .f32 := select isTop (turn x) (fill S128x128 0x00000000#32)

/-- The second of two heads, moved to the first 64 rows. -/
def high0 (x : FVec Ideal S128x128 .f32) : FVec Ideal S128x128 .f32 :=
  halves (extractStridedSlice S64x128 ![64, 0] (turn x) slices_S128x128_o64_0_S64x128) (fill S64x128 0x00000000#32)

/-- The first of two heads, moved to the last 64 rows. -/
def low1 (x : FVec Ideal S128x128 .f32) : FVec Ideal S128x128 .f32 :=
  halves (fill S64x128 0x00000000#32) (extractStridedSlice S64x128 ![0, 0] (turn x) slices_S128x128_o0_0_S64x128)

/-- The second of two heads, left in the last 64 rows. -/
def high1 (x : FVec Ideal S128x128 .f32) : FVec Ideal S128x128 .f32 := select isTop (fill S128x128 0x00000000#32) (turn x)

/-- The heads of the first key/value head, feature by row, in the first 64 rows. -/
def heads0 (a b c d : FVec Ideal S128x128 .f32) : FVec Ideal S128x1024 .bf16 :=
  truncf .bf16 (eight (low0 a) (high0 a) (low0 b) (high0 b) (low0 c) (high0 c) (low0 d) (high0 d)) bitsLt_bf16_f32

/-- The heads of the second key/value head, feature by row, in the last 64 rows. -/
def heads1 (a b c d : FVec Ideal S128x128 .f32) : FVec Ideal S128x1024 .bf16 :=
  truncf .bf16 (eight (low1 a) (high1 a) (low1 b) (high1 b) (low1 c) (high1 c) (low1 d) (high1 d)) bitsLt_bf16_f32

def scaled (x : FVec Ideal S128x128 .f32) : FVec Ideal S128x128 .f32 := mulf x (fill S128x128 0x3E000000#32)

/-- The logistic function, as half of one more than the hyperbolic tangent of half. -/
def sgv (x : FVec Ideal S128x128 .f32) : FVec Ideal S128x128 .f32 :=
  mulf (fill S128x128 0x3F000000#32) (addf (tanh (mulf (fill S128x128 0x3F000000#32) x)) (fill S128x128 0x3F800000#32))

/-- The derivative of the gate. -/
def dgate (x : FVec Ideal S128x128 .f32) : FVec Ideal S128x128 .f32 :=
  mulf (sgv x) (addf (fill S128x128 0x3F800000#32) (mulf x (subf (fill S128x128 0x3F800000#32) (sgv x))))

/-- The gradient behind the gate. -/
def gated (d g : FVec Ideal S128x128 .f32) : FVec Ideal S128x128 .f32 := mulf d (mulf g (sgv g))

def probOf (p : FVec Ideal S1x256x1024 .bf16) : FVec Ideal S256x1024 .bf16 :=
  shapeCast S256x1024 p shapeCasts_S1x256x1024_S256x1024

/-- The values against the gradient of the attention's result. -/
def dProb (v : FVec Ideal S256x128 .f32) (o : FVec Ideal S128x1024 .bf16) : FVec Ideal S256x1024 .f32 :=
  matmul dot_S256x128_S128x1024_S256x1024_1_0_0_1_n_n none (truncf .bf16 v bitsLt_bf16_f32) o
    (constant S256x1024 .f32 0x00000000#32)

/-- The probabilities' gradient, weighted by the probabilities and summed over the keys. -/
def delta (p : FVec Ideal S256x1024 .bf16) (d : FVec Ideal S256x1024 .f32) : FVec Ideal S1x1024 .f32 :=
  shapeCast S1x1024 (multiReduction .add [0] S1024 (mulf (extf .f32 p bitsLt_bf16_f32) d) 0x00000000#32
    reduces_S256x1024_S1024 (.inl rfl) rfl) shapeCasts_S1024_S1x1024

/-- The gradient of the scores. -/
def dScores (p : FVec Ideal S256x1024 .bf16) (d : FVec Ideal S256x1024 .f32) : FVec Ideal S256x1024 .bf16 :=
  truncf .bf16 (mulf (extf .f32 p bitsLt_bf16_f32) (subf d (broadcastTo S256x1024 (delta p d) broadcasts_S1x1024_S256x1024)))
    bitsLt_bf16_f32

/-- The sinks' sums, one block further. -/
def sinkStep (old s : FVec Ideal S1x1x1024 .f32) (d : FVec Ideal S1x1024 .f32) : FVec Ideal S1x1x1024 .f32 :=
  shapeCast S1x1x1024 (subf (shapeCast S1x1024 old shapeCasts_S1x1x1024_S1x1024)
    (mulf (shapeCast S1x1024 s shapeCasts_S1x1x1024_S1x1024) d)) shapeCasts_S1x1024_S1x1x1024

/-- Keys or values, feature by row, against an array over the keys. -/
def byKeys (k : FVec Ideal S128x256 .bf16) (d : FVec Ideal S256x1024 .bf16) : FVec Ideal S128x1024 .f32 :=
  matmul dot_S128x256_S256x1024_S128x1024_1_0_0_1_n_n none k d (constant S128x1024 .f32 0x00000000#32)

/-- A sum over the queries, added to the sum so far. -/
def byQueries (acc : FVec Ideal S256x128 .f32) (d : FVec Ideal S256x1024 .bf16) (q : FVec Ideal S128x1024 .bf16) :
    FVec Ideal S256x128 .f32 :=
  addf acc (matmul dot_S256x1024_S128x1024_S256x128_1_1_0_0_n_n none d q (constant S256x128 .f32 0x00000000#32))

/-- Two heads of a tile, query by row. -/
def pairOf (r k l : ℕ) (hk : S128x1024.Slices ![r, k] S64x128) (hl : S128x1024.Slices ![r, l] S64x128)
    (x : FVec Ideal S128x1024 .f32) : FVec Ideal S128x128 .f32 :=
  turn (halves (extractStridedSlice S64x128 ![r, k] x hk) (extractStridedSlice S64x128 ![r, l] x hl))

def dqTile (x : FVec Ideal S128x128 .f32) : FVec Ideal S128x128 .bf16 := truncf .bf16 (scaled x) bitsLt_bf16_f32

def dgaTile (d o g : FVec Ideal S128x128 .f32) : FVec Ideal S128x128 .bf16 :=
  truncf .bf16 (mulf (mulf d o) (dgate g)) bitsLt_bf16_f32

def dkv (k v : FVec Ideal S256x128 .f32) : FVec Ideal S256x256 .f32 :=
  concatenate S256x256 1 [⟨S256x128, k⟩, ⟨S256x128, v⟩] concatenates_S256x128_S256x128_S256x256_d1

def kvTile (d : FVec Ideal S256x256 .f32) (carry : FVec Ideal S128x256 .f32) : FVec Ideal S128x256 .bf16 :=
  truncf .bf16 (addf (extractStridedSlice S128x256 ![128, 0] d slices_S256x256_o128_0_S128x256) carry) bitsLt_bf16_f32

def handed (d : FVec Ideal S256x256 .f32) : FVec Ideal S128x256 .f32 :=
  extractStridedSlice S128x256 ![0, 0] d slices_S256x256_o0_0_S128x256

end Cert.Kernel3Ideal.Tiles
end
-- ==== Proof.MixerAttn.lean ====
/-
  The tiles of the attention's backward pass at an index, on real numbers.
-/
module

public import proofs.«01_k».proof.Proof.MixerTiles

@[expose] public section

set_option maxRecDepth 16384
set_option backward.proofsInPublic true
noncomputable section
namespace Cert.Kernel3Ideal.Tiles
open Idealize.ShloMosaic Idealize.ShloMosaic.TcCoe Idealize.SL.Sem Idealize.ShloMosaic.Pointwise
open Cert.Kernel3Ideal Cert.Kernel3Ideal.Gen Cert.Reals Cert.MixerMath

/-- The column of head `j` and query `t` in a tile of eight heads. -/
def col (j : Fin 8) (t : Fin 128) : Fin 1024 := ⟨j.val * 128 + t.val, by omega⟩

/-- A head's features among the 128 of the two key/value heads, zero elsewhere. -/
def pad (g : Fin 2) (x : Fin 8 → Fin 128 → Fin 64 → ℝ) (e : Fin 128) (j : Fin 8) (t : Fin 128) : ℝ :=
  if e.val / 64 = g.val then x j t ⟨e.val % 64, Nat.mod_lt _ (by norm_num)⟩ else 0

def feat (h : Fin 2) (d : Fin 64) : Fin 128 := ⟨h.val * 64 + d.val, by omega⟩

theorem sum_pad (g : Fin 2) (x : Fin 8 → Fin 128 → Fin 64 → ℝ) (w : Fin 128 → ℝ) (j : Fin 8) (t : Fin 128) :
    ∑ e, w e * pad g x e j t = ∑ d, w (feat g d) * x j t d := by
  rw [sum_feat]
  have hp : ∀ (h : Fin 2) (d : Fin 64), pad g x ⟨h.val * 64 + d.val, by omega⟩ j t = if h = g then x j t d else 0 := by
    intro h d
    unfold pad
    have h1 : (h.val * 64 + d.val) / 64 = h.val := by omega
    have h2 : (h.val * 64 + d.val) % 64 = d.val := by omega
    simp only [h1, h2, Fin.ext_iff]
  simp only [hp, mul_ite, mul_zero]
  rw [Finset.sum_eq_single g (fun h _ hn => by simp [hn]) (by simp)]
  simp [feat]

theorem turn_apply (x : FVec Ideal S128x128 .f32) (i j : Fin 128) : turn x (ix2 i j) = x (ix2 j i) := by
  pointwise [turn]

theorem fill_zero {s : Shape} (i : s.Idx) : fill s 0x00000000#32 i = ((0 : ℝ) : EReal) := lit_zero

theorem eight_apply (y0 y1 y2 y3 y4 y5 y6 y7 : FVec Ideal S128x128 .f32) (e : Fin 128) (j : Fin 8) (t : Fin 128) :
    eight y0 y1 y2 y3 y4 y5 y6 y7 (ix2 e (col j t)) = ![y0, y1, y2, y3, y4, y5, y6, y7] j (ix2 e t) := by
  have ht := t.isLt
  fin_cases j <;>
  · pointwise [eight, col]
    repeat first | rw [dif_pos (by omega)] | rw [dif_neg (by omega)]
    try first
    | rfl
    | exact congrArg (fun u => y1 (ix2 e u)) (Fin.ext (by dsimp only; omega))
    | exact congrArg (fun u => y2 (ix2 e u)) (Fin.ext (by dsimp only; omega))
    | exact congrArg (fun u => y3 (ix2 e u)) (Fin.ext (by dsimp only; omega))
    | exact congrArg (fun u => y4 (ix2 e u)) (Fin.ext (by dsimp only; omega))
    | exact congrArg (fun u => y5 (ix2 e u)) (Fin.ext (by dsimp only; omega))
    | exact congrArg (fun u => y6 (ix2 e u)) (Fin.ext (by dsimp only; omega))
    | exact congrArg (fun u => y7 (ix2 e u)) (Fin.ext (by dsimp only; omega))

theorem halves_apply (a b : FVec Ideal S64x128 .f32) (h : Fin 2) (d : Fin 64) (t : Fin 128) :
    halves a b (ix2 (feat h d) t) = if h = 0 then a (ix2 d t) else b (ix2 d t) := by
  have hd := d.isLt
  fin_cases h <;>
  · pointwise [halves, feat]
    repeat first | rw [dif_pos (by omega)] | rw [dif_neg (by omega)]
    try exact congrArg (fun u => b (ix2 u t)) (Fin.ext (by dsimp only; omega))

theorem isTop_apply (h : Fin 2) (d : Fin 64) (t : Fin 128) (u v : EReal) :
    Scalar.select (isTop (ix2 (feat h d) t)) u v = if h = 0 then u else v := by
  have hd := d.isLt
  have hh := h.isLt
  pointwise [isTop, feat]
  rw [WordCmp.cmpi_slt_ofNat (by norm_num; omega) (by norm_num), select_decide]
  exact if_congr (by rw [Fin.ext_iff]; show _ ↔ h.val = 0; omega) rfl rfl

theorem feat_cases (e : Fin 128) : ∃ h d, e = feat h d :=
  ⟨⟨e.val / 64, by omega⟩, ⟨e.val % 64, by omega⟩, Fin.ext (by simp [feat]; omega)⟩

theorem pad_feat (g : Fin 2) (x : Fin 8 → Fin 128 → Fin 64 → ℝ) (h : Fin 2) (d : Fin 64) (j : Fin 8) (t : Fin 128) :
    pad g x (feat h d) j t = if h = g then x j t d else 0 := by
  unfold pad feat
  have h1 : (h.val * 64 + d.val) / 64 = h.val := by omega
  have h2 : (h.val * 64 + d.val) % 64 = d.val := by omega
  simp only [h1, h2, Fin.ext_iff]

section Heads
variable (a : Fin 4 → FVec Ideal S128x128 .f32) (x : Fin 8 → Fin 128 → Fin 64 → ℝ)
  (ha : ∀ (p : Fin 4) (t : Fin 128) (h : Fin 2) (d : Fin 64),
    a p (ix2 t (feat h d)) = ((x ⟨2 * p.val + h.val, by omega⟩ t d : ℝ) : EReal))

include ha in
theorem low0_apply (p : Fin 4) (e t : Fin 128) :
    low0 (a p) (ix2 e t) = ((pad 0 x e ⟨2 * p.val, by omega⟩ t : ℝ) : EReal) := by
  obtain ⟨h, d, rfl⟩ := feat_cases e
  rw [pad_feat]
  refine (isTop_apply h d t _ _).trans ?_
  rw [turn_apply, ha, fill_zero]
  fin_cases h <;> rfl

include ha in
theorem high0_apply (p : Fin 4) (e t : Fin 128) :
    high0 (a p) (ix2 e t) = ((pad 0 x e ⟨2 * p.val + 1, by omega⟩ t : ℝ) : EReal) := by
  obtain ⟨h, d, rfl⟩ := feat_cases e
  rw [pad_feat, high0, halves_apply]
  pointwise
  rw [turn_apply, fill_zero]
  fin_cases h
  · exact ha p t 1 d
  · rfl

include ha in
theorem low1_apply (p : Fin 4) (e t : Fin 128) :
    low1 (a p) (ix2 e t) = ((pad 1 x e ⟨2 * p.val, by omega⟩ t : ℝ) : EReal) := by
  obtain ⟨h, d, rfl⟩ := feat_cases e
  rw [pad_feat, low1, halves_apply]
  pointwise
  rw [turn_apply, fill_zero]
  fin_cases h
  · rfl
  · refine Eq.trans (congrArg (fun u => a p (ix2 t u)) (Fin.ext ?_)) (ha p t 0 d)
    simp [feat]

include ha in
theorem high1_apply (p : Fin 4) (e t : Fin 128) :
    high1 (a p) (ix2 e t) = ((pad 1 x e ⟨2 * p.val + 1, by omega⟩ t : ℝ) : EReal) := by
  obtain ⟨h, d, rfl⟩ := feat_cases e
  rw [pad_feat]
  refine (isTop_apply h d t _ _).trans ?_
  rw [turn_apply, ha, fill_zero]
  fin_cases h <;> rfl

include ha in
theorem heads0_apply (e : Fin 128) (j : Fin 8) (t : Fin 128) :
    heads0 (a 0) (a 1) (a 2) (a 3) (ix2 e (col j t)) = ((pad 0 x e j t : ℝ) : EReal) := by
  refine (eight_apply _ _ _ _ _ _ _ _ e j t).trans ?_
  fin_cases j
  · exact low0_apply a x ha 0 e t
  · exact high0_apply a x ha 0 e t
  · exact low0_apply a x ha 1 e t
  · exact high0_apply a x ha 1 e t
  · exact low0_apply a x ha 2 e t
  · exact high0_apply a x ha 2 e t
  · exact low0_apply a x ha 3 e t
  · exact high0_apply a x ha 3 e t

include ha in
theorem heads1_apply (e : Fin 128) (j : Fin 8) (t : Fin 128) :
    heads1 (a 0) (a 1) (a 2) (a 3) (ix2 e (col j t)) = ((pad 1 x e j t : ℝ) : EReal) := by
  refine (eight_apply _ _ _ _ _ _ _ _ e j t).trans ?_
  fin_cases j
  · exact low1_apply a x ha 0 e t
  · exact high1_apply a x ha 0 e t
  · exact low1_apply a x ha 1 e t
  · exact high1_apply a x ha 1 e t
  · exact low1_apply a x ha 2 e t
  · exact high1_apply a x ha 2 e t
  · exact low1_apply a x ha 3 e t
  · exact high1_apply a x ha 3 e t

end Heads

section Elementwise
variable (x y z : FVec Ideal S128x128 .f32) (i : S128x128.Idx) (a b c : ℝ)
  (hx : x i = (a : EReal)) (hy : y i = (b : EReal)) (hz : z i = (c : EReal))

include hx in
theorem scaled_apply : scaled x i = ((a * (1 / 8) : ℝ) : EReal) := by
  show x i * Ideal.ofBits .f32 0x3E000000#32 = _
  rw [hx, lit_eighth, ← EReal.coe_mul]

include hx in
theorem sig_apply : sgv x i = ((sgm a : ℝ) : EReal) := by
  show Ideal.ofBits .f32 0x3F000000#32 * (Ideal.tanh (Ideal.ofBits .f32 0x3F000000#32 * x i) + Ideal.ofBits .f32 0x3F800000#32) = _
  rw [hx, lit_half, lit_one, ← EReal.coe_mul, coe_tanh, ← EReal.coe_add, ← EReal.coe_mul, half_tanh]

include hx in
theorem dgate_apply : dgate x i = ((dsilu a : ℝ) : EReal) := by
  show sgv x i * (Ideal.ofBits .f32 0x3F800000#32 + x i * (Ideal.ofBits .f32 0x3F800000#32 - sgv x i)) = _
  rw [sig_apply x i a hx, hx, lit_one, ← EReal.coe_sub, ← EReal.coe_mul, ← EReal.coe_add, ← EReal.coe_mul]
  rfl

include hx hy in
theorem gated_apply : gated y x i = ((b * (a * sgm a) : ℝ) : EReal) := by
  show y i * (x i * sgv x i) = _
  rw [sig_apply x i a hx, hx, hy, ← EReal.coe_mul, ← EReal.coe_mul]

include hx hy hz in
theorem dgaTile_apply : dgaTile y z x i = ((b * c * dsilu a : ℝ) : EReal) := by
  show y i * z i * dgate x i = _
  rw [dgate_apply x i a hx, hy, hz, ← EReal.coe_mul, ← EReal.coe_mul]

include hx in
theorem dqTile_apply : dqTile x i = ((a * (1 / 8) : ℝ) : EReal) := scaled_apply x i a hx

end Elementwise

section Block
variable (k v : FVec Ideal S256x128 .f32) (p : FVec Ideal S256x1024 .bf16) (q o : FVec Ideal S128x1024 .bf16)
  (K V : Fin 256 → Fin 128 → ℝ) (P : Fin 256 → Fin 8 → Fin 128 → ℝ) (Q O : Fin 128 → Fin 8 → Fin 128 → ℝ)
  (hk : ∀ s e, k (ix2 s e) = ((K s e : ℝ) : EReal)) (hv : ∀ s e, v (ix2 s e) = ((V s e : ℝ) : EReal))
  (hp : ∀ s j t, p (ix2 s (col j t)) = ((P s j t : ℝ) : EReal))
  (hq : ∀ e j t, q (ix2 e (col j t)) = ((Q e j t : ℝ) : EReal))
  (ho : ∀ e j t, o (ix2 e (col j t)) = ((O e j t : ℝ) : EReal))

include hv ho in
theorem dProb_apply (s : Fin 256) (j : Fin 8) (t : Fin 128) :
    dProb v o (ix2 s (col j t)) = ((∑ e, V s e * O e j t : ℝ) : EReal) := by
  pointwise [dProb]
  simp only [hv, ho, ← EReal.coe_mul, coe_sum]

include hk hp in
theorem byKeys_apply (e : Fin 128) (j : Fin 8) (t : Fin 128) :
    byKeys (turned k) p (ix2 e (col j t)) = ((∑ s, K s e * P s j t : ℝ) : EReal) := by
  pointwise [byKeys, turned]
  simp only [hk, hp, ← EReal.coe_mul, coe_sum]

include hp hq in
theorem byQueries_apply (acc : FVec Ideal S256x128 .f32) (s : Fin 256) (e : Fin 128) (r : ℝ)
    (hr : acc (ix2 s e) = ((r : ℝ) : EReal)) :
    byQueries acc p q (ix2 s e) = ((r + ∑ j, ∑ t, P s j t * Q e j t : ℝ) : EReal) := by
  pointwise [byQueries]
  rw [hr, sum_cols]
  have hc : ∀ (j : Fin 8) (t : Fin 128), (⟨j.val * 128 + t.val, by omega⟩ : Fin 1024) = col j t := fun _ _ => rfl
  simp only [hc, hp, hq, ← EReal.coe_mul, coe_sum, ← EReal.coe_add]

variable (d : FVec Ideal S256x1024 .f32) (D : Fin 256 → Fin 8 → Fin 128 → ℝ)
  (hd : ∀ s j t, d (ix2 s (col j t)) = ((D s j t : ℝ) : EReal))

include hp hd in
theorem delta_apply (j : Fin 8) (t : Fin 128) :
    delta p d (ix2 0 (col j t)) = ((∑ s, P s j t * D s j t : ℝ) : EReal) := by
  pointwise [delta]
  simp only [hp, hd, ← EReal.coe_mul, coe_sum]

include hp hd in
theorem dScores_apply (s : Fin 256) (j : Fin 8) (t : Fin 128) :
    dScores p d (ix2 s (col j t)) = ((P s j t * (D s j t - ∑ s, P s j t * D s j t) : ℝ) : EReal) := by
  pointwise [dScores]
  rw [delta_apply p P hp d D hd, hp, hd, ← EReal.coe_sub, ← EReal.coe_mul]

include hp hd in
theorem sinkStep_apply (old sk : FVec Ideal S1x1x1024 .f32) (j : Fin 8) (t : Fin 128) (r u : ℝ)
    (hr : old (ix3 0 0 (col j t)) = ((r : ℝ) : EReal)) (hu : sk (ix3 0 0 (col j t)) = ((u : ℝ) : EReal)) :
    sinkStep old sk (delta p d) (ix3 0 0 (col j t)) = ((r - u * ∑ s, P s j t * D s j t : ℝ) : EReal) := by
  pointwise [sinkStep]
  rw [delta_apply p P hp d D hd, hr, hu, ← EReal.coe_mul, ← EReal.coe_sub]

end Block

theorem pairOf_apply (r k l : ℕ) (hk : S128x1024.Slices ![r, k] S64x128) (hl : S128x1024.Slices ![r, l] S64x128)
    (x : FVec Ideal S128x1024 .f32) (t : Fin 128) (h : Fin 2) (d : Fin 64) (hr : r + d.val < 128)
    (hk' : k + t.val < 1024) (hl' : l + t.val < 1024) :
    pairOf r k l hk hl x (ix2 t (feat h d))
      = if h = 0 then x (ix2 ⟨r + d.val, hr⟩ ⟨k + t.val, hk'⟩) else x (ix2 ⟨r + d.val, hr⟩ ⟨l + t.val, hl'⟩) := by
  rw [pairOf, turn_apply, halves_apply]
  pointwise

theorem dkv_left (k v : FVec Ideal S256x128 .f32) (s : Fin 256) (e : Fin 128) :
    dkv k v (ix2 s ⟨e.val, by omega⟩) = k (ix2 s e) := by
  pointwise [dkv]

theorem dkv_right (k v : FVec Ideal S256x128 .f32) (s : Fin 256) (e : Fin 128) :
    dkv k v (ix2 s ⟨128 + e.val, by omega⟩) = v (ix2 s e) := by
  pointwise [dkv]

theorem keys_apply (a b : FVec Ideal S128x256 .f32) (s : Fin 256) (e : Fin 128) :
    keys a b (ix2 s e) = if h : s.val < 128 then a (ix2 ⟨s.val, h⟩ ⟨e.val, by omega⟩)
      else b (ix2 ⟨s.val - 128, by omega⟩ ⟨e.val, by omega⟩) := by
  pointwise [keys]

theorem vals_apply (a b : FVec Ideal S128x256 .f32) (s : Fin 256) (e : Fin 128) :
    vals a b (ix2 s e) = if h : s.val < 128 then a (ix2 ⟨s.val, h⟩ ⟨128 + e.val, by omega⟩)
      else b (ix2 ⟨s.val - 128, by omega⟩ ⟨128 + e.val, by omega⟩) := by
  pointwise [vals]

end Cert.Kernel3Ideal.Tiles
end
-- ==== Proof.MixerGate.lean ====
/-
  The tiles of the gating unit of one block of the mixer's backward pass, and their elements as real numbers.
-/
module

public import proofs.«01_k».proof.Proof.MixerAttn

@[expose] public section

set_option maxRecDepth 16384
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Kernel3Ideal Cert.Kernel3Ideal.Gen

/-- The mean of every row, from the sums of the rows. -/
def rowMean (x : FVec Ideal S128x1024 .f32) : FVec Ideal S128x1 .f32 :=
  divf (shapeCast S128x1 (multiReduction .add [1] S128 x 0x00000000#32 reduces_S128x1024_S128 (.inl rfl) rfl)
    shapeCasts_S128_S128x1) (fill S128x1 0x44800000#32)

def centred (x : FVec Ideal S128x1024 .f32) : FVec Ideal S128x1024 .f32 :=
  subf x (broadcastTo S128x1024 (rowMean x) broadcasts_S128x1_S128x1024)

def scale (x : FVec Ideal S128x1024 .f32) : FVec Ideal S128x1 .f32 :=
  rsqrt (addf (rowMean (mulf (centred x) (centred x))) (fill S128x1 0x358637BD#32))

def normed (x : FVec Ideal S128x1024 .f32) : FVec Ideal S128x1024 .f32 :=
  mulf (centred x) (broadcastTo S128x1024 (scale x) broadcasts_S128x1_S128x1024)

/-- The normalised rows with gain and shift. -/
def shifted (x : FVec Ideal S128x1024 .f32) (g b : FVec Ideal S1x1024 .f32) : FVec Ideal S128x1024 .f32 :=
  addf (mulf (normed x) (broadcastTo S128x1024 g broadcasts_S1x1024_S128x1024))
    (broadcastTo S128x1024 b broadcasts_S1x1024_S128x1024)

def rowNo : IVec S128x128 32 := iota .tc S128x128 32 [0] iota_S128x128_d0_w32
def colNo : IVec S128x128 32 := iota .tc S128x128 32 [1] iota_S128x128_d1_w32

/-- The lower triangle of a tile of weights. -/
def lower (w : FVec Ideal S1x128x128 .f32) : FVec Ideal S128x128 .bf16 :=
  truncf .bf16 (select (cmpi .sge rowNo colNo) (shapeCast S128x128 w shapeCasts_S1x128x128_S128x128)
    (fill S128x128 0x00000000#32)) bitsLt_bf16_f32

/-- The upper triangle of a transposed tile of weights. -/
def upper (w : FVec Ideal S1x128x128 .f32) : FVec Ideal S128x128 .bf16 :=
  truncf .bf16 (select (cmpi .sge colNo rowNo) (shapeCast S128x128 w shapeCasts_S1x128x128_S128x128)
    (fill S128x128 0x00000000#32)) bitsLt_bf16_f32

/-- A tile of the normalised rows. -/
def part (k : ℕ) (hk : S128x1024.Slices ![0, k] S128x128) (x : FVec Ideal S128x1024 .f32) : FVec Ideal S128x128 .bf16 :=
  truncf .bf16 (extractStridedSlice S128x128 ![0, k] x hk) bitsLt_bf16_f32

/-- The rows mixed by the weights. -/
def mixed (w : FVec Ideal S1x128x128 .f32) (x : FVec Ideal S128x128 .bf16) (b : FVec Ideal S128x1 .f32) :
    FVec Ideal S128x128 .f32 :=
  addf (matmul dot_S128x128_S128x128_S128x128_1_0_0_1_n_n none (lower w) x (constant S128x128 .f32 0x00000000#32))
    (broadcastTo S128x128 (shapeCast S128x1 b shapeCasts_S128x1_S128x1) broadcasts_S128x1_S128x128)

def duTile (d g x : FVec Ideal S128x128 .f32) : FVec Ideal S128x128 .bf16 := truncf .bf16 (mulf (gated d g) x) bitsLt_bf16_f32

def dgsTile (d u g x : FVec Ideal S128x128 .f32) : FVec Ideal S128x128 .bf16 :=
  truncf .bf16 (mulf (mulf d (mulf u x)) (dgate g)) bitsLt_bf16_f32

/-- The gradient of the mixed rows. -/
def dMixed (d g u : FVec Ideal S128x128 .f32) : FVec Ideal S128x128 .f32 := mulf (gated d g) u

/-- The weights' gradient, one block further. -/
def dwStep (old : FVec Ideal S1x128x128 .f32) (d : FVec Ideal S128x128 .f32) (x : FVec Ideal S128x128 .bf16) :
    FVec Ideal S1x128x128 .f32 :=
  shapeCast S1x128x128 (addf (shapeCast S128x128 old shapeCasts_S1x128x128_S128x128)
    (select (cmpi .sge rowNo colNo) (matmul dot_S128x128_S128x128_S128x128_1_1_0_0_n_n none (truncf .bf16 d bitsLt_bf16_f32) x
      (constant S128x128 .f32 0x00000000#32)) (fill S128x128 0x00000000#32))) shapeCasts_S128x128_S1x128x128

/-- The sums of the rows, put into one column. -/
def dbAdd (p : BitVec 32) (acc d : FVec Ideal S128x128 .f32) : FVec Ideal S128x128 .f32 :=
  addf acc (select (cmpi .eq colNo (broadcast S128x128 p)) (broadcastTo S128x128 (shapeCast S128x1 (shapeCast S128x1
    (multiReduction .add [1] S128 d 0x00000000#32 reduces_S128x128_S128 (.inl rfl) rfl) shapeCasts_S128_S128x1)
    shapeCasts_S128x1_S128x1) broadcasts_S128x1_S128x128) (fill S128x128 0x00000000#32))

/-- The gradient of a tile of the normalised rows. -/
def dPart (w : FVec Ideal S1x128x128 .f32) (d : FVec Ideal S128x128 .f32) : FVec Ideal S128x128 .f32 :=
  matmul dot_S128x128_S128x128_S128x128_1_0_0_1_n_n none (upper w) (truncf .bf16 d bitsLt_bf16_f32)
    (constant S128x128 .f32 0x00000000#32)

/-- A row of sums over the tokens, one block further. -/
def sumStep (old : FVec Ideal S1x1024 .f32) (x : FVec Ideal S128x1024 .f32) : FVec Ideal S1x1024 .f32 :=
  addf (shapeCast S1x1024 old shapeCasts_S1x1024_S1x1024) (shapeCast S1x1024 (multiReduction .add [0] S1024 x 0x00000000#32
    reduces_S128x1024_S1024 (.inl rfl) rfl) shapeCasts_S1024_S1x1024)

/-- The gradient of the rows before their normalisation. -/
def dvTile (x : FVec Ideal S128x1024 .f32) (g : FVec Ideal S1x1024 .f32) (d : FVec Ideal S128x1024 .f32) :
    FVec Ideal S128x1024 .bf16 :=
  truncf .bf16 (mulf (broadcastTo S128x1024 (scale x) broadcasts_S128x1_S128x1024)
    (subf (subf (mulf d (broadcastTo S128x1024 g broadcasts_S1x1024_S128x1024))
      (broadcastTo S128x1024 (rowMean (mulf d (broadcastTo S128x1024 g broadcasts_S1x1024_S128x1024))) broadcasts_S128x1_S128x1024))
      (mulf (normed x) (broadcastTo S128x1024 (rowMean (mulf (mulf d (broadcastTo S128x1024 g broadcasts_S1x1024_S128x1024))
        (normed x))) broadcasts_S128x1_S128x1024)))) bitsLt_bf16_f32

theorem lower_bit (i j : Fin 128) (u v : EReal) :
    Scalar.select (cmpi .sge rowNo colNo (ix2 i j)) u v = if j.val ≤ i.val then u else v := by
  pointwise [rowNo, colNo]
  rw [WordCmp.cmpi_sge_ofNat (by norm_num; omega) (by norm_num; omega), select_decide]

theorem upper_bit (i j : Fin 128) (u v : EReal) :
    Scalar.select (cmpi .sge colNo rowNo (ix2 i j)) u v = if i.val ≤ j.val then u else v := by
  pointwise [rowNo, colNo]
  rw [WordCmp.cmpi_sge_ofNat (by norm_num; omega) (by norm_num; omega), select_decide]

theorem col_bit (p : Fin 128) (i j : Fin 128) (u v : EReal) :
    Scalar.select (cmpi .eq colNo (broadcast S128x128 (BitVec.ofNat 32 p.val)) (ix2 i j)) u v = if j = p then u else v := by
  pointwise [colNo]
  rw [WordCmp.cmpi_eq_ofNat (by norm_num; omega) (by norm_num; omega), select_decide]
  exact if_congr (Fin.ext_iff.symm) rfl rfl

theorem coe_ite (q : Prop) [Decidable q] (a b : ℝ) :
    (if q then ((a : ℝ) : EReal) else ((b : ℝ) : EReal)) = ((if q then a else b : ℝ) : EReal) := by
  split <;> rfl

section Rows
variable (x : FVec Ideal S128x1024 .f32) (X : Fin 128 → Fin 1024 → ℝ) (hx : ∀ t k, x (ix2 t k) = ((X t k : ℝ) : EReal))

include hx in
theorem rowMean_apply (t : Fin 128) : rowMean x (ix2 t 0) = ((mean (X t) : ℝ) : EReal) := by
  pointwise [rowMean, fill]
  simp only [hx, coe_sum, lit_1024]
  exact coe_div _ (by norm_num)

include hx in
theorem centred_apply (t : Fin 128) (k : Fin 1024) : centred x (ix2 t k) = ((cen (X t) k : ℝ) : EReal) := by
  pointwise [centred]
  rw [rowMean_apply x X hx, hx, ← EReal.coe_sub]
  rfl

include hx in
theorem scale_apply (t : Fin 128) : scale x (ix2 t 0) = ((rs (X t) : ℝ) : EReal) := by
  have h := rowMean_apply (mulf (centred x) (centred x)) (fun t k => cen (X t) k * cen (X t) k) (fun t k => by
    pointwise
    rw [centred_apply x X hx, ← EReal.coe_mul]) t
  pointwise [scale, fill]
  rw [h, lit_eps, ← EReal.coe_add]
  exact coe_rsqrt (vari_pos (X t))

include hx in
theorem normed_apply (t : Fin 128) (k : Fin 1024) : normed x (ix2 t k) = ((hat (X t) k : ℝ) : EReal) := by
  pointwise [normed]
  rw [scale_apply x X hx, centred_apply x X hx, ← EReal.coe_mul]
  rfl

variable (g b : FVec Ideal S1x1024 .f32) (G B : Fin 1024 → ℝ) (hg : ∀ k, g (ix2 0 k) = ((G k : ℝ) : EReal))
  (hb : ∀ k, b (ix2 0 k) = ((B k : ℝ) : EReal))

include hx hg hb in
theorem shifted_apply (t : Fin 128) (k : Fin 1024) :
    shifted x g b (ix2 t k) = ((hat (X t) k * G k + B k : ℝ) : EReal) := by
  pointwise [shifted]
  rw [normed_apply x X hx, hg, hb, ← EReal.coe_mul, ← EReal.coe_add]

variable (d : FVec Ideal S128x1024 .f32) (D : Fin 128 → Fin 1024 → ℝ) (hd : ∀ t k, d (ix2 t k) = ((D t k : ℝ) : EReal))

include hd in
theorem sumStep_apply (old : FVec Ideal S1x1024 .f32) (k : Fin 1024) (r : ℝ) (hr : old (ix2 0 k) = ((r : ℝ) : EReal)) :
    sumStep old d (ix2 0 k) = ((r + ∑ t, D t k : ℝ) : EReal) := by
  pointwise [sumStep]
  simp only [hr, hd, coe_sum, ← EReal.coe_add]

include hx hg hd in
theorem dvTile_apply (t : Fin 128) (k : Fin 1024) :
    dvTile x g d (ix2 t k) = ((dhat (X t) (fun k => D t k * G k) k : ℝ) : EReal) := by
  have e : ∀ t k, mulf d (broadcastTo S128x1024 g broadcasts_S1x1024_S128x1024) (ix2 t k) = ((D t k * G k : ℝ) : EReal) := by
    intro t k
    pointwise
    rw [hd, hg, ← EReal.coe_mul]
  have e1 := rowMean_apply _ _ e t
  have e2 := rowMean_apply (mulf (mulf d (broadcastTo S128x1024 g broadcasts_S1x1024_S128x1024)) (normed x))
    (fun t k => D t k * G k * hat (X t) k) (fun t k => by
      exact (congrArg₂ (· * ·) (e t k) (normed_apply x X hx t k)).trans (EReal.coe_mul _ _).symm) t
  pointwise [dvTile]
  rw [e1, e2, scale_apply x X hx, normed_apply x X hx, hd, hg]
  simp only [← EReal.coe_mul, ← EReal.coe_sub]
  rfl

end Rows

section Part
variable (w : FVec Ideal S1x128x128 .f32) (x : FVec Ideal S128x128 .bf16) (b : FVec Ideal S128x1 .f32)
  (d u g : FVec Ideal S128x128 .f32) (W X D U G : Fin 128 → Fin 128 → ℝ) (B : Fin 128 → ℝ)
  (hw : ∀ t s, w (ix3 0 t s) = ((W t s : ℝ) : EReal)) (hx : ∀ s e, x (ix2 s e) = ((X s e : ℝ) : EReal))
  (hb : ∀ t, b (ix2 t 0) = ((B t : ℝ) : EReal)) (hd : ∀ t e, d (ix2 t e) = ((D t e : ℝ) : EReal))
  (hu : ∀ t e, u (ix2 t e) = ((U t e : ℝ) : EReal)) (hg : ∀ t e, g (ix2 t e) = ((G t e : ℝ) : EReal))

include hw in
theorem lower_apply (t s : Fin 128) : lower w (ix2 t s) = ((if s.val ≤ t.val then W t s else 0 : ℝ) : EReal) := by
  refine (lower_bit t s _ _).trans ?_
  rw [← coe_ite]
  refine if_congr Iff.rfl ?_ lit_zero
  refine Eq.trans ?_ (hw t s)
  pointwise

include hw in
theorem upper_apply (t s : Fin 128) : upper w (ix2 t s) = ((if t.val ≤ s.val then W t s else 0 : ℝ) : EReal) := by
  refine (upper_bit t s _ _).trans ?_
  rw [← coe_ite]
  refine if_congr Iff.rfl ?_ lit_zero
  refine Eq.trans ?_ (hw t s)
  pointwise

theorem part_apply (k : ℕ) (hk : S128x1024.Slices ![0, k] S128x128) (y : FVec Ideal S128x1024 .f32) (t e : Fin 128)
    (h : k + e.val < 1024) : part k hk y (ix2 t e) = y (ix2 t ⟨k + e.val, h⟩) := by
  pointwise [part]

include hw hx hb in
theorem mixed_apply (t e : Fin 128) : mixed w x b (ix2 t e)
    = (((∑ s, (if s.val ≤ t.val then W t s else 0) * X s e) + B t : ℝ) : EReal) := by
  pointwise [mixed]
  simp only [lower_apply w W hw, hx, hb, ← EReal.coe_mul, coe_sum, ← EReal.coe_add]

include hd hu hg in
theorem dMixed_apply (t e : Fin 128) : dMixed d g u (ix2 t e) = ((D t e * (G t e * sgm (G t e)) * U t e : ℝ) : EReal) := by
  show gated d g (ix2 t e) * u (ix2 t e) = _
  rw [gated_apply g d _ _ _ (hg t e) (hd t e), hu, ← EReal.coe_mul]

variable (y : FVec Ideal S128x128 .f32) (Y : Fin 128 → Fin 128 → ℝ) (hy : ∀ t e, y (ix2 t e) = ((Y t e : ℝ) : EReal))

include hd hg hy in
theorem duTile_apply (t e : Fin 128) : duTile d g y (ix2 t e) = ((D t e * (G t e * sgm (G t e)) * Y t e : ℝ) : EReal) := by
  show gated d g (ix2 t e) * y (ix2 t e) = _
  rw [gated_apply g d _ _ _ (hg t e) (hd t e), hy, ← EReal.coe_mul]

include hd hu hg hy in
theorem dgsTile_apply (t e : Fin 128) :
    dgsTile d u g y (ix2 t e) = ((D t e * (U t e * Y t e) * dsilu (G t e) : ℝ) : EReal) := by
  show d (ix2 t e) * (u (ix2 t e) * y (ix2 t e)) * dgate g (ix2 t e) = _
  rw [dgate_apply g _ _ (hg t e), hd, hu, hy, ← EReal.coe_mul, ← EReal.coe_mul, ← EReal.coe_mul]

include hx hy in
theorem dwStep_apply (old : FVec Ideal S1x128x128 .f32) (t s : Fin 128) (r : ℝ) (hr : old (ix3 0 t s) = ((r : ℝ) : EReal)) :
    dwStep old y x (ix3 0 t s) = ((r + if s.val ≤ t.val then ∑ e, Y t e * X s e else 0 : ℝ) : EReal) := by
  have h : ∀ u v : EReal, Scalar.select (IntOp.cmpi .sge (rowNo (ix2 t s)) (colNo (ix2 t s))) u v
    = if s.val ≤ t.val then u else v := fun u v => lower_bit t s u v
  pointwise [dwStep, fill]
  rw [h, hr]
  simp only [hx, hy, ← EReal.coe_mul, coe_sum]
  rw [← EReal.coe_zero, coe_ite, ← EReal.coe_add]

include hy in
theorem dbAdd_apply (p : Fin 128) (acc : FVec Ideal S128x128 .f32) (t l : Fin 128) (r : ℝ)
    (hr : acc (ix2 t l) = ((r : ℝ) : EReal)) :
    dbAdd (BitVec.ofNat 32 p.val) acc y (ix2 t l) = ((r + if l = p then ∑ e, Y t e else 0 : ℝ) : EReal) := by
  have h : ∀ u v : EReal, Scalar.select (IntOp.cmpi .eq (colNo (ix2 t l)) (BitVec.ofNat 32 p.val)) u v
    = if l = p then u else v := fun u v => col_bit p t l u v
  pointwise [dbAdd, fill]
  rw [h, hr]
  simp only [hy, coe_sum]
  rw [← EReal.coe_zero, coe_ite, ← EReal.coe_add]

include hw hy in
theorem dPart_apply (t e : Fin 128) :
    dPart w y (ix2 t e) = ((∑ s, (if t.val ≤ s.val then W t s else 0) * Y s e : ℝ) : EReal) := by
  pointwise [dPart]
  simp only [upper_apply w W hw, hy, ← EReal.coe_mul, coe_sum]

end Part

end Cert.Kernel3Ideal.Tiles
end
-- ==== Proof.MixerStep.lean ====
/-
  One step of the mixer's backward pass: what it loads of its two blocks of 128 tokens, and what it stores, in terms of
  the tiles.
-/
module

public import proofs.«01_k».proof.Proof.Gen.Kernel3Ideal.Value
public import Idealize.ShloMosaic.Lib.Pipeline.ValueKit
public import Idealize.ShloMosaic.Lib.Pipeline.ReadBack
public import proofs.«01_k».proof.Proof.MixerGate

@[expose] public section

set_option maxRecDepth 16384
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Kernel3Ideal Cert.Kernel3Ideal.Gen

/-- What a step loads for one of its blocks. -/
structure Parts where
  before : FVec Ideal S128x256 .f32
  own : FVec Ideal S128x256 .f32
  q : Fin 2 → Fin 4 → FVec Ideal S128x128 .f32
  ga : Fin 2 → Fin 4 → FVec Ideal S128x128 .f32
  da : Fin 2 → Fin 4 → FVec Ideal S128x128 .f32
  prob : Fin 2 → FVec Ideal S1x256x1024 .bf16
  sink : Fin 2 → FVec Ideal S1x1x1024 .f32
  v : FVec Ideal S128x1024 .f32
  lng : FVec Ideal S1x1024 .f32
  lnb : FVec Ideal S1x1024 .f32
  w : Fin 8 → FVec Ideal S1x128x128 .f32
  wt : Fin 8 → FVec Ideal S1x128x128 .f32
  bt : Fin 8 → FVec Ideal S128x1 .f32
  u : Fin 8 → FVec Ideal S128x128 .f32
  gs : Fin 8 → FVec Ideal S128x128 .f32
  du : Fin 8 → FVec Ideal S128x128 .f32

namespace Parts
variable (P : Parts)

/-- The heads' queries, scaled, feature by row. -/
def qs : Fin 2 → FVec Ideal S128x1024 .bf16 :=
  ![heads0 (scaled (P.q 0 0)) (scaled (P.q 0 1)) (scaled (P.q 0 2)) (scaled (P.q 0 3)),
    heads1 (scaled (P.q 1 0)) (scaled (P.q 1 1)) (scaled (P.q 1 2)) (scaled (P.q 1 3))]

/-- The heads' gradients behind the gate, feature by row. -/
def dos : Fin 2 → FVec Ideal S128x1024 .bf16 :=
  ![heads0 (gated (P.da 0 0) (P.ga 0 0)) (gated (P.da 0 1) (P.ga 0 1)) (gated (P.da 0 2) (P.ga 0 2)) (gated (P.da 0 3) (P.ga 0 3)),
    heads1 (gated (P.da 1 0) (P.ga 1 0)) (gated (P.da 1 1) (P.ga 1 1)) (gated (P.da 1 2) (P.ga 1 2)) (gated (P.da 1 3) (P.ga 1 3))]

def pr (g : Fin 2) : FVec Ideal S256x1024 .bf16 := probOf (P.prob g)

def dp (g : Fin 2) : FVec Ideal S256x1024 .f32 := dProb (vals P.before P.own) (P.dos g)

def dsc (g : Fin 2) : FVec Ideal S256x1024 .bf16 := dScores (P.pr g) (P.dp g)

def sinkOf (g : Fin 2) (old : FVec Ideal S1x1x1024 .f32) : FVec Ideal S1x1x1024 .f32 :=
  sinkStep old (P.sink g) (delta (P.pr g) (P.dp g))

def dqt (g : Fin 2) : FVec Ideal S128x1024 .f32 := byKeys (turned (keys P.before P.own)) (P.dsc g)

def att (g : Fin 2) : FVec Ideal S128x1024 .f32 := byKeys (turned (vals P.before P.own)) (P.pr g)

def dk : FVec Ideal S256x128 .f32 :=
  byQueries (byQueries (fill S256x128 0x00000000#32) (P.dsc 0) (P.qs 0)) (P.dsc 1) (P.qs 1)

def dv : FVec Ideal S256x128 .f32 :=
  byQueries (byQueries (fill S256x128 0x00000000#32) (P.pr 0) (P.dos 0)) (P.pr 1) (P.dos 1)

def kv : FVec Ideal S256x256 .f32 := dkv P.dk P.dv

def dq00 : FVec Ideal S128x128 .bf16 := dqTile (pairOf 0 0 128 slices_S128x1024_o0_0_S64x128 slices_S128x1024_o0_128_S64x128 (P.dqt 0))
def dga00 : FVec Ideal S128x128 .bf16 := dgaTile (P.da 0 0) (pairOf 0 0 128 slices_S128x1024_o0_0_S64x128 slices_S128x1024_o0_128_S64x128 (P.att 0)) (P.ga 0 0)

def dq01 : FVec Ideal S128x128 .bf16 := dqTile (pairOf 0 256 384 slices_S128x1024_o0_256_S64x128 slices_S128x1024_o0_384_S64x128 (P.dqt 0))
def dga01 : FVec Ideal S128x128 .bf16 := dgaTile (P.da 0 1) (pairOf 0 256 384 slices_S128x1024_o0_256_S64x128 slices_S128x1024_o0_384_S64x128 (P.att 0)) (P.ga 0 1)

def dq02 : FVec Ideal S128x128 .bf16 := dqTile (pairOf 0 512 640 slices_S128x1024_o0_512_S64x128 slices_S128x1024_o0_640_S64x128 (P.dqt 0))
def dga02 : FVec Ideal S128x128 .bf16 := dgaTile (P.da 0 2) (pairOf 0 512 640 slices_S128x1024_o0_512_S64x128 slices_S128x1024_o0_640_S64x128 (P.att 0)) (P.ga 0 2)

def dq03 : FVec Ideal S128x128 .bf16 := dqTile (pairOf 0 768 896 slices_S128x1024_o0_768_S64x128 slices_S128x1024_o0_896_S64x128 (P.dqt 0))
def dga03 : FVec Ideal S128x128 .bf16 := dgaTile (P.da 0 3) (pairOf 0 768 896 slices_S128x1024_o0_768_S64x128 slices_S128x1024_o0_896_S64x128 (P.att 0)) (P.ga 0 3)

def dq10 : FVec Ideal S128x128 .bf16 := dqTile (pairOf 64 0 128 slices_S128x1024_o64_0_S64x128 slices_S128x1024_o64_128_S64x128 (P.dqt 1))
def dga10 : FVec Ideal S128x128 .bf16 := dgaTile (P.da 1 0) (pairOf 64 0 128 slices_S128x1024_o64_0_S64x128 slices_S128x1024_o64_128_S64x128 (P.att 1)) (P.ga 1 0)

def dq11 : FVec Ideal S128x128 .bf16 := dqTile (pairOf 64 256 384 slices_S128x1024_o64_256_S64x128 slices_S128x1024_o64_384_S64x128 (P.dqt 1))
def dga11 : FVec Ideal S128x128 .bf16 := dgaTile (P.da 1 1) (pairOf 64 256 384 slices_S128x1024_o64_256_S64x128 slices_S128x1024_o64_384_S64x128 (P.att 1)) (P.ga 1 1)

def dq12 : FVec Ideal S128x128 .bf16 := dqTile (pairOf 64 512 640 slices_S128x1024_o64_512_S64x128 slices_S128x1024_o64_640_S64x128 (P.dqt 1))
def dga12 : FVec Ideal S128x128 .bf16 := dgaTile (P.da 1 2) (pairOf 64 512 640 slices_S128x1024_o64_512_S64x128 slices_S128x1024_o64_640_S64x128 (P.att 1)) (P.ga 1 2)

def dq13 : FVec Ideal S128x128 .bf16 := dqTile (pairOf 64 768 896 slices_S128x1024_o64_768_S64x128 slices_S128x1024_o64_896_S64x128 (P.dqt 1))
def dga13 : FVec Ideal S128x128 .bf16 := dgaTile (P.da 1 3) (pairOf 64 768 896 slices_S128x1024_o64_768_S64x128 slices_S128x1024_o64_896_S64x128 (P.att 1)) (P.ga 1 3)

def vn : FVec Ideal S128x1024 .f32 := shifted P.v P.lng P.lnb

def vnp : Fin 8 → FVec Ideal S128x128 .bf16 :=
  ![part 0 slices_S128x1024_o0_0_S128x128 P.vn, part 128 slices_S128x1024_o0_128_S128x128 P.vn, part 256 slices_S128x1024_o0_256_S128x128 P.vn, part 384 slices_S128x1024_o0_384_S128x128 P.vn, part 512 slices_S128x1024_o0_512_S128x128 P.vn, part 640 slices_S128x1024_o0_640_S128x128 P.vn, part 768 slices_S128x1024_o0_768_S128x128 P.vn, part 896 slices_S128x1024_o0_896_S128x128 P.vn]

def mx (p : Fin 8) : FVec Ideal S128x128 .f32 := mixed (P.w p) (P.vnp p) (P.bt p)

def dup (p : Fin 8) : FVec Ideal S128x128 .bf16 := duTile (P.du p) (P.gs p) (P.mx p)

def dgs (p : Fin 8) : FVec Ideal S128x128 .bf16 := dgsTile (P.du p) (P.u p) (P.gs p) (P.mx p)

def dm (p : Fin 8) : FVec Ideal S128x128 .f32 := dMixed (P.du p) (P.gs p) (P.u p)

def dwOf (p : Fin 8) (old : FVec Ideal S1x128x128 .f32) : FVec Ideal S1x128x128 .f32 := dwStep old (P.dm p) (P.vnp p)

def dbOf (old : FVec Ideal S128x128 .f32) : FVec Ideal S128x128 .f32 :=
  shapeCast S128x128 (addf old (dbAdd 7#32 (dbAdd 6#32 (dbAdd 5#32 (dbAdd 4#32 (dbAdd 3#32 (dbAdd 2#32 (dbAdd 1#32 (dbAdd 0#32 (fill S128x128 0x00000000#32) (P.dm 0)) (P.dm 1)) (P.dm 2)) (P.dm 3)) (P.dm 4)) (P.dm 5)) (P.dm 6)) (P.dm 7))) shapeCasts_S128x128_S128x128

def dvn : FVec Ideal S128x1024 .f32 :=
  eight (dPart (P.wt 0) (P.dm 0)) (dPart (P.wt 1) (P.dm 1)) (dPart (P.wt 2) (P.dm 2)) (dPart (P.wt 3) (P.dm 3)) (dPart (P.wt 4) (P.dm 4)) (dPart (P.wt 5) (P.dm 5)) (dPart (P.wt 6) (P.dm 6)) (dPart (P.wt 7) (P.dm 7))

def dlngOf (old : FVec Ideal S1x1024 .f32) : FVec Ideal S1x1024 .f32 := sumStep old (mulf P.dvn (normed P.v))

def dlnbOf (old : FVec Ideal S1x1024 .f32) : FVec Ideal S1x1024 .f32 := sumStep old P.dvn

def dvs : FVec Ideal S128x1024 .bf16 := dvTile P.v P.lng P.dvn

end Parts

variable (m : (ℓ : Loc nD τ sig) → Buf (Elt Ideal) ℓ) (c : Dev nD)

set_option maxHeartbeats 3200000 in
/-- The loads of the first block of a step. -/
def part0 (t : Fin cfg0.N) : Parts where
  before := iblk m c 1 t
  own := View.ld (iblk m c 0 t) (Rect.unit ![0, 1024] ![128, 256] inb_S256x5376_S128x256_0_1024)
  q := ![![View.ld (iblk m c 0 t) (Rect.unit ![0, 0] ![128, 128] inb_S256x5376_S128x128_0_0), View.ld (iblk m c 0 t) (Rect.unit ![0, 128] ![128, 128] inb_S256x5376_S128x128_0_128), View.ld (iblk m c 0 t) (Rect.unit ![0, 256] ![128, 128] inb_S256x5376_S128x128_0_256), View.ld (iblk m c 0 t) (Rect.unit ![0, 384] ![128, 128] inb_S256x5376_S128x128_0_384)],
    ![View.ld (iblk m c 0 t) (Rect.unit ![0, 512] ![128, 128] inb_S256x5376_S128x128_0_512), View.ld (iblk m c 0 t) (Rect.unit ![0, 640] ![128, 128] inb_S256x5376_S128x128_0_640), View.ld (iblk m c 0 t) (Rect.unit ![0, 768] ![128, 128] inb_S256x5376_S128x128_0_768), View.ld (iblk m c 0 t) (Rect.unit ![0, 896] ![128, 128] inb_S256x5376_S128x128_0_896)]]
  ga := ![![View.ld (iblk m c 0 t) (Rect.unit ![0, 1280] ![128, 128] inb_S256x5376_S128x128_0_1280), View.ld (iblk m c 0 t) (Rect.unit ![0, 1408] ![128, 128] inb_S256x5376_S128x128_0_1408), View.ld (iblk m c 0 t) (Rect.unit ![0, 1536] ![128, 128] inb_S256x5376_S128x128_0_1536), View.ld (iblk m c 0 t) (Rect.unit ![0, 1664] ![128, 128] inb_S256x5376_S128x128_0_1664)],
    ![View.ld (iblk m c 0 t) (Rect.unit ![0, 1792] ![128, 128] inb_S256x5376_S128x128_0_1792), View.ld (iblk m c 0 t) (Rect.unit ![0, 1920] ![128, 128] inb_S256x5376_S128x128_0_1920), View.ld (iblk m c 0 t) (Rect.unit ![0, 2048] ![128, 128] inb_S256x5376_S128x128_0_2048), View.ld (iblk m c 0 t) (Rect.unit ![0, 2176] ![128, 128] inb_S256x5376_S128x128_0_2176)]]
  da := ![![View.ld (iblk m c 2 t) (Rect.unit ![0, 0] ![128, 128] inb_S256x2048_S128x128_0_0), View.ld (iblk m c 2 t) (Rect.unit ![0, 128] ![128, 128] inb_S256x2048_S128x128_0_128), View.ld (iblk m c 2 t) (Rect.unit ![0, 256] ![128, 128] inb_S256x2048_S128x128_0_256), View.ld (iblk m c 2 t) (Rect.unit ![0, 384] ![128, 128] inb_S256x2048_S128x128_0_384)],
    ![View.ld (iblk m c 2 t) (Rect.unit ![0, 512] ![128, 128] inb_S256x2048_S128x128_0_512), View.ld (iblk m c 2 t) (Rect.unit ![0, 640] ![128, 128] inb_S256x2048_S128x128_0_640), View.ld (iblk m c 2 t) (Rect.unit ![0, 768] ![128, 128] inb_S256x2048_S128x128_0_768), View.ld (iblk m c 2 t) (Rect.unit ![0, 896] ![128, 128] inb_S256x2048_S128x128_0_896)]]
  prob := ![View.ld (View.read (Elt Ideal) (((ms0_3 t).view.slice (Rect.unit ![0, 0, 0, 0] ![1, 2, 256, 1024] inb_S2x2x256x1024_S1x2x256x1024_0_0_0_0)).reshape S2x256x1024 (Shape.Squeezes.numel_eq squeezes_S1x2x256x1024_S2x256x1024)) ((hs0_3 t).unread (iblk m c 3 t))) (Rect.unit ![0, 0, 0] ![1, 256, 1024] inb_S2x256x1024_S1x256x1024_0_0_0), View.ld (View.read (Elt Ideal) (((ms0_3 t).view.slice (Rect.unit ![0, 0, 0, 0] ![1, 2, 256, 1024] inb_S2x2x256x1024_S1x2x256x1024_0_0_0_0)).reshape S2x256x1024 (Shape.Squeezes.numel_eq squeezes_S1x2x256x1024_S2x256x1024)) ((hs0_3 t).unread (iblk m c 3 t))) (Rect.unit ![1, 0, 0] ![1, 256, 1024] inb_S2x256x1024_S1x256x1024_1_0_0)]
  sink := ![View.ld (View.read (Elt Ideal) (((ms0_4 t).view.slice (Rect.unit ![0, 0, 0, 0] ![1, 2, 1, 1024] inb_S2x2x1x1024_S1x2x1x1024_0_0_0_0)).reshape S2x1x1024 (Shape.Squeezes.numel_eq squeezes_S1x2x1x1024_S2x1x1024)) ((hs0_4 t).unread (iblk m c 4 t))) (Rect.unit ![0, 0, 0] ![1, 1, 1024] inb_S2x1x1024_S1x1x1024_0_0_0), View.ld (View.read (Elt Ideal) (((ms0_4 t).view.slice (Rect.unit ![0, 0, 0, 0] ![1, 2, 1, 1024] inb_S2x2x1x1024_S1x2x1x1024_0_0_0_0)).reshape S2x1x1024 (Shape.Squeezes.numel_eq squeezes_S1x2x1x1024_S2x1x1024)) ((hs0_4 t).unread (iblk m c 4 t))) (Rect.unit ![1, 0, 0] ![1, 1, 1024] inb_S2x1x1024_S1x1x1024_1_0_0)]
  v := View.ld (iblk m c 0 t) (Rect.unit ![0, 3328] ![128, 1024] inb_S256x5376_S128x1024_0_3328)
  lng := iblk m c 5 t
  lnb := iblk m c 6 t
  w := ![View.ld (iblk m c 7 t) (Rect.unit ![0, 0, 0] ![1, 128, 128] inb_S8x128x128_S1x128x128_0_0_0),
    View.ld (iblk m c 7 t) (Rect.unit ![1, 0, 0] ![1, 128, 128] inb_S8x128x128_S1x128x128_1_0_0),
    View.ld (iblk m c 7 t) (Rect.unit ![2, 0, 0] ![1, 128, 128] inb_S8x128x128_S1x128x128_2_0_0),
    View.ld (iblk m c 7 t) (Rect.unit ![3, 0, 0] ![1, 128, 128] inb_S8x128x128_S1x128x128_3_0_0),
    View.ld (iblk m c 7 t) (Rect.unit ![4, 0, 0] ![1, 128, 128] inb_S8x128x128_S1x128x128_4_0_0),
    View.ld (iblk m c 7 t) (Rect.unit ![5, 0, 0] ![1, 128, 128] inb_S8x128x128_S1x128x128_5_0_0),
    View.ld (iblk m c 7 t) (Rect.unit ![6, 0, 0] ![1, 128, 128] inb_S8x128x128_S1x128x128_6_0_0),
    View.ld (iblk m c 7 t) (Rect.unit ![7, 0, 0] ![1, 128, 128] inb_S8x128x128_S1x128x128_7_0_0)]
  wt := ![View.ld (iblk m c 8 t) (Rect.unit ![0, 0, 0] ![1, 128, 128] inb_S8x128x128_S1x128x128_0_0_0),
    View.ld (iblk m c 8 t) (Rect.unit ![1, 0, 0] ![1, 128, 128] inb_S8x128x128_S1x128x128_1_0_0),
    View.ld (iblk m c 8 t) (Rect.unit ![2, 0, 0] ![1, 128, 128] inb_S8x128x128_S1x128x128_2_0_0),
    View.ld (iblk m c 8 t) (Rect.unit ![3, 0, 0] ![1, 128, 128] inb_S8x128x128_S1x128x128_3_0_0),
    View.ld (iblk m c 8 t) (Rect.unit ![4, 0, 0] ![1, 128, 128] inb_S8x128x128_S1x128x128_4_0_0),
    View.ld (iblk m c 8 t) (Rect.unit ![5, 0, 0] ![1, 128, 128] inb_S8x128x128_S1x128x128_5_0_0),
    View.ld (iblk m c 8 t) (Rect.unit ![6, 0, 0] ![1, 128, 128] inb_S8x128x128_S1x128x128_6_0_0),
    View.ld (iblk m c 8 t) (Rect.unit ![7, 0, 0] ![1, 128, 128] inb_S8x128x128_S1x128x128_7_0_0)]
  bt := ![View.ld (iblk m c 9 t) (Rect.unit ![0, 0] ![128, 1] inb_S128x8_S128x1_0_0),
    View.ld (iblk m c 9 t) (Rect.unit ![0, 1] ![128, 1] inb_S128x8_S128x1_0_1),
    View.ld (iblk m c 9 t) (Rect.unit ![0, 2] ![128, 1] inb_S128x8_S128x1_0_2),
    View.ld (iblk m c 9 t) (Rect.unit ![0, 3] ![128, 1] inb_S128x8_S128x1_0_3),
    View.ld (iblk m c 9 t) (Rect.unit ![0, 4] ![128, 1] inb_S128x8_S128x1_0_4),
    View.ld (iblk m c 9 t) (Rect.unit ![0, 5] ![128, 1] inb_S128x8_S128x1_0_5),
    View.ld (iblk m c 9 t) (Rect.unit ![0, 6] ![128, 1] inb_S128x8_S128x1_0_6),
    View.ld (iblk m c 9 t) (Rect.unit ![0, 7] ![128, 1] inb_S128x8_S128x1_0_7)]
  u := ![View.ld (iblk m c 0 t) (Rect.unit ![0, 2304] ![128, 128] inb_S256x5376_S128x128_0_2304),
    View.ld (iblk m c 0 t) (Rect.unit ![0, 2432] ![128, 128] inb_S256x5376_S128x128_0_2432),
    View.ld (iblk m c 0 t) (Rect.unit ![0, 2560] ![128, 128] inb_S256x5376_S128x128_0_2560),
    View.ld (iblk m c 0 t) (Rect.unit ![0, 2688] ![128, 128] inb_S256x5376_S128x128_0_2688),
    View.ld (iblk m c 0 t) (Rect.unit ![0, 2816] ![128, 128] inb_S256x5376_S128x128_0_2816),
    View.ld (iblk m c 0 t) (Rect.unit ![0, 2944] ![128, 128] inb_S256x5376_S128x128_0_2944),
    View.ld (iblk m c 0 t) (Rect.unit ![0, 3072] ![128, 128] inb_S256x5376_S128x128_0_3072),
    View.ld (iblk m c 0 t) (Rect.unit ![0, 3200] ![128, 128] inb_S256x5376_S128x128_0_3200)]
  gs := ![View.ld (iblk m c 0 t) (Rect.unit ![0, 4352] ![128, 128] inb_S256x5376_S128x128_0_4352),
    View.ld (iblk m c 0 t) (Rect.unit ![0, 4480] ![128, 128] inb_S256x5376_S128x128_0_4480),
    View.ld (iblk m c 0 t) (Rect.unit ![0, 4608] ![128, 128] inb_S256x5376_S128x128_0_4608),
    View.ld (iblk m c 0 t) (Rect.unit ![0, 4736] ![128, 128] inb_S256x5376_S128x128_0_4736),
    View.ld (iblk m c 0 t) (Rect.unit ![0, 4864] ![128, 128] inb_S256x5376_S128x128_0_4864),
    View.ld (iblk m c 0 t) (Rect.unit ![0, 4992] ![128, 128] inb_S256x5376_S128x128_0_4992),
    View.ld (iblk m c 0 t) (Rect.unit ![0, 5120] ![128, 128] inb_S256x5376_S128x128_0_5120),
    View.ld (iblk m c 0 t) (Rect.unit ![0, 5248] ![128, 128] inb_S256x5376_S128x128_0_5248)]
  du := ![View.ld (iblk m c 2 t) (Rect.unit ![0, 1024] ![128, 128] inb_S256x2048_S128x128_0_1024),
    View.ld (iblk m c 2 t) (Rect.unit ![0, 1152] ![128, 128] inb_S256x2048_S128x128_0_1152),
    View.ld (iblk m c 2 t) (Rect.unit ![0, 1280] ![128, 128] inb_S256x2048_S128x128_0_1280),
    View.ld (iblk m c 2 t) (Rect.unit ![0, 1408] ![128, 128] inb_S256x2048_S128x128_0_1408),
    View.ld (iblk m c 2 t) (Rect.unit ![0, 1536] ![128, 128] inb_S256x2048_S128x128_0_1536),
    View.ld (iblk m c 2 t) (Rect.unit ![0, 1664] ![128, 128] inb_S256x2048_S128x128_0_1664),
    View.ld (iblk m c 2 t) (Rect.unit ![0, 1792] ![128, 128] inb_S256x2048_S128x128_0_1792),
    View.ld (iblk m c 2 t) (Rect.unit ![0, 1920] ![128, 128] inb_S256x2048_S128x128_0_1920)]

set_option maxHeartbeats 3200000 in
/-- The loads of the second block of a step. -/
def part1 (t : Fin cfg0.N) : Parts where
  before := View.ld (iblk m c 0 t) (Rect.unit ![0, 1024] ![128, 256] inb_S256x5376_S128x256_0_1024)
  own := View.ld (iblk m c 0 t) (Rect.unit ![128, 1024] ![128, 256] inb_S256x5376_S128x256_128_1024)
  q := ![![View.ld (iblk m c 0 t) (Rect.unit ![128, 0] ![128, 128] inb_S256x5376_S128x128_128_0), View.ld (iblk m c 0 t) (Rect.unit ![128, 128] ![128, 128] inb_S256x5376_S128x128_128_128), View.ld (iblk m c 0 t) (Rect.unit ![128, 256] ![128, 128] inb_S256x5376_S128x128_128_256), View.ld (iblk m c 0 t) (Rect.unit ![128, 384] ![128, 128] inb_S256x5376_S128x128_128_384)],
    ![View.ld (iblk m c 0 t) (Rect.unit ![128, 512] ![128, 128] inb_S256x5376_S128x128_128_512), View.ld (iblk m c 0 t) (Rect.unit ![128, 640] ![128, 128] inb_S256x5376_S128x128_128_640), View.ld (iblk m c 0 t) (Rect.unit ![128, 768] ![128, 128] inb_S256x5376_S128x128_128_768), View.ld (iblk m c 0 t) (Rect.unit ![128, 896] ![128, 128] inb_S256x5376_S128x128_128_896)]]
  ga := ![![View.ld (iblk m c 0 t) (Rect.unit ![128, 1280] ![128, 128] inb_S256x5376_S128x128_128_1280), View.ld (iblk m c 0 t) (Rect.unit ![128, 1408] ![128, 128] inb_S256x5376_S128x128_128_1408), View.ld (iblk m c 0 t) (Rect.unit ![128, 1536] ![128, 128] inb_S256x5376_S128x128_128_1536), View.ld (iblk m c 0 t) (Rect.unit ![128, 1664] ![128, 128] inb_S256x5376_S128x128_128_1664)],
    ![View.ld (iblk m c 0 t) (Rect.unit ![128, 1792] ![128, 128] inb_S256x5376_S128x128_128_1792), View.ld (iblk m c 0 t) (Rect.unit ![128, 1920] ![128, 128] inb_S256x5376_S128x128_128_1920), View.ld (iblk m c 0 t) (Rect.unit ![128, 2048] ![128, 128] inb_S256x5376_S128x128_128_2048), View.ld (iblk m c 0 t) (Rect.unit ![128, 2176] ![128, 128] inb_S256x5376_S128x128_128_2176)]]
  da := ![![View.ld (iblk m c 2 t) (Rect.unit ![128, 0] ![128, 128] inb_S256x2048_S128x128_128_0), View.ld (iblk m c 2 t) (Rect.unit ![128, 128] ![128, 128] inb_S256x2048_S128x128_128_128), View.ld (iblk m c 2 t) (Rect.unit ![128, 256] ![128, 128] inb_S256x2048_S128x128_128_256), View.ld (iblk m c 2 t) (Rect.unit ![128, 384] ![128, 128] inb_S256x2048_S128x128_128_384)],
    ![View.ld (iblk m c 2 t) (Rect.unit ![128, 512] ![128, 128] inb_S256x2048_S128x128_128_512), View.ld (iblk m c 2 t) (Rect.unit ![128, 640] ![128, 128] inb_S256x2048_S128x128_128_640), View.ld (iblk m c 2 t) (Rect.unit ![128, 768] ![128, 128] inb_S256x2048_S128x128_128_768), View.ld (iblk m c 2 t) (Rect.unit ![128, 896] ![128, 128] inb_S256x2048_S128x128_128_896)]]
  prob := ![View.ld (View.read (Elt Ideal) (((ms0_3 t).view.slice (Rect.unit ![1, 0, 0, 0] ![1, 2, 256, 1024] inb_S2x2x256x1024_S1x2x256x1024_1_0_0_0)).reshape S2x256x1024 (Shape.Squeezes.numel_eq squeezes_S1x2x256x1024_S2x256x1024)) ((hs0_3 t).unread (iblk m c 3 t))) (Rect.unit ![0, 0, 0] ![1, 256, 1024] inb_S2x256x1024_S1x256x1024_0_0_0), View.ld (View.read (Elt Ideal) (((ms0_3 t).view.slice (Rect.unit ![1, 0, 0, 0] ![1, 2, 256, 1024] inb_S2x2x256x1024_S1x2x256x1024_1_0_0_0)).reshape S2x256x1024 (Shape.Squeezes.numel_eq squeezes_S1x2x256x1024_S2x256x1024)) ((hs0_3 t).unread (iblk m c 3 t))) (Rect.unit ![1, 0, 0] ![1, 256, 1024] inb_S2x256x1024_S1x256x1024_1_0_0)]
  sink := ![View.ld (View.read (Elt Ideal) (((ms0_4 t).view.slice (Rect.unit ![1, 0, 0, 0] ![1, 2, 1, 1024] inb_S2x2x1x1024_S1x2x1x1024_1_0_0_0)).reshape S2x1x1024 (Shape.Squeezes.numel_eq squeezes_S1x2x1x1024_S2x1x1024)) ((hs0_4 t).unread (iblk m c 4 t))) (Rect.unit ![0, 0, 0] ![1, 1, 1024] inb_S2x1x1024_S1x1x1024_0_0_0), View.ld (View.read (Elt Ideal) (((ms0_4 t).view.slice (Rect.unit ![1, 0, 0, 0] ![1, 2, 1, 1024] inb_S2x2x1x1024_S1x2x1x1024_1_0_0_0)).reshape S2x1x1024 (Shape.Squeezes.numel_eq squeezes_S1x2x1x1024_S2x1x1024)) ((hs0_4 t).unread (iblk m c 4 t))) (Rect.unit ![1, 0, 0] ![1, 1, 1024] inb_S2x1x1024_S1x1x1024_1_0_0)]
  v := View.ld (iblk m c 0 t) (Rect.unit ![128, 3328] ![128, 1024] inb_S256x5376_S128x1024_128_3328)
  lng := iblk m c 5 t
  lnb := iblk m c 6 t
  w := ![View.ld (iblk m c 7 t) (Rect.unit ![0, 0, 0] ![1, 128, 128] inb_S8x128x128_S1x128x128_0_0_0),
    View.ld (iblk m c 7 t) (Rect.unit ![1, 0, 0] ![1, 128, 128] inb_S8x128x128_S1x128x128_1_0_0),
    View.ld (iblk m c 7 t) (Rect.unit ![2, 0, 0] ![1, 128, 128] inb_S8x128x128_S1x128x128_2_0_0),
    View.ld (iblk m c 7 t) (Rect.unit ![3, 0, 0] ![1, 128, 128] inb_S8x128x128_S1x128x128_3_0_0),
    View.ld (iblk m c 7 t) (Rect.unit ![4, 0, 0] ![1, 128, 128] inb_S8x128x128_S1x128x128_4_0_0),
    View.ld (iblk m c 7 t) (Rect.unit ![5, 0, 0] ![1, 128, 128] inb_S8x128x128_S1x128x128_5_0_0),
    View.ld (iblk m c 7 t) (Rect.unit ![6, 0, 0] ![1, 128, 128] inb_S8x128x128_S1x128x128_6_0_0),
    View.ld (iblk m c 7 t) (Rect.unit ![7, 0, 0] ![1, 128, 128] inb_S8x128x128_S1x128x128_7_0_0)]
  wt := ![View.ld (iblk m c 8 t) (Rect.unit ![0, 0, 0] ![1, 128, 128] inb_S8x128x128_S1x128x128_0_0_0),
    View.ld (iblk m c 8 t) (Rect.unit ![1, 0, 0] ![1, 128, 128] inb_S8x128x128_S1x128x128_1_0_0),
    View.ld (iblk m c 8 t) (Rect.unit ![2, 0, 0] ![1, 128, 128] inb_S8x128x128_S1x128x128_2_0_0),
    View.ld (iblk m c 8 t) (Rect.unit ![3, 0, 0] ![1, 128, 128] inb_S8x128x128_S1x128x128_3_0_0),
    View.ld (iblk m c 8 t) (Rect.unit ![4, 0, 0] ![1, 128, 128] inb_S8x128x128_S1x128x128_4_0_0),
    View.ld (iblk m c 8 t) (Rect.unit ![5, 0, 0] ![1, 128, 128] inb_S8x128x128_S1x128x128_5_0_0),
    View.ld (iblk m c 8 t) (Rect.unit ![6, 0, 0] ![1, 128, 128] inb_S8x128x128_S1x128x128_6_0_0),
    View.ld (iblk m c 8 t) (Rect.unit ![7, 0, 0] ![1, 128, 128] inb_S8x128x128_S1x128x128_7_0_0)]
  bt := ![View.ld (iblk m c 9 t) (Rect.unit ![0, 0] ![128, 1] inb_S128x8_S128x1_0_0),
    View.ld (iblk m c 9 t) (Rect.unit ![0, 1] ![128, 1] inb_S128x8_S128x1_0_1),
    View.ld (iblk m c 9 t) (Rect.unit ![0, 2] ![128, 1] inb_S128x8_S128x1_0_2),
    View.ld (iblk m c 9 t) (Rect.unit ![0, 3] ![128, 1] inb_S128x8_S128x1_0_3),
    View.ld (iblk m c 9 t) (Rect.unit ![0, 4] ![128, 1] inb_S128x8_S128x1_0_4),
    View.ld (iblk m c 9 t) (Rect.unit ![0, 5] ![128, 1] inb_S128x8_S128x1_0_5),
    View.ld (iblk m c 9 t) (Rect.unit ![0, 6] ![128, 1] inb_S128x8_S128x1_0_6),
    View.ld (iblk m c 9 t) (Rect.unit ![0, 7] ![128, 1] inb_S128x8_S128x1_0_7)]
  u := ![View.ld (iblk m c 0 t) (Rect.unit ![128, 2304] ![128, 128] inb_S256x5376_S128x128_128_2304),
    View.ld (iblk m c 0 t) (Rect.unit ![128, 2432] ![128, 128] inb_S256x5376_S128x128_128_2432),
    View.ld (iblk m c 0 t) (Rect.unit ![128, 2560] ![128, 128] inb_S256x5376_S128x128_128_2560),
    View.ld (iblk m c 0 t) (Rect.unit ![128, 2688] ![128, 128] inb_S256x5376_S128x128_128_2688),
    View.ld (iblk m c 0 t) (Rect.unit ![128, 2816] ![128, 128] inb_S256x5376_S128x128_128_2816),
    View.ld (iblk m c 0 t) (Rect.unit ![128, 2944] ![128, 128] inb_S256x5376_S128x128_128_2944),
    View.ld (iblk m c 0 t) (Rect.unit ![128, 3072] ![128, 128] inb_S256x5376_S128x128_128_3072),
    View.ld (iblk m c 0 t) (Rect.unit ![128, 3200] ![128, 128] inb_S256x5376_S128x128_128_3200)]
  gs := ![View.ld (iblk m c 0 t) (Rect.unit ![128, 4352] ![128, 128] inb_S256x5376_S128x128_128_4352),
    View.ld (iblk m c 0 t) (Rect.unit ![128, 4480] ![128, 128] inb_S256x5376_S128x128_128_4480),
    View.ld (iblk m c 0 t) (Rect.unit ![128, 4608] ![128, 128] inb_S256x5376_S128x128_128_4608),
    View.ld (iblk m c 0 t) (Rect.unit ![128, 4736] ![128, 128] inb_S256x5376_S128x128_128_4736),
    View.ld (iblk m c 0 t) (Rect.unit ![128, 4864] ![128, 128] inb_S256x5376_S128x128_128_4864),
    View.ld (iblk m c 0 t) (Rect.unit ![128, 4992] ![128, 128] inb_S256x5376_S128x128_128_4992),
    View.ld (iblk m c 0 t) (Rect.unit ![128, 5120] ![128, 128] inb_S256x5376_S128x128_128_5120),
    View.ld (iblk m c 0 t) (Rect.unit ![128, 5248] ![128, 128] inb_S256x5376_S128x128_128_5248)]
  du := ![View.ld (iblk m c 2 t) (Rect.unit ![128, 1024] ![128, 128] inb_S256x2048_S128x128_128_1024),
    View.ld (iblk m c 2 t) (Rect.unit ![128, 1152] ![128, 128] inb_S256x2048_S128x128_128_1152),
    View.ld (iblk m c 2 t) (Rect.unit ![128, 1280] ![128, 128] inb_S256x2048_S128x128_128_1280),
    View.ld (iblk m c 2 t) (Rect.unit ![128, 1408] ![128, 128] inb_S256x2048_S128x128_128_1408),
    View.ld (iblk m c 2 t) (Rect.unit ![128, 1536] ![128, 128] inb_S256x2048_S128x128_128_1536),
    View.ld (iblk m c 2 t) (Rect.unit ![128, 1664] ![128, 128] inb_S256x2048_S128x128_128_1664),
    View.ld (iblk m c 2 t) (Rect.unit ![128, 1792] ![128, 128] inb_S256x2048_S128x128_128_1792),
    View.ld (iblk m c 2 t) (Rect.unit ![128, 1920] ![128, 128] inb_S256x2048_S128x128_128_1920)]

end Cert.Kernel3Ideal.Tiles
end
-- ==== Proof.MixerPay.lean ====
/-
  What a step of the mixer's backward pass stores, value by value, as the tiles of its two blocks.
-/
module

public import proofs.«01_k».proof.Proof.MixerStep

@[expose] public section

set_option maxRecDepth 65536
set_option maxHeartbeats 4000000
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Kernel3Ideal Cert.Kernel3Ideal.Gen

theorem pay0_lnb (P0 : Parts) (old : FVec Ideal S1x1024 .f32) :
    k0_pay1 (k0_pay416 (k0_pay322 (k0_pay309 (P0.wt 0)) (k0_pay318 (P0.gs 0) (P0.u 0) (P0.du 0))) (k0_pay337 (k0_pay323 k0_pay307 (P0.wt 1)) (k0_pay332 (P0.gs 1) (P0.u 1) (P0.du 1) (k0_pay326 (F := Ideal)))) (k0_pay349 (k0_pay338 k0_pay307 (P0.wt 2)) (P0.u 2) (k0_pay342 (P0.gs 2) (P0.du 2))) (k0_pay362 (k0_pay351 k0_pay307 (P0.wt 3)) (P0.u 3) (k0_pay355 (P0.gs 3) (P0.du 3))) (k0_pay376 (k0_pay363 k0_pay307 (P0.wt 4)) (k0_pay372 (P0.gs 4) (P0.u 4) (P0.du 4))) (k0_pay391 (k0_pay377 k0_pay307 (P0.wt 5)) (k0_pay386 (P0.gs 5) (P0.u 5) (P0.du 5) (k0_pay380 (F := Ideal)))) (k0_pay403 (k0_pay392 k0_pay307 (P0.wt 6)) (P0.u 6) (k0_pay396 (P0.gs 6) (P0.du 6))) (k0_pay405 k0_pay307 (P0.wt 7)) (P0.u 7) (k0_pay409 (P0.gs 7) (P0.du 7))) (k0_pay418 old) = P0.dlnbOf old := rfl

theorem pay0_v (P0 : Parts) :
    k0_pay2 (k0_pay303 P0.v (k0_pay301 P0.v) (Scalar.ofBits (F := Ideal) .f32 0x44800000#32)) (k0_pay304 P0.v (k0_pay301 P0.v) (Scalar.ofBits (F := Ideal) .f32 0x44800000#32)) P0.lng (k0_pay416 (k0_pay322 (k0_pay309 (P0.wt 0)) (k0_pay318 (P0.gs 0) (P0.u 0) (P0.du 0))) (k0_pay337 (k0_pay323 k0_pay307 (P0.wt 1)) (k0_pay332 (P0.gs 1) (P0.u 1) (P0.du 1) (k0_pay326 (F := Ideal)))) (k0_pay349 (k0_pay338 k0_pay307 (P0.wt 2)) (P0.u 2) (k0_pay342 (P0.gs 2) (P0.du 2))) (k0_pay362 (k0_pay351 k0_pay307 (P0.wt 3)) (P0.u 3) (k0_pay355 (P0.gs 3) (P0.du 3))) (k0_pay376 (k0_pay363 k0_pay307 (P0.wt 4)) (k0_pay372 (P0.gs 4) (P0.u 4) (P0.du 4))) (k0_pay391 (k0_pay377 k0_pay307 (P0.wt 5)) (k0_pay386 (P0.gs 5) (P0.u 5) (P0.du 5) (k0_pay380 (F := Ideal)))) (k0_pay403 (k0_pay392 k0_pay307 (P0.wt 6)) (P0.u 6) (k0_pay396 (P0.gs 6) (P0.du 6))) (k0_pay405 k0_pay307 (P0.wt 7)) (P0.u 7) (k0_pay409 (P0.gs 7) (P0.du 7))) = P0.dvs := rfl

theorem pay0_handed (P0 : Parts) :
    k0_pay3 (k0_pay299 (k0_pay287 (k0_pay215 P0.before P0.own) (k0_pay249 (k0_pay215 P0.before P0.own) (k0_pay218 (F := Ideal)) (k0_pay228 (k0_pay220 (P0.q 0 2)) (k0_pay221 (P0.q 0 3)) k0_pay222 (k0_pay223 (F := Ideal)) (k0_pay225 (P0.q 0 0)) (k0_pay226 (P0.q 0 0)) (k0_pay227 (P0.q 0 1))) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) (k0_pay259 (P0.q 1 0) (P0.q 1 1) (P0.q 1 2) (P0.q 1 3)) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal))) (k0_pay288 (k0_pay250 (k0_pay219 (F := Ideal)) (k0_pay229 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) (k0_pay260 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal)))) = shapeCast S128x256 (handed P0.kv) shapeCasts_S128x256_S128x256 := rfl

theorem pay1_sink0 (P1 : Parts) (old : FVec Ideal S1x1x1024 .f32) :
    k0_pay42 (k0_pay31 (P1.sink 0)) (k0_pay40 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3)) old = P1.sinkOf 0 old := rfl

theorem pay1_q00 (P1 : Parts) :
    k0_pay46 (k0_pay23 P1.before P1.own) (k0_pay41 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3)) = P1.dq00 := rfl

theorem pay1_ga00 (P1 : Parts) :
    k0_pay47 (k0_pay33 (k0_pay24 P1.before P1.own) (k0_pay30 (P1.prob 0))) (P1.ga 0 0) (k0_pay34 (P1.ga 0 0)) (P1.da 0 0) = P1.dga00 := rfl

theorem pay1_q01 (P1 : Parts) :
    k0_pay49 (k0_pay48 (k0_pay23 P1.before P1.own) (k0_pay41 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3))) = P1.dq01 := rfl

theorem pay1_ga01 (P1 : Parts) :
    k0_pay50 (k0_pay33 (k0_pay24 P1.before P1.own) (k0_pay30 (P1.prob 0))) (P1.ga 0 1) (k0_pay35 (P1.ga 0 1)) (P1.da 0 1) = P1.dga01 := rfl

theorem pay1_q02 (P1 : Parts) :
    k0_pay51 (k0_pay43 (k0_pay23 P1.before P1.own) (k0_pay41 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3))) = P1.dq02 := rfl

theorem pay1_ga02 (P1 : Parts) :
    k0_pay52 (k0_pay33 (k0_pay24 P1.before P1.own) (k0_pay30 (P1.prob 0))) (P1.ga 0 2) (k0_pay36 (P1.ga 0 2)) (P1.da 0 2) = P1.dga02 := rfl

theorem pay1_q03 (P1 : Parts) :
    k0_pay54 (k0_pay53 (k0_pay43 (k0_pay23 P1.before P1.own) (k0_pay41 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3)))) (Scalar.ofBits (F := Ideal) .f32 0x3E000000#32) = P1.dq03 := rfl

theorem pay1_ga03 (P1 : Parts) :
    k0_pay55 (k0_pay33 (k0_pay24 P1.before P1.own) (k0_pay30 (P1.prob 0))) (P1.ga 0 3) (k0_pay37 (P1.ga 0 3)) (P1.da 0 3) = P1.dga03 := rfl

theorem pay1_sink1 (P1 : Parts) (old : FVec Ideal S1x1x1024 .f32) :
    k0_pay80 (k0_pay22 P1.before P1.own) (k0_pay65 (P1.sink 1)) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32) old = P1.sinkOf 1 old := rfl

theorem pay1_q10 (P1 : Parts) :
    k0_pay84 (k0_pay81 (k0_pay22 P1.before P1.own) (k0_pay23 P1.before P1.own) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32)) = P1.dq10 := rfl

theorem pay1_ga10 (P1 : Parts) :
    k0_pay85 (k0_pay67 (k0_pay24 P1.before P1.own) (P1.prob 1)) (P1.ga 1 0) (k0_pay68 (P1.ga 1 0) (Scalar.ofBits (F := Ideal) .f32 0x3F000000#32)) (P1.da 1 0) = P1.dga10 := rfl

theorem pay1_q11 (P1 : Parts) :
    k0_pay86 (k0_pay81 (k0_pay22 P1.before P1.own) (k0_pay23 P1.before P1.own) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32)) = P1.dq11 := rfl

theorem pay1_ga11 (P1 : Parts) :
    k0_pay88 (k0_pay87 (k0_pay67 (k0_pay24 P1.before P1.own) (P1.prob 1)) (P1.ga 1 1) (k0_pay69 (P1.ga 1 1)) (P1.da 1 1)) = P1.dga11 := rfl

theorem pay1_q12 (P1 : Parts) :
    k0_pay89 (k0_pay81 (k0_pay22 P1.before P1.own) (k0_pay23 P1.before P1.own) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32)) = P1.dq12 := rfl

theorem pay1_ga12 (P1 : Parts) :
    k0_pay90 (k0_pay67 (k0_pay24 P1.before P1.own) (P1.prob 1)) (P1.ga 1 2) (k0_pay70 (P1.ga 1 2)) (P1.da 1 2) = P1.dga12 := rfl

theorem pay1_q13 (P1 : Parts) :
    k0_pay91 (k0_pay81 (k0_pay22 P1.before P1.own) (k0_pay23 P1.before P1.own) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32)) = P1.dq13 := rfl

theorem pay1_ga13 (P1 : Parts) :
    k0_pay94 (P1.da 1 3) (k0_pay92 (P1.ga 1 3) (k0_pay71 (P1.ga 1 3))) (k0_pay93 (k0_pay67 (k0_pay24 P1.before P1.own) (P1.prob 1))) = P1.dga13 := rfl

theorem pay1_kv (P1 : Parts) (old : FVec Ideal S128x256 .f32) :
    k0_pay96 old (k0_pay82 (k0_pay22 P1.before P1.own) (k0_pay44 (k0_pay25 (F := Ideal)) (k0_pay29 (k0_pay27 (P1.q 0 0)) (k0_pay28 (P1.q 0 1)) (P1.q 0 2) (P1.q 0 3)) (k0_pay41 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3))) (k0_pay63 (k0_pay56 (P1.q 1 1)) (k0_pay57 (P1.q 1 2)) (k0_pay58 (P1.q 1 3)) k0_pay59 (k0_pay60 (F := Ideal)) (k0_pay61 (P1.q 1 0)) (k0_pay62 (P1.q 1 0)) (Scalar.ofBits (F := Ideal) .f32 0x00000000#32)) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32)) (k0_pay83 (k0_pay45 (k0_pay26 (F := Ideal)) (k0_pay30 (P1.prob 0)) (k0_pay38 (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3))) (k0_pay64 (P1.prob 1)) (k0_pay76 (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32))) = kvTile P1.kv old := rfl

theorem pay1_u0 (P1 : Parts) :
    k0_pay109 (k0_pay100 P1.v P1.lng P1.lnb) k0_pay101 (P1.w 0) (P1.bt 0) (P1.gs 0) (P1.du 0) = P1.dup 0 := rfl

theorem pay1_gs0 (P1 : Parts) :
    k0_pay112 (k0_pay107 (P1.gs 0)) (k0_pay110 (k0_pay100 P1.v P1.lng P1.lnb) k0_pay101 (P1.w 0) (P1.bt 0) (P1.u 0) (P1.du 0)) (k0_pay111 (P1.gs 0)) (Scalar.ofBits (F := Ideal) .f32 0x3F800000#32) = P1.dgs 0 := rfl

theorem pay1_w0 (P1 : Parts) (old : FVec Ideal S1x128x128 .f32) :
    k0_pay115 k0_pay101 (k0_pay105 (k0_pay100 P1.v P1.lng P1.lnb)) (P1.u 0) (k0_pay108 (P1.gs 0) (P1.du 0)) old = P1.dwOf 0 old := rfl

theorem pay1_u1 (P1 : Parts) :
    k0_pay125 (k0_pay100 P1.v P1.lng P1.lnb) (k0_pay118 k0_pay101 (P1.w 1)) (P1.bt 1) (P1.gs 1) (P1.du 1) = P1.dup 1 := rfl

theorem pay1_gs1 (P1 : Parts) :
    k0_pay126 (k0_pay100 P1.v P1.lng P1.lnb) (k0_pay118 k0_pay101 (P1.w 1)) (P1.bt 1) (P1.gs 1) (P1.u 1) (P1.du 1) = P1.dgs 1 := rfl

theorem pay1_w1 (P1 : Parts) (old : FVec Ideal S1x128x128 .f32) :
    k0_pay129 k0_pay101 (k0_pay121 (k0_pay100 P1.v P1.lng P1.lnb)) (k0_pay128 (P1.gs 1) (P1.u 1) (P1.du 1)) old = P1.dwOf 1 old := rfl

theorem pay1_u2 (P1 : Parts) :
    k0_pay137 (k0_pay134 (k0_pay100 P1.v P1.lng P1.lnb) k0_pay101 (P1.w 2) (P1.bt 2)) (P1.gs 2) (P1.du 2) = P1.dup 2 := rfl

theorem pay1_gs2 (P1 : Parts) :
    k0_pay138 (k0_pay134 (k0_pay100 P1.v P1.lng P1.lnb) k0_pay101 (P1.w 2) (P1.bt 2)) (P1.gs 2) (P1.u 2) (P1.du 2) = P1.dgs 2 := rfl

theorem pay1_w2 (P1 : Parts) (old : FVec Ideal S1x128x128 .f32) :
    k0_pay141 k0_pay101 (k0_pay133 (k0_pay100 P1.v P1.lng P1.lnb)) (P1.gs 2) (P1.u 2) (P1.du 2) old = P1.dwOf 2 old := rfl

theorem pay1_u3 (P1 : Parts) :
    k0_pay149 (k0_pay146 (k0_pay100 P1.v P1.lng P1.lnb) k0_pay101 (P1.w 3) (P1.bt 3)) (P1.gs 3) (P1.du 3) (k0_pay147 (P1.gs 3)) = P1.dup 3 := rfl

theorem pay1_gs3 (P1 : Parts) :
    k0_pay150 (k0_pay146 (k0_pay100 P1.v P1.lng P1.lnb) k0_pay101 (P1.w 3) (P1.bt 3)) (P1.gs 3) (P1.u 3) (P1.du 3) (k0_pay147 (P1.gs 3)) = P1.dgs 3 := rfl

theorem pay1_w3 (P1 : Parts) (old : FVec Ideal S1x128x128 .f32) :
    k0_pay153 k0_pay101 (k0_pay145 (k0_pay100 P1.v P1.lng P1.lnb)) (P1.gs 3) (P1.u 3) (P1.du 3) (k0_pay147 (P1.gs 3)) old = P1.dwOf 3 old := rfl

theorem pay1_u4 (P1 : Parts) :
    k0_pay161 (k0_pay100 P1.v P1.lng P1.lnb) k0_pay101 (P1.w 4) (P1.bt 4) (P1.gs 4) (P1.du 4) = P1.dup 4 := rfl

theorem pay1_gs4 (P1 : Parts) :
    k0_pay164 (k0_pay159 (P1.gs 4)) (k0_pay162 (k0_pay100 P1.v P1.lng P1.lnb) k0_pay101 (P1.w 4) (P1.bt 4) (P1.u 4) (P1.du 4)) (k0_pay163 (P1.gs 4)) (Scalar.ofBits (F := Ideal) .f32 0x3F800000#32) = P1.dgs 4 := rfl

theorem pay1_w4 (P1 : Parts) (old : FVec Ideal S1x128x128 .f32) :
    k0_pay167 k0_pay101 (k0_pay157 (k0_pay100 P1.v P1.lng P1.lnb)) (P1.u 4) (k0_pay160 (P1.gs 4) (P1.du 4)) old = P1.dwOf 4 old := rfl

theorem pay1_u5 (P1 : Parts) :
    k0_pay177 (k0_pay100 P1.v P1.lng P1.lnb) (k0_pay170 k0_pay101 (P1.w 5)) (P1.bt 5) (P1.gs 5) (P1.du 5) = P1.dup 5 := rfl

theorem pay1_gs5 (P1 : Parts) :
    k0_pay178 (k0_pay100 P1.v P1.lng P1.lnb) (k0_pay170 k0_pay101 (P1.w 5)) (P1.bt 5) (P1.gs 5) (P1.u 5) (P1.du 5) = P1.dgs 5 := rfl

theorem pay1_w5 (P1 : Parts) (old : FVec Ideal S1x128x128 .f32) :
    k0_pay181 k0_pay101 (k0_pay173 (k0_pay100 P1.v P1.lng P1.lnb)) (k0_pay180 (P1.gs 5) (P1.u 5) (P1.du 5)) old = P1.dwOf 5 old := rfl

theorem pay1_u6 (P1 : Parts) :
    k0_pay189 (k0_pay186 (k0_pay100 P1.v P1.lng P1.lnb) k0_pay101 (P1.w 6) (P1.bt 6)) (P1.gs 6) (P1.du 6) = P1.dup 6 := rfl

theorem pay1_gs6 (P1 : Parts) :
    k0_pay190 (k0_pay186 (k0_pay100 P1.v P1.lng P1.lnb) k0_pay101 (P1.w 6) (P1.bt 6)) (P1.gs 6) (P1.u 6) (P1.du 6) = P1.dgs 6 := rfl

theorem pay1_w6 (P1 : Parts) (old : FVec Ideal S1x128x128 .f32) :
    k0_pay193 k0_pay101 (k0_pay185 (k0_pay100 P1.v P1.lng P1.lnb)) (P1.gs 6) (P1.u 6) (P1.du 6) old = P1.dwOf 6 old := rfl

theorem pay1_u7 (P1 : Parts) :
    k0_pay201 (k0_pay198 (k0_pay100 P1.v P1.lng P1.lnb) k0_pay101 (P1.w 7) (P1.bt 7)) (P1.gs 7) (P1.du 7) (k0_pay199 (P1.gs 7)) = P1.dup 7 := rfl

theorem pay1_gs7 (P1 : Parts) :
    k0_pay202 (k0_pay198 (k0_pay100 P1.v P1.lng P1.lnb) k0_pay101 (P1.w 7) (P1.bt 7)) (P1.gs 7) (P1.u 7) (P1.du 7) (k0_pay199 (P1.gs 7)) = P1.dgs 7 := rfl

theorem pay1_w7 (P1 : Parts) (old : FVec Ideal S1x128x128 .f32) :
    k0_pay205 k0_pay101 (k0_pay197 (k0_pay100 P1.v P1.lng P1.lnb)) (P1.gs 7) (P1.u 7) (P1.du 7) (k0_pay199 (P1.gs 7)) old = P1.dwOf 7 old := rfl

theorem pay1_db (P1 : Parts) (old : FVec Ideal S128x128 .f32) :
    k0_pay208 (k0_pay206 (iota .tc S128x128 32 [1] iota_S128x128_d1_w32) (k0_pay194 (iota .tc S128x128 32 [1] iota_S128x128_d1_w32) (k0_pay182 (iota .tc S128x128 32 [1] iota_S128x128_d1_w32) (k0_pay168 (iota .tc S128x128 32 [1] iota_S128x128_d1_w32) (k0_pay154 (iota .tc S128x128 32 [1] iota_S128x128_d1_w32) (k0_pay142 (iota .tc S128x128 32 [1] iota_S128x128_d1_w32) (k0_pay130 (iota .tc S128x128 32 [1] iota_S128x128_d1_w32) (k0_pay116 (iota .tc S128x128 32 [1] iota_S128x128_d1_w32) (k0_pay103 (F := Ideal)) (P1.u 0) (k0_pay108 (P1.gs 0) (P1.du 0))) (k0_pay127 (P1.gs 1) (P1.u 1) (P1.du 1))) (k0_pay139 (P1.gs 2) (P1.u 2) (P1.du 2)) 2#32) (P1.gs 3) (P1.u 3) (P1.du 3) (k0_pay147 (P1.gs 3))) (P1.u 4) (k0_pay160 (P1.gs 4) (P1.du 4))) (k0_pay179 (P1.gs 5) (P1.u 5) (P1.du 5))) (k0_pay191 (P1.gs 6) (P1.u 6) (P1.du 6)) 6#32) (P1.gs 7) (P1.u 7) (P1.du 7) (k0_pay199 (P1.gs 7))) old = P1.dbOf old := rfl

theorem pay1_lng (P1 : Parts) (old : FVec Ideal S1x1024 .f32) :
    k0_pay210 (k0_pay99 P1.v) (k0_pay117 (k0_pay104 k0_pay102 (P1.wt 0)) (P1.u 0) (k0_pay108 (P1.gs 0) (P1.du 0))) (k0_pay131 (k0_pay120 (k0_pay119 k0_pay102 (P1.wt 1))) (k0_pay128 (P1.gs 1) (P1.u 1) (P1.du 1))) (k0_pay143 (k0_pay132 k0_pay102 (P1.wt 2)) (k0_pay140 (P1.gs 2) (P1.u 2) (P1.du 2))) (k0_pay155 (k0_pay144 k0_pay102 (P1.wt 3)) (P1.gs 3) (P1.u 3) (P1.du 3) (k0_pay147 (P1.gs 3))) (k0_pay169 (k0_pay156 k0_pay102 (P1.wt 4)) (P1.u 4) (k0_pay160 (P1.gs 4) (P1.du 4))) (k0_pay183 (k0_pay172 (k0_pay171 k0_pay102 (P1.wt 5))) (k0_pay180 (P1.gs 5) (P1.u 5) (P1.du 5))) (k0_pay195 (k0_pay184 k0_pay102 (P1.wt 6)) (k0_pay192 (P1.gs 6) (P1.u 6) (P1.du 6))) (k0_pay207 (k0_pay196 k0_pay102 (P1.wt 7)) (P1.gs 7) (P1.u 7) (P1.du 7) (k0_pay199 (P1.gs 7))) old = P1.dlngOf old := rfl

theorem pay1_lnb (P1 : Parts) (old : FVec Ideal S1x1024 .f32) :
    k0_pay211 (k0_pay117 (k0_pay104 k0_pay102 (P1.wt 0)) (P1.u 0) (k0_pay108 (P1.gs 0) (P1.du 0))) (k0_pay131 (k0_pay120 (k0_pay119 k0_pay102 (P1.wt 1))) (k0_pay128 (P1.gs 1) (P1.u 1) (P1.du 1))) (k0_pay143 (k0_pay132 k0_pay102 (P1.wt 2)) (k0_pay140 (P1.gs 2) (P1.u 2) (P1.du 2))) (k0_pay155 (k0_pay144 k0_pay102 (P1.wt 3)) (P1.gs 3) (P1.u 3) (P1.du 3) (k0_pay147 (P1.gs 3))) (k0_pay169 (k0_pay156 k0_pay102 (P1.wt 4)) (P1.u 4) (k0_pay160 (P1.gs 4) (P1.du 4))) (k0_pay183 (k0_pay172 (k0_pay171 k0_pay102 (P1.wt 5))) (k0_pay180 (P1.gs 5) (P1.u 5) (P1.du 5))) (k0_pay195 (k0_pay184 k0_pay102 (P1.wt 6)) (k0_pay192 (P1.gs 6) (P1.u 6) (P1.du 6))) (k0_pay207 (k0_pay196 k0_pay102 (P1.wt 7)) (P1.gs 7) (P1.u 7) (P1.du 7) (k0_pay199 (P1.gs 7))) old = P1.dlnbOf old := rfl

theorem pay1_v (P1 : Parts) :
    k0_pay212 (k0_pay98 P1.v) (k0_pay99 P1.v) P1.lng (k0_pay117 (k0_pay104 k0_pay102 (P1.wt 0)) (P1.u 0) (k0_pay108 (P1.gs 0) (P1.du 0))) (k0_pay131 (k0_pay120 (k0_pay119 k0_pay102 (P1.wt 1))) (k0_pay128 (P1.gs 1) (P1.u 1) (P1.du 1))) (k0_pay143 (k0_pay132 k0_pay102 (P1.wt 2)) (k0_pay140 (P1.gs 2) (P1.u 2) (P1.du 2))) (k0_pay155 (k0_pay144 k0_pay102 (P1.wt 3)) (P1.gs 3) (P1.u 3) (P1.du 3) (k0_pay147 (P1.gs 3))) (k0_pay169 (k0_pay156 k0_pay102 (P1.wt 4)) (P1.u 4) (k0_pay160 (P1.gs 4) (P1.du 4))) (k0_pay183 (k0_pay172 (k0_pay171 k0_pay102 (P1.wt 5))) (k0_pay180 (P1.gs 5) (P1.u 5) (P1.du 5))) (k0_pay195 (k0_pay184 k0_pay102 (P1.wt 6)) (k0_pay192 (P1.gs 6) (P1.u 6) (P1.du 6))) (k0_pay207 (k0_pay196 k0_pay102 (P1.wt 7)) (P1.gs 7) (P1.u 7) (P1.du 7) (k0_pay199 (P1.gs 7))) = P1.dvs := rfl

theorem pay0_sink0 (P0 : Parts) (old : FVec Ideal S1x1x1024 .f32) :
    k0_pay247 (k0_pay215 P0.before P0.own) (k0_pay230 (P0.sink 0)) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242 old = P0.sinkOf 0 old := rfl

theorem pay0_q00 (P0 : Parts) :
    k0_pay251 (k0_pay248 (k0_pay215 P0.before P0.own) (k0_pay216 P0.before P0.own) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) = P0.dq00 := rfl

theorem pay0_ga00 (P0 : Parts) :
    k0_pay252 (k0_pay232 (k0_pay217 P0.before P0.own) (P0.prob 0)) (P0.ga 0 0) (k0_pay234 (k0_pay233 (P0.ga 0 0))) (P0.da 0 0) = P0.dga00 := rfl

theorem pay0_q01 (P0 : Parts) :
    k0_pay253 (k0_pay248 (k0_pay215 P0.before P0.own) (k0_pay216 P0.before P0.own) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) = P0.dq01 := rfl

theorem pay0_ga01 (P0 : Parts) :
    k0_pay254 (k0_pay232 (k0_pay217 P0.before P0.own) (P0.prob 0)) (P0.ga 0 1) (k0_pay235 (P0.ga 0 1)) (P0.da 0 1) = P0.dga01 := rfl

theorem pay0_q02 (P0 : Parts) :
    k0_pay255 (k0_pay248 (k0_pay215 P0.before P0.own) (k0_pay216 P0.before P0.own) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) = P0.dq02 := rfl

theorem pay0_ga02 (P0 : Parts) :
    k0_pay256 (k0_pay232 (k0_pay217 P0.before P0.own) (P0.prob 0)) (P0.ga 0 2) (k0_pay236 (P0.ga 0 2)) (P0.da 0 2) = P0.dga02 := rfl

theorem pay0_q03 (P0 : Parts) :
    k0_pay257 (k0_pay248 (k0_pay215 P0.before P0.own) (k0_pay216 P0.before P0.own) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) = P0.dq03 := rfl

theorem pay0_ga03 (P0 : Parts) :
    k0_pay258 (k0_pay232 (k0_pay217 P0.before P0.own) (P0.prob 0)) (P0.ga 0 3) (k0_pay237 (P0.ga 0 3)) (P0.da 0 3) = P0.dga03 := rfl

theorem pay0_sink1 (P0 : Parts) (old : FVec Ideal S1x1x1024 .f32) :
    k0_pay285 (k0_pay215 P0.before P0.own) (k0_pay261 (P0.sink 1)) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal)) old = P0.sinkOf 1 old := rfl

theorem pay0_q10 (P0 : Parts) :
    k0_pay289 (k0_pay215 P0.before P0.own) (k0_pay216 P0.before P0.own) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal)) = P0.dq10 := rfl

theorem pay0_ga10 (P0 : Parts) :
    k0_pay291 (k0_pay263 (k0_pay217 P0.before P0.own) (P0.prob 1)) (k0_pay264 (P0.ga 1 0)) (P0.da 1 0) (k0_pay290 (P0.ga 1 0) (k0_pay264 (P0.ga 1 0))) = P0.dga10 := rfl

theorem pay0_q11 (P0 : Parts) :
    k0_pay292 (k0_pay286 (k0_pay215 P0.before P0.own) (k0_pay216 P0.before P0.own) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal))) = P0.dq11 := rfl

theorem pay0_ga11 (P0 : Parts) :
    k0_pay293 (k0_pay263 (k0_pay217 P0.before P0.own) (P0.prob 1)) (P0.ga 1 1) (k0_pay265 (P0.ga 1 1)) (P0.da 1 1) = P0.dga11 := rfl

theorem pay0_q12 (P0 : Parts) :
    k0_pay294 (k0_pay286 (k0_pay215 P0.before P0.own) (k0_pay216 P0.before P0.own) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal))) = P0.dq12 := rfl

theorem pay0_ga12 (P0 : Parts) :
    k0_pay296 (k0_pay263 (k0_pay217 P0.before P0.own) (P0.prob 1)) (k0_pay267 (k0_pay266 (P0.ga 1 2))) (P0.da 1 2) (k0_pay295 (P0.ga 1 2) (k0_pay267 (k0_pay266 (P0.ga 1 2)))) (Scalar.ofBits (F := Ideal) .f32 0x3F800000#32) = P0.dga12 := rfl

theorem pay0_q13 (P0 : Parts) :
    k0_pay297 (k0_pay286 (k0_pay215 P0.before P0.own) (k0_pay216 P0.before P0.own) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal))) = P0.dq13 := rfl

theorem pay0_ga13 (P0 : Parts) :
    k0_pay298 (k0_pay263 (k0_pay217 P0.before P0.own) (P0.prob 1)) (P0.ga 1 3) (k0_pay268 (P0.ga 1 3)) (P0.da 1 3) = P0.dga13 := rfl

theorem pay0_kv (P1 P0 : Parts) :
    k0_pay300 (k0_pay213 (k0_pay95 (k0_pay82 (k0_pay22 P1.before P1.own) (k0_pay44 (k0_pay25 (F := Ideal)) (k0_pay29 (k0_pay27 (P1.q 0 0)) (k0_pay28 (P1.q 0 1)) (P1.q 0 2) (P1.q 0 3)) (k0_pay41 (k0_pay22 P1.before P1.own) (k0_pay32 (k0_pay30 (P1.prob 0))) (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3))) (k0_pay63 (k0_pay56 (P1.q 1 1)) (k0_pay57 (P1.q 1 2)) (k0_pay58 (P1.q 1 3)) k0_pay59 (k0_pay60 (F := Ideal)) (k0_pay61 (P1.q 1 0)) (k0_pay62 (P1.q 1 0)) (Scalar.ofBits (F := Ideal) .f32 0x00000000#32)) (k0_pay66 (P1.prob 1)) (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32)) (k0_pay83 (k0_pay45 (k0_pay26 (F := Ideal)) (k0_pay30 (P1.prob 0)) (k0_pay38 (P1.ga 0 0) (P1.ga 0 1) (P1.ga 0 2) (P1.ga 0 3) (k0_pay34 (P1.ga 0 0)) (k0_pay35 (P1.ga 0 1)) (k0_pay36 (P1.ga 0 2)) (k0_pay37 (P1.ga 0 3)) (P1.da 0 0) (P1.da 0 1) (P1.da 0 2) (P1.da 0 3))) (k0_pay64 (P1.prob 1)) (k0_pay76 (k0_pay72 (P1.ga 1 0) (Scalar.ofBits (F := Ideal) .f32 0x3F000000#32) (P1.da 1 0)) (k0_pay73 (P1.ga 1 1) (P1.da 1 1)) (k0_pay74 (P1.ga 1 2) (P1.da 1 2)) (k0_pay75 (P1.ga 1 3) (P1.da 1 3)) (iota .tc S128x128 32 [0] iota_S128x128_d0_w32))))) (k0_pay287 (k0_pay215 P0.before P0.own) (k0_pay249 (k0_pay215 P0.before P0.own) (k0_pay218 (F := Ideal)) (k0_pay228 (k0_pay220 (P0.q 0 2)) (k0_pay221 (P0.q 0 3)) k0_pay222 (k0_pay223 (F := Ideal)) (k0_pay225 (P0.q 0 0)) (k0_pay226 (P0.q 0 0)) (k0_pay227 (P0.q 0 1))) (k0_pay231 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) (k0_pay259 (P0.q 1 0) (P0.q 1 1) (P0.q 1 2) (P0.q 1 3)) (k0_pay262 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal))) (k0_pay288 (k0_pay250 (k0_pay219 (F := Ideal)) (k0_pay229 (P0.prob 0)) (k0_pay238 (P0.ga 0 0) (k0_pay233 (P0.ga 0 0)) (P0.da 0 0)) (k0_pay239 (P0.ga 0 1) (P0.da 0 1)) (k0_pay240 (P0.ga 0 2) (P0.da 0 2)) (k0_pay241 (P0.ga 0 3) (P0.da 0 3)) k0_pay242) (k0_pay260 (P0.prob 1)) (k0_pay269 (P0.ga 1 3) (P0.da 1 3)) k0_pay270 (k0_pay271 (F := Ideal)) (k0_pay273 (P0.ga 1 0) (k0_pay264 (P0.ga 1 0)) (P0.da 1 0)) (k0_pay274 (P0.ga 1 0) (k0_pay264 (P0.ga 1 0)) (P0.da 1 0)) (k0_pay276 (P0.ga 1 1) (k0_pay265 (P0.ga 1 1)) (P0.da 1 1)) (k0_pay277 (P0.ga 1 1) (k0_pay265 (P0.ga 1 1)) (P0.da 1 1)) (k0_pay278 (P0.ga 1 2) (k0_pay266 (P0.ga 1 2)) (P0.da 1 2)) (k0_pay279 (P0.ga 1 2) (k0_pay266 (P0.ga 1 2)) (P0.da 1 2)) (k0_pay280 (F := Ideal))) = kvTile P0.kv (handed P1.kv) := rfl

theorem pay0_u0 (P0 : Parts) :
    k0_pay315 (k0_pay311 P0.v (k0_pay301 P0.v) (Scalar.ofBits (F := Ideal) .f32 0x44800000#32) P0.lng P0.lnb (P0.w 0)) (P0.bt 0) (P0.gs 0) (P0.du 0) = P0.dup 0 := rfl

theorem pay0_gs0 (P0 : Parts) :
    k0_pay316 (k0_pay311 P0.v (k0_pay301 P0.v) (Scalar.ofBits (F := Ideal) .f32 0x44800000#32) P0.lng P0.lnb (P0.w 0)) (P0.bt 0) (P0.gs 0) (P0.u 0) (P0.du 0) = P0.dgs 0 := rfl

theorem pay0_w0 (P0 : Parts) (old : FVec Ideal S1x128x128 .f32) :
    k0_pay320 (k0_pay319 k0_pay306 (k0_pay310 P0.v (k0_pay301 P0.v) (Scalar.ofBits (F := Ideal) .f32 0x44800000#32) P0.lng P0.lnb) (P0.gs 0) (P0.u 0) (P0.du 0) old) = P0.dwOf 0 old := rfl

theorem pay0_u1 (P0 : Parts) :
    k0_pay329 (k0_pay325 (k0_pay305 P0.v (k0_pay301 P0.v) (Scalar.ofBits (F := Ideal) .f32 0x44800000#32) P0.lng P0.lnb) k0_pay306 (P0.w 1) (P0.bt 1)) (P0.gs 1) (P0.du 1) (k0_pay326 (F := Ideal)) = P0.dup 1 := rfl

theorem pay0_gs1 (P0 : Parts) :
    k0_pay330 (k0_pay325 (k0_pay305 P0.v (k0_pay301 P0.v) (Scalar.ofBits (F := Ideal) .f32 0x44800000#32) P0.lng P0.lnb) k0_pay306 (P0.w 1) (P0.bt 1)) (P0.gs 1) (P0.u 1) (P0.du 1) (k0_pay326 (F := Ideal)) = P0.dgs 1 := rfl

theorem pay0_w1 (P0 : Parts) (old : FVec Ideal S1x128x128 .f32) :
    k0_pay333 k0_pay306 (k0_pay324 (k0_pay305 P0.v (k0_pay301 P0.v) (Scalar.ofBits (F := Ideal) .f32 0x44800000#32) P0.lng P0.lnb)) (P0.gs 1) (P0.u 1) (P0.du 1) (k0_pay326 (F := Ideal)) old = P0.dwOf 1 old := rfl

theorem pay0_u2 (P0 : Parts) :
    k0_pay343 (k0_pay305 P0.v (k0_pay301 P0.v) (Scalar.ofBits (F := Ideal) .f32 0x44800000#32) P0.lng P0.lnb) k0_pay306 (P0.w 2) (P0.bt 2) (P0.gs 2) (P0.du 2) = P0.dup 2 := rfl

theorem pay0_gs2 (P0 : Parts) :
    k0_pay344 (k0_pay340 (k0_pay305 P0.v (k0_pay301 P0.v) (Scalar.ofBits (F := Ideal) .f32 0x44800000#32) P0.lng P0.lnb) k0_pay306 (P0.w 2) (P0.bt 2)) (P0.gs 2) (P0.u 2) (P0.du 2) (k0_pay341 (P0.gs 2)) = P0.dgs 2 := rfl

theorem pay0_w2 (P0 : Parts) (old : FVec Ideal S1x128x128 .f32) :
    k0_pay347 k0_pay306 (k0_pay339 (k0_pay305 P0.v (k0_pay301 P0.v) (Scalar.ofBits (F := Ideal) .f32 0x44800000#32) P0.lng P0.lnb)) (P0.u 2) (k0_pay342 (P0.gs 2) (P0.du 2)) old = P0.dwOf 2 old := rfl

theorem pay0_u3 (P0 : Parts) :
    k0_pay356 (k0_pay305 P0.v (k0_pay301 P0.v) (Scalar.ofBits (F := Ideal) .f32 0x44800000#32) P0.lng P0.lnb) (k0_pay350 k0_pay306 (P0.w 3)) (P0.bt 3) (P0.gs 3) (P0.du 3) = P0.dup 3 := rfl

theorem pay0_gs3 (P0 : Parts) :
    k0_pay357 (k0_pay305 P0.v (k0_pay301 P0.v) (Scalar.ofBits (F := Ideal) .f32 0x44800000#32) P0.lng P0.lnb) (k0_pay350 k0_pay306 (P0.w 3)) (P0.bt 3) (P0.gs 3) (P0.u 3) (P0.du 3) = P0.dgs 3 := rfl

theorem pay0_w3 (P0 : Parts) (old : FVec Ideal S1x128x128 .f32) :
    k0_pay360 k0_pay306 (k0_pay352 (k0_pay305 P0.v (k0_pay301 P0.v) (Scalar.ofBits (F := Ideal) .f32 0x44800000#32) P0.lng P0.lnb)) (P0.u 3) (k0_pay355 (P0.gs 3) (P0.du 3)) old = P0.dwOf 3 old := rfl

theorem pay0_u4 (P0 : Parts) :
    k0_pay369 (k0_pay365 (k0_pay305 P0.v (k0_pay301 P0.v) (Scalar.ofBits (F := Ideal) .f32 0x44800000#32) P0.lng P0.lnb) k0_pay306 (P0.w 4)) (P0.bt 4) (P0.gs 4) (P0.du 4) = P0.dup 4 := rfl

theorem pay0_gs4 (P0 : Parts) :
    k0_pay370 (k0_pay365 (k0_pay305 P0.v (k0_pay301 P0.v) (Scalar.ofBits (F := Ideal) .f32 0x44800000#32) P0.lng P0.lnb) k0_pay306 (P0.w 4)) (P0.bt 4) (P0.gs 4) (P0.u 4) (P0.du 4) = P0.dgs 4 := rfl

theorem pay0_w4 (P0 : Parts) (old : FVec Ideal S1x128x128 .f32) :
    k0_pay374 (k0_pay373 k0_pay306 (k0_pay364 (k0_pay305 P0.v (k0_pay301 P0.v) (Scalar.ofBits (F := Ideal) .f32 0x44800000#32) P0.lng P0.lnb)) (P0.gs 4) (P0.u 4) (P0.du 4) old) = P0.dwOf 4 old := rfl

theorem pay0_u5 (P0 : Parts) :
    k0_pay383 (k0_pay379 (k0_pay305 P0.v (k0_pay301 P0.v) (Scalar.ofBits (F := Ideal) .f32 0x44800000#32) P0.lng P0.lnb) k0_pay306 (P0.w 5) (P0.bt 5)) (P0.gs 5) (P0.du 5) (k0_pay380 (F := Ideal)) = P0.dup 5 := rfl

theorem pay0_gs5 (P0 : Parts) :
    k0_pay384 (k0_pay379 (k0_pay305 P0.v (k0_pay301 P0.v) (Scalar.ofBits (F := Ideal) .f32 0x44800000#32) P0.lng P0.lnb) k0_pay306 (P0.w 5) (P0.bt 5)) (P0.gs 5) (P0.u 5) (P0.du 5) (k0_pay380 (F := Ideal)) = P0.dgs 5 := rfl

theorem pay0_w5 (P0 : Parts) (old : FVec Ideal S1x128x128 .f32) :
    k0_pay387 k0_pay306 (k0_pay378 (k0_pay305 P0.v (k0_pay301 P0.v) (Scalar.ofBits (F := Ideal) .f32 0x44800000#32) P0.lng P0.lnb)) (P0.gs 5) (P0.u 5) (P0.du 5) (k0_pay380 (F := Ideal)) old = P0.dwOf 5 old := rfl

theorem pay0_u6 (P0 : Parts) :
    k0_pay397 (k0_pay305 P0.v (k0_pay301 P0.v) (Scalar.ofBits (F := Ideal) .f32 0x44800000#32) P0.lng P0.lnb) k0_pay306 (P0.w 6) (P0.bt 6) (P0.gs 6) (P0.du 6) = P0.dup 6 := rfl

theorem pay0_gs6 (P0 : Parts) :
    k0_pay398 (k0_pay394 (k0_pay305 P0.v (k0_pay301 P0.v) (Scalar.ofBits (F := Ideal) .f32 0x44800000#32) P0.lng P0.lnb) k0_pay306 (P0.w 6) (P0.bt 6)) (P0.gs 6) (P0.u 6) (P0.du 6) (k0_pay395 (P0.gs 6)) = P0.dgs 6 := rfl

theorem pay0_w6 (P0 : Parts) (old : FVec Ideal S1x128x128 .f32) :
    k0_pay401 k0_pay306 (k0_pay393 (k0_pay305 P0.v (k0_pay301 P0.v) (Scalar.ofBits (F := Ideal) .f32 0x44800000#32) P0.lng P0.lnb)) (P0.u 6) (k0_pay396 (P0.gs 6) (P0.du 6)) old = P0.dwOf 6 old := rfl

theorem pay0_u7 (P0 : Parts) :
    k0_pay410 (k0_pay305 P0.v (k0_pay301 P0.v) (Scalar.ofBits (F := Ideal) .f32 0x44800000#32) P0.lng P0.lnb) (k0_pay404 k0_pay306 (P0.w 7)) (P0.bt 7) (P0.gs 7) (P0.du 7) = P0.dup 7 := rfl

theorem pay0_gs7 (P0 : Parts) :
    k0_pay411 (k0_pay305 P0.v (k0_pay301 P0.v) (Scalar.ofBits (F := Ideal) .f32 0x44800000#32) P0.lng P0.lnb) (k0_pay404 k0_pay306 (P0.w 7)) (P0.bt 7) (P0.gs 7) (P0.u 7) (P0.du 7) = P0.dgs 7 := rfl

theorem pay0_w7 (P0 : Parts) (old : FVec Ideal S1x128x128 .f32) :
    k0_pay414 k0_pay306 (k0_pay406 (k0_pay305 P0.v (k0_pay301 P0.v) (Scalar.ofBits (F := Ideal) .f32 0x44800000#32) P0.lng P0.lnb)) (P0.u 7) (k0_pay409 (P0.gs 7) (P0.du 7)) old = P0.dwOf 7 old := rfl

theorem pay0_db (P0 : Parts) (old : FVec Ideal S128x128 .f32) :
    k0_pay415 (iota .tc S128x128 32 [1] iota_S128x128_d1_w32) (k0_pay402 (iota .tc S128x128 32 [1] iota_S128x128_d1_w32) (k0_pay390 (k0_pay375 (iota .tc S128x128 32 [1] iota_S128x128_d1_w32) (k0_pay361 (iota .tc S128x128 32 [1] iota_S128x128_d1_w32) (k0_pay348 (iota .tc S128x128 32 [1] iota_S128x128_d1_w32) (k0_pay336 (k0_pay321 (iota .tc S128x128 32 [1] iota_S128x128_d1_w32) (k0_pay308 (F := Ideal)) (k0_pay317 (P0.gs 0) (P0.u 0) (P0.du 0))) (k0_pay334 (iota .tc S128x128 32 [1] iota_S128x128_d1_w32)) (Scalar.ofBits (F := Ideal) .f32 0x00000000#32) (k0_pay335 (P0.gs 1) (P0.u 1) (P0.du 1) (k0_pay326 (F := Ideal)))) (P0.u 2) (k0_pay342 (P0.gs 2) (P0.du 2))) (P0.u 3) (k0_pay355 (P0.gs 3) (P0.du 3))) (k0_pay371 (P0.gs 4) (P0.u 4) (P0.du 4))) (k0_pay388 (iota .tc S128x128 32 [1] iota_S128x128_d1_w32)) (Scalar.ofBits (F := Ideal) .f32 0x00000000#32) (k0_pay389 (P0.gs 5) (P0.u 5) (P0.du 5) (k0_pay380 (F := Ideal)))) (P0.u 6) (k0_pay396 (P0.gs 6) (P0.du 6))) (P0.u 7) (k0_pay409 (P0.gs 7) (P0.du 7)) old = P0.dbOf old := rfl

theorem pay0_lng (P0 : Parts) (old : FVec Ideal S1x1024 .f32) :
    k0_pay417 (k0_pay304 P0.v (k0_pay301 P0.v) (Scalar.ofBits (F := Ideal) .f32 0x44800000#32)) (k0_pay322 (k0_pay309 (P0.wt 0)) (k0_pay318 (P0.gs 0) (P0.u 0) (P0.du 0))) (k0_pay337 (k0_pay323 k0_pay307 (P0.wt 1)) (k0_pay332 (P0.gs 1) (P0.u 1) (P0.du 1) (k0_pay326 (F := Ideal)))) (k0_pay349 (k0_pay338 k0_pay307 (P0.wt 2)) (P0.u 2) (k0_pay342 (P0.gs 2) (P0.du 2))) (k0_pay362 (k0_pay351 k0_pay307 (P0.wt 3)) (P0.u 3) (k0_pay355 (P0.gs 3) (P0.du 3))) (k0_pay376 (k0_pay363 k0_pay307 (P0.wt 4)) (k0_pay372 (P0.gs 4) (P0.u 4) (P0.du 4))) (k0_pay391 (k0_pay377 k0_pay307 (P0.wt 5)) (k0_pay386 (P0.gs 5) (P0.u 5) (P0.du 5) (k0_pay380 (F := Ideal)))) (k0_pay403 (k0_pay392 k0_pay307 (P0.wt 6)) (P0.u 6) (k0_pay396 (P0.gs 6) (P0.du 6))) (k0_pay405 k0_pay307 (P0.wt 7)) (P0.u 7) (k0_pay409 (P0.gs 7) (P0.du 7)) old = P0.dlngOf old := rfl

end Cert.Kernel3Ideal.Tiles
end
-- ==== Proof.MixerLoads.lean ====
/-
  The loads of a step of the mixer's backward pass, one by one.
-/
module

public import proofs.«01_k».proof.Proof.MixerStep

@[expose] public section

set_option maxRecDepth 65536
set_option maxHeartbeats 4000000
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Kernel3Ideal Cert.Kernel3Ideal.Gen

variable (m : (ℓ : Loc nD τ sig) → Buf (Elt Ideal) ℓ) (c : Dev nD) (t : Fin cfg0.N)

theorem part0_before : (part0 m c t).before = iblk m c 1 t := by
  simp only [part0, Matrix.cons_val]

theorem part0_own : (part0 m c t).own = View.ld (iblk m c 0 t) (Rect.unit ![0, 1024] ![128, 256] inb_S256x5376_S128x256_0_1024) := by
  simp only [part0, Matrix.cons_val]

theorem part0_q00 : (part0 m c t).q 0 0 = View.ld (iblk m c 0 t) (Rect.unit ![0, 0] ![128, 128] inb_S256x5376_S128x128_0_0) := by
  simp only [part0, Matrix.cons_val]

theorem part0_ga00 : (part0 m c t).ga 0 0 = View.ld (iblk m c 0 t) (Rect.unit ![0, 1280] ![128, 128] inb_S256x5376_S128x128_0_1280) := by
  simp only [part0, Matrix.cons_val]

theorem part0_da00 : (part0 m c t).da 0 0 = View.ld (iblk m c 2 t) (Rect.unit ![0, 0] ![128, 128] inb_S256x2048_S128x128_0_0) := by
  simp only [part0, Matrix.cons_val]

theorem part0_q01 : (part0 m c t).q 0 1 = View.ld (iblk m c 0 t) (Rect.unit ![0, 128] ![128, 128] inb_S256x5376_S128x128_0_128) := by
  simp only [part0, Matrix.cons_val]

theorem part0_ga01 : (part0 m c t).ga 0 1 = View.ld (iblk m c 0 t) (Rect.unit ![0, 1408] ![128, 128] inb_S256x5376_S128x128_0_1408) := by
  simp only [part0, Matrix.cons_val]

theorem part0_da01 : (part0 m c t).da 0 1 = View.ld (iblk m c 2 t) (Rect.unit ![0, 128] ![128, 128] inb_S256x2048_S128x128_0_128) := by
  simp only [part0, Matrix.cons_val]

theorem part0_q02 : (part0 m c t).q 0 2 = View.ld (iblk m c 0 t) (Rect.unit ![0, 256] ![128, 128] inb_S256x5376_S128x128_0_256) := by
  simp only [part0, Matrix.cons_val]

theorem part0_ga02 : (part0 m c t).ga 0 2 = View.ld (iblk m c 0 t) (Rect.unit ![0, 1536] ![128, 128] inb_S256x5376_S128x128_0_1536) := by
  simp only [part0, Matrix.cons_val]

theorem part0_da02 : (part0 m c t).da 0 2 = View.ld (iblk m c 2 t) (Rect.unit ![0, 256] ![128, 128] inb_S256x2048_S128x128_0_256) := by
  simp only [part0, Matrix.cons_val]

theorem part0_q03 : (part0 m c t).q 0 3 = View.ld (iblk m c 0 t) (Rect.unit ![0, 384] ![128, 128] inb_S256x5376_S128x128_0_384) := by
  simp only [part0, Matrix.cons_val]

theorem part0_ga03 : (part0 m c t).ga 0 3 = View.ld (iblk m c 0 t) (Rect.unit ![0, 1664] ![128, 128] inb_S256x5376_S128x128_0_1664) := by
  simp only [part0, Matrix.cons_val]

theorem part0_da03 : (part0 m c t).da 0 3 = View.ld (iblk m c 2 t) (Rect.unit ![0, 384] ![128, 128] inb_S256x2048_S128x128_0_384) := by
  simp only [part0, Matrix.cons_val]

theorem part0_prob0 : (part0 m c t).prob 0 = View.ld (View.read (Elt Ideal) (((ms0_3 t).view.slice (Rect.unit ![0, 0, 0, 0] ![1, 2, 256, 1024] inb_S2x2x256x1024_S1x2x256x1024_0_0_0_0)).reshape S2x256x1024 (Shape.Squeezes.numel_eq squeezes_S1x2x256x1024_S2x256x1024)) ((hs0_3 t).unread (iblk m c 3 t))) (Rect.unit ![0, 0, 0] ![1, 256, 1024] inb_S2x256x1024_S1x256x1024_0_0_0) := by
  simp only [part0, Matrix.cons_val]

theorem part0_sink0 : (part0 m c t).sink 0 = View.ld (View.read (Elt Ideal) (((ms0_4 t).view.slice (Rect.unit ![0, 0, 0, 0] ![1, 2, 1, 1024] inb_S2x2x1x1024_S1x2x1x1024_0_0_0_0)).reshape S2x1x1024 (Shape.Squeezes.numel_eq squeezes_S1x2x1x1024_S2x1x1024)) ((hs0_4 t).unread (iblk m c 4 t))) (Rect.unit ![0, 0, 0] ![1, 1, 1024] inb_S2x1x1024_S1x1x1024_0_0_0) := by
  simp only [part0, Matrix.cons_val]

theorem part0_q10 : (part0 m c t).q 1 0 = View.ld (iblk m c 0 t) (Rect.unit ![0, 512] ![128, 128] inb_S256x5376_S128x128_0_512) := by
  simp only [part0, Matrix.cons_val]

theorem part0_ga10 : (part0 m c t).ga 1 0 = View.ld (iblk m c 0 t) (Rect.unit ![0, 1792] ![128, 128] inb_S256x5376_S128x128_0_1792) := by
  simp only [part0, Matrix.cons_val]

theorem part0_da10 : (part0 m c t).da 1 0 = View.ld (iblk m c 2 t) (Rect.unit ![0, 512] ![128, 128] inb_S256x2048_S128x128_0_512) := by
  simp only [part0, Matrix.cons_val]

theorem part0_q11 : (part0 m c t).q 1 1 = View.ld (iblk m c 0 t) (Rect.unit ![0, 640] ![128, 128] inb_S256x5376_S128x128_0_640) := by
  simp only [part0, Matrix.cons_val]

theorem part0_ga11 : (part0 m c t).ga 1 1 = View.ld (iblk m c 0 t) (Rect.unit ![0, 1920] ![128, 128] inb_S256x5376_S128x128_0_1920) := by
  simp only [part0, Matrix.cons_val]

theorem part0_da11 : (part0 m c t).da 1 1 = View.ld (iblk m c 2 t) (Rect.unit ![0, 640] ![128, 128] inb_S256x2048_S128x128_0_640) := by
  simp only [part0, Matrix.cons_val]

theorem part0_q12 : (part0 m c t).q 1 2 = View.ld (iblk m c 0 t) (Rect.unit ![0, 768] ![128, 128] inb_S256x5376_S128x128_0_768) := by
  simp only [part0, Matrix.cons_val]

theorem part0_ga12 : (part0 m c t).ga 1 2 = View.ld (iblk m c 0 t) (Rect.unit ![0, 2048] ![128, 128] inb_S256x5376_S128x128_0_2048) := by
  simp only [part0, Matrix.cons_val]

theorem part0_da12 : (part0 m c t).da 1 2 = View.ld (iblk m c 2 t) (Rect.unit ![0, 768] ![128, 128] inb_S256x2048_S128x128_0_768) := by
  simp only [part0, Matrix.cons_val]

theorem part0_q13 : (part0 m c t).q 1 3 = View.ld (iblk m c 0 t) (Rect.unit ![0, 896] ![128, 128] inb_S256x5376_S128x128_0_896) := by
  simp only [part0, Matrix.cons_val]

theorem part0_ga13 : (part0 m c t).ga 1 3 = View.ld (iblk m c 0 t) (Rect.unit ![0, 2176] ![128, 128] inb_S256x5376_S128x128_0_2176) := by
  simp only [part0, Matrix.cons_val]

theorem part0_da13 : (part0 m c t).da 1 3 = View.ld (iblk m c 2 t) (Rect.unit ![0, 896] ![128, 128] inb_S256x2048_S128x128_0_896) := by
  simp only [part0, Matrix.cons_val]

theorem part0_prob1 : (part0 m c t).prob 1 = View.ld (View.read (Elt Ideal) (((ms0_3 t).view.slice (Rect.unit ![0, 0, 0, 0] ![1, 2, 256, 1024] inb_S2x2x256x1024_S1x2x256x1024_0_0_0_0)).reshape S2x256x1024 (Shape.Squeezes.numel_eq squeezes_S1x2x256x1024_S2x256x1024)) ((hs0_3 t).unread (iblk m c 3 t))) (Rect.unit ![1, 0, 0] ![1, 256, 1024] inb_S2x256x1024_S1x256x1024_1_0_0) := by
  simp only [part0, Matrix.cons_val]

theorem part0_sink1 : (part0 m c t).sink 1 = View.ld (View.read (Elt Ideal) (((ms0_4 t).view.slice (Rect.unit ![0, 0, 0, 0] ![1, 2, 1, 1024] inb_S2x2x1x1024_S1x2x1x1024_0_0_0_0)).reshape S2x1x1024 (Shape.Squeezes.numel_eq squeezes_S1x2x1x1024_S2x1x1024)) ((hs0_4 t).unread (iblk m c 4 t))) (Rect.unit ![1, 0, 0] ![1, 1, 1024] inb_S2x1x1024_S1x1x1024_1_0_0) := by
  simp only [part0, Matrix.cons_val]

theorem part0_v : (part0 m c t).v = View.ld (iblk m c 0 t) (Rect.unit ![0, 3328] ![128, 1024] inb_S256x5376_S128x1024_0_3328) := by
  simp only [part0, Matrix.cons_val]

theorem part0_lng : (part0 m c t).lng = iblk m c 5 t := by
  simp only [part0, Matrix.cons_val]

theorem part0_lnb : (part0 m c t).lnb = iblk m c 6 t := by
  simp only [part0, Matrix.cons_val]

theorem part0_w0 : (part0 m c t).w 0 = View.ld (iblk m c 7 t) (Rect.unit ![0, 0, 0] ![1, 128, 128] inb_S8x128x128_S1x128x128_0_0_0) := by
  simp only [part0, Matrix.cons_val]

theorem part0_wt0 : (part0 m c t).wt 0 = View.ld (iblk m c 8 t) (Rect.unit ![0, 0, 0] ![1, 128, 128] inb_S8x128x128_S1x128x128_0_0_0) := by
  simp only [part0, Matrix.cons_val]

theorem part0_bt0 : (part0 m c t).bt 0 = View.ld (iblk m c 9 t) (Rect.unit ![0, 0] ![128, 1] inb_S128x8_S128x1_0_0) := by
  simp only [part0, Matrix.cons_val]

theorem part0_u0 : (part0 m c t).u 0 = View.ld (iblk m c 0 t) (Rect.unit ![0, 2304] ![128, 128] inb_S256x5376_S128x128_0_2304) := by
  simp only [part0, Matrix.cons_val]

theorem part0_gs0 : (part0 m c t).gs 0 = View.ld (iblk m c 0 t) (Rect.unit ![0, 4352] ![128, 128] inb_S256x5376_S128x128_0_4352) := by
  simp only [part0, Matrix.cons_val]

theorem part0_du0 : (part0 m c t).du 0 = View.ld (iblk m c 2 t) (Rect.unit ![0, 1024] ![128, 128] inb_S256x2048_S128x128_0_1024) := by
  simp only [part0, Matrix.cons_val]

theorem part0_w1 : (part0 m c t).w 1 = View.ld (iblk m c 7 t) (Rect.unit ![1, 0, 0] ![1, 128, 128] inb_S8x128x128_S1x128x128_1_0_0) := by
  simp only [part0, Matrix.cons_val]

theorem part0_wt1 : (part0 m c t).wt 1 = View.ld (iblk m c 8 t) (Rect.unit ![1, 0, 0] ![1, 128, 128] inb_S8x128x128_S1x128x128_1_0_0) := by
  simp only [part0, Matrix.cons_val]

theorem part0_bt1 : (part0 m c t).bt 1 = View.ld (iblk m c 9 t) (Rect.unit ![0, 1] ![128, 1] inb_S128x8_S128x1_0_1) := by
  simp only [part0, Matrix.cons_val]

theorem part0_u1 : (part0 m c t).u 1 = View.ld (iblk m c 0 t) (Rect.unit ![0, 2432] ![128, 128] inb_S256x5376_S128x128_0_2432) := by
  simp only [part0, Matrix.cons_val]

theorem part0_gs1 : (part0 m c t).gs 1 = View.ld (iblk m c 0 t) (Rect.unit ![0, 4480] ![128, 128] inb_S256x5376_S128x128_0_4480) := by
  simp only [part0, Matrix.cons_val]

theorem part0_du1 : (part0 m c t).du 1 = View.ld (iblk m c 2 t) (Rect.unit ![0, 1152] ![128, 128] inb_S256x2048_S128x128_0_1152) := by
  simp only [part0, Matrix.cons_val]

theorem part0_w2 : (part0 m c t).w 2 = View.ld (iblk m c 7 t) (Rect.unit ![2, 0, 0] ![1, 128, 128] inb_S8x128x128_S1x128x128_2_0_0) := by
  simp only [part0, Matrix.cons_val]

theorem part0_wt2 : (part0 m c t).wt 2 = View.ld (iblk m c 8 t) (Rect.unit ![2, 0, 0] ![1, 128, 128] inb_S8x128x128_S1x128x128_2_0_0) := by
  simp only [part0, Matrix.cons_val]

theorem part0_bt2 : (part0 m c t).bt 2 = View.ld (iblk m c 9 t) (Rect.unit ![0, 2] ![128, 1] inb_S128x8_S128x1_0_2) := by
  simp only [part0, Matrix.cons_val]

theorem part0_u2 : (part0 m c t).u 2 = View.ld (iblk m c 0 t) (Rect.unit ![0, 2560] ![128, 128] inb_S256x5376_S128x128_0_2560) := by
  simp only [part0, Matrix.cons_val]

theorem part0_gs2 : (part0 m c t).gs 2 = View.ld (iblk m c 0 t) (Rect.unit ![0, 4608] ![128, 128] inb_S256x5376_S128x128_0_4608) := by
  simp only [part0, Matrix.cons_val]

theorem part0_du2 : (part0 m c t).du 2 = View.ld (iblk m c 2 t) (Rect.unit ![0, 1280] ![128, 128] inb_S256x2048_S128x128_0_1280) := by
  simp only [part0, Matrix.cons_val]

theorem part0_w3 : (part0 m c t).w 3 = View.ld (iblk m c 7 t) (Rect.unit ![3, 0, 0] ![1, 128, 128] inb_S8x128x128_S1x128x128_3_0_0) := by
  simp only [part0, Matrix.cons_val]

theorem part0_wt3 : (part0 m c t).wt 3 = View.ld (iblk m c 8 t) (Rect.unit ![3, 0, 0] ![1, 128, 128] inb_S8x128x128_S1x128x128_3_0_0) := by
  simp only [part0, Matrix.cons_val]

theorem part0_bt3 : (part0 m c t).bt 3 = View.ld (iblk m c 9 t) (Rect.unit ![0, 3] ![128, 1] inb_S128x8_S128x1_0_3) := by
  simp only [part0, Matrix.cons_val]

theorem part0_u3 : (part0 m c t).u 3 = View.ld (iblk m c 0 t) (Rect.unit ![0, 2688] ![128, 128] inb_S256x5376_S128x128_0_2688) := by
  simp only [part0, Matrix.cons_val]

theorem part0_gs3 : (part0 m c t).gs 3 = View.ld (iblk m c 0 t) (Rect.unit ![0, 4736] ![128, 128] inb_S256x5376_S128x128_0_4736) := by
  simp only [part0, Matrix.cons_val]

theorem part0_du3 : (part0 m c t).du 3 = View.ld (iblk m c 2 t) (Rect.unit ![0, 1408] ![128, 128] inb_S256x2048_S128x128_0_1408) := by
  simp only [part0, Matrix.cons_val]

theorem part0_w4 : (part0 m c t).w 4 = View.ld (iblk m c 7 t) (Rect.unit ![4, 0, 0] ![1, 128, 128] inb_S8x128x128_S1x128x128_4_0_0) := by
  simp only [part0, Matrix.cons_val]

theorem part0_wt4 : (part0 m c t).wt 4 = View.ld (iblk m c 8 t) (Rect.unit ![4, 0, 0] ![1, 128, 128] inb_S8x128x128_S1x128x128_4_0_0) := by
  simp only [part0, Matrix.cons_val]

theorem part0_bt4 : (part0 m c t).bt 4 = View.ld (iblk m c 9 t) (Rect.unit ![0, 4] ![128, 1] inb_S128x8_S128x1_0_4) := by
  simp only [part0, Matrix.cons_val]

theorem part0_u4 : (part0 m c t).u 4 = View.ld (iblk m c 0 t) (Rect.unit ![0, 2816] ![128, 128] inb_S256x5376_S128x128_0_2816) := by
  simp only [part0, Matrix.cons_val]

theorem part0_gs4 : (part0 m c t).gs 4 = View.ld (iblk m c 0 t) (Rect.unit ![0, 4864] ![128, 128] inb_S256x5376_S128x128_0_4864) := by
  simp only [part0, Matrix.cons_val]

theorem part0_du4 : (part0 m c t).du 4 = View.ld (iblk m c 2 t) (Rect.unit ![0, 1536] ![128, 128] inb_S256x2048_S128x128_0_1536) := by
  simp only [part0, Matrix.cons_val]

theorem part0_w5 : (part0 m c t).w 5 = View.ld (iblk m c 7 t) (Rect.unit ![5, 0, 0] ![1, 128, 128] inb_S8x128x128_S1x128x128_5_0_0) := by
  simp only [part0, Matrix.cons_val]

theorem part0_wt5 : (part0 m c t).wt 5 = View.ld (iblk m c 8 t) (Rect.unit ![5, 0, 0] ![1, 128, 128] inb_S8x128x128_S1x128x128_5_0_0) := by
  simp only [part0, Matrix.cons_val]

theorem part0_bt5 : (part0 m c t).bt 5 = View.ld (iblk m c 9 t) (Rect.unit ![0, 5] ![128, 1] inb_S128x8_S128x1_0_5) := by
  simp only [part0, Matrix.cons_val]

theorem part0_u5 : (part0 m c t).u 5 = View.ld (iblk m c 0 t) (Rect.unit ![0, 2944] ![128, 128] inb_S256x5376_S128x128_0_2944) := by
  simp only [part0, Matrix.cons_val]

theorem part0_gs5 : (part0 m c t).gs 5 = View.ld (iblk m c 0 t) (Rect.unit ![0, 4992] ![128, 128] inb_S256x5376_S128x128_0_4992) := by
  simp only [part0, Matrix.cons_val]

theorem part0_du5 : (part0 m c t).du 5 = View.ld (iblk m c 2 t) (Rect.unit ![0, 1664] ![128, 128] inb_S256x2048_S128x128_0_1664) := by
  simp only [part0, Matrix.cons_val]

theorem part0_w6 : (part0 m c t).w 6 = View.ld (iblk m c 7 t) (Rect.unit ![6, 0, 0] ![1, 128, 128] inb_S8x128x128_S1x128x128_6_0_0) := by
  simp only [part0, Matrix.cons_val]

theorem part0_wt6 : (part0 m c t).wt 6 = View.ld (iblk m c 8 t) (Rect.unit ![6, 0, 0] ![1, 128, 128] inb_S8x128x128_S1x128x128_6_0_0) := by
  simp only [part0, Matrix.cons_val]

theorem part0_bt6 : (part0 m c t).bt 6 = View.ld (iblk m c 9 t) (Rect.unit ![0, 6] ![128, 1] inb_S128x8_S128x1_0_6) := by
  simp only [part0, Matrix.cons_val]

theorem part0_u6 : (part0 m c t).u 6 = View.ld (iblk m c 0 t) (Rect.unit ![0, 3072] ![128, 128] inb_S256x5376_S128x128_0_3072) := by
  simp only [part0, Matrix.cons_val]

theorem part0_gs6 : (part0 m c t).gs 6 = View.ld (iblk m c 0 t) (Rect.unit ![0, 5120] ![128, 128] inb_S256x5376_S128x128_0_5120) := by
  simp only [part0, Matrix.cons_val]

theorem part0_du6 : (part0 m c t).du 6 = View.ld (iblk m c 2 t) (Rect.unit ![0, 1792] ![128, 128] inb_S256x2048_S128x128_0_1792) := by
  simp only [part0, Matrix.cons_val]

theorem part0_w7 : (part0 m c t).w 7 = View.ld (iblk m c 7 t) (Rect.unit ![7, 0, 0] ![1, 128, 128] inb_S8x128x128_S1x128x128_7_0_0) := by
  simp only [part0, Matrix.cons_val]

theorem part0_wt7 : (part0 m c t).wt 7 = View.ld (iblk m c 8 t) (Rect.unit ![7, 0, 0] ![1, 128, 128] inb_S8x128x128_S1x128x128_7_0_0) := by
  simp only [part0, Matrix.cons_val]

theorem part0_bt7 : (part0 m c t).bt 7 = View.ld (iblk m c 9 t) (Rect.unit ![0, 7] ![128, 1] inb_S128x8_S128x1_0_7) := by
  simp only [part0, Matrix.cons_val]

theorem part0_u7 : (part0 m c t).u 7 = View.ld (iblk m c 0 t) (Rect.unit ![0, 3200] ![128, 128] inb_S256x5376_S128x128_0_3200) := by
  simp only [part0, Matrix.cons_val]

theorem part0_gs7 : (part0 m c t).gs 7 = View.ld (iblk m c 0 t) (Rect.unit ![0, 5248] ![128, 128] inb_S256x5376_S128x128_0_5248) := by
  simp only [part0, Matrix.cons_val]

theorem part0_du7 : (part0 m c t).du 7 = View.ld (iblk m c 2 t) (Rect.unit ![0, 1920] ![128, 128] inb_S256x2048_S128x128_0_1920) := by
  simp only [part0, Matrix.cons_val]

theorem part1_before : (part1 m c t).before = View.ld (iblk m c 0 t) (Rect.unit ![0, 1024] ![128, 256] inb_S256x5376_S128x256_0_1024) := by
  simp only [part1, Matrix.cons_val]

theorem part1_own : (part1 m c t).own = View.ld (iblk m c 0 t) (Rect.unit ![128, 1024] ![128, 256] inb_S256x5376_S128x256_128_1024) := by
  simp only [part1, Matrix.cons_val]

theorem part1_q00 : (part1 m c t).q 0 0 = View.ld (iblk m c 0 t) (Rect.unit ![128, 0] ![128, 128] inb_S256x5376_S128x128_128_0) := by
  simp only [part1, Matrix.cons_val]

theorem part1_ga00 : (part1 m c t).ga 0 0 = View.ld (iblk m c 0 t) (Rect.unit ![128, 1280] ![128, 128] inb_S256x5376_S128x128_128_1280) := by
  simp only [part1, Matrix.cons_val]

theorem part1_da00 : (part1 m c t).da 0 0 = View.ld (iblk m c 2 t) (Rect.unit ![128, 0] ![128, 128] inb_S256x2048_S128x128_128_0) := by
  simp only [part1, Matrix.cons_val]

theorem part1_q01 : (part1 m c t).q 0 1 = View.ld (iblk m c 0 t) (Rect.unit ![128, 128] ![128, 128] inb_S256x5376_S128x128_128_128) := by
  simp only [part1, Matrix.cons_val]

theorem part1_ga01 : (part1 m c t).ga 0 1 = View.ld (iblk m c 0 t) (Rect.unit ![128, 1408] ![128, 128] inb_S256x5376_S128x128_128_1408) := by
  simp only [part1, Matrix.cons_val]

theorem part1_da01 : (part1 m c t).da 0 1 = View.ld (iblk m c 2 t) (Rect.unit ![128, 128] ![128, 128] inb_S256x2048_S128x128_128_128) := by
  simp only [part1, Matrix.cons_val]

theorem part1_q02 : (part1 m c t).q 0 2 = View.ld (iblk m c 0 t) (Rect.unit ![128, 256] ![128, 128] inb_S256x5376_S128x128_128_256) := by
  simp only [part1, Matrix.cons_val]

theorem part1_ga02 : (part1 m c t).ga 0 2 = View.ld (iblk m c 0 t) (Rect.unit ![128, 1536] ![128, 128] inb_S256x5376_S128x128_128_1536) := by
  simp only [part1, Matrix.cons_val]

theorem part1_da02 : (part1 m c t).da 0 2 = View.ld (iblk m c 2 t) (Rect.unit ![128, 256] ![128, 128] inb_S256x2048_S128x128_128_256) := by
  simp only [part1, Matrix.cons_val]

theorem part1_q03 : (part1 m c t).q 0 3 = View.ld (iblk m c 0 t) (Rect.unit ![128, 384] ![128, 128] inb_S256x5376_S128x128_128_384) := by
  simp only [part1, Matrix.cons_val]

theorem part1_ga03 : (part1 m c t).ga 0 3 = View.ld (iblk m c 0 t) (Rect.unit ![128, 1664] ![128, 128] inb_S256x5376_S128x128_128_1664) := by
  simp only [part1, Matrix.cons_val]

theorem part1_da03 : (part1 m c t).da 0 3 = View.ld (iblk m c 2 t) (Rect.unit ![128, 384] ![128, 128] inb_S256x2048_S128x128_128_384) := by
  simp only [part1, Matrix.cons_val]

theorem part1_prob0 : (part1 m c t).prob 0 = View.ld (View.read (Elt Ideal) (((ms0_3 t).view.slice (Rect.unit ![1, 0, 0, 0] ![1, 2, 256, 1024] inb_S2x2x256x1024_S1x2x256x1024_1_0_0_0)).reshape S2x256x1024 (Shape.Squeezes.numel_eq squeezes_S1x2x256x1024_S2x256x1024)) ((hs0_3 t).unread (iblk m c 3 t))) (Rect.unit ![0, 0, 0] ![1, 256, 1024] inb_S2x256x1024_S1x256x1024_0_0_0) := by
  simp only [part1, Matrix.cons_val]

theorem part1_sink0 : (part1 m c t).sink 0 = View.ld (View.read (Elt Ideal) (((ms0_4 t).view.slice (Rect.unit ![1, 0, 0, 0] ![1, 2, 1, 1024] inb_S2x2x1x1024_S1x2x1x1024_1_0_0_0)).reshape S2x1x1024 (Shape.Squeezes.numel_eq squeezes_S1x2x1x1024_S2x1x1024)) ((hs0_4 t).unread (iblk m c 4 t))) (Rect.unit ![0, 0, 0] ![1, 1, 1024] inb_S2x1x1024_S1x1x1024_0_0_0) := by
  simp only [part1, Matrix.cons_val]

theorem part1_q10 : (part1 m c t).q 1 0 = View.ld (iblk m c 0 t) (Rect.unit ![128, 512] ![128, 128] inb_S256x5376_S128x128_128_512) := by
  simp only [part1, Matrix.cons_val]

theorem part1_ga10 : (part1 m c t).ga 1 0 = View.ld (iblk m c 0 t) (Rect.unit ![128, 1792] ![128, 128] inb_S256x5376_S128x128_128_1792) := by
  simp only [part1, Matrix.cons_val]

theorem part1_da10 : (part1 m c t).da 1 0 = View.ld (iblk m c 2 t) (Rect.unit ![128, 512] ![128, 128] inb_S256x2048_S128x128_128_512) := by
  simp only [part1, Matrix.cons_val]

theorem part1_q11 : (part1 m c t).q 1 1 = View.ld (iblk m c 0 t) (Rect.unit ![128, 640] ![128, 128] inb_S256x5376_S128x128_128_640) := by
  simp only [part1, Matrix.cons_val]

theorem part1_ga11 : (part1 m c t).ga 1 1 = View.ld (iblk m c 0 t) (Rect.unit ![128, 1920] ![128, 128] inb_S256x5376_S128x128_128_1920) := by
  simp only [part1, Matrix.cons_val]

theorem part1_da11 : (part1 m c t).da 1 1 = View.ld (iblk m c 2 t) (Rect.unit ![128, 640] ![128, 128] inb_S256x2048_S128x128_128_640) := by
  simp only [part1, Matrix.cons_val]

theorem part1_q12 : (part1 m c t).q 1 2 = View.ld (iblk m c 0 t) (Rect.unit ![128, 768] ![128, 128] inb_S256x5376_S128x128_128_768) := by
  simp only [part1, Matrix.cons_val]

theorem part1_ga12 : (part1 m c t).ga 1 2 = View.ld (iblk m c 0 t) (Rect.unit ![128, 2048] ![128, 128] inb_S256x5376_S128x128_128_2048) := by
  simp only [part1, Matrix.cons_val]

theorem part1_da12 : (part1 m c t).da 1 2 = View.ld (iblk m c 2 t) (Rect.unit ![128, 768] ![128, 128] inb_S256x2048_S128x128_128_768) := by
  simp only [part1, Matrix.cons_val]

theorem part1_q13 : (part1 m c t).q 1 3 = View.ld (iblk m c 0 t) (Rect.unit ![128, 896] ![128, 128] inb_S256x5376_S128x128_128_896) := by
  simp only [part1, Matrix.cons_val]

theorem part1_ga13 : (part1 m c t).ga 1 3 = View.ld (iblk m c 0 t) (Rect.unit ![128, 2176] ![128, 128] inb_S256x5376_S128x128_128_2176) := by
  simp only [part1, Matrix.cons_val]

theorem part1_da13 : (part1 m c t).da 1 3 = View.ld (iblk m c 2 t) (Rect.unit ![128, 896] ![128, 128] inb_S256x2048_S128x128_128_896) := by
  simp only [part1, Matrix.cons_val]

theorem part1_prob1 : (part1 m c t).prob 1 = View.ld (View.read (Elt Ideal) (((ms0_3 t).view.slice (Rect.unit ![1, 0, 0, 0] ![1, 2, 256, 1024] inb_S2x2x256x1024_S1x2x256x1024_1_0_0_0)).reshape S2x256x1024 (Shape.Squeezes.numel_eq squeezes_S1x2x256x1024_S2x256x1024)) ((hs0_3 t).unread (iblk m c 3 t))) (Rect.unit ![1, 0, 0] ![1, 256, 1024] inb_S2x256x1024_S1x256x1024_1_0_0) := by
  simp only [part1, Matrix.cons_val]

theorem part1_sink1 : (part1 m c t).sink 1 = View.ld (View.read (Elt Ideal) (((ms0_4 t).view.slice (Rect.unit ![1, 0, 0, 0] ![1, 2, 1, 1024] inb_S2x2x1x1024_S1x2x1x1024_1_0_0_0)).reshape S2x1x1024 (Shape.Squeezes.numel_eq squeezes_S1x2x1x1024_S2x1x1024)) ((hs0_4 t).unread (iblk m c 4 t))) (Rect.unit ![1, 0, 0] ![1, 1, 1024] inb_S2x1x1024_S1x1x1024_1_0_0) := by
  simp only [part1, Matrix.cons_val]

theorem part1_v : (part1 m c t).v = View.ld (iblk m c 0 t) (Rect.unit ![128, 3328] ![128, 1024] inb_S256x5376_S128x1024_128_3328) := by
  simp only [part1, Matrix.cons_val]

theorem part1_lng : (part1 m c t).lng = iblk m c 5 t := by
  simp only [part1, Matrix.cons_val]

theorem part1_lnb : (part1 m c t).lnb = iblk m c 6 t := by
  simp only [part1, Matrix.cons_val]

theorem part1_w0 : (part1 m c t).w 0 = View.ld (iblk m c 7 t) (Rect.unit ![0, 0, 0] ![1, 128, 128] inb_S8x128x128_S1x128x128_0_0_0) := by
  simp only [part1, Matrix.cons_val]

theorem part1_wt0 : (part1 m c t).wt 0 = View.ld (iblk m c 8 t) (Rect.unit ![0, 0, 0] ![1, 128, 128] inb_S8x128x128_S1x128x128_0_0_0) := by
  simp only [part1, Matrix.cons_val]

theorem part1_bt0 : (part1 m c t).bt 0 = View.ld (iblk m c 9 t) (Rect.unit ![0, 0] ![128, 1] inb_S128x8_S128x1_0_0) := by
  simp only [part1, Matrix.cons_val]

theorem part1_u0 : (part1 m c t).u 0 = View.ld (iblk m c 0 t) (Rect.unit ![128, 2304] ![128, 128] inb_S256x5376_S128x128_128_2304) := by
  simp only [part1, Matrix.cons_val]

theorem part1_gs0 : (part1 m c t).gs 0 = View.ld (iblk m c 0 t) (Rect.unit ![128, 4352] ![128, 128] inb_S256x5376_S128x128_128_4352) := by
  simp only [part1, Matrix.cons_val]

theorem part1_du0 : (part1 m c t).du 0 = View.ld (iblk m c 2 t) (Rect.unit ![128, 1024] ![128, 128] inb_S256x2048_S128x128_128_1024) := by
  simp only [part1, Matrix.cons_val]

theorem part1_w1 : (part1 m c t).w 1 = View.ld (iblk m c 7 t) (Rect.unit ![1, 0, 0] ![1, 128, 128] inb_S8x128x128_S1x128x128_1_0_0) := by
  simp only [part1, Matrix.cons_val]

theorem part1_wt1 : (part1 m c t).wt 1 = View.ld (iblk m c 8 t) (Rect.unit ![1, 0, 0] ![1, 128, 128] inb_S8x128x128_S1x128x128_1_0_0) := by
  simp only [part1, Matrix.cons_val]

theorem part1_bt1 : (part1 m c t).bt 1 = View.ld (iblk m c 9 t) (Rect.unit ![0, 1] ![128, 1] inb_S128x8_S128x1_0_1) := by
  simp only [part1, Matrix.cons_val]

theorem part1_u1 : (part1 m c t).u 1 = View.ld (iblk m c 0 t) (Rect.unit ![128, 2432] ![128, 128] inb_S256x5376_S128x128_128_2432) := by
  simp only [part1, Matrix.cons_val]

theorem part1_gs1 : (part1 m c t).gs 1 = View.ld (iblk m c 0 t) (Rect.unit ![128, 4480] ![128, 128] inb_S256x5376_S128x128_128_4480) := by
  simp only [part1, Matrix.cons_val]

theorem part1_du1 : (part1 m c t).du 1 = View.ld (iblk m c 2 t) (Rect.unit ![128, 1152] ![128, 128] inb_S256x2048_S128x128_128_1152) := by
  simp only [part1, Matrix.cons_val]

theorem part1_w2 : (part1 m c t).w 2 = View.ld (iblk m c 7 t) (Rect.unit ![2, 0, 0] ![1, 128, 128] inb_S8x128x128_S1x128x128_2_0_0) := by
  simp only [part1, Matrix.cons_val]

theorem part1_wt2 : (part1 m c t).wt 2 = View.ld (iblk m c 8 t) (Rect.unit ![2, 0, 0] ![1, 128, 128] inb_S8x128x128_S1x128x128_2_0_0) := by
  simp only [part1, Matrix.cons_val]

theorem part1_bt2 : (part1 m c t).bt 2 = View.ld (iblk m c 9 t) (Rect.unit ![0, 2] ![128, 1] inb_S128x8_S128x1_0_2) := by
  simp only [part1, Matrix.cons_val]

theorem part1_u2 : (part1 m c t).u 2 = View.ld (iblk m c 0 t) (Rect.unit ![128, 2560] ![128, 128] inb_S256x5376_S128x128_128_2560) := by
  simp only [part1, Matrix.cons_val]

theorem part1_gs2 : (part1 m c t).gs 2 = View.ld (iblk m c 0 t) (Rect.unit ![128, 4608] ![128, 128] inb_S256x5376_S128x128_128_4608) := by
  simp only [part1, Matrix.cons_val]

theorem part1_du2 : (part1 m c t).du 2 = View.ld (iblk m c 2 t) (Rect.unit ![128, 1280] ![128, 128] inb_S256x2048_S128x128_128_1280) := by
  simp only [part1, Matrix.cons_val]

theorem part1_w3 : (part1 m c t).w 3 = View.ld (iblk m c 7 t) (Rect.unit ![3, 0, 0] ![1, 128, 128] inb_S8x128x128_S1x128x128_3_0_0) := by
  simp only [part1, Matrix.cons_val]

theorem part1_wt3 : (part1 m c t).wt 3 = View.ld (iblk m c 8 t) (Rect.unit ![3, 0, 0] ![1, 128, 128] inb_S8x128x128_S1x128x128_3_0_0) := by
  simp only [part1, Matrix.cons_val]

theorem part1_bt3 : (part1 m c t).bt 3 = View.ld (iblk m c 9 t) (Rect.unit ![0, 3] ![128, 1] inb_S128x8_S128x1_0_3) := by
  simp only [part1, Matrix.cons_val]

theorem part1_u3 : (part1 m c t).u 3 = View.ld (iblk m c 0 t) (Rect.unit ![128, 2688] ![128, 128] inb_S256x5376_S128x128_128_2688) := by
  simp only [part1, Matrix.cons_val]

theorem part1_gs3 : (part1 m c t).gs 3 = View.ld (iblk m c 0 t) (Rect.unit ![128, 4736] ![128, 128] inb_S256x5376_S128x128_128_4736) := by
  simp only [part1, Matrix.cons_val]

theorem part1_du3 : (part1 m c t).du 3 = View.ld (iblk m c 2 t) (Rect.unit ![128, 1408] ![128, 128] inb_S256x2048_S128x128_128_1408) := by
  simp only [part1, Matrix.cons_val]

theorem part1_w4 : (part1 m c t).w 4 = View.ld (iblk m c 7 t) (Rect.unit ![4, 0, 0] ![1, 128, 128] inb_S8x128x128_S1x128x128_4_0_0) := by
  simp only [part1, Matrix.cons_val]

theorem part1_wt4 : (part1 m c t).wt 4 = View.ld (iblk m c 8 t) (Rect.unit ![4, 0, 0] ![1, 128, 128] inb_S8x128x128_S1x128x128_4_0_0) := by
  simp only [part1, Matrix.cons_val]

theorem part1_bt4 : (part1 m c t).bt 4 = View.ld (iblk m c 9 t) (Rect.unit ![0, 4] ![128, 1] inb_S128x8_S128x1_0_4) := by
  simp only [part1, Matrix.cons_val]

theorem part1_u4 : (part1 m c t).u 4 = View.ld (iblk m c 0 t) (Rect.unit ![128, 2816] ![128, 128] inb_S256x5376_S128x128_128_2816) := by
  simp only [part1, Matrix.cons_val]

theorem part1_gs4 : (part1 m c t).gs 4 = View.ld (iblk m c 0 t) (Rect.unit ![128, 4864] ![128, 128] inb_S256x5376_S128x128_128_4864) := by
  simp only [part1, Matrix.cons_val]

theorem part1_du4 : (part1 m c t).du 4 = View.ld (iblk m c 2 t) (Rect.unit ![128, 1536] ![128, 128] inb_S256x2048_S128x128_128_1536) := by
  simp only [part1, Matrix.cons_val]

theorem part1_w5 : (part1 m c t).w 5 = View.ld (iblk m c 7 t) (Rect.unit ![5, 0, 0] ![1, 128, 128] inb_S8x128x128_S1x128x128_5_0_0) := by
  simp only [part1, Matrix.cons_val]

theorem part1_wt5 : (part1 m c t).wt 5 = View.ld (iblk m c 8 t) (Rect.unit ![5, 0, 0] ![1, 128, 128] inb_S8x128x128_S1x128x128_5_0_0) := by
  simp only [part1, Matrix.cons_val]

theorem part1_bt5 : (part1 m c t).bt 5 = View.ld (iblk m c 9 t) (Rect.unit ![0, 5] ![128, 1] inb_S128x8_S128x1_0_5) := by
  simp only [part1, Matrix.cons_val]

theorem part1_u5 : (part1 m c t).u 5 = View.ld (iblk m c 0 t) (Rect.unit ![128, 2944] ![128, 128] inb_S256x5376_S128x128_128_2944) := by
  simp only [part1, Matrix.cons_val]

theorem part1_gs5 : (part1 m c t).gs 5 = View.ld (iblk m c 0 t) (Rect.unit ![128, 4992] ![128, 128] inb_S256x5376_S128x128_128_4992) := by
  simp only [part1, Matrix.cons_val]

theorem part1_du5 : (part1 m c t).du 5 = View.ld (iblk m c 2 t) (Rect.unit ![128, 1664] ![128, 128] inb_S256x2048_S128x128_128_1664) := by
  simp only [part1, Matrix.cons_val]

theorem part1_w6 : (part1 m c t).w 6 = View.ld (iblk m c 7 t) (Rect.unit ![6, 0, 0] ![1, 128, 128] inb_S8x128x128_S1x128x128_6_0_0) := by
  simp only [part1, Matrix.cons_val]

theorem part1_wt6 : (part1 m c t).wt 6 = View.ld (iblk m c 8 t) (Rect.unit ![6, 0, 0] ![1, 128, 128] inb_S8x128x128_S1x128x128_6_0_0) := by
  simp only [part1, Matrix.cons_val]

theorem part1_bt6 : (part1 m c t).bt 6 = View.ld (iblk m c 9 t) (Rect.unit ![0, 6] ![128, 1] inb_S128x8_S128x1_0_6) := by
  simp only [part1, Matrix.cons_val]

theorem part1_u6 : (part1 m c t).u 6 = View.ld (iblk m c 0 t) (Rect.unit ![128, 3072] ![128, 128] inb_S256x5376_S128x128_128_3072) := by
  simp only [part1, Matrix.cons_val]

theorem part1_gs6 : (part1 m c t).gs 6 = View.ld (iblk m c 0 t) (Rect.unit ![128, 5120] ![128, 128] inb_S256x5376_S128x128_128_5120) := by
  simp only [part1, Matrix.cons_val]

theorem part1_du6 : (part1 m c t).du 6 = View.ld (iblk m c 2 t) (Rect.unit ![128, 1792] ![128, 128] inb_S256x2048_S128x128_128_1792) := by
  simp only [part1, Matrix.cons_val]

theorem part1_w7 : (part1 m c t).w 7 = View.ld (iblk m c 7 t) (Rect.unit ![7, 0, 0] ![1, 128, 128] inb_S8x128x128_S1x128x128_7_0_0) := by
  simp only [part1, Matrix.cons_val]

theorem part1_wt7 : (part1 m c t).wt 7 = View.ld (iblk m c 8 t) (Rect.unit ![7, 0, 0] ![1, 128, 128] inb_S8x128x128_S1x128x128_7_0_0) := by
  simp only [part1, Matrix.cons_val]

theorem part1_bt7 : (part1 m c t).bt 7 = View.ld (iblk m c 9 t) (Rect.unit ![0, 7] ![128, 1] inb_S128x8_S128x1_0_7) := by
  simp only [part1, Matrix.cons_val]

theorem part1_u7 : (part1 m c t).u 7 = View.ld (iblk m c 0 t) (Rect.unit ![128, 3200] ![128, 128] inb_S256x5376_S128x128_128_3200) := by
  simp only [part1, Matrix.cons_val]

theorem part1_gs7 : (part1 m c t).gs 7 = View.ld (iblk m c 0 t) (Rect.unit ![128, 5248] ![128, 128] inb_S256x5376_S128x128_128_5248) := by
  simp only [part1, Matrix.cons_val]

theorem part1_du7 : (part1 m c t).du 7 = View.ld (iblk m c 2 t) (Rect.unit ![128, 1920] ![128, 128] inb_S256x2048_S128x128_128_1920) := by
  simp only [part1, Matrix.cons_val]

/-- All the loads of a step at once. -/
def leaves :=
  (And.intro (And.intro (And.intro (And.intro (And.intro (And.intro (And.intro (part0_before m c t) (part0_own m c t)) (And.intro (part0_q00 m c t)
  (And.intro (part0_ga00 m c t) (part0_da00 m c t)))) (And.intro (And.intro (part0_q01 m c t) (part0_ga01 m c t)) (And.intro (part0_da01 m c t)
  (And.intro (part0_q02 m c t) (part0_ga02 m c t))))) (And.intro (And.intro (And.intro (part0_da02 m c t) (part0_q03 m c t)) (And.intro (part0_ga03 m
  c t) (And.intro (part0_da03 m c t) (part0_prob0 m c t)))) (And.intro (And.intro (part0_sink0 m c t) (part0_q10 m c t)) (And.intro (part0_ga10 m c t)
  (And.intro (part0_da10 m c t) (part0_q11 m c t)))))) (And.intro (And.intro (And.intro (And.intro (part0_ga11 m c t) (part0_da11 m c t)) (And.intro
  (part0_q12 m c t) (And.intro (part0_ga12 m c t) (part0_da12 m c t)))) (And.intro (And.intro (part0_q13 m c t) (part0_ga13 m c t)) (And.intro
  (part0_da13 m c t) (And.intro (part0_prob1 m c t) (part0_sink1 m c t))))) (And.intro (And.intro (And.intro (part0_v m c t) (part0_lng m c t))
  (And.intro (part0_lnb m c t) (And.intro (part0_w0 m c t) (part0_wt0 m c t)))) (And.intro (And.intro (part0_bt0 m c t) (part0_u0 m c t)) (And.intro
  (part0_gs0 m c t) (And.intro (part0_du0 m c t) (part0_w1 m c t))))))) (And.intro (And.intro (And.intro (And.intro (And.intro (part0_wt1 m c t)
  (part0_bt1 m c t)) (And.intro (part0_u1 m c t) (And.intro (part0_gs1 m c t) (part0_du1 m c t)))) (And.intro (And.intro (part0_w2 m c t) (part0_wt2 m
  c t)) (And.intro (part0_bt2 m c t) (And.intro (part0_u2 m c t) (part0_gs2 m c t))))) (And.intro (And.intro (And.intro (part0_du2 m c t) (part0_w3 m
  c t)) (And.intro (part0_wt3 m c t) (And.intro (part0_bt3 m c t) (part0_u3 m c t)))) (And.intro (And.intro (part0_gs3 m c t) (part0_du3 m c t))
  (And.intro (part0_w4 m c t) (And.intro (part0_wt4 m c t) (part0_bt4 m c t)))))) (And.intro (And.intro (And.intro (And.intro (part0_u4 m c t)
  (part0_gs4 m c t)) (And.intro (part0_du4 m c t) (And.intro (part0_w5 m c t) (part0_wt5 m c t)))) (And.intro (And.intro (part0_bt5 m c t) (part0_u5 m
  c t)) (And.intro (part0_gs5 m c t) (And.intro (part0_du5 m c t) (part0_w6 m c t))))) (And.intro (And.intro (And.intro (part0_wt6 m c t) (part0_bt6 m
  c t)) (And.intro (part0_u6 m c t) (And.intro (part0_gs6 m c t) (part0_du6 m c t)))) (And.intro (And.intro (part0_w7 m c t) (And.intro (part0_wt7 m c
  t) (part0_bt7 m c t))) (And.intro (part0_u7 m c t) (And.intro (part0_gs7 m c t) (part0_du7 m c t)))))))) (And.intro (And.intro (And.intro (And.intro
  (And.intro (And.intro (part1_before m c t) (part1_own m c t)) (And.intro (part1_q00 m c t) (And.intro (part1_ga00 m c t) (part1_da00 m c t))))
  (And.intro (And.intro (part1_q01 m c t) (part1_ga01 m c t)) (And.intro (part1_da01 m c t) (And.intro (part1_q02 m c t) (part1_ga02 m c t)))))
  (And.intro (And.intro (And.intro (part1_da02 m c t) (part1_q03 m c t)) (And.intro (part1_ga03 m c t) (And.intro (part1_da03 m c t) (part1_prob0 m c
  t)))) (And.intro (And.intro (part1_sink0 m c t) (part1_q10 m c t)) (And.intro (part1_ga10 m c t) (And.intro (part1_da10 m c t) (part1_q11 m c
  t)))))) (And.intro (And.intro (And.intro (And.intro (part1_ga11 m c t) (part1_da11 m c t)) (And.intro (part1_q12 m c t) (And.intro (part1_ga12 m c
  t) (part1_da12 m c t)))) (And.intro (And.intro (part1_q13 m c t) (part1_ga13 m c t)) (And.intro (part1_da13 m c t) (And.intro (part1_prob1 m c t)
  (part1_sink1 m c t))))) (And.intro (And.intro (And.intro (part1_v m c t) (part1_lng m c t)) (And.intro (part1_lnb m c t) (And.intro (part1_w0 m c t)
  (part1_wt0 m c t)))) (And.intro (And.intro (part1_bt0 m c t) (part1_u0 m c t)) (And.intro (part1_gs0 m c t) (And.intro (part1_du0 m c t) (part1_w1 m
  c t))))))) (And.intro (And.intro (And.intro (And.intro (And.intro (part1_wt1 m c t) (part1_bt1 m c t)) (And.intro (part1_u1 m c t) (And.intro
  (part1_gs1 m c t) (part1_du1 m c t)))) (And.intro (And.intro (part1_w2 m c t) (part1_wt2 m c t)) (And.intro (part1_bt2 m c t) (And.intro (part1_u2 m
  c t) (part1_gs2 m c t))))) (And.intro (And.intro (And.intro (part1_du2 m c t) (part1_w3 m c t)) (And.intro (part1_wt3 m c t) (And.intro (part1_bt3 m
  c t) (part1_u3 m c t)))) (And.intro (And.intro (part1_gs3 m c t) (part1_du3 m c t)) (And.intro (part1_w4 m c t) (And.intro (part1_wt4 m c t)
  (part1_bt4 m c t)))))) (And.intro (And.intro (And.intro (And.intro (part1_u4 m c t) (part1_gs4 m c t)) (And.intro (part1_du4 m c t) (And.intro
  (part1_w5 m c t) (part1_wt5 m c t)))) (And.intro (And.intro (part1_bt5 m c t) (part1_u5 m c t)) (And.intro (part1_gs5 m c t) (And.intro (part1_du5 m
  c t) (part1_w6 m c t))))) (And.intro (And.intro (And.intro (part1_wt6 m c t) (part1_bt6 m c t)) (And.intro (part1_u6 m c t) (And.intro (part1_gs6 m
  c t) (part1_du6 m c t)))) (And.intro (And.intro (part1_w7 m c t) (And.intro (part1_wt7 m c t) (part1_bt7 m c t))) (And.intro (part1_u7 m c t)
  (And.intro (part1_gs7 m c t) (part1_du7 m c t)))))))))

/-! The slabs of the running sums that a step reads. -/

abbrev srow0 (C : FVec Ideal S2x1x1024 .f32) : FVec Ideal S1x1x1024 .f32 := View.ld (Val := Elt Ideal) (e' := .f32) C (Rect.unit ![0, 0, 0] ![1, 1, 1024] inb_S2x1x1024_S1x1x1024_0_0_0)
abbrev srow1 (C : FVec Ideal S2x1x1024 .f32) : FVec Ideal S1x1x1024 .f32 := View.ld (Val := Elt Ideal) (e' := .f32) C (Rect.unit ![1, 0, 0] ![1, 1, 1024] inb_S2x1x1024_S1x1x1024_1_0_0)
abbrev wrow0 (C : FVec Ideal S8x128x128 .f32) : FVec Ideal S1x128x128 .f32 := View.ld (Val := Elt Ideal) (e' := .f32) C (Rect.unit ![0, 0, 0] ![1, 128, 128] inb_S8x128x128_S1x128x128_0_0_0)
abbrev wrow1 (C : FVec Ideal S8x128x128 .f32) : FVec Ideal S1x128x128 .f32 := View.ld (Val := Elt Ideal) (e' := .f32) C (Rect.unit ![1, 0, 0] ![1, 128, 128] inb_S8x128x128_S1x128x128_1_0_0)
abbrev wrow2 (C : FVec Ideal S8x128x128 .f32) : FVec Ideal S1x128x128 .f32 := View.ld (Val := Elt Ideal) (e' := .f32) C (Rect.unit ![2, 0, 0] ![1, 128, 128] inb_S8x128x128_S1x128x128_2_0_0)
abbrev wrow3 (C : FVec Ideal S8x128x128 .f32) : FVec Ideal S1x128x128 .f32 := View.ld (Val := Elt Ideal) (e' := .f32) C (Rect.unit ![3, 0, 0] ![1, 128, 128] inb_S8x128x128_S1x128x128_3_0_0)
abbrev wrow4 (C : FVec Ideal S8x128x128 .f32) : FVec Ideal S1x128x128 .f32 := View.ld (Val := Elt Ideal) (e' := .f32) C (Rect.unit ![4, 0, 0] ![1, 128, 128] inb_S8x128x128_S1x128x128_4_0_0)
abbrev wrow5 (C : FVec Ideal S8x128x128 .f32) : FVec Ideal S1x128x128 .f32 := View.ld (Val := Elt Ideal) (e' := .f32) C (Rect.unit ![5, 0, 0] ![1, 128, 128] inb_S8x128x128_S1x128x128_5_0_0)
abbrev wrow6 (C : FVec Ideal S8x128x128 .f32) : FVec Ideal S1x128x128 .f32 := View.ld (Val := Elt Ideal) (e' := .f32) C (Rect.unit ![6, 0, 0] ![1, 128, 128] inb_S8x128x128_S1x128x128_6_0_0)
abbrev wrow7 (C : FVec Ideal S8x128x128 .f32) : FVec Ideal S1x128x128 .f32 := View.ld (Val := Elt Ideal) (e' := .f32) C (Rect.unit ![7, 0, 0] ![1, 128, 128] inb_S8x128x128_S1x128x128_7_0_0)

end Cert.Kernel3Ideal.Tiles
end
-- ==== Proof.MixerSums.lean ====
/-
  What a step of the mixer's backward pass adds to its running sums.
-/
module

public import proofs.«01_k».proof.Proof.MixerPay
public import proofs.«01_k».proof.Proof.MixerLoads

@[expose] public section

set_option maxRecDepth 65536
set_option maxHeartbeats 4000000
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Kernel3Ideal Cert.Kernel3Ideal.Gen
variable (m : (ℓ : Loc nD τ sig) → Buf (Elt Ideal) ℓ) (c : Dev nD)

/-- Of stores over others only the first ones count where they cover. -/
theorem canon_cut {S : Shape} {e : EltTy} {Val : EltTy → Type} [∀ e, Nonempty (Val e)] (L' : List (View.Piece Val S e)) (y : S.Idx) :
    ∀ (L : List (View.Piece Val S e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_cut L' y L ?_
      obtain ⟨q, hq, hyq⟩ := h
      rcases List.mem_cons.mp hq with rfl | hq'
      · exact absurd hyq hm
      · exact ⟨q, hq', hyq⟩

theorem canon_two {S : Shape} {e : EltTy} {Val : EltTy → Type} [∀ e, Nonempty (Val e)] (a b : View.Piece Val S e) (L : List (View.Piece Val S e))
    (y : S.Idx) (h : ∃ p ∈ [a, b], y ∈ p.1.set) : View.canon (a :: b :: L) y = View.canon [a, b] y := canon_cut L y [a, b] h

theorem canon_eight {S : Shape} {e : EltTy} {Val : EltTy → Type} [∀ e, Nonempty (Val e)] (a b c d a' b' c' d' : View.Piece Val S e)
    (L : List (View.Piece Val S e)) (y : S.Idx) (h : ∃ p ∈ [a, b, c, d, a', b', c', d'], y ∈ p.1.set) :
    View.canon (a :: b :: c :: d :: a' :: b' :: c' :: d' :: L) y = View.canon [a, b, c, d, a', b', c', d'] y :=
  canon_cut L y [a, b, c, d, a', b', c', d'] h

theorem s0_A (t : Fin cfg0.N) (h0 : t.val % 8 = 0) (h1 : ¬t.val % 8 = 7) :
    (outsAt0 m c t.val t.isLt).2.2.2.2.2.2.2.1 = shapeCast S128x256 (handed (part0 m c t).kv) shapeCasts_S128x256_S128x256 := by
  rw [outsAt0_A m c t h0 h1]
  frame_out
  try simp (disch := decide) only [↓ View.readCov_skip, ↓ View.readCov_cons_toLoadRect, ↓ View.readCov_fill]
  try simp only [read_unread_whole]
  have e := pay0_handed (part0 m c t)
  simp only [leaves m c t] at e
  exact e

theorem db_A (t : Fin cfg0.N) (h0 : t.val % 8 = 0) (h1 : ¬t.val % 8 = 7) :
    (outsAt0 m c t.val t.isLt).2.2.2.2.2.2.2.2.2 = (part0 m c t).dbOf ((part1 m c t).dbOf (k0_pay16)) := by
  rw [outsAt0_A m c t h0 h1]
  frame_out
  try simp (disch := decide) only [↓ View.readCov_skip, ↓ View.readCov_cons_toLoadRect, ↓ View.readCov_fill]
  try simp only [read_unread_whole]
  have e1 := pay1_db (part1 m c t) (k0_pay16)
  have e0 := pay0_db (part0 m c t) ((part1 m c t).dbOf (k0_pay16))
  rw [← e1] at e0
  rw [← e1]
  simp only [leaves m c t] at e0 ⊢
  exact e0

theorem lng_A (t : Fin cfg0.N) (h0 : t.val % 8 = 0) (h1 : ¬t.val % 8 = 7) :
    (outsAt0 m c t.val t.isLt).2.2.2.2.1 = (part0 m c t).dlngOf ((part1 m c t).dlngOf (k0_pay18)) := by
  rw [outsAt0_A m c t h0 h1]
  frame_out
  try simp (disch := decide) only [↓ View.readCov_skip, ↓ View.readCov_cons_toLoadRect, ↓ View.readCov_fill]
  try simp only [read_unread_whole]
  have e1 := pay1_lng (part1 m c t) (k0_pay18)
  have e0 := pay0_lng (part0 m c t) ((part1 m c t).dlngOf (k0_pay18))
  rw [← e1] at e0
  rw [← e1]
  simp only [leaves m c t] at e0 ⊢
  exact e0

theorem lnb_A (t : Fin cfg0.N) (h0 : t.val % 8 = 0) (h1 : ¬t.val % 8 = 7) :
    (outsAt0 m c t.val t.isLt).2.2.2.2.2.1 = (part0 m c t).dlnbOf ((part1 m c t).dlnbOf (k0_pay19)) := by
  rw [outsAt0_A m c t h0 h1]
  frame_out
  try simp (disch := decide) only [↓ View.readCov_skip, ↓ View.readCov_cons_toLoadRect, ↓ View.readCov_fill]
  try simp only [read_unread_whole]
  have e1 := pay1_lnb (part1 m c t) (k0_pay19)
  have e0 := pay0_lnb (part0 m c t) ((part1 m c t).dlnbOf (k0_pay19))
  rw [← e1] at e0
  rw [← e1]
  simp only [leaves m c t] at e0 ⊢
  exact e0

theorem sink_A (t : Fin cfg0.N) (h0 : t.val % 8 = 0) (h1 : ¬t.val % 8 = 7) (Y : Fin 2 → Fin 1024 → EReal)
    (H0 : ∀ j : Fin 1024, (part0 m c t).sinkOf 0 ((part1 m c t).sinkOf 0 (srow0 (k0_pay15 (F := Ideal)))) (ix3 0 0 j) = Y 0 j) (H1 : ∀ j : Fin 1024, (part0 m c t).sinkOf 1 ((part1 m c t).sinkOf 1 (srow1 (k0_pay15 (F := Ideal)))) (ix3 0 0 j) = Y 1 j) :
    (outsAt0 m c t.val t.isLt).2.2.2.2.2.2.2.2.1 = fun y => Y (y 0) (y 2) := by
  rw [outsAt0_A m c t h0 h1]
  frame_out
  try simp (disch := decide) only [↓ View.readCov_skip, ↓ View.readCov_cons_toLoadRect, ↓ View.readCov_fill]
  try simp only [read_unread_whole]
  funext y
  refine (canon_two _ _ _ y (View.cover_of_tiledBy _ ![1, 1, 1024] (by sl_kernel_rfl) y)).trans ?_
  canon_tiles x h using View.cover_of_tiledBy _ ![1, 1, 1024] (by sl_kernel_rfl) y
  · have e1 := pay1_sink1 (part1 m c t) (srow1 (k0_pay15 (F := Ideal)))
    have e0 := congrFun (pay0_sink1 (part0 m c t) ((part1 m c t).sinkOf 1 (srow1 (k0_pay15 (F := Ideal))))) x
    rw [← e1] at e0
    have e2 : (part0 m c t).sinkOf 1 ((part1 m c t).sinkOf 1 (srow1 (k0_pay15 (F := Ideal)))) x = (part0 m c t).sinkOf 1 ((part1 m c t).sinkOf 1 (srow1 (k0_pay15 (F := Ideal)))) (ix3 0 0 (x 2)) := congrArg _ (funext fun a => by fin_cases a <;> first | rfl | exact Fin.ext (by show (x 0).val = 0; omega) | exact Fin.ext (by show (x 1).val = 0; omega))
    have e3 : (part0 m c t).sinkOf 1 ((part1 m c t).sinkOf 1 (srow1 (k0_pay15 (F := Ideal)))) (ix3 0 0 (x 2)) = Y (y 0) (y 2) := (H1 (x 2)).trans (congrArg₂ Y (Fin.ext (by show 1 = (y 0).val; omega)) (Fin.ext (by omega)))
    rw [← e1] at e2 e3
    simp only [leaves m c t] at e0 e2 e3
    exact e0.trans (e2.trans e3)
  · have e1 := pay1_sink0 (part1 m c t) (srow0 (k0_pay15 (F := Ideal)))
    have e0 := congrFun (pay0_sink0 (part0 m c t) ((part1 m c t).sinkOf 0 (srow0 (k0_pay15 (F := Ideal))))) x
    rw [← e1] at e0
    have e2 : (part0 m c t).sinkOf 0 ((part1 m c t).sinkOf 0 (srow0 (k0_pay15 (F := Ideal)))) x = (part0 m c t).sinkOf 0 ((part1 m c t).sinkOf 0 (srow0 (k0_pay15 (F := Ideal)))) (ix3 0 0 (x 2)) := congrArg _ (funext fun a => by fin_cases a <;> first | rfl | exact Fin.ext (by show (x 0).val = 0; omega) | exact Fin.ext (by show (x 1).val = 0; omega))
    have e3 : (part0 m c t).sinkOf 0 ((part1 m c t).sinkOf 0 (srow0 (k0_pay15 (F := Ideal)))) (ix3 0 0 (x 2)) = Y (y 0) (y 2) := (H0 (x 2)).trans (congrArg₂ Y (Fin.ext (by show 0 = (y 0).val; omega)) (Fin.ext (by omega)))
    rw [← e1] at e2 e3
    simp only [leaves m c t] at e0 e2 e3
    exact e0.trans (e2.trans e3)

theorem w_A (t : Fin cfg0.N) (h0 : t.val % 8 = 0) (h1 : ¬t.val % 8 = 7) (Y : Fin 8 → Fin 128 → Fin 128 → EReal)
    (H0 : ∀ i j : Fin 128, (part0 m c t).dwOf 0 ((part1 m c t).dwOf 0 (wrow0 (k0_pay17 (F := Ideal)))) (ix3 0 i j) = Y 0 i j)
    (H1 : ∀ i j : Fin 128, (part0 m c t).dwOf 1 ((part1 m c t).dwOf 1 (wrow1 (k0_pay17 (F := Ideal)))) (ix3 0 i j) = Y 1 i j)
    (H2 : ∀ i j : Fin 128, (part0 m c t).dwOf 2 ((part1 m c t).dwOf 2 (wrow2 (k0_pay17 (F := Ideal)))) (ix3 0 i j) = Y 2 i j)
    (H3 : ∀ i j : Fin 128, (part0 m c t).dwOf 3 ((part1 m c t).dwOf 3 (wrow3 (k0_pay17 (F := Ideal)))) (ix3 0 i j) = Y 3 i j)
    (H4 : ∀ i j : Fin 128, (part0 m c t).dwOf 4 ((part1 m c t).dwOf 4 (wrow4 (k0_pay17 (F := Ideal)))) (ix3 0 i j) = Y 4 i j)
    (H5 : ∀ i j : Fin 128, (part0 m c t).dwOf 5 ((part1 m c t).dwOf 5 (wrow5 (k0_pay17 (F := Ideal)))) (ix3 0 i j) = Y 5 i j)
    (H6 : ∀ i j : Fin 128, (part0 m c t).dwOf 6 ((part1 m c t).dwOf 6 (wrow6 (k0_pay17 (F := Ideal)))) (ix3 0 i j) = Y 6 i j)
    (H7 : ∀ i j : Fin 128, (part0 m c t).dwOf 7 ((part1 m c t).dwOf 7 (wrow7 (k0_pay17 (F := Ideal)))) (ix3 0 i j) = Y 7 i j) :
    (outsAt0 m c t.val t.isLt).2.2.1 = fun y => Y (y 0) (y 1) (y 2) := by
  rw [outsAt0_A m c t h0 h1]
  frame_out
  try simp (disch := decide) only [↓ View.readCov_skip, ↓ View.readCov_cons_toLoadRect, ↓ View.readCov_fill]
  try simp only [read_unread_whole]
  funext y
  refine (canon_eight _ _ _ _ _ _ _ _ _ y (View.cover_of_tiledBy _ ![1, 128, 128] (by sl_kernel_rfl) y)).trans ?_
  canon_tiles x h using View.cover_of_tiledBy _ ![1, 128, 128] (by sl_kernel_rfl) y
  · have e1 := pay1_w7 (part1 m c t) (wrow7 (k0_pay17 (F := Ideal)))
    have e0 := congrFun (pay0_w7 (part0 m c t) ((part1 m c t).dwOf 7 (wrow7 (k0_pay17 (F := Ideal))))) x
    rw [← e1] at e0
    have e2 : (part0 m c t).dwOf 7 ((part1 m c t).dwOf 7 (wrow7 (k0_pay17 (F := Ideal)))) x = (part0 m c t).dwOf 7 ((part1 m c t).dwOf 7 (wrow7 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 7 ((part1 m c t).dwOf 7 (wrow7 (k0_pay17 (F := Ideal)))) (ix3 0 (x 1) (x 2)) = Y (y 0) (y 1) (y 2) := (H7 (x 1) (x 2)).trans (congr (congrArg₂ Y (Fin.ext (by show 7 = (y 0).val; omega)) (Fin.ext (by omega))) (Fin.ext (by omega)))
    rw [← e1] at e2 e3
    simp only [leaves m c t] at e0 e2 e3
    exact e0.trans (e2.trans e3)
  · have e1 := pay1_w6 (part1 m c t) (wrow6 (k0_pay17 (F := Ideal)))
    have e0 := congrFun (pay0_w6 (part0 m c t) ((part1 m c t).dwOf 6 (wrow6 (k0_pay17 (F := Ideal))))) x
    rw [← e1] at e0
    have e2 : (part0 m c t).dwOf 6 ((part1 m c t).dwOf 6 (wrow6 (k0_pay17 (F := Ideal)))) x = (part0 m c t).dwOf 6 ((part1 m c t).dwOf 6 (wrow6 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 6 ((part1 m c t).dwOf 6 (wrow6 (k0_pay17 (F := Ideal)))) (ix3 0 (x 1) (x 2)) = Y (y 0) (y 1) (y 2) := (H6 (x 1) (x 2)).trans (congr (congrArg₂ Y (Fin.ext (by show 6 = (y 0).val; omega)) (Fin.ext (by omega))) (Fin.ext (by omega)))
    rw [← e1] at e2 e3
    simp only [leaves m c t] at e0 e2 e3
    exact e0.trans (e2.trans e3)
  · have e1 := pay1_w5 (part1 m c t) (wrow5 (k0_pay17 (F := Ideal)))
    have e0 := congrFun (pay0_w5 (part0 m c t) ((part1 m c t).dwOf 5 (wrow5 (k0_pay17 (F := Ideal))))) x
    rw [← e1] at e0
    have e2 : (part0 m c t).dwOf 5 ((part1 m c t).dwOf 5 (wrow5 (k0_pay17 (F := Ideal)))) x = (part0 m c t).dwOf 5 ((part1 m c t).dwOf 5 (wrow5 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 5 ((part1 m c t).dwOf 5 (wrow5 (k0_pay17 (F := Ideal)))) (ix3 0 (x 1) (x 2)) = Y (y 0) (y 1) (y 2) := (H5 (x 1) (x 2)).trans (congr (congrArg₂ Y (Fin.ext (by show 5 = (y 0).val; omega)) (Fin.ext (by omega))) (Fin.ext (by omega)))
    rw [← e1] at e2 e3
    simp only [leaves m c t] at e0 e2 e3
    exact e0.trans (e2.trans e3)
  · have e1 := pay1_w4 (part1 m c t) (wrow4 (k0_pay17 (F := Ideal)))
    have e0 := congrFun (pay0_w4 (part0 m c t) ((part1 m c t).dwOf 4 (wrow4 (k0_pay17 (F := Ideal))))) x
    rw [← e1] at e0
    have e2 : (part0 m c t).dwOf 4 ((part1 m c t).dwOf 4 (wrow4 (k0_pay17 (F := Ideal)))) x = (part0 m c t).dwOf 4 ((part1 m c t).dwOf 4 (wrow4 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 4 ((part1 m c t).dwOf 4 (wrow4 (k0_pay17 (F := Ideal)))) (ix3 0 (x 1) (x 2)) = Y (y 0) (y 1) (y 2) := (H4 (x 1) (x 2)).trans (congr (congrArg₂ Y (Fin.ext (by show 4 = (y 0).val; omega)) (Fin.ext (by omega))) (Fin.ext (by omega)))
    rw [← e1] at e2 e3
    simp only [leaves m c t] at e0 e2 e3
    exact e0.trans (e2.trans e3)
  · have e1 := pay1_w3 (part1 m c t) (wrow3 (k0_pay17 (F := Ideal)))
    have e0 := congrFun (pay0_w3 (part0 m c t) ((part1 m c t).dwOf 3 (wrow3 (k0_pay17 (F := Ideal))))) x
    rw [← e1] at e0
    have e2 : (part0 m c t).dwOf 3 ((part1 m c t).dwOf 3 (wrow3 (k0_pay17 (F := Ideal)))) x = (part0 m c t).dwOf 3 ((part1 m c t).dwOf 3 (wrow3 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 3 ((part1 m c t).dwOf 3 (wrow3 (k0_pay17 (F := Ideal)))) (ix3 0 (x 1) (x 2)) = Y (y 0) (y 1) (y 2) := (H3 (x 1) (x 2)).trans (congr (congrArg₂ Y (Fin.ext (by show 3 = (y 0).val; omega)) (Fin.ext (by omega))) (Fin.ext (by omega)))
    rw [← e1] at e2 e3
    simp only [leaves m c t] at e0 e2 e3
    exact e0.trans (e2.trans e3)
  · have e1 := pay1_w2 (part1 m c t) (wrow2 (k0_pay17 (F := Ideal)))
    have e0 := congrFun (pay0_w2 (part0 m c t) ((part1 m c t).dwOf 2 (wrow2 (k0_pay17 (F := Ideal))))) x
    rw [← e1] at e0
    have e2 : (part0 m c t).dwOf 2 ((part1 m c t).dwOf 2 (wrow2 (k0_pay17 (F := Ideal)))) x = (part0 m c t).dwOf 2 ((part1 m c t).dwOf 2 (wrow2 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 2 ((part1 m c t).dwOf 2 (wrow2 (k0_pay17 (F := Ideal)))) (ix3 0 (x 1) (x 2)) = Y (y 0) (y 1) (y 2) := (H2 (x 1) (x 2)).trans (congr (congrArg₂ Y (Fin.ext (by show 2 = (y 0).val; omega)) (Fin.ext (by omega))) (Fin.ext (by omega)))
    rw [← e1] at e2 e3
    simp only [leaves m c t] at e0 e2 e3
    exact e0.trans (e2.trans e3)
  · have e1 := pay1_w1 (part1 m c t) (wrow1 (k0_pay17 (F := Ideal)))
    have e0 := congrFun (pay0_w1 (part0 m c t) ((part1 m c t).dwOf 1 (wrow1 (k0_pay17 (F := Ideal))))) x
    rw [← e1] at e0
    have e2 : (part0 m c t).dwOf 1 ((part1 m c t).dwOf 1 (wrow1 (k0_pay17 (F := Ideal)))) x = (part0 m c t).dwOf 1 ((part1 m c t).dwOf 1 (wrow1 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 1 ((part1 m c t).dwOf 1 (wrow1 (k0_pay17 (F := Ideal)))) (ix3 0 (x 1) (x 2)) = Y (y 0) (y 1) (y 2) := (H1 (x 1) (x 2)).trans (congr (congrArg₂ Y (Fin.ext (by show 1 = (y 0).val; omega)) (Fin.ext (by omega))) (Fin.ext (by omega)))
    rw [← e1] at e2 e3
    simp only [leaves m c t] at e0 e2 e3
    exact e0.trans (e2.trans e3)
  · have e1 := pay1_w0 (part1 m c t) (wrow0 (k0_pay17 (F := Ideal)))
    have e0 := congrFun (pay0_w0 (part0 m c t) ((part1 m c t).dwOf 0 (wrow0 (k0_pay17 (F := Ideal))))) x
    rw [← e1] at e0
    have e2 : (part0 m c t).dwOf 0 ((part1 m c t).dwOf 0 (wrow0 (k0_pay17 (F := Ideal)))) x = (part0 m c t).dwOf 0 ((part1 m c t).dwOf 0 (wrow0 (k0_pay17 (F := Ideal)))) (ix3 0 (x 1) (x 2)) := congrArg _ (funext fun a => by fin_cases a <;> first | rfl | exact Fin.ext (by show (x 0).val = 0; omega) | exact Fin.ext (by show (x 1).val = 0; omega))
    have e3 : (part0 m c t).dwOf 0 ((part1 m c t).dwOf 0 (wrow0 (k0_pay17 (F := Ideal)))) (ix3 0 (x 1) (x 2)) = Y (y 0) (y 1) (y 2) := (H0 (x 1) (x 2)).trans (congr (congrArg₂ Y (Fin.ext (by show 0 = (y 0).val; omega)) (Fin.ext (by omega))) (Fin.ext (by omega)))
    rw [← e1] at e2 e3
    simp only [leaves m c t] at e0 e2 e3
    exact e0.trans (e2.trans e3)

theorem s0_B (t : Fin cfg0.N) (h0 : ¬t.val % 8 = 0) (h1 : ¬t.val % 8 = 7) :
    (outsAt0 m c t.val t.isLt).2.2.2.2.2.2.2.1 = shapeCast S128x256 (handed (part0 m c t).kv) shapeCasts_S128x256_S128x256 := by
  rw [outsAt0_B m c t h0 h1]
  frame_out
  try simp (disch := decide) only [↓ View.readCov_skip, ↓ View.readCov_cons_toLoadRect, ↓ View.readCov_fill]
  try simp only [read_unread_whole]
  have e := pay0_handed (part0 m c t)
  simp only [leaves m c t] at e
  exact e

theorem db_B (t : Fin cfg0.N) (h0 : ¬t.val % 8 = 0) (h1 : ¬t.val % 8 = 7) :
    (outsAt0 m c t.val t.isLt).2.2.2.2.2.2.2.2.2 = (part0 m c t).dbOf ((part1 m c t).dbOf ((outsAt0 m c (t.val - 1) (by omega)).2.2.2.2.2.2.2.2.2)) := by
  rw [outsAt0_B m c t h0 h1]
  frame_out
  try simp (disch := decide) only [↓ View.readCov_skip, ↓ View.readCov_cons_toLoadRect, ↓ View.readCov_fill]
  try simp only [read_unread_whole]
  have e1 := pay1_db (part1 m c t) ((outsAt0 m c (t.val - 1) (by omega)).2.2.2.2.2.2.2.2.2)
  have e0 := pay0_db (part0 m c t) ((part1 m c t).dbOf ((outsAt0 m c (t.val - 1) (by omega)).2.2.2.2.2.2.2.2.2))
  rw [← e1] at e0
  rw [← e1]
  simp only [leaves m c t] at e0 ⊢
  exact e0

theorem lng_B (t : Fin cfg0.N) (h0 : ¬t.val % 8 = 0) (h1 : ¬t.val % 8 = 7) :
    (outsAt0 m c t.val t.isLt).2.2.2.2.1 = (part0 m c t).dlngOf ((part1 m c t).dlngOf ((outsAt0 m c (t.val - 1) (by omega)).2.2.2.2.1)) := by
  rw [outsAt0_B m c t h0 h1]
  frame_out
  try simp (disch := decide) only [↓ View.readCov_skip, ↓ View.readCov_cons_toLoadRect, ↓ View.readCov_fill]
  try simp only [read_unread_whole]
  have e1 := pay1_lng (part1 m c t) ((outsAt0 m c (t.val - 1) (by omega)).2.2.2.2.1)
  have e0 := pay0_lng (part0 m c t) ((part1 m c t).dlngOf ((outsAt0 m c (t.val - 1) (by omega)).2.2.2.2.1))
  rw [← e1] at e0
  rw [← e1]
  simp only [leaves m c t] at e0 ⊢
  exact e0

theorem lnb_B (t : Fin cfg0.N) (h0 : ¬t.val % 8 = 0) (h1 : ¬t.val % 8 = 7) :
    (outsAt0 m c t.val t.isLt).2.2.2.2.2.1 = (part0 m c t).dlnbOf ((part1 m c t).dlnbOf ((outsAt0 m c (t.val - 1) (by omega)).2.2.2.2.2.1)) := by
  rw [outsAt0_B m c t h0 h1]
  frame_out
  try simp (disch := decide) only [↓ View.readCov_skip, ↓ View.readCov_cons_toLoadRect, ↓ View.readCov_fill]
  try simp only [read_unread_whole]
  have e1 := pay1_lnb (part1 m c t) ((outsAt0 m c (t.val - 1) (by omega)).2.2.2.2.2.1)
  have e0 := pay0_lnb (part0 m c t) ((part1 m c t).dlnbOf ((outsAt0 m c (t.val - 1) (by omega)).2.2.2.2.2.1))
  rw [← e1] at e0
  rw [← e1]
  simp only [leaves m c t] at e0 ⊢
  exact e0

theorem sink_B (t : Fin cfg0.N) (h0 : ¬t.val % 8 = 0) (h1 : ¬t.val % 8 = 7) (Y : Fin 2 → Fin 1024 → EReal)
    (H0 : ∀ j : Fin 1024, (part0 m c t).sinkOf 0 ((part1 m c t).sinkOf 0 (srow0 ((outsAt0 m c (t.val - 1) (by omega)).2.2.2.2.2.2.2.2.1))) (ix3 0 0 j) = Y 0 j) (H1 : ∀ j : Fin 1024, (part0 m c t).sinkOf 1 ((part1 m c t).sinkOf 1 (srow1 ((outsAt0 m c (t.val - 1) (by omega)).2.2.2.2.2.2.2.2.1))) (ix3 0 0 j) = Y 1 j) :
    (outsAt0 m c t.val t.isLt).2.2.2.2.2.2.2.2.1 = fun y => Y (y 0) (y 2) := by
  rw [outsAt0_B m c t h0 h1]
  frame_out
  try simp (disch := decide) only [↓ View.readCov_skip, ↓ View.readCov_cons_toLoadRect, ↓ View.readCov_fill]
  try simp only [read_unread_whole]
  funext y
  refine (canon_two _ _ _ y (View.cover_of_tiledBy _ ![1, 1, 1024] (by sl_kernel_rfl) y)).trans ?_
  canon_tiles x h using View.cover_of_tiledBy _ ![1, 1, 1024] (by sl_kernel_rfl) y
  · have e1 := pay1_sink1 (part1 m c t) (srow1 ((outsAt0 m c (t.val - 1) (by omega)).2.2.2.2.2.2.2.2.1))
    have e0 := congrFun (pay0_sink1 (part0 m c t) ((part1 m c t).sinkOf 1 (srow1 ((outsAt0 m c (t.val - 1) (by omega)).2.2.2.2.2.2.2.2.1)))) x
    rw [← e1] at e0
    have e2 : (part0 m c t).sinkOf 1 ((part1 m c t).sinkOf 1 (srow1 ((outsAt0 m c (t.val - 1) (by omega)).2.2.2.2.2.2.2.2.1))) x = (part0 m c t).sinkOf 1 ((part1 m c t).sinkOf 1 (srow1 ((outsAt0 m c (t.val - 1) (by omega)).2.2.2.2.2.2.2.2.1))) (ix3 0 0 (x 2)) := congrArg _ (funext fun a => by fin_cases a <;> first | rfl | exact Fin.ext (by show (x 0).val = 0; omega) | exact Fin.ext (by show (x 1).val = 0; omega))
    have e3 : (part0 m c t).sinkOf 1 ((part1 m c t).sinkOf 1 (srow1 ((outsAt0 m c (t.val - 1) (by omega)).2.2.2.2.2.2.2.2.1))) (ix3 0 0 (x 2)) = Y (y 0) (y 2) := (H1 (x 2)).trans (congrArg₂ Y (Fin.ext (by show 1 = (y 0).val; omega)) (Fin.ext (by omega)))
    rw [← e1] at e2 e3
    simp only [leaves m c t] at e0 e2 e3
    exact e0.trans (e2.trans e3)
  · have e1 := pay1_sink0 (part1 m c t) (srow0 ((outsAt0 m c (t.val - 1) (by omega)).2.2.2.2.2.2.2.2.1))
    have e0 := congrFun (pay0_sink0 (part0 m c t) ((part1 m c t).sinkOf 0 (srow0 ((outsAt0 m c (t.val - 1) (by omega)).2.2.2.2.2.2.2.2.1)))) x
    rw [← e1] at e0
    have e2 : (part0 m c t).sinkOf 0 ((part1 m c t).sinkOf 0 (srow0 ((outsAt0 m c (t.val - 1) (by omega)).2.2.2.2.2.2.2.2.1))) x = (part0 m c t).sinkOf 0 ((part1 m c t).sinkOf 0 (srow0 ((outsAt0 m c (t.val - 1) (by omega)).2.2.2.2.2.2.2.2.1))) (ix3 0 0 (x 2)) := congrArg _ (funext fun a => by fin_cases a <;> first | rfl | exact Fin.ext (by show (x 0).val = 0; omega) | exact Fin.ext (by show (x 1).val = 0; omega))
    have e3 : (part0 m c t).sinkOf 0 ((part1 m c t).sinkOf 0 (srow0 ((outsAt0 m c (t.val - 1) (by omega)).2.2.2.2.2.2.2.2.1))) (ix3 0 0 (x 2)) = Y (y 0) (y 2) := (H0 (x 2)).trans (congrArg₂ Y (Fin.ext (by show 0 = (y 0).val; omega)) (Fin.ext (by omega)))
    rw [← e1] at e2 e3
    simp only [leaves m c t] at e0 e2 e3
    exact e0.trans (e2.trans e3)

theorem w_B (t : Fin cfg0.N) (h0 : ¬t.val % 8 = 0) (h1 : ¬t.val % 8 = 7) (Y : Fin 8 → Fin 128 → Fin 128 → EReal)
    (H0 : ∀ i j : Fin 128, (part0 m c t).dwOf 0 ((part1 m c t).dwOf 0 (wrow0 ((outsAt0 m c (t.val - 1) (by omega)).2.2.1))) (ix3 0 i j) = Y 0 i j)
    (H1 : ∀ i j : Fin 128, (part0 m c t).dwOf 1 ((part1 m c t).dwOf 1 (wrow1 ((outsAt0 m c (t.val - 1) (by omega)).2.2.1))) (ix3 0 i j) = Y 1 i j)
    (H2 : ∀ i j : Fin 128, (part0 m c t).dwOf 2 ((part1 m c t).dwOf 2 (wrow2 ((outsAt0 m c (t.val - 1) (by omega)).2.2.1))) (ix3 0 i j) = Y 2 i j)
    (H3 : ∀ i j : Fin 128, (part0 m c t).dwOf 3 ((part1 m c t).dwOf 3 (wrow3 ((outsAt0 m c (t.val - 1) (by omega)).2.2.1))) (ix3 0 i j) = Y 3 i j)
    (H4 : ∀ i j : Fin 128, (part0 m c t).dwOf 4 ((part1 m c t).dwOf 4 (wrow4 ((outsAt0 m c (t.val - 1) (by omega)).2.2.1))) (ix3 0 i j) = Y 4 i j)
    (H5 : ∀ i j : Fin 128, (part0 m c t).dwOf 5 ((part1 m c t).dwOf 5 (wrow5 ((outsAt0 m c (t.val - 1) (by omega)).2.2.1))) (ix3 0 i j) = Y 5 i j)
    (H6 : ∀ i j : Fin 128, (part0 m c t).dwOf 6 ((part1 m c t).dwOf 6 (wrow6 ((outsAt0 m c (t.val - 1) (by omega)).2.2.1))) (ix3 0 i j) = Y 6 i j)
    (H7 : ∀ i j : Fin 128, (part0 m c t).dwOf 7 ((part1 m c t).dwOf 7 (wrow7 ((outsAt0 m c (t.val - 1) (by omega)).2.2.1))) (ix3 0 i j) = Y 7 i j) :
    (outsAt0 m c t.val t.isLt).2.2.1 = fun y => Y (y 0) (y 1) (y 2) := by
  rw [outsAt0_B m c t h0 h1]
  frame_out
  try simp (disch := decide) only [↓ View.readCov_skip, ↓ View.readCov_cons_toLoadRect, ↓ View.readCov_fill]
  try simp only [read_unread_whole]
  funext y
  refine (canon_eight _ _ _ _ _ _ _ _ _ y (View.cover_of_tiledBy _ ![1, 128, 128] (by sl_kernel_rfl) y)).trans ?_
  canon_tiles x h using View.cover_of_tiledBy _ ![1, 128, 128] (by sl_kernel_rfl) y
  · have e1 := pay1_w7 (part1 m c t) (wrow7 ((outsAt0 m c (t.val - 1) (by omega)).2.2.1))
    have e0 := congrFun (pay0_w7 (part0 m c t) ((part1 m c t).dwOf 7 (wrow7 ((outsAt0 m c (t.val - 1) (by omega)).2.2.1)))) x
    rw [← e1] at e0
    have e2 : (part0 m c t).dwOf 7 ((part1 m c t).dwOf 7 (wrow7 ((outsAt0 m c (t.val - 1) (by omega)).2.2.1))) x = (part0 m c t).dwOf 7 ((part1 m c t).dwOf 7 (wrow7 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 7 ((part1 m c t).dwOf 7 (wrow7 ((outsAt0 m c (t.val - 1) (by omega)).2.2.1))) (ix3 0 (x 1) (x 2)) = Y (y 0) (y 1) (y 2) := (H7 (x 1) (x 2)).trans (congr (congrArg₂ Y (Fin.ext (by show 7 = (y 0).val; omega)) (Fin.ext (by omega))) (Fin.ext (by omega)))
    rw [← e1] at e2 e3
    simp only [leaves m c t] at e0 e2 e3
    exact e0.trans (e2.trans e3)
  · have e1 := pay1_w6 (part1 m c t) (wrow6 ((outsAt0 m c (t.val - 1) (by omega)).2.2.1))
    have e0 := congrFun (pay0_w6 (part0 m c t) ((part1 m c t).dwOf 6 (wrow6 ((outsAt0 m c (t.val - 1) (by omega)).2.2.1)))) x
    rw [← e1] at e0
    have e2 : (part0 m c t).dwOf 6 ((part1 m c t).dwOf 6 (wrow6 ((outsAt0 m c (t.val - 1) (by omega)).2.2.1))) x = (part0 m c t).dwOf 6 ((part1 m c t).dwOf 6 (wrow6 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 6 ((part1 m c t).dwOf 6 (wrow6 ((outsAt0 m c (t.val - 1) (by omega)).2.2.1))) (ix3 0 (x 1) (x 2)) = Y (y 0) (y 1) (y 2) := (H6 (x 1) (x 2)).trans (congr (congrArg₂ Y (Fin.ext (by show 6 = (y 0).val; omega)) (Fin.ext (by omega))) (Fin.ext (by omega)))
    rw [← e1] at e2 e3
    simp only [leaves m c t] at e0 e2 e3
    exact e0.trans (e2.trans e3)
  · have e1 := pay1_w5 (part1 m c t) (wrow5 ((outsAt0 m c (t.val - 1) (by omega)).2.2.1))
    have e0 := congrFun (pay0_w5 (part0 m c t) ((part1 m c t).dwOf 5 (wrow5 ((outsAt0 m c (t.val - 1) (by omega)).2.2.1)))) x
    rw [← e1] at e0
    have e2 : (part0 m c t).dwOf 5 ((part1 m c t).dwOf 5 (wrow5 ((outsAt0 m c (t.val - 1) (by omega)).2.2.1))) x = (part0 m c t).dwOf 5 ((part1 m c t).dwOf 5 (wrow5 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 5 ((part1 m c t).dwOf 5 (wrow5 ((outsAt0 m c (t.val - 1) (by omega)).2.2.1))) (ix3 0 (x 1) (x 2)) = Y (y 0) (y 1) (y 2) := (H5 (x 1) (x 2)).trans (congr (congrArg₂ Y (Fin.ext (by show 5 = (y 0).val; omega)) (Fin.ext (by omega))) (Fin.ext (by omega)))
    rw [← e1] at e2 e3
    simp only [leaves m c t] at e0 e2 e3
    exact e0.trans (e2.trans e3)
  · have e1 := pay1_w4 (part1 m c t) (wrow4 ((outsAt0 m c (t.val - 1) (by omega)).2.2.1))
    have e0 := congrFun (pay0_w4 (part0 m c t) ((part1 m c t).dwOf 4 (wrow4 ((outsAt0 m c (t.val - 1) (by omega)).2.2.1)))) x
    rw [← e1] at e0
    have e2 : (part0 m c t).dwOf 4 ((part1 m c t).dwOf 4 (wrow4 ((outsAt0 m c (t.val - 1) (by omega)).2.2.1))) x = (part0 m c t).dwOf 4 ((part1 m c t).dwOf 4 (wrow4 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 4 ((part1 m c t).dwOf 4 (wrow4 ((outsAt0 m c (t.val - 1) (by omega)).2.2.1))) (ix3 0 (x 1) (x 2)) = Y (y 0) (y 1) (y 2) := (H4 (x 1) (x 2)).trans (congr (congrArg₂ Y (Fin.ext (by show 4 = (y 0).val; omega)) (Fin.ext (by omega))) (Fin.ext (by omega)))
    rw [← e1] at e2 e3
    simp only [leaves m c t] at e0 e2 e3
    exact e0.trans (e2.trans e3)
  · have e1 := pay1_w3 (part1 m c t) (wrow3 ((outsAt0 m c (t.val - 1) (by omega)).2.2.1))
    have e0 := congrFun (pay0_w3 (part0 m c t) ((part1 m c t).dwOf 3 (wrow3 ((outsAt0 m c (t.val - 1) (by omega)).2.2.1)))) x
    rw [← e1] at e0
    have e2 : (part0 m c t).dwOf 3 ((part1 m c t).dwOf 3 (wrow3 ((outsAt0 m c (t.val - 1) (by omega)).2.2.1))) x = (part0 m c t).dwOf 3 ((part1 m c t).dwOf 3 (wrow3 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 3 ((part1 m c t).dwOf 3 (wrow3 ((outsAt0 m c (t.val - 1) (by omega)).2.2.1))) (ix3 0 (x 1) (x 2)) = Y (y 0) (y 1) (y 2) := (H3 (x 1) (x 2)).trans (congr (congrArg₂ Y (Fin.ext (by show 3 = (y 0).val; omega)) (Fin.ext (by omega))) (Fin.ext (by omega)))
    rw [← e1] at e2 e3
    simp only [leaves m c t] at e0 e2 e3
    exact e0.trans (e2.trans e3)
  · have e1 := pay1_w2 (part1 m c t) (wrow2 ((outsAt0 m c (t.val - 1) (by omega)).2.2.1))
    have e0 := congrFun (pay0_w2 (part0 m c t) ((part1 m c t).dwOf 2 (wrow2 ((outsAt0 m c (t.val - 1) (by omega)).2.2.1)))) x
    rw [← e1] at e0
    have e2 : (part0 m c t).dwOf 2 ((part1 m c t).dwOf 2 (wrow2 ((outsAt0 m c (t.val - 1) (by omega)).2.2.1))) x = (part0 m c t).dwOf 2 ((part1 m c t).dwOf 2 (wrow2 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 2 ((part1 m c t).dwOf 2 (wrow2 ((outsAt0 m c (t.val - 1) (by omega)).2.2.1))) (ix3 0 (x 1) (x 2)) = Y (y 0) (y 1) (y 2) := (H2 (x 1) (x 2)).trans (congr (congrArg₂ Y (Fin.ext (by show 2 = (y 0).val; omega)) (Fin.ext (by omega))) (Fin.ext (by omega)))
    rw [← e1] at e2 e3
    simp only [leaves m c t] at e0 e2 e3
    exact e0.trans (e2.trans e3)
  · have e1 := pay1_w1 (part1 m c t) (wrow1 ((outsAt0 m c (t.val - 1) (by omega)).2.2.1))
    have e0 := congrFun (pay0_w1 (part0 m c t) ((part1 m c t).dwOf 1 (wrow1 ((outsAt0 m c (t.val - 1) (by omega)).2.2.1)))) x
    rw [← e1] at e0
    have e2 : (part0 m c t).dwOf 1 ((part1 m c t).dwOf 1 (wrow1 ((outsAt0 m c (t.val - 1) (by omega)).2.2.1))) x = (part0 m c t).dwOf 1 ((part1 m c t).dwOf 1 (wrow1 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 1 ((part1 m c t).dwOf 1 (wrow1 ((outsAt0 m c (t.val - 1) (by omega)).2.2.1))) (ix3 0 (x 1) (x 2)) = Y (y 0) (y 1) (y 2) := (H1 (x 1) (x 2)).trans (congr (congrArg₂ Y (Fin.ext (by show 1 = (y 0).val; omega)) (Fin.ext (by omega))) (Fin.ext (by omega)))
    rw [← e1] at e2 e3
    simp only [leaves m c t] at e0 e2 e3
    exact e0.trans (e2.trans e3)
  · have e1 := pay1_w0 (part1 m c t) (wrow0 ((outsAt0 m c (t.val - 1) (by omega)).2.2.1))
    have e0 := congrFun (pay0_w0 (part0 m c t) ((part1 m c t).dwOf 0 (wrow0 ((outsAt0 m c (t.val - 1) (by omega)).2.2.1)))) x
    rw [← e1] at e0
    have e2 : (part0 m c t).dwOf 0 ((part1 m c t).dwOf 0 (wrow0 ((outsAt0 m c (t.val - 1) (by omega)).2.2.1))) x = (part0 m c t).dwOf 0 ((part1 m c t).dwOf 0 (wrow0 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 0 ((part1 m c t).dwOf 0 (wrow0 ((outsAt0 m c (t.val - 1) (by omega)).2.2.1))) (ix3 0 (x 1) (x 2)) = Y (y 0) (y 1) (y 2) := (H0 (x 1) (x 2)).trans (congr (congrArg₂ Y (Fin.ext (by show 0 = (y 0).val; omega)) (Fin.ext (by omega))) (Fin.ext (by omega)))
    rw [← e1] at e2 e3
    simp only [leaves m c t] at e0 e2 e3
    exact e0.trans (e2.trans e3)

theorem s0_C (t : Fin cfg0.N) (h0 : ¬t.val % 8 = 0) (h1 : t.val % 8 = 7) :
    (outsAt0 m c t.val t.isLt).2.2.2.2.2.2.2.1 = shapeCast S128x256 (handed (part0 m c t).kv) shapeCasts_S128x256_S128x256 := by
  rw [outsAt0_C m c t h0 h1]
  frame_out
  try simp (disch := decide) only [↓ View.readCov_skip, ↓ View.readCov_cons_toLoadRect, ↓ View.readCov_fill]
  try simp only [read_unread_whole]
  have e := pay0_handed (part0 m c t)
  simp only [leaves m c t] at e
  exact e

theorem db_C (t : Fin cfg0.N) (h0 : ¬t.val % 8 = 0) (h1 : t.val % 8 = 7) :
    (outsAt0 m c t.val t.isLt).2.2.2.2.2.2.2.2.2 = (part0 m c t).dbOf ((part1 m c t).dbOf ((outsAt0 m c (t.val - 1) (by omega)).2.2.2.2.2.2.2.2.2)) := by
  rw [outsAt0_C m c t h0 h1]
  frame_out
  try simp (disch := decide) only [↓ View.readCov_skip, ↓ View.readCov_cons_toLoadRect, ↓ View.readCov_fill]
  try simp only [read_unread_whole]
  have e1 := pay1_db (part1 m c t) ((outsAt0 m c (t.val - 1) (by omega)).2.2.2.2.2.2.2.2.2)
  have e0 := pay0_db (part0 m c t) ((part1 m c t).dbOf ((outsAt0 m c (t.val - 1) (by omega)).2.2.2.2.2.2.2.2.2))
  rw [← e1] at e0
  rw [← e1]
  simp only [leaves m c t] at e0 ⊢
  exact e0

theorem lng_C (t : Fin cfg0.N) (h0 : ¬t.val % 8 = 0) (h1 : t.val % 8 = 7) :
    (outsAt0 m c t.val t.isLt).2.2.2.2.1 = (part0 m c t).dlngOf ((part1 m c t).dlngOf ((outsAt0 m c (t.val - 1) (by omega)).2.2.2.2.1)) := by
  rw [outsAt0_C m c t h0 h1]
  frame_out
  try simp (disch := decide) only [↓ View.readCov_skip, ↓ View.readCov_cons_toLoadRect, ↓ View.readCov_fill]
  try simp only [read_unread_whole]
  have e1 := pay1_lng (part1 m c t) ((outsAt0 m c (t.val - 1) (by omega)).2.2.2.2.1)
  have e0 := pay0_lng (part0 m c t) ((part1 m c t).dlngOf ((outsAt0 m c (t.val - 1) (by omega)).2.2.2.2.1))
  rw [← e1] at e0
  rw [← e1]
  simp only [leaves m c t] at e0 ⊢
  exact e0

theorem lnb_C (t : Fin cfg0.N) (h0 : ¬t.val % 8 = 0) (h1 : t.val % 8 = 7) :
    (outsAt0 m c t.val t.isLt).2.2.2.2.2.1 = (part0 m c t).dlnbOf ((part1 m c t).dlnbOf ((outsAt0 m c (t.val - 1) (by omega)).2.2.2.2.2.1)) := by
  rw [outsAt0_C m c t h0 h1]
  frame_out
  try simp (disch := decide) only [↓ View.readCov_skip, ↓ View.readCov_cons_toLoadRect, ↓ View.readCov_fill]
  try simp only [read_unread_whole]
  have e1 := pay1_lnb (part1 m c t) ((outsAt0 m c (t.val - 1) (by omega)).2.2.2.2.2.1)
  have e0 := pay0_lnb (part0 m c t) ((part1 m c t).dlnbOf ((outsAt0 m c (t.val - 1) (by omega)).2.2.2.2.2.1))
  rw [← e1] at e0
  rw [← e1]
  simp only [leaves m c t] at e0 ⊢
  exact e0

theorem sink_C (t : Fin cfg0.N) (h0 : ¬t.val % 8 = 0) (h1 : t.val % 8 = 7) (Y : Fin 2 → Fin 1024 → EReal)
    (H0 : ∀ j : Fin 1024, (part0 m c t).sinkOf 0 ((part1 m c t).sinkOf 0 (srow0 ((outsAt0 m c (t.val - 1) (by omega)).2.2.2.2.2.2.2.2.1))) (ix3 0 0 j) = Y 0 j) (H1 : ∀ j : Fin 1024, (part0 m c t).sinkOf 1 ((part1 m c t).sinkOf 1 (srow1 ((outsAt0 m c (t.val - 1) (by omega)).2.2.2.2.2.2.2.2.1))) (ix3 0 0 j) = Y 1 j) :
    (outsAt0 m c t.val t.isLt).2.2.2.2.2.2.2.2.1 = fun y => Y (y 0) (y 2) := by
  rw [outsAt0_C m c t h0 h1]
  frame_out
  try simp (disch := decide) only [↓ View.readCov_skip, ↓ View.readCov_cons_toLoadRect, ↓ View.readCov_fill]
  try simp only [read_unread_whole]
  funext y
  refine (canon_two _ _ _ y (View.cover_of_tiledBy _ ![1, 1, 1024] (by sl_kernel_rfl) y)).trans ?_
  canon_tiles x h using View.cover_of_tiledBy _ ![1, 1, 1024] (by sl_kernel_rfl) y
  · have e1 := pay1_sink1 (part1 m c t) (srow1 ((outsAt0 m c (t.val - 1) (by omega)).2.2.2.2.2.2.2.2.1))
    have e0 := congrFun (pay0_sink1 (part0 m c t) ((part1 m c t).sinkOf 1 (srow1 ((outsAt0 m c (t.val - 1) (by omega)).2.2.2.2.2.2.2.2.1)))) x
    rw [← e1] at e0
    have e2 : (part0 m c t).sinkOf 1 ((part1 m c t).sinkOf 1 (srow1 ((outsAt0 m c (t.val - 1) (by omega)).2.2.2.2.2.2.2.2.1))) x = (part0 m c t).sinkOf 1 ((part1 m c t).sinkOf 1 (srow1 ((outsAt0 m c (t.val - 1) (by omega)).2.2.2.2.2.2.2.2.1))) (ix3 0 0 (x 2)) := congrArg _ (funext fun a => by fin_cases a <;> first | rfl | exact Fin.ext (by show (x 0).val = 0; omega) | exact Fin.ext (by show (x 1).val = 0; omega))
    have e3 : (part0 m c t).sinkOf 1 ((part1 m c t).sinkOf 1 (srow1 ((outsAt0 m c (t.val - 1) (by omega)).2.2.2.2.2.2.2.2.1))) (ix3 0 0 (x 2)) = Y (y 0) (y 2) := (H1 (x 2)).trans (congrArg₂ Y (Fin.ext (by show 1 = (y 0).val; omega)) (Fin.ext (by omega)))
    rw [← e1] at e2 e3
    simp only [leaves m c t] at e0 e2 e3
    exact e0.trans (e2.trans e3)
  · have e1 := pay1_sink0 (part1 m c t) (srow0 ((outsAt0 m c (t.val - 1) (by omega)).2.2.2.2.2.2.2.2.1))
    have e0 := congrFun (pay0_sink0 (part0 m c t) ((part1 m c t).sinkOf 0 (srow0 ((outsAt0 m c (t.val - 1) (by omega)).2.2.2.2.2.2.2.2.1)))) x
    rw [← e1] at e0
    have e2 : (part0 m c t).sinkOf 0 ((part1 m c t).sinkOf 0 (srow0 ((outsAt0 m c (t.val - 1) (by omega)).2.2.2.2.2.2.2.2.1))) x = (part0 m c t).sinkOf 0 ((part1 m c t).sinkOf 0 (srow0 ((outsAt0 m c (t.val - 1) (by omega)).2.2.2.2.2.2.2.2.1))) (ix3 0 0 (x 2)) := congrArg _ (funext fun a => by fin_cases a <;> first | rfl | exact Fin.ext (by show (x 0).val = 0; omega) | exact Fin.ext (by show (x 1).val = 0; omega))
    have e3 : (part0 m c t).sinkOf 0 ((part1 m c t).sinkOf 0 (srow0 ((outsAt0 m c (t.val - 1) (by omega)).2.2.2.2.2.2.2.2.1))) (ix3 0 0 (x 2)) = Y (y 0) (y 2) := (H0 (x 2)).trans (congrArg₂ Y (Fin.ext (by show 0 = (y 0).val; omega)) (Fin.ext (by omega)))
    rw [← e1] at e2 e3
    simp only [leaves m c t] at e0 e2 e3
    exact e0.trans (e2.trans e3)

theorem w_C (t : Fin cfg0.N) (h0 : ¬t.val % 8 = 0) (h1 : t.val % 8 = 7) (Y : Fin 8 → Fin 128 → Fin 128 → EReal)
    (H0 : ∀ i j : Fin 128, (part0 m c t).dwOf 0 ((part1 m c t).dwOf 0 (wrow0 ((outsAt0 m c (t.val - 1) (by omega)).2.2.1))) (ix3 0 i j) = Y 0 i j)
    (H1 : ∀ i j : Fin 128, (part0 m c t).dwOf 1 ((part1 m c t).dwOf 1 (wrow1 ((outsAt0 m c (t.val - 1) (by omega)).2.2.1))) (ix3 0 i j) = Y 1 i j)
    (H2 : ∀ i j : Fin 128, (part0 m c t).dwOf 2 ((part1 m c t).dwOf 2 (wrow2 ((outsAt0 m c (t.val - 1) (by omega)).2.2.1))) (ix3 0 i j) = Y 2 i j)
    (H3 : ∀ i j : Fin 128, (part0 m c t).dwOf 3 ((part1 m c t).dwOf 3 (wrow3 ((outsAt0 m c (t.val - 1) (by omega)).2.2.1))) (ix3 0 i j) = Y 3 i j)
    (H4 : ∀ i j : Fin 128, (part0 m c t).dwOf 4 ((part1 m c t).dwOf 4 (wrow4 ((outsAt0 m c (t.val - 1) (by omega)).2.2.1))) (ix3 0 i j) = Y 4 i j)
    (H5 : ∀ i j : Fin 128, (part0 m c t).dwOf 5 ((part1 m c t).dwOf 5 (wrow5 ((outsAt0 m c (t.val - 1) (by omega)).2.2.1))) (ix3 0 i j) = Y 5 i j)
    (H6 : ∀ i j : Fin 128, (part0 m c t).dwOf 6 ((part1 m c t).dwOf 6 (wrow6 ((outsAt0 m c (t.val - 1) (by omega)).2.2.1))) (ix3 0 i j) = Y 6 i j)
    (H7 : ∀ i j : Fin 128, (part0 m c t).dwOf 7 ((part1 m c t).dwOf 7 (wrow7 ((outsAt0 m c (t.val - 1) (by omega)).2.2.1))) (ix3 0 i j) = Y 7 i j) :
    (outsAt0 m c t.val t.isLt).2.2.1 = fun y => Y (y 0) (y 1) (y 2) := by
  rw [outsAt0_C m c t h0 h1]
  frame_out
  try simp (disch := decide) only [↓ View.readCov_skip, ↓ View.readCov_cons_toLoadRect, ↓ View.readCov_fill]
  try simp only [read_unread_whole]
  funext y
  refine (canon_eight _ _ _ _ _ _ _ _ _ y (View.cover_of_tiledBy _ ![1, 128, 128] (by sl_kernel_rfl) y)).trans ?_
  canon_tiles x h using View.cover_of_tiledBy _ ![1, 128, 128] (by sl_kernel_rfl) y
  · have e1 := pay1_w7 (part1 m c t) (wrow7 ((outsAt0 m c (t.val - 1) (by omega)).2.2.1))
    have e0 := congrFun (pay0_w7 (part0 m c t) ((part1 m c t).dwOf 7 (wrow7 ((outsAt0 m c (t.val - 1) (by omega)).2.2.1)))) x
    rw [← e1] at e0
    have e2 : (part0 m c t).dwOf 7 ((part1 m c t).dwOf 7 (wrow7 ((outsAt0 m c (t.val - 1) (by omega)).2.2.1))) x = (part0 m c t).dwOf 7 ((part1 m c t).dwOf 7 (wrow7 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 7 ((part1 m c t).dwOf 7 (wrow7 ((outsAt0 m c (t.val - 1) (by omega)).2.2.1))) (ix3 0 (x 1) (x 2)) = Y (y 0) (y 1) (y 2) := (H7 (x 1) (x 2)).trans (congr (congrArg₂ Y (Fin.ext (by show 7 = (y 0).val; omega)) (Fin.ext (by omega))) (Fin.ext (by omega)))
    rw [← e1] at e2 e3
    simp only [leaves m c t] at e0 e2 e3
    exact e0.trans (e2.trans e3)
  · have e1 := pay1_w6 (part1 m c t) (wrow6 ((outsAt0 m c (t.val - 1) (by omega)).2.2.1))
    have e0 := congrFun (pay0_w6 (part0 m c t) ((part1 m c t).dwOf 6 (wrow6 ((outsAt0 m c (t.val - 1) (by omega)).2.2.1)))) x
    rw [← e1] at e0
    have e2 : (part0 m c t).dwOf 6 ((part1 m c t).dwOf 6 (wrow6 ((outsAt0 m c (t.val - 1) (by omega)).2.2.1))) x = (part0 m c t).dwOf 6 ((part1 m c t).dwOf 6 (wrow6 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 6 ((part1 m c t).dwOf 6 (wrow6 ((outsAt0 m c (t.val - 1) (by omega)).2.2.1))) (ix3 0 (x 1) (x 2)) = Y (y 0) (y 1) (y 2) := (H6 (x 1) (x 2)).trans (congr (congrArg₂ Y (Fin.ext (by show 6 = (y 0).val; omega)) (Fin.ext (by omega))) (Fin.ext (by omega)))
    rw [← e1] at e2 e3
    simp only [leaves m c t] at e0 e2 e3
    exact e0.trans (e2.trans e3)
  · have e1 := pay1_w5 (part1 m c t) (wrow5 ((outsAt0 m c (t.val - 1) (by omega)).2.2.1))
    have e0 := congrFun (pay0_w5 (part0 m c t) ((part1 m c t).dwOf 5 (wrow5 ((outsAt0 m c (t.val - 1) (by omega)).2.2.1)))) x
    rw [← e1] at e0
    have e2 : (part0 m c t).dwOf 5 ((part1 m c t).dwOf 5 (wrow5 ((outsAt0 m c (t.val - 1) (by omega)).2.2.1))) x = (part0 m c t).dwOf 5 ((part1 m c t).dwOf 5 (wrow5 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 5 ((part1 m c t).dwOf 5 (wrow5 ((outsAt0 m c (t.val - 1) (by omega)).2.2.1))) (ix3 0 (x 1) (x 2)) = Y (y 0) (y 1) (y 2) := (H5 (x 1) (x 2)).trans (congr (congrArg₂ Y (Fin.ext (by show 5 = (y 0).val; omega)) (Fin.ext (by omega))) (Fin.ext (by omega)))
    rw [← e1] at e2 e3
    simp only [leaves m c t] at e0 e2 e3
    exact e0.trans (e2.trans e3)
  · have e1 := pay1_w4 (part1 m c t) (wrow4 ((outsAt0 m c (t.val - 1) (by omega)).2.2.1))
    have e0 := congrFun (pay0_w4 (part0 m c t) ((part1 m c t).dwOf 4 (wrow4 ((outsAt0 m c (t.val - 1) (by omega)).2.2.1)))) x
    rw [← e1] at e0
    have e2 : (part0 m c t).dwOf 4 ((part1 m c t).dwOf 4 (wrow4 ((outsAt0 m c (t.val - 1) (by omega)).2.2.1))) x = (part0 m c t).dwOf 4 ((part1 m c t).dwOf 4 (wrow4 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 4 ((part1 m c t).dwOf 4 (wrow4 ((outsAt0 m c (t.val - 1) (by omega)).2.2.1))) (ix3 0 (x 1) (x 2)) = Y (y 0) (y 1) (y 2) := (H4 (x 1) (x 2)).trans (congr (congrArg₂ Y (Fin.ext (by show 4 = (y 0).val; omega)) (Fin.ext (by omega))) (Fin.ext (by omega)))
    rw [← e1] at e2 e3
    simp only [leaves m c t] at e0 e2 e3
    exact e0.trans (e2.trans e3)
  · have e1 := pay1_w3 (part1 m c t) (wrow3 ((outsAt0 m c (t.val - 1) (by omega)).2.2.1))
    have e0 := congrFun (pay0_w3 (part0 m c t) ((part1 m c t).dwOf 3 (wrow3 ((outsAt0 m c (t.val - 1) (by omega)).2.2.1)))) x
    rw [← e1] at e0
    have e2 : (part0 m c t).dwOf 3 ((part1 m c t).dwOf 3 (wrow3 ((outsAt0 m c (t.val - 1) (by omega)).2.2.1))) x = (part0 m c t).dwOf 3 ((part1 m c t).dwOf 3 (wrow3 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 3 ((part1 m c t).dwOf 3 (wrow3 ((outsAt0 m c (t.val - 1) (by omega)).2.2.1))) (ix3 0 (x 1) (x 2)) = Y (y 0) (y 1) (y 2) := (H3 (x 1) (x 2)).trans (congr (congrArg₂ Y (Fin.ext (by show 3 = (y 0).val; omega)) (Fin.ext (by omega))) (Fin.ext (by omega)))
    rw [← e1] at e2 e3
    simp only [leaves m c t] at e0 e2 e3
    exact e0.trans (e2.trans e3)
  · have e1 := pay1_w2 (part1 m c t) (wrow2 ((outsAt0 m c (t.val - 1) (by omega)).2.2.1))
    have e0 := congrFun (pay0_w2 (part0 m c t) ((part1 m c t).dwOf 2 (wrow2 ((outsAt0 m c (t.val - 1) (by omega)).2.2.1)))) x
    rw [← e1] at e0
    have e2 : (part0 m c t).dwOf 2 ((part1 m c t).dwOf 2 (wrow2 ((outsAt0 m c (t.val - 1) (by omega)).2.2.1))) x = (part0 m c t).dwOf 2 ((part1 m c t).dwOf 2 (wrow2 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 2 ((part1 m c t).dwOf 2 (wrow2 ((outsAt0 m c (t.val - 1) (by omega)).2.2.1))) (ix3 0 (x 1) (x 2)) = Y (y 0) (y 1) (y 2) := (H2 (x 1) (x 2)).trans (congr (congrArg₂ Y (Fin.ext (by show 2 = (y 0).val; omega)) (Fin.ext (by omega))) (Fin.ext (by omega)))
    rw [← e1] at e2 e3
    simp only [leaves m c t] at e0 e2 e3
    exact e0.trans (e2.trans e3)
  · have e1 := pay1_w1 (part1 m c t) (wrow1 ((outsAt0 m c (t.val - 1) (by omega)).2.2.1))
    have e0 := congrFun (pay0_w1 (part0 m c t) ((part1 m c t).dwOf 1 (wrow1 ((outsAt0 m c (t.val - 1) (by omega)).2.2.1)))) x
    rw [← e1] at e0
    have e2 : (part0 m c t).dwOf 1 ((part1 m c t).dwOf 1 (wrow1 ((outsAt0 m c (t.val - 1) (by omega)).2.2.1))) x = (part0 m c t).dwOf 1 ((part1 m c t).dwOf 1 (wrow1 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 1 ((part1 m c t).dwOf 1 (wrow1 ((outsAt0 m c (t.val - 1) (by omega)).2.2.1))) (ix3 0 (x 1) (x 2)) = Y (y 0) (y 1) (y 2) := (H1 (x 1) (x 2)).trans (congr (congrArg₂ Y (Fin.ext (by show 1 = (y 0).val; omega)) (Fin.ext (by omega))) (Fin.ext (by omega)))
    rw [← e1] at e2 e3
    simp only [leaves m c t] at e0 e2 e3
    exact e0.trans (e2.trans e3)
  · have e1 := pay1_w0 (part1 m c t) (wrow0 ((outsAt0 m c (t.val - 1) (by omega)).2.2.1))
    have e0 := congrFun (pay0_w0 (part0 m c t) ((part1 m c t).dwOf 0 (wrow0 ((outsAt0 m c (t.val - 1) (by omega)).2.2.1)))) x
    rw [← e1] at e0
    have e2 : (part0 m c t).dwOf 0 ((part1 m c t).dwOf 0 (wrow0 ((outsAt0 m c (t.val - 1) (by omega)).2.2.1))) x = (part0 m c t).dwOf 0 ((part1 m c t).dwOf 0 (wrow0 ((outsAt0 m c (t.val - 1) (by omega)).2.2.1))) (ix3 0 (x 1) (x 2)) := congrArg _ (funext fun a => by fin_cases a <;> first | rfl | exact Fin.ext (by show (x 0).val = 0; omega) | exact Fin.ext (by show (x 1).val = 0; omega))
    have e3 : (part0 m c t).dwOf 0 ((part1 m c t).dwOf 0 (wrow0 ((outsAt0 m c (t.val - 1) (by omega)).2.2.1))) (ix3 0 (x 1) (x 2)) = Y (y 0) (y 1) (y 2) := (H0 (x 1) (x 2)).trans (congr (congrArg₂ Y (Fin.ext (by show 0 = (y 0).val; omega)) (Fin.ext (by omega))) (Fin.ext (by omega)))
    rw [← e1] at e2 e3
    simp only [leaves m c t] at e0 e2 e3
    exact e0.trans (e2.trans e3)

end Cert.Kernel3Ideal.Tiles
end
-- ==== Proof.MixerTail.lean ====
/-
  What a step of the mixer's backward pass writes besides its running sums.
-/
module

public import proofs.«01_k».proof.Proof.MixerSums

@[expose] public section

set_option maxRecDepth 65536
set_option maxHeartbeats 4000000
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Reals Cert.MixerMath Cert.Kernel3Ideal Cert.Kernel3Ideal.Gen

variable (m : (ℓ : Loc nD τ sig) → Buf (Elt Ideal) ℓ) (c : Dev nD)

theorem wOut_at (a : FVec Ideal S2048x256 .bf16) (b : FVec Ideal S2048x2048 .bf16) (p : Fin 256) (l : Fin 2048) :
    k0_pay20 a b (ix2 p l) = ∑ i : Fin 2048, a (ix2 i p) * b (ix2 i l) := by
  pointwise [k0_pay20]

theorem bias_at (a : FVec Ideal S128x128 .f32) (p : Fin 8) (l : Fin 128) : k0_pay5 a (ix2 p l) = a (ix2 l ⟨p.val, by omega⟩) := by
  pointwise [k0_pay5]

/-- One lane of the vector of the heads' sums. -/
theorem lane_at (l : Fin 128) (k : ℕ) (hk : k < 128) (x : EReal) :
    Scalar.select (IntOp.cmpi .eq (BitVec.ofNat 32 l.val) (BitVec.ofNat 32 k)) x (0 : EReal) = if l.val = k then x else 0 := by
  have e : (BitVec.ofNat 32 l.val = BitVec.ofNat 32 k) ↔ l.val = k := by
    constructor
    · intro h
      have := congrArg BitVec.toNat h
      simp only [BitVec.toNat_ofNat] at this
      omega
    · exact fun h => by rw [h]
  unfold Scalar.select IntOp.cmpi
  by_cases h : l.val = k
  · rw [if_pos h]
    simp [h]
  · rw [if_neg h]
    have e2 : (BitVec.ofNat 32 l.val == BitVec.ofNat 32 k) = false := by
      simpa only [beq_eq_false_iff_ne, ne_eq] using fun h2 => h (e.mp h2)
    simp only [e2]
    rfl

/-- The sums of the heads, each in its own lane. -/
def lanes (a b : FVec Ideal S1x1x1024 .f32) : FVec Ideal S1x128 .f32 :=
  k0_pay4 (iota .tc S1x128 32 [1] iota_S1x128_d1_w32) (k0_pay11 b) (k0_pay12 (iota .tc S1x128 32 [1] iota_S1x128_d1_w32) (k0_pay9 (iota .tc S1x128 32 [1] iota_S1x128_d1_w32) (k0_pay6 a) (k0_pay7 a) (k0_pay8 a)) (k0_pay10 (iota .tc S1x128 32 [1] iota_S1x128_d1_w32) (k0_pay6 a)) b) (k0_pay13 b)

theorem lanes_at (a b : FVec Ideal S1x1x1024 .f32) (Y : Fin 2 → Fin 1024 → ℝ) (ha : ∀ j, a (ix3 0 0 j) = ((Y 0 j : ℝ) : EReal)) (hb : ∀ j, b (ix3 0 0 j) = ((Y 1 j : ℝ) : EReal))
    (l : Fin 128) : lanes a b (ix2 0 l) = if h : l.val < 16 then ((∑ t : Fin 128, Y ⟨l.val / 8, by omega⟩ ⟨128 * (l.val % 8) + t.val, by omega⟩ : ℝ) : EReal) else 0 := by
  pointwise [lanes, k0_pay4, k0_pay6, k0_pay7, k0_pay8, k0_pay9, k0_pay10, k0_pay11, k0_pay12, k0_pay13]
  simp only [lane_at l 0 (by decide), lane_at l 1 (by decide), lane_at l 2 (by decide), lane_at l 3 (by decide), lane_at l 4 (by decide), lane_at l 5 (by decide), lane_at l 6 (by decide), lane_at l 7 (by decide), lane_at l 8 (by decide), lane_at l 9 (by decide), lane_at l 10 (by decide), lane_at l 11 (by decide), lane_at l 12 (by decide), lane_at l 13 (by decide), lane_at l 14 (by decide), lane_at l 15 (by decide), ha, hb, coe_sum]
  obtain ⟨l, hl⟩ := l
  by_cases h : l < 16
  · rw [dif_pos h]
    interval_cases l
    all_goals
      simp only [Nat.reduceEqDiff, reduceIte, zero_add, add_zero, OfNat.ofNat_ne_zero, OfNat.zero_ne_ofNat, OfNat.one_ne_ofNat, OfNat.ofNat_ne_one, one_ne_zero, zero_ne_one]
      refine congrArg Real.toEReal (Finset.sum_congr rfl fun t _ => ?_)
      refine congrArg₂ Y (Fin.ext (by norm_num)) (Fin.ext ?_)
      norm_num
  · rw [dif_neg h]
    simp only [if_neg (show ¬l = 0 by omega), if_neg (show ¬l = 1 by omega), if_neg (show ¬l = 2 by omega), if_neg (show ¬l = 3 by omega), if_neg (show ¬l = 4 by omega), if_neg (show ¬l = 5 by omega), if_neg (show ¬l = 6 by omega), if_neg (show ¬l = 7 by omega), if_neg (show ¬l = 8 by omega), if_neg (show ¬l = 9 by omega), if_neg (show ¬l = 10 by omega), if_neg (show ¬l = 11 by omega), if_neg (show ¬l = 12 by omega), if_neg (show ¬l = 13 by omega), if_neg (show ¬l = 14 by omega), if_neg (show ¬l = 15 by omega), add_zero]

theorem dw_out_A (t : Fin cfg0.N) (h0 : t.val % 8 = 0) (h1 : ¬t.val % 8 = 7) :
    (outsAt0 m c t.val t.isLt).2.2.2.2.2.2.1 = k0_pay20 (iblk m c 10 t) (iblk m c 11 t) := by
  rw [outsAt0_A m c t h0 h1]
  frame_out
  try simp only [read_unread_whole]

theorem dw_out_B (t : Fin cfg0.N) (h0 : ¬t.val % 8 = 0) (h1 : ¬t.val % 8 = 7) :
    (outsAt0 m c t.val t.isLt).2.2.2.2.2.2.1 = k0_pay20 (iblk m c 10 t) (iblk m c 11 t) := by
  rw [outsAt0_B m c t h0 h1]
  frame_out
  try simp only [read_unread_whole]

theorem dw_out_C (t : Fin cfg0.N) (h0 : ¬t.val % 8 = 0) (h1 : t.val % 8 = 7) :
    (outsAt0 m c t.val t.isLt).2.2.2.2.2.2.1 = k0_pay20 (iblk m c 10 t) (iblk m c 11 t) := by
  rw [outsAt0_C m c t h0 h1]
  frame_out
  try simp only [read_unread_whole]

theorem bias_C (t : Fin cfg0.N) (h0 : ¬t.val % 8 = 0) (h1 : t.val % 8 = 7) :
    (outsAt0 m c t.val t.isLt).2.2.2.1 = k0_pay5 ((outsAt0 m c t.val t.isLt).2.2.2.2.2.2.2.2.2) := by
  rw [outsAt0_C m c t h0 h1]
  frame_out
  try simp (disch := decide) only [↓ View.readCov_skip, ↓ View.readCov_cons_toLoadRect, ↓ View.readCov_fill]
  try simp only [read_unread_whole]

theorem heads_C (t : Fin cfg0.N) (h0 : ¬t.val % 8 = 0) (h1 : t.val % 8 = 7) (Y : Fin 2 → Fin 1024 → EReal)
    (H0 : ∀ j : Fin 1024, (part0 m c t).sinkOf 0 ((part1 m c t).sinkOf 0 (srow0 ((outsAt0 m c (t.val - 1) (by omega)).2.2.2.2.2.2.2.2.1))) (ix3 0 0 j) = Y 0 j) (H1 : ∀ j : Fin 1024, (part0 m c t).sinkOf 1 ((part1 m c t).sinkOf 1 (srow1 ((outsAt0 m c (t.val - 1) (by omega)).2.2.2.2.2.2.2.2.1))) (ix3 0 0 j) = Y 1 j) :
    ∃ a b : FVec Ideal S1x1x1024 .f32, (∀ j, a (ix3 0 0 j) = Y 0 j) ∧ (∀ j, b (ix3 0 0 j) = Y 1 j) ∧
      (outsAt0 m c t.val t.isLt).2.1 = lanes a b := by
  refine ⟨_, _, H0, H1, ?_⟩
  rw [outsAt0_C m c t h0 h1]
  frame_out
  try simp (disch := decide) only [↓ View.readCov_skip, ↓ View.readCov_cons_toLoadRect, ↓ View.readCov_fill]
  try simp only [read_unread_whole]
  have f0 := pay1_sink0 (part1 m c t) (srow0 ((outsAt0 m c (t.val - 1) (by omega)).2.2.2.2.2.2.2.2.1))
  have e0 := (pay0_sink0 (part0 m c t) ((part1 m c t).sinkOf 0 (srow0 ((outsAt0 m c (t.val - 1) (by omega)).2.2.2.2.2.2.2.2.1))))
  rw [← f0] at e0
  simp only [leaves m c t] at e0
  have f1 := pay1_sink1 (part1 m c t) (srow1 ((outsAt0 m c (t.val - 1) (by omega)).2.2.2.2.2.2.2.2.1))
  have e1 := (pay0_sink1 (part0 m c t) ((part1 m c t).sinkOf 1 (srow1 ((outsAt0 m c (t.val - 1) (by omega)).2.2.2.2.2.2.2.2.1))))
  rw [← f1] at e1
  simp only [leaves m c t] at e1
  skip
  exact congrArg₂ lanes e0 e1

end Cert.Kernel3Ideal.Tiles
end
-- ==== Proof.MixerHost.lean ====
module

public import proofs.«01_k».proof.Proof.MixerStep

@[expose] public section

set_option maxRecDepth 16384
set_option backward.proofsInPublic true
noncomputable section
namespace Cert.Kernel3Ideal.Host
open Idealize.ShloMosaic Idealize.ShloMosaic.TcCoe Idealize.SL.Sem Cert.Kernel3Ideal Cert.Kernel3Ideal.Gen

/-! The values of the lines before the kernel's call, as functions of the arguments, in the order of the lines: the
    saved probabilities, the saved product the output projection read, the transposed weights and biases. -/

def hv0 (x4 : FVec Ideal S1x8x128x128 .f32) : FVec Ideal S8x128x128 .f32 :=
  shapeCast S8x128x128 x4 shapeCasts_S1x8x128x128_S8x128x128

def hv1 (x5 : FVec Ideal S1x8x128 .f32) : FVec Ideal S8x128 .f32 :=
  shapeCast S8x128 x5 shapeCasts_S1x8x128_S8x128

def hv2 (x0 : FVec Ideal S2048x5376 .f32) : FVec Ideal S2048x1024 .f32 :=
  extractStridedSlice S2048x1024 ![0, 0] x0 slices_S2048x5376_S2048x1024_0_0

def hv3 (x0 : FVec Ideal S2048x5376 .f32) : FVec Ideal S16x128x2x8x64 .f32 :=
  shapeCast S16x128x2x8x64 (hv2 x0) shapeCasts_S2048x1024_S16x128x2x8x64

def hv4 (x0 : FVec Ideal S2048x5376 .f32) : FVec Ideal S2048x256 .f32 :=
  extractStridedSlice S2048x256 ![0, 1024] x0 slices_S2048x5376_S2048x256_0_1024

def hv5 (x0 : FVec Ideal S2048x5376 .f32) : FVec Ideal S16x128x2x2x64 .f32 :=
  shapeCast S16x128x2x2x64 (hv4 x0) shapeCasts_S2048x256_S16x128x2x2x64

def hcst : FVec Ideal S_ .f32 :=
  constant S_ .f32 0x00000000#32

def hv6 : FVec Ideal S1x128x2x2x64 .f32 :=
  broadcastInDim S1x128x2x2x64 ![] bcast_S_S1x128x2x2x64 hcst

def hv7 (x0 : FVec Ideal S2048x5376 .f32) : FVec Ideal S15x128x2x2x64 .f32 :=
  extractStridedSlice S15x128x2x2x64 ![0, 0, 0, 0, 0] (hv5 x0) slices_S16x128x2x2x64_S15x128x2x2x64_0_0_0_0_0

def hv8 (x0 : FVec Ideal S2048x5376 .f32) : FVec Ideal S16x128x2x2x64 .f32 :=
  concatenate S16x128x2x2x64 0 [⟨S1x128x2x2x64, hv6⟩, ⟨S15x128x2x2x64, (hv7 x0)⟩] concatenates_S1x128x2x2x64_S15x128x2x2x64_S16x128x2x2x64_d0

def hv9 (x0 : FVec Ideal S2048x5376 .f32) : FVec Ideal S16x256x2x2x64 .f32 :=
  concatenate S16x256x2x2x64 1 [⟨S16x128x2x2x64, (hv8 x0)⟩, ⟨S16x128x2x2x64, (hv5 x0)⟩] concatenates_S16x128x2x2x64_S16x128x2x2x64_S16x256x2x2x64_d1

def hv10 (x0 : FVec Ideal S2048x5376 .f32) : FVec Ideal S16x256x1x2x64 .f32 :=
  extractStridedSlice S16x256x1x2x64 ![0, 0, 0, 0, 0] (hv9 x0) slices_S16x256x2x2x64_S16x256x1x2x64_0_0_0_0_0

def hv11 (x0 : FVec Ideal S2048x5376 .f32) : FVec Ideal S16x256x2x64 .f32 :=
  shapeCast S16x256x2x64 (hv10 x0) shapeCasts_S16x256x1x2x64_S16x256x2x64

def hv12 (x0 : FVec Ideal S2048x5376 .f32) : FVec Ideal S16x256x1x2x64 .f32 :=
  extractStridedSlice S16x256x1x2x64 ![0, 0, 1, 0, 0] (hv9 x0) slices_S16x256x2x2x64_S16x256x1x2x64_0_0_1_0_0

def hv13 (x0 : FVec Ideal S2048x5376 .f32) : FVec Ideal S16x256x2x64 .f32 :=
  shapeCast S16x256x2x64 (hv12 x0) shapeCasts_S16x256x1x2x64_S16x256x2x64

def hv14 (x0 : FVec Ideal S2048x5376 .f32) : FVec Ideal S16x2x256x128x8 .f32 :=
  Host.dotGeneral dot_S16x256x2x64_S16x128x2x8x64_S16x2x256x128x8_3_4_1_13_02_02 none (hv11 x0) (hv3 x0)

def hv15 (x0 : FVec Ideal S2048x5376 .f32) : FVec Ideal S16x2x8x128x256 .f32 :=
  transpose S16x2x8x128x256 [0, 1, 4, 3, 2] (hv14 x0) transposes_S16x2x256x128x8_S16x2x8x128x256_0_1_4_3_2

def hcst_0 : FVec Ideal S_ .f32 :=
  constant S_ .f32 0x3E000000#32

def hv16 : FVec Ideal S16x2x8x128x256 .f32 :=
  broadcastInDim S16x2x8x128x256 ![] bcast_S_S16x2x8x128x256 hcst_0

def hv17 (x0 : FVec Ideal S2048x5376 .f32) : FVec Ideal S16x2x8x128x256 .f32 :=
  mulf (hv15 x0) hv16

def hv18 : (⟨S16x2x8x128x256, .i32⟩ : BufTy).Contents (Elt Ideal) :=
  iotaInDim S16x2x8x128x256 32 0

def hv19 : (⟨S16x2x8x128x256, .i32⟩ : BufTy).Contents (Elt Ideal) :=
  iotaInDim S16x2x8x128x256 32 3

def hv20 : (⟨S16x2x8x128x256, .i32⟩ : BufTy).Contents (Elt Ideal) :=
  iotaInDim S16x2x8x128x256 32 4

def hc : (⟨S_, .i32⟩ : BufTy).Contents (Elt Ideal) :=
  constantI S_ 32 128#32

def hv21 : (⟨S16x2x8x128x256, .i32⟩ : BufTy).Contents (Elt Ideal) :=
  broadcastInDim S16x2x8x128x256 ![] bcast_S_S16x2x8x128x256 hc

def hv22 : (⟨S16x2x8x128x256, .i1⟩ : BufTy).Contents (Elt Ideal) :=
  cmpi .sgt hv20 hv19

def hv23 : (⟨S16x2x8x128x256, .i32⟩ : BufTy).Contents (Elt Ideal) :=
  addi hv19 hv21

def hv24 : (⟨S16x2x8x128x256, .i1⟩ : BufTy).Contents (Elt Ideal) :=
  cmpi .sle hv20 hv23

def hv25 : (⟨S16x2x8x128x256, .i1⟩ : BufTy).Contents (Elt Ideal) :=
  andi hv22 hv24

def hc_1 : (⟨S_, .i32⟩ : BufTy).Contents (Elt Ideal) :=
  constantI S_ 32 0#32

def hv26 : (⟨S16x2x8x128x256, .i32⟩ : BufTy).Contents (Elt Ideal) :=
  broadcastInDim S16x2x8x128x256 ![] bcast_S_S16x2x8x128x256 hc_1

def hv27 : (⟨S16x2x8x128x256, .i1⟩ : BufTy).Contents (Elt Ideal) :=
  cmpi .sgt hv18 hv26

def hv28 : (⟨S16x2x8x128x256, .i1⟩ : BufTy).Contents (Elt Ideal) :=
  cmpi .sge hv20 hv21

def hv29 : (⟨S16x2x8x128x256, .i1⟩ : BufTy).Contents (Elt Ideal) :=
  ori hv27 hv28

def hv30 : (⟨S16x2x8x128x256, .i1⟩ : BufTy).Contents (Elt Ideal) :=
  andi hv25 hv29

def hcst_2 : FVec Ideal S_ .f32 :=
  constant S_ .f32 0xFF800000#32

def hv31 : FVec Ideal S16x2x8x128x256 .f32 :=
  broadcastInDim S16x2x8x128x256 ![] bcast_S_S16x2x8x128x256 hcst_2

def hv32 (x0 : FVec Ideal S2048x5376 .f32) : FVec Ideal S16x2x8x128x256 .f32 :=
  select hv30 (hv17 x0) hv31

def hv33 (x1 : FVec Ideal S1x16 .f32) : FVec Ideal S2x8 .f32 :=
  shapeCast S2x8 x1 shapeCasts_S1x16_S2x8

def hv34 (x1 : FVec Ideal S1x16 .f32) : FVec Ideal S16x2x8x128x1 .f32 :=
  broadcastInDim S16x2x8x128x1 ![1, 2] bcast_S2x8_S16x2x8x128x1_1_2 (hv33 x1)

def hv35 (x0 : FVec Ideal S2048x5376 .f32) (x1 : FVec Ideal S1x16 .f32) : FVec Ideal S16x2x8x128x257 .f32 :=
  concatenate S16x2x8x128x257 4 [⟨S16x2x8x128x256, (hv32 x0)⟩, ⟨S16x2x8x128x1, (hv34 x1)⟩] concatenates_S16x2x8x128x256_S16x2x8x128x1_S16x2x8x128x257_d4

def hcst_3 : FVec Ideal S_ .f32 :=
  constant S_ .f32 0xFF800000#32

def hv36 (x0 : FVec Ideal S2048x5376 .f32) (x1 : FVec Ideal S1x16 .f32) : FVec Ideal S16x2x8x128 .f32 :=
  Host.reduce FloatOps.maximumf (hv35 x0 x1) hcst_3 reducesTo_S16x2x8x128x257_S16x2x8x128_d4 h_S_

def hv37 (x0 : FVec Ideal S2048x5376 .f32) (x1 : FVec Ideal S1x16 .f32) : FVec Ideal S16x2x8x128x257 .f32 :=
  broadcastInDim S16x2x8x128x257 ![0, 1, 2, 3] bcast_S16x2x8x128_S16x2x8x128x257_0_1_2_3 (hv36 x0 x1)

def hv38 (x0 : FVec Ideal S2048x5376 .f32) (x1 : FVec Ideal S1x16 .f32) : FVec Ideal S16x2x8x128x257 .f32 :=
  subf (hv35 x0 x1) (hv37 x0 x1)

def hv39 (x0 : FVec Ideal S2048x5376 .f32) (x1 : FVec Ideal S1x16 .f32) : FVec Ideal S16x2x8x128x257 .f32 :=
  Host.exp (hv38 x0 x1)

def hcst_4 : FVec Ideal S_ .f32 :=
  constant S_ .f32 0x00000000#32

def hv40 (x0 : FVec Ideal S2048x5376 .f32) (x1 : FVec Ideal S1x16 .f32) : FVec Ideal S16x2x8x128 .f32 :=
  Host.reduceAdd (hv39 x0 x1) hcst_4 reducesTo_S16x2x8x128x257_S16x2x8x128_d4 h_S_

def hv41 (x0 : FVec Ideal S2048x5376 .f32) (x1 : FVec Ideal S1x16 .f32) : FVec Ideal S16x2x8x128x257 .f32 :=
  broadcastInDim S16x2x8x128x257 ![0, 1, 2, 3] bcast_S16x2x8x128_S16x2x8x128x257_0_1_2_3 (hv40 x0 x1)

def hv42 (x0 : FVec Ideal S2048x5376 .f32) (x1 : FVec Ideal S1x16 .f32) : FVec Ideal S16x2x8x128x257 .f32 :=
  Host.divf (hv39 x0 x1) (hv41 x0 x1)

def hv43 (x0 : FVec Ideal S2048x5376 .f32) (x1 : FVec Ideal S1x16 .f32) : FVec Ideal S16x2x8x128x256 .f32 :=
  extractStridedSlice S16x2x8x128x256 ![0, 0, 0, 0, 0] (hv42 x0 x1) slices_S16x2x8x128x257_S16x2x8x128x256_0_0_0_0_0

def hv44 (x0 : FVec Ideal S2048x5376 .f32) (x1 : FVec Ideal S1x16 .f32) : FVec Ideal S16x2x8x128x1 .f32 :=
  extractStridedSlice S16x2x8x128x1 ![0, 0, 0, 0, 256] (hv42 x0 x1) slices_S16x2x8x128x257_S16x2x8x128x1_0_0_0_0_256

def hv45 (x0 : FVec Ideal S2048x5376 .f32) (x1 : FVec Ideal S1x16 .f32) : FVec Ideal S16x2x64x8x128 .f32 :=
  Host.dotGeneral dot_S16x256x2x64_S16x2x8x128x256_S16x2x64x8x128_1_4_3_23_02_01 none (hv13 x0) (hv43 x0 x1)

def hv46 (x0 : FVec Ideal S2048x5376 .f32) (x1 : FVec Ideal S1x16 .f32) : FVec Ideal S16x128x2x8x64 .f32 :=
  transpose S16x128x2x8x64 [0, 4, 1, 3, 2] (hv45 x0 x1) transposes_S16x2x64x8x128_S16x128x2x8x64_0_4_1_3_2

def hv47 (x0 : FVec Ideal S2048x5376 .f32) (x1 : FVec Ideal S1x16 .f32) : FVec Ideal S2048x1024 .f32 :=
  shapeCast S2048x1024 (hv46 x0 x1) shapeCasts_S16x128x2x8x64_S2048x1024

def hv48 (x0 : FVec Ideal S2048x5376 .f32) : FVec Ideal S2048x1024 .f32 :=
  extractStridedSlice S2048x1024 ![0, 3328] x0 slices_S2048x5376_S2048x1024_0_3328

def hcst_5 : FVec Ideal S_ .f32 :=
  constant S_ .f32 0x44800000#32

def hv49 : FVec Ideal S2048 .f32 :=
  broadcastInDim S2048 ![] bcast_S_S2048 hcst_5

def hcst_6 : FVec Ideal S_ .f32 :=
  constant S_ .f32 0x00000000#32

def hv50 (x0 : FVec Ideal S2048x5376 .f32) : FVec Ideal S2048 .f32 :=
  Host.reduceAdd (hv48 x0) hcst_6 reducesTo_S2048x1024_S2048_d1 h_S_

def hv51 (x0 : FVec Ideal S2048x5376 .f32) : FVec Ideal S2048 .f32 :=
  Host.divf (hv50 x0) hv49

def hv52 (x0 : FVec Ideal S2048x5376 .f32) : FVec Ideal S2048x1024 .f32 :=
  broadcastInDim S2048x1024 ![0] bcast_S2048_S2048x1024_0 (hv51 x0)

def hv53 (x0 : FVec Ideal S2048x5376 .f32) : FVec Ideal S2048x1024 .f32 :=
  subf (hv48 x0) (hv52 x0)

def hv54 (x0 : FVec Ideal S2048x5376 .f32) : FVec Ideal S2048x1024 .f32 :=
  mulf (hv53 x0) (hv53 x0)

def hcst_7 : FVec Ideal S_ .f32 :=
  constant S_ .f32 0x00000000#32

def hv55 (x0 : FVec Ideal S2048x5376 .f32) : FVec Ideal S2048 .f32 :=
  Host.reduceAdd (hv54 x0) hcst_7 reducesTo_S2048x1024_S2048_d1 h_S_

def hv56 (x0 : FVec Ideal S2048x5376 .f32) : FVec Ideal S2048 .f32 :=
  Host.divf (hv55 x0) hv49

def hcst_8 : FVec Ideal S_ .f32 :=
  constant S_ .f32 0x358637BD#32

def hv57 : FVec Ideal S2048 .f32 :=
  broadcastInDim S2048 ![] bcast_S_S2048 hcst_8

def hv58 (x0 : FVec Ideal S2048x5376 .f32) : FVec Ideal S2048 .f32 :=
  addf (hv56 x0) hv57

def hv59 (x0 : FVec Ideal S2048x5376 .f32) : FVec Ideal S2048 .f32 :=
  Host.rsqrt (hv58 x0)

def hv60 (x0 : FVec Ideal S2048x5376 .f32) : FVec Ideal S2048x1024 .f32 :=
  broadcastInDim S2048x1024 ![0] bcast_S2048_S2048x1024_0 (hv59 x0)

def hv61 (x0 : FVec Ideal S2048x5376 .f32) : FVec Ideal S2048x1024 .f32 :=
  mulf (hv53 x0) (hv60 x0)

def hv62 (x2 : FVec Ideal S1x1024 .f32) : FVec Ideal S2048x1024 .f32 :=
  broadcastInDim S2048x1024 ![0, 1] bcast_S1x1024_S2048x1024_0_1 x2

def hv63 (x0 : FVec Ideal S2048x5376 .f32) (x2 : FVec Ideal S1x1024 .f32) : FVec Ideal S2048x1024 .f32 :=
  mulf (hv61 x0) (hv62 x2)

def hv64 (x3 : FVec Ideal S1x1024 .f32) : FVec Ideal S2048x1024 .f32 :=
  broadcastInDim S2048x1024 ![0, 1] bcast_S1x1024_S2048x1024_0_1 x3

def hv65 (x0 : FVec Ideal S2048x5376 .f32) (x2 : FVec Ideal S1x1024 .f32) (x3 : FVec Ideal S1x1024 .f32) : FVec Ideal S2048x1024 .f32 :=
  addf (hv63 x0 x2) (hv64 x3)

def hv66 : (⟨S8x128x128, .i32⟩ : BufTy).Contents (Elt Ideal) :=
  iotaInDim S8x128x128 32 1

def hv67 : (⟨S8x128x128, .i32⟩ : BufTy).Contents (Elt Ideal) :=
  iotaInDim S8x128x128 32 2

def hv68 : (⟨S8x128x128, .i1⟩ : BufTy).Contents (Elt Ideal) :=
  cmpi .sge hv66 hv67

def hcst_9 : FVec Ideal S_ .f32 :=
  constant S_ .f32 0x00000000#32

def hv69 : FVec Ideal S8x128x128 .f32 :=
  broadcastInDim S8x128x128 ![] bcast_S_S8x128x128 hcst_9

def hv70 (x4 : FVec Ideal S1x8x128x128 .f32) : FVec Ideal S8x128x128 .f32 :=
  select hv68 (hv0 x4) hv69

def hv71 (x0 : FVec Ideal S2048x5376 .f32) (x2 : FVec Ideal S1x1024 .f32) (x3 : FVec Ideal S1x1024 .f32) : FVec Ideal S16x128x8x128 .f32 :=
  shapeCast S16x128x8x128 (hv65 x0 x2 x3) shapeCasts_S2048x1024_S16x128x8x128

def hv72 (x0 : FVec Ideal S2048x5376 .f32) (x2 : FVec Ideal S1x1024 .f32) (x3 : FVec Ideal S1x1024 .f32) (x4 : FVec Ideal S1x8x128x128 .f32) : FVec Ideal S8x16x128x128 .f32 :=
  Host.dotGeneral dot_S16x128x8x128_S8x128x128_S8x16x128x128_1_2_03_1_2_0 none (hv71 x0 x2 x3) (hv70 x4)

def hv73 (x0 : FVec Ideal S2048x5376 .f32) (x2 : FVec Ideal S1x1024 .f32) (x3 : FVec Ideal S1x1024 .f32) (x4 : FVec Ideal S1x8x128x128 .f32) : FVec Ideal S16x128x8x128 .f32 :=
  transpose S16x128x8x128 [1, 3, 0, 2] (hv72 x0 x2 x3 x4) transposes_S8x16x128x128_S16x128x8x128_1_3_0_2

def hv74 (x5 : FVec Ideal S1x8x128 .f32) : FVec Ideal S16x128x8x128 .f32 :=
  broadcastInDim S16x128x8x128 ![2, 1] bcast_S8x128_S16x128x8x128_2_1 (hv1 x5)

def hv75 (x0 : FVec Ideal S2048x5376 .f32) (x2 : FVec Ideal S1x1024 .f32) (x3 : FVec Ideal S1x1024 .f32) (x4 : FVec Ideal S1x8x128x128 .f32) (x5 : FVec Ideal S1x8x128 .f32) : FVec Ideal S16x128x8x128 .f32 :=
  addf (hv73 x0 x2 x3 x4) (hv74 x5)

def hv76 (x0 : FVec Ideal S2048x5376 .f32) : FVec Ideal S2048x1024 .f32 :=
  extractStridedSlice S2048x1024 ![0, 2304] x0 slices_S2048x5376_S2048x1024_0_2304

def hv77 (x0 : FVec Ideal S2048x5376 .f32) (x2 : FVec Ideal S1x1024 .f32) (x3 : FVec Ideal S1x1024 .f32) (x4 : FVec Ideal S1x8x128x128 .f32) (x5 : FVec Ideal S1x8x128 .f32) : FVec Ideal S2048x1024 .f32 :=
  shapeCast S2048x1024 (hv75 x0 x2 x3 x4 x5) shapeCasts_S16x128x8x128_S2048x1024

def hv78 (x0 : FVec Ideal S2048x5376 .f32) (x2 : FVec Ideal S1x1024 .f32) (x3 : FVec Ideal S1x1024 .f32) (x4 : FVec Ideal S1x8x128x128 .f32) (x5 : FVec Ideal S1x8x128 .f32) : FVec Ideal S2048x1024 .f32 :=
  mulf (hv76 x0) (hv77 x0 x2 x3 x4 x5)

def hv79 (x0 : FVec Ideal S2048x5376 .f32) : FVec Ideal S2048x1024 .f32 :=
  extractStridedSlice S2048x1024 ![0, 1280] x0 slices_S2048x5376_S2048x1024_0_1280

def hv80 (x0 : FVec Ideal S2048x5376 .f32) : FVec Ideal S2048x1024 .f32 :=
  extractStridedSlice S2048x1024 ![0, 4352] x0 slices_S2048x5376_S2048x1024_0_4352

def hv81 (x0 : FVec Ideal S2048x5376 .f32) : FVec Ideal S2048x2048 .f32 :=
  concatenate S2048x2048 1 [⟨S2048x1024, (hv79 x0)⟩, ⟨S2048x1024, (hv80 x0)⟩] concatenates_S2048x1024_S2048x1024_S2048x2048_d1

def hcst_10 : FVec Ideal S_ .f32 :=
  constant S_ .f32 0x3F800000#32

def hv82 : FVec Ideal S2048x2048 .f32 :=
  broadcastInDim S2048x2048 ![] bcast_S_S2048x2048 hcst_10

def hv83 (x0 : FVec Ideal S2048x5376 .f32) (x1 : FVec Ideal S1x16 .f32) (x2 : FVec Ideal S1x1024 .f32) (x3 : FVec Ideal S1x1024 .f32) (x4 : FVec Ideal S1x8x128x128 .f32) (x5 : FVec Ideal S1x8x128 .f32) : FVec Ideal S2048x2048 .f32 :=
  concatenate S2048x2048 1 [⟨S2048x1024, (hv47 x0 x1)⟩, ⟨S2048x1024, (hv78 x0 x2 x3 x4 x5)⟩] concatenates_S2048x1024_S2048x1024_S2048x2048_d1

def hv84 (x0 : FVec Ideal S2048x5376 .f32) : FVec Ideal S2048x2048 .f32 :=
  Host.negf (hv81 x0)

def hv85 (x0 : FVec Ideal S2048x5376 .f32) : FVec Ideal S2048x2048 .f32 :=
  Host.exp (hv84 x0)

def hv86 (x0 : FVec Ideal S2048x5376 .f32) : FVec Ideal S2048x2048 .f32 :=
  addf hv82 (hv85 x0)

def hv87 (x0 : FVec Ideal S2048x5376 .f32) : FVec Ideal S2048x2048 .f32 :=
  Host.divf hv82 (hv86 x0)

def hv88 (x0 : FVec Ideal S2048x5376 .f32) : FVec Ideal S2048x2048 .f32 :=
  mulf (hv81 x0) (hv87 x0)

def hv89 (x0 : FVec Ideal S2048x5376 .f32) (x1 : FVec Ideal S1x16 .f32) (x2 : FVec Ideal S1x1024 .f32) (x3 : FVec Ideal S1x1024 .f32) (x4 : FVec Ideal S1x8x128x128 .f32) (x5 : FVec Ideal S1x8x128 .f32) : FVec Ideal S2048x2048 .f32 :=
  mulf (hv83 x0 x1 x2 x3 x4 x5) (hv88 x0)

def hv90 (x0 : FVec Ideal S2048x5376 .f32) (x1 : FVec Ideal S1x16 .f32) (x2 : FVec Ideal S1x1024 .f32) (x3 : FVec Ideal S1x1024 .f32) (x4 : FVec Ideal S1x8x128x128 .f32) (x5 : FVec Ideal S1x8x128 .f32) : FVec Ideal S2048x2048 .bf16 :=
  truncf .bf16 (hv89 x0 x1 x2 x3 x4 x5) bitsLt_bf16_f32

def hv91 (x0 : FVec Ideal S2048x5376 .f32) (x1 : FVec Ideal S1x16 .f32) : FVec Ideal S16x2x256x8x128 .f32 :=
  transpose S16x2x256x8x128 [0, 1, 4, 2, 3] (hv43 x0 x1) transposes_S16x2x8x128x256_S16x2x256x8x128_0_1_4_2_3

def hv92 (x0 : FVec Ideal S2048x5376 .f32) (x1 : FVec Ideal S1x16 .f32) : FVec Ideal S16x2x256x1024 .f32 :=
  shapeCast S16x2x256x1024 (hv91 x0 x1) shapeCasts_S16x2x256x8x128_S16x2x256x1024

def hv93 (x0 : FVec Ideal S2048x5376 .f32) (x1 : FVec Ideal S1x16 .f32) : FVec Ideal S16x2x256x1024 .bf16 :=
  truncf .bf16 (hv92 x0 x1) bitsLt_bf16_f32

def hv94 (x0 : FVec Ideal S2048x5376 .f32) (x1 : FVec Ideal S1x16 .f32) : FVec Ideal S16x2x1x1024 .f32 :=
  shapeCast S16x2x1x1024 (hv44 x0 x1) shapeCasts_S16x2x8x128x1_S16x2x1x1024

def hv95 (x4 : FVec Ideal S1x8x128x128 .f32) : FVec Ideal S8x128x128 .f32 :=
  transpose S8x128x128 [0, 2, 1] (hv0 x4) transposes_S8x128x128_S8x128x128_0_2_1

def hv96 (x5 : FVec Ideal S1x8x128 .f32) : FVec Ideal S128x8 .f32 :=
  transpose S128x8 [1, 0] (hv1 x5) transposes_S8x128_S128x8_1_0

variable (m : (ℓ : Loc nD τ sig) → Buf (Elt Ideal) ℓ) (c : Dev nD)

set_option maxHeartbeats 4000000 in
theorem at_v0 : V m c main_v0 = hv0 (m ((c : Thread nD τ).loc main_arg4)) := by
  unfold_abbrev_sides
  after_results
  rfl

set_option maxHeartbeats 4000000 in
theorem at_v3 : V m c main_v3 = hv3 (m ((c : Thread nD τ).loc main_arg0)) := by
  unfold_abbrev_sides
  after_results
  rfl

set_option maxHeartbeats 4000000 in
theorem at_v95 : V m c main_v95 = hv95 (m ((c : Thread nD τ).loc main_arg4)) := by
  unfold_abbrev_sides
  after_results
  rfl

set_option maxHeartbeats 4000000 in
theorem at_v96 : V m c main_v96 = hv96 (m ((c : Thread nD τ).loc main_arg5)) := by
  unfold_abbrev_sides
  after_results
  rfl

set_option maxHeartbeats 4000000 in
theorem at_v93 : V m c main_v93 = hv93 (m ((c : Thread nD τ).loc main_arg0)) (m ((c : Thread nD τ).loc main_arg1)) := by
  unfold_abbrev_sides
  after_results
  rfl

set_option maxHeartbeats 4000000 in
theorem at_v94 : V m c main_v94 = hv94 (m ((c : Thread nD τ).loc main_arg0)) (m ((c : Thread nD τ).loc main_arg1)) := by
  unfold_abbrev_sides
  after_results
  rfl

set_option maxHeartbeats 4000000 in
theorem at_v90 : V m c main_v90 = hv90 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold_abbrev_sides
  after_results
  rfl

end Cert.Kernel3Ideal.Host

end
-- ==== Proof.MixerModel.lean ====
/-
  The mixer's forward values and gradients on real numbers, block by block of 128 tokens: what both programs compute.
-/
module

public import proofs.«01_k».proof.Proof.MixerMath

@[expose] public section

set_option maxRecDepth 16384
noncomputable section

namespace Cert.MixerModel

open Idealize.ShloMosaic Cert.Reals Cert.MixerMath

/-- The arguments: the projected rows, the gradient of the mixer's result, the sinks, the gain and shift of the
    normalisation, the mixing weights and biases. -/
structure Data where
  Z : ℕ → ℕ → ℝ
  DA : ℕ → ℕ → ℝ
  sk : ℕ → ℝ
  G : Fin 1024 → ℝ
  B : Fin 1024 → ℝ
  W : Fin 8 → Fin 128 → Fin 128 → ℝ
  b : Fin 8 → Fin 128 → ℝ

namespace Data
variable (M : Data) (n : ℕ)

/-! The attention: block `n`, key/value head `g`, its query head `j`, query `t`, key `s` (the block before first),
    feature `d`. -/

def q (g : Fin 2) (j : Fin 8) (t : Fin 128) (d : Fin 64) : ℝ := M.Z (128 * n + t.val) (512 * g.val + 64 * j.val + d.val)

/-- A column of the block before, then of the block. -/
def ext (k : ℕ) (s : Fin 256) : ℝ :=
  if s.val < 128 then M.Z (128 * (n - 1) + s.val) k else M.Z (128 * n + (s.val - 128)) k

def kk (g : Fin 2) (s : Fin 256) (d : Fin 64) : ℝ := M.ext n (1024 + 64 * g.val + d.val) s

def vv (g : Fin 2) (s : Fin 256) (d : Fin 64) : ℝ := M.ext n (1152 + 64 * g.val + d.val) s

def ga (g : Fin 2) (j : Fin 8) (t : Fin 128) (d : Fin 64) : ℝ :=
  M.Z (128 * n + t.val) (1280 + 512 * g.val + 64 * j.val + d.val)

def da (g : Fin 2) (j : Fin 8) (t : Fin 128) (d : Fin 64) : ℝ :=
  M.DA (128 * n + t.val) (512 * g.val + 64 * j.val + d.val)

/-- The query sees the key. -/
def Sees (n : ℕ) (t : Fin 128) (s : Fin 256) : Prop := t.val < s.val ∧ s.val ≤ t.val + 128 ∧ (0 < n ∨ 128 ≤ s.val)

instance (t : Fin 128) (s : Fin 256) : Decidable (Sees n t s) := by unfold Sees; infer_instance

def score (g : Fin 2) (j : Fin 8) (t : Fin 128) (s : Fin 256) : ℝ := (∑ d, M.kk n g s d * M.q n g j t d) * (1 / 8)

/-- The scores of a query, unseen keys below everything, the sink last. -/
def scores (g : Fin 2) (j : Fin 8) (t : Fin 128) (s : Fin 257) : EReal :=
  if h : s.val < 256 then
    if Sees n t ⟨s.val, h⟩ then ((M.score n g j t ⟨s.val, h⟩ : ℝ) : EReal) else ⊥
  else ((M.sk (8 * g.val + j.val) : ℝ) : EReal)

/-- The largest score. -/
def top (g : Fin 2) (j : Fin 8) (t : Fin 128) : ℝ := (Finset.univ.fold max ⊥ (M.scores n g j t)).toReal

def ex (g : Fin 2) (j : Fin 8) (t : Fin 128) (s : Fin 256) : ℝ :=
  if Sees n t s then Real.exp (M.score n g j t s - M.top n g j t) else 0

def exs (g : Fin 2) (j : Fin 8) (t : Fin 128) : ℝ := Real.exp (M.sk (8 * g.val + j.val) - M.top n g j t)

def tot (g : Fin 2) (j : Fin 8) (t : Fin 128) : ℝ := (∑ s, M.ex n g j t s) + M.exs n g j t

theorem tot_pos (g : Fin 2) (j : Fin 8) (t : Fin 128) : 0 < M.tot n g j t :=
  add_pos_of_nonneg_of_pos (Finset.sum_nonneg fun s _ => by unfold ex; split <;> positivity) (Real.exp_pos _)

/-- The probabilities. -/
def P (g : Fin 2) (j : Fin 8) (t : Fin 128) (s : Fin 256) : ℝ := M.ex n g j t s / M.tot n g j t

/-- The sink's share. -/
def Ps (g : Fin 2) (j : Fin 8) (t : Fin 128) : ℝ := M.exs n g j t / M.tot n g j t

def att (g : Fin 2) (j : Fin 8) (t : Fin 128) (d : Fin 64) : ℝ := ∑ s, M.vv n g s d * M.P n g j t s

/-- The gradient of the attention's result. -/
def dO (g : Fin 2) (j : Fin 8) (t : Fin 128) (d : Fin 64) : ℝ :=
  M.da n g j t d * (M.ga n g j t d * sgm (M.ga n g j t d))

def dP (g : Fin 2) (j : Fin 8) (t : Fin 128) (s : Fin 256) : ℝ := ∑ d, M.vv n g s d * M.dO n g j t d

def del (g : Fin 2) (j : Fin 8) (t : Fin 128) : ℝ := ∑ s, M.P n g j t s * M.dP n g j t s

/-- The gradient of the scores. -/
def dS (g : Fin 2) (j : Fin 8) (t : Fin 128) (s : Fin 256) : ℝ := M.P n g j t s * (M.dP n g j t s - M.del n g j t)

def dq (g : Fin 2) (j : Fin 8) (t : Fin 128) (d : Fin 64) : ℝ := (∑ s, M.kk n g s d * M.dS n g j t s) * (1 / 8)

def dk (g : Fin 2) (s : Fin 256) (d : Fin 64) : ℝ := ∑ j, ∑ t, M.dS n g j t s * (M.q n g j t d * (1 / 8))

def dv (g : Fin 2) (s : Fin 256) (d : Fin 64) : ℝ := ∑ j, ∑ t, M.P n g j t s * M.dO n g j t d

def dga (g : Fin 2) (j : Fin 8) (t : Fin 128) (d : Fin 64) : ℝ :=
  M.da n g j t d * M.att n g j t d * dsilu (M.ga n g j t d)

/-- The sinks' gradients, from one block and query. -/
def dsk (g : Fin 2) (j : Fin 8) (t : Fin 128) : ℝ := M.Ps n g j t * M.del n g j t

/-- The gradient of the keys (`f = dk`) or values (`f = dv`) of a block: from the block and from the block after. -/
def both (f : ℕ → Fin 2 → Fin 256 → Fin 64 → ℝ) (n : ℕ) (g : Fin 2) (s : Fin 128) (d : Fin 64) : ℝ :=
  f n g ⟨128 + s.val, by omega⟩ d + if n = 15 then 0 else f (n + 1) g ⟨s.val, by omega⟩ d

/-! The spatial gating: block `n`, group `p`, token `t`, feature `e` of the group or `k` of all. -/

def v (t : Fin 128) (k : Fin 1024) : ℝ := M.Z (128 * n + t.val) (3328 + k.val)

def u (p : Fin 8) (t e : Fin 128) : ℝ := M.Z (128 * n + t.val) (2304 + 128 * p.val + e.val)

def gs (p : Fin 8) (t e : Fin 128) : ℝ := M.Z (128 * n + t.val) (4352 + 128 * p.val + e.val)

def du (p : Fin 8) (t e : Fin 128) : ℝ := M.DA (128 * n + t.val) (1024 + 128 * p.val + e.val)

def vn (t : Fin 128) (k : Fin 1024) : ℝ := hat (M.v n t) k * M.G k + M.B k

def tril (p : Fin 8) (t s : Fin 128) : ℝ := if s.val ≤ t.val then M.W p t s else 0

def mix (p : Fin 8) (t e : Fin 128) : ℝ := (∑ s, M.tril p t s * M.vn n s ⟨128 * p.val + e.val, by omega⟩) + M.b p t

/-- The gradient of the mixed rows. -/
def dm (p : Fin 8) (t e : Fin 128) : ℝ := M.du n p t e * (M.gs n p t e * sgm (M.gs n p t e)) * M.u n p t e

def dU (p : Fin 8) (t e : Fin 128) : ℝ := M.du n p t e * (M.gs n p t e * sgm (M.gs n p t e)) * M.mix n p t e

def dGs (p : Fin 8) (t e : Fin 128) : ℝ := M.du n p t e * (M.u n p t e * M.mix n p t e) * dsilu (M.gs n p t e)

/-- A block's part of the weights' gradient. -/
def dW (p : Fin 8) (t s : Fin 128) : ℝ :=
  if s.val ≤ t.val then ∑ e, M.dm n p t e * M.vn n s ⟨128 * p.val + e.val, by omega⟩ else 0

/-- A block's part of the biases' gradient. -/
def dB (p : Fin 8) (t : Fin 128) : ℝ := ∑ e, M.dm n p t e

def dn (s : Fin 128) (p : Fin 8) (e : Fin 128) : ℝ := ∑ t, M.tril p t s * M.dm n p t e

/-- The gradient of the normalised rows with gain and shift. -/
def dvn (s : Fin 128) (k : Fin 1024) : ℝ :=
  M.dn n s ⟨k.val / 128, by omega⟩ ⟨k.val % 128, Nat.mod_lt _ (by norm_num)⟩

def dG (k : Fin 1024) : ℝ := ∑ t, M.dvn n t k * hat (M.v n t) k

def dBn (k : Fin 1024) : ℝ := ∑ t, M.dvn n t k

def dV (t : Fin 128) (k : Fin 1024) : ℝ := dhat (M.v n t) (fun k => M.dvn n t k * M.G k) k

/-- The mixer's result. -/
def A (n : ℕ) (t : Fin 128) (k : Fin 2048) : ℝ :=
  if h : k.val < 1024 then
    M.att n ⟨k.val / 512, by omega⟩ ⟨k.val / 64 % 8, by omega⟩ t ⟨k.val % 64, by omega⟩
      * (M.Z (128 * n + t.val) (1280 + k.val) * sgm (M.Z (128 * n + t.val) (1280 + k.val)))
  else
    M.Z (128 * n + t.val) (2304 + (k.val - 1024)) * M.mix n ⟨(k.val - 1024) / 128, by omega⟩ t ⟨(k.val - 1024) % 128, by omega⟩
      * (M.Z (128 * n + t.val) (4352 + (k.val - 1024)) * sgm (M.Z (128 * n + t.val) (4352 + (k.val - 1024))))

theorem P_unseen {g : Fin 2} {j : Fin 8} {t : Fin 128} {s : Fin 256} (h : ¬Sees n t s) : M.P n g j t s = 0 := by
  simp [P, ex, h]

theorem dS_unseen {g : Fin 2} {j : Fin 8} {t : Fin 128} {s : Fin 256} (h : ¬Sees n t s) : M.dS n g j t s = 0 := by
  simp [dS, P_unseen M n h]

/-- The largest of the scores is a real number: the sink's score is one, and none is above all. -/
theorem coe_top (g : Fin 2) (j : Fin 8) (t : Fin 128) :
    ((M.top n g j t : ℝ) : EReal) = Finset.univ.fold max ⊥ (M.scores n g j t) := by
  unfold top
  refine EReal.coe_toReal (fun h => ?_) (fun h => ?_)
  · have : Finset.univ.fold max ⊥ (M.scores n g j t) < ⊤ := by
      rw [Finset.fold_max_lt]
      refine ⟨bot_lt_top, fun s _ => ?_⟩
      unfold scores
      split
      · split
        · exact EReal.coe_lt_top _
        · exact bot_lt_top
      · exact EReal.coe_lt_top _
    exact this.ne h
  · have : ((M.sk (8 * g.val + j.val) : ℝ) : EReal) ≤ Finset.univ.fold max ⊥ (M.scores n g j t) := by
      rw [Finset.le_fold_max]
      exact Or.inr ⟨256, Finset.mem_univ _, le_of_eq (by simp [scores])⟩
    rw [h] at this
    exact absurd (le_bot_iff.mp this) (EReal.coe_ne_bot _)

/-- The exponential of a score less the largest. -/
theorem exp_scores (g : Fin 2) (j : Fin 8) (t : Fin 128) (s : Fin 257) :
    Ideal.exp (M.scores n g j t s - ((M.top n g j t : ℝ) : EReal))
      = ((if h : s.val < 256 then M.ex n g j t ⟨s.val, h⟩ else M.exs n g j t : ℝ) : EReal) := by
  unfold scores ex exs
  split
  · split
    · rw [← EReal.coe_sub, coe_exp]
    · rw [EReal.bot_sub]; rfl
  · rw [← EReal.coe_sub, coe_exp]

theorem sum_exps (g : Fin 2) (j : Fin 8) (t : Fin 128) :
    (∑ s : Fin 257, if h : s.val < 256 then M.ex n g j t ⟨s.val, h⟩ else M.exs n g j t) = M.tot n g j t := by
  rw [Fin.sum_univ_castSucc, dif_neg (by norm_num)]
  exact congrArg (· + _) (Finset.sum_congr rfl fun s _ => dif_pos s.isLt)

/-- An absent key or value, written as zero, has no weight. -/
theorem absent_mul (g : Fin 2) (j : Fin 8) (t : Fin 128) (s : Fin 256) (x : ℝ) :
    (if n = 0 ∧ s.val < 128 then 0 else x) * M.P n g j t s = x * M.P n g j t s := by
  by_cases h : n = 0 ∧ s.val < 128
  · rw [M.P_unseen n (fun e : Sees n t s => by have := e.2.2; omega)]; simp
  · rw [if_neg h]

/-- The gradient of the projected rows, segment by segment. -/
def dz (n : ℕ) (t : Fin 128) (k : ℕ) : ℝ :=
  if k < 1024 then M.dq n ⟨k / 512 % 2, Nat.mod_lt _ (by norm_num)⟩ ⟨k / 64 % 8, Nat.mod_lt _ (by norm_num)⟩ t
    ⟨k % 64, Nat.mod_lt _ (by norm_num)⟩
  else if k < 1152 then both M.dk n ⟨k / 64 % 2, Nat.mod_lt _ (by norm_num)⟩ t ⟨k % 64, Nat.mod_lt _ (by norm_num)⟩
  else if k < 1280 then both M.dv n ⟨k / 64 % 2, Nat.mod_lt _ (by norm_num)⟩ t ⟨k % 64, Nat.mod_lt _ (by norm_num)⟩
  else if k < 2304 then M.dga n ⟨(k - 1280) / 512 % 2, Nat.mod_lt _ (by norm_num)⟩
    ⟨(k - 1280) / 64 % 8, Nat.mod_lt _ (by norm_num)⟩ t ⟨(k - 1280) % 64, Nat.mod_lt _ (by norm_num)⟩
  else if k < 3328 then M.dU n ⟨(k - 2304) / 128 % 8, Nat.mod_lt _ (by norm_num)⟩ t
    ⟨(k - 2304) % 128, Nat.mod_lt _ (by norm_num)⟩
  else if k < 4352 then M.dV n t ⟨(k - 3328) % 1024, Nat.mod_lt _ (by norm_num)⟩
  else M.dGs n ⟨(k - 4352) / 128 % 8, Nat.mod_lt _ (by norm_num)⟩ t ⟨(k - 4352) % 128, Nat.mod_lt _ (by norm_num)⟩

section Segments
variable (t : Fin 128) (g : Fin 2) (j p : Fin 8) (d : Fin 64) (e : Fin 128) (k : Fin 1024) (l : ℕ)

theorem dz_q (h : l = 512 * g.val + 64 * j.val + d.val) : M.dz n t l = M.dq n g j t d := by
  unfold dz
  rw [if_pos (by omega)]
  simp only [show l / 512 % 2 = g.val by omega, show l / 64 % 8 = j.val by omega, show l % 64 = d.val by omega, Fin.eta]

theorem dz_k (h : l = 1024 + 64 * g.val + d.val) : M.dz n t l = both M.dk n g t d := by
  unfold dz
  rw [if_neg (by omega), if_pos (by omega)]
  simp only [show l / 64 % 2 = g.val by omega, show l % 64 = d.val by omega, Fin.eta]

theorem dz_v (h : l = 1152 + 64 * g.val + d.val) : M.dz n t l = both M.dv n g t d := by
  unfold dz
  rw [if_neg (by omega), if_neg (by omega), if_pos (by omega)]
  simp only [show l / 64 % 2 = g.val by omega, show l % 64 = d.val by omega, Fin.eta]

theorem dz_ga (h : l = 1280 + 512 * g.val + 64 * j.val + d.val) : M.dz n t l = M.dga n g j t d := by
  unfold dz
  rw [if_neg (by omega), if_neg (by omega), if_neg (by omega), if_pos (by omega)]
  simp only [show (l - 1280) / 512 % 2 = g.val by omega, show (l - 1280) / 64 % 8 = j.val by omega, show (l - 1280) % 64 = d.val by omega, Fin.eta]

theorem dz_u (h : l = 2304 + 128 * p.val + e.val) : M.dz n t l = M.dU n p t e := by
  unfold dz
  rw [if_neg (by omega), if_neg (by omega), if_neg (by omega), if_neg (by omega), if_pos (by omega)]
  exact congrArg₂ (fun p e => M.dU n p t e) (Fin.ext (by show (l - 2304) / 128 % 8 = p.val; omega)) (Fin.ext (by show (l - 2304) % 128 = e.val; omega))

theorem dz_vs (h : l = 3328 + k.val) : M.dz n t l = M.dV n t k := by
  unfold dz
  rw [if_neg (by omega), if_neg (by omega), if_neg (by omega), if_neg (by omega), if_neg (by omega), if_pos (by omega)]
  exact congrArg (M.dV n t) (Fin.ext (by show (l - 3328) % 1024 = k.val; omega))

theorem dz_gs (h : l = 4352 + 128 * p.val + e.val) : M.dz n t l = M.dGs n p t e := by
  unfold dz
  rw [if_neg (by omega), if_neg (by omega), if_neg (by omega), if_neg (by omega), if_neg (by omega), if_neg (by omega)]
  exact congrArg₂ (fun p e => M.dGs n p t e) (Fin.ext (by show (l - 4352) / 128 % 8 = p.val; omega)) (Fin.ext (by show (l - 4352) % 128 = e.val; omega))

end Segments

end Data
end Cert.MixerModel
end
-- ==== Proof.MixerForward.lean ====
/-
  The lines before the call on real numbers: the saved probabilities and the saved product.
-/
module

public import proofs.«01_k».proof.Proof.MixerHost
public import proofs.«01_k».proof.Proof.MixerModel
public import proofs.«01_k».proof.Proof.MixerAttn

@[expose] public section

set_option maxRecDepth 16384
set_option backward.proofsInPublic true
noncomputable section
namespace Cert.Kernel3Ideal.Host
open Idealize.ShloMosaic Idealize.ShloMosaic.TcCoe Idealize.SL.Sem Idealize.ShloMosaic.Pointwise Cert.Reals Cert.MixerMath
open Cert.MixerModel Cert.MixerModel.Data Cert.Kernel3Ideal Cert.Kernel3Ideal.Gen Cert.Kernel3Ideal.Tiles

section Attention
variable (M : Data) (x0 : FVec Ideal S2048x5376 .f32) (x1 : FVec Ideal S1x16 .f32)
  (h0 : ∀ (i : Fin 2048) (k : Fin 5376), x0 (ix2 i k) = ((M.Z i.val k.val : ℝ) : EReal))
  (h1 : ∀ h : Fin 16, x1 (ix2 0 h) = ((M.sk h.val : ℝ) : EReal))

include h0 in
theorem q_at (n : Fin 16) (t : Fin 128) (g : Fin 2) (j : Fin 8) (d : Fin 64) :
    hv3 x0 (ix5 n t g j d) = ((M.q n.val g j t d : ℝ) : EReal) := by
  pointwise [hv3, hv2]
  rw [h0]
  exact congrArg₂ (fun i k => ((M.Z i k : ℝ) : EReal)) (by dsimp only; omega) (by dsimp only; omega)

include h0 in
theorem k_at (n : Fin 16) (s : Fin 256) (g : Fin 2) (d : Fin 64) :
    hv11 x0 (ix4 n s g d) = ((if n.val = 0 ∧ s.val < 128 then 0 else M.kk n.val g s d : ℝ) : EReal) := by
  pointwise [hv11, hv10, hv9, hv8, hv7, hv6, hv5, hv4, hcst]
  simp only [h0]
  unfold Data.kk Data.ext
  by_cases hs : s.val < 128 <;> by_cases hn : n.val < 1
  · rw [dif_pos hs, dif_pos hn, if_pos ⟨by omega, hs⟩]; rfl
  · rw [dif_pos hs, dif_neg hn, if_neg (by omega), if_pos hs]
    exact congrArg₂ (fun i k => ((M.Z i k : ℝ) : EReal)) (show _ = _ by omega) (show _ = _ by omega)
  all_goals
    rw [dif_neg hs, if_neg (by omega), if_neg hs]
    exact congrArg₂ (fun i k => ((M.Z i k : ℝ) : EReal)) (show _ = _ by omega) (show _ = _ by omega)

include h0 in
theorem v_at (n : Fin 16) (s : Fin 256) (g : Fin 2) (d : Fin 64) :
    hv13 x0 (ix4 n s g d) = ((if n.val = 0 ∧ s.val < 128 then 0 else M.vv n.val g s d : ℝ) : EReal) := by
  pointwise [hv13, hv12, hv9, hv8, hv7, hv6, hv5, hv4, hcst]
  simp only [h0]
  unfold Data.vv Data.ext
  by_cases hs : s.val < 128 <;> by_cases hn : n.val < 1
  · rw [dif_pos hs, dif_pos hn, if_pos ⟨by omega, hs⟩]; rfl
  · rw [dif_pos hs, dif_neg hn, if_neg (by omega), if_pos hs]
    exact congrArg₂ (fun i k => ((M.Z i k : ℝ) : EReal)) (show _ = _ by omega) (show _ = _ by omega)
  all_goals
    rw [dif_neg hs, if_neg (by omega), if_neg hs]
    exact congrArg₂ (fun i k => ((M.Z i k : ℝ) : EReal)) (show _ = _ by omega) (show _ = _ by omega)

theorem mask_at (n : Fin 16) (g : Fin 2) (j : Fin 8) (t : Fin 128) (s : Fin 256) (u v : EReal) :
    Scalar.select (hv30 (ix5 n g j t s)) u v = if Sees n.val t s then u else v := by
  pointwise [hv30, hv29, hv28, hv27, hv26, hv25, hv24, hv23, hv22, hv21, hv20, hv19, hv18]
  rw [show hc ix0 = BitVec.ofNat 32 128 from rfl, show hc_1 ix0 = BitVec.ofNat 32 0 from rfl,
    show IntOp.addi (BitVec.ofNat 32 t.val) (BitVec.ofNat 32 128) = BitVec.ofNat 32 (t.val + 128) from (BitVec.ofNat_add _ _).symm,
    WordCmp.cmpi_sgt_ofNat (by norm_num; omega) (by norm_num; omega), WordCmp.cmpi_sle_ofNat (by norm_num; omega) (by norm_num; omega),
    WordCmp.cmpi_sgt_ofNat (by norm_num; omega) (by norm_num), WordCmp.cmpi_sge_ofNat (by norm_num; omega) (by norm_num)]
  by_cases a : t.val < s.val <;> by_cases b : s.val ≤ t.val + 128 <;> by_cases c : 0 < n.val <;> by_cases d : 128 ≤ s.val <;>
    simp [Sees, a, b, c, d, Scalar.select, IntOp.andi, IntOp.ori]

include h0 in
theorem score_at (n : Fin 16) (g : Fin 2) (j : Fin 8) (t : Fin 128) (s : Fin 256) : hv32 x0 (ix5 n g j t s)
    = if Sees n.val t s then ((M.score n.val g j t s : ℝ) : EReal) else ⊥ := by
  pointwise [hv32]
  rw [mask_at]
  by_cases h : Sees n.val t s
  · rw [if_pos h, if_pos h]
    pointwise [hv17, hv16, hv15, hv14, hcst_0]
    simp only [q_at M x0 h0, k_at M x0 h0, lit_eighth, ← EReal.coe_mul, coe_sum]
    have : ¬(n.val = 0 ∧ s.val < 128) := fun e => by have := h.2.2; omega
    simp only [if_neg this]
    rfl
  · rw [if_neg h, if_neg h]
    pointwise [hv31, hcst_2]
    exact lit_ninf

include h0 h1 in
theorem scores_at (n : Fin 16) (g : Fin 2) (j : Fin 8) (t : Fin 128) (s : Fin 257) :
    hv35 x0 x1 (ix5 n g j t s) = M.scores n.val g j t s := by
  pointwise [hv35, hv34, hv33]
  simp only [score_at M x0 h0, h1, Nat.mul_comm g.val 8]
  rfl

include h0 h1 in
theorem top_at (n : Fin 16) (g : Fin 2) (j : Fin 8) (t : Fin 128) :
    hv36 x0 x1 (ix4 n g j t) = ((M.top n.val g j t : ℝ) : EReal) := by
  rw [Data.coe_top]
  pointwise [hv36, hcst_3]
  simp only [scores_at M x0 x1 h0 h1, lit_ninf]

include h0 h1 in
theorem ex_at (n : Fin 16) (g : Fin 2) (j : Fin 8) (t : Fin 128) (s : Fin 257) : hv39 x0 x1 (ix5 n g j t s)
    = ((if h : s.val < 256 then M.ex n.val g j t ⟨s.val, h⟩ else M.exs n.val g j t : ℝ) : EReal) := by
  pointwise [hv39, hv38, hv37]
  rw [scores_at M x0 x1 h0 h1, top_at M x0 x1 h0 h1]
  exact M.exp_scores n.val g j t s

include h0 h1 in
theorem tot_at (n : Fin 16) (g : Fin 2) (j : Fin 8) (t : Fin 128) :
    hv40 x0 x1 (ix4 n g j t) = ((M.tot n.val g j t : ℝ) : EReal) := by
  pointwise [hv40, hcst_4]
  simp only [ex_at M x0 x1 h0 h1, coe_sum]
  exact congrArg _ (M.sum_exps n.val g j t)

include h0 h1 in
theorem prob_at (n : Fin 16) (g : Fin 2) (j : Fin 8) (t : Fin 128) (s : Fin 256) :
    hv43 x0 x1 (ix5 n g j t s) = ((M.P n.val g j t s : ℝ) : EReal) := by
  pointwise [hv43, hv42, hv41]
  rw [ex_at M x0 x1 h0 h1, tot_at M x0 x1 h0 h1, coe_div _ (M.tot_pos n.val g j t).ne', dif_pos s.isLt]
  rfl

include h0 h1 in
theorem sink_at (n : Fin 16) (g : Fin 2) (j : Fin 8) (t : Fin 128) :
    hv44 x0 x1 (ix5 n g j t 0) = ((M.Ps n.val g j t : ℝ) : EReal) := by
  pointwise [hv44, hv42, hv41]
  rw [ex_at M x0 x1 h0 h1, tot_at M x0 x1 h0 h1, coe_div _ (M.tot_pos n.val g j t).ne', dif_neg (by norm_num)]
  rfl

include h0 h1 in
theorem probs_at (n : Fin 16) (g : Fin 2) (j : Fin 8) (t : Fin 128) (s : Fin 256) :
    hv93 x0 x1 (ix4 n g s (col j t)) = ((M.P n.val g j t s : ℝ) : EReal) := by
  pointwise [hv93, hv92, hv91]
  rw [show (⟨(col j t).val / 128, _⟩ : Fin 8) = j from Fin.ext (by show (col j t).val / 128 = _; simp only [col]; omega),
    show (⟨(col j t).val % 128, _⟩ : Fin 128) = t from Fin.ext (by show (col j t).val % 128 = _; simp only [col]; omega)]
  exact prob_at M x0 x1 h0 h1 n g j t s

include h0 h1 in
theorem sinks_at (n : Fin 16) (g : Fin 2) (j : Fin 8) (t : Fin 128) :
    hv94 x0 x1 (ix4 n g 0 (col j t)) = ((M.Ps n.val g j t : ℝ) : EReal) := by
  pointwise [hv94]
  rw [show (⟨(col j t).val / 128, _⟩ : Fin 8) = j from Fin.ext (by show (col j t).val / 128 = _; simp only [col]; omega),
    show (⟨(col j t).val % 128, _⟩ : Fin 128) = t from Fin.ext (by show (col j t).val % 128 = _; simp only [col]; omega)]
  exact sink_at M x0 x1 h0 h1 n g j t

include h0 h1 in
theorem att_at (i : Fin 2048) (k : Fin 1024) : hv47 x0 x1 (ix2 i k)
    = ((M.att (i.val / 128) ⟨k.val / 512, by omega⟩ ⟨k.val / 64 % 8, by omega⟩ ⟨i.val % 128, by omega⟩ ⟨k.val % 64, by omega⟩ : ℝ) : EReal) := by
  pointwise [hv47, hv46, hv45]
  simp only [v_at M x0 h0, prob_at M x0 x1 h0 h1, ← EReal.coe_mul, coe_sum, Data.absent_mul]
  rfl

end Attention

section Gating
variable (M : Data) (x0 : FVec Ideal S2048x5376 .f32) (x2 x3 : FVec Ideal S1x1024 .f32)
  (x4 : FVec Ideal S1x8x128x128 .f32) (x5 : FVec Ideal S1x8x128 .f32)
  (h0 : ∀ i k, x0 (ix2 i k) = ((M.Z i.val k.val : ℝ) : EReal))
  (h2 : ∀ k, x2 (ix2 0 k) = ((M.G k : ℝ) : EReal))
  (h3 : ∀ k, x3 (ix2 0 k) = ((M.B k : ℝ) : EReal))
  (h4 : ∀ p t s, x4 (ix4 0 p t s) = ((M.W p t s : ℝ) : EReal))
  (h5 : ∀ p t, x5 (ix3 0 p t) = ((M.b p t : ℝ) : EReal))

include h0 in
theorem vs_at (i : Fin 2048) (k : Fin 1024) :
    hv48 x0 (ix2 i k) = ((M.v (i.val / 128) ⟨i.val % 128, by omega⟩ k : ℝ) : EReal) := by
  pointwise [hv48]
  rw [h0]
  exact congrArg₂ (fun i k => ((M.Z i k : ℝ) : EReal)) (by dsimp only; omega) rfl

include h0 in
theorem cen_at (i : Fin 2048) (k : Fin 1024) :
    hv53 x0 (ix2 i k) = ((cen (M.v (i.val / 128) ⟨i.val % 128, by omega⟩) k : ℝ) : EReal) := by
  pointwise [hv53, hv52, hv51, hv50, hv49, hcst_5, hcst_6]
  simp only [vs_at M x0 h0, coe_sum, lit_1024, coe_div _ (show (1024 : ℝ) ≠ 0 by norm_num), ← EReal.coe_sub]
  rfl

include h0 in
theorem rs_at (i : Fin 2048) :
    hv59 x0 (ix1 i) = ((rs (M.v (i.val / 128) ⟨i.val % 128, by omega⟩) : ℝ) : EReal) := by
  pointwise [hv59, hv58, hv57, hv56, hv55, hv54, hv49, hcst_5, hcst_7, hcst_8]
  simp only [cen_at M x0 h0, coe_sum, lit_1024, lit_eps, ← EReal.coe_mul, ← EReal.coe_add, coe_div _ (show (1024 : ℝ) ≠ 0 by norm_num)]
  exact coe_rsqrt (vari_pos _)

include h0 h2 h3 in
theorem vn_at (i : Fin 2048) (k : Fin 1024) :
    hv65 x0 x2 x3 (ix2 i k) = ((M.vn (i.val / 128) ⟨i.val % 128, by omega⟩ k : ℝ) : EReal) := by
  pointwise [hv65, hv64, hv63, hv62, hv61, hv60]
  simp only [cen_at M x0 h0, rs_at M x0 h0, h2, h3, ← EReal.coe_mul, ← EReal.coe_add]
  rfl

include h4 in
theorem tril_at (p : Fin 8) (t s : Fin 128) : hv70 x4 (ix3 p t s) = ((M.tril p t s : ℝ) : EReal) := by
  pointwise [hv70, hv69, hv68, hv67, hv66, hcst_9, hv0]
  rw [WordCmp.cmpi_sge_ofNat (by norm_num; omega) (by norm_num; omega), select_decide, h4]
  unfold Data.tril
  split <;> rfl

include h0 h2 h3 h4 h5 in
theorem mix_at (i : Fin 2048) (k : Fin 1024) : hv77 x0 x2 x3 x4 x5 (ix2 i k)
    = ((M.mix (i.val / 128) ⟨k.val / 128, by omega⟩ ⟨i.val % 128, by omega⟩ ⟨k.val % 128, by omega⟩ : ℝ) : EReal) := by
  pointwise [hv77, hv75, hv74, hv73, hv72, hv71, hv1]
  simp only [vn_at M x0 x2 x3 h0 h2 h3, tril_at M x4 h4, h5, ← EReal.coe_mul, coe_sum, ← EReal.coe_add]
  refine congrArg Real.toEReal (congrArg (· + _) (Finset.sum_congr rfl fun s _ => (mul_comm _ _).trans (congrArg₂ (fun a b : ℝ => a * b) rfl ?_)))
  rw [show (⟨128 * (k.val / 128) + k.val % 128, _⟩ : Fin 1024) = k from Fin.ext (by dsimp only; omega)]
  exact congrArg₂ (fun n t => M.vn n t k) (by omega) (Fin.ext (by dsimp only; omega))

include h0 in
theorem gate_at (i : Fin 2048) (k : Fin 2048) :
    hv88 x0 (ix2 i k) = ((if k.val < 1024 then M.Z i.val (1280 + k.val) * sgm (M.Z i.val (1280 + k.val))
      else M.Z i.val (4352 + (k.val - 1024)) * sgm (M.Z i.val (4352 + (k.val - 1024))) : ℝ) : EReal) := by
  have hx (z : ℝ) : ((z : ℝ) : EReal) * Ideal.div 1 (1 + Ideal.exp (-((z : ℝ) : EReal))) = ((z * sgm z : ℝ) : EReal) := by
    rw [← EReal.coe_neg, coe_exp, ← EReal.coe_one, ← EReal.coe_add, coe_div _ (one_add_exp_pos z).ne', ← EReal.coe_mul]
    rfl
  pointwise [hv88, hv87, hv86, hv85, hv84, hv82, hv81, hv80, hv79, hcst_10]
  simp only [h0]
  split
  · exact hx _
  · exact hx _

end Gating

/-- The saved product: the mixer's result. -/
theorem a_at (M : Data) (x0 : FVec Ideal S2048x5376 .f32) (x1 : FVec Ideal S1x16 .f32) (x2 x3 : FVec Ideal S1x1024 .f32)
    (x4 : FVec Ideal S1x8x128x128 .f32) (x5 : FVec Ideal S1x8x128 .f32)
    (h0 : ∀ (i : Fin 2048) (k : Fin 5376), x0 (ix2 i k) = ((M.Z i.val k.val : ℝ) : EReal))
    (h1 : ∀ h : Fin 16, x1 (ix2 0 h) = ((M.sk h.val : ℝ) : EReal))
    (h2 : ∀ k : Fin 1024, x2 (ix2 0 k) = ((M.G k : ℝ) : EReal))
    (h3 : ∀ k : Fin 1024, x3 (ix2 0 k) = ((M.B k : ℝ) : EReal))
    (h4 : ∀ (p : Fin 8) (t s : Fin 128), x4 (ix4 0 p t s) = ((M.W p t s : ℝ) : EReal))
    (h5 : ∀ (p : Fin 8) (t : Fin 128), x5 (ix3 0 p t) = ((M.b p t : ℝ) : EReal)) (i k : Fin 2048) :
    hv90 x0 x1 x2 x3 x4 x5 (ix2 i k) = ((M.A (i.val / 128) ⟨i.val % 128, by omega⟩ k : ℝ) : EReal) := by
  pointwise [hv90, hv89, hv83, hv78, hv76]
  rw [gate_at M x0 h0]
  simp only [att_at M x0 x1 h0 h1, mix_at M x0 x2 x3 x4 x5 h0 h2 h3 h4 h5, h0, ← EReal.coe_mul]
  unfold Data.A
  simp only [show 128 * (i.val / 128) + i.val % 128 = i.val by omega]
  by_cases h : k.val < 1024
  · simp only [dif_pos h, if_pos h, ← EReal.coe_mul]
  · simp only [dif_neg h, if_neg h, ← EReal.coe_mul]

end Cert.Kernel3Ideal.Host
end
-- ==== Proof.MixerBlock.lean ====
/-
  One block of the mixer's backward pass on real numbers: from what the block's loads hold, what each of its tiles holds.
-/
module

public import proofs.«01_k».proof.Proof.MixerStep
public import proofs.«01_k».proof.Proof.MixerModel

@[expose] public section

set_option maxRecDepth 16384
set_option backward.proofsInPublic true
noncomputable section
namespace Cert.Kernel3Ideal.Block
open Idealize.ShloMosaic Idealize.ShloMosaic.TcCoe Idealize.SL.Sem Idealize.ShloMosaic.Pointwise Cert.Reals Cert.MixerMath
open Cert.MixerModel Cert.Kernel3Ideal Cert.Kernel3Ideal.Gen Cert.Kernel3Ideal.Tiles

/-- The loads of a block hold block `n` of the arguments. -/
structure Holds (P : Parts) (M : Data) (n : ℕ) : Prop where
  before : ∀ (s : Fin 128) (k : Fin 256), P.before (ix2 s k) = ((M.Z (128 * (n - 1) + s.val) (1024 + k.val) : ℝ) : EReal)
  own : ∀ (s : Fin 128) (k : Fin 256), P.own (ix2 s k) = ((M.Z (128 * n + s.val) (1024 + k.val) : ℝ) : EReal)
  q : ∀ (g : Fin 2) (p : Fin 4) (t e : Fin 128), P.q g p (ix2 t e)
    = ((M.Z (128 * n + t.val) (512 * g.val + 128 * p.val + e.val) : ℝ) : EReal)
  ga : ∀ (g : Fin 2) (p : Fin 4) (t e : Fin 128), P.ga g p (ix2 t e)
    = ((M.Z (128 * n + t.val) (1280 + 512 * g.val + 128 * p.val + e.val) : ℝ) : EReal)
  da : ∀ (g : Fin 2) (p : Fin 4) (t e : Fin 128), P.da g p (ix2 t e)
    = ((M.DA (128 * n + t.val) (512 * g.val + 128 * p.val + e.val) : ℝ) : EReal)
  prob : ∀ (g : Fin 2) (s : Fin 256) (j : Fin 8) (t : Fin 128), P.prob g (ix3 0 s (col j t)) = ((M.P n g j t s : ℝ) : EReal)
  sink : ∀ (g : Fin 2) (j : Fin 8) (t : Fin 128), P.sink g (ix3 0 0 (col j t)) = ((M.Ps n g j t : ℝ) : EReal)
  v : ∀ (t : Fin 128) (k : Fin 1024), P.v (ix2 t k) = ((M.v n t k : ℝ) : EReal)
  lng : ∀ k : Fin 1024, P.lng (ix2 0 k) = ((M.G k : ℝ) : EReal)
  lnb : ∀ k : Fin 1024, P.lnb (ix2 0 k) = ((M.B k : ℝ) : EReal)
  w : ∀ (p : Fin 8) (t s : Fin 128), P.w p (ix3 0 t s) = ((M.W p t s : ℝ) : EReal)
  wt : ∀ (p : Fin 8) (t s : Fin 128), P.wt p (ix3 0 t s) = ((M.W p s t : ℝ) : EReal)
  bt : ∀ (p : Fin 8) (t : Fin 128), P.bt p (ix2 t 0) = ((M.b p t : ℝ) : EReal)
  u : ∀ (p : Fin 8) (t e : Fin 128), P.u p (ix2 t e) = ((M.u n p t e : ℝ) : EReal)
  gs : ∀ (p : Fin 8) (t e : Fin 128), P.gs p (ix2 t e) = ((M.gs n p t e : ℝ) : EReal)
  du : ∀ (p : Fin 8) (t e : Fin 128), P.du p (ix2 t e) = ((M.du n p t e : ℝ) : EReal)

variable {P : Parts} {M : Data} {n : ℕ} (H : Holds P M n)
include H

/-! ## The attention -/

theorem key_at (g : Fin 2) (s : Fin 256) (d : Fin 64) :
    keys P.before P.own (ix2 s (feat g d)) = ((M.kk n g s d : ℝ) : EReal) := by
  rw [keys_apply]
  unfold Data.kk Data.ext feat
  split
  · exact (H.before _ _).trans (congrArg (fun k : ℕ => ((M.Z _ k : ℝ) : EReal)) (show 1024 + (g.val * 64 + d.val) = 1024 + 64 * g.val + d.val by omega))
  · exact (H.own _ _).trans (congrArg (fun k : ℕ => ((M.Z _ k : ℝ) : EReal)) (show 1024 + (g.val * 64 + d.val) = 1024 + 64 * g.val + d.val by omega))

theorem val_at (g : Fin 2) (s : Fin 256) (d : Fin 64) :
    vals P.before P.own (ix2 s (feat g d)) = ((M.vv n g s d : ℝ) : EReal) := by
  rw [vals_apply]
  unfold Data.vv Data.ext feat
  split
  · exact (H.before _ _).trans (congrArg (fun k : ℕ => ((M.Z _ k : ℝ) : EReal)) (show 1024 + (128 + (g.val * 64 + d.val)) = 1152 + 64 * g.val + d.val by omega))
  · exact (H.own _ _).trans (congrArg (fun k : ℕ => ((M.Z _ k : ℝ) : EReal)) (show 1024 + (128 + (g.val * 64 + d.val)) = 1152 + 64 * g.val + d.val by omega))

/-- A column of the keys or values, by feature of both key/value heads. -/
theorem keys_col (s : Fin 256) (e : Fin 128) : keys P.before P.own (ix2 s e)
    = ((M.kk n ⟨e.val / 64, by omega⟩ s ⟨e.val % 64, Nat.mod_lt _ (by norm_num)⟩ : ℝ) : EReal) := by
  have h : e = feat ⟨e.val / 64, by omega⟩ ⟨e.val % 64, Nat.mod_lt _ (by norm_num)⟩ := Fin.ext (by simp [feat]; omega)
  exact (congrArg (fun e => keys P.before P.own (ix2 s e)) h).trans (key_at H _ s _)

theorem vals_col (s : Fin 256) (e : Fin 128) : vals P.before P.own (ix2 s e)
    = ((M.vv n ⟨e.val / 64, by omega⟩ s ⟨e.val % 64, Nat.mod_lt _ (by norm_num)⟩ : ℝ) : EReal) := by
  have h : e = feat ⟨e.val / 64, by omega⟩ ⟨e.val % 64, Nat.mod_lt _ (by norm_num)⟩ := Fin.ext (by simp [feat]; omega)
  exact (congrArg (fun e => vals P.before P.own (ix2 s e)) h).trans (val_at H _ s _)

theorem q_tile (g : Fin 2) (p : Fin 4) (h : Fin 2) (t : Fin 128) (d : Fin 64) :
    P.q g p (ix2 t (feat h d)) = ((M.q n g ⟨2 * p.val + h.val, by omega⟩ t d : ℝ) : EReal) :=
  (H.q g p t _).trans (congrArg (fun k : ℕ => ((M.Z _ k : ℝ) : EReal))
    (show 512 * g.val + 128 * p.val + (h.val * 64 + d.val) = 512 * g.val + 64 * (2 * p.val + h.val) + d.val by omega))

theorem ga_tile (g : Fin 2) (p : Fin 4) (h : Fin 2) (t : Fin 128) (d : Fin 64) :
    P.ga g p (ix2 t (feat h d)) = ((M.ga n g ⟨2 * p.val + h.val, by omega⟩ t d : ℝ) : EReal) :=
  (H.ga g p t _).trans (congrArg (fun k : ℕ => ((M.Z _ k : ℝ) : EReal))
    (show 1280 + 512 * g.val + 128 * p.val + (h.val * 64 + d.val) = 1280 + 512 * g.val + 64 * (2 * p.val + h.val) + d.val by omega))

theorem da_tile (g : Fin 2) (p : Fin 4) (h : Fin 2) (t : Fin 128) (d : Fin 64) :
    P.da g p (ix2 t (feat h d)) = ((M.da n g ⟨2 * p.val + h.val, by omega⟩ t d : ℝ) : EReal) :=
  (H.da g p t _).trans (congrArg (fun k : ℕ => ((M.DA _ k : ℝ) : EReal))
    (show 512 * g.val + 128 * p.val + (h.val * 64 + d.val) = 512 * g.val + 64 * (2 * p.val + h.val) + d.val by omega))

theorem qs_at (g : Fin 2) (e : Fin 128) (j : Fin 8) (t : Fin 128) : P.qs g (ix2 e (col j t))
    = ((pad g (fun j t d => M.q n g j t d * (1 / 8)) e j t : ℝ) : EReal) := by
  fin_cases g
  · exact heads0_apply (fun p => scaled (P.q 0 p)) _ (fun p t h d => scaled_apply _ _ _ (q_tile H 0 p h t d)) e j t
  · exact heads1_apply (fun p => scaled (P.q 1 p)) _ (fun p t h d => scaled_apply _ _ _ (q_tile H 1 p h t d)) e j t

theorem dos_at (g : Fin 2) (e : Fin 128) (j : Fin 8) (t : Fin 128) : P.dos g (ix2 e (col j t))
    = ((pad g (M.dO n g) e j t : ℝ) : EReal) := by
  fin_cases g
  · exact heads0_apply (fun p => gated (P.da 0 p) (P.ga 0 p)) _
      (fun p t h d => gated_apply _ _ _ _ _ (ga_tile H 0 p h t d) (da_tile H 0 p h t d)) e j t
  · exact heads1_apply (fun p => gated (P.da 1 p) (P.ga 1 p)) _
      (fun p t h d => gated_apply _ _ _ _ _ (ga_tile H 1 p h t d) (da_tile H 1 p h t d)) e j t

theorem pr_at (g : Fin 2) (s : Fin 256) (j : Fin 8) (t : Fin 128) :
    P.pr g (ix2 s (col j t)) = ((M.P n g j t s : ℝ) : EReal) := by
  refine Eq.trans ?_ (H.prob g s j t)
  unfold Parts.pr probOf
  pointwise

theorem dp_at (g : Fin 2) (s : Fin 256) (j : Fin 8) (t : Fin 128) :
    P.dp g (ix2 s (col j t)) = ((M.dP n g j t s : ℝ) : EReal) := by
  unfold Parts.dp
  rw [dProb_apply _ _ _ _ (vals_col H) (dos_at H g), sum_pad]
  refine congrArg _ (Finset.sum_congr rfl fun d _ => ?_)
  refine congrArg (· * _) (congrArg₂ (fun a b => M.vv n a s b) (Fin.ext ?_) (Fin.ext ?_)) <;> simp only [feat] <;> omega

theorem dsc_at (g : Fin 2) (s : Fin 256) (j : Fin 8) (t : Fin 128) :
    P.dsc g (ix2 s (col j t)) = ((M.dS n g j t s : ℝ) : EReal) :=
  dScores_apply _ (fun s j t => M.P n g j t s) (pr_at H g) _ (fun s j t => M.dP n g j t s) (dp_at H g) s j t

theorem sink_at (g : Fin 2) (old : FVec Ideal S1x1x1024 .f32) (j : Fin 8) (t : Fin 128) (r : ℝ)
    (hr : old (ix3 0 0 (col j t)) = ((r : ℝ) : EReal)) :
    P.sinkOf g old (ix3 0 0 (col j t)) = ((r - M.dsk n g j t : ℝ) : EReal) :=
  sinkStep_apply _ (fun s j t => M.P n g j t s) (pr_at H g) _ (fun s j t => M.dP n g j t s) (dp_at H g) old _ j t r _ hr
    (H.sink g j t)

theorem dqt_at (g h : Fin 2) (d : Fin 64) (j : Fin 8) (t : Fin 128) : P.dqt g (ix2 (feat h d) (col j t))
    = ((∑ s, M.kk n h s d * M.dS n g j t s : ℝ) : EReal) := by
  unfold Parts.dqt
  rw [byKeys_apply _ _ _ _ (keys_col H) (dsc_at H g)]
  refine congrArg _ (Finset.sum_congr rfl fun s _ => ?_)
  refine congrArg (· * _) (congrArg₂ (fun a b => M.kk n a s b) (Fin.ext ?_) (Fin.ext ?_)) <;> simp only [feat] <;> omega

theorem att_at (g h : Fin 2) (d : Fin 64) (j : Fin 8) (t : Fin 128) : P.att g (ix2 (feat h d) (col j t))
    = ((∑ s, M.vv n h s d * M.P n g j t s : ℝ) : EReal) := by
  unfold Parts.att
  rw [byKeys_apply _ _ _ _ (vals_col H) (pr_at H g)]
  refine congrArg _ (Finset.sum_congr rfl fun s _ => ?_)
  refine congrArg (· * _) (congrArg₂ (fun a b => M.vv n a s b) (Fin.ext ?_) (Fin.ext ?_)) <;> simp only [feat] <;> omega

theorem dk_at (s : Fin 256) (h : Fin 2) (d : Fin 64) : P.dk (ix2 s (feat h d)) = ((M.dk n h s d : ℝ) : EReal) := by
  unfold Parts.dk
  rw [byQueries_apply _ _ _ _ (dsc_at H 1) (qs_at H 1) _ s _ _ (byQueries_apply _ _ _ _ (dsc_at H 0) (qs_at H 0) _ s _ 0 (fill_zero _))]
  simp only [pad_feat]
  fin_cases h <;> simp [Data.dk]

theorem dv_at (s : Fin 256) (h : Fin 2) (d : Fin 64) : P.dv (ix2 s (feat h d)) = ((M.dv n h s d : ℝ) : EReal) := by
  unfold Parts.dv
  rw [byQueries_apply _ _ _ _ (pr_at H 1) (dos_at H 1) _ s _ _ (byQueries_apply _ _ _ _ (pr_at H 0) (dos_at H 0) _ s _ 0 (fill_zero _))]
  simp only [pad_feat]
  fin_cases h <;> simp [Data.dv]

theorem kv_k (s : Fin 256) (h : Fin 2) (d : Fin 64) (k : Fin 256) (hk : k.val = 64 * h.val + d.val) :
    P.kv (ix2 s k) = ((M.dk n h s d : ℝ) : EReal) := by
  have e : k = ⟨(feat h d).val, by omega⟩ := Fin.ext (by simp only [feat]; omega)
  exact (congrArg (fun k => P.kv (ix2 s k)) e).trans <| (dkv_left _ _ s (feat h d)).trans (dk_at H s h d)

theorem kv_v (s : Fin 256) (h : Fin 2) (d : Fin 64) (k : Fin 256) (hk : k.val = 128 + 64 * h.val + d.val) :
    P.kv (ix2 s k) = ((M.dv n h s d : ℝ) : EReal) := by
  have e : k = ⟨128 + (feat h d).val, by omega⟩ := Fin.ext (by simp only [feat]; omega)
  exact (congrArg (fun k => P.kv (ix2 s k)) e).trans <| (dkv_right _ _ s (feat h d)).trans (dv_at H s h d)

theorem dq00_at (t : Fin 128) (h : Fin 2) (d : Fin 64) :
    P.dq00 (ix2 t (feat h d)) = ((M.dq n 0 ⟨0 + h.val, by omega⟩ t d : ℝ) : EReal) := by
  refine dqTile_apply _ _ _ ?_
  rw [pairOf_apply _ _ _ _ _ _ t h d (by omega) (by omega) (by omega)]
  fin_cases h
  · exact (congrArg₂ (fun a b => P.dqt 0 (ix2 a b)) (Fin.ext (by simp [feat])) (Fin.ext (by simp [col]))).trans (dqt_at H 0 0 d 0 t)
  · exact (congrArg₂ (fun a b => P.dqt 0 (ix2 a b)) (Fin.ext (by simp [feat])) (Fin.ext (by simp [col]))).trans (dqt_at H 0 0 d 1 t)

theorem dga00_at (t : Fin 128) (h : Fin 2) (d : Fin 64) :
    P.dga00 (ix2 t (feat h d)) = ((M.dga n 0 ⟨0 + h.val, by omega⟩ t d : ℝ) : EReal) := by
  refine dgaTile_apply _ _ _ _ _ _ _ (ga_tile H 0 0 h t d) (da_tile H 0 0 h t d) ?_
  rw [pairOf_apply _ _ _ _ _ _ t h d (by omega) (by omega) (by omega)]
  fin_cases h
  · exact (congrArg₂ (fun a b => P.att 0 (ix2 a b)) (Fin.ext (by simp [feat])) (Fin.ext (by simp [col]))).trans (att_at H 0 0 d 0 t)
  · exact (congrArg₂ (fun a b => P.att 0 (ix2 a b)) (Fin.ext (by simp [feat])) (Fin.ext (by simp [col]))).trans (att_at H 0 0 d 1 t)

theorem dq01_at (t : Fin 128) (h : Fin 2) (d : Fin 64) :
    P.dq01 (ix2 t (feat h d)) = ((M.dq n 0 ⟨2 + h.val, by omega⟩ t d : ℝ) : EReal) := by
  refine dqTile_apply _ _ _ ?_
  rw [pairOf_apply _ _ _ _ _ _ t h d (by omega) (by omega) (by omega)]
  fin_cases h
  · exact (congrArg₂ (fun a b => P.dqt 0 (ix2 a b)) (Fin.ext (by simp [feat])) (Fin.ext (by simp [col]))).trans (dqt_at H 0 0 d 2 t)
  · exact (congrArg₂ (fun a b => P.dqt 0 (ix2 a b)) (Fin.ext (by simp [feat])) (Fin.ext (by simp [col]))).trans (dqt_at H 0 0 d 3 t)

theorem dga01_at (t : Fin 128) (h : Fin 2) (d : Fin 64) :
    P.dga01 (ix2 t (feat h d)) = ((M.dga n 0 ⟨2 + h.val, by omega⟩ t d : ℝ) : EReal) := by
  refine dgaTile_apply _ _ _ _ _ _ _ (ga_tile H 0 1 h t d) (da_tile H 0 1 h t d) ?_
  rw [pairOf_apply _ _ _ _ _ _ t h d (by omega) (by omega) (by omega)]
  fin_cases h
  · exact (congrArg₂ (fun a b => P.att 0 (ix2 a b)) (Fin.ext (by simp [feat])) (Fin.ext (by simp [col]))).trans (att_at H 0 0 d 2 t)
  · exact (congrArg₂ (fun a b => P.att 0 (ix2 a b)) (Fin.ext (by simp [feat])) (Fin.ext (by simp [col]))).trans (att_at H 0 0 d 3 t)

theorem dq02_at (t : Fin 128) (h : Fin 2) (d : Fin 64) :
    P.dq02 (ix2 t (feat h d)) = ((M.dq n 0 ⟨4 + h.val, by omega⟩ t d : ℝ) : EReal) := by
  refine dqTile_apply _ _ _ ?_
  rw [pairOf_apply _ _ _ _ _ _ t h d (by omega) (by omega) (by omega)]
  fin_cases h
  · exact (congrArg₂ (fun a b => P.dqt 0 (ix2 a b)) (Fin.ext (by simp [feat])) (Fin.ext (by simp [col]))).trans (dqt_at H 0 0 d 4 t)
  · exact (congrArg₂ (fun a b => P.dqt 0 (ix2 a b)) (Fin.ext (by simp [feat])) (Fin.ext (by simp [col]))).trans (dqt_at H 0 0 d 5 t)

theorem dga02_at (t : Fin 128) (h : Fin 2) (d : Fin 64) :
    P.dga02 (ix2 t (feat h d)) = ((M.dga n 0 ⟨4 + h.val, by omega⟩ t d : ℝ) : EReal) := by
  refine dgaTile_apply _ _ _ _ _ _ _ (ga_tile H 0 2 h t d) (da_tile H 0 2 h t d) ?_
  rw [pairOf_apply _ _ _ _ _ _ t h d (by omega) (by omega) (by omega)]
  fin_cases h
  · exact (congrArg₂ (fun a b => P.att 0 (ix2 a b)) (Fin.ext (by simp [feat])) (Fin.ext (by simp [col]))).trans (att_at H 0 0 d 4 t)
  · exact (congrArg₂ (fun a b => P.att 0 (ix2 a b)) (Fin.ext (by simp [feat])) (Fin.ext (by simp [col]))).trans (att_at H 0 0 d 5 t)

theorem dq03_at (t : Fin 128) (h : Fin 2) (d : Fin 64) :
    P.dq03 (ix2 t (feat h d)) = ((M.dq n 0 ⟨6 + h.val, by omega⟩ t d : ℝ) : EReal) := by
  refine dqTile_apply _ _ _ ?_
  rw [pairOf_apply _ _ _ _ _ _ t h d (by omega) (by omega) (by omega)]
  fin_cases h
  · exact (congrArg₂ (fun a b => P.dqt 0 (ix2 a b)) (Fin.ext (by simp [feat])) (Fin.ext (by simp [col]))).trans (dqt_at H 0 0 d 6 t)
  · exact (congrArg₂ (fun a b => P.dqt 0 (ix2 a b)) (Fin.ext (by simp [feat])) (Fin.ext (by simp [col]))).trans (dqt_at H 0 0 d 7 t)

theorem dga03_at (t : Fin 128) (h : Fin 2) (d : Fin 64) :
    P.dga03 (ix2 t (feat h d)) = ((M.dga n 0 ⟨6 + h.val, by omega⟩ t d : ℝ) : EReal) := by
  refine dgaTile_apply _ _ _ _ _ _ _ (ga_tile H 0 3 h t d) (da_tile H 0 3 h t d) ?_
  rw [pairOf_apply _ _ _ _ _ _ t h d (by omega) (by omega) (by omega)]
  fin_cases h
  · exact (congrArg₂ (fun a b => P.att 0 (ix2 a b)) (Fin.ext (by simp [feat])) (Fin.ext (by simp [col]))).trans (att_at H 0 0 d 6 t)
  · exact (congrArg₂ (fun a b => P.att 0 (ix2 a b)) (Fin.ext (by simp [feat])) (Fin.ext (by simp [col]))).trans (att_at H 0 0 d 7 t)

theorem dq10_at (t : Fin 128) (h : Fin 2) (d : Fin 64) :
    P.dq10 (ix2 t (feat h d)) = ((M.dq n 1 ⟨0 + h.val, by omega⟩ t d : ℝ) : EReal) := by
  refine dqTile_apply _ _ _ ?_
  rw [pairOf_apply _ _ _ _ _ _ t h d (by omega) (by omega) (by omega)]
  fin_cases h
  · exact (congrArg₂ (fun a b => P.dqt 1 (ix2 a b)) (Fin.ext (by simp [feat])) (Fin.ext (by simp [col]))).trans (dqt_at H 1 1 d 0 t)
  · exact (congrArg₂ (fun a b => P.dqt 1 (ix2 a b)) (Fin.ext (by simp [feat])) (Fin.ext (by simp [col]))).trans (dqt_at H 1 1 d 1 t)

theorem dga10_at (t : Fin 128) (h : Fin 2) (d : Fin 64) :
    P.dga10 (ix2 t (feat h d)) = ((M.dga n 1 ⟨0 + h.val, by omega⟩ t d : ℝ) : EReal) := by
  refine dgaTile_apply _ _ _ _ _ _ _ (ga_tile H 1 0 h t d) (da_tile H 1 0 h t d) ?_
  rw [pairOf_apply _ _ _ _ _ _ t h d (by omega) (by omega) (by omega)]
  fin_cases h
  · exact (congrArg₂ (fun a b => P.att 1 (ix2 a b)) (Fin.ext (by simp [feat])) (Fin.ext (by simp [col]))).trans (att_at H 1 1 d 0 t)
  · exact (congrArg₂ (fun a b => P.att 1 (ix2 a b)) (Fin.ext (by simp [feat])) (Fin.ext (by simp [col]))).trans (att_at H 1 1 d 1 t)

theorem dq11_at (t : Fin 128) (h : Fin 2) (d : Fin 64) :
    P.dq11 (ix2 t (feat h d)) = ((M.dq n 1 ⟨2 + h.val, by omega⟩ t d : ℝ) : EReal) := by
  refine dqTile_apply _ _ _ ?_
  rw [pairOf_apply _ _ _ _ _ _ t h d (by omega) (by omega) (by omega)]
  fin_cases h
  · exact (congrArg₂ (fun a b => P.dqt 1 (ix2 a b)) (Fin.ext (by simp [feat])) (Fin.ext (by simp [col]))).trans (dqt_at H 1 1 d 2 t)
  · exact (congrArg₂ (fun a b => P.dqt 1 (ix2 a b)) (Fin.ext (by simp [feat])) (Fin.ext (by simp [col]))).trans (dqt_at H 1 1 d 3 t)

theorem dga11_at (t : Fin 128) (h : Fin 2) (d : Fin 64) :
    P.dga11 (ix2 t (feat h d)) = ((M.dga n 1 ⟨2 + h.val, by omega⟩ t d : ℝ) : EReal) := by
  refine dgaTile_apply _ _ _ _ _ _ _ (ga_tile H 1 1 h t d) (da_tile H 1 1 h t d) ?_
  rw [pairOf_apply _ _ _ _ _ _ t h d (by omega) (by omega) (by omega)]
  fin_cases h
  · exact (congrArg₂ (fun a b => P.att 1 (ix2 a b)) (Fin.ext (by simp [feat])) (Fin.ext (by simp [col]))).trans (att_at H 1 1 d 2 t)
  · exact (congrArg₂ (fun a b => P.att 1 (ix2 a b)) (Fin.ext (by simp [feat])) (Fin.ext (by simp [col]))).trans (att_at H 1 1 d 3 t)

theorem dq12_at (t : Fin 128) (h : Fin 2) (d : Fin 64) :
    P.dq12 (ix2 t (feat h d)) = ((M.dq n 1 ⟨4 + h.val, by omega⟩ t d : ℝ) : EReal) := by
  refine dqTile_apply _ _ _ ?_
  rw [pairOf_apply _ _ _ _ _ _ t h d (by omega) (by omega) (by omega)]
  fin_cases h
  · exact (congrArg₂ (fun a b => P.dqt 1 (ix2 a b)) (Fin.ext (by simp [feat])) (Fin.ext (by simp [col]))).trans (dqt_at H 1 1 d 4 t)
  · exact (congrArg₂ (fun a b => P.dqt 1 (ix2 a b)) (Fin.ext (by simp [feat])) (Fin.ext (by simp [col]))).trans (dqt_at H 1 1 d 5 t)

theorem dga12_at (t : Fin 128) (h : Fin 2) (d : Fin 64) :
    P.dga12 (ix2 t (feat h d)) = ((M.dga n 1 ⟨4 + h.val, by omega⟩ t d : ℝ) : EReal) := by
  refine dgaTile_apply _ _ _ _ _ _ _ (ga_tile H 1 2 h t d) (da_tile H 1 2 h t d) ?_
  rw [pairOf_apply _ _ _ _ _ _ t h d (by omega) (by omega) (by omega)]
  fin_cases h
  · exact (congrArg₂ (fun a b => P.att 1 (ix2 a b)) (Fin.ext (by simp [feat])) (Fin.ext (by simp [col]))).trans (att_at H 1 1 d 4 t)
  · exact (congrArg₂ (fun a b => P.att 1 (ix2 a b)) (Fin.ext (by simp [feat])) (Fin.ext (by simp [col]))).trans (att_at H 1 1 d 5 t)

theorem dq13_at (t : Fin 128) (h : Fin 2) (d : Fin 64) :
    P.dq13 (ix2 t (feat h d)) = ((M.dq n 1 ⟨6 + h.val, by omega⟩ t d : ℝ) : EReal) := by
  refine dqTile_apply _ _ _ ?_
  rw [pairOf_apply _ _ _ _ _ _ t h d (by omega) (by omega) (by omega)]
  fin_cases h
  · exact (congrArg₂ (fun a b => P.dqt 1 (ix2 a b)) (Fin.ext (by simp [feat])) (Fin.ext (by simp [col]))).trans (dqt_at H 1 1 d 6 t)
  · exact (congrArg₂ (fun a b => P.dqt 1 (ix2 a b)) (Fin.ext (by simp [feat])) (Fin.ext (by simp [col]))).trans (dqt_at H 1 1 d 7 t)

theorem dga13_at (t : Fin 128) (h : Fin 2) (d : Fin 64) :
    P.dga13 (ix2 t (feat h d)) = ((M.dga n 1 ⟨6 + h.val, by omega⟩ t d : ℝ) : EReal) := by
  refine dgaTile_apply _ _ _ _ _ _ _ (ga_tile H 1 3 h t d) (da_tile H 1 3 h t d) ?_
  rw [pairOf_apply _ _ _ _ _ _ t h d (by omega) (by omega) (by omega)]
  fin_cases h
  · exact (congrArg₂ (fun a b => P.att 1 (ix2 a b)) (Fin.ext (by simp [feat])) (Fin.ext (by simp [col]))).trans (att_at H 1 1 d 6 t)
  · exact (congrArg₂ (fun a b => P.att 1 (ix2 a b)) (Fin.ext (by simp [feat])) (Fin.ext (by simp [col]))).trans (att_at H 1 1 d 7 t)

/-! ## The gating -/

theorem vn_at (t : Fin 128) (k : Fin 1024) : P.vn (ix2 t k) = ((M.vn n t k : ℝ) : EReal) :=
  shifted_apply _ (M.v n) H.v _ _ _ _ H.lng H.lnb t k

theorem vnp_at (p : Fin 8) (t e : Fin 128) :
    P.vnp p (ix2 t e) = ((M.vn n t ⟨128 * p.val + e.val, by omega⟩ : ℝ) : EReal) := by
  refine Eq.trans ?_ (vn_at H t ⟨128 * p.val + e.val, by omega⟩)
  fin_cases p <;> exact part_apply _ _ _ t e (by omega)

theorem mx_at (p : Fin 8) (t e : Fin 128) : P.mx p (ix2 t e) = ((M.mix n p t e : ℝ) : EReal) :=
  mixed_apply _ _ _ (M.W p) _ (M.b p) (H.w p) (vnp_at H p) (H.bt p) t e

theorem dup_at (p : Fin 8) (t e : Fin 128) : P.dup p (ix2 t e) = ((M.dU n p t e : ℝ) : EReal) :=
  duTile_apply _ _ _ _ (H.du p) (H.gs p) _ _ (mx_at H p) t e

theorem dgs_at (p : Fin 8) (t e : Fin 128) : P.dgs p (ix2 t e) = ((M.dGs n p t e : ℝ) : EReal) :=
  dgsTile_apply _ _ _ _ _ _ (H.du p) (H.u p) (H.gs p) _ _ (mx_at H p) t e

theorem dm_at (p : Fin 8) (t e : Fin 128) : P.dm p (ix2 t e) = ((M.dm n p t e : ℝ) : EReal) :=
  dMixed_apply _ _ _ _ _ _ (H.du p) (H.u p) (H.gs p) t e

theorem dw_at (p : Fin 8) (old : FVec Ideal S1x128x128 .f32) (t s : Fin 128) (r : ℝ) (hr : old (ix3 0 t s) = ((r : ℝ) : EReal)) :
    P.dwOf p old (ix3 0 t s) = ((r + M.dW n p t s : ℝ) : EReal) :=
  dwStep_apply _ _ (vnp_at H p) _ _ (dm_at H p) old t s r hr

theorem db_at (old : FVec Ideal S128x128 .f32) (t : Fin 128) (p : Fin 8) (r : ℝ)
    (hr : old (ix2 t ⟨p.val, by omega⟩) = ((r : ℝ) : EReal)) :
    P.dbOf old (ix2 t ⟨p.val, by omega⟩) = ((r + M.dB n p t : ℝ) : EReal) := by
  have e := dbAdd_apply _ _ (dm_at H 7) 7 _ t ⟨p.val, by omega⟩ _ <| dbAdd_apply _ _ (dm_at H 6) 6 _ t ⟨p.val, by omega⟩ _ <|
    dbAdd_apply _ _ (dm_at H 5) 5 _ t ⟨p.val, by omega⟩ _ <| dbAdd_apply _ _ (dm_at H 4) 4 _ t ⟨p.val, by omega⟩ _ <|
    dbAdd_apply _ _ (dm_at H 3) 3 _ t ⟨p.val, by omega⟩ _ <| dbAdd_apply _ _ (dm_at H 2) 2 _ t ⟨p.val, by omega⟩ _ <|
    dbAdd_apply _ _ (dm_at H 1) 1 _ t ⟨p.val, by omega⟩ _ <| dbAdd_apply _ _ (dm_at H 0) 0 _ t ⟨p.val, by omega⟩ _ <| fill_zero _
  unfold Parts.dbOf
  pointwise
  refine (Ideal.add_congr hr e).trans ?_
  rw [← EReal.coe_add]
  refine congrArg _ (congrArg (r + ·) ?_)
  fin_cases p <;> simp [Data.dB, Fin.ext_iff]

theorem dvn_at (s : Fin 128) (k : Fin 1024) : P.dvn (ix2 s k) = ((M.dvn n s k : ℝ) : EReal) := by
  have h : k = col ⟨k.val / 128, by omega⟩ ⟨k.val % 128, Nat.mod_lt _ (by norm_num)⟩ := Fin.ext (by simp [col]; omega)
  have e : ∀ (p : Fin 8) (e : Fin 128), P.dvn (ix2 s (col p e)) = ((M.dn n s p e : ℝ) : EReal) := by
    intro p e
    unfold Parts.dvn
    rw [eight_apply]
    fin_cases p <;> exact dPart_apply _ _ (H.wt _) _ _ (dm_at H _) s e
  exact (congrArg (fun k => P.dvn (ix2 s k)) h).trans (e _ _)

theorem dlng_at (old : FVec Ideal S1x1024 .f32) (k : Fin 1024) (r : ℝ) (hr : old (ix2 0 k) = ((r : ℝ) : EReal)) :
    P.dlngOf old (ix2 0 k) = ((r + M.dG n k : ℝ) : EReal) :=
  sumStep_apply _ (fun t k => M.dvn n t k * hat (M.v n t) k) (fun t k => by
    show P.dvn (ix2 t k) * normed P.v (ix2 t k) = _
    rw [dvn_at H, normed_apply _ _ H.v, ← EReal.coe_mul]) old k r hr

theorem dlnb_at (old : FVec Ideal S1x1024 .f32) (k : Fin 1024) (r : ℝ) (hr : old (ix2 0 k) = ((r : ℝ) : EReal)) :
    P.dlnbOf old (ix2 0 k) = ((r + M.dBn n k : ℝ) : EReal) :=
  sumStep_apply _ (M.dvn n) (dvn_at H) old k r hr

theorem dvs_at (t : Fin 128) (k : Fin 1024) : P.dvs (ix2 t k) = ((M.dV n t k : ℝ) : EReal) :=
  dvTile_apply _ _ H.v _ _ H.lng _ _ (dvn_at H) t k

end Cert.Kernel3Ideal.Block
end
-- ==== Proof.MixerReads.lean ====
/-
  The loads of the mixer's backward pass on real numbers.
-/
module

public import proofs.«01_k».proof.Proof.MixerForward
public import proofs.«01_k».proof.Proof.MixerBlock
public import proofs.«01_k».proof.Proof.MixerLoads

@[expose] public section

set_option maxRecDepth 16384
set_option backward.proofsInPublic true
noncomputable section
namespace Cert.Kernel3Ideal.Reads
open Idealize.ShloMosaic Idealize.ShloMosaic.TcCoe Idealize.SL.Sem Idealize.ShloMosaic.Pointwise Cert.Reals Cert.MixerMath
open Cert.MixerModel Cert.Kernel3Ideal Cert.Kernel3Ideal.Gen Cert.Kernel3Ideal.Tiles Cert.Kernel3Ideal.Block Cert.Kernel3Ideal.Host

theorem idx (t : Fin cfg0.N) : win0_0.index t = ![7 - t.val, 0] ∧ win0_1.index t = ![2 * (7 - t.val) - 1, 4] ∧ win0_2.index t = ![7 - t.val, 0]
    ∧ win0_3.index t = ![7 - t.val, 0, 0, 0] ∧ win0_4.index t = ![7 - t.val, 0, 0, 0] ∧ win0_5.index t = ![0, 0] ∧ win0_6.index t = ![0, 0]
    ∧ win0_7.index t = ![0, 0, 0] ∧ win0_8.index t = ![0, 0, 0] ∧ win0_9.index t = ![0, 0] ∧ win0_10.index t = ![0, t.val]
    ∧ win0_11.index t = ![0, 0] := by
  revert t; decide +kernel

variable (m : (ℓ : Loc nD τ sig) → Buf (Elt Ideal) ℓ) (c : Dev nD)

theorem blk0 (t : Fin cfg0.N) (r : Fin 256) (k : Fin 5376) (h : (7 - t.val) * 256 + r.val < 2048) :
    iblk m c 0 t (ix2 r k) = m ((c : Thread nD τ).loc main_arg0) (ix2 ⟨(7 - t.val) * 256 + r.val, h⟩ k) := by
  blk_ext! [Gen.iblk, Gen.V, idx t]

theorem blk1 (t : Fin cfg0.N) (r : Fin 128) (k : Fin 256) (h : (2 * (7 - t.val) - 1) * 128 + r.val < 2048) (h' : 4 * 256 + k.val < 5376) :
    iblk m c 1 t (ix2 r k) = m ((c : Thread nD τ).loc main_arg0) (ix2 ⟨(2 * (7 - t.val) - 1) * 128 + r.val, h⟩ ⟨4 * 256 + k.val, h'⟩) := by
  blk_ext! [Gen.iblk, Gen.V, idx t]

theorem blk2 (t : Fin cfg0.N) (r : Fin 256) (k : Fin 2048) (h : (7 - t.val) * 256 + r.val < 2048) :
    iblk m c 2 t (ix2 r k) = m ((c : Thread nD τ).loc main_arg6) (ix2 ⟨(7 - t.val) * 256 + r.val, h⟩ k) := by
  blk_ext! [Gen.iblk, Gen.V, idx t]

set_option maxHeartbeats 4000000 in
theorem blk3 (t : Fin cfg0.N) (b : Fin 2) (g : Fin 2) (s : Fin 256) (k : Fin 1024) (h : (7 - t.val) * 2 + b.val < 16) :
    iblk m c 3 t (ix4 b g s k) = V m c main_v93 (ix4 ⟨(7 - t.val) * 2 + b.val, h⟩ g s k) := by
  blk_ext! [Gen.iblk, idx t]

set_option maxHeartbeats 4000000 in
theorem blk4 (t : Fin cfg0.N) (b : Fin 2) (g : Fin 2) (k : Fin 1024) (h : (7 - t.val) * 2 + b.val < 16) :
    iblk m c 4 t (ix4 b g 0 k) = V m c main_v94 (ix4 ⟨(7 - t.val) * 2 + b.val, h⟩ g 0 k) := by
  blk_ext! [Gen.iblk, idx t]

theorem blk5 (t : Fin cfg0.N) (k : Fin 1024) :
    iblk m c 5 t (ix2 0 k) = m ((c : Thread nD τ).loc main_arg2) (ix2 0 k) := by
  blk_ext! [Gen.iblk, Gen.V, idx t]

theorem blk6 (t : Fin cfg0.N) (k : Fin 1024) :
    iblk m c 6 t (ix2 0 k) = m ((c : Thread nD τ).loc main_arg3) (ix2 0 k) := by
  blk_ext! [Gen.iblk, Gen.V, idx t]

theorem blk7 (t : Fin cfg0.N) (p : Fin 8) (i j : Fin 128) :
    iblk m c 7 t (ix3 p i j) = V m c main_v0 (ix3 p i j) := by
  blk_ext! [Gen.iblk, idx t]

theorem blk8 (t : Fin cfg0.N) (p : Fin 8) (i j : Fin 128) :
    iblk m c 8 t (ix3 p i j) = V m c main_v95 (ix3 p i j) := by
  blk_ext! [Gen.iblk, idx t]

theorem blk9 (t : Fin cfg0.N) (i : Fin 128) (p : Fin 8) :
    iblk m c 9 t (ix2 i p) = V m c main_v96 (ix2 i p) := by
  blk_ext! [Gen.iblk, idx t]

theorem blk10 (t : Fin cfg0.N) (i : Fin 2048) (k : Fin 256) (h : t.val * 256 + k.val < 2048) :
    iblk m c 10 t (ix2 i k) = V m c main_v90 (ix2 i ⟨t.val * 256 + k.val, h⟩) := by
  blk_ext! [Gen.iblk, idx t]

theorem blk11 (t : Fin cfg0.N) (i k : Fin 2048) :
    iblk m c 11 t (ix2 i k) = m ((c : Thread nD τ).loc main_arg7) (ix2 i k) := by
  blk_ext! [Gen.iblk, Gen.V, idx t]

/-- The arguments are the model's numbers. -/
structure Args (M : Data) : Prop where
  z : ∀ (i : Fin 2048) (k : Fin 5376), m ((c : Thread nD τ).loc main_arg0) (ix2 i k) = ((M.Z i.val k.val : ℝ) : EReal)
  sk : ∀ h : Fin 16, m ((c : Thread nD τ).loc main_arg1) (ix2 0 h) = ((M.sk h.val : ℝ) : EReal)
  g : ∀ k : Fin 1024, m ((c : Thread nD τ).loc main_arg2) (ix2 0 k) = ((M.G k : ℝ) : EReal)
  b : ∀ k : Fin 1024, m ((c : Thread nD τ).loc main_arg3) (ix2 0 k) = ((M.B k : ℝ) : EReal)
  w : ∀ (p : Fin 8) (t s : Fin 128), m ((c : Thread nD τ).loc main_arg4) (ix4 0 p t s) = ((M.W p t s : ℝ) : EReal)
  bi : ∀ (p : Fin 8) (t : Fin 128), m ((c : Thread nD τ).loc main_arg5) (ix3 0 p t) = ((M.b p t : ℝ) : EReal)
  da : ∀ (i k : Fin 2048), m ((c : Thread nD τ).loc main_arg6) (ix2 i k) = ((M.DA i.val k.val : ℝ) : EReal)

variable {m c} {M : Data} (H : Args m c M) (t : Fin cfg0.N)
include H

theorem lt8 (t : Fin cfg0.N) : t.val < 8 := t.isLt

theorem z_at (r : Fin 256) (k : Fin 5376) : iblk m c 0 t (ix2 r k) = ((M.Z (256 * (7 - t.val) + r.val) k.val : ℝ) : EReal) :=
  (blk0 m c t r k (by omega)).trans ((H.z _ _).trans (congrArg (fun i => ((M.Z i k.val : ℝ) : EReal)) (by dsimp only; omega)))

theorem da_at (r : Fin 256) (k : Fin 2048) : iblk m c 2 t (ix2 r k) = ((M.DA (256 * (7 - t.val) + r.val) k.val : ℝ) : EReal) :=
  (blk2 m c t r k (by omega)).trans ((H.da _ _).trans (congrArg (fun i => ((M.DA i k.val : ℝ) : EReal)) (by dsimp only; omega)))

theorem prob_at (b : Fin 2) (g : Fin 2) (s : Fin 256) (j : Fin 8) (i : Fin 128) :
    iblk m c 3 t (ix4 b g s (col j i)) = ((M.P (2 * (7 - t.val) + b.val) g j i s : ℝ) : EReal) :=
  (blk3 m c t b g s _ (by omega)).trans ((congrFun (at_v93 m c) _).trans ((probs_at M _ _ H.z H.sk _ g j i s).trans
    (congrArg (fun n => ((M.P n g j i s : ℝ) : EReal)) (by dsimp only; omega))))

theorem sink_at (b : Fin 2) (g : Fin 2) (j : Fin 8) (i : Fin 128) :
    iblk m c 4 t (ix4 b g 0 (col j i)) = ((M.Ps (2 * (7 - t.val) + b.val) g j i : ℝ) : EReal) :=
  (blk4 m c t b g _ (by omega)).trans ((congrFun (at_v94 m c) _).trans ((sinks_at M _ _ H.z H.sk _ g j i).trans
    (congrArg (fun n => ((M.Ps n g j i : ℝ) : EReal)) (by dsimp only; omega))))

theorem w_at (p : Fin 8) (i s : Fin 128) : iblk m c 7 t (ix3 p i s) = ((M.W p i s : ℝ) : EReal) :=
  (blk7 m c t p i s).trans ((congrFun (at_v0 m c) _).trans ((show hv0 _ (ix3 p i s) = m ((c : Thread nD τ).loc main_arg4) (ix4 0 p i s) by pointwise [hv0]).trans (H.w p i s)))

theorem wt_at (p : Fin 8) (i s : Fin 128) : iblk m c 8 t (ix3 p i s) = ((M.W p s i : ℝ) : EReal) :=
  (blk8 m c t p i s).trans ((congrFun (at_v95 m c) _).trans ((show hv95 _ (ix3 p i s) = m ((c : Thread nD τ).loc main_arg4) (ix4 0 p s i) by pointwise [hv95, hv0]).trans (H.w p s i)))

theorem bt_at (i : Fin 128) (p : Fin 8) : iblk m c 9 t (ix2 i p) = ((M.b p i : ℝ) : EReal) :=
  (blk9 m c t i p).trans ((congrFun (at_v96 m c) _).trans ((show hv96 _ (ix2 i p) = m ((c : Thread nD τ).loc main_arg5) (ix3 0 p i) by pointwise [hv96, hv1]).trans (H.bi p i)))

omit H in
/-- A tile of a block, read at an index. -/
theorem ld2 {a b a' b' : ℕ} (X : (⟨2, ![a, b]⟩ : Shape).Idx → Elt Ideal .f32) (o0 o1 : ℕ) (inb) (i : Fin a') (j : Fin b') (h0 : o0 + i.val < a) (h1 : o1 + j.val < b) :
    View.ld (Val := Elt Ideal) (e' := .f32) X (Rect.unit ![o0, o1] ![a', b'] inb) (ix2 i j) = X (ix2 ⟨o0 + i.val, h0⟩ ⟨o1 + j.val, h1⟩) :=
  View.ld_unit_apply_of X _ _ _ _ _ (fun a => by fin_cases a <;> rfl)

omit H in
theorem ld3 (X : S8x128x128.Idx → Elt Ideal .f32) (p : Fin 8) (inb) (i j : Fin 128) :
    View.ld (Val := Elt Ideal) (e' := .f32) X (Rect.unit ![p.val, 0, 0] ![1, 128, 128] inb) (ix3 0 i j) = X (ix3 p i j) :=
  View.ld_unit_apply_of X _ _ _ _ _ (fun a => by fin_cases a <;> first | rfl | exact (Nat.zero_add _).symm)

end Cert.Kernel3Ideal.Reads
end
-- ==== Proof.MixerHolds.lean ====
/-
  The two blocks of a step of the mixer's backward pass hold the model's numbers.
-/
module

public import proofs.«01_k».proof.Proof.MixerReads

@[expose] public section

set_option maxRecDepth 16384
set_option backward.proofsInPublic true
noncomputable section
namespace Cert.Kernel3Ideal.Reads
open Idealize.ShloMosaic Idealize.ShloMosaic.TcCoe Idealize.SL.Sem Idealize.ShloMosaic.Pointwise Cert.Reals Cert.MixerMath
open Cert.MixerModel Cert.Kernel3Ideal Cert.Kernel3Ideal.Gen Cert.Kernel3Ideal.Tiles Cert.Kernel3Ideal.Block Cert.Kernel3Ideal.Host

theorem ld_prob (t : Fin cfg0.N) (X : S2x2x256x1024.Idx → Elt Ideal .bf16) (b g : Fin 2) (i0 i1 h) (s : Fin 256) (k : Fin 1024) :
    View.ld (View.read (Elt Ideal) (((ms0_3 t).view.slice (Rect.unit ![b.val, 0, 0, 0] ![1, 2, 256, 1024] i0)).reshape S2x256x1024 h) ((hs0_3 t).unread X))
      (Rect.unit ![g.val, 0, 0] ![1, 256, 1024] i1) (ix3 0 s k) = X (ix4 b g s k) := by
  refine (congrFun ((hs0_3 t).read_unread X) _).trans ?_
  have e1 : (Rect.unit (s := S2x256x1024) ![g.val, 0, 0] ![1, 256, 1024] i1).idx (ix3 0 s k) = ix3 g s k :=
    funext fun a => Fin.ext ((Rect.idx_unit_val _ _ _ _ a).trans (by fin_cases a <;> first | rfl | exact Nat.zero_add _))
  have e2 : ∀ Y : FVec Ideal S1x2x256x1024 .bf16, Y (Shape.reshapeEquiv h (ix3 g s k)) = Y (ix4 0 g s k) := fun Y => by
    show shapeCast S2x256x1024 Y h (ix3 g s k) = _
    pointwise
  have e3 : (Rect.unit (s := S2x2x256x1024) ![b.val, 0, 0, 0] ![1, 2, 256, 1024] i0).emb (ix4 0 g s k) = ix4 b g s k :=
    funext fun a => Fin.ext ((Rect.idx_unit_val _ _ _ _ a).trans (by fin_cases a <;> first | rfl | exact Nat.zero_add _))
  rw [← e3, e1]
  exact e2 (fun x => X ((Rect.unit (s := S2x2x256x1024) ![b.val, 0, 0, 0] ![1, 2, 256, 1024] i0).emb x))

theorem ld_sink (t : Fin cfg0.N) (X : S2x2x1x1024.Idx → Elt Ideal .f32) (b g : Fin 2) (i0 i1 h) (k : Fin 1024) :
    View.ld (View.read (Elt Ideal) (((ms0_4 t).view.slice (Rect.unit ![b.val, 0, 0, 0] ![1, 2, 1, 1024] i0)).reshape S2x1x1024 h) ((hs0_4 t).unread X))
      (Rect.unit ![g.val, 0, 0] ![1, 1, 1024] i1) (ix3 0 0 k) = X (ix4 b g 0 k) := by
  refine (congrFun ((hs0_4 t).read_unread X) _).trans ?_
  have e1 : (Rect.unit (s := S2x1x1024) ![g.val, 0, 0] ![1, 1, 1024] i1).idx (ix3 0 0 k) = ix3 g 0 k :=
    funext fun a => Fin.ext ((Rect.idx_unit_val _ _ _ _ a).trans (by fin_cases a <;> first | rfl | exact Nat.zero_add _))
  have e2 : ∀ Y : FVec Ideal S1x2x1x1024 .f32, Y (Shape.reshapeEquiv h (ix3 g 0 k)) = Y (ix4 0 g 0 k) := fun Y => by
    show shapeCast S2x1x1024 Y h (ix3 g 0 k) = _
    pointwise
  have e3 : (Rect.unit (s := S2x2x1x1024) ![b.val, 0, 0, 0] ![1, 2, 1, 1024] i0).emb (ix4 0 g 0 k) = ix4 b g 0 k :=
    funext fun a => Fin.ext ((Rect.idx_unit_val _ _ _ _ a).trans (by fin_cases a <;> first | rfl | exact Nat.zero_add _))
  rw [← e3, e1]
  exact e2 (fun x => X ((Rect.unit (s := S2x2x1x1024) ![b.val, 0, 0, 0] ![1, 2, 1, 1024] i0).emb x))

variable {m : (ℓ : Loc nD τ sig) → Buf (Elt Ideal) ℓ} {c : Dev nD} {M : Data} (H : Args m c M) (t : Fin cfg0.N)
include H

theorem holds0 : Holds (part0 m c t) M (2 * (7 - t.val)) where
  before s k := by
    rw [part0_before, blk1 m c t s k (by omega) (by omega), H.z]
    exact congrArg₂ (fun i k => ((M.Z i k : ℝ) : EReal)) (by dsimp only; omega) (by dsimp only)
  own s k := by
    rw [part0_own, ld2 _ 0 1024 _ _ _ (by omega) (by omega), z_at H]
    exact congrArg₂ (fun i k => ((M.Z i k : ℝ) : EReal)) (by dsimp only; omega) (by dsimp only)
  q g p i e := by
    fin_cases g <;> fin_cases p
    · refine (congrFun (part0_q00 m c t) _).trans ((ld2 _ 0 0 _ _ _ (by omega) (by omega)).trans ((z_at H t _ _).trans ?_))
      exact congrArg₂ (fun i k => ((M.Z i k : ℝ) : EReal)) (by dsimp only; omega) (by simp)
    · refine (congrFun (part0_q01 m c t) _).trans ((ld2 _ 0 128 _ _ _ (by omega) (by omega)).trans ((z_at H t _ _).trans ?_))
      exact congrArg₂ (fun i k => ((M.Z i k : ℝ) : EReal)) (by dsimp only; omega) (by simp)
    · refine (congrFun (part0_q02 m c t) _).trans ((ld2 _ 0 256 _ _ _ (by omega) (by omega)).trans ((z_at H t _ _).trans ?_))
      exact congrArg₂ (fun i k => ((M.Z i k : ℝ) : EReal)) (by dsimp only; omega) (by simp)
    · refine (congrFun (part0_q03 m c t) _).trans ((ld2 _ 0 384 _ _ _ (by omega) (by omega)).trans ((z_at H t _ _).trans ?_))
      exact congrArg₂ (fun i k => ((M.Z i k : ℝ) : EReal)) (by dsimp only; omega) (by simp)
    · refine (congrFun (part0_q10 m c t) _).trans ((ld2 _ 0 512 _ _ _ (by omega) (by omega)).trans ((z_at H t _ _).trans ?_))
      exact congrArg₂ (fun i k => ((M.Z i k : ℝ) : EReal)) (by dsimp only; omega) (by simp)
    · refine (congrFun (part0_q11 m c t) _).trans ((ld2 _ 0 640 _ _ _ (by omega) (by omega)).trans ((z_at H t _ _).trans ?_))
      exact congrArg₂ (fun i k => ((M.Z i k : ℝ) : EReal)) (by dsimp only; omega) (by simp)
    · refine (congrFun (part0_q12 m c t) _).trans ((ld2 _ 0 768 _ _ _ (by omega) (by omega)).trans ((z_at H t _ _).trans ?_))
      exact congrArg₂ (fun i k => ((M.Z i k : ℝ) : EReal)) (by dsimp only; omega) (by simp)
    · refine (congrFun (part0_q13 m c t) _).trans ((ld2 _ 0 896 _ _ _ (by omega) (by omega)).trans ((z_at H t _ _).trans ?_))
      exact congrArg₂ (fun i k => ((M.Z i k : ℝ) : EReal)) (by dsimp only; omega) (by simp)
  ga g p i e := by
    fin_cases g <;> fin_cases p
    · refine (congrFun (part0_ga00 m c t) _).trans ((ld2 _ 0 1280 _ _ _ (by omega) (by omega)).trans ((z_at H t _ _).trans ?_))
      exact congrArg₂ (fun i k => ((M.Z i k : ℝ) : EReal)) (by dsimp only; omega) (by simp)
    · refine (congrFun (part0_ga01 m c t) _).trans ((ld2 _ 0 1408 _ _ _ (by omega) (by omega)).trans ((z_at H t _ _).trans ?_))
      exact congrArg₂ (fun i k => ((M.Z i k : ℝ) : EReal)) (by dsimp only; omega) (by simp)
    · refine (congrFun (part0_ga02 m c t) _).trans ((ld2 _ 0 1536 _ _ _ (by omega) (by omega)).trans ((z_at H t _ _).trans ?_))
      exact congrArg₂ (fun i k => ((M.Z i k : ℝ) : EReal)) (by dsimp only; omega) (by simp)
    · refine (congrFun (part0_ga03 m c t) _).trans ((ld2 _ 0 1664 _ _ _ (by omega) (by omega)).trans ((z_at H t _ _).trans ?_))
      exact congrArg₂ (fun i k => ((M.Z i k : ℝ) : EReal)) (by dsimp only; omega) (by simp)
    · refine (congrFun (part0_ga10 m c t) _).trans ((ld2 _ 0 1792 _ _ _ (by omega) (by omega)).trans ((z_at H t _ _).trans ?_))
      exact congrArg₂ (fun i k => ((M.Z i k : ℝ) : EReal)) (by dsimp only; omega) (by simp)
    · refine (congrFun (part0_ga11 m c t) _).trans ((ld2 _ 0 1920 _ _ _ (by omega) (by omega)).trans ((z_at H t _ _).trans ?_))
      exact congrArg₂ (fun i k => ((M.Z i k : ℝ) : EReal)) (by dsimp only; omega) (by simp)
    · refine (congrFun (part0_ga12 m c t) _).trans ((ld2 _ 0 2048 _ _ _ (by omega) (by omega)).trans ((z_at H t _ _).trans ?_))
      exact congrArg₂ (fun i k => ((M.Z i k : ℝ) : EReal)) (by dsimp only; omega) (by simp)
    · refine (congrFun (part0_ga13 m c t) _).trans ((ld2 _ 0 2176 _ _ _ (by omega) (by omega)).trans ((z_at H t _ _).trans ?_))
      exact congrArg₂ (fun i k => ((M.Z i k : ℝ) : EReal)) (by dsimp only; omega) (by simp)
  da g p i e := by
    fin_cases g <;> fin_cases p
    · refine (congrFun (part0_da00 m c t) _).trans ((ld2 _ 0 0 _ _ _ (by omega) (by omega)).trans ((da_at H t _ _).trans ?_))
      exact congrArg₂ (fun i k => ((M.DA i k : ℝ) : EReal)) (by dsimp only; omega) (by simp)
    · refine (congrFun (part0_da01 m c t) _).trans ((ld2 _ 0 128 _ _ _ (by omega) (by omega)).trans ((da_at H t _ _).trans ?_))
      exact congrArg₂ (fun i k => ((M.DA i k : ℝ) : EReal)) (by dsimp only; omega) (by simp)
    · refine (congrFun (part0_da02 m c t) _).trans ((ld2 _ 0 256 _ _ _ (by omega) (by omega)).trans ((da_at H t _ _).trans ?_))
      exact congrArg₂ (fun i k => ((M.DA i k : ℝ) : EReal)) (by dsimp only; omega) (by simp)
    · refine (congrFun (part0_da03 m c t) _).trans ((ld2 _ 0 384 _ _ _ (by omega) (by omega)).trans ((da_at H t _ _).trans ?_))
      exact congrArg₂ (fun i k => ((M.DA i k : ℝ) : EReal)) (by dsimp only; omega) (by simp)
    · refine (congrFun (part0_da10 m c t) _).trans ((ld2 _ 0 512 _ _ _ (by omega) (by omega)).trans ((da_at H t _ _).trans ?_))
      exact congrArg₂ (fun i k => ((M.DA i k : ℝ) : EReal)) (by dsimp only; omega) (by simp)
    · refine (congrFun (part0_da11 m c t) _).trans ((ld2 _ 0 640 _ _ _ (by omega) (by omega)).trans ((da_at H t _ _).trans ?_))
      exact congrArg₂ (fun i k => ((M.DA i k : ℝ) : EReal)) (by dsimp only; omega) (by simp)
    · refine (congrFun (part0_da12 m c t) _).trans ((ld2 _ 0 768 _ _ _ (by omega) (by omega)).trans ((da_at H t _ _).trans ?_))
      exact congrArg₂ (fun i k => ((M.DA i k : ℝ) : EReal)) (by dsimp only; omega) (by simp)
    · refine (congrFun (part0_da13 m c t) _).trans ((ld2 _ 0 896 _ _ _ (by omega) (by omega)).trans ((da_at H t _ _).trans ?_))
      exact congrArg₂ (fun i k => ((M.DA i k : ℝ) : EReal)) (by dsimp only; omega) (by simp)
  prob g s j i := by
    fin_cases g
    · exact (congrFun (part0_prob0 m c t) _).trans ((ld_prob t _ 0 0 _ _ _ s (col j i)).trans (prob_at H t 0 0 s j i))
    · exact (congrFun (part0_prob1 m c t) _).trans ((ld_prob t _ 0 1 _ _ _ s (col j i)).trans (prob_at H t 0 1 s j i))
  sink g j i := by
    fin_cases g
    · exact (congrFun (part0_sink0 m c t) _).trans ((ld_sink t _ 0 0 _ _ _ (col j i)).trans (sink_at H t 0 0 j i))
    · exact (congrFun (part0_sink1 m c t) _).trans ((ld_sink t _ 0 1 _ _ _ (col j i)).trans (sink_at H t 0 1 j i))
  v i k := by
    rw [part0_v, ld2 _ 0 3328 _ _ _ (by omega) (by omega), z_at H]
    exact congrArg₂ (fun i k => ((M.Z i k : ℝ) : EReal)) (by dsimp only; omega) (by dsimp only)
  lng k := by rw [part0_lng, blk5, H.g]
  lnb k := by rw [part0_lnb, blk6, H.b]
  w p i e := by
    fin_cases p
    · exact (congrFun (part0_w0 m c t) _).trans ((ld3 _ 0 _ i e).trans (w_at H t 0 i e))
    · exact (congrFun (part0_w1 m c t) _).trans ((ld3 _ 1 _ i e).trans (w_at H t 1 i e))
    · exact (congrFun (part0_w2 m c t) _).trans ((ld3 _ 2 _ i e).trans (w_at H t 2 i e))
    · exact (congrFun (part0_w3 m c t) _).trans ((ld3 _ 3 _ i e).trans (w_at H t 3 i e))
    · exact (congrFun (part0_w4 m c t) _).trans ((ld3 _ 4 _ i e).trans (w_at H t 4 i e))
    · exact (congrFun (part0_w5 m c t) _).trans ((ld3 _ 5 _ i e).trans (w_at H t 5 i e))
    · exact (congrFun (part0_w6 m c t) _).trans ((ld3 _ 6 _ i e).trans (w_at H t 6 i e))
    · exact (congrFun (part0_w7 m c t) _).trans ((ld3 _ 7 _ i e).trans (w_at H t 7 i e))
  wt p i e := by
    fin_cases p
    · exact (congrFun (part0_wt0 m c t) _).trans ((ld3 _ 0 _ i e).trans (wt_at H t 0 i e))
    · exact (congrFun (part0_wt1 m c t) _).trans ((ld3 _ 1 _ i e).trans (wt_at H t 1 i e))
    · exact (congrFun (part0_wt2 m c t) _).trans ((ld3 _ 2 _ i e).trans (wt_at H t 2 i e))
    · exact (congrFun (part0_wt3 m c t) _).trans ((ld3 _ 3 _ i e).trans (wt_at H t 3 i e))
    · exact (congrFun (part0_wt4 m c t) _).trans ((ld3 _ 4 _ i e).trans (wt_at H t 4 i e))
    · exact (congrFun (part0_wt5 m c t) _).trans ((ld3 _ 5 _ i e).trans (wt_at H t 5 i e))
    · exact (congrFun (part0_wt6 m c t) _).trans ((ld3 _ 6 _ i e).trans (wt_at H t 6 i e))
    · exact (congrFun (part0_wt7 m c t) _).trans ((ld3 _ 7 _ i e).trans (wt_at H t 7 i e))
  bt p i := by
    fin_cases p
    · refine (congrFun (part0_bt0 m c t) _).trans ((ld2 _ 0 0 _ i 0 (by omega) (by norm_num)).trans ((bt_at H t _ _).trans ?_))
      exact congrArg (fun i => ((M.b 0 i : ℝ) : EReal)) (Fin.ext (by dsimp only; omega))
    · refine (congrFun (part0_bt1 m c t) _).trans ((ld2 _ 0 1 _ i 0 (by omega) (by norm_num)).trans ((bt_at H t _ _).trans ?_))
      exact congrArg (fun i => ((M.b 1 i : ℝ) : EReal)) (Fin.ext (by dsimp only; omega))
    · refine (congrFun (part0_bt2 m c t) _).trans ((ld2 _ 0 2 _ i 0 (by omega) (by norm_num)).trans ((bt_at H t _ _).trans ?_))
      exact congrArg (fun i => ((M.b 2 i : ℝ) : EReal)) (Fin.ext (by dsimp only; omega))
    · refine (congrFun (part0_bt3 m c t) _).trans ((ld2 _ 0 3 _ i 0 (by omega) (by norm_num)).trans ((bt_at H t _ _).trans ?_))
      exact congrArg (fun i => ((M.b 3 i : ℝ) : EReal)) (Fin.ext (by dsimp only; omega))
    · refine (congrFun (part0_bt4 m c t) _).trans ((ld2 _ 0 4 _ i 0 (by omega) (by norm_num)).trans ((bt_at H t _ _).trans ?_))
      exact congrArg (fun i => ((M.b 4 i : ℝ) : EReal)) (Fin.ext (by dsimp only; omega))
    · refine (congrFun (part0_bt5 m c t) _).trans ((ld2 _ 0 5 _ i 0 (by omega) (by norm_num)).trans ((bt_at H t _ _).trans ?_))
      exact congrArg (fun i => ((M.b 5 i : ℝ) : EReal)) (Fin.ext (by dsimp only; omega))
    · refine (congrFun (part0_bt6 m c t) _).trans ((ld2 _ 0 6 _ i 0 (by omega) (by norm_num)).trans ((bt_at H t _ _).trans ?_))
      exact congrArg (fun i => ((M.b 6 i : ℝ) : EReal)) (Fin.ext (by dsimp only; omega))
    · refine (congrFun (part0_bt7 m c t) _).trans ((ld2 _ 0 7 _ i 0 (by omega) (by norm_num)).trans ((bt_at H t _ _).trans ?_))
      exact congrArg (fun i => ((M.b 7 i : ℝ) : EReal)) (Fin.ext (by dsimp only; omega))
  u p i e := by
    fin_cases p
    · refine (congrFun (part0_u0 m c t) _).trans ((ld2 _ 0 2304 _ _ _ (by omega) (by omega)).trans ((z_at H t _ _).trans ?_))
      exact congrArg₂ (fun i k => ((M.Z i k : ℝ) : EReal)) (by dsimp only; omega) (by simp)
    · refine (congrFun (part0_u1 m c t) _).trans ((ld2 _ 0 2432 _ _ _ (by omega) (by omega)).trans ((z_at H t _ _).trans ?_))
      exact congrArg₂ (fun i k => ((M.Z i k : ℝ) : EReal)) (by dsimp only; omega) (by simp)
    · refine (congrFun (part0_u2 m c t) _).trans ((ld2 _ 0 2560 _ _ _ (by omega) (by omega)).trans ((z_at H t _ _).trans ?_))
      exact congrArg₂ (fun i k => ((M.Z i k : ℝ) : EReal)) (by dsimp only; omega) (by simp)
    · refine (congrFun (part0_u3 m c t) _).trans ((ld2 _ 0 2688 _ _ _ (by omega) (by omega)).trans ((z_at H t _ _).trans ?_))
      exact congrArg₂ (fun i k => ((M.Z i k : ℝ) : EReal)) (by dsimp only; omega) (by simp)
    · refine (congrFun (part0_u4 m c t) _).trans ((ld2 _ 0 2816 _ _ _ (by omega) (by omega)).trans ((z_at H t _ _).trans ?_))
      exact congrArg₂ (fun i k => ((M.Z i k : ℝ) : EReal)) (by dsimp only; omega) (by simp)
    · refine (congrFun (part0_u5 m c t) _).trans ((ld2 _ 0 2944 _ _ _ (by omega) (by omega)).trans ((z_at H t _ _).trans ?_))
      exact congrArg₂ (fun i k => ((M.Z i k : ℝ) : EReal)) (by dsimp only; omega) (by simp)
    · refine (congrFun (part0_u6 m c t) _).trans ((ld2 _ 0 3072 _ _ _ (by omega) (by omega)).trans ((z_at H t _ _).trans ?_))
      exact congrArg₂ (fun i k => ((M.Z i k : ℝ) : EReal)) (by dsimp only; omega) (by simp)
    · refine (congrFun (part0_u7 m c t) _).trans ((ld2 _ 0 3200 _ _ _ (by omega) (by omega)).trans ((z_at H t _ _).trans ?_))
      exact congrArg₂ (fun i k => ((M.Z i k : ℝ) : EReal)) (by dsimp only; omega) (by simp)
  gs p i e := by
    fin_cases p
    · refine (congrFun (part0_gs0 m c t) _).trans ((ld2 _ 0 4352 _ _ _ (by omega) (by omega)).trans ((z_at H t _ _).trans ?_))
      exact congrArg₂ (fun i k => ((M.Z i k : ℝ) : EReal)) (by dsimp only; omega) (by simp)
    · refine (congrFun (part0_gs1 m c t) _).trans ((ld2 _ 0 4480 _ _ _ (by omega) (by omega)).trans ((z_at H t _ _).trans ?_))
      exact congrArg₂ (fun i k => ((M.Z i k : ℝ) : EReal)) (by dsimp only; omega) (by simp)
    · refine (congrFun (part0_gs2 m c t) _).trans ((ld2 _ 0 4608 _ _ _ (by omega) (by omega)).trans ((z_at H t _ _).trans ?_))
      exact congrArg₂ (fun i k => ((M.Z i k : ℝ) : EReal)) (by dsimp only; omega) (by simp)
    · refine (congrFun (part0_gs3 m c t) _).trans ((ld2 _ 0 4736 _ _ _ (by omega) (by omega)).trans ((z_at H t _ _).trans ?_))
      exact congrArg₂ (fun i k => ((M.Z i k : ℝ) : EReal)) (by dsimp only; omega) (by simp)
    · refine (congrFun (part0_gs4 m c t) _).trans ((ld2 _ 0 4864 _ _ _ (by omega) (by omega)).trans ((z_at H t _ _).trans ?_))
      exact congrArg₂ (fun i k => ((M.Z i k : ℝ) : EReal)) (by dsimp only; omega) (by simp)
    · refine (congrFun (part0_gs5 m c t) _).trans ((ld2 _ 0 4992 _ _ _ (by omega) (by omega)).trans ((z_at H t _ _).trans ?_))
      exact congrArg₂ (fun i k => ((M.Z i k : ℝ) : EReal)) (by dsimp only; omega) (by simp)
    · refine (congrFun (part0_gs6 m c t) _).trans ((ld2 _ 0 5120 _ _ _ (by omega) (by omega)).trans ((z_at H t _ _).trans ?_))
      exact congrArg₂ (fun i k => ((M.Z i k : ℝ) : EReal)) (by dsimp only; omega) (by simp)
    · refine (congrFun (part0_gs7 m c t) _).trans ((ld2 _ 0 5248 _ _ _ (by omega) (by omega)).trans ((z_at H t _ _).trans ?_))
      exact congrArg₂ (fun i k => ((M.Z i k : ℝ) : EReal)) (by dsimp only; omega) (by simp)
  du p i e := by
    fin_cases p
    · refine (congrFun (part0_du0 m c t) _).trans ((ld2 _ 0 1024 _ _ _ (by omega) (by omega)).trans ((da_at H t _ _).trans ?_))
      exact congrArg₂ (fun i k => ((M.DA i k : ℝ) : EReal)) (by dsimp only; omega) (by simp)
    · refine (congrFun (part0_du1 m c t) _).trans ((ld2 _ 0 1152 _ _ _ (by omega) (by omega)).trans ((da_at H t _ _).trans ?_))
      exact congrArg₂ (fun i k => ((M.DA i k : ℝ) : EReal)) (by dsimp only; omega) (by simp)
    · refine (congrFun (part0_du2 m c t) _).trans ((ld2 _ 0 1280 _ _ _ (by omega) (by omega)).trans ((da_at H t _ _).trans ?_))
      exact congrArg₂ (fun i k => ((M.DA i k : ℝ) : EReal)) (by dsimp only; omega) (by simp)
    · refine (congrFun (part0_du3 m c t) _).trans ((ld2 _ 0 1408 _ _ _ (by omega) (by omega)).trans ((da_at H t _ _).trans ?_))
      exact congrArg₂ (fun i k => ((M.DA i k : ℝ) : EReal)) (by dsimp only; omega) (by simp)
    · refine (congrFun (part0_du4 m c t) _).trans ((ld2 _ 0 1536 _ _ _ (by omega) (by omega)).trans ((da_at H t _ _).trans ?_))
      exact congrArg₂ (fun i k => ((M.DA i k : ℝ) : EReal)) (by dsimp only; omega) (by simp)
    · refine (congrFun (part0_du5 m c t) _).trans ((ld2 _ 0 1664 _ _ _ (by omega) (by omega)).trans ((da_at H t _ _).trans ?_))
      exact congrArg₂ (fun i k => ((M.DA i k : ℝ) : EReal)) (by dsimp only; omega) (by simp)
    · refine (congrFun (part0_du6 m c t) _).trans ((ld2 _ 0 1792 _ _ _ (by omega) (by omega)).trans ((da_at H t _ _).trans ?_))
      exact congrArg₂ (fun i k => ((M.DA i k : ℝ) : EReal)) (by dsimp only; omega) (by simp)
    · refine (congrFun (part0_du7 m c t) _).trans ((ld2 _ 0 1920 _ _ _ (by omega) (by omega)).trans ((da_at H t _ _).trans ?_))
      exact congrArg₂ (fun i k => ((M.DA i k : ℝ) : EReal)) (by dsimp only; omega) (by simp)

theorem holds1 : Holds (part1 m c t) M (2 * (7 - t.val) + 1) where
  before s k := by
    rw [part1_before, ld2 _ 0 1024 _ _ _ (by omega) (by omega), z_at H]
    exact congrArg₂ (fun i k => ((M.Z i k : ℝ) : EReal)) (by dsimp only; omega) (by dsimp only)
  own s k := by
    rw [part1_own, ld2 _ 128 1024 _ _ _ (by omega) (by omega), z_at H]
    exact congrArg₂ (fun i k => ((M.Z i k : ℝ) : EReal)) (by dsimp only; omega) (by dsimp only)
  q g p i e := by
    fin_cases g <;> fin_cases p
    · refine (congrFun (part1_q00 m c t) _).trans ((ld2 _ 128 0 _ _ _ (by omega) (by omega)).trans ((z_at H t _ _).trans ?_))
      exact congrArg₂ (fun i k => ((M.Z i k : ℝ) : EReal)) (by dsimp only; omega) (by simp)
    · refine (congrFun (part1_q01 m c t) _).trans ((ld2 _ 128 128 _ _ _ (by omega) (by omega)).trans ((z_at H t _ _).trans ?_))
      exact congrArg₂ (fun i k => ((M.Z i k : ℝ) : EReal)) (by dsimp only; omega) (by simp)
    · refine (congrFun (part1_q02 m c t) _).trans ((ld2 _ 128 256 _ _ _ (by omega) (by omega)).trans ((z_at H t _ _).trans ?_))
      exact congrArg₂ (fun i k => ((M.Z i k : ℝ) : EReal)) (by dsimp only; omega) (by simp)
    · refine (congrFun (part1_q03 m c t) _).trans ((ld2 _ 128 384 _ _ _ (by omega) (by omega)).trans ((z_at H t _ _).trans ?_))
      exact congrArg₂ (fun i k => ((M.Z i k : ℝ) : EReal)) (by dsimp only; omega) (by simp)
    · refine (congrFun (part1_q10 m c t) _).trans ((ld2 _ 128 512 _ _ _ (by omega) (by omega)).trans ((z_at H t _ _).trans ?_))
      exact congrArg₂ (fun i k => ((M.Z i k : ℝ) : EReal)) (by dsimp only; omega) (by simp)
    · refine (congrFun (part1_q11 m c t) _).trans ((ld2 _ 128 640 _ _ _ (by omega) (by omega)).trans ((z_at H t _ _).trans ?_))
      exact congrArg₂ (fun i k => ((M.Z i k : ℝ) : EReal)) (by dsimp only; omega) (by simp)
    · refine (congrFun (part1_q12 m c t) _).trans ((ld2 _ 128 768 _ _ _ (by omega) (by omega)).trans ((z_at H t _ _).trans ?_))
      exact congrArg₂ (fun i k => ((M.Z i k : ℝ) : EReal)) (by dsimp only; omega) (by simp)
    · refine (congrFun (part1_q13 m c t) _).trans ((ld2 _ 128 896 _ _ _ (by omega) (by omega)).trans ((z_at H t _ _).trans ?_))
      exact congrArg₂ (fun i k => ((M.Z i k : ℝ) : EReal)) (by dsimp only; omega) (by simp)
  ga g p i e := by
    fin_cases g <;> fin_cases p
    · refine (congrFun (part1_ga00 m c t) _).trans ((ld2 _ 128 1280 _ _ _ (by omega) (by omega)).trans ((z_at H t _ _).trans ?_))
      exact congrArg₂ (fun i k => ((M.Z i k : ℝ) : EReal)) (by dsimp only; omega) (by simp)
    · refine (congrFun (part1_ga01 m c t) _).trans ((ld2 _ 128 1408 _ _ _ (by omega) (by omega)).trans ((z_at H t _ _).trans ?_))
      exact congrArg₂ (fun i k => ((M.Z i k : ℝ) : EReal)) (by dsimp only; omega) (by simp)
    · refine (congrFun (part1_ga02 m c t) _).trans ((ld2 _ 128 1536 _ _ _ (by omega) (by omega)).trans ((z_at H t _ _).trans ?_))
      exact congrArg₂ (fun i k => ((M.Z i k : ℝ) : EReal)) (by dsimp only; omega) (by simp)
    · refine (congrFun (part1_ga03 m c t) _).trans ((ld2 _ 128 1664 _ _ _ (by omega) (by omega)).trans ((z_at H t _ _).trans ?_))
      exact congrArg₂ (fun i k => ((M.Z i k : ℝ) : EReal)) (by dsimp only; omega) (by simp)
    · refine (congrFun (part1_ga10 m c t) _).trans ((ld2 _ 128 1792 _ _ _ (by omega) (by omega)).trans ((z_at H t _ _).trans ?_))
      exact congrArg₂ (fun i k => ((M.Z i k : ℝ) : EReal)) (by dsimp only; omega) (by simp)
    · refine (congrFun (part1_ga11 m c t) _).trans ((ld2 _ 128 1920 _ _ _ (by omega) (by omega)).trans ((z_at H t _ _).trans ?_))
      exact congrArg₂ (fun i k => ((M.Z i k : ℝ) : EReal)) (by dsimp only; omega) (by simp)
    · refine (congrFun (part1_ga12 m c t) _).trans ((ld2 _ 128 2048 _ _ _ (by omega) (by omega)).trans ((z_at H t _ _).trans ?_))
      exact congrArg₂ (fun i k => ((M.Z i k : ℝ) : EReal)) (by dsimp only; omega) (by simp)
    · refine (congrFun (part1_ga13 m c t) _).trans ((ld2 _ 128 2176 _ _ _ (by omega) (by omega)).trans ((z_at H t _ _).trans ?_))
      exact congrArg₂ (fun i k => ((M.Z i k : ℝ) : EReal)) (by dsimp only; omega) (by simp)
  da g p i e := by
    fin_cases g <;> fin_cases p
    · refine (congrFun (part1_da00 m c t) _).trans ((ld2 _ 128 0 _ _ _ (by omega) (by omega)).trans ((da_at H t _ _).trans ?_))
      exact congrArg₂ (fun i k => ((M.DA i k : ℝ) : EReal)) (by dsimp only; omega) (by simp)
    · refine (congrFun (part1_da01 m c t) _).trans ((ld2 _ 128 128 _ _ _ (by omega) (by omega)).trans ((da_at H t _ _).trans ?_))
      exact congrArg₂ (fun i k => ((M.DA i k : ℝ) : EReal)) (by dsimp only; omega) (by simp)
    · refine (congrFun (part1_da02 m c t) _).trans ((ld2 _ 128 256 _ _ _ (by omega) (by omega)).trans ((da_at H t _ _).trans ?_))
      exact congrArg₂ (fun i k => ((M.DA i k : ℝ) : EReal)) (by dsimp only; omega) (by simp)
    · refine (congrFun (part1_da03 m c t) _).trans ((ld2 _ 128 384 _ _ _ (by omega) (by omega)).trans ((da_at H t _ _).trans ?_))
      exact congrArg₂ (fun i k => ((M.DA i k : ℝ) : EReal)) (by dsimp only; omega) (by simp)
    · refine (congrFun (part1_da10 m c t) _).trans ((ld2 _ 128 512 _ _ _ (by omega) (by omega)).trans ((da_at H t _ _).trans ?_))
      exact congrArg₂ (fun i k => ((M.DA i k : ℝ) : EReal)) (by dsimp only; omega) (by simp)
    · refine (congrFun (part1_da11 m c t) _).trans ((ld2 _ 128 640 _ _ _ (by omega) (by omega)).trans ((da_at H t _ _).trans ?_))
      exact congrArg₂ (fun i k => ((M.DA i k : ℝ) : EReal)) (by dsimp only; omega) (by simp)
    · refine (congrFun (part1_da12 m c t) _).trans ((ld2 _ 128 768 _ _ _ (by omega) (by omega)).trans ((da_at H t _ _).trans ?_))
      exact congrArg₂ (fun i k => ((M.DA i k : ℝ) : EReal)) (by dsimp only; omega) (by simp)
    · refine (congrFun (part1_da13 m c t) _).trans ((ld2 _ 128 896 _ _ _ (by omega) (by omega)).trans ((da_at H t _ _).trans ?_))
      exact congrArg₂ (fun i k => ((M.DA i k : ℝ) : EReal)) (by dsimp only; omega) (by simp)
  prob g s j i := by
    fin_cases g
    · exact (congrFun (part1_prob0 m c t) _).trans ((ld_prob t _ 1 0 _ _ _ s (col j i)).trans (prob_at H t 1 0 s j i))
    · exact (congrFun (part1_prob1 m c t) _).trans ((ld_prob t _ 1 1 _ _ _ s (col j i)).trans (prob_at H t 1 1 s j i))
  sink g j i := by
    fin_cases g
    · exact (congrFun (part1_sink0 m c t) _).trans ((ld_sink t _ 1 0 _ _ _ (col j i)).trans (sink_at H t 1 0 j i))
    · exact (congrFun (part1_sink1 m c t) _).trans ((ld_sink t _ 1 1 _ _ _ (col j i)).trans (sink_at H t 1 1 j i))
  v i k := by
    rw [part1_v, ld2 _ 128 3328 _ _ _ (by omega) (by omega), z_at H]
    exact congrArg₂ (fun i k => ((M.Z i k : ℝ) : EReal)) (by dsimp only; omega) (by dsimp only)
  lng k := by rw [part1_lng, blk5, H.g]
  lnb k := by rw [part1_lnb, blk6, H.b]
  w p i e := by
    fin_cases p
    · exact (congrFun (part1_w0 m c t) _).trans ((ld3 _ 0 _ i e).trans (w_at H t 0 i e))
    · exact (congrFun (part1_w1 m c t) _).trans ((ld3 _ 1 _ i e).trans (w_at H t 1 i e))
    · exact (congrFun (part1_w2 m c t) _).trans ((ld3 _ 2 _ i e).trans (w_at H t 2 i e))
    · exact (congrFun (part1_w3 m c t) _).trans ((ld3 _ 3 _ i e).trans (w_at H t 3 i e))
    · exact (congrFun (part1_w4 m c t) _).trans ((ld3 _ 4 _ i e).trans (w_at H t 4 i e))
    · exact (congrFun (part1_w5 m c t) _).trans ((ld3 _ 5 _ i e).trans (w_at H t 5 i e))
    · exact (congrFun (part1_w6 m c t) _).trans ((ld3 _ 6 _ i e).trans (w_at H t 6 i e))
    · exact (congrFun (part1_w7 m c t) _).trans ((ld3 _ 7 _ i e).trans (w_at H t 7 i e))
  wt p i e := by
    fin_cases p
    · exact (congrFun (part1_wt0 m c t) _).trans ((ld3 _ 0 _ i e).trans (wt_at H t 0 i e))
    · exact (congrFun (part1_wt1 m c t) _).trans ((ld3 _ 1 _ i e).trans (wt_at H t 1 i e))
    · exact (congrFun (part1_wt2 m c t) _).trans ((ld3 _ 2 _ i e).trans (wt_at H t 2 i e))
    · exact (congrFun (part1_wt3 m c t) _).trans ((ld3 _ 3 _ i e).trans (wt_at H t 3 i e))
    · exact (congrFun (part1_wt4 m c t) _).trans ((ld3 _ 4 _ i e).trans (wt_at H t 4 i e))
    · exact (congrFun (part1_wt5 m c t) _).trans ((ld3 _ 5 _ i e).trans (wt_at H t 5 i e))
    · exact (congrFun (part1_wt6 m c t) _).trans ((ld3 _ 6 _ i e).trans (wt_at H t 6 i e))
    · exact (congrFun (part1_wt7 m c t) _).trans ((ld3 _ 7 _ i e).trans (wt_at H t 7 i e))
  bt p i := by
    fin_cases p
    · refine (congrFun (part1_bt0 m c t) _).trans ((ld2 _ 0 0 _ i 0 (by omega) (by norm_num)).trans ((bt_at H t _ _).trans ?_))
      exact congrArg (fun i => ((M.b 0 i : ℝ) : EReal)) (Fin.ext (by dsimp only; omega))
    · refine (congrFun (part1_bt1 m c t) _).trans ((ld2 _ 0 1 _ i 0 (by omega) (by norm_num)).trans ((bt_at H t _ _).trans ?_))
      exact congrArg (fun i => ((M.b 1 i : ℝ) : EReal)) (Fin.ext (by dsimp only; omega))
    · refine (congrFun (part1_bt2 m c t) _).trans ((ld2 _ 0 2 _ i 0 (by omega) (by norm_num)).trans ((bt_at H t _ _).trans ?_))
      exact congrArg (fun i => ((M.b 2 i : ℝ) : EReal)) (Fin.ext (by dsimp only; omega))
    · refine (congrFun (part1_bt3 m c t) _).trans ((ld2 _ 0 3 _ i 0 (by omega) (by norm_num)).trans ((bt_at H t _ _).trans ?_))
      exact congrArg (fun i => ((M.b 3 i : ℝ) : EReal)) (Fin.ext (by dsimp only; omega))
    · refine (congrFun (part1_bt4 m c t) _).trans ((ld2 _ 0 4 _ i 0 (by omega) (by norm_num)).trans ((bt_at H t _ _).trans ?_))
      exact congrArg (fun i => ((M.b 4 i : ℝ) : EReal)) (Fin.ext (by dsimp only; omega))
    · refine (congrFun (part1_bt5 m c t) _).trans ((ld2 _ 0 5 _ i 0 (by omega) (by norm_num)).trans ((bt_at H t _ _).trans ?_))
      exact congrArg (fun i => ((M.b 5 i : ℝ) : EReal)) (Fin.ext (by dsimp only; omega))
    · refine (congrFun (part1_bt6 m c t) _).trans ((ld2 _ 0 6 _ i 0 (by omega) (by norm_num)).trans ((bt_at H t _ _).trans ?_))
      exact congrArg (fun i => ((M.b 6 i : ℝ) : EReal)) (Fin.ext (by dsimp only; omega))
    · refine (congrFun (part1_bt7 m c t) _).trans ((ld2 _ 0 7 _ i 0 (by omega) (by norm_num)).trans ((bt_at H t _ _).trans ?_))
      exact congrArg (fun i => ((M.b 7 i : ℝ) : EReal)) (Fin.ext (by dsimp only; omega))
  u p i e := by
    fin_cases p
    · refine (congrFun (part1_u0 m c t) _).trans ((ld2 _ 128 2304 _ _ _ (by omega) (by omega)).trans ((z_at H t _ _).trans ?_))
      exact congrArg₂ (fun i k => ((M.Z i k : ℝ) : EReal)) (by dsimp only; omega) (by simp)
    · refine (congrFun (part1_u1 m c t) _).trans ((ld2 _ 128 2432 _ _ _ (by omega) (by omega)).trans ((z_at H t _ _).trans ?_))
      exact congrArg₂ (fun i k => ((M.Z i k : ℝ) : EReal)) (by dsimp only; omega) (by simp)
    · refine (congrFun (part1_u2 m c t) _).trans ((ld2 _ 128 2560 _ _ _ (by omega) (by omega)).trans ((z_at H t _ _).trans ?_))
      exact congrArg₂ (fun i k => ((M.Z i k : ℝ) : EReal)) (by dsimp only; omega) (by simp)
    · refine (congrFun (part1_u3 m c t) _).trans ((ld2 _ 128 2688 _ _ _ (by omega) (by omega)).trans ((z_at H t _ _).trans ?_))
      exact congrArg₂ (fun i k => ((M.Z i k : ℝ) : EReal)) (by dsimp only; omega) (by simp)
    · refine (congrFun (part1_u4 m c t) _).trans ((ld2 _ 128 2816 _ _ _ (by omega) (by omega)).trans ((z_at H t _ _).trans ?_))
      exact congrArg₂ (fun i k => ((M.Z i k : ℝ) : EReal)) (by dsimp only; omega) (by simp)
    · refine (congrFun (part1_u5 m c t) _).trans ((ld2 _ 128 2944 _ _ _ (by omega) (by omega)).trans ((z_at H t _ _).trans ?_))
      exact congrArg₂ (fun i k => ((M.Z i k : ℝ) : EReal)) (by dsimp only; omega) (by simp)
    · refine (congrFun (part1_u6 m c t) _).trans ((ld2 _ 128 3072 _ _ _ (by omega) (by omega)).trans ((z_at H t _ _).trans ?_))
      exact congrArg₂ (fun i k => ((M.Z i k : ℝ) : EReal)) (by dsimp only; omega) (by simp)
    · refine (congrFun (part1_u7 m c t) _).trans ((ld2 _ 128 3200 _ _ _ (by omega) (by omega)).trans ((z_at H t _ _).trans ?_))
      exact congrArg₂ (fun i k => ((M.Z i k : ℝ) : EReal)) (by dsimp only; omega) (by simp)
  gs p i e := by
    fin_cases p
    · refine (congrFun (part1_gs0 m c t) _).trans ((ld2 _ 128 4352 _ _ _ (by omega) (by omega)).trans ((z_at H t _ _).trans ?_))
      exact congrArg₂ (fun i k => ((M.Z i k : ℝ) : EReal)) (by dsimp only; omega) (by simp)
    · refine (congrFun (part1_gs1 m c t) _).trans ((ld2 _ 128 4480 _ _ _ (by omega) (by omega)).trans ((z_at H t _ _).trans ?_))
      exact congrArg₂ (fun i k => ((M.Z i k : ℝ) : EReal)) (by dsimp only; omega) (by simp)
    · refine (congrFun (part1_gs2 m c t) _).trans ((ld2 _ 128 4608 _ _ _ (by omega) (by omega)).trans ((z_at H t _ _).trans ?_))
      exact congrArg₂ (fun i k => ((M.Z i k : ℝ) : EReal)) (by dsimp only; omega) (by simp)
    · refine (congrFun (part1_gs3 m c t) _).trans ((ld2 _ 128 4736 _ _ _ (by omega) (by omega)).trans ((z_at H t _ _).trans ?_))
      exact congrArg₂ (fun i k => ((M.Z i k : ℝ) : EReal)) (by dsimp only; omega) (by simp)
    · refine (congrFun (part1_gs4 m c t) _).trans ((ld2 _ 128 4864 _ _ _ (by omega) (by omega)).trans ((z_at H t _ _).trans ?_))
      exact congrArg₂ (fun i k => ((M.Z i k : ℝ) : EReal)) (by dsimp only; omega) (by simp)
    · refine (congrFun (part1_gs5 m c t) _).trans ((ld2 _ 128 4992 _ _ _ (by omega) (by omega)).trans ((z_at H t _ _).trans ?_))
      exact congrArg₂ (fun i k => ((M.Z i k : ℝ) : EReal)) (by dsimp only; omega) (by simp)
    · refine (congrFun (part1_gs6 m c t) _).trans ((ld2 _ 128 5120 _ _ _ (by omega) (by omega)).trans ((z_at H t _ _).trans ?_))
      exact congrArg₂ (fun i k => ((M.Z i k : ℝ) : EReal)) (by dsimp only; omega) (by simp)
    · refine (congrFun (part1_gs7 m c t) _).trans ((ld2 _ 128 5248 _ _ _ (by omega) (by omega)).trans ((z_at H t _ _).trans ?_))
      exact congrArg₂ (fun i k => ((M.Z i k : ℝ) : EReal)) (by dsimp only; omega) (by simp)
  du p i e := by
    fin_cases p
    · refine (congrFun (part1_du0 m c t) _).trans ((ld2 _ 128 1024 _ _ _ (by omega) (by omega)).trans ((da_at H t _ _).trans ?_))
      exact congrArg₂ (fun i k => ((M.DA i k : ℝ) : EReal)) (by dsimp only; omega) (by simp)
    · refine (congrFun (part1_du1 m c t) _).trans ((ld2 _ 128 1152 _ _ _ (by omega) (by omega)).trans ((da_at H t _ _).trans ?_))
      exact congrArg₂ (fun i k => ((M.DA i k : ℝ) : EReal)) (by dsimp only; omega) (by simp)
    · refine (congrFun (part1_du2 m c t) _).trans ((ld2 _ 128 1280 _ _ _ (by omega) (by omega)).trans ((da_at H t _ _).trans ?_))
      exact congrArg₂ (fun i k => ((M.DA i k : ℝ) : EReal)) (by dsimp only; omega) (by simp)
    · refine (congrFun (part1_du3 m c t) _).trans ((ld2 _ 128 1408 _ _ _ (by omega) (by omega)).trans ((da_at H t _ _).trans ?_))
      exact congrArg₂ (fun i k => ((M.DA i k : ℝ) : EReal)) (by dsimp only; omega) (by simp)
    · refine (congrFun (part1_du4 m c t) _).trans ((ld2 _ 128 1536 _ _ _ (by omega) (by omega)).trans ((da_at H t _ _).trans ?_))
      exact congrArg₂ (fun i k => ((M.DA i k : ℝ) : EReal)) (by dsimp only; omega) (by simp)
    · refine (congrFun (part1_du5 m c t) _).trans ((ld2 _ 128 1664 _ _ _ (by omega) (by omega)).trans ((da_at H t _ _).trans ?_))
      exact congrArg₂ (fun i k => ((M.DA i k : ℝ) : EReal)) (by dsimp only; omega) (by simp)
    · refine (congrFun (part1_du6 m c t) _).trans ((ld2 _ 128 1792 _ _ _ (by omega) (by omega)).trans ((da_at H t _ _).trans ?_))
      exact congrArg₂ (fun i k => ((M.DA i k : ℝ) : EReal)) (by dsimp only; omega) (by simp)
    · refine (congrFun (part1_du7 m c t) _).trans ((ld2 _ 128 1920 _ _ _ (by omega) (by omega)).trans ((da_at H t _ _).trans ?_))
      exact congrArg₂ (fun i k => ((M.DA i k : ℝ) : EReal)) (by dsimp only; omega) (by simp)

end Cert.Kernel3Ideal.Reads
end
-- ==== Proof.MixerDz.lean ====
/-
  What a step of the mixer's backward pass stores of the gradient of its 256 rows.
-/
module

public import proofs.«01_k».proof.Proof.MixerPay
public import proofs.«01_k».proof.Proof.MixerLoads

@[expose] public section

set_option maxRecDepth 65536
set_option maxHeartbeats 4000000
set_option backward.proofsInPublic true
noncomputable section
namespace Cert.Kernel3Ideal.Tiles
open Idealize.ShloMosaic Idealize.ShloMosaic.TcCoe Idealize.SL.Sem Idealize.ShloMosaic.Pointwise Cert.Reals Cert.MixerMath
open Cert.Kernel3Ideal Cert.Kernel3Ideal.Gen
variable (m : (ℓ : Loc nD τ sig) → Buf (Elt Ideal) ℓ) (c : Dev nD)

/-- An array is the gradient of the rows of a block: the tiles of the block are its parts. -/
structure DzIs (P : Parts) (carry : FVec Ideal S128x256 .f32) (X : Fin 128 → Fin 5376 → EReal) : Prop where
  q00 : ∀ i j : Fin 128, P.dq00 (ix2 i j) = X i ⟨0 + j.val, by omega⟩
  ga00 : ∀ i j : Fin 128, P.dga00 (ix2 i j) = X i ⟨1280 + j.val, by omega⟩
  q01 : ∀ i j : Fin 128, P.dq01 (ix2 i j) = X i ⟨128 + j.val, by omega⟩
  ga01 : ∀ i j : Fin 128, P.dga01 (ix2 i j) = X i ⟨1408 + j.val, by omega⟩
  q02 : ∀ i j : Fin 128, P.dq02 (ix2 i j) = X i ⟨256 + j.val, by omega⟩
  ga02 : ∀ i j : Fin 128, P.dga02 (ix2 i j) = X i ⟨1536 + j.val, by omega⟩
  q03 : ∀ i j : Fin 128, P.dq03 (ix2 i j) = X i ⟨384 + j.val, by omega⟩
  ga03 : ∀ i j : Fin 128, P.dga03 (ix2 i j) = X i ⟨1664 + j.val, by omega⟩
  q10 : ∀ i j : Fin 128, P.dq10 (ix2 i j) = X i ⟨512 + j.val, by omega⟩
  ga10 : ∀ i j : Fin 128, P.dga10 (ix2 i j) = X i ⟨1792 + j.val, by omega⟩
  q11 : ∀ i j : Fin 128, P.dq11 (ix2 i j) = X i ⟨640 + j.val, by omega⟩
  ga11 : ∀ i j : Fin 128, P.dga11 (ix2 i j) = X i ⟨1920 + j.val, by omega⟩
  q12 : ∀ i j : Fin 128, P.dq12 (ix2 i j) = X i ⟨768 + j.val, by omega⟩
  ga12 : ∀ i j : Fin 128, P.dga12 (ix2 i j) = X i ⟨2048 + j.val, by omega⟩
  q13 : ∀ i j : Fin 128, P.dq13 (ix2 i j) = X i ⟨896 + j.val, by omega⟩
  ga13 : ∀ i j : Fin 128, P.dga13 (ix2 i j) = X i ⟨2176 + j.val, by omega⟩
  kv : ∀ (i : Fin 128) (j : Fin 256), kvTile P.kv carry (ix2 i j) = X i ⟨1024 + j.val, by omega⟩
  v : ∀ (i : Fin 128) (j : Fin 1024), P.dvs (ix2 i j) = X i ⟨3328 + j.val, by omega⟩
  u0 : ∀ i j : Fin 128, P.dup 0 (ix2 i j) = X i ⟨2304 + j.val, by omega⟩
  gs0 : ∀ i j : Fin 128, P.dgs 0 (ix2 i j) = X i ⟨4352 + j.val, by omega⟩
  u1 : ∀ i j : Fin 128, P.dup 1 (ix2 i j) = X i ⟨2432 + j.val, by omega⟩
  gs1 : ∀ i j : Fin 128, P.dgs 1 (ix2 i j) = X i ⟨4480 + j.val, by omega⟩
  u2 : ∀ i j : Fin 128, P.dup 2 (ix2 i j) = X i ⟨2560 + j.val, by omega⟩
  gs2 : ∀ i j : Fin 128, P.dgs 2 (ix2 i j) = X i ⟨4608 + j.val, by omega⟩
  u3 : ∀ i j : Fin 128, P.dup 3 (ix2 i j) = X i ⟨2688 + j.val, by omega⟩
  gs3 : ∀ i j : Fin 128, P.dgs 3 (ix2 i j) = X i ⟨4736 + j.val, by omega⟩
  u4 : ∀ i j : Fin 128, P.dup 4 (ix2 i j) = X i ⟨2816 + j.val, by omega⟩
  gs4 : ∀ i j : Fin 128, P.dgs 4 (ix2 i j) = X i ⟨4864 + j.val, by omega⟩
  u5 : ∀ i j : Fin 128, P.dup 5 (ix2 i j) = X i ⟨2944 + j.val, by omega⟩
  gs5 : ∀ i j : Fin 128, P.dgs 5 (ix2 i j) = X i ⟨4992 + j.val, by omega⟩
  u6 : ∀ i j : Fin 128, P.dup 6 (ix2 i j) = X i ⟨3072 + j.val, by omega⟩
  gs6 : ∀ i j : Fin 128, P.dgs 6 (ix2 i j) = X i ⟨5120 + j.val, by omega⟩
  u7 : ∀ i j : Fin 128, P.dup 7 (ix2 i j) = X i ⟨3200 + j.val, by omega⟩
  gs7 : ∀ i j : Fin 128, P.dgs 7 (ix2 i j) = X i ⟨5248 + j.val, by omega⟩

theorem put {a b : ℕ} (X : Fin a → Fin b → EReal) {i i' : Fin a} {j j' : Fin b} (hi : i.val = i'.val := by dsimp only; omega)
    (hj : j.val = j'.val := by dsimp only; omega) : X i j = X i' j' := congrArg₂ X (Fin.ext hi) (Fin.ext hj)

theorem piece {a b : ℕ} (T : (⟨2, ![a, b]⟩ : Shape).Idx → EReal) (F : Fin a → Fin b → EReal)
    (h : ∀ i j, T (ix2 i j) = F i j) (x : (⟨2, ![a, b]⟩ : Shape).Idx) : T x = F (x 0) (x 1) := by
  refine (congrArg T ?_).trans (h (x 0) (x 1))
  funext a
  fin_cases a <;> rfl

/-- The keys' and values' gradient carried into a step. -/
def carried (t : Fin cfg0.N) : FVec Ideal S128x256 .f32 := (outsAt0 m c (t.val - 1) (by omega)).2.2.2.2.2.2.2.1

theorem dz_A (t : Fin cfg0.N) (h0 : t.val % 8 = 0) (h1 : ¬t.val % 8 = 7) (X : Fin 256 → Fin 5376 → EReal)
    (D1 : DzIs (part1 m c t) (fill S128x256 0x00000000#32) (fun i k => X ⟨128 + i.val, by omega⟩ k))
    (D0 : DzIs (part0 m c t) (handed (part1 m c t).kv) (fun i k => X ⟨i.val, by omega⟩ k)) :
    (outsAt0 m c t.val t.isLt).1 = fun y => X (y 0) (y 1) := by
  rw [outsAt0_A m c t h0 h1]
  frame_out
  try simp (disch := decide) only [↓ View.readCov_skip, ↓ View.readCov_cons_toLoadRect, ↓ View.readCov_fill]
  try simp only [read_unread_whole]
  funext y
  canon_tiles x h using View.cover_of_tiledBy _ ![128, 128] (by sl_kernel_rfl) y
  · have e := congrFun (pay0_v (part0 m c t)) x
    simp only [leaves m c t] at e
    exact e.trans <| (piece ((part0 m c t).dvs) _ D0.v x).trans (put X)
  · have e := congrFun (pay0_gs7 (part0 m c t)) x
    simp only [leaves m c t] at e
    exact e.trans <| (piece ((part0 m c t).dgs 7) _ D0.gs7 x).trans (put X)
  · have e := congrFun (pay0_u7 (part0 m c t)) x
    simp only [leaves m c t] at e
    exact e.trans <| (piece ((part0 m c t).dup 7) _ D0.u7 x).trans (put X)
  · have e := congrFun (pay0_gs6 (part0 m c t)) x
    simp only [leaves m c t] at e
    exact e.trans <| (piece ((part0 m c t).dgs 6) _ D0.gs6 x).trans (put X)
  · have e := congrFun (pay0_u6 (part0 m c t)) x
    simp only [leaves m c t] at e
    exact e.trans <| (piece ((part0 m c t).dup 6) _ D0.u6 x).trans (put X)
  · have e := congrFun (pay0_gs5 (part0 m c t)) x
    simp only [leaves m c t] at e
    exact e.trans <| (piece ((part0 m c t).dgs 5) _ D0.gs5 x).trans (put X)
  · have e := congrFun (pay0_u5 (part0 m c t)) x
    simp only [leaves m c t] at e
    exact e.trans <| (piece ((part0 m c t).dup 5) _ D0.u5 x).trans (put X)
  · have e := congrFun (pay0_gs4 (part0 m c t)) x
    simp only [leaves m c t] at e
    exact e.trans <| (piece ((part0 m c t).dgs 4) _ D0.gs4 x).trans (put X)
  · have e := congrFun (pay0_u4 (part0 m c t)) x
    simp only [leaves m c t] at e
    exact e.trans <| (piece ((part0 m c t).dup 4) _ D0.u4 x).trans (put X)
  · have e := congrFun (pay0_gs3 (part0 m c t)) x
    simp only [leaves m c t] at e
    exact e.trans <| (piece ((part0 m c t).dgs 3) _ D0.gs3 x).trans (put X)
  · have e := congrFun (pay0_u3 (part0 m c t)) x
    simp only [leaves m c t] at e
    exact e.trans <| (piece ((part0 m c t).dup 3) _ D0.u3 x).trans (put X)
  · have e := congrFun (pay0_gs2 (part0 m c t)) x
    simp only [leaves m c t] at e
    exact e.trans <| (piece ((part0 m c t).dgs 2) _ D0.gs2 x).trans (put X)
  · have e := congrFun (pay0_u2 (part0 m c t)) x
    simp only [leaves m c t] at e
    exact e.trans <| (piece ((part0 m c t).dup 2) _ D0.u2 x).trans (put X)
  · have e := congrFun (pay0_gs1 (part0 m c t)) x
    simp only [leaves m c t] at e
    exact e.trans <| (piece ((part0 m c t).dgs 1) _ D0.gs1 x).trans (put X)
  · have e := congrFun (pay0_u1 (part0 m c t)) x
    simp only [leaves m c t] at e
    exact e.trans <| (piece ((part0 m c t).dup 1) _ D0.u1 x).trans (put X)
  · have e := congrFun (pay0_gs0 (part0 m c t)) x
    simp only [leaves m c t] at e
    exact e.trans <| (piece ((part0 m c t).dgs 0) _ D0.gs0 x).trans (put X)
  · have e := congrFun (pay0_u0 (part0 m c t)) x
    simp only [leaves m c t] at e
    exact e.trans <| (piece ((part0 m c t).dup 0) _ D0.u0 x).trans (put X)
  · have e := congrFun (pay0_kv (part1 m c t) (part0 m c t)) x
    simp only [leaves m c t] at e
    exact e.trans <| (piece (kvTile (part0 m c t).kv (handed (part1 m c t).kv)) _ D0.kv x).trans (put X)
  · have e := congrFun (pay0_ga13 (part0 m c t)) x
    simp only [leaves m c t] at e
    exact e.trans <| (piece ((part0 m c t).dga13) _ D0.ga13 x).trans (put X)
  · have e := congrFun (pay0_q13 (part0 m c t)) x
    simp only [leaves m c t] at e
    exact e.trans <| (piece ((part0 m c t).dq13) _ D0.q13 x).trans (put X)
  · have e := congrFun (pay0_ga12 (part0 m c t)) x
    simp only [leaves m c t] at e
    exact e.trans <| (piece ((part0 m c t).dga12) _ D0.ga12 x).trans (put X)
  · have e := congrFun (pay0_q12 (part0 m c t)) x
    simp only [leaves m c t] at e
    exact e.trans <| (piece ((part0 m c t).dq12) _ D0.q12 x).trans (put X)
  · have e := congrFun (pay0_ga11 (part0 m c t)) x
    simp only [leaves m c t] at e
    exact e.trans <| (piece ((part0 m c t).dga11) _ D0.ga11 x).trans (put X)
  · have e := congrFun (pay0_q11 (part0 m c t)) x
    simp only [leaves m c t] at e
    exact e.trans <| (piece ((part0 m c t).dq11) _ D0.q11 x).trans (put X)
  · have e := congrFun (pay0_ga10 (part0 m c t)) x
    simp only [leaves m c t] at e
    exact e.trans <| (piece ((part0 m c t).dga10) _ D0.ga10 x).trans (put X)
  · have e := congrFun (pay0_q10 (part0 m c t)) x
    simp only [leaves m c t] at e
    exact e.trans <| (piece ((part0 m c t).dq10) _ D0.q10 x).trans (put X)
  · have e := congrFun (pay0_ga03 (part0 m c t)) x
    simp only [leaves m c t] at e
    exact e.trans <| (piece ((part0 m c t).dga03) _ D0.ga03 x).trans (put X)
  · have e := congrFun (pay0_q03 (part0 m c t)) x
    simp only [leaves m c t] at e
    exact e.trans <| (piece ((part0 m c t).dq03) _ D0.q03 x).trans (put X)
  · have e := congrFun (pay0_ga02 (part0 m c t)) x
    simp only [leaves m c t] at e
    exact e.trans <| (piece ((part0 m c t).dga02) _ D0.ga02 x).trans (put X)
  · have e := congrFun (pay0_q02 (part0 m c t)) x
    simp only [leaves m c t] at e
    exact e.trans <| (piece ((part0 m c t).dq02) _ D0.q02 x).trans (put X)
  · have e := congrFun (pay0_ga01 (part0 m c t)) x
    simp only [leaves m c t] at e
    exact e.trans <| (piece ((part0 m c t).dga01) _ D0.ga01 x).trans (put X)
  · have e := congrFun (pay0_q01 (part0 m c t)) x
    simp only [leaves m c t] at e
    exact e.trans <| (piece ((part0 m c t).dq01) _ D0.q01 x).trans (put X)
  · have e := congrFun (pay0_ga00 (part0 m c t)) x
    simp only [leaves m c t] at e
    exact e.trans <| (piece ((part0 m c t).dga00) _ D0.ga00 x).trans (put X)
  · have e := congrFun (pay0_q00 (part0 m c t)) x
    simp only [leaves m c t] at e
    exact e.trans <| (piece ((part0 m c t).dq00) _ D0.q00 x).trans (put X)
  · have e := congrFun (pay1_v (part1 m c t)) x
    simp only [leaves m c t] at e
    exact e.trans <| (piece ((part1 m c t).dvs) _ D1.v x).trans (put X)
  · have e := congrFun (pay1_gs7 (part1 m c t)) x
    simp only [leaves m c t] at e
    exact e.trans <| (piece ((part1 m c t).dgs 7) _ D1.gs7 x).trans (put X)
  · have e := congrFun (pay1_u7 (part1 m c t)) x
    simp only [leaves m c t] at e
    exact e.trans <| (piece ((part1 m c t).dup 7) _ D1.u7 x).trans (put X)
  · have e := congrFun (pay1_gs6 (part1 m c t)) x
    simp only [leaves m c t] at e
    exact e.trans <| (piece ((part1 m c t).dgs 6) _ D1.gs6 x).trans (put X)
  · have e := congrFun (pay1_u6 (part1 m c t)) x
    simp only [leaves m c t] at e
    exact e.trans <| (piece ((part1 m c t).dup 6) _ D1.u6 x).trans (put X)
  · have e := congrFun (pay1_gs5 (part1 m c t)) x
    simp only [leaves m c t] at e
    exact e.trans <| (piece ((part1 m c t).dgs 5) _ D1.gs5 x).trans (put X)
  · have e := congrFun (pay1_u5 (part1 m c t)) x
    simp only [leaves m c t] at e
    exact e.trans <| (piece ((part1 m c t).dup 5) _ D1.u5 x).trans (put X)
  · have e := congrFun (pay1_gs4 (part1 m c t)) x
    simp only [leaves m c t] at e
    exact e.trans <| (piece ((part1 m c t).dgs 4) _ D1.gs4 x).trans (put X)
  · have e := congrFun (pay1_u4 (part1 m c t)) x
    simp only [leaves m c t] at e
    exact e.trans <| (piece ((part1 m c t).dup 4) _ D1.u4 x).trans (put X)
  · have e := congrFun (pay1_gs3 (part1 m c t)) x
    simp only [leaves m c t] at e
    exact e.trans <| (piece ((part1 m c t).dgs 3) _ D1.gs3 x).trans (put X)
  · have e := congrFun (pay1_u3 (part1 m c t)) x
    simp only [leaves m c t] at e
    exact e.trans <| (piece ((part1 m c t).dup 3) _ D1.u3 x).trans (put X)
  · have e := congrFun (pay1_gs2 (part1 m c t)) x
    simp only [leaves m c t] at e
    exact e.trans <| (piece ((part1 m c t).dgs 2) _ D1.gs2 x).trans (put X)
  · have e := congrFun (pay1_u2 (part1 m c t)) x
    simp only [leaves m c t] at e
    exact e.trans <| (piece ((part1 m c t).dup 2) _ D1.u2 x).trans (put X)
  · have e := congrFun (pay1_gs1 (part1 m c t)) x
    simp only [leaves m c t] at e
    exact e.trans <| (piece ((part1 m c t).dgs 1) _ D1.gs1 x).trans (put X)
  · have e := congrFun (pay1_u1 (part1 m c t)) x
    simp only [leaves m c t] at e
    exact e.trans <| (piece ((part1 m c t).dup 1) _ D1.u1 x).trans (put X)
  · have e := congrFun (pay1_gs0 (part1 m c t)) x
    simp only [leaves m c t] at e
    exact e.trans <| (piece ((part1 m c t).dgs 0) _ D1.gs0 x).trans (put X)
  · have e := congrFun (pay1_u0 (part1 m c t)) x
    simp only [leaves m c t] at e
    exact e.trans <| (piece ((part1 m c t).dup 0) _ D1.u0 x).trans (put X)
  · have e := congrFun (pay1_kv (part1 m c t) (fill S128x256 0x00000000#32)) x
    simp only [leaves m c t] at e
    exact e.trans <| (piece (kvTile (part1 m c t).kv (fill S128x256 0x00000000#32)) _ D1.kv x).trans (put X)
  · have e := congrFun (pay1_ga13 (part1 m c t)) x
    simp only [leaves m c t] at e
    exact e.trans <| (piece ((part1 m c t).dga13) _ D1.ga13 x).trans (put X)
  · have e := congrFun (pay1_q13 (part1 m c t)) x
    simp only [leaves m c t] at e
    exact e.trans <| (piece ((part1 m c t).dq13) _ D1.q13 x).trans (put X)
  · have e := congrFun (pay1_ga12 (part1 m c t)) x
    simp only [leaves m c t] at e
    exact e.trans <| (piece ((part1 m c t).dga12) _ D1.ga12 x).trans (put X)
  · have e := congrFun (pay1_q12 (part1 m c t)) x
    simp only [leaves m c t] at e
    exact e.trans <| (piece ((part1 m c t).dq12) _ D1.q12 x).trans (put X)
  · have e := congrFun (pay1_ga11 (part1 m c t)) x
    simp only [leaves m c t] at e
    exact e.trans <| (piece ((part1 m c t).dga11) _ D1.ga11 x).trans (put X)
  · have e := congrFun (pay1_q11 (part1 m c t)) x
    simp only [leaves m c t] at e
    exact e.trans <| (piece ((part1 m c t).dq11) _ D1.q11 x).trans (put X)
  · have e := congrFun (pay1_ga10 (part1 m c t)) x
    simp only [leaves m c t] at e
    exact e.trans <| (piece ((part1 m c t).dga10) _ D1.ga10 x).trans (put X)
  · have e := congrFun (pay1_q10 (part1 m c t)) x
    simp only [leaves m c t] at e
    exact e.trans <| (piece ((part1 m c t).dq10) _ D1.q10 x).trans (put X)
  · have e := congrFun (pay1_ga03 (part1 m c t)) x
    simp only [leaves m c t] at e
    exact e.trans <| (piece ((part1 m c t).dga03) _ D1.ga03 x).trans (put X)
  · have e := congrFun (pay1_q03 (part1 m c t)) x
    simp only [leaves m c t] at e
    exact e.trans <| (piece ((part1 m c t).dq03) _ D1.q03 x).trans (put X)
  · have e := congrFun (pay1_ga02 (part1 m c t)) x
    simp only [leaves m c t] at e
    exact e.trans <| (piece ((part1 m c t).dga02) _ D1.ga02 x).trans (put X)
  · have e := congrFun (pay1_q02 (part1 m c t)) x
    simp only [leaves m c t] at e
    exact e.trans <| (piece ((part1 m c t).dq02) _ D1.q02 x).trans (put X)
  · have e := congrFun (pay1_ga01 (part1 m c t)) x
    simp only [leaves m c t] at e
    exact e.trans <| (piece ((part1 m c t).dga01) _ D1.ga01 x).trans (put X)
  · have e := congrFun (pay1_q01 (part1 m c t)) x
    simp only [leaves m c t] at e
    exact e.trans <| (piece ((part1 m c t).dq01) _ D1.q01 x).trans (put X)
  · have e := congrFun (pay1_ga00 (part1 m c t)) x
    simp only [leaves m c t] at e
    exact e.trans <| (piece ((part1 m c t).dga00) _ D1.ga00 x).trans (put X)
  · have e := congrFun (pay1_q00 (part1 m c t)) x
    simp only [leaves m c t] at e
    exact e.trans <| (piece ((part1 m c t).dq00) _ D1.q00 x).trans (put X)

theorem dz_B (t : Fin cfg0.N) (h0 : ¬t.val % 8 = 0) (h1 : ¬t.val % 8 = 7) (X : Fin 256 → Fin 5376 → EReal)
    (D1 : DzIs (part1 m c t) (carried m c t) (fun i k => X ⟨128 + i.val, by omega⟩ k))
    (D0 : DzIs (part0 m c t) (handed (part1 m c t).kv) (fun i k => X ⟨i.val, by omega⟩ k)) :
    (outsAt0 m c t.val t.isLt).1 = fun y => X (y 0) (y 1) := by
  rw [outsAt0_B m c t h0 h1]
  frame_out
  try simp (disch := decide) only [↓ View.readCov_skip, ↓ View.readCov_cons_toLoadRect, ↓ View.readCov_fill]
  try simp only [read_unread_whole]
  funext y
  canon_tiles x h using View.cover_of_tiledBy _ ![128, 128] (by sl_kernel_rfl) y
  · have e := congrFun (pay0_v (part0 m c t)) x
    simp only [leaves m c t] at e
    exact e.trans <| (piece ((part0 m c t).dvs) _ D0.v x).trans (put X)
  · have e := congrFun (pay0_gs7 (part0 m c t)) x
    simp only [leaves m c t] at e
    exact e.trans <| (piece ((part0 m c t).dgs 7) _ D0.gs7 x).trans (put X)
  · have e := congrFun (pay0_u7 (part0 m c t)) x
    simp only [leaves m c t] at e
    exact e.trans <| (piece ((part0 m c t).dup 7) _ D0.u7 x).trans (put X)
  · have e := congrFun (pay0_gs6 (part0 m c t)) x
    simp only [leaves m c t] at e
    exact e.trans <| (piece ((part0 m c t).dgs 6) _ D0.gs6 x).trans (put X)
  · have e := congrFun (pay0_u6 (part0 m c t)) x
    simp only [leaves m c t] at e
    exact e.trans <| (piece ((part0 m c t).dup 6) _ D0.u6 x).trans (put X)
  · have e := congrFun (pay0_gs5 (part0 m c t)) x
    simp only [leaves m c t] at e
    exact e.trans <| (piece ((part0 m c t).dgs 5) _ D0.gs5 x).trans (put X)
  · have e := congrFun (pay0_u5 (part0 m c t)) x
    simp only [leaves m c t] at e
    exact e.trans <| (piece ((part0 m c t).dup 5) _ D0.u5 x).trans (put X)
  · have e := congrFun (pay0_gs4 (part0 m c t)) x
    simp only [leaves m c t] at e
    exact e.trans <| (piece ((part0 m c t).dgs 4) _ D0.gs4 x).trans (put X)
  · have e := congrFun (pay0_u4 (part0 m c t)) x
    simp only [leaves m c t] at e
    exact e.trans <| (piece ((part0 m c t).dup 4) _ D0.u4 x).trans (put X)
  · have e := congrFun (pay0_gs3 (part0 m c t)) x
    simp only [leaves m c t] at e
    exact e.trans <| (piece ((part0 m c t).dgs 3) _ D0.gs3 x).trans (put X)
  · have e := congrFun (pay0_u3 (part0 m c t)) x
    simp only [leaves m c t] at e
    exact e.trans <| (piece ((part0 m c t).dup 3) _ D0.u3 x).trans (put X)
  · have e := congrFun (pay0_gs2 (part0 m c t)) x
    simp only [leaves m c t] at e
    exact e.trans <| (piece ((part0 m c t).dgs 2) _ D0.gs2 x).trans (put X)
  · have e := congrFun (pay0_u2 (part0 m c t)) x
    simp only [leaves m c t] at e
    exact e.trans <| (piece ((part0 m c t).dup 2) _ D0.u2 x).trans (put X)
  · have e := congrFun (pay0_gs1 (part0 m c t)) x
    simp only [leaves m c t] at e
    exact e.trans <| (piece ((part0 m c t).dgs 1) _ D0.gs1 x).trans (put X)
  · have e := congrFun (pay0_u1 (part0 m c t)) x
    simp only [leaves m c t] at e
    exact e.trans <| (piece ((part0 m c t).dup 1) _ D0.u1 x).trans (put X)
  · have e := congrFun (pay0_gs0 (part0 m c t)) x
    simp only [leaves m c t] at e
    exact e.trans <| (piece ((part0 m c t).dgs 0) _ D0.gs0 x).trans (put X)
  · have e := congrFun (pay0_u0 (part0 m c t)) x
    simp only [leaves m c t] at e
    exact e.trans <| (piece ((part0 m c t).dup 0) _ D0.u0 x).trans (put X)
  · have e := congrFun (pay0_kv (part1 m c t) (part0 m c t)) x
    simp only [leaves m c t] at e
    exact e.trans <| (piece (kvTile (part0 m c t).kv (handed (part1 m c t).kv)) _ D0.kv x).trans (put X)
  · have e := congrFun (pay0_ga13 (part0 m c t)) x
    simp only [leaves m c t] at e
    exact e.trans <| (piece ((part0 m c t).dga13) _ D0.ga13 x).trans (put X)
  · have e := congrFun (pay0_q13 (part0 m c t)) x
    simp only [leaves m c t] at e
    exact e.trans <| (piece ((part0 m c t).dq13) _ D0.q13 x).trans (put X)
  · have e := congrFun (pay0_ga12 (part0 m c t)) x
    simp only [leaves m c t] at e
    exact e.trans <| (piece ((part0 m c t).dga12) _ D0.ga12 x).trans (put X)
  · have e := congrFun (pay0_q12 (part0 m c t)) x
    simp only [leaves m c t] at e
    exact e.trans <| (piece ((part0 m c t).dq12) _ D0.q12 x).trans (put X)
  · have e := congrFun (pay0_ga11 (part0 m c t)) x
    simp only [leaves m c t] at e
    exact e.trans <| (piece ((part0 m c t).dga11) _ D0.ga11 x).trans (put X)
  · have e := congrFun (pay0_q11 (part0 m c t)) x
    simp only [leaves m c t] at e
    exact e.trans <| (piece ((part0 m c t).dq11) _ D0.q11 x).trans (put X)
  · have e := congrFun (pay0_ga10 (part0 m c t)) x
    simp only [leaves m c t] at e
    exact e.trans <| (piece ((part0 m c t).dga10) _ D0.ga10 x).trans (put X)
  · have e := congrFun (pay0_q10 (part0 m c t)) x
    simp only [leaves m c t] at e
    exact e.trans <| (piece ((part0 m c t).dq10) _ D0.q10 x).trans (put X)
  · have e := congrFun (pay0_ga03 (part0 m c t)) x
    simp only [leaves m c t] at e
    exact e.trans <| (piece ((part0 m c t).dga03) _ D0.ga03 x).trans (put X)
  · have e := congrFun (pay0_q03 (part0 m c t)) x
    simp only [leaves m c t] at e
    exact e.trans <| (piece ((part0 m c t).dq03) _ D0.q03 x).trans (put X)
  · have e := congrFun (pay0_ga02 (part0 m c t)) x
    simp only [leaves m c t] at e
    exact e.trans <| (piece ((part0 m c t).dga02) _ D0.ga02 x).trans (put X)
  · have e := congrFun (pay0_q02 (part0 m c t)) x
    simp only [leaves m c t] at e
    exact e.trans <| (piece ((part0 m c t).dq02) _ D0.q02 x).trans (put X)
  · have e := congrFun (pay0_ga01 (part0 m c t)) x
    simp only [leaves m c t] at e
    exact e.trans <| (piece ((part0 m c t).dga01) _ D0.ga01 x).trans (put X)
  · have e := congrFun (pay0_q01 (part0 m c t)) x
    simp only [leaves m c t] at e
    exact e.trans <| (piece ((part0 m c t).dq01) _ D0.q01 x).trans (put X)
  · have e := congrFun (pay0_ga00 (part0 m c t)) x
    simp only [leaves m c t] at e
    exact e.trans <| (piece ((part0 m c t).dga00) _ D0.ga00 x).trans (put X)
  · have e := congrFun (pay0_q00 (part0 m c t)) x
    simp only [leaves m c t] at e
    exact e.trans <| (piece ((part0 m c t).dq00) _ D0.q00 x).trans (put X)
  · have e := congrFun (pay1_v (part1 m c t)) x
    simp only [leaves m c t] at e
    exact e.trans <| (piece ((part1 m c t).dvs) _ D1.v x).trans (put X)
  · have e := congrFun (pay1_gs7 (part1 m c t)) x
    simp only [leaves m c t] at e
    exact e.trans <| (piece ((part1 m c t).dgs 7) _ D1.gs7 x).trans (put X)
  · have e := congrFun (pay1_u7 (part1 m c t)) x
    simp only [leaves m c t] at e
    exact e.trans <| (piece ((part1 m c t).dup 7) _ D1.u7 x).trans (put X)
  · have e := congrFun (pay1_gs6 (part1 m c t)) x
    simp only [leaves m c t] at e
    exact e.trans <| (piece ((part1 m c t).dgs 6) _ D1.gs6 x).trans (put X)
  · have e := congrFun (pay1_u6 (part1 m c t)) x
    simp only [leaves m c t] at e
    exact e.trans <| (piece ((part1 m c t).dup 6) _ D1.u6 x).trans (put X)
  · have e := congrFun (pay1_gs5 (part1 m c t)) x
    simp only [leaves m c t] at e
    exact e.trans <| (piece ((part1 m c t).dgs 5) _ D1.gs5 x).trans (put X)
  · have e := congrFun (pay1_u5 (part1 m c t)) x
    simp only [leaves m c t] at e
    exact e.trans <| (piece ((part1 m c t).dup 5) _ D1.u5 x).trans (put X)
  · have e := congrFun (pay1_gs4 (part1 m c t)) x
    simp only [leaves m c t] at e
    exact e.trans <| (piece ((part1 m c t).dgs 4) _ D1.gs4 x).trans (put X)
  · have e := congrFun (pay1_u4 (part1 m c t)) x
    simp only [leaves m c t] at e
    exact e.trans <| (piece ((part1 m c t).dup 4) _ D1.u4 x).trans (put X)
  · have e := congrFun (pay1_gs3 (part1 m c t)) x
    simp only [leaves m c t] at e
    exact e.trans <| (piece ((part1 m c t).dgs 3) _ D1.gs3 x).trans (put X)
  · have e := congrFun (pay1_u3 (part1 m c t)) x
    simp only [leaves m c t] at e
    exact e.trans <| (piece ((part1 m c t).dup 3) _ D1.u3 x).trans (put X)
  · have e := congrFun (pay1_gs2 (part1 m c t)) x
    simp only [leaves m c t] at e
    exact e.trans <| (piece ((part1 m c t).dgs 2) _ D1.gs2 x).trans (put X)
  · have e := congrFun (pay1_u2 (part1 m c t)) x
    simp only [leaves m c t] at e
    exact e.trans <| (piece ((part1 m c t).dup 2) _ D1.u2 x).trans (put X)
  · have e := congrFun (pay1_gs1 (part1 m c t)) x
    simp only [leaves m c t] at e
    exact e.trans <| (piece ((part1 m c t).dgs 1) _ D1.gs1 x).trans (put X)
  · have e := congrFun (pay1_u1 (part1 m c t)) x
    simp only [leaves m c t] at e
    exact e.trans <| (piece ((part1 m c t).dup 1) _ D1.u1 x).trans (put X)
  · have e := congrFun (pay1_gs0 (part1 m c t)) x
    simp only [leaves m c t] at e
    exact e.trans <| (piece ((part1 m c t).dgs 0) _ D1.gs0 x).trans (put X)
  · have e := congrFun (pay1_u0 (part1 m c t)) x
    simp only [leaves m c t] at e
    exact e.trans <| (piece ((part1 m c t).dup 0) _ D1.u0 x).trans (put X)
  · have e := congrFun (pay1_kv (part1 m c t) (carried m c t)) x
    simp only [leaves m c t] at e
    exact e.trans <| (piece (kvTile (part1 m c t).kv (carried m c t)) _ D1.kv x).trans (put X)
  · have e := congrFun (pay1_ga13 (part1 m c t)) x
    simp only [leaves m c t] at e
    exact e.trans <| (piece ((part1 m c t).dga13) _ D1.ga13 x).trans (put X)
  · have e := congrFun (pay1_q13 (part1 m c t)) x
    simp only [leaves m c t] at e
    exact e.trans <| (piece ((part1 m c t).dq13) _ D1.q13 x).trans (put X)
  · have e := congrFun (pay1_ga12 (part1 m c t)) x
    simp only [leaves m c t] at e
    exact e.trans <| (piece ((part1 m c t).dga12) _ D1.ga12 x).trans (put X)
  · have e := congrFun (pay1_q12 (part1 m c t)) x
    simp only [leaves m c t] at e
    exact e.trans <| (piece ((part1 m c t).dq12) _ D1.q12 x).trans (put X)
  · have e := congrFun (pay1_ga11 (part1 m c t)) x
    simp only [leaves m c t] at e
    exact e.trans <| (piece ((part1 m c t).dga11) _ D1.ga11 x).trans (put X)
  · have e := congrFun (pay1_q11 (part1 m c t)) x
    simp only [leaves m c t] at e
    exact e.trans <| (piece ((part1 m c t).dq11) _ D1.q11 x).trans (put X)
  · have e := congrFun (pay1_ga10 (part1 m c t)) x
    simp only [leaves m c t] at e
    exact e.trans <| (piece ((part1 m c t).dga10) _ D1.ga10 x).trans (put X)
  · have e := congrFun (pay1_q10 (part1 m c t)) x
    simp only [leaves m c t] at e
    exact e.trans <| (piece ((part1 m c t).dq10) _ D1.q10 x).trans (put X)
  · have e := congrFun (pay1_ga03 (part1 m c t)) x
    simp only [leaves m c t] at e
    exact e.trans <| (piece ((part1 m c t).dga03) _ D1.ga03 x).trans (put X)
  · have e := congrFun (pay1_q03 (part1 m c t)) x
    simp only [leaves m c t] at e
    exact e.trans <| (piece ((part1 m c t).dq03) _ D1.q03 x).trans (put X)
  · have e := congrFun (pay1_ga02 (part1 m c t)) x
    simp only [leaves m c t] at e
    exact e.trans <| (piece ((part1 m c t).dga02) _ D1.ga02 x).trans (put X)
  · have e := congrFun (pay1_q02 (part1 m c t)) x
    simp only [leaves m c t] at e
    exact e.trans <| (piece ((part1 m c t).dq02) _ D1.q02 x).trans (put X)
  · have e := congrFun (pay1_ga01 (part1 m c t)) x
    simp only [leaves m c t] at e
    exact e.trans <| (piece ((part1 m c t).dga01) _ D1.ga01 x).trans (put X)
  · have e := congrFun (pay1_q01 (part1 m c t)) x
    simp only [leaves m c t] at e
    exact e.trans <| (piece ((part1 m c t).dq01) _ D1.q01 x).trans (put X)
  · have e := congrFun (pay1_ga00 (part1 m c t)) x
    simp only [leaves m c t] at e
    exact e.trans <| (piece ((part1 m c t).dga00) _ D1.ga00 x).trans (put X)
  · have e := congrFun (pay1_q00 (part1 m c t)) x
    simp only [leaves m c t] at e
    exact e.trans <| (piece ((part1 m c t).dq00) _ D1.q00 x).trans (put X)

theorem dz_C (t : Fin cfg0.N) (h0 : ¬t.val % 8 = 0) (h1 : t.val % 8 = 7) (X : Fin 256 → Fin 5376 → EReal)
    (D1 : DzIs (part1 m c t) (carried m c t) (fun i k => X ⟨128 + i.val, by omega⟩ k))
    (D0 : DzIs (part0 m c t) (handed (part1 m c t).kv) (fun i k => X ⟨i.val, by omega⟩ k)) :
    (outsAt0 m c t.val t.isLt).1 = fun y => X (y 0) (y 1) := by
  rw [outsAt0_C m c t h0 h1]
  frame_out
  try simp (disch := decide) only [↓ View.readCov_skip, ↓ View.readCov_cons_toLoadRect, ↓ View.readCov_fill]
  try simp only [read_unread_whole]
  funext y
  canon_tiles x h using View.cover_of_tiledBy _ ![128, 128] (by sl_kernel_rfl) y
  · have e := congrFun (pay0_v (part0 m c t)) x
    simp only [leaves m c t] at e
    exact e.trans <| (piece ((part0 m c t).dvs) _ D0.v x).trans (put X)
  · have e := congrFun (pay0_gs7 (part0 m c t)) x
    simp only [leaves m c t] at e
    exact e.trans <| (piece ((part0 m c t).dgs 7) _ D0.gs7 x).trans (put X)
  · have e := congrFun (pay0_u7 (part0 m c t)) x
    simp only [leaves m c t] at e
    exact e.trans <| (piece ((part0 m c t).dup 7) _ D0.u7 x).trans (put X)
  · have e := congrFun (pay0_gs6 (part0 m c t)) x
    simp only [leaves m c t] at e
    exact e.trans <| (piece ((part0 m c t).dgs 6) _ D0.gs6 x).trans (put X)
  · have e := congrFun (pay0_u6 (part0 m c t)) x
    simp only [leaves m c t] at e
    exact e.trans <| (piece ((part0 m c t).dup 6) _ D0.u6 x).trans (put X)
  · have e := congrFun (pay0_gs5 (part0 m c t)) x
    simp only [leaves m c t] at e
    exact e.trans <| (piece ((part0 m c t).dgs 5) _ D0.gs5 x).trans (put X)
  · have e := congrFun (pay0_u5 (part0 m c t)) x
    simp only [leaves m c t] at e
    exact e.trans <| (piece ((part0 m c t).dup 5) _ D0.u5 x).trans (put X)
  · have e := congrFun (pay0_gs4 (part0 m c t)) x
    simp only [leaves m c t] at e
    exact e.trans <| (piece ((part0 m c t).dgs 4) _ D0.gs4 x).trans (put X)
  · have e := congrFun (pay0_u4 (part0 m c t)) x
    simp only [leaves m c t] at e
    exact e.trans <| (piece ((part0 m c t).dup 4) _ D0.u4 x).trans (put X)
  · have e := congrFun (pay0_gs3 (part0 m c t)) x
    simp only [leaves m c t] at e
    exact e.trans <| (piece ((part0 m c t).dgs 3) _ D0.gs3 x).trans (put X)
  · have e := congrFun (pay0_u3 (part0 m c t)) x
    simp only [leaves m c t] at e
    exact e.trans <| (piece ((part0 m c t).dup 3) _ D0.u3 x).trans (put X)
  · have e := congrFun (pay0_gs2 (part0 m c t)) x
    simp only [leaves m c t] at e
    exact e.trans <| (piece ((part0 m c t).dgs 2) _ D0.gs2 x).trans (put X)
  · have e := congrFun (pay0_u2 (part0 m c t)) x
    simp only [leaves m c t] at e
    exact e.trans <| (piece ((part0 m c t).dup 2) _ D0.u2 x).trans (put X)
  · have e := congrFun (pay0_gs1 (part0 m c t)) x
    simp only [leaves m c t] at e
    exact e.trans <| (piece ((part0 m c t).dgs 1) _ D0.gs1 x).trans (put X)
  · have e := congrFun (pay0_u1 (part0 m c t)) x
    simp only [leaves m c t] at e
    exact e.trans <| (piece ((part0 m c t).dup 1) _ D0.u1 x).trans (put X)
  · have e := congrFun (pay0_gs0 (part0 m c t)) x
    simp only [leaves m c t] at e
    exact e.trans <| (piece ((part0 m c t).dgs 0) _ D0.gs0 x).trans (put X)
  · have e := congrFun (pay0_u0 (part0 m c t)) x
    simp only [leaves m c t] at e
    exact e.trans <| (piece ((part0 m c t).dup 0) _ D0.u0 x).trans (put X)
  · have e := congrFun (pay0_kv (part1 m c t) (part0 m c t)) x
    simp only [leaves m c t] at e
    exact e.trans <| (piece (kvTile (part0 m c t).kv (handed (part1 m c t).kv)) _ D0.kv x).trans (put X)
  · have e := congrFun (pay0_ga13 (part0 m c t)) x
    simp only [leaves m c t] at e
    exact e.trans <| (piece ((part0 m c t).dga13) _ D0.ga13 x).trans (put X)
  · have e := congrFun (pay0_q13 (part0 m c t)) x
    simp only [leaves m c t] at e
    exact e.trans <| (piece ((part0 m c t).dq13) _ D0.q13 x).trans (put X)
  · have e := congrFun (pay0_ga12 (part0 m c t)) x
    simp only [leaves m c t] at e
    exact e.trans <| (piece ((part0 m c t).dga12) _ D0.ga12 x).trans (put X)
  · have e := congrFun (pay0_q12 (part0 m c t)) x
    simp only [leaves m c t] at e
    exact e.trans <| (piece ((part0 m c t).dq12) _ D0.q12 x).trans (put X)
  · have e := congrFun (pay0_ga11 (part0 m c t)) x
    simp only [leaves m c t] at e
    exact e.trans <| (piece ((part0 m c t).dga11) _ D0.ga11 x).trans (put X)
  · have e := congrFun (pay0_q11 (part0 m c t)) x
    simp only [leaves m c t] at e
    exact e.trans <| (piece ((part0 m c t).dq11) _ D0.q11 x).trans (put X)
  · have e := congrFun (pay0_ga10 (part0 m c t)) x
    simp only [leaves m c t] at e
    exact e.trans <| (piece ((part0 m c t).dga10) _ D0.ga10 x).trans (put X)
  · have e := congrFun (pay0_q10 (part0 m c t)) x
    simp only [leaves m c t] at e
    exact e.trans <| (piece ((part0 m c t).dq10) _ D0.q10 x).trans (put X)
  · have e := congrFun (pay0_ga03 (part0 m c t)) x
    simp only [leaves m c t] at e
    exact e.trans <| (piece ((part0 m c t).dga03) _ D0.ga03 x).trans (put X)
  · have e := congrFun (pay0_q03 (part0 m c t)) x
    simp only [leaves m c t] at e
    exact e.trans <| (piece ((part0 m c t).dq03) _ D0.q03 x).trans (put X)
  · have e := congrFun (pay0_ga02 (part0 m c t)) x
    simp only [leaves m c t] at e
    exact e.trans <| (piece ((part0 m c t).dga02) _ D0.ga02 x).trans (put X)
  · have e := congrFun (pay0_q02 (part0 m c t)) x
    simp only [leaves m c t] at e
    exact e.trans <| (piece ((part0 m c t).dq02) _ D0.q02 x).trans (put X)
  · have e := congrFun (pay0_ga01 (part0 m c t)) x
    simp only [leaves m c t] at e
    exact e.trans <| (piece ((part0 m c t).dga01) _ D0.ga01 x).trans (put X)
  · have e := congrFun (pay0_q01 (part0 m c t)) x
    simp only [leaves m c t] at e
    exact e.trans <| (piece ((part0 m c t).dq01) _ D0.q01 x).trans (put X)
  · have e := congrFun (pay0_ga00 (part0 m c t)) x
    simp only [leaves m c t] at e
    exact e.trans <| (piece ((part0 m c t).dga00) _ D0.ga00 x).trans (put X)
  · have e := congrFun (pay0_q00 (part0 m c t)) x
    simp only [leaves m c t] at e
    exact e.trans <| (piece ((part0 m c t).dq00) _ D0.q00 x).trans (put X)
  · have e := congrFun (pay1_v (part1 m c t)) x
    simp only [leaves m c t] at e
    exact e.trans <| (piece ((part1 m c t).dvs) _ D1.v x).trans (put X)
  · have e := congrFun (pay1_gs7 (part1 m c t)) x
    simp only [leaves m c t] at e
    exact e.trans <| (piece ((part1 m c t).dgs 7) _ D1.gs7 x).trans (put X)
  · have e := congrFun (pay1_u7 (part1 m c t)) x
    simp only [leaves m c t] at e
    exact e.trans <| (piece ((part1 m c t).dup 7) _ D1.u7 x).trans (put X)
  · have e := congrFun (pay1_gs6 (part1 m c t)) x
    simp only [leaves m c t] at e
    exact e.trans <| (piece ((part1 m c t).dgs 6) _ D1.gs6 x).trans (put X)
  · have e := congrFun (pay1_u6 (part1 m c t)) x
    simp only [leaves m c t] at e
    exact e.trans <| (piece ((part1 m c t).dup 6) _ D1.u6 x).trans (put X)
  · have e := congrFun (pay1_gs5 (part1 m c t)) x
    simp only [leaves m c t] at e
    exact e.trans <| (piece ((part1 m c t).dgs 5) _ D1.gs5 x).trans (put X)
  · have e := congrFun (pay1_u5 (part1 m c t)) x
    simp only [leaves m c t] at e
    exact e.trans <| (piece ((part1 m c t).dup 5) _ D1.u5 x).trans (put X)
  · have e := congrFun (pay1_gs4 (part1 m c t)) x
    simp only [leaves m c t] at e
    exact e.trans <| (piece ((part1 m c t).dgs 4) _ D1.gs4 x).trans (put X)
  · have e := congrFun (pay1_u4 (part1 m c t)) x
    simp only [leaves m c t] at e
    exact e.trans <| (piece ((part1 m c t).dup 4) _ D1.u4 x).trans (put X)
  · have e := congrFun (pay1_gs3 (part1 m c t)) x
    simp only [leaves m c t] at e
    exact e.trans <| (piece ((part1 m c t).dgs 3) _ D1.gs3 x).trans (put X)
  · have e := congrFun (pay1_u3 (part1 m c t)) x
    simp only [leaves m c t] at e
    exact e.trans <| (piece ((part1 m c t).dup 3) _ D1.u3 x).trans (put X)
  · have e := congrFun (pay1_gs2 (part1 m c t)) x
    simp only [leaves m c t] at e
    exact e.trans <| (piece ((part1 m c t).dgs 2) _ D1.gs2 x).trans (put X)
  · have e := congrFun (pay1_u2 (part1 m c t)) x
    simp only [leaves m c t] at e
    exact e.trans <| (piece ((part1 m c t).dup 2) _ D1.u2 x).trans (put X)
  · have e := congrFun (pay1_gs1 (part1 m c t)) x
    simp only [leaves m c t] at e
    exact e.trans <| (piece ((part1 m c t).dgs 1) _ D1.gs1 x).trans (put X)
  · have e := congrFun (pay1_u1 (part1 m c t)) x
    simp only [leaves m c t] at e
    exact e.trans <| (piece ((part1 m c t).dup 1) _ D1.u1 x).trans (put X)
  · have e := congrFun (pay1_gs0 (part1 m c t)) x
    simp only [leaves m c t] at e
    exact e.trans <| (piece ((part1 m c t).dgs 0) _ D1.gs0 x).trans (put X)
  · have e := congrFun (pay1_u0 (part1 m c t)) x
    simp only [leaves m c t] at e
    exact e.trans <| (piece ((part1 m c t).dup 0) _ D1.u0 x).trans (put X)
  · have e := congrFun (pay1_kv (part1 m c t) (carried m c t)) x
    simp only [leaves m c t] at e
    exact e.trans <| (piece (kvTile (part1 m c t).kv (carried m c t)) _ D1.kv x).trans (put X)
  · have e := congrFun (pay1_ga13 (part1 m c t)) x
    simp only [leaves m c t] at e
    exact e.trans <| (piece ((part1 m c t).dga13) _ D1.ga13 x).trans (put X)
  · have e := congrFun (pay1_q13 (part1 m c t)) x
    simp only [leaves m c t] at e
    exact e.trans <| (piece ((part1 m c t).dq13) _ D1.q13 x).trans (put X)
  · have e := congrFun (pay1_ga12 (part1 m c t)) x
    simp only [leaves m c t] at e
    exact e.trans <| (piece ((part1 m c t).dga12) _ D1.ga12 x).trans (put X)
  · have e := congrFun (pay1_q12 (part1 m c t)) x
    simp only [leaves m c t] at e
    exact e.trans <| (piece ((part1 m c t).dq12) _ D1.q12 x).trans (put X)
  · have e := congrFun (pay1_ga11 (part1 m c t)) x
    simp only [leaves m c t] at e
    exact e.trans <| (piece ((part1 m c t).dga11) _ D1.ga11 x).trans (put X)
  · have e := congrFun (pay1_q11 (part1 m c t)) x
    simp only [leaves m c t] at e
    exact e.trans <| (piece ((part1 m c t).dq11) _ D1.q11 x).trans (put X)
  · have e := congrFun (pay1_ga10 (part1 m c t)) x
    simp only [leaves m c t] at e
    exact e.trans <| (piece ((part1 m c t).dga10) _ D1.ga10 x).trans (put X)
  · have e := congrFun (pay1_q10 (part1 m c t)) x
    simp only [leaves m c t] at e
    exact e.trans <| (piece ((part1 m c t).dq10) _ D1.q10 x).trans (put X)
  · have e := congrFun (pay1_ga03 (part1 m c t)) x
    simp only [leaves m c t] at e
    exact e.trans <| (piece ((part1 m c t).dga03) _ D1.ga03 x).trans (put X)
  · have e := congrFun (pay1_q03 (part1 m c t)) x
    simp only [leaves m c t] at e
    exact e.trans <| (piece ((part1 m c t).dq03) _ D1.q03 x).trans (put X)
  · have e := congrFun (pay1_ga02 (part1 m c t)) x
    simp only [leaves m c t] at e
    exact e.trans <| (piece ((part1 m c t).dga02) _ D1.ga02 x).trans (put X)
  · have e := congrFun (pay1_q02 (part1 m c t)) x
    simp only [leaves m c t] at e
    exact e.trans <| (piece ((part1 m c t).dq02) _ D1.q02 x).trans (put X)
  · have e := congrFun (pay1_ga01 (part1 m c t)) x
    simp only [leaves m c t] at e
    exact e.trans <| (piece ((part1 m c t).dga01) _ D1.ga01 x).trans (put X)
  · have e := congrFun (pay1_q01 (part1 m c t)) x
    simp only [leaves m c t] at e
    exact e.trans <| (piece ((part1 m c t).dq01) _ D1.q01 x).trans (put X)
  · have e := congrFun (pay1_ga00 (part1 m c t)) x
    simp only [leaves m c t] at e
    exact e.trans <| (piece ((part1 m c t).dga00) _ D1.ga00 x).trans (put X)
  · have e := congrFun (pay1_q00 (part1 m c t)) x
    simp only [leaves m c t] at e
    exact e.trans <| (piece ((part1 m c t).dq00) _ D1.q00 x).trans (put X)

end Cert.Kernel3Ideal.Tiles
end
-- ==== Proof.MixerSteps.lean ====
/-
  The steps of the mixer's backward pass on real numbers: the block's rows of the gradient of the projected rows, and
  the sums over the blocks so far.
-/
module

public import proofs.«01_k».proof.Proof.MixerHolds
public import proofs.«01_k».proof.Proof.MixerDz
public import proofs.«01_k».proof.Proof.MixerSums

@[expose] public section

set_option maxRecDepth 16384
set_option backward.proofsInPublic true
noncomputable section
namespace Cert.Kernel3Ideal.Steps
open Idealize.ShloMosaic Idealize.ShloMosaic.TcCoe Idealize.SL.Sem Idealize.ShloMosaic.Pointwise Cert.Reals Cert.MixerMath
open Cert.MixerModel Cert.Kernel3Ideal Cert.Kernel3Ideal.Gen Cert.Kernel3Ideal.Tiles Cert.Kernel3Ideal.Block Cert.Kernel3Ideal.Reads

/-- The sum over the blocks of the steps up to `t`: the last block first. -/
def acc (f : ℕ → ℝ) (t : ℕ) : ℝ := ∑ i ∈ Finset.range (t + 1), (f (2 * (7 - i) + 1) + f (2 * (7 - i)))

theorem acc_zero (f : ℕ → ℝ) (t : ℕ) (h : t = 0) : acc f t = 0 + f (2 * (7 - t) + 1) + f (2 * (7 - t)) := by
  subst h; simp [acc]

theorem acc_pred (f : ℕ → ℝ) (t : ℕ) (h : t ≠ 0) :
    acc f t = acc f (t - 1) + f (2 * (7 - t) + 1) + f (2 * (7 - t)) := by
  obtain ⟨s, rfl⟩ := Nat.exists_eq_succ_of_ne_zero h
  show ∑ i ∈ Finset.range (s + 1 + 1), _ = _
  rw [Finset.sum_range_succ, add_assoc]
  rfl

theorem acc_last (f : ℕ → ℝ) : acc f 7 = ∑ n : Fin 16, f n.val := by
  simp only [acc, Finset.sum_range_succ, Finset.sum_range_zero, Fin.sum_univ_succ, Fin.val_zero, Fin.val_succ, Finset.univ_eq_empty, Finset.sum_empty]
  norm_num
  ring

theorem handed_apply (d : FVec Ideal S256x256 .f32) (i : Fin 128) (j : Fin 256) :
    shapeCast S128x256 (handed d) shapeCasts_S128x256_S128x256 (ix2 i j) = d (ix2 ⟨i.val, by omega⟩ j) := by
  pointwise [handed]

theorem handed_at (d : FVec Ideal S256x256 .f32) (i : Fin 128) (j : Fin 256) :
    handed d (ix2 i j) = d (ix2 ⟨i.val, by omega⟩ j) := by
  pointwise [handed]

theorem kvTile_apply (d : FVec Ideal S256x256 .f32) (carry : FVec Ideal S128x256 .f32) (i : Fin 128) (j : Fin 256) :
    kvTile d carry (ix2 i j) = d (ix2 ⟨128 + i.val, by omega⟩ j) + carry (ix2 i j) := by
  pointwise [kvTile]

theorem pair_apply (T : FVec Ideal S128x128 .f32) (F : Fin 2 → Fin 128 → Fin 64 → ℝ)
    (h : ∀ t h d, T (ix2 t (feat h d)) = ((F h t d : ℝ) : EReal)) (i j : Fin 128) :
    T (ix2 i j) = ((F ⟨j.val / 64, by omega⟩ i ⟨j.val % 64, by omega⟩ : ℝ) : EReal) := by
  have e : j = feat ⟨j.val / 64, by omega⟩ ⟨j.val % 64, by omega⟩ := Fin.ext (by simp only [feat]; omega)
  exact (congrArg (fun j => T (ix2 i j)) e).trans (h _ _ _)

section Rows
variable {P : Parts} {M : Data} {n : ℕ} (H : Holds P M n)
include H

/-- A block's rows of the gradient, with what the block after hands over. -/
theorem dz_rows (carry : FVec Ideal S128x256 .f32)
    (hk : ∀ (g : Fin 2) (s : Fin 128) (d : Fin 64) (k : Fin 256), k.val = 64 * g.val + d.val →
      carry (ix2 s k) = ((if n = 15 then 0 else M.dk (n + 1) g ⟨s.val, by omega⟩ d : ℝ) : EReal))
    (hv : ∀ (g : Fin 2) (s : Fin 128) (d : Fin 64) (k : Fin 256), k.val = 128 + 64 * g.val + d.val →
      carry (ix2 s k) = ((if n = 15 then 0 else M.dv (n + 1) g ⟨s.val, by omega⟩ d : ℝ) : EReal)) :
    DzIs P carry (fun i k => ((M.dz n i k.val : ℝ) : EReal)) where
  q00 i j := (pair_apply P.dq00 _ (dq00_at H) i j).trans
    (congrArg Real.toEReal (M.dz_q n i 0 ⟨0 + j.val / 64, by omega⟩ ⟨j.val % 64, by omega⟩ _ (by simp; omega)).symm)
  ga00 i j := (pair_apply P.dga00 _ (dga00_at H) i j).trans
    (congrArg Real.toEReal (M.dz_ga n i 0 ⟨0 + j.val / 64, by omega⟩ ⟨j.val % 64, by omega⟩ _ (by simp; omega)).symm)
  q01 i j := (pair_apply P.dq01 _ (dq01_at H) i j).trans
    (congrArg Real.toEReal (M.dz_q n i 0 ⟨2 + j.val / 64, by omega⟩ ⟨j.val % 64, by omega⟩ _ (by simp; omega)).symm)
  ga01 i j := (pair_apply P.dga01 _ (dga01_at H) i j).trans
    (congrArg Real.toEReal (M.dz_ga n i 0 ⟨2 + j.val / 64, by omega⟩ ⟨j.val % 64, by omega⟩ _ (by simp; omega)).symm)
  q02 i j := (pair_apply P.dq02 _ (dq02_at H) i j).trans
    (congrArg Real.toEReal (M.dz_q n i 0 ⟨4 + j.val / 64, by omega⟩ ⟨j.val % 64, by omega⟩ _ (by simp; omega)).symm)
  ga02 i j := (pair_apply P.dga02 _ (dga02_at H) i j).trans
    (congrArg Real.toEReal (M.dz_ga n i 0 ⟨4 + j.val / 64, by omega⟩ ⟨j.val % 64, by omega⟩ _ (by simp; omega)).symm)
  q03 i j := (pair_apply P.dq03 _ (dq03_at H) i j).trans
    (congrArg Real.toEReal (M.dz_q n i 0 ⟨6 + j.val / 64, by omega⟩ ⟨j.val % 64, by omega⟩ _ (by simp; omega)).symm)
  ga03 i j := (pair_apply P.dga03 _ (dga03_at H) i j).trans
    (congrArg Real.toEReal (M.dz_ga n i 0 ⟨6 + j.val / 64, by omega⟩ ⟨j.val % 64, by omega⟩ _ (by simp; omega)).symm)
  q10 i j := (pair_apply P.dq10 _ (dq10_at H) i j).trans
    (congrArg Real.toEReal (M.dz_q n i 1 ⟨0 + j.val / 64, by omega⟩ ⟨j.val % 64, by omega⟩ _ (by simp; omega)).symm)
  ga10 i j := (pair_apply P.dga10 _ (dga10_at H) i j).trans
    (congrArg Real.toEReal (M.dz_ga n i 1 ⟨0 + j.val / 64, by omega⟩ ⟨j.val % 64, by omega⟩ _ (by simp; omega)).symm)
  q11 i j := (pair_apply P.dq11 _ (dq11_at H) i j).trans
    (congrArg Real.toEReal (M.dz_q n i 1 ⟨2 + j.val / 64, by omega⟩ ⟨j.val % 64, by omega⟩ _ (by simp; omega)).symm)
  ga11 i j := (pair_apply P.dga11 _ (dga11_at H) i j).trans
    (congrArg Real.toEReal (M.dz_ga n i 1 ⟨2 + j.val / 64, by omega⟩ ⟨j.val % 64, by omega⟩ _ (by simp; omega)).symm)
  q12 i j := (pair_apply P.dq12 _ (dq12_at H) i j).trans
    (congrArg Real.toEReal (M.dz_q n i 1 ⟨4 + j.val / 64, by omega⟩ ⟨j.val % 64, by omega⟩ _ (by simp; omega)).symm)
  ga12 i j := (pair_apply P.dga12 _ (dga12_at H) i j).trans
    (congrArg Real.toEReal (M.dz_ga n i 1 ⟨4 + j.val / 64, by omega⟩ ⟨j.val % 64, by omega⟩ _ (by simp; omega)).symm)
  q13 i j := (pair_apply P.dq13 _ (dq13_at H) i j).trans
    (congrArg Real.toEReal (M.dz_q n i 1 ⟨6 + j.val / 64, by omega⟩ ⟨j.val % 64, by omega⟩ _ (by simp; omega)).symm)
  ga13 i j := (pair_apply P.dga13 _ (dga13_at H) i j).trans
    (congrArg Real.toEReal (M.dz_ga n i 1 ⟨6 + j.val / 64, by omega⟩ ⟨j.val % 64, by omega⟩ _ (by simp; omega)).symm)
  kv i j := by
    rw [kvTile_apply]
    by_cases h : j.val < 128
    · rw [kv_k H _ ⟨j.val / 64, by omega⟩ ⟨j.val % 64, by omega⟩ j (by dsimp only; omega), hk ⟨j.val / 64, by omega⟩ i ⟨j.val % 64, by omega⟩ j (by dsimp only; omega),
        ← EReal.coe_add, M.dz_k n i ⟨j.val / 64, by omega⟩ ⟨j.val % 64, by omega⟩ _ (by dsimp only; omega)]
      rfl
    · rw [kv_v H _ ⟨(j.val - 128) / 64, by omega⟩ ⟨j.val % 64, by omega⟩ j (by dsimp only; omega), hv ⟨(j.val - 128) / 64, by omega⟩ i ⟨j.val % 64, by omega⟩ j (by dsimp only; omega),
        ← EReal.coe_add, M.dz_v n i ⟨(j.val - 128) / 64, by omega⟩ ⟨j.val % 64, by omega⟩ _ (by dsimp only; omega)]
      rfl
  v i k := (dvs_at H i k).trans (congrArg Real.toEReal (M.dz_vs n i k _ rfl).symm)
  u0 i e := (dup_at H 0 i e).trans (congrArg Real.toEReal (M.dz_u n i 0 e _ (by simp)).symm)
  gs0 i e := (dgs_at H 0 i e).trans (congrArg Real.toEReal (M.dz_gs n i 0 e _ (by simp)).symm)
  u1 i e := (dup_at H 1 i e).trans (congrArg Real.toEReal (M.dz_u n i 1 e _ (by simp)).symm)
  gs1 i e := (dgs_at H 1 i e).trans (congrArg Real.toEReal (M.dz_gs n i 1 e _ (by simp)).symm)
  u2 i e := (dup_at H 2 i e).trans (congrArg Real.toEReal (M.dz_u n i 2 e _ (by simp)).symm)
  gs2 i e := (dgs_at H 2 i e).trans (congrArg Real.toEReal (M.dz_gs n i 2 e _ (by simp)).symm)
  u3 i e := (dup_at H 3 i e).trans (congrArg Real.toEReal (M.dz_u n i 3 e _ (by simp)).symm)
  gs3 i e := (dgs_at H 3 i e).trans (congrArg Real.toEReal (M.dz_gs n i 3 e _ (by simp)).symm)
  u4 i e := (dup_at H 4 i e).trans (congrArg Real.toEReal (M.dz_u n i 4 e _ (by simp)).symm)
  gs4 i e := (dgs_at H 4 i e).trans (congrArg Real.toEReal (M.dz_gs n i 4 e _ (by simp)).symm)
  u5 i e := (dup_at H 5 i e).trans (congrArg Real.toEReal (M.dz_u n i 5 e _ (by simp)).symm)
  gs5 i e := (dgs_at H 5 i e).trans (congrArg Real.toEReal (M.dz_gs n i 5 e _ (by simp)).symm)
  u6 i e := (dup_at H 6 i e).trans (congrArg Real.toEReal (M.dz_u n i 6 e _ (by simp)).symm)
  gs6 i e := (dgs_at H 6 i e).trans (congrArg Real.toEReal (M.dz_gs n i 6 e _ (by simp)).symm)
  u7 i e := (dup_at H 7 i e).trans (congrArg Real.toEReal (M.dz_u n i 7 e _ (by simp)).symm)
  gs7 i e := (dgs_at H 7 i e).trans (congrArg Real.toEReal (M.dz_gs n i 7 e _ (by simp)).symm)

end Rows

variable {m : (ℓ : Loc nD τ sig) → Buf (Elt Ideal) ℓ} {c : Dev nD} {M : Data} (H : Args m c M)

/-- What a step leaves for the next: the gradient of the keys and values of the block before. -/
theorem handed_on (t : Fin cfg0.N) :
    (outsAt0 m c t.val t.isLt).2.2.2.2.2.2.2.1 = shapeCast S128x256 (handed (part0 m c t).kv) shapeCasts_S128x256_S128x256 := by
  by_cases h0 : t.val % 8 = 0
  · exact s0_A m c t h0 (by omega)
  · by_cases h1 : t.val % 8 = 7
    · exact s0_C m c t h0 h1
    · exact s0_B m c t h0 h1

include H

theorem dz_step (t : Fin cfg0.N) : (outsAt0 m c t.val t.isLt).1
    = fun y => ((M.dz (2 * (7 - t.val) + (y 0).val / 128) ⟨(y 0).val % 128, Nat.mod_lt _ (by norm_num)⟩ (y 1).val : ℝ) : EReal) := by
  have ht : t.val < 8 := t.isLt
  let X : Fin 256 → Fin 5376 → EReal := fun i k => ((M.dz (2 * (7 - t.val) + i.val / 128) ⟨i.val % 128, Nat.mod_lt _ (by norm_num)⟩ k.val : ℝ) : EReal)
  have e1 : (fun (i : Fin 128) (k : Fin 5376) => X ⟨128 + i.val, by omega⟩ k) = fun i k => ((M.dz (2 * (7 - t.val) + 1) i k.val : ℝ) : EReal) := by
    funext i k
    exact congrArg₂ (fun n i => ((M.dz n i k.val : ℝ) : EReal)) (by dsimp only; omega) (Fin.ext (by dsimp only; omega))
  have e0 : (fun (i : Fin 128) (k : Fin 5376) => X ⟨i.val, by omega⟩ k) = fun i k => ((M.dz (2 * (7 - t.val)) i k.val : ℝ) : EReal) := by
    funext i k
    exact congrArg₂ (fun n i => ((M.dz n i k.val : ℝ) : EReal)) (by dsimp only; omega) (Fin.ext (by dsimp only; omega))
  have D0 : DzIs (part0 m c t) (handed (part1 m c t).kv) (fun i k => X ⟨i.val, by omega⟩ k) := by
    rw [e0]
    refine dz_rows (holds0 H t) _ (fun g s d k hk => ?_) (fun g s d k hk => ?_)
    · rw [handed_at, kv_k (holds1 H t) _ g d k hk, if_neg (by omega)]
    · rw [handed_at, kv_v (holds1 H t) _ g d k hk, if_neg (by omega)]
  by_cases h0 : t.val % 8 = 0
  · refine dz_A m c t h0 (by omega) X ?_ D0
    rw [e1]
    refine dz_rows (holds1 H t) _ (fun g s d k hk => ?_) (fun g s d k hk => ?_)
    · rw [fill_zero, if_pos (by omega)]
    · rw [fill_zero, if_pos (by omega)]
  · have D1 : DzIs (part1 m c t) (carried m c t) (fun i k => X ⟨128 + i.val, by omega⟩ k) := by
      rw [e1]
      have hc : carried m c t = shapeCast S128x256 (handed (part0 m c ⟨t.val - 1, by have := t.isLt; omega⟩).kv) shapeCasts_S128x256_S128x256 :=
        handed_on (m := m) (c := c) ⟨t.val - 1, by have := t.isLt; omega⟩
      have hn : 2 * (7 - (t.val - 1)) = 2 * (7 - t.val) + 1 + 1 := by omega
      refine dz_rows (holds1 H t) _ (fun g s d k hk => ?_) (fun g s d k hk => ?_)
      · rw [hc, handed_apply, kv_k (holds0 H ⟨t.val - 1, _⟩) _ g d k hk, if_neg (by omega)]
        exact congrArg (fun n => ((M.dk n g ⟨s.val, by omega⟩ d : ℝ) : EReal)) hn
      · rw [hc, handed_apply, kv_v (holds0 H ⟨t.val - 1, _⟩) _ g d k hk, if_neg (by omega)]
        exact congrArg (fun n => ((M.dv n g ⟨s.val, by omega⟩ d : ℝ) : EReal)) hn
    by_cases h1 : t.val % 8 = 7
    · exact dz_C m c t h0 h1 X D1 D0
    · exact dz_B m c t h0 h1 X D1 D0

omit H in
/-- A step's sums from those of the step before. -/
theorem by_steps (Q : (t : ℕ) → t < cfg0.N → Prop)
    (hA : ∀ t : Fin cfg0.N, t.val % 8 = 0 → ¬t.val % 8 = 7 → Q t.val t.isLt)
    (hB : ∀ t : Fin cfg0.N, ¬t.val % 8 = 0 → ¬t.val % 8 = 7 → Q (t.val - 1) (by omega) → Q t.val t.isLt)
    (hC : ∀ t : Fin cfg0.N, ¬t.val % 8 = 0 → t.val % 8 = 7 → Q (t.val - 1) (by omega) → Q t.val t.isLt) :
    ∀ (t : ℕ) (h : t < cfg0.N), Q t h := by
  intro t
  induction t with
  | zero => intro h; exact hA ⟨0, h⟩ (show 0 % 8 = 0 by decide) (show ¬0 % 8 = 7 by decide)
  | succ t ih =>
    intro h
    have h8 : t + 1 < 8 := h
    by_cases h1 : (t + 1) % 8 = 7
    · exact hC ⟨t + 1, h⟩ (by show ¬(t + 1) % 8 = 0; omega) h1 (ih _)
    · exact hB ⟨t + 1, h⟩ (by show ¬(t + 1) % 8 = 0; omega) h1 (ih _)

theorem lng_acc (k : Fin 1024) : ∀ (t : ℕ) (h : t < cfg0.N), (outsAt0 m c t h).2.2.2.2.1 (ix2 0 k) = ((acc (fun n => M.dG n k) t : ℝ) : EReal) := by
  refine by_steps _ (fun t h0 h1 => ?_) (fun t h0 h1 ih => ?_) (fun t h0 h1 ih => ?_)
  · rw [lng_A m c t h0 h1, acc_zero _ _ (by have : t.val < 8 := t.isLt; omega)]
    exact dlng_at (holds0 H t) _ k _ (dlng_at (holds1 H t) _ k _ (lit_zero))
  · rw [lng_B m c t h0 h1, acc_pred _ _ (by omega)]
    exact dlng_at (holds0 H t) _ k _ (dlng_at (holds1 H t) _ k _ (ih))
  · rw [lng_C m c t h0 h1, acc_pred _ _ (by omega)]
    exact dlng_at (holds0 H t) _ k _ (dlng_at (holds1 H t) _ k _ (ih))

theorem lnb_acc (k : Fin 1024) : ∀ (t : ℕ) (h : t < cfg0.N), (outsAt0 m c t h).2.2.2.2.2.1 (ix2 0 k) = ((acc (fun n => M.dBn n k) t : ℝ) : EReal) := by
  refine by_steps _ (fun t h0 h1 => ?_) (fun t h0 h1 ih => ?_) (fun t h0 h1 ih => ?_)
  · rw [lnb_A m c t h0 h1, acc_zero _ _ (by have : t.val < 8 := t.isLt; omega)]
    exact dlnb_at (holds0 H t) _ k _ (dlnb_at (holds1 H t) _ k _ (lit_zero))
  · rw [lnb_B m c t h0 h1, acc_pred _ _ (by omega)]
    exact dlnb_at (holds0 H t) _ k _ (dlnb_at (holds1 H t) _ k _ (ih))
  · rw [lnb_C m c t h0 h1, acc_pred _ _ (by omega)]
    exact dlnb_at (holds0 H t) _ k _ (dlnb_at (holds1 H t) _ k _ (ih))

theorem db_acc (i : Fin 128) (p : Fin 8) : ∀ (t : ℕ) (h : t < cfg0.N), (outsAt0 m c t h).2.2.2.2.2.2.2.2.2 (ix2 i ⟨p.val, by omega⟩) = ((acc (fun n => M.dB n p i) t : ℝ) : EReal) := by
  refine by_steps _ (fun t h0 h1 => ?_) (fun t h0 h1 ih => ?_) (fun t h0 h1 ih => ?_)
  · rw [db_A m c t h0 h1, acc_zero _ _ (by have : t.val < 8 := t.isLt; omega)]
    exact db_at (holds0 H t) _ i p _ (db_at (holds1 H t) _ i p _ (lit_zero))
  · rw [db_B m c t h0 h1, acc_pred _ _ (by omega)]
    exact db_at (holds0 H t) _ i p _ (db_at (holds1 H t) _ i p _ (ih))
  · rw [db_C m c t h0 h1, acc_pred _ _ (by omega)]
    exact db_at (holds0 H t) _ i p _ (db_at (holds1 H t) _ i p _ (ih))

omit H in
theorem slab_at (X : S2x1x1024.Idx → Elt Ideal .f32) (g : Fin 2) (inb) (l : Fin 1024) :
    View.ld (Val := Elt Ideal) (e' := .f32) X (Rect.unit ![g.val, 0, 0] ![1, 1, 1024] inb) (ix3 0 0 l) = X (ix3 g 0 l) :=
  View.ld_unit_apply_of X _ _ _ _ _ (fun a => by fin_cases a <;> first | rfl | exact (Nat.zero_add _).symm)

theorem sink_row (t : Fin cfg0.N) (g : Fin 2) (old : FVec Ideal S1x1x1024 .f32) (l : Fin 1024) (r : ℝ)
    (hr : old (ix3 0 0 l) = ((-r : ℝ) : EReal)) :
    (part0 m c t).sinkOf g ((part1 m c t).sinkOf g old) (ix3 0 0 l)
      = ((-(r + M.dsk (2 * (7 - t.val) + 1) g ⟨l.val / 128, by omega⟩ ⟨l.val % 128, by omega⟩
          + M.dsk (2 * (7 - t.val)) g ⟨l.val / 128, by omega⟩ ⟨l.val % 128, by omega⟩) : ℝ) : EReal) := by
  have e : l = col ⟨l.val / 128, by omega⟩ ⟨l.val % 128, by omega⟩ := Fin.ext (by simp only [col]; omega)
  refine (congrArg (fun l => (part0 m c t).sinkOf g ((part1 m c t).sinkOf g old) (ix3 0 0 l)) e).trans ?_
  rw [sink_at (holds0 H t) g _ _ _ _ (sink_at (holds1 H t) g old _ _ _ ((congrArg (fun l => old (ix3 0 0 l)) e.symm).trans hr))]
  exact congrArg Real.toEReal (by ring)

theorem sink_acc : ∀ (t : ℕ) (h : t < cfg0.N), (outsAt0 m c t h).2.2.2.2.2.2.2.2.1
    = fun y => ((-acc (fun n => M.dsk n (y 0) ⟨(y 2).val / 128, Nat.div_lt_of_lt_mul (y 2).isLt⟩ ⟨(y 2).val % 128, Nat.mod_lt _ (by norm_num)⟩) t : ℝ) : EReal) := by
  refine by_steps _ (fun t h0 h1 => ?_) (fun t h0 h1 ih => ?_) (fun t h0 h1 ih => ?_)
  · have ht : t.val = 0 := by have : t.val < 8 := t.isLt; omega
    refine sink_A m c t h0 h1 (fun g l => ((-acc (fun n => M.dsk n g ⟨l.val / 128, by omega⟩ ⟨l.val % 128, by omega⟩) t.val : ℝ) : EReal)) (fun l => ?_) (fun l => ?_)
    all_goals
      rw [acc_zero _ _ ht]
    · exact sink_row H t 0 _ l 0 ((slab_at _ 0 _ l).trans (lit_zero.trans (congrArg Real.toEReal neg_zero.symm)))
    · exact sink_row H t 1 _ l 0 ((slab_at _ 1 _ l).trans (lit_zero.trans (congrArg Real.toEReal neg_zero.symm)))
  · refine sink_B m c t h0 h1 (fun g l => ((-acc (fun n => M.dsk n g ⟨l.val / 128, by omega⟩ ⟨l.val % 128, by omega⟩) t.val : ℝ) : EReal)) (fun l => ?_) (fun l => ?_)
    all_goals
      rw [acc_pred _ _ (by omega)]
    · exact sink_row H t 0 _ l _ ((slab_at _ 0 _ l).trans (congrFun ih _))
    · exact sink_row H t 1 _ l _ ((slab_at _ 1 _ l).trans (congrFun ih _))
  · refine sink_C m c t h0 h1 (fun g l => ((-acc (fun n => M.dsk n g ⟨l.val / 128, by omega⟩ ⟨l.val % 128, by omega⟩) t.val : ℝ) : EReal)) (fun l => ?_) (fun l => ?_)
    all_goals
      rw [acc_pred _ _ (by omega)]
    · exact sink_row H t 0 _ l _ ((slab_at _ 0 _ l).trans (congrFun ih _))
    · exact sink_row H t 1 _ l _ ((slab_at _ 1 _ l).trans (congrFun ih _))

theorem w_row (t : Fin cfg0.N) (p : Fin 8) (old : FVec Ideal S1x128x128 .f32) (i s : Fin 128) (r : ℝ)
    (hr : old (ix3 0 i s) = ((r : ℝ) : EReal)) :
    (part0 m c t).dwOf p ((part1 m c t).dwOf p old) (ix3 0 i s)
      = ((r + M.dW (2 * (7 - t.val) + 1) p i s + M.dW (2 * (7 - t.val)) p i s : ℝ) : EReal) :=
  dw_at (holds0 H t) p _ i s _ (dw_at (holds1 H t) p old i s _ hr)

theorem w_acc : ∀ (t : ℕ) (h : t < cfg0.N), (outsAt0 m c t h).2.2.1
    = fun y => ((acc (fun n => M.dW n (y 0) (y 1) (y 2)) t : ℝ) : EReal) := by
  refine by_steps _ (fun t h0 h1 => ?_) (fun t h0 h1 ih => ?_) (fun t h0 h1 ih => ?_)
  · have ht : t.val = 0 := by have : t.val < 8 := t.isLt; omega
    have W (p : Fin 8) (i s : Fin 128) (inb) : (part0 m c t).dwOf p ((part1 m c t).dwOf p (View.ld (Val := Elt Ideal) (e' := .f32) (k0_pay17 (F := Ideal)) (Rect.unit ![p.val, 0, 0] ![1, 128, 128] inb))) (ix3 0 i s) = ((acc (fun n => M.dW n p i s) t.val : ℝ) : EReal) := by
      rw [acc_zero _ _ ht]
      exact w_row H t p _ i s _ ((ld3 _ p inb i s).trans lit_zero)
    exact w_A m c t h0 h1 (fun p i s => ((acc (fun n => M.dW n p i s) t.val : ℝ) : EReal)) (fun i s => W 0 i s _) (fun i s => W 1 i s _) (fun i s => W 2 i s _) (fun i s => W 3 i s _) (fun i s => W 4 i s _) (fun i s => W 5 i s _) (fun i s => W 6 i s _) (fun i s => W 7 i s _)
  · have W (p : Fin 8) (i s : Fin 128) (inb) : (part0 m c t).dwOf p ((part1 m c t).dwOf p (View.ld (Val := Elt Ideal) (e' := .f32) (outsAt0 m c (t.val - 1) (by omega)).2.2.1 (Rect.unit ![p.val, 0, 0] ![1, 128, 128] inb))) (ix3 0 i s) = ((acc (fun n => M.dW n p i s) t.val : ℝ) : EReal) := by
      rw [acc_pred _ _ (by omega)]
      exact w_row H t p _ i s _ ((ld3 _ p inb i s).trans (congrFun ih _))
    exact w_B m c t h0 h1 (fun p i s => ((acc (fun n => M.dW n p i s) t.val : ℝ) : EReal)) (fun i s => W 0 i s _) (fun i s => W 1 i s _) (fun i s => W 2 i s _) (fun i s => W 3 i s _) (fun i s => W 4 i s _) (fun i s => W 5 i s _) (fun i s => W 6 i s _) (fun i s => W 7 i s _)
  · have W (p : Fin 8) (i s : Fin 128) (inb) : (part0 m c t).dwOf p ((part1 m c t).dwOf p (View.ld (Val := Elt Ideal) (e' := .f32) (outsAt0 m c (t.val - 1) (by omega)).2.2.1 (Rect.unit ![p.val, 0, 0] ![1, 128, 128] inb))) (ix3 0 i s) = ((acc (fun n => M.dW n p i s) t.val : ℝ) : EReal) := by
      rw [acc_pred _ _ (by omega)]
      exact w_row H t p _ i s _ ((ld3 _ p inb i s).trans (congrFun ih _))
    exact w_C m c t h0 h1 (fun p i s => ((acc (fun n => M.dW n p i s) t.val : ℝ) : EReal)) (fun i s => W 0 i s _) (fun i s => W 1 i s _) (fun i s => W 2 i s _) (fun i s => W 3 i s _) (fun i s => W 4 i s _) (fun i s => W 5 i s _) (fun i s => W 6 i s _) (fun i s => W 7 i s _)

end Cert.Kernel3Ideal.Steps
end
-- ==== Proof.MixerKernel.lean ====
/-
  The arrays the mixer's backward pass leaves.
-/
module

public import proofs.«01_k».proof.Proof.MixerTail
public import proofs.«01_k».proof.Proof.MixerSteps
public import proofs.«01_k».proof.Proof.MixerForward

@[expose] public section

set_option maxRecDepth 16384
set_option backward.proofsInPublic true
noncomputable section
namespace Cert.Kernel3Ideal.Steps
open Idealize.ShloMosaic Idealize.ShloMosaic.TcCoe Idealize.SL.Sem Idealize.ShloMosaic.Pointwise Cert.Reals Cert.MixerMath
open Cert.Reals Cert.MixerMath Cert.MixerModel Cert.Kernel3Ideal Cert.Kernel3Ideal.Gen Cert.Kernel3Ideal.Tiles Cert.Kernel3Ideal.Reads

theorem out_idx (t : Fin cfg0.N) : win0_12.index t = ![7 - t.val, 0] ∧ win0_18.index t = ![t.val, 0] := by
  revert t; decide +kernel

variable {m : (ℓ : Loc nD τ sig) → Buf (Elt Ideal) ℓ} {c : Dev nD} {M : Data} (H : Args m c M)
include H

theorem dz_array : (dats m 0 c).arrAt 12 cfg0.N = fun i : S2048x5376.Idx =>
    ((M.dz ((i 0).val / 128) ⟨(i 0).val % 128, Nat.mod_lt _ (by norm_num)⟩ (i 1).val : ℝ) : EReal) := by
  refine (dats m 0 c).arrAt_eq_of_covers 12 _ (by decide +kernel) fun t hf y => ?_
  have ht : t.val < 8 := t.isLt
  blk_simp
  rw [after0_12]
  change S256x5376.Idx at y
  have hy : (y 0).val < 256 := (y 0).isLt
  rw [dz_step H t]
  have j0 : win0_12.index t 0 = 7 - t.val := congrFun (out_idx t).1 0
  have j1 : win0_12.index t 1 = 0 := congrFun (out_idx t).1 1
  have e1 : ((7 - t.val) * 256 + (y 0).val) / 128 = 2 * (7 - t.val) + (y 0).val / 128 := by omega
  have e2 : ((7 - t.val) * 256 + (y 0).val) % 128 = (y 0).val % 128 := by omega
  have e3 : 0 * 5376 + (y 1).val = (y 1).val := by omega
  simp only [j0, j1, e1, e2, e3]

theorem dw_array : (dats m 0 c).arrAt 14 cfg0.N = fun i : S8x128x128.Idx => ((∑ n : Fin 16, M.dW n (i 0) (i 1) (i 2) : ℝ) : EReal) := by
  refine (dats m 0 c).arrAt_eq_of_after_last 14 t0_7 (by decide +kernel) _ fun j => ?_
  rw [after0_14]
  refine (congrFun (w_acc H 7 (by decide)) _).trans ?_
  exact congrArg Real.toEReal (acc_last _)

theorem dlng_array : (dats m 0 c).arrAt 16 cfg0.N = fun i : S1x1024.Idx => ((∑ n : Fin 16, M.dG n (i 1) : ℝ) : EReal) := by
  refine (dats m 0 c).arrAt_eq_of_after_last 16 t0_7 (by decide +kernel) _ fun j => ?_
  rw [after0_16]
  idx_vars j
  obtain rfl : j0 = 0 := Subsingleton.elim _ _
  exact (lng_acc H j1 7 (by decide)).trans (congrArg Real.toEReal (acc_last _))

theorem dlnb_array : (dats m 0 c).arrAt 17 cfg0.N = fun i : S1x1024.Idx => ((∑ n : Fin 16, M.dBn n (i 1) : ℝ) : EReal) := by
  refine (dats m 0 c).arrAt_eq_of_after_last 17 t0_7 (by decide +kernel) _ fun j => ?_
  rw [after0_17]
  idx_vars j
  obtain rfl : j0 = 0 := Subsingleton.elim _ _
  exact (lnb_acc H j1 7 (by decide)).trans (congrArg Real.toEReal (acc_last _))

theorem db_array : (dats m 0 c).arrAt 15 cfg0.N = fun i : S8x128.Idx => ((∑ n : Fin 16, M.dB n (i 0) (i 1) : ℝ) : EReal) := by
  refine (dats m 0 c).arrAt_eq_of_after_last 15 t0_7 (by decide +kernel) _ fun j => ?_
  rw [after0_15]
  idx_vars j
  refine (congrFun (bias_C m c t0_7 (by decide) (by decide)) (ix2 j0 j1)).trans ?_
  refine (bias_at _ j0 j1).trans ?_
  exact (db_acc H j1 j0 7 (by decide)).trans (congrArg Real.toEReal (acc_last _))

/-- The sinks' gradient: one sum of each head's row. -/
theorem dsinks_array : (dats m 0 c).arrAt 13 cfg0.N = fun i : S1x128.Idx =>
    if h : (i 1).val < 16 then ((-∑ n : Fin 16, ∑ t : Fin 128, M.dsk n ⟨(i 1).val / 8, Nat.div_lt_of_lt_mul h⟩ ⟨(i 1).val % 8, Nat.mod_lt _ (by norm_num)⟩ t : ℝ) : EReal) else 0 := by
  refine (dats m 0 c).arrAt_eq_of_after_last 13 t0_7 (by decide +kernel) _ fun j => ?_
  rw [after0_13]
  idx_vars j
  obtain rfl : j0 = 0 := Subsingleton.elim _ _
  let Y : Fin 2 → Fin 1024 → ℝ := fun g l => -acc (fun n => M.dsk n g ⟨l.val / 128, by omega⟩ ⟨l.val % 128, by omega⟩) 7
  have ih := sink_acc H 6 (by decide)
  obtain ⟨a, b, ha, hb, e⟩ := heads_C m c t0_7 (by decide) (by decide) (fun g l => ((Y g l : ℝ) : EReal))
    (fun l => by
      show _ = ((-acc _ 7 : ℝ) : EReal)
      rw [acc_pred _ 7 (by norm_num)]
      exact sink_row H t0_7 0 _ l _ ((slab_at _ 0 _ l).trans (congrFun ih _)))
    (fun l => by
      show _ = ((-acc _ 7 : ℝ) : EReal)
      rw [acc_pred _ 7 (by norm_num)]
      exact sink_row H t0_7 1 _ l _ ((slab_at _ 1 _ l).trans (congrFun ih _)))
  refine (congrFun e (ix2 0 j1)).trans ((lanes_at a b Y ha hb j1).trans ?_)
  by_cases h : j1.val < 16
  · rw [dif_pos h]
    refine Eq.trans ?_ (dif_pos h).symm
    refine congrArg Real.toEReal ?_
    simp only [Y, acc_last, Finset.sum_neg_distrib]
    rw [Finset.sum_comm]
    refine congrArg Neg.neg (Finset.sum_congr rfl fun n _ => Finset.sum_congr rfl fun t _ => ?_)
    exact congrArg₂ (M.dsk n.val ⟨j1.val / 8, by omega⟩) (Fin.ext (show (128 * (j1.val % 8) + t.val) / 128 = j1.val % 8 by omega)) (Fin.ext (show (128 * (j1.val % 8) + t.val) % 128 = t.val by omega))
  · rw [dif_neg h]
    refine Eq.trans ?_ (dif_neg h).symm
    rfl

omit H in
theorem dwout_step (t : Fin cfg0.N) : (outsAt0 m c t.val t.isLt).2.2.2.2.2.2.1 = k0_pay20 (iblk m c 10 t) (iblk m c 11 t) := by
  by_cases h0 : t.val % 8 = 0
  · exact dw_out_A m c t h0 (by omega)
  · by_cases h1 : t.val % 8 = 7
    · exact dw_out_C m c t h0 h1
    · exact dw_out_B m c t h0 h1

omit H in
theorem dwout_array (A : Fin 2048 → Fin 2048 → EReal) (hA : ∀ i k, V m c main_v90 (ix2 i k) = A i k) (B : Fin 2048 → Fin 2048 → EReal)
    (hB : ∀ i l, m ((c : Thread nD τ).loc main_arg7) (ix2 i l) = B i l) :
    (dats m 0 c).arrAt 18 cfg0.N = fun i : S2048x2048.Idx => ∑ r : Fin 2048, A r (i 0) * B r (i 1) := by
  refine (dats m 0 c).arrAt_eq_of_covers 18 _ (by decide +kernel) fun t hf y => ?_
  have ht : t.val < 8 := t.isLt
  blk_simp
  rw [after0_18]
  change S256x2048.Idx at y
  have hy : (y 0).val < 256 := (y 0).isLt
  have he : ((View.whole main_v97_6).slice (win0_18.rect t)).emb y = ix2 ⟨t.val * 256 + (y 0).val, by omega⟩ (y 1) := by
    funext a
    apply Fin.ext
    fin_cases a
    · blk_simp [out_idx t]
      rfl
    · blk_simp [out_idx t]
      rfl
  rw [he, dwout_step t]
  idx_vars y
  refine (wOut_at _ _ y0 y1).trans (Finset.sum_congr rfl fun r _ => ?_)
  rw [blk10 m c t r y0 (by omega), blk11, hA, hB]

end Cert.Kernel3Ideal.Steps
end
-- ==== Proof.MixerFolds.lean ====
/-
  Reductions over several axes, some of one element, read at an index; and a contraction over three axes.
-/
module

public import proofs.«01_k».proof.Proof.MixerMath
public import proofs.«01_k».proof.Proof.Gen.Reference3Ideal.Read

@[expose] public section

set_option maxRecDepth 16384
set_option backward.proofsInPublic true
noncomputable section
namespace Cert.MixerFolds
open Idealize.ShloMosaic Idealize.ShloMosaic.TcCoe Idealize.SL.Sem Idealize.ShloMosaic.Pointwise Cert.Reals Cert.MixerMath
open Cert.Reference3Ideal

/-- A sum over the last of six axes. -/
theorem last_drop {a b c d e : ℕ} (h : (⟨6, ![1, a, b, c, d, e]⟩ : Shape).ReducesTo [5] ⟨5, ![1, a, b, c, d]⟩)
    (j : (⟨5, ![1, a, b, c, d]⟩ : Shape).Idx) (i : (⟨6, ![1, a, b, c, d, e]⟩ : Shape).Idx) :
    h.drop i = j ↔ ∃ k : Fin e, (ix6 (j 0) (j 1) (j 2) (j 3) (j 4) k : (⟨6, ![1, a, b, c, d, e]⟩ : Shape).Idx) = i := by
  refine ⟨fun e => ⟨i 5, ?_⟩, ?_⟩
  · funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem last_sum {a b c d e : ℕ} (h : (⟨6, ![1, a, b, c, d, e]⟩ : Shape).ReducesTo [5] ⟨5, ![1, a, b, c, d]⟩)
    (v : (⟨6, ![1, a, b, c, d, e]⟩ : Shape).Idx → EReal) (u : EReal) (j : (⟨5, ![1, a, b, c, d]⟩ : Shape).Idx) :
    Ideal.hostReduceAdd h v u j = u + ∑ k : Fin e, v (ix6 (j 0) (j 1) (j 2) (j 3) (j 4) k) :=
  hostReduceAdd_fibre h v u j (fun k : Fin e => (ix6 (j 0) (j 1) (j 2) (j 3) (j 4) k : (⟨6, ![1, a, b, c, d, e]⟩ : Shape).Idx)) (fun k l e => congrFun e 5) (last_drop h j)

/-- A sum over two axes of one element. -/
theorem unit05_drop {a b c d : ℕ} (h : (⟨6, ![1, a, b, c, d, 1]⟩ : Shape).ReducesTo [0, 5] ⟨4, ![a, b, c, d]⟩)
    (j : (⟨4, ![a, b, c, d]⟩ : Shape).Idx) (i : (⟨6, ![1, a, b, c, d, 1]⟩ : Shape).Idx) :
    h.drop i = j ↔ ∃ k : Fin 1, (ix6 0 (j 0) (j 1) (j 2) (j 3) k : (⟨6, ![1, a, b, c, d, 1]⟩ : Shape).Idx) = i := by
  refine ⟨fun e => ⟨i 5, ?_⟩, ?_⟩
  · funext a
    apply Fin.ext
    match a with
    | ⟨0, _⟩ => exact (congrArg Fin.val (Fin.fin_one_eq_zero (i 0))).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl

theorem unit05_sum {a b c d : ℕ} (h : (⟨6, ![1, a, b, c, d, 1]⟩ : Shape).ReducesTo [0, 5] ⟨4, ![a, b, c, d]⟩)
    (v : (⟨6, ![1, a, b, c, d, 1]⟩ : Shape).Idx → EReal) (u : EReal) (j : (⟨4, ![a, b, c, d]⟩ : Shape).Idx) :
    Ideal.hostReduceAdd h v u j = u + ∑ k : Fin 1, v (ix6 0 (j 0) (j 1) (j 2) (j 3) k) :=
  hostReduceAdd_fibre h v u j (fun k : Fin 1 => (ix6 0 (j 0) (j 1) (j 2) (j 3) k : (⟨6, ![1, a, b, c, d, 1]⟩ : Shape).Idx)) (fun k l e => congrFun e 5) (unit05_drop h j)

/-- A sum over all axes but the third and fourth of six. -/
theorem heads_drop {a b c d : ℕ} (h : (⟨6, ![1, a, b, c, d, 1]⟩ : Shape).ReducesTo [0, 1, 4, 5] ⟨2, ![b, c]⟩)
    (j : (⟨2, ![b, c]⟩ : Shape).Idx) (i : (⟨6, ![1, a, b, c, d, 1]⟩ : Shape).Idx) :
    h.drop i = j ↔ ∃ k : Fin a × Fin d, (ix6 0 k.1 (j 0) (j 1) k.2 0 : (⟨6, ![1, a, b, c, d, 1]⟩ : Shape).Idx) = i := by
  refine ⟨fun e => ⟨(i 1, i 4), ?_⟩, ?_⟩
  · funext a
    apply Fin.ext
    match a with
    | ⟨0, _⟩ => exact (congrArg Fin.val (Fin.fin_one_eq_zero (i 0))).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (congrArg Fin.val (Fin.fin_one_eq_zero (i 5))).symm
  · rintro ⟨k, rfl⟩
    funext a
    apply Fin.ext
    match a with
    | ⟨0, _⟩ => rfl
    | ⟨1, _⟩ => rfl

theorem heads_sum {a b c d : ℕ} (h : (⟨6, ![1, a, b, c, d, 1]⟩ : Shape).ReducesTo [0, 1, 4, 5] ⟨2, ![b, c]⟩)
    (v : (⟨6, ![1, a, b, c, d, 1]⟩ : Shape).Idx → EReal) (u : EReal) (j : (⟨2, ![b, c]⟩ : Shape).Idx) :
    Ideal.hostReduceAdd h v u j = u + ∑ k : Fin a × Fin d, v (ix6 0 k.1 (j 0) (j 1) k.2 0) :=
  hostReduceAdd_fibre h v u j (fun k : Fin a × Fin d => (ix6 0 k.1 (j 0) (j 1) k.2 0 : (⟨6, ![1, a, b, c, d, 1]⟩ : Shape).Idx)) (fun k l e => Prod.ext (congrFun e 1) (congrFun e 4)) (heads_drop h j)

/-- A sum over the second and the last of five axes. -/
theorem groups_drop {a b c d : ℕ} (h : (⟨5, ![1, a, b, c, d]⟩ : Shape).ReducesTo [1, 4] ⟨3, ![1, b, c]⟩)
    (j : (⟨3, ![1, b, c]⟩ : Shape).Idx) (i : (⟨5, ![1, a, b, c, d]⟩ : Shape).Idx) :
    h.drop i = j ↔ ∃ k : Fin a × Fin d, (ix5 (j 0) k.1 (j 1) (j 2) k.2 : (⟨5, ![1, a, b, c, d]⟩ : Shape).Idx) = i := by
  refine ⟨fun e => ⟨(i 1, i 4), ?_⟩, ?_⟩
  · funext a
    apply Fin.ext
    match a with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext a
    apply Fin.ext
    match a with
    | ⟨0, _⟩ => rfl
    | ⟨1, _⟩ => rfl
    | ⟨2, _⟩ => rfl

theorem groups_sum {a b c d : ℕ} (h : (⟨5, ![1, a, b, c, d]⟩ : Shape).ReducesTo [1, 4] ⟨3, ![1, b, c]⟩)
    (v : (⟨5, ![1, a, b, c, d]⟩ : Shape).Idx → EReal) (u : EReal) (j : (⟨3, ![1, b, c]⟩ : Shape).Idx) :
    Ideal.hostReduceAdd h v u j = u + ∑ k : Fin a × Fin d, v (ix5 (j 0) k.1 (j 1) (j 2) k.2) :=
  hostReduceAdd_fibre h v u j (fun k : Fin a × Fin d => (ix5 (j 0) k.1 (j 1) (j 2) k.2 : (⟨5, ![1, a, b, c, d]⟩ : Shape).Idx)) (fun k l e => Prod.ext (congrFun e 1) (congrFun e 4)) (groups_drop h j)

/-- A sum over three axes of one element. -/
theorem unit014_drop {b c : ℕ} (h : (⟨5, ![1, 1, b, c, 1]⟩ : Shape).ReducesTo [0, 1, 4] ⟨2, ![b, c]⟩)
    (j : (⟨2, ![b, c]⟩ : Shape).Idx) (i : (⟨5, ![1, 1, b, c, 1]⟩ : Shape).Idx) :
    h.drop i = j ↔ ∃ k : Fin 1, (ix5 0 0 (j 0) (j 1) k : (⟨5, ![1, 1, b, c, 1]⟩ : Shape).Idx) = i := by
  refine ⟨fun e => ⟨i 4, ?_⟩, ?_⟩
  · funext a
    apply Fin.ext
    match a with
    | ⟨0, _⟩ => exact (congrArg Fin.val (Fin.fin_one_eq_zero (i 0))).symm
    | ⟨1, _⟩ => exact (congrArg Fin.val (Fin.fin_one_eq_zero (i 1))).symm
    | ⟨2, _⟩ => exact (congrArg Fin.val (congrFun e 0)).symm
    | ⟨3, _⟩ => exact (congrArg Fin.val (congrFun e 1)).symm
    | ⟨4, _⟩ => rfl
  · rintro ⟨k, rfl⟩
    funext a
    apply Fin.ext
    match a with
    | ⟨0, _⟩ => rfl
    | ⟨1, _⟩ => rfl

theorem unit014_sum {b c : ℕ} (h : (⟨5, ![1, 1, b, c, 1]⟩ : Shape).ReducesTo [0, 1, 4] ⟨2, ![b, c]⟩)
    (v : (⟨5, ![1, 1, b, c, 1]⟩ : Shape).Idx → EReal) (u : EReal) (j : (⟨2, ![b, c]⟩ : Shape).Idx) :
    Ideal.hostReduceAdd h v u j = u + ∑ k : Fin 1, v (ix5 0 0 (j 0) (j 1) k) :=
  hostReduceAdd_fibre h v u j (fun k : Fin 1 => (ix5 0 0 (j 0) (j 1) k : (⟨5, ![1, 1, b, c, 1]⟩ : Shape).Idx)) (fun k l e => congrFun e 4) (unit014_drop h j)

/-- A maximum over the last of six axes. -/
theorem last_max {a b c d e : ℕ} (h : (⟨6, ![1, a, b, c, d, e]⟩ : Shape).ReducesTo [5] ⟨5, ![1, a, b, c, d]⟩)
    (v : (⟨6, ![1, a, b, c, d, e]⟩ : Shape).Idx → EReal) (u : EReal) (j : (⟨5, ![1, a, b, c, d]⟩ : Shape).Idx) :
    Finset.fold max u v {i | h.drop i = j} = Finset.univ.fold max u (fun k : Fin e => v (ix6 (j 0) (j 1) (j 2) (j 3) (j 4) k)) := by
  rw [show ({i | h.drop i = j} : Finset _) = Finset.univ.map ⟨fun k : Fin e => (ix6 (j 0) (j 1) (j 2) (j 3) (j 4) k : (⟨6, ![1, a, b, c, d, e]⟩ : Shape).Idx), fun k l e => congrFun e 5⟩ by
    ext i; simp [last_drop]; exact Iff.rfl]
  rw [Finset.fold_map]; rfl

/-- The places of the contraction over an axis of one element and two others. -/
def places : Fin 16 × Fin 128 ≃ dot_S8x1x16x128x128_S1x16x128x8x128_S8x128x128_123_014_4_2_0_3.contr.Idx where
  toFun k := fun p => match p with
    | ⟨0, _⟩ => (0 : Fin 1)
    | ⟨1, _⟩ => k.1
    | ⟨2, _⟩ => k.2
  invFun kk := (kk ⟨1, by decide⟩, kk ⟨2, by decide⟩)
  left_inv _ := rfl
  right_inv kk := by
    funext p
    match p with
    | ⟨0, _⟩ => exact (Fin.fin_one_eq_zero (kk ⟨0, by decide⟩)).symm
    | ⟨1, _⟩ => rfl
    | ⟨2, _⟩ => rfl

theorem dot_places (x : S8x1x16x128x128.Idx → EReal) (y : S1x16x128x8x128.Idx → EReal) (acc : S8x128x128.Idx → EReal) (p : Fin 8) (t s : Fin 128) :
    Ideal.matmul dot_S8x1x16x128x128_S1x16x128x8x128_S8x128x128_123_014_4_2_0_3 x y acc (ix3 p t s)
      = acc (ix3 p t s) + ∑ k : Fin 16 × Fin 128, x (ix5 p 0 k.1 k.2 t) * y (ix5 0 k.1 s p k.2) := by
  refine congrArg (acc _ + ·) (Fintype.sum_equiv places _ _ fun k => ?_).symm
  refine congrArg₂ (· * ·) (congrArg x (funext fun a => ?_)) (congrArg y (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

end Cert.MixerFolds
end
-- ==== Proof.MixerRefForward.lean ====
/-
  The reference of the mixer's gradients on real numbers, the forward lines: probabilities, attention, gating.
-/
module

public import proofs.«01_k».proof.Proof.MixerFolds
public import proofs.«01_k».proof.Proof.MixerModel
public import proofs.«01_k».proof.Proof.MixerAttn

@[expose] public section

set_option maxRecDepth 16384
set_option backward.proofsInPublic true
noncomputable section
namespace Cert.Reference3Ideal.Closed
open Idealize.ShloMosaic Idealize.ShloMosaic.TcCoe Idealize.SL.Sem Idealize.ShloMosaic.Pointwise Cert.Reals Cert.MixerMath
open Cert.MixerModel Cert.MixerModel.Data Cert.MixerFolds Cert.Reference3Ideal Cert.Reference3Ideal.Read

/-- Which keys a query sees, as the reference writes it: the distance back from the query. -/
theorem window : ∀ (t : Fin 128) (s : Fin 256), IntOp.andi (IntOp.cmpi .sge (IntOp.subi (BitVec.ofNat 32 (t.val + 128)) (BitVec.ofNat 32 s.val)) (BitVec.ofNat 32 0))
    (IntOp.cmpi .slt (IntOp.subi (BitVec.ofNat 32 (t.val + 128)) (BitVec.ofNat 32 s.val)) (BitVec.ofNat 32 128))
      = if t.val < s.val ∧ s.val ≤ t.val + 128 then 1#1 else 0#1 := by decide +kernel

theorem coe_silu (z : ℝ) : ((z : ℝ) : EReal) * Ideal.div 1 (1 + Ideal.exp (-((z : ℝ) : EReal))) = ((z * sgm z : ℝ) : EReal) := by
  rw [← EReal.coe_neg, coe_exp, ← EReal.coe_one, ← EReal.coe_add, coe_div _ (one_add_exp_pos z).ne', ← EReal.coe_mul]
  rfl

theorem coe_sgm (z : ℝ) : Ideal.div 1 (1 + Ideal.exp (-((z : ℝ) : EReal))) = ((sgm z : ℝ) : EReal) := by
  rw [← EReal.coe_neg, coe_exp, ← EReal.coe_one, ← EReal.coe_add, coe_div _ (one_add_exp_pos z).ne']
  rfl

theorem mask_at (n : Fin 16) (g : Fin 2) (j : Fin 8) (t : Fin 128) (s : Fin 256) (u v : EReal) :
    Scalar.select (val_main_v60_1 (F := Ideal) (ix6 0 n g j t s)) u v = if Sees n.val t s then u else v := by
  pointwise [val_main_v60_1, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_c, val_main_c_4, val_main_c_5, val_main_c_6, val_main_c_7]
  rw [show IntOp.addi (BitVec.ofNat 32 t.val) 128#32 = BitVec.ofNat 32 (t.val + 128) from (BitVec.ofNat_add _ _).symm]
  rw [show (0#32 : BitVec 32) = BitVec.ofNat 32 0 from rfl, show (128#32 : BitVec 32) = BitVec.ofNat 32 128 from rfl, window]
  rw [WordCmp.cmpi_sgt_ofNat (by norm_num; omega) (by norm_num), WordCmp.cmpi_sge_ofNat (by norm_num; omega) (by norm_num)]
  by_cases a : t.val < s.val <;> by_cases b : s.val ≤ t.val + 128 <;> by_cases c : 0 < n.val <;> by_cases d : 128 ≤ s.val <;>
    simp [Sees, a, b, c, d, Scalar.select, IntOp.andi, IntOp.ori]

theorem max_of {S : Shape} (x y : FVec Ideal S .f32) (i : S.Idx) (r : ℝ) (hx : x i = ⊥) (hy : y i = ((r : ℝ) : EReal)) :
    maximumf x y i = ((r : ℝ) : EReal) := by
  pointwise
  rw [hx, hy]
  exact max_eq_right bot_le

section Attention
variable (M : Data) (x0 : FVec Ideal S2048x5376 .f32) (x1 : FVec Ideal S1x16 .f32)
  (h0 : ∀ (i : Fin 2048) (k : Fin 5376), x0 (ix2 i k) = ((M.Z i.val k.val : ℝ) : EReal))
  (h1 : ∀ h : Fin 16, x1 (ix2 0 h) = ((M.sk h.val : ℝ) : EReal))

include h0 in
theorem q_at (n : Fin 16) (t : Fin 128) (g : Fin 2) (j : Fin 8) (d : Fin 64) :
    val_main_v12 (F := Ideal) x0 (ix6 0 n t g j d) = ((M.q n.val g j t d : ℝ) : EReal) := by
  pointwise [val_main_v12, val_main_v8, val_main_v1, val_main_v0]
  rw [h0]
  exact congrArg₂ (fun i k => ((M.Z i k : ℝ) : EReal)) (by dsimp only; omega) (by dsimp only; omega)

include h0 in
theorem k_at (n : Fin 16) (s : Fin 256) (g : Fin 2) (d : Fin 64) :
    val_main_v20 (F := Ideal) x0 (ix5 0 n s g d) = ((if n.val = 0 ∧ s.val < 128 then 0 else M.kk n.val g s d : ℝ) : EReal) := by
  pointwise [val_main_v20, val_main_v18, val_main_v17, val_main_v16, val_main_cst, val_main_v13, val_main_v9, val_main_v2, val_main_v0]
  simp only [h0]
  unfold Data.kk Data.ext
  by_cases hs : s.val < 128 <;> by_cases hn : n.val < 1
  · rw [dif_pos hs, dif_pos hn, if_pos ⟨by omega, hs⟩]; rfl
  · rw [dif_pos hs, dif_neg hn, if_neg (by omega), if_pos hs]
    exact congrArg₂ (fun i k => ((M.Z i k : ℝ) : EReal)) (show _ = _ by omega) (show _ = _ by omega)
  all_goals
    rw [dif_neg hs, if_neg (by omega), if_neg hs]
    exact congrArg₂ (fun i k => ((M.Z i k : ℝ) : EReal)) (show _ = _ by omega) (show _ = _ by omega)

include h0 in
theorem v_at (n : Fin 16) (s : Fin 256) (g : Fin 2) (d : Fin 64) :
    val_main_v26 (F := Ideal) x0 (ix5 0 n s g d) = ((if n.val = 0 ∧ s.val < 128 then 0 else M.vv n.val g s d : ℝ) : EReal) := by
  pointwise [val_main_v26, val_main_v24, val_main_v23, val_main_v22, val_main_cst_1, val_main_v14, val_main_v10, val_main_v3, val_main_v0]
  simp only [h0]
  unfold Data.vv Data.ext
  by_cases hs : s.val < 128 <;> by_cases hn : n.val < 1
  · rw [dif_pos hs, dif_pos hn, if_pos ⟨by omega, hs⟩]; rfl
  · rw [dif_pos hs, dif_neg hn, if_neg (by omega), if_pos hs]
    exact congrArg₂ (fun i k => ((M.Z i k : ℝ) : EReal)) (show _ = _ by omega) (show _ = _ by omega)
  all_goals
    rw [dif_neg hs, if_neg (by omega), if_neg hs]
    exact congrArg₂ (fun i k => ((M.Z i k : ℝ) : EReal)) (show _ = _ by omega) (show _ = _ by omega)

include h0 in
theorem score_at (n : Fin 16) (g : Fin 2) (j : Fin 8) (t : Fin 128) (s : Fin 256) : val_main_v60_0 (F := Ideal) x0 (ix6 0 n g j t s)
    = if Sees n.val t s then ((M.score n.val g j t s : ℝ) : EReal) else ⊥ := by
  pointwise [val_main_v60_0]
  rw [mask_at]
  by_cases h : Sees n.val t s
  · rw [if_pos h, if_pos h]
    pointwise [val_main_v30, val_main_v29, val_main_v28, val_main_v27, val_main_cst_3]
    simp only [q_at M x0 h0, k_at M x0 h0, lit_eighth, ← EReal.coe_mul, coe_sum]
    have : ¬(n.val = 0 ∧ s.val < 128) := fun e => by have := h.2.2; omega
    simp only [if_neg this]
    rfl
  · rw [if_neg h, if_neg h]
    pointwise [val_main_call0_v2, val_main_call0_v0, val_main_cst_8]
    exact lit_ninf

include h0 h1 in
theorem scores_at (n : Fin 16) (g : Fin 2) (j : Fin 8) (t : Fin 128) (s : Fin 257) :
    val_main_v64 (F := Ideal) x0 x1 (ix6 0 n g j t s) = M.scores n.val g j t s := by
  pointwise [val_main_v64, val_main_v63, val_main_v62, val_main_v61, val_main_v11]
  simp only [score_at M x0 h0, h1, Nat.mul_comm g.val 8]
  rfl

include h0 h1 in
theorem max_at (n : Fin 16) (g : Fin 2) (j : Fin 8) (t : Fin 128) :
    val_main_v65 (F := Ideal) x0 x1 (ix5 0 n g j t) = ((M.top n.val g j t : ℝ) : EReal) := by
  rw [Data.coe_top]
  pointwise [val_main_v65, val_main_cst_9]
  rw [last_max]
  exact congrArg₂ (fun u f => Finset.univ.fold max u f) lit_ninf (funext fun s => scores_at M x0 x1 h0 h1 n g j t s)

include h0 h1 in
theorem top_at (n : Fin 16) (g : Fin 2) (j : Fin 8) (t : Fin 128) :
    val_main_v72 (F := Ideal) x0 x1 (ix5 0 n g j t) = ((M.top n.val g j t : ℝ) : EReal) := by
  have e : val_main_v71 (F := Ideal) (ix5 0 n g j t) = ⊥ := by
    pointwise [val_main_v71, val_main_cst_11]
    exact lit_ninf
  unfold val_main_v72
  exact max_of _ _ _ _ e (max_at M x0 x1 h0 h1 n g j t)

include h0 h1 in
theorem tops_at (n : Fin 16) (g : Fin 2) (j : Fin 8) (t : Fin 128) (s : Fin 257) :
    val_main_v83 (F := Ideal) x0 x1 (ix6 0 n g j t s) = ((M.top n.val g j t : ℝ) : EReal) := by
  pointwise [val_main_v83, val_main_v82]
  exact top_at M x0 x1 h0 h1 n g j t

include h0 h1 in
theorem ex_at (n : Fin 16) (g : Fin 2) (j : Fin 8) (t : Fin 128) (s : Fin 257) : val_main_v85 (F := Ideal) x0 x1 (ix6 0 n g j t s)
    = ((if h : s.val < 256 then M.ex n.val g j t ⟨s.val, h⟩ else M.exs n.val g j t : ℝ) : EReal) := by
  pointwise [val_main_v85, val_main_v84]
  rw [scores_at M x0 x1 h0 h1, tops_at M x0 x1 h0 h1]
  exact M.exp_scores n.val g j t s

include h0 h1 in
theorem tot_at (n : Fin 16) (g : Fin 2) (j : Fin 8) (t : Fin 128) :
    val_main_v86 (F := Ideal) x0 x1 (ix5 0 n g j t) = ((M.tot n.val g j t : ℝ) : EReal) := by
  pointwise [val_main_v86, val_main_cst_17]
  rw [last_sum]
  refine (congrArg ((0 : EReal) + ·) ((Finset.sum_congr rfl fun s _ => ex_at M x0 x1 h0 h1 n g j t s).trans (coe_sum _ _))).trans ?_
  rw [zero_add, M.sum_exps n.val g j t]

include h0 h1 in
theorem prob_at (n : Fin 16) (g : Fin 2) (j : Fin 8) (t : Fin 128) (s : Fin 256) :
    val_main_v93 (F := Ideal) x0 x1 (ix6 0 n g j t s) = ((M.P n.val g j t s : ℝ) : EReal) := by
  pointwise [val_main_v93, val_main_v89, val_main_v88, val_main_v87]
  rw [ex_at M x0 x1 h0 h1, tot_at M x0 x1 h0 h1, coe_div _ (M.tot_pos n.val g j t).ne', dif_pos s.isLt]
  rfl

include h0 h1 in
theorem inv_at (n : Fin 16) (g : Fin 2) (j : Fin 8) (t : Fin 128) :
    val_main_v92 (F := Ideal) x0 x1 (ix6 0 n g j t 0) = ((1 / (M.tot n.val g j t * M.tot n.val g j t) : ℝ) : EReal) := by
  pointwise [val_main_v92, val_main_v91, val_main_v90, val_main_v87, val_main_cst_18]
  rw [tot_at M x0 x1 h0 h1, ← EReal.coe_one, ← EReal.coe_mul, coe_div _ (mul_pos (M.tot_pos n.val g j t) (M.tot_pos n.val g j t)).ne']

include h0 h1 in
theorem att_at (i : Fin 2048) (k : Fin 1024) : val_main_v96 (F := Ideal) x0 x1 (ix3 0 i k)
    = ((M.att (i.val / 128) ⟨k.val / 512, by omega⟩ ⟨k.val / 64 % 8, by omega⟩ ⟨i.val % 128, by omega⟩ ⟨k.val % 64, by omega⟩ : ℝ) : EReal) := by
  pointwise [val_main_v96, val_main_v95, val_main_v94]
  simp only [v_at M x0 h0, prob_at M x0 x1 h0 h1, ← EReal.coe_mul, coe_sum, Data.absent_mul]
  rfl

include h0 in
theorem sgm_at (i : Fin 2048) (k : Fin 1024) : val_main_v97_2 (F := Ideal) x0 (ix3 0 i k)
    = ((sgm (M.Z i.val (1280 + k.val)) : ℝ) : EReal) := by
  pointwise [val_main_v97_2, val_main_call1_v4, val_main_call1_v3, val_main_call1_v2, val_main_call1_v1, val_main_call1_v0, val_main_call1_cst, val_main_call1_cst_0, val_main_v4, val_main_v0]
  rw [h0]
  exact coe_sgm _

include h0 in
theorem silu_at (i : Fin 2048) (k : Fin 1024) : val_main_v97_0 (F := Ideal) x0 (ix3 0 i k)
    = ((M.Z i.val (1280 + k.val) * sgm (M.Z i.val (1280 + k.val)) : ℝ) : EReal) := by
  pointwise [val_main_v97_0, val_main_v4, val_main_v0]
  rw [h0, sgm_at M x0 h0, ← EReal.coe_mul]

end Attention

section Gating
variable (M : Data) (x0 : FVec Ideal S2048x5376 .f32) (x2 x3 : FVec Ideal S1x1024 .f32)
  (x4 : FVec Ideal S1x8x128x128 .f32) (x5 : FVec Ideal S1x8x128 .f32)
  (h0 : ∀ (i : Fin 2048) (k : Fin 5376), x0 (ix2 i k) = ((M.Z i.val k.val : ℝ) : EReal))
  (h2 : ∀ k : Fin 1024, x2 (ix2 0 k) = ((M.G k : ℝ) : EReal))
  (h3 : ∀ k : Fin 1024, x3 (ix2 0 k) = ((M.B k : ℝ) : EReal))
  (h4 : ∀ (p : Fin 8) (t s : Fin 128), x4 (ix4 0 p t s) = ((M.W p t s : ℝ) : EReal))
  (h5 : ∀ (p : Fin 8) (t : Fin 128), x5 (ix3 0 p t) = ((M.b p t : ℝ) : EReal))

include h0 in
theorem vs_at (i : Fin 2048) (k : Fin 1024) :
    val_main_v6 (F := Ideal) x0 (ix3 0 i k) = ((M.v (i.val / 128) ⟨i.val % 128, by omega⟩ k : ℝ) : EReal) := by
  pointwise [val_main_v6, val_main_v0]
  rw [h0]
  exact congrArg₂ (fun i k => ((M.Z i k : ℝ) : EReal)) (by dsimp only; omega) rfl

include h0 in
theorem mean_at (i : Fin 2048) :
    val_main_v106 (F := Ideal) x0 (ix3 0 i 0) = ((mean (M.v (i.val / 128) ⟨i.val % 128, by omega⟩) : ℝ) : EReal) := by
  pointwise [val_main_v106, val_main_v105, val_main_v104, val_main_v103, val_main_cst_19, val_main_cst_20]
  simp only [vs_at M x0 h0, coe_sum, lit_1024, lit_zero, ← EReal.coe_add, zero_add, coe_div _ (show (1024 : ℝ) ≠ 0 by norm_num)]
  rfl

include h0 in
theorem cen_at (i : Fin 2048) (k : Fin 1024) :
    val_main_v108 (F := Ideal) x0 (ix3 0 i k) = ((cen (M.v (i.val / 128) ⟨i.val % 128, by omega⟩) k : ℝ) : EReal) := by
  pointwise [val_main_v108, val_main_v107]
  rw [vs_at M x0 h0, mean_at M x0 h0, ← EReal.coe_sub]
  rfl

include h0 in
theorem cen2_at (i : Fin 2048) (k : Fin 1024) :
    val_main_v117 (F := Ideal) x0 (ix3 0 i k) = ((cen (M.v (i.val / 128) ⟨i.val % 128, by omega⟩) k : ℝ) : EReal) := by
  pointwise [val_main_v117, val_main_v116]
  rw [vs_at M x0 h0, mean_at M x0 h0, ← EReal.coe_sub]
  rfl

include h0 in
theorem vari_at (i : Fin 2048) :
    val_main_v119 (F := Ideal) x0 (ix3 0 i 0) = ((vari (M.v (i.val / 128) ⟨i.val % 128, by omega⟩) : ℝ) : EReal) := by
  pointwise [val_main_v119, val_main_v118, val_main_v115, val_main_v114, val_main_v113, val_main_v112, val_main_v109, val_main_cst_22, val_main_cst_23, val_main_cst_24]
  simp only [cen_at M x0 h0, coe_sum, lit_1024, lit_eps, lit_zero, ← EReal.coe_mul, ← EReal.coe_add, zero_add, coe_div _ (show (1024 : ℝ) ≠ 0 by norm_num)]
  rfl

include h0 in
theorem rs_at (i : Fin 2048) :
    val_main_v120 (F := Ideal) x0 (ix3 0 i 0) = ((rs (M.v (i.val / 128) ⟨i.val % 128, by omega⟩) : ℝ) : EReal) := by
  pointwise [val_main_v120]
  rw [vari_at M x0 h0]
  exact coe_rsqrt (vari_pos _)

include h0 in
theorem hat_at (i : Fin 2048) (k : Fin 1024) :
    val_main_v125 (F := Ideal) x0 (ix3 0 i k) = ((hat (M.v (i.val / 128) ⟨i.val % 128, by omega⟩) k : ℝ) : EReal) := by
  pointwise [val_main_v125, val_main_v124]
  rw [cen2_at M x0 h0, rs_at M x0 h0, ← EReal.coe_mul]
  rfl

include h0 h2 h3 in
theorem vn_at (i : Fin 2048) (k : Fin 1024) :
    val_main_v131 (F := Ideal) x0 x2 x3 (ix3 0 i k) = ((M.vn (i.val / 128) ⟨i.val % 128, by omega⟩ k : ℝ) : EReal) := by
  pointwise [val_main_v131, val_main_v130, val_main_v129, val_main_v128, val_main_v127, val_main_v126, val_main_v100, val_main_v99]
  rw [hat_at M x0 h0, h2, h3, ← EReal.coe_mul, ← EReal.coe_add]
  rfl

include h0 h2 h3 in
theorem vns_at (n : Fin 16) (t : Fin 128) (p : Fin 8) (e : Fin 128) :
    val_main_v132 (F := Ideal) x0 x2 x3 (ix5 0 n t p e) = ((M.vn n.val t ⟨128 * p.val + e.val, by omega⟩ : ℝ) : EReal) := by
  pointwise [val_main_v132]
  rw [vn_at M x0 x2 x3 h0 h2 h3]
  refine congrArg Real.toEReal ?_
  rw [show (n.val * 128 + t.val) / 128 = n.val by omega]
  exact congrArg₂ (fun t k => M.vn n.val t k) (Fin.ext (show (n.val * 128 + t.val) % 128 = t.val by omega)) (Fin.ext (show p.val * 128 + e.val = _ by dsimp only; omega))

theorem low_at (p : Fin 8) (t s : Fin 128) : val_main_v136 (F := Ideal) (ix3 p t s) = ((if s.val ≤ t.val then 1 else 0 : ℝ) : EReal) := by
  pointwise [val_main_v136, val_main_v135, val_main_v134, val_main_v133, val_main_cst_26, val_main_call2_v5, val_main_call2_cst, val_main_call2_v4, val_main_call2_v3, val_main_call2_v2, val_main_call2_v1, val_main_call2_c, val_main_call2_v0]
  rw [show IntOp.addi (BitVec.ofNat 32 t.val) 0#32 = BitVec.ofNat 32 t.val from BitVec.add_zero _,
    WordCmp.cmpi_sge_ofNat (by norm_num; omega) (by norm_num; omega), select_decide]
  split <;> rfl

include h4 in
theorem tril_at (p : Fin 8) (t s : Fin 128) : val_main_v137 (F := Ideal) x4 (ix3 p t s) = ((M.tril p t s : ℝ) : EReal) := by
  pointwise [val_main_v137, val_main_v101]
  rw [low_at, h4, ← EReal.coe_mul]
  unfold Data.tril
  split <;> simp

include h0 h2 h3 h4 h5 in
theorem mix_at (i : Fin 2048) (k : Fin 1024) : val_main_v144 (F := Ideal) x0 x2 x3 x4 x5 (ix3 0 i k)
    = ((M.mix (i.val / 128) ⟨k.val / 128, by omega⟩ ⟨i.val % 128, by omega⟩ ⟨k.val % 128, by omega⟩ : ℝ) : EReal) := by
  pointwise [val_main_v144, val_main_v143, val_main_v142, val_main_v141, val_main_v140, val_main_v139, val_main_v138, val_main_v102]
  simp only [vns_at M x0 x2 x3 h0 h2 h3, tril_at M x4 h4, h5, ← EReal.coe_mul, coe_sum, ← EReal.coe_add]
  exact congrArg Real.toEReal (congrArg (· + _) (Finset.sum_congr rfl fun s _ => mul_comm _ _))

include h0 in
theorem sgm2_at (i : Fin 2048) (k : Fin 1024) : val_main_v146_2 (F := Ideal) x0 (ix3 0 i k)
    = ((sgm (M.Z i.val (4352 + k.val)) : ℝ) : EReal) := by
  pointwise [val_main_v146_2, val_main_call3_v4, val_main_call3_v3, val_main_call3_v2, val_main_call3_v1, val_main_call3_v0, val_main_call3_cst, val_main_call3_cst_0, val_main_v7, val_main_v0]
  rw [h0]
  exact coe_sgm _

include h0 in
theorem silu2_at (i : Fin 2048) (k : Fin 1024) : val_main_v146_0 (F := Ideal) x0 (ix3 0 i k)
    = ((M.Z i.val (4352 + k.val) * sgm (M.Z i.val (4352 + k.val)) : ℝ) : EReal) := by
  pointwise [val_main_v146_0, val_main_v7, val_main_v0]
  rw [h0, sgm2_at M x0 h0, ← EReal.coe_mul]

include h0 in
theorem u_at (i : Fin 2048) (k : Fin 1024) : val_main_v5 (F := Ideal) x0 (ix3 0 i k) = ((M.Z i.val (2304 + k.val) : ℝ) : EReal) := by
  pointwise [val_main_v5, val_main_v0]
  rw [h0]

include h0 h2 h3 h4 h5 in
theorem umix_at (i : Fin 2048) (k : Fin 1024) : val_main_v145 (F := Ideal) x0 x2 x3 x4 x5 (ix3 0 i k)
    = ((M.Z i.val (2304 + k.val) * M.mix (i.val / 128) ⟨k.val / 128, by omega⟩ ⟨i.val % 128, by omega⟩ ⟨k.val % 128, by omega⟩ : ℝ) : EReal) := by
  pointwise [val_main_v145]
  rw [u_at M x0 h0, mix_at M x0 x2 x3 x4 x5 h0 h2 h3 h4 h5, ← EReal.coe_mul]

end Gating

/-- The mixer's result. -/
theorem a_at (M : Data) (x0 : FVec Ideal S2048x5376 .f32) (x1 : FVec Ideal S1x16 .f32) (x2 x3 : FVec Ideal S1x1024 .f32)
    (x4 : FVec Ideal S1x8x128x128 .f32) (x5 : FVec Ideal S1x8x128 .f32)
    (h0 : ∀ (i : Fin 2048) (k : Fin 5376), x0 (ix2 i k) = ((M.Z i.val k.val : ℝ) : EReal))
    (h1 : ∀ h : Fin 16, x1 (ix2 0 h) = ((M.sk h.val : ℝ) : EReal))
    (h2 : ∀ k : Fin 1024, x2 (ix2 0 k) = ((M.G k : ℝ) : EReal))
    (h3 : ∀ k : Fin 1024, x3 (ix2 0 k) = ((M.B k : ℝ) : EReal))
    (h4 : ∀ (p : Fin 8) (t s : Fin 128), x4 (ix4 0 p t s) = ((M.W p t s : ℝ) : EReal))
    (h5 : ∀ (p : Fin 8) (t : Fin 128), x5 (ix3 0 p t) = ((M.b p t : ℝ) : EReal)) (i k : Fin 2048) :
    val_main_v264 (F := Ideal) x0 x1 x2 x3 x4 x5 (ix2 i k) = ((M.A (i.val / 128) ⟨i.val % 128, by omega⟩ k : ℝ) : EReal) := by
  pointwise [val_main_v264, val_main_v148, val_main_v98, val_main_v147]
  simp only [att_at M x0 x1 h0 h1, umix_at M x0 x2 x3 x4 x5 h0 h2 h3 h4 h5, silu_at M x0 h0, silu2_at M x0 h0, ← EReal.coe_mul]
  unfold Data.A
  simp only [show 128 * (i.val / 128) + i.val % 128 = i.val by omega]
  by_cases h : k.val < 1024
  · simp only [dif_pos h]
  · simp only [dif_neg h]

end Cert.Reference3Ideal.Closed
end
-- ==== Proof.MixerRefAttn.lean ====
/-
  The reference of the mixer's gradients on real numbers: the attention's gradients.
-/
module

public import proofs.«01_k».proof.Proof.MixerRefForward

@[expose] public section

set_option maxRecDepth 16384
set_option backward.proofsInPublic true
noncomputable section
namespace Cert.Reference3Ideal.Closed
open Idealize.ShloMosaic Idealize.ShloMosaic.TcCoe Idealize.SL.Sem Idealize.ShloMosaic.Pointwise Cert.Reals Cert.MixerMath
open Cert.MixerModel Cert.MixerModel.Data Cert.MixerFolds Cert.Reference3Ideal Cert.Reference3Ideal.Read

variable (M : Data) (x0 : FVec Ideal S2048x5376 .f32) (x1 : FVec Ideal S1x16 .f32) (x6 : FVec Ideal S2048x2048 .f32)
  (h0 : ∀ (i : Fin 2048) (k : Fin 5376), x0 (ix2 i k) = ((M.Z i.val k.val : ℝ) : EReal))
  (h1 : ∀ h : Fin 16, x1 (ix2 0 h) = ((M.sk h.val : ℝ) : EReal))
  (h6 : ∀ i k : Fin 2048, x6 (ix2 i k) = ((M.DA i.val k.val : ℝ) : EReal))

include h0 h6 in
theorem dO_at (n : Fin 16) (t : Fin 128) (g : Fin 2) (j : Fin 8) (d : Fin 64) :
    val_main_v211 (F := Ideal) x0 x6 (ix6 0 n t g j d) = ((M.dO n.val g j t d : ℝ) : EReal) := by
  pointwise [val_main_v211, val_main_v209, val_main_v150, val_main_v149]
  rw [silu_at M x0 h0, h6, ← EReal.coe_mul]
  unfold Data.dO Data.da Data.ga
  dsimp only
  rw [show n.val * 128 + t.val = 128 * n.val + t.val by omega, show g.val * 512 + j.val * 64 + d.val = 512 * g.val + 64 * j.val + d.val by omega,
    show 1280 + (512 * g.val + 64 * j.val + d.val) = 1280 + 512 * g.val + 64 * j.val + d.val by omega]

include h0 h6 in
theorem dP_at (n : Fin 16) (g : Fin 2) (j : Fin 8) (t : Fin 128) (s : Fin 256) :
    val_main_v213 (F := Ideal) x0 x6 (ix6 0 n g j t s) = ((if n.val = 0 ∧ s.val < 128 then 0 else M.dP n.val g j t s : ℝ) : EReal) := by
  unfold val_main_v213
  pointwise [val_main_v212]
  simp only [dO_at M x0 x6 h0 h6, v_at M x0 h0, ← EReal.coe_mul, coe_sum]
  refine congrArg Real.toEReal ?_
  split
  · simp
  · exact Finset.sum_congr rfl fun d _ => mul_comm _ _

include h0 h6 in
theorem dPs_at (n : Fin 16) (g : Fin 2) (j : Fin 8) (t : Fin 128) (s : Fin 257) :
    val_main_v216 (F := Ideal) x0 x6 (ix6 0 n g j t s)
      = ((if h : s.val < 256 then if n.val = 0 ∧ s.val < 128 then 0 else M.dP n.val g j t ⟨s.val, h⟩ else 0 : ℝ) : EReal) := by
  pointwise [val_main_v216, val_main_cst_40]
  simp only [dP_at M x0 x6 h0 h6]
  split <;> rfl

/-- An absent key has no weight. -/
theorem ex_absent (n : ℕ) (g : Fin 2) (j : Fin 8) (t : Fin 128) (s : Fin 256) (h : n = 0 ∧ s.val < 128) : M.ex n g j t s = 0 :=
  if_neg fun e => by have := e.2.2; omega

theorem sum_dP (n : ℕ) (g : Fin 2) (j : Fin 8) (t : Fin 128) :
    (∑ s : Fin 257, (if h : s.val < 256 then if n = 0 ∧ s.val < 128 then 0 else M.dP n g j t ⟨s.val, h⟩ else 0)
      * (1 / (M.tot n g j t * M.tot n g j t)) * (if h : s.val < 256 then M.ex n g j t ⟨s.val, h⟩ else M.exs n g j t))
      = M.del n g j t / M.tot n g j t := by
  have hT := (M.tot_pos n g j t).ne'
  rw [Fin.sum_univ_castSucc, dif_neg (by norm_num), zero_mul, zero_mul, add_zero]
  unfold Data.del
  rw [Finset.sum_div]
  refine Finset.sum_congr rfl fun s _ => ?_
  rw [dif_pos (show s.castSucc.val < 256 from s.isLt), dif_pos (show s.castSucc.val < 256 from s.isLt)]
  unfold Data.P
  by_cases h : n = 0 ∧ s.val < 128
  · rw [if_pos (show n = 0 ∧ s.castSucc.val < 128 from h), show M.ex n g j t ⟨s.castSucc.val, s.isLt⟩ = 0 from ex_absent M n g j t s h, show M.ex n g j t s = 0 from ex_absent M n g j t s h]
    simp
  · rw [if_neg (show ¬(n = 0 ∧ s.castSucc.val < 128) from h)]
    show M.dP n g j t s * _ * M.ex n g j t s = _
    field_simp

include h0 h1 h6 in
theorem terms_at (n : Fin 16) (g : Fin 2) (j : Fin 8) (t : Fin 128) (s : Fin 257) :
    val_main_v219 (F := Ideal) x0 x1 x6 (ix6 0 n g j t s)
      = (((if h : s.val < 256 then if n.val = 0 ∧ s.val < 128 then 0 else M.dP n.val g j t ⟨s.val, h⟩ else 0)
      * (1 / (M.tot n.val g j t * M.tot n.val g j t)) * (if h : s.val < 256 then M.ex n.val g j t ⟨s.val, h⟩ else M.exs n.val g j t) : ℝ) : EReal) := by
  pointwise [val_main_v219, val_main_v218, val_main_v217]
  rw [dPs_at M x0 x6 h0 h6, inv_at M x0 x1 h0 h1, ex_at M x0 x1 h0 h1, ← EReal.coe_mul, ← EReal.coe_mul]

include h0 h1 h6 in
theorem del_at (n : Fin 16) (g : Fin 2) (j : Fin 8) (t : Fin 128) :
    val_main_v220 (F := Ideal) x0 x1 x6 (ix5 0 n g j t) = ((M.del n.val g j t / M.tot n.val g j t : ℝ) : EReal) := by
  pointwise [val_main_v220, val_main_cst_41]
  rw [last_sum]
  refine (congrArg ((0 : EReal) + ·) ((Finset.sum_congr rfl fun s _ => terms_at M x0 x1 x6 h0 h1 h6 n g j t s).trans (coe_sum _ _))).trans ?_
  rw [zero_add, sum_dP M n.val g j t]

include h0 h1 h6 in
theorem less_at (n : Fin 16) (g : Fin 2) (j : Fin 8) (t : Fin 128) :
    val_main_v225 (F := Ideal) x0 x1 x6 (ix4 n g j t) = ((-(M.del n.val g j t / M.tot n.val g j t) : ℝ) : EReal) := by
  pointwise [val_main_v225, val_main_cst_42]
  rw [unit05_sum, Fin.sum_univ_one]
  refine (zero_add (_ : EReal)).trans ?_
  show val_main_v222 (F := Ideal) x0 x1 x6 (ix6 0 n g j t 0) = _
  pointwise [val_main_v222, val_main_v221]
  rw [del_at M x0 x1 x6 h0 h1 h6, ← EReal.coe_neg]

include h0 h1 h6 in
theorem dS_at (n : Fin 16) (g : Fin 2) (j : Fin 8) (t : Fin 128) (s : Fin 257) :
    val_main_v229 (F := Ideal) x0 x1 x6 (ix6 0 n g j t s) = ((if h : s.val < 256 then M.dS n.val g j t ⟨s.val, h⟩ else -M.dsk n.val g j t : ℝ) : EReal) := by
  have hT := (M.tot_pos n.val g j t).ne'
  pointwise [val_main_v229, val_main_v228, val_main_v227, val_main_v226, val_main_v224, val_main_v223, val_main_v87]
  rw [dPs_at M x0 x6 h0 h6, tot_at M x0 x1 h0 h1, less_at M x0 x1 x6 h0 h1 h6, ex_at M x0 x1 h0 h1, coe_div _ hT, ← EReal.coe_add, ← EReal.coe_mul]
  refine congrArg Real.toEReal ?_
  by_cases h : s.val < 256
  · simp only [dif_pos h]
    unfold Data.dS Data.P
    by_cases a : n.val = 0 ∧ s.val < 128
    · rw [ex_absent M n.val g j t ⟨s.val, h⟩ a]; simp
    · rw [if_neg a]; field_simp; ring
  · simp only [dif_neg h]
    unfold Data.dsk Data.Ps
    field_simp
    ring

include h0 h1 h6 in
theorem dsc_at (n : Fin 16) (g : Fin 2) (j : Fin 8) (t : Fin 128) (s : Fin 256) :
    val_main_v238 (F := Ideal) x0 x1 x6 (ix6 0 n g j t s) = ((M.dS n.val g j t s * (1 / 8) : ℝ) : EReal) := by
  pointwise [val_main_v238, val_main_v237, val_main_cst_45, val_main_v236, val_main_v230, val_main_call6_v0, val_main_call6_cst]
  rw [mask_at, dS_at M x0 x1 x6 h0 h1 h6, dif_pos (show s.val < 256 from s.isLt), lit_eighth]
  split
  · rw [← EReal.coe_mul]
  · rename_i h
    rw [show M.dS n.val g j t s = 0 from M.dS_unseen n.val h, zero_mul]; rfl

include h0 h1 h6 in
theorem dq_at (n : Fin 16) (t : Fin 128) (g : Fin 2) (j : Fin 8) (d : Fin 64) :
    val_main_v241 (F := Ideal) x0 x1 x6 (ix6 0 n t g j d) = ((M.dq n.val g j t d : ℝ) : EReal) := by
  pointwise [val_main_v241, val_main_v240, val_main_v239]
  simp only [dsc_at M x0 x1 x6 h0 h1 h6, k_at M x0 h0, ← EReal.coe_mul, coe_sum]
  refine congrArg Real.toEReal ?_
  unfold Data.dq
  rw [Finset.sum_mul]
  refine Finset.sum_congr rfl fun s _ => ?_
  by_cases h : n.val = 0 ∧ s.val < 128
  · rw [show M.dS n.val g j t s = 0 from M.dS_unseen n.val (fun e => by have := e.2.2; omega)]; simp
  · rw [if_neg h]; ring

include h0 h1 h6 in
theorem dk_at (n : Fin 16) (s : Fin 256) (g : Fin 2) (d : Fin 64) :
    val_main_v243 (F := Ideal) x0 x1 x6 (ix5 0 n s g d) = ((M.dk n.val g s d : ℝ) : EReal) := by
  pointwise [val_main_v243, val_main_v242, val_main_v239]
  simp only [dsc_at M x0 x1 x6 h0 h1 h6, q_at M x0 h0, ← EReal.coe_mul, coe_sum]
  refine congrArg Real.toEReal ?_
  unfold Data.dk
  rw [Finset.sum_comm]
  exact Finset.sum_congr rfl fun j _ => Finset.sum_congr rfl fun t _ => by ring

include h0 h1 h6 in
theorem dv_at (n : Fin 16) (s : Fin 256) (g : Fin 2) (d : Fin 64) :
    val_main_v215 (F := Ideal) x0 x1 x6 (ix5 0 n s g d) = ((M.dv n.val g s d : ℝ) : EReal) := by
  pointwise [val_main_v215, val_main_v214, val_main_v212]
  simp only [dO_at M x0 x6 h0 h6, prob_at M x0 x1 h0 h1, ← EReal.coe_mul, coe_sum]
  exact congrArg Real.toEReal (Finset.sum_congr rfl fun j _ => Finset.sum_congr rfl fun t _ => mul_comm _ _)

include h0 h1 h6 in
theorem dvs_at (n : Fin 16) (s : Fin 128) (g : Fin 2) (d : Fin 64) :
    val_main_v249 (F := Ideal) x0 x1 x6 (ix5 0 n s g d) = ((both M.dv n.val g s d : ℝ) : EReal) := by
  pointwise [val_main_v249, val_main_v248, val_main_v247, val_main_v245, val_main_v244, val_main_cst_46]
  simp only [dv_at M x0 x1 x6 h0 h1 h6]
  unfold both
  by_cases h : n.val = 15
  · rw [dif_neg (by omega), if_pos h]
    simp only [add_zero]
  · rw [dif_pos (by omega), if_neg h, ← EReal.coe_add]
    exact congrArg Real.toEReal (congrArg (_ + ·) (congrArg (fun n => M.dv n g ⟨s.val, by omega⟩ d) (Nat.add_comm _ _)))

include h0 h1 h6 in
theorem dks_at (n : Fin 16) (s : Fin 128) (g : Fin 2) (d : Fin 64) :
    val_main_v255 (F := Ideal) x0 x1 x6 (ix5 0 n s g d) = ((both M.dk n.val g s d : ℝ) : EReal) := by
  pointwise [val_main_v255, val_main_v254, val_main_v253, val_main_v251, val_main_v250, val_main_cst_47]
  simp only [dk_at M x0 x1 x6 h0 h1 h6]
  unfold both
  by_cases h : n.val = 15
  · rw [dif_neg (by omega), if_pos h]
    simp only [add_zero]
  · rw [dif_pos (by omega), if_neg h, ← EReal.coe_add]
    exact congrArg Real.toEReal (congrArg (_ + ·) (congrArg (fun n => M.dk n g ⟨s.val, by omega⟩ d) (Nat.add_comm _ _)))

include h0 h1 h6 in
theorem dga_at (i : Fin 2048) (k : Fin 1024) : val_main_v210 (F := Ideal) x0 x1 x6 (ix3 0 i k)
    = ((M.dga (i.val / 128) ⟨k.val / 512, by omega⟩ ⟨k.val / 64 % 8, by omega⟩ ⟨i.val % 128, by omega⟩ ⟨k.val % 64, by omega⟩ : ℝ) : EReal) := by
  pointwise [val_main_v210, val_main_call5_v2, val_main_call5_v1, val_main_call5_v0, val_main_v208, val_main_v150, val_main_v149, val_main_v97_1, val_main_call1_v7, val_main_call1_v6, val_main_call1_cst_1, val_main_v4, val_main_v0]
  rw [att_at M x0 x1 h0 h1, sgm_at M x0 h0, h0, h6]
  simp only [← EReal.coe_one, ← EReal.coe_mul, ← EReal.coe_sub, ← EReal.coe_add]
  refine congrArg Real.toEReal ?_
  unfold Data.dga Data.da Data.ga dsilu
  dsimp only
  rw [show 128 * (i.val / 128) + i.val % 128 = i.val by omega, show 512 * (k.val / 512) + 64 * (k.val / 64 % 8) + k.val % 64 = k.val by omega,
    show 1280 + 512 * (k.val / 512) + 64 * (k.val / 64 % 8) + k.val % 64 = 1280 + k.val by omega]
  ring

include h0 h1 h6 in
theorem dsinks_at (k : Fin 128) : val_main_v270 (F := Ideal) x0 x1 x6 (ix2 0 k)
    = ((if h : k.val < 16 then -∑ n : Fin 16, ∑ t : Fin 128, M.dsk n.val ⟨k.val / 8, by omega⟩ ⟨k.val % 8, by omega⟩ t else 0 : ℝ) : EReal) := by
  pointwise [val_main_v270, val_main_v259, val_main_call7_v0, val_main_c_48]
  by_cases h : k.val < 16
  · rw [dif_pos h, dif_pos h]
    pointwise [val_main_v235, val_main_v234, val_main_cst_44]
    rw [heads_sum]
    refine (zero_add (_ : EReal)).trans ?_
    rw [Fintype.sum_prod_type, Fin.sum_univ_one, Fin.sum_univ_one]
    show val_main_v233 (F := Ideal) x0 x1 x6 (ix6 0 0 ⟨k.val / 8, _⟩ ⟨k.val % 8, _⟩ 0 0) = _
    pointwise [val_main_v233, val_main_v232, val_main_cst_43]
    rw [heads_sum]
    refine (zero_add (_ : EReal)).trans ?_
    rw [Fintype.sum_prod_type]
    refine (Finset.sum_congr rfl fun n _ => Finset.sum_congr rfl fun t _ =>
      (show val_main_v231 (F := Ideal) x0 x1 x6 (ix6 0 n ⟨k.val / 8, by omega⟩ ⟨k.val % 8, by omega⟩ t 0)
        = ((-M.dsk n.val ⟨k.val / 8, by omega⟩ ⟨k.val % 8, by omega⟩ t : ℝ) : EReal) from ?_)).trans ?_
    · pointwise [val_main_v231]
      rw [dS_at M x0 x1 x6 h0 h1 h6, dif_neg (by norm_num)]
    · simp only [coe_sum, Finset.sum_neg_distrib]
  · rw [dif_neg h, dif_neg h]
    exact (show (((0#32 : BitVec 32).toInt : ℝ) : EReal) = ((0 : ℝ) : EReal) by simp)

end Cert.Reference3Ideal.Closed
end
-- ==== Proof.MixerRefGate.lean ====
/-
  The reference of the mixer's gradients on real numbers: the spatial gating's gradients.
-/
module

public import proofs.«01_k».proof.Proof.MixerRefForward

@[expose] public section

set_option maxRecDepth 16384
set_option backward.proofsInPublic true
noncomputable section
namespace Cert.Reference3Ideal.Closed
open Idealize.ShloMosaic Idealize.ShloMosaic.TcCoe Idealize.SL.Sem Idealize.ShloMosaic.Pointwise Cert.Reals Cert.MixerMath
open Cert.MixerModel Cert.MixerModel.Data Cert.MixerFolds Cert.Reference3Ideal Cert.Reference3Ideal.Read

theorem sum_cen (x : Fin 1024 → ℝ) : ∑ k, cen x k = 0 := by
  unfold cen mean
  rw [Finset.sum_sub_distrib, Finset.sum_const, Finset.card_univ, Fintype.card_fin]
  simp only [nsmul_eq_mul]
  push_cast
  ring

theorem rs_vari (x : Fin 1024 → ℝ) : rs x / vari x = rs x * rs x * rs x := by
  have h := vari_pos x
  have e : Real.sqrt (vari x) * Real.sqrt (vari x) = vari x := Real.mul_self_sqrt h.le
  have p : Real.sqrt (vari x) ≠ 0 := (Real.sqrt_pos.mpr h).ne'
  have : rs x * rs x = (vari x)⁻¹ := by unfold rs; rw [← mul_inv, e]
  rw [div_eq_mul_inv, mul_assoc, this]

/-- The gradient of the normalisation, as the chain rule writes it: through the row, the variance and the mean. -/
theorem dhat_plain (x D : Fin 1024 → ℝ) (k : Fin 1024) (c : ℝ) (hc : c = ((∑ l, cen x l * D l) * (-(1 / 2) * (rs x / vari x))) / 1024) :
    D k * rs x + c * (2 * cen x k) + ((∑ l, -(D l * rs x)) + (∑ l, -(c * (2 * cen x l)))) / 1024 = dhat x D k := by
  have e1 : (∑ l, -(c * (2 * cen x l))) = 0 := by
    rw [Finset.sum_neg_distrib, ← Finset.mul_sum, ← Finset.mul_sum, sum_cen]; simp
  have e2 : (∑ l, -(D l * rs x)) = -((∑ l, D l) * rs x) := by rw [Finset.sum_neg_distrib, ← Finset.sum_mul]
  have e3 : (∑ l, D l * hat x l) = (∑ l, cen x l * D l) * rs x := by
    rw [Finset.sum_mul]; exact Finset.sum_congr rfl fun l _ => by unfold hat; ring
  unfold dhat
  rw [e1, e2, e3, hc, rs_vari]
  unfold hat
  ring

variable (M : Data) (x0 : FVec Ideal S2048x5376 .f32) (x2 x3 : FVec Ideal S1x1024 .f32)
  (x4 : FVec Ideal S1x8x128x128 .f32) (x5 : FVec Ideal S1x8x128 .f32) (x6 : FVec Ideal S2048x2048 .f32)
  (h0 : ∀ (i : Fin 2048) (k : Fin 5376), x0 (ix2 i k) = ((M.Z i.val k.val : ℝ) : EReal))
  (h2 : ∀ k : Fin 1024, x2 (ix2 0 k) = ((M.G k : ℝ) : EReal))
  (h3 : ∀ k : Fin 1024, x3 (ix2 0 k) = ((M.B k : ℝ) : EReal))
  (h4 : ∀ (p : Fin 8) (t s : Fin 128), x4 (ix4 0 p t s) = ((M.W p t s : ℝ) : EReal))
  (h5 : ∀ (p : Fin 8) (t : Fin 128), x5 (ix3 0 p t) = ((M.b p t : ℝ) : EReal))
  (h6 : ∀ i k : Fin 2048, x6 (ix2 i k) = ((M.DA i.val k.val : ℝ) : EReal))

include h6 in
theorem du_at (i : Fin 2048) (k : Fin 1024) : val_main_v151 (F := Ideal) x6 (ix3 0 i k) = ((M.DA i.val (1024 + k.val) : ℝ) : EReal) := by
  pointwise [val_main_v151, val_main_v149]
  rw [h6]

include h0 h6 in
theorem dsilu_at (i : Fin 2048) (k : Fin 1024) : val_main_v153 (F := Ideal) x0 x6 (ix3 0 i k)
    = ((M.DA i.val (1024 + k.val) * (M.Z i.val (4352 + k.val) * sgm (M.Z i.val (4352 + k.val))) : ℝ) : EReal) := by
  pointwise [val_main_v153]
  rw [du_at M x6 h6, silu2_at M x0 h0, ← EReal.coe_mul]

include h0 h6 in
theorem dm_at (n : Fin 16) (t : Fin 128) (p : Fin 8) (e : Fin 128) :
    val_main_v157 (F := Ideal) x0 x6 (ix5 0 n t p e) = ((M.dm n.val p t e : ℝ) : EReal) := by
  pointwise [val_main_v157, val_main_v155]
  rw [dsilu_at M x0 x6 h0 h6, u_at M x0 h0, ← EReal.coe_mul]
  refine congrArg Real.toEReal ((mul_comm _ _).trans ?_)
  unfold Data.dm Data.du Data.gs Data.u
  dsimp only
  rw [show n.val * 128 + t.val = 128 * n.val + t.val by omega, show 1024 + (p.val * 128 + e.val) = 1024 + 128 * p.val + e.val by omega,
    show 4352 + (p.val * 128 + e.val) = 4352 + 128 * p.val + e.val by omega, show 2304 + (p.val * 128 + e.val) = 2304 + 128 * p.val + e.val by omega]

include h0 h2 h3 h4 h5 h6 in
theorem dU_at (i : Fin 2048) (k : Fin 1024) : val_main_v156 (F := Ideal) x0 x2 x3 x4 x5 x6 (ix3 0 i k)
    = ((M.dU (i.val / 128) ⟨k.val / 128, by omega⟩ ⟨i.val % 128, by omega⟩ ⟨k.val % 128, by omega⟩ : ℝ) : EReal) := by
  pointwise [val_main_v156]
  rw [dsilu_at M x0 x6 h0 h6, mix_at M x0 x2 x3 x4 x5 h0 h2 h3 h4 h5, ← EReal.coe_mul]
  refine congrArg Real.toEReal ?_
  unfold Data.dU Data.du Data.gs
  dsimp only
  rw [show 128 * (i.val / 128) + i.val % 128 = i.val by omega, show 1024 + 128 * (k.val / 128) + k.val % 128 = 1024 + k.val by omega,
    show 4352 + 128 * (k.val / 128) + k.val % 128 = 4352 + k.val by omega]

include h0 h2 h3 h4 h5 h6 in
theorem dGs_at (i : Fin 2048) (k : Fin 1024) : val_main_v154 (F := Ideal) x0 x2 x3 x4 x5 x6 (ix3 0 i k)
    = ((M.dGs (i.val / 128) ⟨k.val / 128, by omega⟩ ⟨i.val % 128, by omega⟩ ⟨k.val % 128, by omega⟩ : ℝ) : EReal) := by
  pointwise [val_main_v154, val_main_call4_v2, val_main_call4_v1, val_main_call4_v0, val_main_v152, val_main_v146_1, val_main_call3_v7, val_main_call3_v6, val_main_call3_cst_1, val_main_v7, val_main_v0]
  rw [umix_at M x0 x2 x3 x4 x5 h0 h2 h3 h4 h5, du_at M x6 h6, sgm2_at M x0 h0, h0]
  simp only [← EReal.coe_one, ← EReal.coe_mul, ← EReal.coe_sub, ← EReal.coe_add]
  refine congrArg Real.toEReal ?_
  unfold Data.dGs Data.du Data.gs Data.u dsilu
  dsimp only
  rw [show 128 * (i.val / 128) + i.val % 128 = i.val by omega, show 1024 + 128 * (k.val / 128) + k.val % 128 = 1024 + k.val by omega,
    show 4352 + 128 * (k.val / 128) + k.val % 128 = 4352 + k.val by omega, show 2304 + 128 * (k.val / 128) + k.val % 128 = 2304 + k.val by omega]
  ring

include h0 h6 in
theorem db_at (p : Fin 8) (t : Fin 128) : val_main_v272 (F := Ideal) x0 x6 (ix2 p t) = ((∑ n : Fin 16, M.dB n.val p t : ℝ) : EReal) := by
  pointwise [val_main_v272, val_main_v204, val_main_v161, val_main_v160, val_main_cst_28]
  rw [unit014_sum, Fin.sum_univ_one]
  refine (zero_add (_ : EReal)).trans ?_
  show val_main_v159 (F := Ideal) x0 x6 (ix5 0 0 t p 0) = _
  pointwise [val_main_v159, val_main_v158, val_main_cst_27]
  rw [groups_sum]
  refine (zero_add (_ : EReal)).trans ?_
  rw [Fintype.sum_prod_type]
  refine (Finset.sum_congr rfl fun n _ => Finset.sum_congr rfl fun e _ => dm_at M x0 x6 h0 h6 n t p e).trans ?_
  simp only [coe_sum]
  rfl

include h0 h2 h3 h6 in
theorem dw_at (p : Fin 8) (t s : Fin 128) : val_main_v271 (F := Ideal) x0 x2 x3 x6 (ix3 p t s)
    = ((∑ n : Fin 16, M.dW n.val p t s : ℝ) : EReal) := by
  have e : val_main_v163 (F := Ideal) x0 x2 x3 x6 (ix3 p t s) = ((∑ n : Fin 16, ∑ e : Fin 128, M.dm n.val p t e * M.vn n.val s ⟨128 * p.val + e.val, by omega⟩ : ℝ) : EReal) := by
    pointwise [val_main_v163]
    rw [dot_places]
    refine (zero_add (_ : EReal)).trans ?_
    rw [Fintype.sum_prod_type]
    refine (Finset.sum_congr rfl fun n _ => Finset.sum_congr rfl fun e _ => (congrArg₂ (fun a b : EReal => a * b)
      (show val_main_v162 (F := Ideal) x0 x6 (ix5 p 0 n e t) = ((M.dm n.val p t e : ℝ) : EReal) from ?_)
      (vns_at M x0 x2 x3 h0 h2 h3 n s p e)).trans (EReal.coe_mul _ _).symm).trans ?_
    · pointwise [val_main_v162]
      exact dm_at M x0 x6 h0 h6 n t p e
    · simp only [coe_sum]
  have l : val_main_v166 (F := Ideal) (ix3 p t s) = ((if s.val ≤ t.val then 1 else 0 : ℝ) : EReal) := by
    have := low_at p t s
    pointwise [val_main_v136] at this
    pointwise [val_main_v166]
    exact this
  pointwise [val_main_v271, val_main_v205, val_main_v167]
  rw [e, l, ← EReal.coe_mul]
  refine congrArg Real.toEReal ?_
  unfold Data.dW
  split <;> simp

include h0 h4 h6 in
theorem dvn_at (i : Fin 2048) (k : Fin 1024) : val_main_v168 (F := Ideal) x0 x4 x6 (ix3 0 i k)
    = ((M.dvn (i.val / 128) ⟨i.val % 128, by omega⟩ k : ℝ) : EReal) := by
  pointwise [val_main_v168, val_main_v165, val_main_v164, val_main_v162]
  simp only [dm_at M x0 x6 h0 h6, tril_at M x4 h4, ← EReal.coe_mul, coe_sum]
  exact congrArg Real.toEReal (Finset.sum_congr rfl fun t _ => mul_comm _ _)

/-- A sum over all rows, block by block. -/
theorem sum_blocks (f : Fin 2048 → ℝ) (F : ℕ → Fin 128 → ℝ) (h : ∀ i, f i = F (i.val / 128) ⟨i.val % 128, Nat.mod_lt _ (by norm_num)⟩) :
    ∑ i, f i = ∑ n : Fin 16, ∑ t : Fin 128, F n.val t := by
  rw [← Fin.sum_mul_add_fin 16 128 f (by decide)]
  refine Finset.sum_congr rfl fun n _ => Finset.sum_congr rfl fun t _ => (h _).trans ?_
  dsimp only
  rw [show (n.val * 128 + t.val) / 128 = n.val by omega]
  exact congrArg (F n.val) (Fin.ext (show (n.val * 128 + t.val) % 128 = t.val by omega))

include h0 h4 h6 in
theorem dlnb_at (k : Fin 1024) : val_main_v206 (F := Ideal) x0 x4 x6 (ix2 0 k) = ((∑ n : Fin 16, M.dBn n.val k : ℝ) : EReal) := by
  pointwise [val_main_v206, val_main_v171, val_main_cst_30]
  rw [hostReduceAdd_unit_front, Fin.sum_univ_one]
  refine (zero_add (_ : EReal)).trans ?_
  show val_main_v170 (F := Ideal) x0 x4 x6 (ix3 0 0 k) = _
  pointwise [val_main_v170, val_main_v169, val_main_cst_29]
  simp only [dvn_at M x0 x4 x6 h0 h4 h6, coe_sum]
  exact congrArg Real.toEReal (sum_blocks _ (fun n t => M.dvn n t k) fun i => rfl)

include h0 h4 h6 in
theorem dlng_at (k : Fin 1024) : val_main_v207 (F := Ideal) x0 x4 x6 (ix2 0 k) = ((∑ n : Fin 16, M.dG n.val k : ℝ) : EReal) := by
  pointwise [val_main_v207, val_main_v177, val_main_cst_32]
  rw [hostReduceAdd_unit_front, Fin.sum_univ_one]
  refine (zero_add (_ : EReal)).trans ?_
  show val_main_v174 (F := Ideal) x0 x4 x6 (ix3 0 0 k) = _
  pointwise [val_main_v174, val_main_v173, val_main_v172, val_main_cst_31]
  simp only [dvn_at M x0 x4 x6 h0 h4 h6, hat_at M x0 h0, ← EReal.coe_mul, coe_sum]
  exact congrArg Real.toEReal (sum_blocks _ (fun n t => M.dvn n t k * hat (M.v n t) k) fun i => mul_comm _ _)

include h0 h2 h4 h6 in
theorem D_at (i : Fin 2048) (k : Fin 1024) : val_main_v176 (F := Ideal) x0 x2 x4 x6 (ix3 0 i k) = ((M.dvn (i.val / 128) ⟨i.val % 128, by omega⟩ k * M.G k : ℝ) : EReal) := by
  pointwise [val_main_v176, val_main_v175, val_main_v126, val_main_v99]
  rw [dvn_at M x0 x4 x6 h0 h4 h6, h2, ← EReal.coe_mul]

include h0 h2 h4 h6 in
theorem Dr_at (i : Fin 2048) (k : Fin 1024) : val_main_v182 (F := Ideal) x0 x2 x4 x6 (ix3 0 i k)
    = ((M.dvn (i.val / 128) ⟨i.val % 128, by omega⟩ k * M.G k * rs (M.v (i.val / 128) ⟨i.val % 128, by omega⟩) : ℝ) : EReal) := by
  pointwise [val_main_v182, val_main_v181]
  rw [D_at M x0 x2 x4 x6 h0 h2 h4 h6, rs_at M x0 h0, ← EReal.coe_mul]

/-- The variance's part of the normalisation's gradient. -/
def through (M : Data) (n : ℕ) (t : Fin 128) : ℝ :=
  ((∑ l, cen (M.v n t) l * (M.dvn n t l * M.G l)) * (-(1 / 2) * (rs (M.v n t) / vari (M.v n t)))) / 1024

include h0 h2 h4 h6 in
theorem through_at (i : Fin 2048) : val_main_v189 (F := Ideal) x0 x2 x4 x6 (ix1 i) = ((through M (i.val / 128) ⟨i.val % 128, by omega⟩ : ℝ) : EReal) := by
  pointwise [val_main_v189, val_main_cst_36]
  rw [hostReduceAdd_unit_ends, Fin.sum_univ_one]
  refine (zero_add (_ : EReal)).trans ?_
  show val_main_v188 (F := Ideal) x0 x2 x4 x6 (ix3 0 i 0) = _
  pointwise [val_main_v188, val_main_v187, val_main_v183, val_main_v180, val_main_v179, val_main_v178, val_main_v123, val_main_v122, val_main_v121, val_main_cst_33, val_main_cst_35, val_main_cst_25]
  rw [rs_at M x0 h0, vari_at M x0 h0, coe_div _ (vari_pos _).ne']
  simp only [D_at M x0 x2 x4 x6 h0 h2 h4 h6, cen2_at M x0 h0, coe_sum, lit_neg_half, lit_1024, ← EReal.coe_mul, coe_div _ (show (1024 : ℝ) ≠ 0 by norm_num)]
  rfl

include h0 h2 h4 h6 in
theorem var_at (i : Fin 2048) (k : Fin 1024) : val_main_v192 (F := Ideal) x0 x2 x4 x6 (ix3 0 i k)
    = ((through M (i.val / 128) ⟨i.val % 128, by omega⟩ * (2 * cen (M.v (i.val / 128) ⟨i.val % 128, by omega⟩) k) : ℝ) : EReal) := by
  pointwise [val_main_v192, val_main_v191, val_main_v190, val_main_v111, val_main_v110, val_main_cst_21]
  rw [through_at M x0 x2 x4 x6 h0 h2 h4 h6, cen_at M x0 h0, lit_two, ← EReal.coe_mul, ← EReal.coe_mul]

include h0 h2 h4 h6 in
theorem shift_at (i : Fin 2048) : val_main_v200 (F := Ideal) x0 x2 x4 x6 (ix1 i)
    = ((((∑ l, -(M.dvn (i.val / 128) ⟨i.val % 128, by omega⟩ l * M.G l * rs (M.v (i.val / 128) ⟨i.val % 128, by omega⟩))) + (∑ l, -(through M (i.val / 128) ⟨i.val % 128, by omega⟩ * (2 * cen (M.v (i.val / 128) ⟨i.val % 128, by omega⟩) l)))) / 1024 : ℝ) : EReal) := by
  pointwise [val_main_v200, val_main_cst_39]
  rw [hostReduceAdd_unit_ends, Fin.sum_univ_one]
  refine (zero_add (_ : EReal)).trans ?_
  show val_main_v199 (F := Ideal) x0 x2 x4 x6 (ix3 0 i 0) = _
  pointwise [val_main_v199, val_main_v198, val_main_v197, val_main_v195, val_main_v194, val_main_v193, val_main_v186, val_main_v185, val_main_v184, val_main_cst_34, val_main_cst_37, val_main_cst_38]
  simp only [Dr_at M x0 x2 x4 x6 h0 h2 h4 h6, var_at M x0 x2 x4 x6 h0 h2 h4 h6, ← EReal.coe_neg, coe_sum, lit_1024, ← EReal.coe_add, coe_div _ (show (1024 : ℝ) ≠ 0 by norm_num)]

include h0 h2 h4 h6 in
theorem dV_at (i : Fin 2048) (k : Fin 1024) : val_main_v203 (F := Ideal) x0 x2 x4 x6 (ix3 0 i k) = ((M.dV (i.val / 128) ⟨i.val % 128, by omega⟩ k : ℝ) : EReal) := by
  pointwise [val_main_v203, val_main_v202, val_main_v201, val_main_v196]
  rw [Dr_at M x0 x2 x4 x6 h0 h2 h4 h6, var_at M x0 x2 x4 x6 h0 h2 h4 h6, shift_at M x0 x2 x4 x6 h0 h2 h4 h6, ← EReal.coe_add, ← EReal.coe_add]
  exact congrArg Real.toEReal (dhat_plain (M.v (i.val / 128) ⟨i.val % 128, by omega⟩) (fun k => M.dvn (i.val / 128) ⟨i.val % 128, by omega⟩ k * M.G k) k _ rfl)

end Cert.Reference3Ideal.Closed
end
-- ==== Proof.MixerReference.lean ====
/-
  The reference of the mixer's gradients on real numbers: the gradients of the projected rows and of the output weight.
-/
module

public import proofs.«01_k».proof.Proof.MixerRefAttn
public import proofs.«01_k».proof.Proof.MixerRefGate

@[expose] public section

set_option maxRecDepth 16384
set_option backward.proofsInPublic true
noncomputable section
namespace Cert.Reference3Ideal.Closed
open Idealize.ShloMosaic Idealize.ShloMosaic.TcCoe Idealize.SL.Sem Idealize.ShloMosaic.Pointwise Cert.Reals Cert.MixerMath
open Cert.MixerModel Cert.MixerModel.Data Cert.MixerFolds Cert.Reference3Ideal Cert.Reference3Ideal.Read

variable (M : Data) (x0 : FVec Ideal S2048x5376 .f32) (x1 : FVec Ideal S1x16 .f32) (x2 x3 : FVec Ideal S1x1024 .f32)
  (x4 : FVec Ideal S1x8x128x128 .f32) (x5 : FVec Ideal S1x8x128 .f32) (x6 : FVec Ideal S2048x2048 .f32) (x7 : FVec Ideal S2048x2048 .bf16)
  (h0 : ∀ (i : Fin 2048) (k : Fin 5376), x0 (ix2 i k) = ((M.Z i.val k.val : ℝ) : EReal))
  (h1 : ∀ h : Fin 16, x1 (ix2 0 h) = ((M.sk h.val : ℝ) : EReal))
  (h2 : ∀ k : Fin 1024, x2 (ix2 0 k) = ((M.G k : ℝ) : EReal))
  (h3 : ∀ k : Fin 1024, x3 (ix2 0 k) = ((M.B k : ℝ) : EReal))
  (h4 : ∀ (p : Fin 8) (t s : Fin 128), x4 (ix4 0 p t s) = ((M.W p t s : ℝ) : EReal))
  (h5 : ∀ (p : Fin 8) (t : Fin 128), x5 (ix3 0 p t) = ((M.b p t : ℝ) : EReal))
  (h6 : ∀ i k : Fin 2048, x6 (ix2 i k) = ((M.DA i.val k.val : ℝ) : EReal))

include h0 h1 h6 in
theorem dq_seg (i : Fin 2048) (k : Fin 1024) : val_main_v262 (F := Ideal) x0 x1 x6 (ix3 0 i k) = ((M.dz (i.val / 128) ⟨i.val % 128, by omega⟩ (0 + k.val) : ℝ) : EReal) := by
  pointwise [val_main_v262, val_main_v258]
  rw [M.dz_q (i.val / 128) ⟨i.val % 128, by omega⟩ ⟨k.val / 64 / 8, by omega⟩ ⟨k.val / 64 % 8, by omega⟩ ⟨k.val % 64, by omega⟩ _ (by dsimp only; omega)]
  exact dq_at M x0 x1 x6 h0 h1 h6 _ _ _ _ _

include h0 h1 h6 in
theorem dk_seg (i : Fin 2048) (k : Fin 128) : val_main_v261 (F := Ideal) x0 x1 x6 (ix3 0 i k) = ((M.dz (i.val / 128) ⟨i.val % 128, by omega⟩ (1024 + k.val) : ℝ) : EReal) := by
  pointwise [val_main_v261, val_main_v257]
  rw [M.dz_k (i.val / 128) ⟨i.val % 128, by omega⟩ ⟨k.val / 64, by omega⟩ ⟨k.val % 64, by omega⟩ _ (by dsimp only; omega)]
  exact dks_at M x0 x1 x6 h0 h1 h6 _ _ _ _

include h0 h1 h6 in
theorem dv_seg (i : Fin 2048) (k : Fin 128) : val_main_v260 (F := Ideal) x0 x1 x6 (ix3 0 i k) = ((M.dz (i.val / 128) ⟨i.val % 128, by omega⟩ (1152 + k.val) : ℝ) : EReal) := by
  pointwise [val_main_v260, val_main_v256]
  rw [M.dz_v (i.val / 128) ⟨i.val % 128, by omega⟩ ⟨k.val / 64, by omega⟩ ⟨k.val % 64, by omega⟩ _ (by dsimp only; omega)]
  exact dvs_at M x0 x1 x6 h0 h1 h6 _ _ _ _

include h0 h1 h6 in
theorem dga_seg (i : Fin 2048) (k : Fin 1024) : val_main_v210 (F := Ideal) x0 x1 x6 (ix3 0 i k) = ((M.dz (i.val / 128) ⟨i.val % 128, by omega⟩ (1280 + k.val) : ℝ) : EReal) := by
  rw [M.dz_ga (i.val / 128) ⟨i.val % 128, by omega⟩ ⟨k.val / 512, by omega⟩ ⟨k.val / 64 % 8, by omega⟩ ⟨k.val % 64, by omega⟩ _ (by dsimp only; omega)]
  exact dga_at M x0 x1 x6 h0 h1 h6 i k

include h0 h2 h3 h4 h5 h6 in
theorem du_seg (i : Fin 2048) (k : Fin 1024) : val_main_v156 (F := Ideal) x0 x2 x3 x4 x5 x6 (ix3 0 i k) = ((M.dz (i.val / 128) ⟨i.val % 128, by omega⟩ (2304 + k.val) : ℝ) : EReal) := by
  rw [M.dz_u (i.val / 128) ⟨i.val % 128, by omega⟩ ⟨k.val / 128, by omega⟩ ⟨k.val % 128, by omega⟩ _ (by dsimp only; omega)]
  exact dU_at M x0 x2 x3 x4 x5 x6 h0 h2 h3 h4 h5 h6 i k

include h0 h2 h4 h6 in
theorem dvs_seg (i : Fin 2048) (k : Fin 1024) : val_main_v203 (F := Ideal) x0 x2 x4 x6 (ix3 0 i k) = ((M.dz (i.val / 128) ⟨i.val % 128, by omega⟩ (3328 + k.val) : ℝ) : EReal) := by
  rw [M.dz_vs (i.val / 128) ⟨i.val % 128, by omega⟩ k _ rfl]
  exact dV_at M x0 x2 x4 x6 h0 h2 h4 h6 i k

include h0 h2 h3 h4 h5 h6 in
theorem dgs_seg (i : Fin 2048) (k : Fin 1024) : val_main_v154 (F := Ideal) x0 x2 x3 x4 x5 x6 (ix3 0 i k) = ((M.dz (i.val / 128) ⟨i.val % 128, by omega⟩ (4352 + k.val) : ℝ) : EReal) := by
  rw [M.dz_gs (i.val / 128) ⟨i.val % 128, by omega⟩ ⟨k.val / 128, by omega⟩ ⟨k.val % 128, by omega⟩ _ (by dsimp only; omega)]
  exact dGs_at M x0 x2 x3 x4 x5 x6 h0 h2 h3 h4 h5 h6 i k

set_option maxHeartbeats 4000000 in
include h0 h1 h2 h3 h4 h5 h6 in
theorem dz_at (i : Fin 2048) (k : Fin 5376) : val_main_v269 (F := Ideal) x0 x1 x2 x3 x4 x5 x6 (ix2 i k) = ((M.dz (i.val / 128) ⟨i.val % 128, by omega⟩ k.val : ℝ) : EReal) := by
  pointwise [val_main_v269, val_main_v268, val_main_v263]
  simp only [dq_seg M x0 x1 x6 h0 h1 h6, dk_seg M x0 x1 x6 h0 h1 h6, dv_seg M x0 x1 x6 h0 h1 h6, dga_seg M x0 x1 x6 h0 h1 h6,
    du_seg M x0 x2 x3 x4 x5 x6 h0 h2 h3 h4 h5 h6, dvs_seg M x0 x2 x4 x6 h0 h2 h4 h6, dgs_seg M x0 x2 x3 x4 x5 x6 h0 h2 h3 h4 h5 h6]
  split_ifs
  all_goals exact congrArg (fun l => ((M.dz (i.val / 128) ⟨i.val % 128, by omega⟩ l : ℝ) : EReal)) (show (_ : ℕ) = k.val by omega)

include h0 h1 h2 h3 h4 h5 in
theorem dwout_at (k l : Fin 2048) :
    val_main_v273 (F := Ideal) x0 x1 x2 x3 x4 x5 x7 (ix2 k l) = ∑ i : Fin 2048, ((M.A (i.val / 128) ⟨i.val % 128, by omega⟩ k : ℝ) : EReal) * x7 (ix2 i l) := by
  pointwise [val_main_v273, val_main_v267, val_main_v266, val_main_v265]
  simp only [a_at M x0 x1 x2 x3 x4 x5 h0 h1 h2 h3 h4 h5]

end Cert.Reference3Ideal.Closed
end
-- ==== Proof.Mixer.lean ====
module

public import proofs.«01_k».proof.Defs
public import proofs.«01_k».proof.Proof.MixerKernel
public import proofs.«01_k».proof.Proof.MixerReference
public import proofs.«01_k».proof.Proof.Gen.Reference3Ideal.Run
public import proofs.«01_k».proof.Proof.Gen.Pre_finite_inputs3
public import Idealize.ShloMosaic.Lib.Claim

@[expose] public section

set_option maxRecDepth 16384
set_option maxHeartbeats 4000000
set_option backward.proofsInPublic true
noncomputable section
namespace Cert.Mixer
open Idealize.ShloMosaic Idealize.ShloMosaic.TcCoe Idealize.SL.Sem Idealize.ShloMosaic.Pointwise Cert.Reals Cert.MixerModel

/-- A table of numbers, continued past its ends. -/
theorem whole {a b : ℕ} (r : Shape.Idx ⟨2, ![a, b]⟩ → ℝ) : ∃ f : ℕ → ℕ → ℝ, ∀ (i : Fin a) (k : Fin b), f i.val k.val = r (ix2 i k) :=
  ⟨fun i k => if h : i < a ∧ k < b then r (ix2 ⟨i, h.1⟩ ⟨k, h.2⟩) else 0, fun i k => dif_pos ⟨i.isLt, k.isLt⟩⟩

/-- The kernel's seven arrays are the reference's seven results, on the arguments the two share. -/
theorem results (m : (ℓ : Loc Kernel3Ideal.nD Kernel3Ideal.τ Kernel3Ideal.sig) → Buf (Elt Ideal) ℓ)
    (hpre : Pre_Kernel3Ideal_finite_inputs3 m) (c : Dev Kernel3Ideal.nD)
    (x0 : FVec Ideal Reference3Ideal.S2048x5376 .f32)
    (x1 : FVec Ideal Reference3Ideal.S1x16 .f32)
    (x2 : FVec Ideal Reference3Ideal.S1x1024 .f32)
    (x3 : FVec Ideal Reference3Ideal.S1x1024 .f32)
    (x4 : FVec Ideal Reference3Ideal.S1x8x128x128 .f32)
    (x5 : FVec Ideal Reference3Ideal.S1x8x128 .f32)
    (x6 : FVec Ideal Reference3Ideal.S2048x2048 .f32)
    (x7 : FVec Ideal Reference3Ideal.S2048x2048 .bf16)
    (e0 : m ((c : Thread Kernel3Ideal.nD Kernel3Ideal.τ).loc Kernel3Ideal.main_arg0) = x0)
    (e1 : m ((c : Thread Kernel3Ideal.nD Kernel3Ideal.τ).loc Kernel3Ideal.main_arg1) = x1)
    (e2 : m ((c : Thread Kernel3Ideal.nD Kernel3Ideal.τ).loc Kernel3Ideal.main_arg2) = x2)
    (e3 : m ((c : Thread Kernel3Ideal.nD Kernel3Ideal.τ).loc Kernel3Ideal.main_arg3) = x3)
    (e4 : m ((c : Thread Kernel3Ideal.nD Kernel3Ideal.τ).loc Kernel3Ideal.main_arg4) = x4)
    (e5 : m ((c : Thread Kernel3Ideal.nD Kernel3Ideal.τ).loc Kernel3Ideal.main_arg5) = x5)
    (e6 : m ((c : Thread Kernel3Ideal.nD Kernel3Ideal.τ).loc Kernel3Ideal.main_arg6) = x6)
    (e7 : m ((c : Thread Kernel3Ideal.nD Kernel3Ideal.τ).loc Kernel3Ideal.main_arg7) = x7) :
    Reference3Ideal.Read.val_main_v269 (F := Ideal) x0 x1 x2 x3 x4 x5 x6 = (Kernel3Ideal.Gen.dats m 0 c).arrAt 12 Kernel3Ideal.cfg0.N
    ∧ Reference3Ideal.Read.val_main_v270 (F := Ideal) x0 x1 x6 = (Kernel3Ideal.Gen.dats m 0 c).arrAt 13 Kernel3Ideal.cfg0.N
    ∧ Reference3Ideal.Read.val_main_v271 (F := Ideal) x0 x2 x3 x6 = (Kernel3Ideal.Gen.dats m 0 c).arrAt 14 Kernel3Ideal.cfg0.N
    ∧ Reference3Ideal.Read.val_main_v272 (F := Ideal) x0 x6 = (Kernel3Ideal.Gen.dats m 0 c).arrAt 15 Kernel3Ideal.cfg0.N
    ∧ Reference3Ideal.Read.val_main_v207 (F := Ideal) x0 x4 x6 = (Kernel3Ideal.Gen.dats m 0 c).arrAt 16 Kernel3Ideal.cfg0.N
    ∧ Reference3Ideal.Read.val_main_v206 (F := Ideal) x0 x4 x6 = (Kernel3Ideal.Gen.dats m 0 c).arrAt 17 Kernel3Ideal.cfg0.N
    ∧ Reference3Ideal.Read.val_main_v273 (F := Ideal) x0 x1 x2 x3 x4 x5 x7 = (Kernel3Ideal.Gen.dats m 0 c).arrAt 18 Kernel3Ideal.cfg0.N := by
  obtain ⟨p0, p1, p2, p3, p4, p5, p6⟩ := hpre c
  obtain ⟨r0, q0⟩ := lift_of_olt _ _ lit_inf p0
  obtain ⟨r1, q1⟩ := lift_of_olt _ _ lit_inf p1
  obtain ⟨r2, q2⟩ := lift_of_olt _ _ lit_inf p2
  obtain ⟨r3, q3⟩ := lift_of_olt _ _ lit_inf p3
  obtain ⟨r4, q4⟩ := lift_of_olt _ _ lit_inf p4
  obtain ⟨r5, q5⟩ := lift_of_olt _ _ lit_inf p5
  obtain ⟨r6, q6⟩ := lift_of_olt _ _ lit_inf p6
  have a0 := e0.symm.trans q0
  have a1 := e1.symm.trans q1
  have a2 := e2.symm.trans q2
  have a3 := e3.symm.trans q3
  have a4 := e4.symm.trans q4
  have a5 := e5.symm.trans q5
  have a6 := e6.symm.trans q6
  obtain ⟨Z, hZ⟩ := whole r0
  obtain ⟨DA, hDA⟩ := whole r6
  obtain ⟨sk, hsk⟩ : ∃ f : ℕ → ℝ, ∀ h : Fin 16, f h.val = r1 (ix2 0 h) :=
    ⟨fun a => if h : a < 16 then r1 (ix2 0 ⟨a, h⟩) else 0, fun h => dif_pos h.isLt⟩
  let M : Data :=
    { Z := Z
      DA := DA
      sk := sk
      G := fun k => r2 (ix2 0 k)
      B := fun k => r3 (ix2 0 k)
      W := fun p t s => r4 (ix4 0 p t s)
      b := fun p t => r5 (ix3 0 p t) }
  have h0 : ∀ (i : Fin 2048) (k : Fin 5376), x0 (ix2 i k) = ((M.Z i.val k.val : ℝ) : EReal) :=
    fun i k => (congrFun a0 _).trans (congrArg Real.toEReal (hZ i k).symm)
  have h1 : ∀ h : Fin 16, x1 (ix2 0 h) = ((M.sk h.val : ℝ) : EReal) :=
    fun h => (congrFun a1 _).trans (congrArg Real.toEReal (hsk h).symm)
  have h2 : ∀ k : Fin 1024, x2 (ix2 0 k) = ((M.G k : ℝ) : EReal) := fun k => congrFun a2 _
  have h3 : ∀ k : Fin 1024, x3 (ix2 0 k) = ((M.B k : ℝ) : EReal) := fun k => congrFun a3 _
  have h4 : ∀ (p : Fin 8) (t s : Fin 128), x4 (ix4 0 p t s) = ((M.W p t s : ℝ) : EReal) := fun p t s => congrFun a4 _
  have h5 : ∀ (p : Fin 8) (t : Fin 128), x5 (ix3 0 p t) = ((M.b p t : ℝ) : EReal) := fun p t => congrFun a5 _
  have h6 : ∀ i k : Fin 2048, x6 (ix2 i k) = ((M.DA i.val k.val : ℝ) : EReal) :=
    fun i k => (congrFun a6 _).trans (congrArg Real.toEReal (hDA i k).symm)
  have H : Kernel3Ideal.Reads.Args m c M :=
    ⟨fun i k => (congrFun e0 _).trans (h0 i k), fun h => (congrFun e1 _).trans (h1 h), fun k => (congrFun e2 _).trans (h2 k),
      fun k => (congrFun e3 _).trans (h3 k), fun p t s => (congrFun e4 _).trans (h4 p t s), fun p t => (congrFun e5 _).trans (h5 p t),
      fun i k => (congrFun e6 _).trans (h6 i k)⟩
  clear_value M
  refine ⟨?_, ?_, ?_, ?_, ?_, ?_, ?_⟩
  · rw [Kernel3Ideal.Steps.dz_array H]
    funext i
    idx_vars i
    exact Reference3Ideal.Closed.dz_at M x0 x1 x2 x3 x4 x5 x6 h0 h1 h2 h3 h4 h5 h6 i0 i1
  · rw [Kernel3Ideal.Steps.dsinks_array H]
    funext i
    idx_vars i
    obtain rfl : i0 = 0 := Subsingleton.elim _ _
    refine (Reference3Ideal.Closed.dsinks_at M x0 x1 x6 h0 h1 h6 i1).trans ?_
    by_cases h : i1.val < 16
    · rw [dif_pos h]
      refine Eq.trans ?_ (dif_pos h).symm
      rfl
    · rw [dif_neg h]
      refine Eq.trans ?_ (dif_neg h).symm
      rfl
  · rw [Kernel3Ideal.Steps.dw_array H]
    funext i
    idx_vars i
    exact Reference3Ideal.Closed.dw_at M x0 x2 x3 x6 h0 h2 h3 h6 i0 i1 i2
  · rw [Kernel3Ideal.Steps.db_array H]
    funext i
    idx_vars i
    exact Reference3Ideal.Closed.db_at M x0 x6 h0 h6 i0 i1
  · rw [Kernel3Ideal.Steps.dlng_array H]
    funext i
    idx_vars i
    obtain rfl : i0 = 0 := Subsingleton.elim _ _
    exact Reference3Ideal.Closed.dlng_at M x0 x4 x6 h0 h4 h6 i1
  · rw [Kernel3Ideal.Steps.dlnb_array H]
    funext i
    idx_vars i
    obtain rfl : i0 = 0 := Subsingleton.elim _ _
    exact Reference3Ideal.Closed.dlnb_at M x0 x4 x6 h0 h4 h6 i1
  · rw [Kernel3Ideal.Steps.dwout_array (m := m) (c := c) (fun i k => ((M.A (i.val / 128) ⟨i.val % 128, Nat.mod_lt _ (by norm_num)⟩ k : ℝ) : EReal))
      (fun i k => (congrFun (Kernel3Ideal.Host.at_v90 m c) _).trans (Kernel3Ideal.Host.a_at M _ _ _ _ _ _ H.z H.sk H.g H.b H.w H.bi i k))
      (fun i l => x7 (ix2 i l)) (fun i l => congrFun e7 _)]
    funext i
    idx_vars i
    exact Reference3Ideal.Closed.dwout_at M x0 x1 x2 x3 x4 x5 x7 h0 h1 h2 h3 h4 h5 i0 i1

theorem algebraic : Cert.algebraic_Kernel3Ideal_Reference3Ideal_pre_finite_inputs3 := by
  pair_intro
  · run_from Cert.Kernel3Ideal.Value.run_blocks m g
  · run_from Cert.Reference3Ideal.Value.run m' g'
    · refine (Reference3Ideal.Read.val_main_v269_eq (StableHlo.launchContents m' c)).trans ?_
      show Reference3Ideal.Read.val_main_v269 (F := Ideal) (m' ((c : Thread Reference3Ideal.nD Reference3Ideal.τ).loc Reference3Ideal.main_arg0)) (m' ((c : Thread Reference3Ideal.nD Reference3Ideal.τ).loc Reference3Ideal.main_arg1)) (m' ((c : Thread Reference3Ideal.nD Reference3Ideal.τ).loc Reference3Ideal.main_arg2)) (m' ((c : Thread Reference3Ideal.nD Reference3Ideal.τ).loc Reference3Ideal.main_arg3)) (m' ((c : Thread Reference3Ideal.nD Reference3Ideal.τ).loc Reference3Ideal.main_arg4)) (m' ((c : Thread Reference3Ideal.nD Reference3Ideal.τ).loc Reference3Ideal.main_arg5)) (m' ((c : Thread Reference3Ideal.nD Reference3Ideal.τ).loc Reference3Ideal.main_arg6)) = _
      rw [(hagree c).1, (hagree c).2.1, (hagree c).2.2.1, (hagree c).2.2.2.1, (hagree c).2.2.2.2.1, (hagree c).2.2.2.2.2.1, (hagree c).2.2.2.2.2.2.1]
      exact (results m hpre c _ _ _ _ _ _ _ _ rfl rfl rfl rfl rfl rfl rfl rfl).1
    · refine (Reference3Ideal.Read.val_main_v270_eq (StableHlo.launchContents m' c)).trans ?_
      show Reference3Ideal.Read.val_main_v270 (F := Ideal) (m' ((c : Thread Reference3Ideal.nD Reference3Ideal.τ).loc Reference3Ideal.main_arg0)) (m' ((c : Thread Reference3Ideal.nD Reference3Ideal.τ).loc Reference3Ideal.main_arg1)) (m' ((c : Thread Reference3Ideal.nD Reference3Ideal.τ).loc Reference3Ideal.main_arg6)) = _
      rw [(hagree c).1, (hagree c).2.1, (hagree c).2.2.2.2.2.2.1]
      exact (results m hpre c _ _ _ _ _ _ _ _ rfl rfl rfl rfl rfl rfl rfl rfl).2.1
    · refine (Reference3Ideal.Read.val_main_v271_eq (StableHlo.launchContents m' c)).trans ?_
      show Reference3Ideal.Read.val_main_v271 (F := Ideal) (m' ((c : Thread Reference3Ideal.nD Reference3Ideal.τ).loc Reference3Ideal.main_arg0)) (m' ((c : Thread Reference3Ideal.nD Reference3Ideal.τ).loc Reference3Ideal.main_arg2)) (m' ((c : Thread Reference3Ideal.nD Reference3Ideal.τ).loc Reference3Ideal.main_arg3)) (m' ((c : Thread Reference3Ideal.nD Reference3Ideal.τ).loc Reference3Ideal.main_arg6)) = _
      rw [(hagree c).1, (hagree c).2.2.1, (hagree c).2.2.2.1, (hagree c).2.2.2.2.2.2.1]
      exact (results m hpre c _ _ _ _ _ _ _ _ rfl rfl rfl rfl rfl rfl rfl rfl).2.2.1
    · refine (Reference3Ideal.Read.val_main_v272_eq (StableHlo.launchContents m' c)).trans ?_
      show Reference3Ideal.Read.val_main_v272 (F := Ideal) (m' ((c : Thread Reference3Ideal.nD Reference3Ideal.τ).loc Reference3Ideal.main_arg0)) (m' ((c : Thread Reference3Ideal.nD Reference3Ideal.τ).loc Reference3Ideal.main_arg6)) = _
      rw [(hagree c).1, (hagree c).2.2.2.2.2.2.1]
      exact (results m hpre c _ _ _ _ _ _ _ _ rfl rfl rfl rfl rfl rfl rfl rfl).2.2.2.1
    · refine (Reference3Ideal.Read.val_main_v207_eq (StableHlo.launchContents m' c)).trans ?_
      show Reference3Ideal.Read.val_main_v207 (F := Ideal) (m' ((c : Thread Reference3Ideal.nD Reference3Ideal.τ).loc Reference3Ideal.main_arg0)) (m' ((c : Thread Reference3Ideal.nD Reference3Ideal.τ).loc Reference3Ideal.main_arg4)) (m' ((c : Thread Reference3Ideal.nD Reference3Ideal.τ).loc Reference3Ideal.main_arg6)) = _
      rw [(hagree c).1, (hagree c).2.2.2.2.1, (hagree c).2.2.2.2.2.2.1]
      exact (results m hpre c _ _ _ _ _ _ _ _ rfl rfl rfl rfl rfl rfl rfl rfl).2.2.2.2.1
    · refine (Reference3Ideal.Read.val_main_v206_eq (StableHlo.launchContents m' c)).trans ?_
      show Reference3Ideal.Read.val_main_v206 (F := Ideal) (m' ((c : Thread Reference3Ideal.nD Reference3Ideal.τ).loc Reference3Ideal.main_arg0)) (m' ((c : Thread Reference3Ideal.nD Reference3Ideal.τ).loc Reference3Ideal.main_arg4)) (m' ((c : Thread Reference3Ideal.nD Reference3Ideal.τ).loc Reference3Ideal.main_arg6)) = _
      rw [(hagree c).1, (hagree c).2.2.2.2.1, (hagree c).2.2.2.2.2.2.1]
      exact (results m hpre c _ _ _ _ _ _ _ _ rfl rfl rfl rfl rfl rfl rfl rfl).2.2.2.2.2.1
    · rw [← (hagree c).2.2.2.2.2.2.2]
      refine (Reference3Ideal.Read.val_main_v273_eq (StableHlo.launchContents m' c)).trans ?_
      show Reference3Ideal.Read.val_main_v273 (F := Ideal) (m' ((c : Thread Reference3Ideal.nD Reference3Ideal.τ).loc Reference3Ideal.main_arg0)) (m' ((c : Thread Reference3Ideal.nD Reference3Ideal.τ).loc Reference3Ideal.main_arg1)) (m' ((c : Thread Reference3Ideal.nD Reference3Ideal.τ).loc Reference3Ideal.main_arg2)) (m' ((c : Thread Reference3Ideal.nD Reference3Ideal.τ).loc Reference3Ideal.main_arg3)) (m' ((c : Thread Reference3Ideal.nD Reference3Ideal.τ).loc Reference3Ideal.main_arg4)) (m' ((c : Thread Reference3Ideal.nD Reference3Ideal.τ).loc Reference3Ideal.main_arg5)) (m' ((c : Thread Reference3Ideal.nD Reference3Ideal.τ).loc Reference3Ideal.main_arg7)) = _
      rw [(hagree c).1, (hagree c).2.1, (hagree c).2.2.1, (hagree c).2.2.2.1, (hagree c).2.2.2.2.1, (hagree c).2.2.2.2.2.1, (hagree c).2.2.2.2.2.2.2]
      exact (results m hpre c _ _ _ _ _ _ _ _ rfl rfl rfl rfl rfl rfl rfl rfl).2.2.2.2.2.2

end Cert.Mixer

end
-- ==== Proof.MixerSoft.lean ====
/-
  The mixer's forward pass on one block: the softmax over the keys a query sees and its sink, and the gated tiles.
-/
module

public import proofs.«01_k».proof.Proof.Gen.Kernel4Ideal.Skeleton
public import proofs.«01_k».proof.Proof.MixerBlock

@[expose] public section

set_option maxRecDepth 16384
set_option backward.proofsInPublic true
noncomputable section
namespace Cert.MixerSoft
open Idealize.ShloMosaic Idealize.ShloMosaic.TcCoe Idealize.SL.Sem Idealize.ShloMosaic.Pointwise
open Cert.Kernel4Ideal Cert.Kernel4Ideal.Gen Cert.Reals Cert.MixerMath Cert.MixerModel Cert.Kernel3Ideal.Tiles

/-- The keys a query of block `n` sees. -/
def seen (n : BitVec 32) : IVec S256x128 1 :=
  ori (andi (andi (cmpi .slt (iota .tc S256x128 32 [0] iota_S256x128_d0_w32) (broadcast S256x128 128#32))
      (cmpi .sgt (iota .tc S256x128 32 [0] iota_S256x128_d0_w32) (iota .tc S256x128 32 [1] iota_S256x128_d1_w32)))
      (broadcast S256x128 (Scalar.cmpi .sgt n 0#32)))
    (andi (cmpi .sge (iota .tc S256x128 32 [0] iota_S256x128_d0_w32) (broadcast S256x128 128#32))
      (cmpi .sle (subi (iota .tc S256x128 32 [0] iota_S256x128_d0_w32) (broadcast S256x128 128#32))
        (iota .tc S256x128 32 [1] iota_S256x128_d1_w32)))

def biasOne (n : BitVec 32) : FVec Ideal S256x128 .f32 :=
  select (seen n) (broadcast S256x128 (Scalar.ofBits (F := Ideal) .f32 0x00000000#32))
    (broadcast S256x128 (Scalar.ofBits (F := Ideal) .f32 0xFF800000#32))

/-- Zero for a seen key, minus infinity for another, once for each of eight heads. -/
def bias (n : BitVec 32) : FVec Ideal S256x1024 .f32 :=
  concatenate S256x1024 1 [⟨S256x128, biasOne n⟩, ⟨S256x128, biasOne n⟩, ⟨S256x128, biasOne n⟩, ⟨S256x128, biasOne n⟩,
    ⟨S256x128, biasOne n⟩, ⟨S256x128, biasOne n⟩, ⟨S256x128, biasOne n⟩, ⟨S256x128, biasOne n⟩]
    concatenates_S256x128_S256x128_S256x128_S256x128_S256x128_S256x128_S256x128_S256x128_S256x1024_d1

def sinkRow (s : FVec Ideal S1x1x1024 .f32) : FVec Ideal S1x1024 .f32 :=
  shapeCast S1x1024 s shapeCasts_S1x1x1024_S1x1024

/-- The largest score of each query, its sink's among them. -/
def topRow (st : FVec Ideal S256x1024 .f32) (s : FVec Ideal S1x1024 .f32) : FVec Ideal S1x1024 .f32 :=
  maximumf (shapeCast S1x1024 (multiReduction .maximumf [0] S1024 st 0xFF800000#32 reduces_S256x1024_S1024 (.inl rfl) rfl)
    shapeCasts_S1024_S1x1024) s

def exTile (st : FVec Ideal S256x1024 .f32) (s : FVec Ideal S1x1024 .f32) : FVec Ideal S256x1024 .f32 :=
  exp (subf st (broadcastTo S256x1024 (topRow st s) broadcasts_S1x1024_S256x1024))

def exsRow (st : FVec Ideal S256x1024 .f32) (s : FVec Ideal S1x1024 .f32) : FVec Ideal S1x1024 .f32 := exp (subf s (topRow st s))

def invRow (e : FVec Ideal S256x1024 .f32) (es : FVec Ideal S1x1024 .f32) : FVec Ideal S1x1024 .f32 :=
  divf (broadcast S1x1024 (Scalar.ofBits (F := Ideal) .f32 0x3F800000#32))
    (addf (shapeCast S1x1024 (multiReduction .add [0] S1024 e 0x00000000#32 reduces_S256x1024_S1024 (.inl rfl) rfl)
      shapeCasts_S1024_S1x1024) es)

/-- The probabilities of a tile of exponentials. -/
def probTile (e : FVec Ideal S256x1024 .f32) (es : FVec Ideal S1x1024 .f32) : FVec Ideal S256x1024 .bf16 :=
  truncf .bf16 (mulf e (broadcastTo S256x1024 (invRow e es) broadcasts_S1x1024_S256x1024)) bitsLt_bf16_f32

/-- The sinks' shares. -/
def shareRow (e : FVec Ideal S256x1024 .f32) (es : FVec Ideal S1x1024 .f32) : FVec Ideal S1x1024 .f32 := mulf es (invRow e es)

theorem fold_last {n : ℕ} (f : Fin (n + 1) → EReal) :
    Finset.univ.fold max ⊥ f = max (Finset.univ.fold max ⊥ fun k : Fin n => f k.castSucc) (f (Fin.last n)) := by
  rw [Fin.univ_castSuccEmb, Finset.fold_cons, Finset.fold_map, max_comm]
  rfl

theorem seen_apply (n : ℕ) (hn : n < 16) (s : Fin 256) (t : Fin 128) (u v : EReal) :
    Scalar.select (seen (BitVec.ofNat 32 n) (ix2 s t)) u v = if Data.Sees n t s then u else v := by
  pointwise [seen]
  rw [show Scalar.cmpi .sgt (BitVec.ofNat 32 n) 0#32 = IntOp.cmpi .sgt (BitVec.ofNat 32 n) 0#32 from rfl,
    WordCmp.cmpi_slt_ofNat (by norm_num; omega) (by norm_num), WordCmp.cmpi_sgt_ofNat (by norm_num; omega) (by norm_num; omega),
    WordCmp.cmpi_sgt_ofNat (by norm_num; omega) (by norm_num), WordCmp.cmpi_sge_ofNat (by norm_num; omega) (by norm_num)]
  by_cases d : 128 ≤ s.val
  · rw [show IntOp.subi (BitVec.ofNat 32 s.val) 128#32 = BitVec.ofNat 32 (s.val - 128) from
        (BitVec.ofNat_sub_ofNat_of_le s.val 128 (by norm_num) d), WordCmp.cmpi_sle_ofNat (by norm_num; omega) (by norm_num; omega)]
    have e : (s.val - 128 ≤ t.val) = (s.val ≤ t.val + 128) := propext (by omega)
    have a : t.val < s.val := by omega
    have f : ¬s.val < 128 := by omega
    by_cases b : s.val ≤ t.val + 128 <;> by_cases c : 0 < n <;> simp [Data.Sees, a, b, c, d, e, f, Scalar.select, IntOp.andi, IntOp.ori]
  · have b : s.val ≤ t.val + 128 := by omega
    have e : s.val < 128 := by omega
    by_cases a : t.val < s.val <;> by_cases c : 0 < n <;> simp [Data.Sees, a, b, c, d, e, Scalar.select, IntOp.andi, IntOp.ori]

theorem bias_apply (n : ℕ) (hn : n < 16) (s : Fin 256) (j : Fin 8) (t : Fin 128) :
    bias (BitVec.ofNat 32 n) (ix2 s (col j t)) = if Data.Sees n t s then 0 else ⊥ := by
  have h : bias (BitVec.ofNat 32 n) (ix2 s (col j t)) = biasOne (BitVec.ofNat 32 n) (ix2 s t) := by
    have ht := t.isLt
    generalize BitVec.ofNat 32 n = b
    unfold bias
    generalize biasOne b = y
    fin_cases j <;>
    · pointwise [col]
      repeat first | rw [dif_pos (by omega)] | rw [dif_neg (by omega)]
      try exact congrArg (fun u => y (ix2 s u)) (Fin.ext (by dsimp only; omega))
  refine h.trans ((seen_apply n hn s t _ _).trans ?_)
  exact if_congr Iff.rfl (lit_zero.trans EReal.coe_zero) lit_ninf

/-- The scores of a block's queries, from its loads. -/
def scoreTile (P : Parts) (b : BitVec 32) (g : Fin 2) : FVec Ideal S256x1024 .f32 :=
  addf (dProb (keys P.before P.own) (P.qs g)) (bias b)

theorem scoreTile_apply {P : Parts} {M : Data} {n : ℕ} (H : Cert.Kernel3Ideal.Block.Holds P M n) (hn : n < 16) (g : Fin 2)
    (s : Fin 256) (j : Fin 8) (t : Fin 128) :
    scoreTile P (BitVec.ofNat 32 n) g (ix2 s (col j t)) = M.scores n g j t ⟨s.val, by omega⟩ := by
  show dProb _ _ (ix2 s (col j t)) + bias _ (ix2 s (col j t)) = _
  rw [bias_apply n hn, dProb_apply _ _ _ _ (Cert.Kernel3Ideal.Block.keys_col H) (Cert.Kernel3Ideal.Block.qs_at H g), sum_pad]
  unfold Data.scores
  rw [dif_pos s.isLt]
  split
  · rw [add_zero]
    refine congrArg _ ?_
    unfold Data.score
    rw [Finset.sum_mul]
    refine Finset.sum_congr rfl fun d _ => ?_
    rw [← mul_assoc]
    refine congrArg (· * _) (congrArg (· * _) (congrArg₂ (fun a b => M.kk n a s b) (Fin.ext ?_) (Fin.ext ?_))) <;> simp only [feat] <;> omega
  · exact EReal.add_bot _

section Rows
variable (st : FVec Ideal S256x1024 .f32) (r : FVec Ideal S1x1024 .f32) (M : Data) (n : ℕ) (g : Fin 2)
  (hst : ∀ s j t, st (ix2 s (col j t)) = M.scores n g j t ⟨s.val, by omega⟩)
  (hr : ∀ j t, r (ix2 0 (col j t)) = ((M.sk (8 * g.val + j.val) : ℝ) : EReal))

include hst hr in
theorem topRow_apply (j : Fin 8) (t : Fin 128) : topRow st r (ix2 0 (col j t)) = ((M.top n g j t : ℝ) : EReal) := by
  rw [Data.coe_top, fold_last]
  pointwise [topRow]
  rw [hr, lit_ninf]
  simp only [hst]
  exact congrArg (max _) (by unfold Data.scores; rw [dif_neg (by simp)])

include hst hr in
theorem exTile_apply (s : Fin 256) (j : Fin 8) (t : Fin 128) : exTile st r (ix2 s (col j t)) = ((M.ex n g j t s : ℝ) : EReal) := by
  have h := M.exp_scores n g j t ⟨s.val, by omega⟩
  rw [dif_pos s.isLt] at h
  refine Eq.trans ?_ h
  pointwise [exTile]
  rw [topRow_apply st r M n g hst hr, hst]

include hst hr in
theorem exsRow_apply (j : Fin 8) (t : Fin 128) : exsRow st r (ix2 0 (col j t)) = ((M.exs n g j t : ℝ) : EReal) := by
  pointwise [exsRow]
  rw [topRow_apply st r M n g hst hr, hr, ← EReal.coe_sub, coe_exp]
  rfl

end Rows

section Shares
variable (e : FVec Ideal S256x1024 .f32) (es : FVec Ideal S1x1024 .f32) (M : Data) (n : ℕ) (g : Fin 2)
  (he : ∀ s j t, e (ix2 s (col j t)) = ((M.ex n g j t s : ℝ) : EReal))
  (hs : ∀ j t, es (ix2 0 (col j t)) = ((M.exs n g j t : ℝ) : EReal))

include he hs in
theorem invRow_apply (j : Fin 8) (t : Fin 128) : invRow e es (ix2 0 (col j t)) = ((1 / M.tot n g j t : ℝ) : EReal) := by
  pointwise [invRow]
  simp only [he, hs, coe_sum]
  rw [← EReal.coe_add, ← EReal.coe_one]
  exact coe_div _ (M.tot_pos n g j t).ne'

include he hs in
theorem probTile_apply (s : Fin 256) (j : Fin 8) (t : Fin 128) : probTile e es (ix2 s (col j t)) = ((M.P n g j t s : ℝ) : EReal) := by
  pointwise [probTile]
  rw [invRow_apply e es M n g he hs, he, ← EReal.coe_mul, mul_one_div]
  rfl

include he hs in
theorem shareRow_apply (j : Fin 8) (t : Fin 128) : shareRow e es (ix2 0 (col j t)) = ((M.Ps n g j t : ℝ) : EReal) := by
  pointwise [shareRow]
  rw [invRow_apply e es M n g he hs, hs, ← EReal.coe_mul, mul_one_div]
  rfl

end Shares

end Cert.MixerSoft
end
-- ==== Proof.MixerPayF.lean ====
/-
  What a step of the mixer's forward pass stores of a block: the gated tiles, the probabilities and the sinks' shares.
-/
module

public import proofs.«01_k».proof.Proof.MixerSoft

@[expose] public section

set_option maxRecDepth 65536
set_option maxHeartbeats 4000000
set_option backward.proofsInPublic true
noncomputable section
namespace Cert.MixerSoft
open Idealize.ShloMosaic Idealize.ShloMosaic.TcCoe Idealize.SL.Sem Idealize.ShloMosaic.Pointwise
open Cert.Kernel4Ideal Cert.Kernel4Ideal.Gen Cert.Reals Cert.MixerMath Cert.MixerModel Cert.Kernel3Ideal.Tiles

/-- The number of a step's block. -/
def blockNo (a b : BitVec 32) : BitVec 32 := Scalar.addi (Scalar.muli 2#32 a) b

theorem blockNo_apply (t : Fin 8) (b : Fin 2) : blockNo (BitVec.ofNat 32 t.val) (BitVec.ofNat 32 b.val) = BitVec.ofNat 32 (2 * t.val + b.val) := by
  revert t b; decide

variable (P : Parts) (n : BitVec 32) (s : FVec Ideal S1x1x1024 .f32)

def exps (g : Fin 2) : FVec Ideal S256x1024 .f32 := exTile (scoreTile P n g) (sinkRow s)

def exss (g : Fin 2) : FVec Ideal S1x1024 .f32 := exsRow (scoreTile P n g) (sinkRow s)

def prob (g : Fin 2) : FVec Ideal S256x1024 .bf16 := probTile (exps P n s g) (exss P n s g)

/-- The probabilities, as they are stored. -/
def probOut (g : Fin 2) : FVec Ideal S1x1x256x1024 .bf16 :=
  shapeCast S1x1x256x1024 (shapeCast S1x256x1024 (prob P n s g) shapeCasts_S256x1024_S1x256x1024) shapeCasts_S1x256x1024_S1x1x256x1024

/-- The sinks' shares, as they are stored. -/
def shareOut (g : Fin 2) : FVec Ideal S1x1x1024 .f32 :=
  shapeCast S1x1x1024 (shareRow (exps P n s g) (exss P n s g)) shapeCasts_S1x1024_S1x1x1024

/-- The attention's result for two heads, gated. -/
def aTile (g : Fin 2) (p : Fin 4) (r k l : ℕ) (hk : S128x1024.Slices ![r, k] S64x128) (hl : S128x1024.Slices ![r, l] S64x128) :
    FVec Ideal S128x128 .bf16 :=
  truncf .bf16 (gated (pairOf r k l hk hl (byKeys (turned (vals P.before P.own)) (prob P n s g))) (P.ga g p)) bitsLt_bf16_f32

/-- The mixed tokens of one group, gated. -/
def gTile (p : Fin 8) : FVec Ideal S128x128 .bf16 := truncf .bf16 (gated (mulf (P.u p) (P.mx p)) (P.gs p)) bitsLt_bf16_f32

section Values
variable {P} {M : Data} {i : ℕ} (H : Cert.Kernel3Ideal.Block.Holds P M i) (hi : i < 16)
include H

theorem gTile_at (p : Fin 8) (t e : Fin 128) : gTile P p (ix2 t e) = ((M.A i t ⟨1024 + (128 * p.val + e.val), by omega⟩ : ℝ) : EReal) := by
  have h := gated_apply (P.gs p) (mulf (P.u p) (P.mx p)) (ix2 t e) (M.gs i p t e) (M.u i p t e * M.mix i p t e) (H.gs p t e)
    (by show P.u p (ix2 t e) * P.mx p (ix2 t e) = _
        rw [H.u, Cert.Kernel3Ideal.Block.mx_at H, ← EReal.coe_mul])
  refine (show gTile P p (ix2 t e) = gated _ _ (ix2 t e) from rfl).trans (h.trans (congrArg Real.toEReal ?_))
  unfold Data.A
  rw [dif_neg (by dsimp only; omega)]
  have e0 : 1024 + (128 * p.val + e.val) - 1024 = 128 * p.val + e.val := by omega
  have e1 : (128 * p.val + e.val) / 128 = p.val := by omega
  have e2 : (128 * p.val + e.val) % 128 = e.val := by omega
  simp only [e0, e1, e2, Data.u, Data.gs, Nat.add_assoc]

variable (g : Fin 2) (hs : ∀ j t, sinkRow s (ix2 0 (col j t)) = ((M.sk (8 * g.val + j.val) : ℝ) : EReal))
include hi hs

theorem exps_at (k : Fin 256) (j : Fin 8) (t : Fin 128) : exps P (BitVec.ofNat 32 i) s g (ix2 k (col j t)) = ((M.ex i g j t k : ℝ) : EReal) :=
  exTile_apply _ _ M i g (scoreTile_apply H hi g) hs k j t

theorem exss_at (j : Fin 8) (t : Fin 128) : exss P (BitVec.ofNat 32 i) s g (ix2 0 (col j t)) = ((M.exs i g j t : ℝ) : EReal) :=
  exsRow_apply _ _ M i g (scoreTile_apply H hi g) hs j t

theorem prob_at (k : Fin 256) (j : Fin 8) (t : Fin 128) : prob P (BitVec.ofNat 32 i) s g (ix2 k (col j t)) = ((M.P i g j t k : ℝ) : EReal) :=
  probTile_apply _ _ M i g (exps_at s H hi g hs) (exss_at s H hi g hs) k j t

theorem probOut_at (k : Fin 256) (j : Fin 8) (t : Fin 128) :
    probOut P (BitVec.ofNat 32 i) s g (ix4 0 0 k (col j t)) = ((M.P i g j t k : ℝ) : EReal) := by
  refine Eq.trans ?_ (prob_at s H hi g hs k j t)
  unfold probOut
  pointwise

theorem shareOut_at (j : Fin 8) (t : Fin 128) :
    shareOut P (BitVec.ofNat 32 i) s g (ix3 0 0 (col j t)) = ((M.Ps i g j t : ℝ) : EReal) := by
  refine Eq.trans ?_ (shareRow_apply _ _ M i g (exps_at s H hi g hs) (exss_at s H hi g hs) j t)
  unfold shareOut
  pointwise

theorem result_at (h : Fin 2) (d : Fin 64) (j : Fin 8) (t : Fin 128) :
    byKeys (turned (vals P.before P.own)) (prob P (BitVec.ofNat 32 i) s g) (ix2 (feat h d) (col j t))
      = ((∑ k, M.vv i h k d * M.P i g j t k : ℝ) : EReal) := by
  rw [byKeys_apply _ _ _ _ (Cert.Kernel3Ideal.Block.vals_col H) (prob_at s H hi g hs)]
  refine congrArg _ (Finset.sum_congr rfl fun s _ => ?_)
  refine congrArg (· * _) (congrArg₂ (fun a b => M.vv i a s b) (Fin.ext ?_) (Fin.ext ?_)) <;> simp only [feat] <;> omega

theorem aTile_at (p : Fin 4) (r k l : ℕ) (hk : S128x1024.Slices ![r, k] S64x128) (hl : S128x1024.Slices ![r, l] S64x128)
    (er : r = 64 * g.val) (ek : k = 256 * p.val) (el : l = 256 * p.val + 128) (t e : Fin 128) :
    aTile P (BitVec.ofNat 32 i) s g p r k l hk hl (ix2 t e)
      = ((M.A i t ⟨512 * g.val + 128 * p.val + e.val, by omega⟩ : ℝ) : EReal) := by
  obtain ⟨h, d, rfl⟩ : ∃ (h : Fin 2) (d : Fin 64), e = feat h d :=
    ⟨⟨e.val / 64, by omega⟩, ⟨e.val % 64, by omega⟩, Fin.ext (by simp only [feat]; omega)⟩
  have a : pairOf r k l hk hl (byKeys (turned (vals P.before P.own)) (prob P (BitVec.ofNat 32 i) s g)) (ix2 t (feat h d))
      = ((M.att i g ⟨2 * p.val + h.val, by omega⟩ t d : ℝ) : EReal) := by
    rw [pairOf_apply _ _ _ _ _ _ t h d (by omega) (by omega) (by omega)]
    have b := result_at s H hi g hs g d ⟨2 * p.val + h.val, by omega⟩ t
    refine Eq.trans ?_ b
    split
    · next h0 =>
      subst h0
      exact congrArg₂ (fun a b => byKeys _ _ (ix2 a b)) (Fin.ext (by simp only [feat]; omega)) (Fin.ext (by simp only [col]; omega))
    · next h0 =>
      have h1 : h.val = 1 := by omega
      exact congrArg₂ (fun a b => byKeys _ _ (ix2 a b)) (Fin.ext (by simp only [feat]; omega)) (Fin.ext (by simp only [col, h1]; omega))
  refine (show aTile P _ s g p r k l hk hl _ = gated _ _ _ from rfl).trans
    ((gated_apply _ _ _ _ _ (Cert.Kernel3Ideal.Block.ga_tile H g p h t d) a).trans (congrArg Real.toEReal ?_))
  unfold Data.A
  rw [dif_pos (by simp only [feat]; omega)]
  have e1 : (512 * g.val + 128 * p.val + (h.val * 64 + d.val)) / 512 = g.val := by omega
  have e2 : (512 * g.val + 128 * p.val + (h.val * 64 + d.val)) / 64 % 8 = 2 * p.val + h.val := by omega
  have e3 : (512 * g.val + 128 * p.val + (h.val * 64 + d.val)) % 64 = d.val := by omega
  have e4 : 1280 + (512 * g.val + 128 * p.val + (h.val * 64 + d.val)) = 1280 + 512 * g.val + 64 * (2 * p.val + h.val) + d.val := by omega
  simp only [feat, e1, e2, e3, e4]
  rfl

end Values

/-! What is stored, value by value. -/

section Stores
variable (i : grid0.Coords) (a : BitVec 32) (P0 P1 : Parts) (s0 s1 : FVec Ideal S1x1x1024 .f32)

theorem pay1_g7 : k0_pay1 (F := Ideal) (P1.gs 7) (k0_pay133 (k0_pay117 (k0_pay115 P1.v) (k0_pay116 P1.v) P1.lng P1.lnb) k0_pay118 (P1.w 7) (P1.bt 7) (P1.u 7)) (k0_pay134 (P1.gs 7)) (Scalar.ofBits (F := Ideal) .f32 0x3F000000#32) = gTile P1 7 := rfl

theorem pay0_p0 : k0_pay14 (F := Ideal) (k0_pay10 (k0_pay2 i) (k0_pay3 P0.before P0.own) (k0_pay5 (P0.q 0 0)) (k0_pay6 (P0.q 0 1)) (P0.q 0 2) (P0.q 0 3) s0) (k0_pay11 (k0_pay2 i) (k0_pay3 P0.before P0.own) (k0_pay5 (P0.q 0 0)) (k0_pay6 (P0.q 0 1)) (P0.q 0 2) (P0.q 0 3) s0) = probOut P0 (blockNo (BitVec.ofNat 32 (i 0).val) 0#32) s0 0 := rfl

theorem pay0_s0 : k0_pay15 (F := Ideal) (k0_pay10 (k0_pay2 i) (k0_pay3 P0.before P0.own) (k0_pay5 (P0.q 0 0)) (k0_pay6 (P0.q 0 1)) (P0.q 0 2) (P0.q 0 3) s0) (k0_pay11 (k0_pay2 i) (k0_pay3 P0.before P0.own) (k0_pay5 (P0.q 0 0)) (k0_pay6 (P0.q 0 1)) (P0.q 0 2) (P0.q 0 3) s0) = shareOut P0 (blockNo (BitVec.ofNat 32 (i 0).val) 0#32) s0 0 := rfl

theorem pay0_a00 : k0_pay17 (F := Ideal) (k0_pay4 P0.before P0.own) (k0_pay10 (k0_pay2 i) (k0_pay3 P0.before P0.own) (k0_pay5 (P0.q 0 0)) (k0_pay6 (P0.q 0 1)) (P0.q 0 2) (P0.q 0 3) s0) (k0_pay11 (k0_pay2 i) (k0_pay3 P0.before P0.own) (k0_pay5 (P0.q 0 0)) (k0_pay6 (P0.q 0 1)) (P0.q 0 2) (P0.q 0 3) s0) (P0.ga 0 0) = aTile P0 (blockNo (BitVec.ofNat 32 (i 0).val) 0#32) s0 0 0 0 0 128 slices_S128x1024_o0_0_S64x128 slices_S128x1024_o0_128_S64x128 := rfl

theorem pay0_a01 : k0_pay18 (F := Ideal) (k0_pay16 (k0_pay4 P0.before P0.own) (k0_pay10 (k0_pay2 i) (k0_pay3 P0.before P0.own) (k0_pay5 (P0.q 0 0)) (k0_pay6 (P0.q 0 1)) (P0.q 0 2) (P0.q 0 3) s0) (k0_pay11 (k0_pay2 i) (k0_pay3 P0.before P0.own) (k0_pay5 (P0.q 0 0)) (k0_pay6 (P0.q 0 1)) (P0.q 0 2) (P0.q 0 3) s0)) (P0.ga 0 1) = aTile P0 (blockNo (BitVec.ofNat 32 (i 0).val) 0#32) s0 0 1 0 256 384 slices_S128x1024_o0_256_S64x128 slices_S128x1024_o0_384_S64x128 := rfl

theorem pay0_a02 : k0_pay19 (F := Ideal) (k0_pay16 (k0_pay4 P0.before P0.own) (k0_pay10 (k0_pay2 i) (k0_pay3 P0.before P0.own) (k0_pay5 (P0.q 0 0)) (k0_pay6 (P0.q 0 1)) (P0.q 0 2) (P0.q 0 3) s0) (k0_pay11 (k0_pay2 i) (k0_pay3 P0.before P0.own) (k0_pay5 (P0.q 0 0)) (k0_pay6 (P0.q 0 1)) (P0.q 0 2) (P0.q 0 3) s0)) (P0.ga 0 2) = aTile P0 (blockNo (BitVec.ofNat 32 (i 0).val) 0#32) s0 0 2 0 512 640 slices_S128x1024_o0_512_S64x128 slices_S128x1024_o0_640_S64x128 := rfl

theorem pay0_a03 : k0_pay22 (F := Ideal) (P0.ga 0 3) (k0_pay20 (k0_pay16 (k0_pay4 P0.before P0.own) (k0_pay10 (k0_pay2 i) (k0_pay3 P0.before P0.own) (k0_pay5 (P0.q 0 0)) (k0_pay6 (P0.q 0 1)) (P0.q 0 2) (P0.q 0 3) s0) (k0_pay11 (k0_pay2 i) (k0_pay3 P0.before P0.own) (k0_pay5 (P0.q 0 0)) (k0_pay6 (P0.q 0 1)) (P0.q 0 2) (P0.q 0 3) s0))) (k0_pay21 (F := Ideal)) = aTile P0 (blockNo (BitVec.ofNat 32 (i 0).val) 0#32) s0 0 3 0 768 896 slices_S128x1024_o0_768_S64x128 slices_S128x1024_o0_896_S64x128 := rfl

theorem pay0_p1 : k0_pay42 (F := Ideal) (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1 = probOut P0 (blockNo (BitVec.ofNat 32 (i 0).val) 0#32) s1 1 := rfl

theorem pay0_s1 : k0_pay43 (F := Ideal) (k0_pay40 (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1) = shareOut P0 (blockNo (BitVec.ofNat 32 (i 0).val) 0#32) s1 1 := rfl

theorem pay0_a10 : k0_pay45 (F := Ideal) (k0_pay4 P0.before P0.own) (k0_pay41 (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1) (P0.ga 1 0) = aTile P0 (blockNo (BitVec.ofNat 32 (i 0).val) 0#32) s1 1 0 64 0 128 slices_S128x1024_o64_0_S64x128 slices_S128x1024_o64_128_S64x128 := rfl

theorem pay0_a11 : k0_pay46 (F := Ideal) (k0_pay4 P0.before P0.own) (k0_pay41 (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1) (P0.ga 1 1) = aTile P0 (blockNo (BitVec.ofNat 32 (i 0).val) 0#32) s1 1 1 64 256 384 slices_S128x1024_o64_256_S64x128 slices_S128x1024_o64_384_S64x128 := rfl

theorem pay0_a12 : k0_pay48 (F := Ideal) (k0_pay44 (k0_pay4 P0.before P0.own) (k0_pay41 (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1)) (P0.ga 1 2) (k0_pay47 (k0_pay4 P0.before P0.own) (k0_pay41 (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1)) = aTile P0 (blockNo (BitVec.ofNat 32 (i 0).val) 0#32) s1 1 2 64 512 640 slices_S128x1024_o64_512_S64x128 slices_S128x1024_o64_640_S64x128 := rfl

theorem pay0_a13 : k0_pay49 (F := Ideal) (k0_pay44 (k0_pay4 P0.before P0.own) (k0_pay41 (k0_pay2 i) (k0_pay3 P0.before P0.own) (k0_pay23 (P0.q 1 3)) k0_pay24 (k0_pay25 (F := Ideal)) (k0_pay27 (P0.q 1 0)) (k0_pay28 (P0.q 1 0)) (k0_pay30 (P0.q 1 1)) (k0_pay31 (P0.q 1 1)) (k0_pay32 (P0.q 1 2)) (k0_pay33 (P0.q 1 2)) s1)) (P0.ga 1 3) = aTile P0 (blockNo (BitVec.ofNat 32 (i 0).val) 0#32) s1 1 3 64 768 896 slices_S128x1024_o64_768_S64x128 slices_S128x1024_o64_896_S64x128 := rfl

theorem pay0_g0 : k0_pay54 (F := Ideal) (k0_pay50 P0.v) (k0_pay51 P0.v) (Scalar.ofBits (F := Ideal) .f32 0x44800000#32) P0.lng P0.lnb (P0.w 0) (P0.bt 0) (P0.gs 0) (P0.u 0) = gTile P0 0 := rfl

theorem pay0_g1 : k0_pay55 (F := Ideal) (k0_pay52 (k0_pay50 P0.v) (k0_pay51 P0.v) (Scalar.ofBits (F := Ideal) .f32 0x44800000#32) P0.lng P0.lnb) k0_pay53 (P0.w 1) (P0.bt 1) (P0.gs 1) (P0.u 1) = gTile P0 1 := rfl

theorem pay0_g2 : k0_pay57 (F := Ideal) (k0_pay56 (k0_pay52 (k0_pay50 P0.v) (k0_pay51 P0.v) (Scalar.ofBits (F := Ideal) .f32 0x44800000#32) P0.lng P0.lnb) k0_pay53 (P0.w 2)) (P0.bt 2) (P0.gs 2) (P0.u 2) = gTile P0 2 := rfl

theorem pay0_g3 : k0_pay60 (F := Ideal) (P0.gs 3) (k0_pay58 (k0_pay52 (k0_pay50 P0.v) (k0_pay51 P0.v) (Scalar.ofBits (F := Ideal) .f32 0x44800000#32) P0.lng P0.lnb) k0_pay53 (P0.w 3) (P0.bt 3) (P0.u 3)) (k0_pay59 (P0.gs 3)) = gTile P0 3 := rfl

theorem pay0_g4 : k0_pay61 (F := Ideal) (k0_pay52 (k0_pay50 P0.v) (k0_pay51 P0.v) (Scalar.ofBits (F := Ideal) .f32 0x44800000#32) P0.lng P0.lnb) k0_pay53 (P0.w 4) (P0.bt 4) (P0.gs 4) (P0.u 4) = gTile P0 4 := rfl

theorem pay0_g5 : k0_pay62 (F := Ideal) (k0_pay52 (k0_pay50 P0.v) (k0_pay51 P0.v) (Scalar.ofBits (F := Ideal) .f32 0x44800000#32) P0.lng P0.lnb) k0_pay53 (P0.w 5) (P0.bt 5) (P0.gs 5) (P0.u 5) = gTile P0 5 := rfl

theorem pay0_g6 : k0_pay64 (F := Ideal) (k0_pay63 (k0_pay52 (k0_pay50 P0.v) (k0_pay51 P0.v) (Scalar.ofBits (F := Ideal) .f32 0x44800000#32) P0.lng P0.lnb) k0_pay53 (P0.w 6) (P0.bt 6)) (P0.gs 6) (P0.u 6) = gTile P0 6 := rfl

theorem pay0_g7 : k0_pay66 (F := Ideal) (k0_pay65 (k0_pay52 (k0_pay50 P0.v) (k0_pay51 P0.v) (Scalar.ofBits (F := Ideal) .f32 0x44800000#32) P0.lng P0.lnb) k0_pay53 (P0.w 7) (P0.bt 7) (P0.gs 7) (P0.u 7)) = gTile P0 7 := rfl

theorem pay1_p0 : k0_pay79 (F := Ideal) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0) = probOut P1 (blockNo a 1#32) s0 0 := rfl

theorem pay1_s0 : k0_pay80 (F := Ideal) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0) = shareOut P1 (blockNo a 1#32) s0 0 := rfl

theorem pay1_a00 : k0_pay84 (F := Ideal) (P1.ga 0 0) (k0_pay82 (k0_pay69 P1.before P1.own) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0)) (k0_pay83 (P1.ga 0 0)) = aTile P1 (blockNo a 1#32) s0 0 0 0 0 128 slices_S128x1024_o0_0_S64x128 slices_S128x1024_o0_128_S64x128 := rfl

theorem pay1_a01 : k0_pay85 (F := Ideal) (k0_pay81 (k0_pay69 P1.before P1.own) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0)) (P1.ga 0 1) = aTile P1 (blockNo a 1#32) s0 0 1 0 256 384 slices_S128x1024_o0_256_S64x128 slices_S128x1024_o0_384_S64x128 := rfl

theorem pay1_a02 : k0_pay86 (F := Ideal) (k0_pay81 (k0_pay69 P1.before P1.own) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0)) (P1.ga 0 2) = aTile P1 (blockNo a 1#32) s0 0 2 0 512 640 slices_S128x1024_o0_512_S64x128 slices_S128x1024_o0_640_S64x128 := rfl

theorem pay1_a03 : k0_pay89 (F := Ideal) (P1.ga 0 3) (k0_pay87 (k0_pay81 (k0_pay69 P1.before P1.own) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0))) (k0_pay88 (k0_pay81 (k0_pay69 P1.before P1.own) (k0_pay71 s0) (k0_pay73 (k0_pay67 a) (k0_pay68 P1.before P1.own) (k0_pay70 (P1.q 0 0)) (P1.q 0 1) (Scalar.ofBits (F := Ideal) .f32 0x3E000000#32) (P1.q 0 2) (P1.q 0 3) s0) (k0_pay74 (k0_pay67 a) (k0_pay68 P1.before P1.own) (k0_pay70 (P1.q 0 0)) (P1.q 0 1) (Scalar.ofBits (F := Ideal) .f32 0x3E000000#32) (P1.q 0 2) (P1.q 0 3) s0))) = aTile P1 (blockNo a 1#32) s0 0 3 0 768 896 slices_S128x1024_o0_768_S64x128 slices_S128x1024_o0_896_S64x128 := rfl

theorem pay1_p1 : k0_pay108 (F := Ideal) (k0_pay67 a) (k0_pay68 P1.before P1.own) (k0_pay90 (P1.q 1 2)) (k0_pay91 (P1.q 1 3)) k0_pay92 (k0_pay93 (F := Ideal)) (k0_pay95 (P1.q 1 0)) (k0_pay96 (P1.q 1 0)) (k0_pay97 (P1.q 1 1)) (k0_pay98 (P1.q 1 1)) (k0_pay99 (F := Ideal)) s1 = probOut P1 (blockNo a 1#32) s1 1 := rfl

theorem pay1_s1 : k0_pay109 (F := Ideal) (k0_pay106 (k0_pay67 a) (k0_pay68 P1.before P1.own) (k0_pay90 (P1.q 1 2)) (k0_pay91 (P1.q 1 3)) k0_pay92 (k0_pay93 (F := Ideal)) (k0_pay95 (P1.q 1 0)) (k0_pay96 (P1.q 1 0)) (k0_pay97 (P1.q 1 1)) (k0_pay98 (P1.q 1 1)) (k0_pay99 (F := Ideal)) s1) = shareOut P1 (blockNo a 1#32) s1 1 := rfl

theorem pay1_a10 : k0_pay111 (F := Ideal) (k0_pay69 P1.before P1.own) (k0_pay107 (k0_pay67 a) (k0_pay68 P1.before P1.own) (k0_pay90 (P1.q 1 2)) (k0_pay91 (P1.q 1 3)) k0_pay92 (k0_pay93 (F := Ideal)) (k0_pay95 (P1.q 1 0)) (k0_pay96 (P1.q 1 0)) (k0_pay97 (P1.q 1 1)) (k0_pay98 (P1.q 1 1)) (k0_pay99 (F := Ideal)) s1) (P1.ga 1 0) = aTile P1 (blockNo a 1#32) s1 1 0 64 0 128 slices_S128x1024_o64_0_S64x128 slices_S128x1024_o64_128_S64x128 := rfl

theorem pay1_a11 : k0_pay112 (F := Ideal) (k0_pay69 P1.before P1.own) (k0_pay107 (k0_pay67 a) (k0_pay68 P1.before P1.own) (k0_pay90 (P1.q 1 2)) (k0_pay91 (P1.q 1 3)) k0_pay92 (k0_pay93 (F := Ideal)) (k0_pay95 (P1.q 1 0)) (k0_pay96 (P1.q 1 0)) (k0_pay97 (P1.q 1 1)) (k0_pay98 (P1.q 1 1)) (k0_pay99 (F := Ideal)) s1) (P1.ga 1 1) = aTile P1 (blockNo a 1#32) s1 1 1 64 256 384 slices_S128x1024_o64_256_S64x128 slices_S128x1024_o64_384_S64x128 := rfl

theorem pay1_a12 : k0_pay113 (F := Ideal) (k0_pay110 (k0_pay69 P1.before P1.own) (k0_pay107 (k0_pay67 a) (k0_pay68 P1.before P1.own) (k0_pay90 (P1.q 1 2)) (k0_pay91 (P1.q 1 3)) k0_pay92 (k0_pay93 (F := Ideal)) (k0_pay95 (P1.q 1 0)) (k0_pay96 (P1.q 1 0)) (k0_pay97 (P1.q 1 1)) (k0_pay98 (P1.q 1 1)) (k0_pay99 (F := Ideal)) s1)) (P1.ga 1 2) = aTile P1 (blockNo a 1#32) s1 1 2 64 512 640 slices_S128x1024_o64_512_S64x128 slices_S128x1024_o64_640_S64x128 := rfl

theorem pay1_a13 : k0_pay114 (F := Ideal) (k0_pay110 (k0_pay69 P1.before P1.own) (k0_pay107 (k0_pay67 a) (k0_pay68 P1.before P1.own) (k0_pay90 (P1.q 1 2)) (k0_pay91 (P1.q 1 3)) k0_pay92 (k0_pay93 (F := Ideal)) (k0_pay95 (P1.q 1 0)) (k0_pay96 (P1.q 1 0)) (k0_pay97 (P1.q 1 1)) (k0_pay98 (P1.q 1 1)) (k0_pay99 (F := Ideal)) s1)) (P1.ga 1 3) = aTile P1 (blockNo a 1#32) s1 1 3 64 768 896 slices_S128x1024_o64_768_S64x128 slices_S128x1024_o64_896_S64x128 := rfl

theorem pay1_g0 : k0_pay122 (F := Ideal) (P1.gs 0) (k0_pay119 (k0_pay115 P1.v) (k0_pay116 P1.v) P1.lng P1.lnb (P1.w 0) (P1.bt 0) (P1.u 0)) (k0_pay120 (P1.gs 0)) (k0_pay121 (F := Ideal)) = gTile P1 0 := rfl

theorem pay1_g1 : k0_pay123 (F := Ideal) (k0_pay117 (k0_pay115 P1.v) (k0_pay116 P1.v) P1.lng P1.lnb) k0_pay118 (P1.w 1) (P1.bt 1) (P1.gs 1) (P1.u 1) = gTile P1 1 := rfl

theorem pay1_g2 : k0_pay125 (F := Ideal) (k0_pay117 (k0_pay115 P1.v) (k0_pay116 P1.v) P1.lng P1.lnb) (k0_pay124 k0_pay118 (P1.w 2)) (P1.bt 2) (P1.gs 2) (P1.u 2) = gTile P1 2 := rfl

theorem pay1_g3 : k0_pay127 (F := Ideal) (P1.gs 3) (k0_pay126 (k0_pay117 (k0_pay115 P1.v) (k0_pay116 P1.v) P1.lng P1.lnb) k0_pay118 (P1.w 3) (P1.bt 3) (P1.u 3)) = gTile P1 3 := rfl

theorem pay1_g4 : k0_pay128 (F := Ideal) (k0_pay117 (k0_pay115 P1.v) (k0_pay116 P1.v) P1.lng P1.lnb) k0_pay118 (P1.w 4) (P1.bt 4) (P1.gs 4) (P1.u 4) = gTile P1 4 := rfl

theorem pay1_g5 : k0_pay129 (F := Ideal) (k0_pay117 (k0_pay115 P1.v) (k0_pay116 P1.v) P1.lng P1.lnb) k0_pay118 (P1.w 5) (P1.bt 5) (P1.gs 5) (P1.u 5) = gTile P1 5 := rfl

theorem pay1_g6 : k0_pay132 (F := Ideal) (k0_pay130 (k0_pay117 (k0_pay115 P1.v) (k0_pay116 P1.v) P1.lng P1.lnb) k0_pay118 (P1.w 6)) (k0_pay131 (P1.bt 6)) (P1.gs 6) (P1.u 6) = gTile P1 6 := rfl

end Stores

end Cert.MixerSoft
end
-- ==== Proof.MixerReadsF.lean ====
/-
  The loads of the mixer's forward pass on real numbers.
-/
module

public import proofs.«01_k».proof.Proof.Gen.Kernel4Ideal.Value
public import Idealize.ShloMosaic.Lib.Pipeline.ValueKit
public import Idealize.ShloMosaic.Lib.Pipeline.ReadBack
public import proofs.«01_k».proof.Proof.MixerPayF

@[expose] public section

set_option maxRecDepth 16384
set_option maxHeartbeats 4000000
set_option backward.proofsInPublic true
noncomputable section
namespace Cert.Kernel4Ideal.Reads
open Idealize.ShloMosaic Idealize.ShloMosaic.TcCoe Idealize.SL.Sem Idealize.ShloMosaic.Pointwise Cert.Reals Cert.MixerMath
open Cert.MixerModel Cert.Kernel4Ideal Cert.Kernel4Ideal.Gen Cert.Kernel3Ideal.Tiles Cert.MixerSoft

theorem idx (t : Fin cfg0.N) : win0_0.index t = ![t.val, 0] ∧ win0_1.index t = ![2 * t.val - 1, 4] ∧ win0_2.index t = ![0, 0, 0]
    ∧ win0_3.index t = ![0, 0] ∧ win0_4.index t = ![0, 0] ∧ win0_5.index t = ![0, 0, 0] ∧ win0_6.index t = ![0, 0] := by
  revert t; decide +kernel

variable (m : (ℓ : Loc nD τ sig) → Buf (Elt Ideal) ℓ) (c : Dev nD)

theorem blk0 (t : Fin cfg0.N) (r : Fin 256) (k : Fin 5376) (h : t.val * 256 + r.val < 2048) :
    iblk m c 0 t (ix2 r k) = m ((c : Thread nD τ).loc main_arg0) (ix2 ⟨t.val * 256 + r.val, h⟩ k) := by
  blk_ext! [Gen.iblk, Gen.V, idx t]

theorem blk1 (t : Fin cfg0.N) (r : Fin 128) (k : Fin 256) (h : (2 * t.val - 1) * 128 + r.val < 2048) (h' : 4 * 256 + k.val < 5376) :
    iblk m c 1 t (ix2 r k) = m ((c : Thread nD τ).loc main_arg0) (ix2 ⟨(2 * t.val - 1) * 128 + r.val, h⟩ ⟨4 * 256 + k.val, h'⟩) := by
  blk_ext! [Gen.iblk, Gen.V, idx t]

theorem blk2 (t : Fin cfg0.N) (g : Fin 2) (k : Fin 1024) : iblk m c 2 t (ix3 g 0 k) = V m c main_v3 (ix3 g 0 k) := by
  blk_ext! [Gen.iblk, idx t]

theorem blk3 (t : Fin cfg0.N) (k : Fin 1024) : iblk m c 3 t (ix2 0 k) = m ((c : Thread nD τ).loc main_arg2) (ix2 0 k) := by
  blk_ext! [Gen.iblk, Gen.V, idx t]

theorem blk4 (t : Fin cfg0.N) (k : Fin 1024) : iblk m c 4 t (ix2 0 k) = m ((c : Thread nD τ).loc main_arg3) (ix2 0 k) := by
  blk_ext! [Gen.iblk, Gen.V, idx t]

theorem blk5 (t : Fin cfg0.N) (p : Fin 8) (i j : Fin 128) : iblk m c 5 t (ix3 p i j) = V m c main_v4 (ix3 p i j) := by
  blk_ext! [Gen.iblk, idx t]

theorem blk6 (t : Fin cfg0.N) (i : Fin 128) (p : Fin 8) : iblk m c 6 t (ix2 i p) = V m c main_v7 (ix2 i p) := by
  blk_ext! [Gen.iblk, idx t]

/-! The lines before the call. -/

def hv3 (x : FVec Ideal S1x16 .f32) : FVec Ideal S2x1x1024 .f32 :=
  shapeCast S2x1x1024 (shapeCast S2048 (broadcastInDim S16x128 ![0] bcast_S16_S16x128_0 (shapeCast S16 x shapeCasts_S1x16_S16))
    shapeCasts_S16x128_S2048) shapeCasts_S2048_S2x1x1024

def hv4 (x : FVec Ideal S1x8x128x128 .f32) : FVec Ideal S8x128x128 .f32 := shapeCast S8x128x128 x shapeCasts_S1x8x128x128_S8x128x128

def hv7 (x : FVec Ideal S1x8x128 .f32) : FVec Ideal S128x8 .f32 :=
  transpose S128x8 [1, 0] (shapeCast S8x128 (shapeCast S1x1x1x1024 x shapeCasts_S1x8x128_S1x1x1x1024) shapeCasts_S1x1x1x1024_S8x128) transposes_S8x128_S128x8_1_0

theorem at_v3 : V m c main_v3 = hv3 (m ((c : Thread nD τ).loc main_arg1)) := by
  unfold_abbrev_sides
  after_results
  rfl

theorem at_v4 : V m c main_v4 = hv4 (m ((c : Thread nD τ).loc main_arg4)) := by
  unfold_abbrev_sides
  after_results
  rfl

theorem at_v7 : V m c main_v7 = hv7 (m ((c : Thread nD τ).loc main_arg5)) := by
  unfold_abbrev_sides
  after_results
  rfl

/-- The arguments are the model's numbers. -/
structure Args (M : Data) : Prop where
  z : ∀ (i : Fin 2048) (k : Fin 5376), m ((c : Thread nD τ).loc main_arg0) (ix2 i k) = ((M.Z i.val k.val : ℝ) : EReal)
  sk : ∀ h : Fin 16, m ((c : Thread nD τ).loc main_arg1) (ix2 0 h) = ((M.sk h.val : ℝ) : EReal)
  g : ∀ k : Fin 1024, m ((c : Thread nD τ).loc main_arg2) (ix2 0 k) = ((M.G k : ℝ) : EReal)
  b : ∀ k : Fin 1024, m ((c : Thread nD τ).loc main_arg3) (ix2 0 k) = ((M.B k : ℝ) : EReal)
  w : ∀ (p : Fin 8) (t s : Fin 128), m ((c : Thread nD τ).loc main_arg4) (ix4 0 p t s) = ((M.W p t s : ℝ) : EReal)
  bi : ∀ (p : Fin 8) (t : Fin 128), m ((c : Thread nD τ).loc main_arg5) (ix3 0 p t) = ((M.b p t : ℝ) : EReal)

/-- What a step loads for its block `b`; what the backward pass alone loads is taken from the model. -/
def part (M : Data) (t : Fin cfg0.N) (b : Fin 2) (before : FVec Ideal S128x256 .f32) : Parts where
  before := before
  own := View.ld (iblk m c 0 t) (Rect.unit ![128 * b.val, 1024] ![128, 256] (by intro a; fin_cases a <;> simp; omega))
  q g p := View.ld (iblk m c 0 t) (Rect.unit ![128 * b.val, 512 * g.val + 128 * p.val] ![128, 128] (by intro a; fin_cases a <;> simp <;> omega))
  ga g p := View.ld (iblk m c 0 t) (Rect.unit ![128 * b.val, 1280 + 512 * g.val + 128 * p.val] ![128, 128] (by intro a; fin_cases a <;> simp <;> omega))
  da g p := fun x => ((M.DA (128 * (2 * t.val + b.val) + (x 0).val) (512 * g.val + 128 * p.val + (x 1).val) : ℝ) : EReal)
  prob g := fun x => ((M.P (2 * t.val + b.val) g ⟨(x 2).val / 128, Nat.div_lt_of_lt_mul (x 2).isLt⟩ ⟨(x 2).val % 128, Nat.mod_lt _ (by norm_num)⟩ (x 1) : ℝ) : EReal)
  sink g := fun x => ((M.Ps (2 * t.val + b.val) g ⟨(x 2).val / 128, Nat.div_lt_of_lt_mul (x 2).isLt⟩ ⟨(x 2).val % 128, Nat.mod_lt _ (by norm_num)⟩ : ℝ) : EReal)
  v := View.ld (iblk m c 0 t) (Rect.unit ![128 * b.val, 3328] ![128, 1024] (by intro a; fin_cases a <;> simp; omega))
  lng := iblk m c 3 t
  lnb := iblk m c 4 t
  w p := View.ld (iblk m c 5 t) (Rect.unit ![p.val, 0, 0] ![1, 128, 128] (by intro a; fin_cases a <;> simp <;> omega))
  wt p := fun x => ((M.W p (x 2) (x 1) : ℝ) : EReal)
  bt p := View.ld (iblk m c 6 t) (Rect.unit ![0, p.val] ![128, 1] (by intro a; fin_cases a <;> simp <;> omega))
  u p := View.ld (iblk m c 0 t) (Rect.unit ![128 * b.val, 2304 + 128 * p.val] ![128, 128] (by intro a; fin_cases a <;> simp <;> omega))
  gs p := View.ld (iblk m c 0 t) (Rect.unit ![128 * b.val, 4352 + 128 * p.val] ![128, 128] (by intro a; fin_cases a <;> simp <;> omega))
  du p := fun x => ((M.du (2 * t.val + b.val) p (x 0) (x 1) : ℝ) : EReal)

def part0 (M : Data) (t : Fin cfg0.N) : Parts := part m c M t 0 (iblk m c 1 t)

def part1 (M : Data) (t : Fin cfg0.N) : Parts :=
  part m c M t 1 (View.ld (iblk m c 0 t) (Rect.unit ![0, 1024] ![128, 256] inb_S256x5376_S128x256_0_1024))

/-- The sinks of a key/value head's query heads. -/
def sinkOf (t : Fin cfg0.N) (g : Fin 2) : FVec Ideal S1x1x1024 .f32 :=
  View.ld (iblk m c 2 t) (Rect.unit ![g.val, 0, 0] ![1, 1, 1024] (by intro a; fin_cases a <;> simp; omega))

/-- A tile, read at an index. -/
theorem ld2 {a b a' b' : ℕ} (X : (⟨2, ![a, b]⟩ : Shape).Idx → Elt Ideal .f32) (o0 o1 : ℕ) (inb) (i : Fin a') (j : Fin b') (h0 : o0 + i.val < a) (h1 : o1 + j.val < b) :
    View.ld (Val := Elt Ideal) (e' := .f32) X (Rect.unit ![o0, o1] ![a', b'] inb) (ix2 i j) = X (ix2 ⟨o0 + i.val, h0⟩ ⟨o1 + j.val, h1⟩) :=
  View.ld_unit_apply_of X _ _ _ _ _ (fun a => by fin_cases a <;> rfl)

theorem ld3 {a b d : ℕ} (X : (⟨3, ![a, b, d]⟩ : Shape).Idx → Elt Ideal .f32) (p : Fin a) (inb) (i : Fin b) (j : Fin d) :
    View.ld (Val := Elt Ideal) (e' := .f32) X (Rect.unit ![p.val, 0, 0] ![1, b, d] inb) (ix3 0 i j) = X (ix3 p i j) :=
  View.ld_unit_apply_of X _ _ _ _ _ (fun a => by fin_cases a <;> first | rfl | exact (Nat.zero_add _).symm)

variable {m c} {M : Data} (H : Args m c M) (t : Fin cfg0.N)
include H

theorem z_at (r : Fin 256) (k : Fin 5376) : iblk m c 0 t (ix2 r k) = ((M.Z (256 * t.val + r.val) k.val : ℝ) : EReal) :=
  have ht : t.val < 8 := t.isLt
  (blk0 m c t r k (by omega)).trans ((H.z _ _).trans (congrArg (fun i => ((M.Z i k.val : ℝ) : EReal)) (by dsimp only; omega)))

theorem sink_at (g : Fin 2) (j : Fin 8) (i : Fin 128) : sinkRow (sinkOf m c t g) (ix2 0 (col j i)) = ((M.sk (8 * g.val + j.val) : ℝ) : EReal) := by
  have e : sinkRow (sinkOf m c t g) (ix2 0 (col j i)) = sinkOf m c t g (ix3 0 0 (col j i)) := by
    generalize sinkOf m c t g = x
    pointwise [sinkRow]
  have a : ∀ x : FVec Ideal S1x16 .f32, hv3 x (ix3 g 0 (col j i)) = x (ix2 0 ⟨8 * g.val + j.val, by omega⟩) := fun x => by
    pointwise [hv3, col]
    exact congrArg (fun k => x (ix2 0 k)) (Fin.ext (by dsimp only; omega))
  exact e.trans ((ld3 _ g _ 0 (col j i)).trans ((blk2 m c t g _).trans ((congrFun (at_v3 m c) _).trans ((a _).trans (H.sk _)))))

theorem w_at (p : Fin 8) (i s : Fin 128) : iblk m c 5 t (ix3 p i s) = ((M.W p i s : ℝ) : EReal) :=
  (blk5 m c t p i s).trans ((congrFun (at_v4 m c) _).trans ((show hv4 _ (ix3 p i s) = m ((c : Thread nD τ).loc main_arg4) (ix4 0 p i s) by pointwise [hv4]).trans (H.w p i s)))

theorem bt_at (i : Fin 128) (p : Fin 8) : iblk m c 6 t (ix2 i p) = ((M.b p i : ℝ) : EReal) :=
  (blk6 m c t i p).trans ((congrFun (at_v7 m c) _).trans ((show hv7 _ (ix2 i p) = m ((c : Thread nD τ).loc main_arg5) (ix3 0 p i) by pointwise [hv7]).trans (H.bi p i)))

/-- A load of the rows of a block, on real numbers. -/
theorem tile_at {d : ℕ} (b : Fin 2) (o : ℕ) (inb) (i : Fin 128) (e : Fin d) (h : o + e.val < 5376) (k : ℕ) (hk : k = o + e.val) :
    View.ld (Val := Elt Ideal) (e' := .f32) (iblk m c 0 t) (Rect.unit ![128 * b.val, o] ![128, d] inb) (ix2 i e)
      = ((M.Z (128 * (2 * t.val + b.val) + i.val) k : ℝ) : EReal) :=
  (ld2 (iblk m c 0 t) _ _ _ i e (by omega) h).trans ((z_at H t _ _).trans
    (congrArg₂ (fun i k => ((M.Z i k : ℝ) : EReal)) (by dsimp only; omega) hk.symm))

theorem part_holds (b : Fin 2) (B : FVec Ideal S128x256 .f32)
    (hB : ∀ (s : Fin 128) (k : Fin 256), B (ix2 s k) = ((M.Z (128 * (2 * t.val + b.val - 1) + s.val) (1024 + k.val) : ℝ) : EReal)) :
    Cert.Kernel3Ideal.Block.Holds (part m c M t b B) M (2 * t.val + b.val) where
  before := hB
  own s k := tile_at H t b 1024 _ s k (by omega) _ rfl
  q g p s e := tile_at H t b (512 * g.val + 128 * p.val) _ s e (by omega) _ rfl
  ga g p s e := tile_at H t b (1280 + 512 * g.val + 128 * p.val) _ s e (by omega) _ rfl
  da g p s e := rfl
  prob g s j i := by
    have e1 : (j.val * 128 + i.val) / 128 = j.val := by omega
    have e2 : (j.val * 128 + i.val) % 128 = i.val := by omega
    exact congrArg₂ (fun j i => ((M.P (2 * t.val + b.val) g j i s : ℝ) : EReal)) (Fin.ext e1) (Fin.ext e2)
  sink g j i := by
    have e1 : (j.val * 128 + i.val) / 128 = j.val := by omega
    have e2 : (j.val * 128 + i.val) % 128 = i.val := by omega
    exact congrArg₂ (fun j i => ((M.Ps (2 * t.val + b.val) g j i : ℝ) : EReal)) (Fin.ext e1) (Fin.ext e2)
  v s k := tile_at H t b 3328 _ s k (by omega) _ rfl
  lng k := (blk3 m c t k).trans (H.g k)
  lnb k := (blk4 m c t k).trans (H.b k)
  w p i s := (ld3 _ p _ i s).trans (w_at H t p i s)
  wt p i s := rfl
  bt p i := (ld2 (iblk m c 6 t) 0 p.val _ i 0 (by omega) (by simp)).trans
    ((bt_at H t _ _).trans (congrArg (fun i => ((M.b p i : ℝ) : EReal)) (Fin.ext (by dsimp only; omega))))
  u p s e := tile_at H t b (2304 + 128 * p.val) _ s e (by omega) _ rfl
  gs p s e := tile_at H t b (4352 + 128 * p.val) _ s e (by omega) _ rfl
  du p s e := rfl

theorem part0_holds : Cert.Kernel3Ideal.Block.Holds (part0 m c M t) M (2 * t.val + 0) :=
  part_holds H t 0 _ fun s k =>
    have ht : t.val < 8 := t.isLt
    (blk1 m c t s k (by omega) (by omega)).trans ((H.z _ _).trans
      (congrArg₂ (fun i k => ((M.Z i k : ℝ) : EReal)) (by simp; omega) (by dsimp only)))

theorem part1_holds : Cert.Kernel3Ideal.Block.Holds (part1 m c M t) M (2 * t.val + 1) :=
  part_holds H t 1 _ fun s k =>
    (tile_at H t 0 1024 _ s k (by omega) _ rfl).trans (congrArg (fun i => ((M.Z i _ : ℝ) : EReal)) (by simp))

end Cert.Kernel4Ideal.Reads
end
-- ==== Proof.MixerTilesF.lean ====
/-
  The numbers of the tiles that a step of the mixer's forward pass stores.
-/
module

public import proofs.«01_k».proof.Proof.MixerReadsF

@[expose] public section

set_option maxRecDepth 65536
set_option maxHeartbeats 4000000
set_option backward.proofsInPublic true
noncomputable section
namespace Cert.Kernel4Ideal.Reads
open Idealize.ShloMosaic Idealize.ShloMosaic.TcCoe Idealize.SL.Sem Idealize.ShloMosaic.Pointwise Cert.Reals Cert.MixerMath
open Cert.MixerModel Cert.Kernel4Ideal Cert.Kernel4Ideal.Gen Cert.MixerSoft
open Cert.Kernel3Ideal.Tiles

variable {m : (ℓ : Loc nD τ sig) → Buf (Elt Ideal) ℓ} {c : Dev nD} {M : Data} (H : Args m c M) (t : Fin cfg0.N)

theorem point (t : Fin cfg0.N) : (grid0.coords t 0).val = t.val := by
  revert t; decide +kernel

theorem blockNo_point (b : Fin 2) : blockNo (BitVec.ofNat 32 (grid0.coords t 0).val) (BitVec.ofNat 32 b.val) = BitVec.ofNat 32 (2 * t.val + b.val) := by
  rw [point t]; exact blockNo_apply t b

include H

theorem rows0 (g : Fin 2) (p : Fin 4) (r k l : ℕ) (hk hl) (er : r = 64 * g.val) (ek : k = 256 * p.val) (el : l = 256 * p.val + 128) (i e : Fin 128) :
    aTile (part0 m c M t) (blockNo (BitVec.ofNat 32 (grid0.coords t 0).val) 0#32) (sinkOf m c t g) g p r k l hk hl (ix2 i e)
      = ((M.A (2 * t.val + 0) i ⟨512 * g.val + 128 * p.val + e.val, by omega⟩ : ℝ) : EReal) :=
  have ht : t.val < 8 := t.isLt
  (congrArg (fun n => aTile (part0 m c M t) n (sinkOf m c t g) g p r k l hk hl (ix2 i e)) (blockNo_point t 0)).trans
    (aTile_at _ (part0_holds H t) (by omega) g (sink_at H t g) p r k l hk hl er ek el i e)

theorem gates0 (p : Fin 8) (i e : Fin 128) :
    gTile (part0 m c M t) p (ix2 i e) = ((M.A (2 * t.val + 0) i ⟨1024 + (128 * p.val + e.val), by omega⟩ : ℝ) : EReal) :=
  gTile_at (part0_holds H t) p i e

theorem probs0 (g : Fin 2) (k : Fin 256) (j : Fin 8) (i : Fin 128) :
    probOut (part0 m c M t) (blockNo (BitVec.ofNat 32 (grid0.coords t 0).val) 0#32) (sinkOf m c t g) g (ix4 0 0 k (col j i))
      = ((M.P (2 * t.val + 0) g j i k : ℝ) : EReal) :=
  have ht : t.val < 8 := t.isLt
  (congrArg (fun n => probOut (part0 m c M t) n (sinkOf m c t g) g (ix4 0 0 k (col j i))) (blockNo_point t 0)).trans
    (probOut_at _ (part0_holds H t) (by omega) g (sink_at H t g) k j i)

theorem shares0 (g : Fin 2) (j : Fin 8) (i : Fin 128) :
    shareOut (part0 m c M t) (blockNo (BitVec.ofNat 32 (grid0.coords t 0).val) 0#32) (sinkOf m c t g) g (ix3 0 0 (col j i))
      = ((M.Ps (2 * t.val + 0) g j i : ℝ) : EReal) :=
  have ht : t.val < 8 := t.isLt
  (congrArg (fun n => shareOut (part0 m c M t) n (sinkOf m c t g) g (ix3 0 0 (col j i))) (blockNo_point t 0)).trans
    (shareOut_at _ (part0_holds H t) (by omega) g (sink_at H t g) j i)

theorem rows1 (g : Fin 2) (p : Fin 4) (r k l : ℕ) (hk hl) (er : r = 64 * g.val) (ek : k = 256 * p.val) (el : l = 256 * p.val + 128) (i e : Fin 128) :
    aTile (part1 m c M t) (blockNo (BitVec.ofNat 32 (grid0.coords t 0).val) 1#32) (sinkOf m c t g) g p r k l hk hl (ix2 i e)
      = ((M.A (2 * t.val + 1) i ⟨512 * g.val + 128 * p.val + e.val, by omega⟩ : ℝ) : EReal) :=
  have ht : t.val < 8 := t.isLt
  (congrArg (fun n => aTile (part1 m c M t) n (sinkOf m c t g) g p r k l hk hl (ix2 i e)) (blockNo_point t 1)).trans
    (aTile_at _ (part1_holds H t) (by omega) g (sink_at H t g) p r k l hk hl er ek el i e)

theorem gates1 (p : Fin 8) (i e : Fin 128) :
    gTile (part1 m c M t) p (ix2 i e) = ((M.A (2 * t.val + 1) i ⟨1024 + (128 * p.val + e.val), by omega⟩ : ℝ) : EReal) :=
  gTile_at (part1_holds H t) p i e

theorem probs1 (g : Fin 2) (k : Fin 256) (j : Fin 8) (i : Fin 128) :
    probOut (part1 m c M t) (blockNo (BitVec.ofNat 32 (grid0.coords t 0).val) 1#32) (sinkOf m c t g) g (ix4 0 0 k (col j i))
      = ((M.P (2 * t.val + 1) g j i k : ℝ) : EReal) :=
  have ht : t.val < 8 := t.isLt
  (congrArg (fun n => probOut (part1 m c M t) n (sinkOf m c t g) g (ix4 0 0 k (col j i))) (blockNo_point t 1)).trans
    (probOut_at _ (part1_holds H t) (by omega) g (sink_at H t g) k j i)

theorem shares1 (g : Fin 2) (j : Fin 8) (i : Fin 128) :
    shareOut (part1 m c M t) (blockNo (BitVec.ofNat 32 (grid0.coords t 0).val) 1#32) (sinkOf m c t g) g (ix3 0 0 (col j i))
      = ((M.Ps (2 * t.val + 1) g j i : ℝ) : EReal) :=
  have ht : t.val < 8 := t.isLt
  (congrArg (fun n => shareOut (part1 m c M t) n (sinkOf m c t g) g (ix3 0 0 (col j i))) (blockNo_point t 1)).trans
    (shareOut_at _ (part1_holds H t) (by omega) g (sink_at H t g) j i)

end Cert.Kernel4Ideal.Reads
end
-- ==== Proof.MixerStepF.lean ====
/-
  What a step of the mixer's forward pass stores: the mixed rows, the attention weights and the sinks' weights.
-/
module

public import proofs.«01_k».proof.Proof.MixerTilesF
public import proofs.«01_k».proof.Proof.MixerDz

@[expose] public section

set_option maxRecDepth 65536
set_option maxHeartbeats 4000000
set_option backward.proofsInPublic true
noncomputable section
namespace Cert.Kernel4Ideal.Reads
open Idealize.ShloMosaic Idealize.ShloMosaic.TcCoe Idealize.SL.Sem Idealize.ShloMosaic.Pointwise Cert.Reals Cert.MixerMath
open Cert.MixerModel Cert.Kernel4Ideal Cert.Kernel4Ideal.Gen Cert.MixerSoft
open Cert.Kernel3Ideal.Tiles

variable {m : (ℓ : Loc nD τ sig) → Buf (Elt Ideal) ℓ} {c : Dev nD} {M : Data} (H : Args m c M) (t : Fin cfg0.N)

include H

/-- The rows a step stores. -/
theorem rows_step (X : Fin 256 → Fin 2048 → EReal)
    (R0 : ∀ (i : Fin 128) k, ((M.A (2 * t.val + 0) i k : ℝ) : EReal) = X ⟨i.val, by omega⟩ k)
    (R1 : ∀ (i : Fin 128) k, ((M.A (2 * t.val + 1) i k : ℝ) : EReal) = X ⟨128 + i.val, by omega⟩ k) :
    (outsAt0 m c t).1 = fun y => X (y 0) (y 1) := by
  unfold outsAt0
  dsimp only
  frame_out
  try simp (disch := decide) only [↓ View.readCov_skip, ↓ View.readCov_cons_toLoadRect, ↓ View.readCov_fill]
  try simp only [read_unread_whole]
  funext y
  canon_tiles x h using View.cover_of_tiledBy _ ![128, 128] (by sl_kernel_rfl) y
  · exact (congrFun (pay1_g7 (part1 m c M t)) x).trans ((piece _ _ (fun i e => (gates1 H t 7 i e).trans (R1 i _)) x).trans (congrArg₂ X (Fin.ext (by dsimp only; omega)) (Fin.ext (by dsimp only; omega))))
  · exact (congrFun (pay1_g6 (part1 m c M t)) x).trans ((piece _ _ (fun i e => (gates1 H t 6 i e).trans (R1 i _)) x).trans (congrArg₂ X (Fin.ext (by dsimp only; omega)) (Fin.ext (by dsimp only; omega))))
  · exact (congrFun (pay1_g5 (part1 m c M t)) x).trans ((piece _ _ (fun i e => (gates1 H t 5 i e).trans (R1 i _)) x).trans (congrArg₂ X (Fin.ext (by dsimp only; omega)) (Fin.ext (by dsimp only; omega))))
  · exact (congrFun (pay1_g4 (part1 m c M t)) x).trans ((piece _ _ (fun i e => (gates1 H t 4 i e).trans (R1 i _)) x).trans (congrArg₂ X (Fin.ext (by dsimp only; omega)) (Fin.ext (by dsimp only; omega))))
  · exact (congrFun (pay1_g3 (part1 m c M t)) x).trans ((piece _ _ (fun i e => (gates1 H t 3 i e).trans (R1 i _)) x).trans (congrArg₂ X (Fin.ext (by dsimp only; omega)) (Fin.ext (by dsimp only; omega))))
  · exact (congrFun (pay1_g2 (part1 m c M t)) x).trans ((piece _ _ (fun i e => (gates1 H t 2 i e).trans (R1 i _)) x).trans (congrArg₂ X (Fin.ext (by dsimp only; omega)) (Fin.ext (by dsimp only; omega))))
  · exact (congrFun (pay1_g1 (part1 m c M t)) x).trans ((piece _ _ (fun i e => (gates1 H t 1 i e).trans (R1 i _)) x).trans (congrArg₂ X (Fin.ext (by dsimp only; omega)) (Fin.ext (by dsimp only; omega))))
  · exact (congrFun (pay1_g0 (part1 m c M t)) x).trans ((piece _ _ (fun i e => (gates1 H t 0 i e).trans (R1 i _)) x).trans (congrArg₂ X (Fin.ext (by dsimp only; omega)) (Fin.ext (by dsimp only; omega))))
  · exact (congrFun (pay1_a13 (BitVec.ofNat 32 (grid0.coords t 0).val) (part1 m c M t) (sinkOf m c t 1)) x).trans ((piece _ _ (fun i e => (rows1 H t 1 3 _ _ _ _ _ rfl rfl rfl i e).trans (R1 i _)) x).trans (congrArg₂ X (Fin.ext (by dsimp only; omega)) (Fin.ext (by dsimp only; omega))))
  · exact (congrFun (pay1_a12 (BitVec.ofNat 32 (grid0.coords t 0).val) (part1 m c M t) (sinkOf m c t 1)) x).trans ((piece _ _ (fun i e => (rows1 H t 1 2 _ _ _ _ _ rfl rfl rfl i e).trans (R1 i _)) x).trans (congrArg₂ X (Fin.ext (by dsimp only; omega)) (Fin.ext (by dsimp only; omega))))
  · exact (congrFun (pay1_a11 (BitVec.ofNat 32 (grid0.coords t 0).val) (part1 m c M t) (sinkOf m c t 1)) x).trans ((piece _ _ (fun i e => (rows1 H t 1 1 _ _ _ _ _ rfl rfl rfl i e).trans (R1 i _)) x).trans (congrArg₂ X (Fin.ext (by dsimp only; omega)) (Fin.ext (by dsimp only; omega))))
  · exact (congrFun (pay1_a10 (BitVec.ofNat 32 (grid0.coords t 0).val) (part1 m c M t) (sinkOf m c t 1)) x).trans ((piece _ _ (fun i e => (rows1 H t 1 0 _ _ _ _ _ rfl rfl rfl i e).trans (R1 i _)) x).trans (congrArg₂ X (Fin.ext (by dsimp only; omega)) (Fin.ext (by dsimp only; omega))))
  · exact (congrFun (pay1_a03 (BitVec.ofNat 32 (grid0.coords t 0).val) (part1 m c M t) (sinkOf m c t 0)) x).trans ((piece _ _ (fun i e => (rows1 H t 0 3 _ _ _ _ _ rfl rfl rfl i e).trans (R1 i _)) x).trans (congrArg₂ X (Fin.ext (by dsimp only; omega)) (Fin.ext (by dsimp only; omega))))
  · exact (congrFun (pay1_a02 (BitVec.ofNat 32 (grid0.coords t 0).val) (part1 m c M t) (sinkOf m c t 0)) x).trans ((piece _ _ (fun i e => (rows1 H t 0 2 _ _ _ _ _ rfl rfl rfl i e).trans (R1 i _)) x).trans (congrArg₂ X (Fin.ext (by dsimp only; omega)) (Fin.ext (by dsimp only; omega))))
  · exact (congrFun (pay1_a01 (BitVec.ofNat 32 (grid0.coords t 0).val) (part1 m c M t) (sinkOf m c t 0)) x).trans ((piece _ _ (fun i e => (rows1 H t 0 1 _ _ _ _ _ rfl rfl rfl i e).trans (R1 i _)) x).trans (congrArg₂ X (Fin.ext (by dsimp only; omega)) (Fin.ext (by dsimp only; omega))))
  · exact (congrFun (pay1_a00 (BitVec.ofNat 32 (grid0.coords t 0).val) (part1 m c M t) (sinkOf m c t 0)) x).trans ((piece _ _ (fun i e => (rows1 H t 0 0 _ _ _ _ _ rfl rfl rfl i e).trans (R1 i _)) x).trans (congrArg₂ X (Fin.ext (by dsimp only; omega)) (Fin.ext (by dsimp only; omega))))
  · exact (congrFun (pay0_g7 (part0 m c M t)) x).trans ((piece _ _ (fun i e => (gates0 H t 7 i e).trans (R0 i _)) x).trans (congrArg₂ X (Fin.ext (by dsimp only; omega)) (Fin.ext (by dsimp only; omega))))
  · exact (congrFun (pay0_g6 (part0 m c M t)) x).trans ((piece _ _ (fun i e => (gates0 H t 6 i e).trans (R0 i _)) x).trans (congrArg₂ X (Fin.ext (by dsimp only; omega)) (Fin.ext (by dsimp only; omega))))
  · exact (congrFun (pay0_g5 (part0 m c M t)) x).trans ((piece _ _ (fun i e => (gates0 H t 5 i e).trans (R0 i _)) x).trans (congrArg₂ X (Fin.ext (by dsimp only; omega)) (Fin.ext (by dsimp only; omega))))
  · exact (congrFun (pay0_g4 (part0 m c M t)) x).trans ((piece _ _ (fun i e => (gates0 H t 4 i e).trans (R0 i _)) x).trans (congrArg₂ X (Fin.ext (by dsimp only; omega)) (Fin.ext (by dsimp only; omega))))
  · exact (congrFun (pay0_g3 (part0 m c M t)) x).trans ((piece _ _ (fun i e => (gates0 H t 3 i e).trans (R0 i _)) x).trans (congrArg₂ X (Fin.ext (by dsimp only; omega)) (Fin.ext (by dsimp only; omega))))
  · exact (congrFun (pay0_g2 (part0 m c M t)) x).trans ((piece _ _ (fun i e => (gates0 H t 2 i e).trans (R0 i _)) x).trans (congrArg₂ X (Fin.ext (by dsimp only; omega)) (Fin.ext (by dsimp only; omega))))
  · exact (congrFun (pay0_g1 (part0 m c M t)) x).trans ((piece _ _ (fun i e => (gates0 H t 1 i e).trans (R0 i _)) x).trans (congrArg₂ X (Fin.ext (by dsimp only; omega)) (Fin.ext (by dsimp only; omega))))
  · exact (congrFun (pay0_g0 (part0 m c M t)) x).trans ((piece _ _ (fun i e => (gates0 H t 0 i e).trans (R0 i _)) x).trans (congrArg₂ X (Fin.ext (by dsimp only; omega)) (Fin.ext (by dsimp only; omega))))
  · exact (congrFun (pay0_a13 (grid0.coords t) (part0 m c M t) (sinkOf m c t 1)) x).trans ((piece _ _ (fun i e => (rows0 H t 1 3 _ _ _ _ _ rfl rfl rfl i e).trans (R0 i _)) x).trans (congrArg₂ X (Fin.ext (by dsimp only; omega)) (Fin.ext (by dsimp only; omega))))
  · exact (congrFun (pay0_a12 (grid0.coords t) (part0 m c M t) (sinkOf m c t 1)) x).trans ((piece _ _ (fun i e => (rows0 H t 1 2 _ _ _ _ _ rfl rfl rfl i e).trans (R0 i _)) x).trans (congrArg₂ X (Fin.ext (by dsimp only; omega)) (Fin.ext (by dsimp only; omega))))
  · exact (congrFun (pay0_a11 (grid0.coords t) (part0 m c M t) (sinkOf m c t 1)) x).trans ((piece _ _ (fun i e => (rows0 H t 1 1 _ _ _ _ _ rfl rfl rfl i e).trans (R0 i _)) x).trans (congrArg₂ X (Fin.ext (by dsimp only; omega)) (Fin.ext (by dsimp only; omega))))
  · exact (congrFun (pay0_a10 (grid0.coords t) (part0 m c M t) (sinkOf m c t 1)) x).trans ((piece _ _ (fun i e => (rows0 H t 1 0 _ _ _ _ _ rfl rfl rfl i e).trans (R0 i _)) x).trans (congrArg₂ X (Fin.ext (by dsimp only; omega)) (Fin.ext (by dsimp only; omega))))
  · exact (congrFun (pay0_a03 (grid0.coords t) (part0 m c M t) (sinkOf m c t 0)) x).trans ((piece _ _ (fun i e => (rows0 H t 0 3 _ _ _ _ _ rfl rfl rfl i e).trans (R0 i _)) x).trans (congrArg₂ X (Fin.ext (by dsimp only; omega)) (Fin.ext (by dsimp only; omega))))
  · exact (congrFun (pay0_a02 (grid0.coords t) (part0 m c M t) (sinkOf m c t 0)) x).trans ((piece _ _ (fun i e => (rows0 H t 0 2 _ _ _ _ _ rfl rfl rfl i e).trans (R0 i _)) x).trans (congrArg₂ X (Fin.ext (by dsimp only; omega)) (Fin.ext (by dsimp only; omega))))
  · exact (congrFun (pay0_a01 (grid0.coords t) (part0 m c M t) (sinkOf m c t 0)) x).trans ((piece _ _ (fun i e => (rows0 H t 0 1 _ _ _ _ _ rfl rfl rfl i e).trans (R0 i _)) x).trans (congrArg₂ X (Fin.ext (by dsimp only; omega)) (Fin.ext (by dsimp only; omega))))
  · exact (congrFun (pay0_a00 (grid0.coords t) (part0 m c M t) (sinkOf m c t 0)) x).trans ((piece _ _ (fun i e => (rows0 H t 0 0 _ _ _ _ _ rfl rfl rfl i e).trans (R0 i _)) x).trans (congrArg₂ X (Fin.ext (by dsimp only; omega)) (Fin.ext (by dsimp only; omega))))

end Cert.Kernel4Ideal.Reads
end
-- ==== Proof.MixerStepG.lean ====
/-
  What a step of the mixer's forward pass stores: the attention weights and the sinks' weights.
-/
module

public import proofs.«01_k».proof.Proof.MixerTilesF
public import proofs.«01_k».proof.Proof.MixerDz

@[expose] public section

set_option maxRecDepth 65536
set_option maxHeartbeats 4000000
set_option backward.proofsInPublic true
noncomputable section
namespace Cert.Kernel4Ideal.Reads
open Idealize.ShloMosaic Idealize.ShloMosaic.TcCoe Idealize.SL.Sem Idealize.ShloMosaic.Pointwise Cert.Reals Cert.MixerMath
open Cert.MixerModel Cert.Kernel4Ideal Cert.Kernel4Ideal.Gen Cert.MixerSoft
open Cert.Kernel3Ideal.Tiles

variable {m : (ℓ : Loc nD τ sig) → Buf (Elt Ideal) ℓ} {c : Dev nD} {M : Data} (H : Args m c M) (t : Fin cfg0.N)

/-- A block's attention weight: query head and row in one index. -/
def probAt (M : Data) (n : ℕ) (g : Fin 2) (k : Fin 256) (l : Fin 1024) : EReal :=
  ((M.P n g ⟨l.val / 128, Nat.div_lt_of_lt_mul l.isLt⟩ ⟨l.val % 128, Nat.mod_lt _ (by norm_num)⟩ k : ℝ) : EReal)

/-- A block's weight of a sink. -/
def shareAt (M : Data) (n : ℕ) (g : Fin 2) (l : Fin 1024) : EReal :=
  ((M.Ps n g ⟨l.val / 128, Nat.div_lt_of_lt_mul l.isLt⟩ ⟨l.val % 128, Nat.mod_lt _ (by norm_num)⟩ : ℝ) : EReal)

theorem probAt_eq {n n' : ℕ} {g g' : Fin 2} {k k' : Fin 256} {l l' : Fin 1024} (en : n = n') (eg : g.val = g'.val) (ek : k.val = k'.val)
    (el : l.val = l'.val) : probAt M n g k l = probAt M n' g' k' l' := by
  rw [en, Fin.ext eg, Fin.ext ek, Fin.ext el]

theorem shareAt_eq {n n' : ℕ} {g g' : Fin 2} {l l' : Fin 1024} (en : n = n') (eg : g.val = g'.val) (el : l.val = l'.val) :
    shareAt M n g l = shareAt M n' g' l' := by
  rw [en, Fin.ext eg, Fin.ext el]

/-- A column of a block is a query head and a row. -/
theorem col_split (l : Fin 1024) : l = col ⟨l.val / 128, Nat.div_lt_of_lt_mul l.isLt⟩ ⟨l.val % 128, Nat.mod_lt _ (by norm_num)⟩ :=
  Fin.ext (by show l.val = l.val / 128 * 128 + l.val % 128; omega)

theorem piece4 (T : FVec Ideal S1x1x256x1024 .bf16) (n : ℕ) (g : Fin 2)
    (h : ∀ (k : Fin 256) (j : Fin 8) (i : Fin 128), T (ix4 0 0 k (col j i)) = ((M.P n g j i k : ℝ) : EReal)) (x : S1x1x256x1024.Idx) :
    T x = probAt M n g (x 2) (x 3) := by
  refine (congrArg T ?_).trans (h (x 2) _ _)
  have a0 : (x 0).val < 1 := (x 0).isLt
  have a1 : (x 1).val < 1 := (x 1).isLt
  funext a
  fin_cases a
  · exact Fin.ext (by show (x 0).val = 0; omega)
  · exact Fin.ext (by show (x 1).val = 0; omega)
  · rfl
  · exact col_split (x 3)

theorem piece3 (T : FVec Ideal S1x1x1024 .f32) (n : ℕ) (g : Fin 2)
    (h : ∀ (j : Fin 8) (i : Fin 128), T (ix3 0 0 (col j i)) = ((M.Ps n g j i : ℝ) : EReal)) (l : Fin 1024) :
    T (ix3 0 0 l) = shareAt M n g l :=
  (congrArg (fun l => T (ix3 0 0 l)) (col_split l)).trans (h _ _)

include H

/-- The attention weights a step stores. -/
theorem probs_step : (outsAt0 m c t).2.1 = fun y : S2x2x256x1024.Idx => probAt M (2 * t.val + (y 0).val) (y 1) (y 2) (y 3) := by
  unfold outsAt0
  dsimp only
  frame_out
  try simp (disch := decide) only [↓ View.readCov_skip, ↓ View.readCov_cons_toLoadRect, ↓ View.readCov_fill]
  try simp only [read_unread_whole]
  funext y
  canon_tiles x h using View.cover_of_tiledBy _ ![1, 1, 256, 1024] (by sl_kernel_rfl) y
  · exact (congrFun (pay1_p1 (BitVec.ofNat 32 (grid0.coords t 0).val) (part1 m c M t) (sinkOf m c t 1)) x).trans ((piece4 _ (2 * t.val + 1) 1 (probs1 H t 1) x).trans (probAt_eq (by omega) (by show 1 = (y 1).val; omega) (by omega) (by omega)))
  · exact (congrFun (pay1_p0 (BitVec.ofNat 32 (grid0.coords t 0).val) (part1 m c M t) (sinkOf m c t 0)) x).trans ((piece4 _ (2 * t.val + 1) 0 (probs1 H t 0) x).trans (probAt_eq (by omega) (by show 0 = (y 1).val; omega) (by omega) (by omega)))
  · exact (congrFun (pay0_p1 (grid0.coords t) (part0 m c M t) (sinkOf m c t 1)) x).trans ((piece4 _ (2 * t.val + 0) 1 (probs0 H t 1) x).trans (probAt_eq (by omega) (by show 1 = (y 1).val; omega) (by omega) (by omega)))
  · exact (congrFun (pay0_p0 (grid0.coords t) (part0 m c M t) (sinkOf m c t 0)) x).trans ((piece4 _ (2 * t.val + 0) 0 (probs0 H t 0) x).trans (probAt_eq (by omega) (by show 0 = (y 1).val; omega) (by omega) (by omega)))

/-- The sinks' weights a step stores. -/
theorem shares_step : (outsAt0 m c t).2.2 = fun y : S2x2x1x1024.Idx => shareAt M (2 * t.val + (y 0).val) (y 1) (y 3) := by
  unfold outsAt0
  dsimp only
  frame_out
  try simp (disch := decide) only [↓ View.readCov_skip, ↓ View.readCov_cons_toLoadRect, ↓ View.readCov_fill]
  try simp only [read_unread_whole]
  funext y
  canon_tiles x h using View.cover_of_tiledBy _ ![1, 1, 1, 1024] (by sl_kernel_rfl) y
  · have x0 : (x 0).val < 1 := (x 0).isLt
    have x1 : (x 1).val < 1 := (x 1).isLt
    have k0 : (y 0).val = 1 + (x 0).val := (congrArg (fun z : S2x2x1x1024.Idx => (z 0).val) h).symm.trans
      ((Rect.emb_apply _ x 0).trans (by show 1 + 0 + 1 * (x 0).val = _; omega))
    have k1 : (y 1).val = 1 + (x 1).val := (congrArg (fun z : S2x2x1x1024.Idx => (z 1).val) h).symm.trans
      ((Rect.emb_apply _ x 1).trans (by show 0 + 1 + 1 * (x 1).val = _; omega))
    have k3 : (y 3).val = (x 3).val := (congrArg (fun z : S2x2x1x1024.Idx => (z 3).val) h).symm.trans
      ((Rect.emb_apply _ x 3).trans (by show 0 + 0 + 1 * (x 3).val = _; omega))
    refine (Rect.payAlong_consLift (Rect.unit (s := S2x1x1024) ![1, 0, 0] ![1, 1, 1024] inb_S2x1x1024_S1x1x1024_1_0_0) ![1, 2, 1, 1024] rfl
      (fun i => by fin_cases i <;> rfl) _ _ x (ix3 (0 : Fin 1) (0 : Fin 1) (x 3)) (fun i => by fin_cases i <;> first | rfl | simp)).trans ?_
    exact (congrFun (pay1_s1 (BitVec.ofNat 32 (grid0.coords t 0).val) (part1 m c M t) (sinkOf m c t 1)) _).trans ((piece3 _ (2 * t.val + 1) 1 (shares1 H t 1) (x 3)).trans
      (shareAt_eq (by omega) (by show 1 = (y 1).val; omega) k3.symm))
  · have x0 : (x 0).val < 1 := (x 0).isLt
    have x1 : (x 1).val < 1 := (x 1).isLt
    have k0 : (y 0).val = 1 + (x 0).val := (congrArg (fun z : S2x2x1x1024.Idx => (z 0).val) h).symm.trans
      ((Rect.emb_apply _ x 0).trans (by show 1 + 0 + 1 * (x 0).val = _; omega))
    have k1 : (y 1).val = 0 + (x 1).val := (congrArg (fun z : S2x2x1x1024.Idx => (z 1).val) h).symm.trans
      ((Rect.emb_apply _ x 1).trans (by show 0 + 0 + 1 * (x 1).val = _; omega))
    have k3 : (y 3).val = (x 3).val := (congrArg (fun z : S2x2x1x1024.Idx => (z 3).val) h).symm.trans
      ((Rect.emb_apply _ x 3).trans (by show 0 + 0 + 1 * (x 3).val = _; omega))
    refine (Rect.payAlong_consLift (Rect.unit (s := S2x1x1024) ![0, 0, 0] ![1, 1, 1024] inb_S2x1x1024_S1x1x1024_0_0_0) ![1, 2, 1, 1024] rfl
      (fun i => by fin_cases i <;> rfl) _ _ x (ix3 (0 : Fin 1) (0 : Fin 1) (x 3)) (fun i => by fin_cases i <;> first | rfl | simp)).trans ?_
    exact (congrFun (pay1_s0 (BitVec.ofNat 32 (grid0.coords t 0).val) (part1 m c M t) (sinkOf m c t 0)) _).trans ((piece3 _ (2 * t.val + 1) 0 (shares1 H t 0) (x 3)).trans
      (shareAt_eq (by omega) (by show 0 = (y 1).val; omega) k3.symm))
  · have x0 : (x 0).val < 1 := (x 0).isLt
    have x1 : (x 1).val < 1 := (x 1).isLt
    have k0 : (y 0).val = 0 + (x 0).val := (congrArg (fun z : S2x2x1x1024.Idx => (z 0).val) h).symm.trans
      ((Rect.emb_apply _ x 0).trans (by show 0 + 0 + 1 * (x 0).val = _; omega))
    have k1 : (y 1).val = 1 + (x 1).val := (congrArg (fun z : S2x2x1x1024.Idx => (z 1).val) h).symm.trans
      ((Rect.emb_apply _ x 1).trans (by show 0 + 1 + 1 * (x 1).val = _; omega))
    have k3 : (y 3).val = (x 3).val := (congrArg (fun z : S2x2x1x1024.Idx => (z 3).val) h).symm.trans
      ((Rect.emb_apply _ x 3).trans (by show 0 + 0 + 1 * (x 3).val = _; omega))
    refine (Rect.payAlong_consLift (Rect.unit (s := S2x1x1024) ![1, 0, 0] ![1, 1, 1024] inb_S2x1x1024_S1x1x1024_1_0_0) ![1, 2, 1, 1024] rfl
      (fun i => by fin_cases i <;> rfl) _ _ x (ix3 (0 : Fin 1) (0 : Fin 1) (x 3)) (fun i => by fin_cases i <;> first | rfl | simp)).trans ?_
    exact (congrFun (pay0_s1 (grid0.coords t) (part0 m c M t) (sinkOf m c t 1)) _).trans ((piece3 _ (2 * t.val + 0) 1 (shares0 H t 1) (x 3)).trans
      (shareAt_eq (by omega) (by show 1 = (y 1).val; omega) k3.symm))
  · have x0 : (x 0).val < 1 := (x 0).isLt
    have x1 : (x 1).val < 1 := (x 1).isLt
    have k0 : (y 0).val = 0 + (x 0).val := (congrArg (fun z : S2x2x1x1024.Idx => (z 0).val) h).symm.trans
      ((Rect.emb_apply _ x 0).trans (by show 0 + 0 + 1 * (x 0).val = _; omega))
    have k1 : (y 1).val = 0 + (x 1).val := (congrArg (fun z : S2x2x1x1024.Idx => (z 1).val) h).symm.trans
      ((Rect.emb_apply _ x 1).trans (by show 0 + 0 + 1 * (x 1).val = _; omega))
    have k3 : (y 3).val = (x 3).val := (congrArg (fun z : S2x2x1x1024.Idx => (z 3).val) h).symm.trans
      ((Rect.emb_apply _ x 3).trans (by show 0 + 0 + 1 * (x 3).val = _; omega))
    refine (Rect.payAlong_consLift (Rect.unit (s := S2x1x1024) ![0, 0, 0] ![1, 1, 1024] inb_S2x1x1024_S1x1x1024_0_0_0) ![1, 2, 1, 1024] rfl
      (fun i => by fin_cases i <;> rfl) _ _ x (ix3 (0 : Fin 1) (0 : Fin 1) (x 3)) (fun i => by fin_cases i <;> first | rfl | simp)).trans ?_
    exact (congrFun (pay0_s0 (grid0.coords t) (part0 m c M t) (sinkOf m c t 0)) _).trans ((piece3 _ (2 * t.val + 0) 0 (shares0 H t 0) (x 3)).trans
      (shareAt_eq (by omega) (by show 0 = (y 1).val; omega) k3.symm))

end Cert.Kernel4Ideal.Reads
end
-- ==== Proof.MixerArrF.lean ====
/-
  The three arrays of the mixer's forward pass.
-/
module

public import proofs.«01_k».proof.Proof.MixerStepF
public import proofs.«01_k».proof.Proof.MixerStepG

@[expose] public section

set_option maxRecDepth 16384
set_option maxHeartbeats 4000000
set_option backward.proofsInPublic true
noncomputable section
namespace Cert.Kernel4Ideal.Reads
open Idealize.ShloMosaic Idealize.ShloMosaic.TcCoe Idealize.SL.Sem Idealize.ShloMosaic.Pointwise Cert.Reals Cert.MixerMath
open Cert.MixerModel Cert.Kernel4Ideal Cert.Kernel4Ideal.Gen Cert.MixerSoft
open Cert.Kernel3Ideal.Tiles

theorem out_idx (t : Fin cfg0.N) : win0_7.index t = ![t.val, 0] ∧ win0_8.index t = ![t.val, 0, 0, 0] ∧ win0_9.index t = ![t.val, 0, 0, 0] := by
  revert t; decide +kernel

variable {m : (ℓ : Loc nD τ sig) → Buf (Elt Ideal) ℓ} {c : Dev nD} {M : Data} (H : Args m c M)
include H

theorem rows_array : (dats m 0 c).arrAt 7 cfg0.N = fun i : S2048x2048.Idx =>
    ((M.A ((i 0).val / 128) ⟨(i 0).val % 128, Nat.mod_lt _ (by norm_num)⟩ (i 1) : ℝ) : EReal) := by
  refine (dats m 0 c).arrAt_eq_of_covers 7 _ (by decide +kernel) fun t hf y => ?_
  have ht : t.val < 8 := t.isLt
  blk_simp
  rw [after0_7]
  change S256x2048.Idx at y
  have hy : (y 0).val < 256 := (y 0).isLt
  rw [rows_step H t (fun i k => ((M.A (2 * t.val + i.val / 128) ⟨i.val % 128, Nat.mod_lt _ (by norm_num)⟩ k : ℝ) : EReal))
    (fun i k => by
      have e1 : i.val / 128 = 0 := by omega
      have e2 : i.val % 128 = i.val := by omega
      simp only [e1, e2])
    (fun i k => by
      have e1 : (128 + i.val) / 128 = 1 := by omega
      have e2 : (128 + i.val) % 128 = i.val := by omega
      simp only [e1, e2])]
  have j0 : win0_7.index t 0 = t.val := congrFun (out_idx t).1 0
  have j1 : win0_7.index t 1 = 0 := congrFun (out_idx t).1 1
  have e1 : (t.val * 256 + (y 0).val) / 128 = 2 * t.val + (y 0).val / 128 := by omega
  have e2 : (t.val * 256 + (y 0).val) % 128 = (y 0).val % 128 := by omega
  simp only [j0, e1, e2]
  exact congrArg (fun k => ((M.A _ _ k : ℝ) : EReal)) (Fin.ext (by show (y 1).val = win0_7.index t 1 * 2048 + 1 * (y 1).val; rw [j1]; omega))

theorem probs_array : (dats m 0 c).arrAt 8 cfg0.N = fun i : S16x2x256x1024.Idx => probAt M (i 0).val (i 1) (i 2) (i 3) := by
  refine (dats m 0 c).arrAt_eq_of_covers 8 _ (by decide +kernel) fun t hf y => ?_
  blk_simp
  rw [after0_8]
  change S2x2x256x1024.Idx at y
  rw [probs_step H t]
  have j0 : win0_8.index t 0 = t.val := congrFun (out_idx t).2.1 0
  have j1 : win0_8.index t 1 = 0 := congrFun (out_idx t).2.1 1
  have j2 : win0_8.index t 2 = 0 := congrFun (out_idx t).2.1 2
  have j3 : win0_8.index t 3 = 0 := congrFun (out_idx t).2.1 3
  exact probAt_eq (by dsimp only; rw [j0]; omega) (by show (y 1).val = win0_8.index t 1 * 2 + 1 * (y 1).val; rw [j1]; omega) (by show (y 2).val = win0_8.index t 2 * 256 + 1 * (y 2).val; rw [j2]; omega) (by show (y 3).val = win0_8.index t 3 * 1024 + 1 * (y 3).val; rw [j3]; omega)

theorem shares_array : (dats m 0 c).arrAt 9 cfg0.N = fun i : S16x2x1x1024.Idx => shareAt M (i 0).val (i 1) (i 3) := by
  refine (dats m 0 c).arrAt_eq_of_covers 9 _ (by decide +kernel) fun t hf y => ?_
  blk_simp
  rw [after0_9]
  change S2x2x1x1024.Idx at y
  rw [shares_step H t]
  have j0 : win0_9.index t 0 = t.val := congrFun (out_idx t).2.2 0
  have j1 : win0_9.index t 1 = 0 := congrFun (out_idx t).2.2 1
  have j3 : win0_9.index t 3 = 0 := congrFun (out_idx t).2.2 3
  exact shareAt_eq (by dsimp only; rw [j0]; omega) (by show (y 1).val = win0_9.index t 1 * 2 + 1 * (y 1).val; rw [j1]; omega) (by show (y 3).val = win0_9.index t 3 * 1024 + 1 * (y 3).val; rw [j3]; omega)

end Cert.Kernel4Ideal.Reads
end
-- ==== Proof.MixerRefF.lean ====
/-
  The forward lines of the mixer's reference on real numbers: what the saved values are.
-/
module

public import proofs.«01_k».proof.Proof.MixerRefForward
public import proofs.«01_k».proof.Proof.Gen.Reference4Ideal.Read

@[expose] public section

set_option maxRecDepth 65536
set_option maxHeartbeats 4000000
set_option backward.proofsInPublic true
noncomputable section
namespace Cert.Reference4Ideal.Closed
open Idealize.ShloMosaic Idealize.ShloMosaic.TcCoe Idealize.SL.Sem Idealize.ShloMosaic.Pointwise Cert.Reals Cert.MixerMath
open Cert.MixerModel Cert.Reference4Ideal Cert.Reference4Ideal.Read

variable (x0 : FVec Ideal S2048x5376 .f32) (x1 : FVec Ideal S1x16 .f32) (x2 x3 : FVec Ideal S1x1024 .f32)
  (x4 : FVec Ideal S1x8x128x128 .f32) (x5 : FVec Ideal S1x8x128 .f32)

/-- The softmax is the softmax of the backward pass's forward lines. -/
theorem soft_same : val_main_v69 (F := Ideal) x0 x1 = Cert.Reference3Ideal.Read.val_main_v85 (F := Ideal) x0 x1
    ∧ val_main_v72 (F := Ideal) x0 x1 = Cert.Reference3Ideal.Read.val_main_v88 (F := Ideal) x0 x1 := ⟨rfl, rfl⟩

/-- The mixed rows are those of the backward pass's forward lines. -/
theorem rows_same : val_main_v130 (F := Ideal) x0 x1 x2 x3 x4 x5 = Cert.Reference3Ideal.Read.val_main_v264 (F := Ideal) x0 x1 x2 x3 x4 x5 := rfl

variable (M : Data) (h0 : ∀ (i : Fin 2048) (k : Fin 5376), x0 (ix2 i k) = ((M.Z i.val k.val : ℝ) : EReal))
    (h1 : ∀ h : Fin 16, x1 (ix2 0 h) = ((M.sk h.val : ℝ) : EReal))
include h0 h1

theorem all_at (n : Fin 16) (g : Fin 2) (j : Fin 8) (t : Fin 128) (s : Fin 257) : val_main_v73 (F := Ideal) x0 x1 (ix6 0 n g j t s)
    = (((if h : s.val < 256 then M.ex n.val g j t ⟨s.val, h⟩ else M.exs n.val g j t) / M.tot n.val g j t : ℝ) : EReal) := by
  have e : val_main_v73 (F := Ideal) x0 x1 (ix6 0 n g j t s) = Cert.Reference3Ideal.Read.val_main_v89 (F := Ideal) x0 x1 (ix6 0 n g j t s) := by
    unfold val_main_v73
    rw [(soft_same x0 x1).1, (soft_same x0 x1).2]
    rfl
  rw [e]
  pointwise [Cert.Reference3Ideal.Read.val_main_v89, Cert.Reference3Ideal.Read.val_main_v88, Cert.Reference3Ideal.Read.val_main_v87]
  rw [Cert.Reference3Ideal.Closed.ex_at M x0 x1 h0 h1, Cert.Reference3Ideal.Closed.tot_at M x0 x1 h0 h1, coe_div _ (M.tot_pos n.val g j t).ne']

theorem probs_at (n : Fin 16) (g : Fin 2) (k : Fin 256) (l : Fin 1024) : val_main_v133 (F := Ideal) x0 x1 (ix4 n g k l)
    = ((M.P n.val g ⟨l.val / 128, by omega⟩ ⟨l.val % 128, by omega⟩ k : ℝ) : EReal) := by
  pointwise [val_main_v133, val_main_v132, val_main_v127, val_main_v126, val_main_v125]
  rw [all_at x0 x1 M h0 h1, dif_pos k.isLt]
  rfl

theorem shares_at (n : Fin 16) (g : Fin 2) (l : Fin 1024) : val_main_v134 (F := Ideal) x0 x1 (ix4 n g 0 l)
    = ((M.Ps n.val g ⟨l.val / 128, by omega⟩ ⟨l.val % 128, by omega⟩ : ℝ) : EReal) := by
  pointwise [val_main_v134, val_main_v129, val_main_v128]
  rw [all_at x0 x1 M h0 h1, dif_neg (by norm_num)]
  rfl

omit h0 h1 in
theorem rows_at (h0 : ∀ (i : Fin 2048) (k : Fin 5376), x0 (ix2 i k) = ((M.Z i.val k.val : ℝ) : EReal))
    (h1 : ∀ h : Fin 16, x1 (ix2 0 h) = ((M.sk h.val : ℝ) : EReal))
    (h2 : ∀ k : Fin 1024, x2 (ix2 0 k) = ((M.G k : ℝ) : EReal))
    (h3 : ∀ k : Fin 1024, x3 (ix2 0 k) = ((M.B k : ℝ) : EReal))
    (h4 : ∀ (p : Fin 8) (t s : Fin 128), x4 (ix4 0 p t s) = ((M.W p t s : ℝ) : EReal))
    (h5 : ∀ (p : Fin 8) (t : Fin 128), x5 (ix3 0 p t) = ((M.b p t : ℝ) : EReal)) (i k : Fin 2048) :
    val_main_v131 (F := Ideal) x0 x1 x2 x3 x4 x5 (ix2 i k) = ((M.A (i.val / 128) ⟨i.val % 128, by omega⟩ k : ℝ) : EReal) :=
  (congrFun (rows_same x0 x1 x2 x3 x4 x5) (ix2 i k)).trans (Cert.Reference3Ideal.Closed.a_at M x0 x1 x2 x3 x4 x5 h0 h1 h2 h3 h4 h5 i k)

end Cert.Reference4Ideal.Closed
end
-- ==== Proof.MixerFwd.lean ====
module

public import proofs.«01_k».proof.Defs
public import proofs.«01_k».proof.Proof.MixerArrF
public import proofs.«01_k».proof.Proof.MixerRefF
public import proofs.«01_k».proof.Proof.Mixer
public import proofs.«01_k».proof.Proof.Gen.Reference4Ideal.Run
public import proofs.«01_k».proof.Proof.Gen.Pre_finite_inputs4
public import Idealize.ShloMosaic.Lib.Claim

@[expose] public section

set_option maxRecDepth 16384
set_option maxHeartbeats 4000000
set_option backward.proofsInPublic true
noncomputable section
namespace Cert.MixerFwd
open Idealize.ShloMosaic Idealize.ShloMosaic.TcCoe Idealize.SL.Sem Idealize.ShloMosaic.Pointwise Cert.Reals Cert.MixerModel
open Cert.Mixer (whole)

/-- The kernel's three arrays are the reference's three results, on the arguments the two share. -/
theorem results (m : (ℓ : Loc Kernel4Ideal.nD Kernel4Ideal.τ Kernel4Ideal.sig) → Buf (Elt Ideal) ℓ)
    (hpre : Pre_Kernel4Ideal_finite_inputs4 m) (c : Dev Kernel4Ideal.nD)
    (x0 : FVec Ideal Reference4Ideal.S2048x5376 .f32)
    (x1 : FVec Ideal Reference4Ideal.S1x16 .f32)
    (x2 : FVec Ideal Reference4Ideal.S1x1024 .f32)
    (x3 : FVec Ideal Reference4Ideal.S1x1024 .f32)
    (x4 : FVec Ideal Reference4Ideal.S1x8x128x128 .f32)
    (x5 : FVec Ideal Reference4Ideal.S1x8x128 .f32)
    (e0 : m ((c : Thread Kernel4Ideal.nD Kernel4Ideal.τ).loc Kernel4Ideal.main_arg0) = x0)
    (e1 : m ((c : Thread Kernel4Ideal.nD Kernel4Ideal.τ).loc Kernel4Ideal.main_arg1) = x1)
    (e2 : m ((c : Thread Kernel4Ideal.nD Kernel4Ideal.τ).loc Kernel4Ideal.main_arg2) = x2)
    (e3 : m ((c : Thread Kernel4Ideal.nD Kernel4Ideal.τ).loc Kernel4Ideal.main_arg3) = x3)
    (e4 : m ((c : Thread Kernel4Ideal.nD Kernel4Ideal.τ).loc Kernel4Ideal.main_arg4) = x4)
    (e5 : m ((c : Thread Kernel4Ideal.nD Kernel4Ideal.τ).loc Kernel4Ideal.main_arg5) = x5) :
    Reference4Ideal.Read.val_main_v131 (F := Ideal) x0 x1 x2 x3 x4 x5 = (Kernel4Ideal.Gen.dats m 0 c).arrAt 7 Kernel4Ideal.cfg0.N
    ∧ Reference4Ideal.Read.val_main_v133 (F := Ideal) x0 x1 = (Kernel4Ideal.Gen.dats m 0 c).arrAt 8 Kernel4Ideal.cfg0.N
    ∧ Reference4Ideal.Read.val_main_v134 (F := Ideal) x0 x1 = (Kernel4Ideal.Gen.dats m 0 c).arrAt 9 Kernel4Ideal.cfg0.N := by
  obtain ⟨p0, p1, p2, p3, p4, p5⟩ := hpre c
  obtain ⟨r0, q0⟩ := lift_of_olt _ _ lit_inf p0
  obtain ⟨r1, q1⟩ := lift_of_olt _ _ lit_inf p1
  obtain ⟨r2, q2⟩ := lift_of_olt _ _ lit_inf p2
  obtain ⟨r3, q3⟩ := lift_of_olt _ _ lit_inf p3
  obtain ⟨r4, q4⟩ := lift_of_olt _ _ lit_inf p4
  obtain ⟨r5, q5⟩ := lift_of_olt _ _ lit_inf p5
  have a0 := e0.symm.trans q0
  have a1 := e1.symm.trans q1
  have a2 := e2.symm.trans q2
  have a3 := e3.symm.trans q3
  have a4 := e4.symm.trans q4
  have a5 := e5.symm.trans q5
  obtain ⟨Z, hZ⟩ := whole r0
  obtain ⟨sk, hsk⟩ : ∃ f : ℕ → ℝ, ∀ h : Fin 16, f h.val = r1 (ix2 0 h) :=
    ⟨fun a => if h : a < 16 then r1 (ix2 0 ⟨a, h⟩) else 0, fun h => dif_pos h.isLt⟩
  let M : Data :=
    { Z := Z
      DA := fun _ _ => 0
      sk := sk
      G := fun k => r2 (ix2 0 k)
      B := fun k => r3 (ix2 0 k)
      W := fun p t s => r4 (ix4 0 p t s)
      b := fun p t => r5 (ix3 0 p t) }
  have h0 : ∀ (i : Fin 2048) (k : Fin 5376), x0 (ix2 i k) = ((M.Z i.val k.val : ℝ) : EReal) :=
    fun i k => (congrFun a0 _).trans (congrArg Real.toEReal (hZ i k).symm)
  have h1 : ∀ h : Fin 16, x1 (ix2 0 h) = ((M.sk h.val : ℝ) : EReal) :=
    fun h => (congrFun a1 _).trans (congrArg Real.toEReal (hsk h).symm)
  have h2 : ∀ k : Fin 1024, x2 (ix2 0 k) = ((M.G k : ℝ) : EReal) := fun k => congrFun a2 _
  have h3 : ∀ k : Fin 1024, x3 (ix2 0 k) = ((M.B k : ℝ) : EReal) := fun k => congrFun a3 _
  have h4 : ∀ (p : Fin 8) (t s : Fin 128), x4 (ix4 0 p t s) = ((M.W p t s : ℝ) : EReal) := fun p t s => congrFun a4 _
  have h5 : ∀ (p : Fin 8) (t : Fin 128), x5 (ix3 0 p t) = ((M.b p t : ℝ) : EReal) := fun p t => congrFun a5 _
  have H : Kernel4Ideal.Reads.Args m c M :=
    ⟨fun i k => (congrFun e0 _).trans (h0 i k), fun h => (congrFun e1 _).trans (h1 h), fun k => (congrFun e2 _).trans (h2 k),
      fun k => (congrFun e3 _).trans (h3 k), fun p t s => (congrFun e4 _).trans (h4 p t s), fun p t => (congrFun e5 _).trans (h5 p t)⟩
  clear_value M
  refine ⟨?_, ?_, ?_⟩
  · rw [Kernel4Ideal.Reads.rows_array H]
    funext i
    idx_vars i
    exact Reference4Ideal.Closed.rows_at x0 x1 x2 x3 x4 x5 M h0 h1 h2 h3 h4 h5 i0 i1
  · rw [Kernel4Ideal.Reads.probs_array H]
    funext i
    idx_vars i
    exact Reference4Ideal.Closed.probs_at x0 x1 M h0 h1 i0 i1 i2 i3
  · rw [Kernel4Ideal.Reads.shares_array H]
    funext i
    idx_vars i
    obtain rfl : i2 = 0 := Subsingleton.elim _ _
    exact Reference4Ideal.Closed.shares_at x0 x1 M h0 h1 i0 i1 i3

theorem algebraic : Cert.algebraic_Kernel4Ideal_Reference4Ideal_pre_finite_inputs4 := by
  pair_intro
  · run_from Cert.Kernel4Ideal.Value.run_blocks m g
  · run_from Cert.Reference4Ideal.Value.run m' g'
    · refine (Reference4Ideal.Read.val_main_v131_eq m' c).trans ?_
      show Reference4Ideal.Read.val_main_v131 (F := Ideal) (m' ((c : Thread Reference4Ideal.nD Reference4Ideal.τ).loc Reference4Ideal.main_arg0)) (m' ((c : Thread Reference4Ideal.nD Reference4Ideal.τ).loc Reference4Ideal.main_arg1)) (m' ((c : Thread Reference4Ideal.nD Reference4Ideal.τ).loc Reference4Ideal.main_arg2)) (m' ((c : Thread Reference4Ideal.nD Reference4Ideal.τ).loc Reference4Ideal.main_arg3)) (m' ((c : Thread Reference4Ideal.nD Reference4Ideal.τ).loc Reference4Ideal.main_arg4)) (m' ((c : Thread Reference4Ideal.nD Reference4Ideal.τ).loc Reference4Ideal.main_arg5)) = _
      rw [(hagree c).1, (hagree c).2.1, (hagree c).2.2.1, (hagree c).2.2.2.1, (hagree c).2.2.2.2.1, (hagree c).2.2.2.2.2]
      exact (results m hpre c _ _ _ _ _ _ rfl rfl rfl rfl rfl rfl).1
    · refine (Reference4Ideal.Read.val_main_v133_eq m' c).trans ?_
      show Reference4Ideal.Read.val_main_v133 (F := Ideal) (m' ((c : Thread Reference4Ideal.nD Reference4Ideal.τ).loc Reference4Ideal.main_arg0)) (m' ((c : Thread Reference4Ideal.nD Reference4Ideal.τ).loc Reference4Ideal.main_arg1)) = _
      rw [(hagree c).1, (hagree c).2.1]
      exact (results m hpre c _ _ _ _ _ _ rfl rfl rfl rfl rfl rfl).2.1
    · refine (Reference4Ideal.Read.val_main_v134_eq m' c).trans ?_
      show Reference4Ideal.Read.val_main_v134 (F := Ideal) (m' ((c : Thread Reference4Ideal.nD Reference4Ideal.τ).loc Reference4Ideal.main_arg0)) (m' ((c : Thread Reference4Ideal.nD Reference4Ideal.τ).loc Reference4Ideal.main_arg1)) = _
      rw [(hagree c).1, (hagree c).2.1]
      exact (results m hpre c _ _ _ _ _ _ rfl rfl rfl rfl rfl rfl).2.2

end Cert.MixerFwd

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.ZProj
public import proofs.«01_k».proof.Proof.Gen.Kernel2.Frame
public import proofs.«01_k».proof.Proof.Gen.Kernel2Ideal.Frame
public import proofs.«01_k».proof.Proof.Gen.Reference2Ideal.Run
public import proofs.«01_k».proof.Proof.Head
public import proofs.«01_k».proof.Proof.Gen.Kernel3.Frame
public import proofs.«01_k».proof.Proof.Gen.Kernel3Ideal.Frame
public import proofs.«01_k».proof.Proof.Gen.Reference3Ideal.Run
public import proofs.«01_k».proof.Proof.Mixer
public import proofs.«01_k».proof.Proof.Gen.Kernel4.Frame
public import proofs.«01_k».proof.Proof.Gen.Kernel4Ideal.Frame
public import proofs.«01_k».proof.Proof.Gen.Reference4Ideal.Run
public import proofs.«01_k».proof.Proof.MixerFwd
public import Idealize.ShloMosaic.Lib.Claim

@[expose] public section

noncomputable section

namespace Cert.Proof

open Idealize.ShloMosaic Idealize.SL.Sem

/-- The run of Reference ends with its arguments unchanged and every counter at zero. -/
theorem reference1_frame : Cert.quiescent_ReferenceIdeal := by
  intro m ρ _
  exact (θ_run Cert.ReferenceIdeal.defs _ _).mono
    (fun r h => ⟨fun c => (h c).2.2.2.2, sem_eq_zero_of_no_sems (by decide) r.2⟩)
    (Cert.ReferenceIdeal.Value.run m ρ)

/-- The run of Reference2 ends with its arguments unchanged and every counter at zero. -/
theorem reference2_frame : Cert.quiescent_Reference2Ideal := by
  intro m ρ _
  exact (θ_run Cert.Reference2Ideal.defs _ _).mono
    (fun r h => ⟨fun c => (h c).2.2.2.2.2.2, sem_eq_zero_of_no_sems (by decide) r.2⟩)
    (Cert.Reference2Ideal.Value.run m ρ)

/-- The run of Reference3 ends with its arguments unchanged and every counter at zero. -/
theorem reference3_frame : Cert.quiescent_Reference3Ideal := by
  intro m ρ _
  exact (θ_run Cert.Reference3Ideal.defs _ _).mono
    (fun r h => ⟨fun c => (h c).2.2.2.2.2.2.2, sem_eq_zero_of_no_sems (by decide) r.2⟩)
    (Cert.Reference3Ideal.Value.run m ρ)

/-- The run of Reference4 ends with its arguments unchanged and every counter at zero. -/
theorem reference4_frame : Cert.quiescent_Reference4Ideal := by
  intro m ρ _
  exact (θ_run Cert.Reference4Ideal.defs _ _).mono
    (fun r h => ⟨fun c => (h c).2.2.2, sem_eq_zero_of_no_sems (by decide) r.2⟩)
    (Cert.Reference4Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_inputs.Gen.facts, Cert.Pre_finite_inputs2.Gen.facts, Cert.Pre_finite_inputs3.Gen.facts, Cert.Pre_finite_inputs4.Gen.facts,
    fun m ρ _ => Cert.Kernel.Gen.frame m ρ,
    fun m ρ _ => Cert.KernelIdeal.Gen.frame m ρ,
    fun m ρ _ => Cert.KernelIdeal.Gen.frame m ρ,
    reference1_frame,
    fun m ρ _ => reference1_frame m ρ trivial,
    fun m ρ _ => Cert.Kernel2.Gen.frame m ρ,
    fun m ρ _ => Cert.Kernel2Ideal.Gen.frame m ρ,
    fun m ρ _ => Cert.Kernel2Ideal.Gen.frame m ρ,
    reference2_frame,
    fun m ρ _ => reference2_frame m ρ trivial,
    fun m ρ _ => Cert.Kernel3.Gen.frame m ρ,
    fun m ρ _ => Cert.Kernel3Ideal.Gen.frame m ρ,
    fun m ρ _ => Cert.Kernel3Ideal.Gen.frame m ρ,
    reference3_frame,
    fun m ρ _ => reference3_frame m ρ trivial,
    fun m ρ _ => Cert.Kernel4.Gen.frame m ρ,
    fun m ρ _ => Cert.Kernel4Ideal.Gen.frame m ρ,
    fun m ρ _ => Cert.Kernel4Ideal.Gen.frame m ρ,
    reference4_frame,
    fun m ρ _ => reference4_frame m ρ trivial,
    trivial,
    Cert.ZProj.algebraic,
    trivial,
    Cert.Head.algebraic,
    trivial,
    Cert.Mixer.algebraic,
    trivial,
    Cert.MixerFwd.algebraic⟩

end Cert.Proof

end
